-- ==== Defs.lean ====
def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojBwdIdeal_finite [hPre_finite : Cert.Pre_finite.Facts] (m : (ℓ : Loc Cert.InprojBwdIdeal.nD Cert.InprojBwdIdeal.τ Cert.InprojBwdIdeal.sig) → Buf (Elt Ideal) ℓ) : Prop :=
  ∀ c : Dev Cert.InprojBwdIdeal.nD,
    (Cert.Pre_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7))).1 = (fun _ => 1#1)
    ∧ (Cert.Pre_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7))).2.1 = (fun _ => 1#1)
    ∧ (Cert.Pre_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7))).2.2.1 = (fun _ => 1#1)
    ∧ (Cert.Pre_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7))).2.2.2.1 = (fun _ => 1#1)
    ∧ (Cert.Pre_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7))).2.2.2.2.1 = (fun _ => 1#1)
    ∧ (Cert.Pre_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7))).2.2.2.2.2.1 = (fun _ => 1#1)
    ∧ (Cert.Pre_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5)) (m ((c.tc : Thread Cert.InprojBwdIdeal.nD Cert.InprojBwdIdeal.τ).loc Cert.InprojBwdIdeal.main_arg6)) (m ((c.tc : Thread Cert.InprojBwdIdeal.nD Cert.InprojBwdIdeal.τ).loc Cert.InprojBwdIdeal.main_arg7))).2.2.2.2.2.2 = (fun _ => 1#1)

def Pre_InprojBwdRefIdeal (m : (ℓ : Loc Cert.InprojBwdRefIdeal.nD Cert.InprojBwdRefIdeal.τ Cert.InprojBwdRefIdeal.sig) → Buf (Elt Ideal) ℓ) : Prop :=
  True

def Pre_InprojBwdRefIdeal_finite [hPre_finite : Cert.Pre_finite.Facts] (m : (ℓ : Loc Cert.InprojBwdRefIdeal.nD Cert.InprojBwdRefIdeal.τ Cert.InprojBwdRefIdeal.sig) → Buf (Elt Ideal) ℓ) : Prop :=
  ∀ c : Dev Cert.InprojBwdRefIdeal.nD,
    (Cert.Pre_finite.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7))).1 = (fun _ => 1#1)
    ∧ (Cert.Pre_finite.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7))).2.1 = (fun _ => 1#1)
    ∧ (Cert.Pre_finite.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7))).2.2.1 = (fun _ => 1#1)
    ∧ (Cert.Pre_finite.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7))).2.2.2.1 = (fun _ => 1#1)
    ∧ (Cert.Pre_finite.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7))).2.2.2.2.1 = (fun _ => 1#1)
    ∧ (Cert.Pre_finite.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7))).2.2.2.2.2.1 = (fun _ => 1#1)
    ∧ (Cert.Pre_finite.fn (F := Ideal) (m ((c.tc : Thread Cert.InprojBwdRefIdeal.nD Cert.InprojBwdRefIdeal.τ).loc Cert.InprojBwdRefIdeal.main_arg0)) (m ((c.tc : Thread Cert.InprojBwdRefIdeal.nD Cert.InprojBwdRefIdeal.τ).loc Cert.InprojBwdRefIdeal.main_arg1)) (m ((c.tc : Thread Cert.InprojBwdRefIdeal.nD Cert.InprojBwdRefIdeal.τ).loc Cert.InprojBwdRefIdeal.main_arg2)) (m ((c.tc : Thread Cert.InprojBwdRefIdeal.nD Cert.InprojBwdRefIdeal.τ).loc Cert.InprojBwdRefIdeal.main_arg3)) (m ((c.tc : Thread Cert.InprojBwdRefIdeal.nD Cert.InprojBwdRefIdeal.τ).loc Cert.InprojBwdRefIdeal.main_arg4)) (m ((c.tc : Thread Cert.InprojBwdRefIdeal.nD Cert.InprojBwdRefIdeal.τ).loc Cert.InprojBwdRefIdeal.main_arg5)) (m ((c.tc : Thread Cert.InprojBwdRefIdeal.nD Cert.InprojBwdRefIdeal.τ).loc Cert.InprojBwdRefIdeal.main_arg6)) (m ((c.tc : Thread Cert.InprojBwdRefIdeal.nD Cert.InprojBwdRefIdeal.τ).loc Cert.InprojBwdRefIdeal.main_arg7))).2.2.2.2.2.2 = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.1 = (fun _ => 1#1)
    ∧ (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4))).2.2.2.2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_attn [hPre_finite_attn : Cert.Pre_finite_attn.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.1 = (fun _ => 1#1)
    ∧ (Cert.Pre_finite_attn.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3)) (m ((c.tc : Thread Cert.AttnBwdRefIdeal.nD Cert.AttnBwdRefIdeal.τ).loc Cert.AttnBwdRefIdeal.main_arg4))).2.2.2.2 = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.2.1 = (fun _ => 1#1)
    ∧ (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))).2.2.2.2.2.2 = (fun _ => 1#1)

def Pre_FfnBwdRefIdeal (m : (ℓ : Loc Cert.FfnBwdRefIdeal.nD Cert.FfnBwdRefIdeal.τ Cert.FfnBwdRefIdeal.sig) → Buf (Elt Ideal) ℓ) : Prop :=
  True

def Pre_FfnBwdRefIdeal_finite_ffn [hPre_finite_ffn : Cert.Pre_finite_ffn.Facts] (m : (ℓ : Loc Cert.FfnBwdRefIdeal.nD Cert.FfnBwdRefIdeal.τ Cert.FfnBwdRefIdeal.sig) → Buf (Elt Ideal) ℓ) : Prop :=
  ∀ c : Dev Cert.FfnBwdRefIdeal.nD,
    (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.2.2.2.2.1 = (fun _ => 1#1)
    ∧ (Cert.Pre_finite_ffn.fn (F := Ideal) (m ((c.tc : Thread Cert.FfnBwdRefIdeal.nD Cert.FfnBwdRefIdeal.τ).loc Cert.FfnBwdRefIdeal.main_arg0)) (m ((c.tc : Thread Cert.FfnBwdRefIdeal.nD Cert.FfnBwdRefIdeal.τ).loc Cert.FfnBwdRefIdeal.main_arg1)) (m ((c.tc : Thread Cert.FfnBwdRefIdeal.nD Cert.FfnBwdRefIdeal.τ).loc Cert.FfnBwdRefIdeal.main_arg2)) (m ((c.tc : Thread Cert.FfnBwdRefIdeal.nD Cert.FfnBwdRefIdeal.τ).loc Cert.FfnBwdRefIdeal.main_arg3)) (m ((c.tc : Thread Cert.FfnBwdRefIdeal.nD Cert.FfnBwdRefIdeal.τ).loc Cert.FfnBwdRefIdeal.main_arg4)) (m ((c.tc : Thread Cert.FfnBwdRefIdeal.nD Cert.FfnBwdRefIdeal.τ).loc Cert.FfnBwdRefIdeal.main_arg5)) (m ((c.tc : Thread Cert.FfnBwdRefIdeal.nD Cert.FfnBwdRefIdeal.τ).loc Cert.FfnBwdRefIdeal.main_arg6))).2.2.2.2.2.2 = (fun _ => 1#1)

def Pre_PoolBwd (m : (ℓ : Loc Cert.PoolBwd.nD Cert.PoolBwd.τ Cert.PoolBwd.sig) → Buf (Elt Bits) ℓ) : Prop :=
  True

def Pre_PoolBwdIdeal (m : (ℓ : Loc Cert.PoolBwdIdeal.nD Cert.PoolBwdIdeal.τ Cert.PoolBwdIdeal.sig) → Buf (Elt Ideal) ℓ) : Prop :=
  True

def Pre_PoolBwdIdeal_finite_pool [hPre_finite_pool : Cert.Pre_finite_pool.Facts] (m : (ℓ : Loc Cert.PoolBwdIdeal.nD Cert.PoolBwdIdeal.τ Cert.PoolBwdIdeal.sig) → Buf (Elt Ideal) ℓ) : Prop :=
  ∀ c : Dev Cert.PoolBwdIdeal.nD,
    (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4)) (m ((c.tc : Thread Cert.PoolBwdIdeal.nD Cert.PoolBwdIdeal.τ).loc Cert.PoolBwdIdeal.main_arg5)) (m ((c.tc : Thread Cert.PoolBwdIdeal.nD Cert.PoolBwdIdeal.τ).loc Cert.PoolBwdIdeal.main_arg6))).1 = (fun _ => 1#1)
    ∧ (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4)) (m ((c.tc : Thread Cert.PoolBwdIdeal.nD Cert.PoolBwdIdeal.τ).loc Cert.PoolBwdIdeal.main_arg5)) (m ((c.tc : Thread Cert.PoolBwdIdeal.nD Cert.PoolBwdIdeal.τ).loc Cert.PoolBwdIdeal.main_arg6))).2.1 = (fun _ => 1#1)
    ∧ (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4)) (m ((c.tc : Thread Cert.PoolBwdIdeal.nD Cert.PoolBwdIdeal.τ).loc Cert.PoolBwdIdeal.main_arg5)) (m ((c.tc : Thread Cert.PoolBwdIdeal.nD Cert.PoolBwdIdeal.τ).loc Cert.PoolBwdIdeal.main_arg6))).2.2.1 = (fun _ => 1#1)
    ∧ (Cert.Pre_finite_pool.fn (F := Ideal) (m ((c.tc : Thread Cert.PoolBwdIdeal.nD Cert.PoolBwdIdeal.τ).loc Cert.PoolBwdIdeal.main_arg0)) (m ((c.tc : Thread Cert.PoolBwdIdeal.nD Cert.PoolBwdIdeal.τ).loc Cert.PoolBwdIdeal.main_arg1)) (m ((c.tc : Thread Cert.PoolBwdIdeal.nD Cert.PoolBwdIdeal.τ).loc Cert.PoolBwdIdeal.main_arg2)) (m ((c.tc : Thread Cert.PoolBwdIdeal.nD Cert.PoolBwdIdeal.τ).loc Cert.PoolBwdIdeal.main_arg3)) (m ((c.tc : Thread Cert.PoolBwdIdeal.nD Cert.PoolBwdIdeal.τ).loc Cert.PoolBwdIdeal.main_arg4)) (m ((c.tc : Thread Cert.PoolBwdIdeal.nD Cert.PoolBwdIdeal.τ).loc Cert.PoolBwdIdeal.main_arg5)) (m ((c.tc : Thread Cert.PoolBwdIdeal.nD Cert.PoolBwdIdeal.τ).loc Cert.PoolBwdIdeal.main_arg6))).2.2.2 = (fun _ => 1#1)

def Pre_PoolBwdRefIdeal (m : (ℓ : Loc Cert.PoolBwdRefIdeal.nD Cert.PoolBwdRefIdeal.τ Cert.PoolBwdRefIdeal.sig) → Buf (Elt Ideal) ℓ) : Prop :=
  True

def Pre_PoolBwdRefIdeal_finite_pool [hPre_finite_pool : Cert.Pre_finite_pool.Facts] (m : (ℓ : Loc Cert.PoolBwdRefIdeal.nD Cert.PoolBwdRefIdeal.τ Cert.PoolBwdRefIdeal.sig) → Buf (Elt Ideal) ℓ) : Prop :=
  ∀ c : Dev Cert.PoolBwdRefIdeal.nD,
    (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4)) (m ((c.tc : Thread Cert.PoolBwdRefIdeal.nD Cert.PoolBwdRefIdeal.τ).loc Cert.PoolBwdRefIdeal.main_arg5)) (m ((c.tc : Thread Cert.PoolBwdRefIdeal.nD Cert.PoolBwdRefIdeal.τ).loc Cert.PoolBwdRefIdeal.main_arg6))).1 = (fun _ => 1#1)
    ∧ (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4)) (m ((c.tc : Thread Cert.PoolBwdRefIdeal.nD Cert.PoolBwdRefIdeal.τ).loc Cert.PoolBwdRefIdeal.main_arg5)) (m ((c.tc : Thread Cert.PoolBwdRefIdeal.nD Cert.PoolBwdRefIdeal.τ).loc Cert.PoolBwdRefIdeal.main_arg6))).2.1 = (fun _ => 1#1)
    ∧ (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4)) (m ((c.tc : Thread Cert.PoolBwdRefIdeal.nD Cert.PoolBwdRefIdeal.τ).loc Cert.PoolBwdRefIdeal.main_arg5)) (m ((c.tc : Thread Cert.PoolBwdRefIdeal.nD Cert.PoolBwdRefIdeal.τ).loc Cert.PoolBwdRefIdeal.main_arg6))).2.2.1 = (fun _ => 1#1)
    ∧ (Cert.Pre_finite_pool.fn (F := Ideal) (m ((c.tc : Thread Cert.PoolBwdRefIdeal.nD Cert.PoolBwdRefIdeal.τ).loc Cert.PoolBwdRefIdeal.main_arg0)) (m ((c.tc : Thread Cert.PoolBwdRefIdeal.nD Cert.PoolBwdRefIdeal.τ).loc Cert.PoolBwdRefIdeal.main_arg1)) (m ((c.tc : Thread Cert.PoolBwdRefIdeal.nD Cert.PoolBwdRefIdeal.τ).loc Cert.PoolBwdRefIdeal.main_arg2)) (m ((c.tc : Thread Cert.PoolBwdRefIdeal.nD Cert.PoolBwdRefIdeal.τ).loc Cert.PoolBwdRefIdeal.main_arg3)) (m ((c.tc : Thread Cert.PoolBwdRefIdeal.nD Cert.PoolBwdRefIdeal.τ).loc Cert.PoolBwdRefIdeal.main_arg4)) (m ((c.tc : Thread Cert.PoolBwdRefIdeal.nD Cert.PoolBwdRefIdeal.τ).loc Cert.PoolBwdRefIdeal.main_arg5)) (m ((c.tc : Thread Cert.PoolBwdRefIdeal.nD Cert.PoolBwdRefIdeal.τ).loc Cert.PoolBwdRefIdeal.main_arg6))).2.2.2 = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attnfwd [hPre_finite_attnfwd : Cert.Pre_finite_attnfwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attnfwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).1 = (fun _ => 1#1)
    ∧ (Cert.Pre_finite_attnfwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.1 = (fun _ => 1#1)
    ∧ (Cert.Pre_finite_attnfwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attnfwd [hPre_finite_attnfwd : Cert.Pre_finite_attnfwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attnfwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).1 = (fun _ => 1#1)
    ∧ (Cert.Pre_finite_attnfwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.1 = (fun _ => 1#1)
    ∧ (Cert.Pre_finite_attnfwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3))).2.2 = (fun _ => 1#1)

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4)
      ∧ r.2.mem ((c.tc : Thread Cert.InprojBwd.nD Cert.InprojBwd.τ).loc Cert.InprojBwd.main_arg5) = m ((c.tc : Thread Cert.InprojBwd.nD Cert.InprojBwd.τ).loc Cert.InprojBwd.main_arg5)
      ∧ r.2.mem ((c.tc : Thread Cert.InprojBwd.nD Cert.InprojBwd.τ).loc Cert.InprojBwd.main_arg6) = m ((c.tc : Thread Cert.InprojBwd.nD Cert.InprojBwd.τ).loc Cert.InprojBwd.main_arg6)
      ∧ r.2.mem ((c.tc : Thread Cert.InprojBwd.nD Cert.InprojBwd.τ).loc Cert.InprojBwd.main_arg7) = m ((c.tc : Thread Cert.InprojBwd.nD Cert.InprojBwd.τ).loc Cert.InprojBwd.main_arg7))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
      ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
      ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
      ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7))
      ∧ r.2.sem = fun _ => 0)

def quiescent_InprojBwdIdeal_pre_finite [hInprojBwdIdeal : Cert.InprojBwdIdeal.Facts] [hPre_finite : Cert.Pre_finite.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal_finite m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
      ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
      ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
      ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7))
      ∧ r.2.sem = fun _ => 0)

def quiescent_InprojBwdRefIdeal [hInprojBwdRefIdeal : Cert.InprojBwdRefIdeal.Facts] : Prop :=
  ∀ (m : (ℓ : Loc Cert.InprojBwdRefIdeal.nD Cert.InprojBwdRefIdeal.τ Cert.InprojBwdRefIdeal.sig) → Buf (Elt Ideal) ℓ) (g : Dev Cert.InprojBwdRefIdeal.nD → PrngReg), Pre_InprojBwdRefIdeal m →
    θ_run (Cert.InprojBwdRefIdeal.defs (F := Ideal)) (onTc (τ := Cert.InprojBwdRefIdeal.τ) (Cert.InprojBwdRefIdeal.main (F := Ideal))) ⟨m, fun _ => 0, g⟩ (fun r => (∀ c : Dev Cert.InprojBwdRefIdeal.nD,
      r.2.mem ((c.tc : Thread Cert.InprojBwdRefIdeal.nD Cert.InprojBwdRefIdeal.τ).loc Cert.InprojBwdRefIdeal.main_arg0) = m ((c.tc : Thread Cert.InprojBwdRefIdeal.nD Cert.InprojBwdRefIdeal.τ).loc Cert.InprojBwdRefIdeal.main_arg0)
      ∧ r.2.mem ((c.tc : Thread Cert.InprojBwdRefIdeal.nD Cert.InprojBwdRefIdeal.τ).loc Cert.InprojBwdRefIdeal.main_arg1) = m ((c.tc : Thread Cert.InprojBwdRefIdeal.nD Cert.InprojBwdRefIdeal.τ).loc Cert.InprojBwdRefIdeal.main_arg1)
      ∧ r.2.mem ((c.tc : Thread Cert.InprojBwdRefIdeal.nD Cert.InprojBwdRefIdeal.τ).loc Cert.InprojBwdRefIdeal.main_arg2) = m ((c.tc : Thread Cert.InprojBwdRefIdeal.nD Cert.InprojBwdRefIdeal.τ).loc Cert.InprojBwdRefIdeal.main_arg2)
      ∧ r.2.mem ((c.tc : Thread Cert.InprojBwdRefIdeal.nD Cert.InprojBwdRefIdeal.τ).loc Cert.InprojBwdRefIdeal.main_arg3) = m ((c.tc : Thread Cert.InprojBwdRefIdeal.nD Cert.InprojBwdRefIdeal.τ).loc Cert.InprojBwdRefIdeal.main_arg3)
      ∧ r.2.mem ((c.tc : Thread Cert.InprojBwdRefIdeal.nD Cert.InprojBwdRefIdeal.τ).loc Cert.InprojBwdRefIdeal.main_arg4) = m ((c.tc : Thread Cert.InprojBwdRefIdeal.nD Cert.InprojBwdRefIdeal.τ).loc Cert.InprojBwdRefIdeal.main_arg4)
      ∧ r.2.mem ((c.tc : Thread Cert.InprojBwdRefIdeal.nD Cert.InprojBwdRefIdeal.τ).loc Cert.InprojBwdRefIdeal.main_arg5) = m ((c.tc : Thread Cert.InprojBwdRefIdeal.nD Cert.InprojBwdRefIdeal.τ).loc Cert.InprojBwdRefIdeal.main_arg5)
      ∧ r.2.mem ((c.tc : Thread Cert.InprojBwdRefIdeal.nD Cert.InprojBwdRefIdeal.τ).loc Cert.InprojBwdRefIdeal.main_arg6) = m ((c.tc : Thread Cert.InprojBwdRefIdeal.nD Cert.InprojBwdRefIdeal.τ).loc Cert.InprojBwdRefIdeal.main_arg6)
      ∧ r.2.mem ((c.tc : Thread Cert.InprojBwdRefIdeal.nD Cert.InprojBwdRefIdeal.τ).loc Cert.InprojBwdRefIdeal.main_arg7) = m ((c.tc : Thread Cert.InprojBwdRefIdeal.nD Cert.InprojBwdRefIdeal.τ).loc Cert.InprojBwdRefIdeal.main_arg7))
      ∧ r.2.sem = fun _ => 0)

def quiescent_InprojBwdRefIdeal_pre_finite [hInprojBwdRefIdeal : Cert.InprojBwdRefIdeal.Facts] [hPre_finite : Cert.Pre_finite.Facts] : Prop :=
  ∀ (m : (ℓ : Loc Cert.InprojBwdRefIdeal.nD Cert.InprojBwdRefIdeal.τ Cert.InprojBwdRefIdeal.sig) → Buf (Elt Ideal) ℓ) (g : Dev Cert.InprojBwdRefIdeal.nD → PrngReg), Pre_InprojBwdRefIdeal_finite m →
    θ_run (Cert.InprojBwdRefIdeal.defs (F := Ideal)) (onTc (τ := Cert.InprojBwdRefIdeal.τ) (Cert.InprojBwdRefIdeal.main (F := Ideal))) ⟨m, fun _ => 0, g⟩ (fun r => (∀ c : Dev Cert.InprojBwdRefIdeal.nD,
      r.2.mem ((c.tc : Thread Cert.InprojBwdRefIdeal.nD Cert.InprojBwdRefIdeal.τ).loc Cert.InprojBwdRefIdeal.main_arg0) = m ((c.tc : Thread Cert.InprojBwdRefIdeal.nD Cert.InprojBwdRefIdeal.τ).loc Cert.InprojBwdRefIdeal.main_arg0)
      ∧ r.2.mem ((c.tc : Thread Cert.InprojBwdRefIdeal.nD Cert.InprojBwdRefIdeal.τ).loc Cert.InprojBwdRefIdeal.main_arg1) = m ((c.tc : Thread Cert.InprojBwdRefIdeal.nD Cert.InprojBwdRefIdeal.τ).loc Cert.InprojBwdRefIdeal.main_arg1)
      ∧ r.2.mem ((c.tc : Thread Cert.InprojBwdRefIdeal.nD Cert.InprojBwdRefIdeal.τ).loc Cert.InprojBwdRefIdeal.main_arg2) = m ((c.tc : Thread Cert.InprojBwdRefIdeal.nD Cert.InprojBwdRefIdeal.τ).loc Cert.InprojBwdRefIdeal.main_arg2)
      ∧ r.2.mem ((c.tc : Thread Cert.InprojBwdRefIdeal.nD Cert.InprojBwdRefIdeal.τ).loc Cert.InprojBwdRefIdeal.main_arg3) = m ((c.tc : Thread Cert.InprojBwdRefIdeal.nD Cert.InprojBwdRefIdeal.τ).loc Cert.InprojBwdRefIdeal.main_arg3)
      ∧ r.2.mem ((c.tc : Thread Cert.InprojBwdRefIdeal.nD Cert.InprojBwdRefIdeal.τ).loc Cert.InprojBwdRefIdeal.main_arg4) = m ((c.tc : Thread Cert.InprojBwdRefIdeal.nD Cert.InprojBwdRefIdeal.τ).loc Cert.InprojBwdRefIdeal.main_arg4)
      ∧ r.2.mem ((c.tc : Thread Cert.InprojBwdRefIdeal.nD Cert.InprojBwdRefIdeal.τ).loc Cert.InprojBwdRefIdeal.main_arg5) = m ((c.tc : Thread Cert.InprojBwdRefIdeal.nD Cert.InprojBwdRefIdeal.τ).loc Cert.InprojBwdRefIdeal.main_arg5)
      ∧ r.2.mem ((c.tc : Thread Cert.InprojBwdRefIdeal.nD Cert.InprojBwdRefIdeal.τ).loc Cert.InprojBwdRefIdeal.main_arg6) = m ((c.tc : Thread Cert.InprojBwdRefIdeal.nD Cert.InprojBwdRefIdeal.τ).loc Cert.InprojBwdRefIdeal.main_arg6)
      ∧ r.2.mem ((c.tc : Thread Cert.InprojBwdRefIdeal.nD Cert.InprojBwdRefIdeal.τ).loc Cert.InprojBwdRefIdeal.main_arg7) = m ((c.tc : Thread Cert.InprojBwdRefIdeal.nD Cert.InprojBwdRefIdeal.τ).loc Cert.InprojBwdRefIdeal.main_arg7))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_AttnBwdRefIdeal_pre_finite_attn [hAttnBwdRefIdeal : Cert.AttnBwdRefIdeal.Facts] [hPre_finite_attn : Cert.Pre_finite_attn.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_attn m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdRefIdeal [hFfnBwdRefIdeal : Cert.FfnBwdRefIdeal.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6))
      ∧ r.2.sem = fun _ => 0)

def quiescent_FfnBwdRefIdeal_pre_finite_ffn [hFfnBwdRefIdeal : Cert.FfnBwdRefIdeal.Facts] [hPre_finite_ffn : Cert.Pre_finite_ffn.Facts] : Prop :=
  ∀ (m : (ℓ : Loc Cert.FfnBwdRefIdeal.nD Cert.FfnBwdRefIdeal.τ Cert.FfnBwdRefIdeal.sig) → Buf (Elt Ideal) ℓ) (g : Dev Cert.FfnBwdRefIdeal.nD → PrngReg), Pre_FfnBwdRefIdeal_finite_ffn m →
    θ_run (Cert.FfnBwdRefIdeal.defs (F := Ideal)) (onTc (τ := Cert.FfnBwdRefIdeal.τ) (Cert.FfnBwdRefIdeal.main (F := Ideal))) ⟨m, fun _ => 0, g⟩ (fun r => (∀ c : Dev Cert.FfnBwdRefIdeal.nD,
      r.2.mem ((c.tc : Thread Cert.FfnBwdRefIdeal.nD Cert.FfnBwdRefIdeal.τ).loc Cert.FfnBwdRefIdeal.main_arg0) = m ((c.tc : Thread Cert.FfnBwdRefIdeal.nD Cert.FfnBwdRefIdeal.τ).loc Cert.FfnBwdRefIdeal.main_arg0)
      ∧ r.2.mem ((c.tc : Thread Cert.FfnBwdRefIdeal.nD Cert.FfnBwdRefIdeal.τ).loc Cert.FfnBwdRefIdeal.main_arg1) = m ((c.tc : Thread Cert.FfnBwdRefIdeal.nD Cert.FfnBwdRefIdeal.τ).loc Cert.FfnBwdRefIdeal.main_arg1)
      ∧ r.2.mem ((c.tc : Thread Cert.FfnBwdRefIdeal.nD Cert.FfnBwdRefIdeal.τ).loc Cert.FfnBwdRefIdeal.main_arg2) = m ((c.tc : Thread Cert.FfnBwdRefIdeal.nD Cert.FfnBwdRefIdeal.τ).loc Cert.FfnBwdRefIdeal.main_arg2)
      ∧ r.2.mem ((c.tc : Thread Cert.FfnBwdRefIdeal.nD Cert.FfnBwdRefIdeal.τ).loc Cert.FfnBwdRefIdeal.main_arg3) = m ((c.tc : Thread Cert.FfnBwdRefIdeal.nD Cert.FfnBwdRefIdeal.τ).loc Cert.FfnBwdRefIdeal.main_arg3)
      ∧ r.2.mem ((c.tc : Thread Cert.FfnBwdRefIdeal.nD Cert.FfnBwdRefIdeal.τ).loc Cert.FfnBwdRefIdeal.main_arg4) = m ((c.tc : Thread Cert.FfnBwdRefIdeal.nD Cert.FfnBwdRefIdeal.τ).loc Cert.FfnBwdRefIdeal.main_arg4)
      ∧ r.2.mem ((c.tc : Thread Cert.FfnBwdRefIdeal.nD Cert.FfnBwdRefIdeal.τ).loc Cert.FfnBwdRefIdeal.main_arg5) = m ((c.tc : Thread Cert.FfnBwdRefIdeal.nD Cert.FfnBwdRefIdeal.τ).loc Cert.FfnBwdRefIdeal.main_arg5)
      ∧ r.2.mem ((c.tc : Thread Cert.FfnBwdRefIdeal.nD Cert.FfnBwdRefIdeal.τ).loc Cert.FfnBwdRefIdeal.main_arg6) = m ((c.tc : Thread Cert.FfnBwdRefIdeal.nD Cert.FfnBwdRefIdeal.τ).loc Cert.FfnBwdRefIdeal.main_arg6))
      ∧ r.2.sem = fun _ => 0)

def quiescent_PoolBwd [hPoolBwd : Cert.PoolBwd.Facts] : Prop :=
  ∀ (m : (ℓ : Loc Cert.PoolBwd.nD Cert.PoolBwd.τ Cert.PoolBwd.sig) → Buf (Elt Bits) ℓ) (g : Dev Cert.PoolBwd.nD → PrngReg), Pre_PoolBwd m →
    θ_run (Cert.PoolBwd.defs (F := Bits)) (onTc (τ := Cert.PoolBwd.τ) (Cert.PoolBwd.main (F := Bits))) ⟨m, fun _ => 0, g⟩ (fun r => (∀ c : Dev Cert.PoolBwd.nD,
      r.2.mem ((c.tc : Thread Cert.PoolBwd.nD Cert.PoolBwd.τ).loc Cert.PoolBwd.main_arg0) = m ((c.tc : Thread Cert.PoolBwd.nD Cert.PoolBwd.τ).loc Cert.PoolBwd.main_arg0)
      ∧ r.2.mem ((c.tc : Thread Cert.PoolBwd.nD Cert.PoolBwd.τ).loc Cert.PoolBwd.main_arg1) = m ((c.tc : Thread Cert.PoolBwd.nD Cert.PoolBwd.τ).loc Cert.PoolBwd.main_arg1)
      ∧ r.2.mem ((c.tc : Thread Cert.PoolBwd.nD Cert.PoolBwd.τ).loc Cert.PoolBwd.main_arg2) = m ((c.tc : Thread Cert.PoolBwd.nD Cert.PoolBwd.τ).loc Cert.PoolBwd.main_arg2)
      ∧ r.2.mem ((c.tc : Thread Cert.PoolBwd.nD Cert.PoolBwd.τ).loc Cert.PoolBwd.main_arg3) = m ((c.tc : Thread Cert.PoolBwd.nD Cert.PoolBwd.τ).loc Cert.PoolBwd.main_arg3)
      ∧ r.2.mem ((c.tc : Thread Cert.PoolBwd.nD Cert.PoolBwd.τ).loc Cert.PoolBwd.main_arg4) = m ((c.tc : Thread Cert.PoolBwd.nD Cert.PoolBwd.τ).loc Cert.PoolBwd.main_arg4)
      ∧ r.2.mem ((c.tc : Thread Cert.PoolBwd.nD Cert.PoolBwd.τ).loc Cert.PoolBwd.main_arg5) = m ((c.tc : Thread Cert.PoolBwd.nD Cert.PoolBwd.τ).loc Cert.PoolBwd.main_arg5)
      ∧ r.2.mem ((c.tc : Thread Cert.PoolBwd.nD Cert.PoolBwd.τ).loc Cert.PoolBwd.main_arg6) = m ((c.tc : Thread Cert.PoolBwd.nD Cert.PoolBwd.τ).loc Cert.PoolBwd.main_arg6))
      ∧ r.2.sem = fun _ => 0)

def quiescent_PoolBwdIdeal [hPoolBwdIdeal : Cert.PoolBwdIdeal.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
      ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5)
      ∧ r.2.mem ((c.tc : Thread Cert.PoolBwdIdeal.nD Cert.PoolBwdIdeal.τ).loc Cert.PoolBwdIdeal.main_arg6) = m ((c.tc : Thread Cert.PoolBwdIdeal.nD Cert.PoolBwdIdeal.τ).loc Cert.PoolBwdIdeal.main_arg6))
      ∧ r.2.sem = fun _ => 0)

def quiescent_PoolBwdIdeal_pre_finite_pool [hPoolBwdIdeal : Cert.PoolBwdIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg), Pre_PoolBwdIdeal_finite_pool m →
    θ_run (Cert.PoolBwdIdeal.defs (F := Ideal)) (onTc (τ := Cert.PoolBwdIdeal.τ) (Cert.PoolBwdIdeal.main (F := Ideal))) ⟨m, fun _ => 0, g⟩ (fun r => (∀ c : Dev Cert.PoolBwdIdeal.nD,
      r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
      ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
      ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
      ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
      ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
      ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5)
      ∧ r.2.mem ((c.tc : Thread Cert.PoolBwdIdeal.nD Cert.PoolBwdIdeal.τ).loc Cert.PoolBwdIdeal.main_arg6) = m ((c.tc : Thread Cert.PoolBwdIdeal.nD Cert.PoolBwdIdeal.τ).loc Cert.PoolBwdIdeal.main_arg6))
      ∧ r.2.sem = fun _ => 0)

def quiescent_PoolBwdRefIdeal [hPoolBwdRefIdeal : Cert.PoolBwdRefIdeal.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4)
      ∧ r.2.mem ((c.tc : Thread Cert.PoolBwdRefIdeal.nD Cert.PoolBwdRefIdeal.τ).loc Cert.PoolBwdRefIdeal.main_arg5) = m ((c.tc : Thread Cert.PoolBwdRefIdeal.nD Cert.PoolBwdRefIdeal.τ).loc Cert.PoolBwdRefIdeal.main_arg5)
      ∧ r.2.mem ((c.tc : Thread Cert.PoolBwdRefIdeal.nD Cert.PoolBwdRefIdeal.τ).loc Cert.PoolBwdRefIdeal.main_arg6) = m ((c.tc : Thread Cert.PoolBwdRefIdeal.nD Cert.PoolBwdRefIdeal.τ).loc Cert.PoolBwdRefIdeal.main_arg6))
      ∧ r.2.sem = fun _ => 0)

def quiescent_PoolBwdRefIdeal_pre_finite_pool [hPoolBwdRefIdeal : Cert.PoolBwdRefIdeal.Facts] [hPre_finite_pool : Cert.Pre_finite_pool.Facts] : Prop :=
  ∀ (m : (ℓ : Loc Cert.PoolBwdRefIdeal.nD Cert.PoolBwdRefIdeal.τ Cert.PoolBwdRefIdeal.sig) → Buf (Elt Ideal) ℓ) (g : Dev Cert.PoolBwdRefIdeal.nD → PrngReg), Pre_PoolBwdRefIdeal_finite_pool m →
    θ_run (Cert.PoolBwdRefIdeal.defs (F := Ideal)) (onTc (τ := Cert.PoolBwdRefIdeal.τ) (Cert.PoolBwdRefIdeal.main (F := Ideal))) ⟨m, fun _ => 0, g⟩ (fun r => (∀ c : Dev Cert.PoolBwdRefIdeal.nD,
      r.2.mem ((c.tc : Thread Cert.PoolBwdRefIdeal.nD Cert.PoolBwdRefIdeal.τ).loc Cert.PoolBwdRefIdeal.main_arg0) = m ((c.tc : Thread Cert.PoolBwdRefIdeal.nD Cert.PoolBwdRefIdeal.τ).loc Cert.PoolBwdRefIdeal.main_arg0)
      ∧ r.2.mem ((c.tc : Thread Cert.PoolBwdRefIdeal.nD Cert.PoolBwdRefIdeal.τ).loc Cert.PoolBwdRefIdeal.main_arg1) = m ((c.tc : Thread Cert.PoolBwdRefIdeal.nD Cert.PoolBwdRefIdeal.τ).loc Cert.PoolBwdRefIdeal.main_arg1)
      ∧ r.2.mem ((c.tc : Thread Cert.PoolBwdRefIdeal.nD Cert.PoolBwdRefIdeal.τ).loc Cert.PoolBwdRefIdeal.main_arg2) = m ((c.tc : Thread Cert.PoolBwdRefIdeal.nD Cert.PoolBwdRefIdeal.τ).loc Cert.PoolBwdRefIdeal.main_arg2)
      ∧ r.2.mem ((c.tc : Thread Cert.PoolBwdRefIdeal.nD Cert.PoolBwdRefIdeal.τ).loc Cert.PoolBwdRefIdeal.main_arg3) = m ((c.tc : Thread Cert.PoolBwdRefIdeal.nD Cert.PoolBwdRefIdeal.τ).loc Cert.PoolBwdRefIdeal.main_arg3)
      ∧ r.2.mem ((c.tc : Thread Cert.PoolBwdRefIdeal.nD Cert.PoolBwdRefIdeal.τ).loc Cert.PoolBwdRefIdeal.main_arg4) = m ((c.tc : Thread Cert.PoolBwdRefIdeal.nD Cert.PoolBwdRefIdeal.τ).loc Cert.PoolBwdRefIdeal.main_arg4)
      ∧ r.2.mem ((c.tc : Thread Cert.PoolBwdRefIdeal.nD Cert.PoolBwdRefIdeal.τ).loc Cert.PoolBwdRefIdeal.main_arg5) = m ((c.tc : Thread Cert.PoolBwdRefIdeal.nD Cert.PoolBwdRefIdeal.τ).loc Cert.PoolBwdRefIdeal.main_arg5)
      ∧ r.2.mem ((c.tc : Thread Cert.PoolBwdRefIdeal.nD Cert.PoolBwdRefIdeal.τ).loc Cert.PoolBwdRefIdeal.main_arg6) = m ((c.tc : Thread Cert.PoolBwdRefIdeal.nD Cert.PoolBwdRefIdeal.τ).loc Cert.PoolBwdRefIdeal.main_arg6))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdIdeal_pre_finite_attnfwd [hAttnFwdIdeal : Cert.AttnFwdIdeal.Facts] [hPre_finite_attnfwd : Cert.Pre_finite_attnfwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attnfwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def quiescent_AttnFwdRefIdeal_pre_finite_attnfwd [hAttnFwdRefIdeal : Cert.AttnFwdRefIdeal.Facts] [hPre_finite_attnfwd : Cert.Pre_finite_attnfwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attnfwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3))
      ∧ r.2.sem = fun _ => 0)

def preserves_InprojBwd_InprojBwdIdeal : Prop :=
  True

def algebraic_InprojBwdIdeal_InprojBwdRefIdeal_pre_finite [hInprojBwdIdeal : Cert.InprojBwdIdeal.Facts] [hInprojBwdRefIdeal : Cert.InprojBwdRefIdeal.Facts] [hPre_finite : Cert.Pre_finite.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojBwdRefIdeal.nD Cert.InprojBwdRefIdeal.τ Cert.InprojBwdRefIdeal.sig) → Buf (Elt Ideal) ℓ) (g' : Dev Cert.InprojBwdRefIdeal.nD → PrngReg), Pre_InprojBwdIdeal_finite m →
    (∀ c : Dev Cert.InprojBwdIdeal.nD,
      m' ((c.tc : Thread Cert.InprojBwdRefIdeal.nD Cert.InprojBwdRefIdeal.τ).loc Cert.InprojBwdRefIdeal.main_arg0) = m ((c.tc : Thread Cert.InprojBwdIdeal.nD Cert.InprojBwdIdeal.τ).loc Cert.InprojBwdIdeal.main_arg0)
      ∧ m' ((c.tc : Thread Cert.InprojBwdRefIdeal.nD Cert.InprojBwdRefIdeal.τ).loc Cert.InprojBwdRefIdeal.main_arg1) = m ((c.tc : Thread Cert.InprojBwdIdeal.nD Cert.InprojBwdIdeal.τ).loc Cert.InprojBwdIdeal.main_arg1)
      ∧ m' ((c.tc : Thread Cert.InprojBwdRefIdeal.nD Cert.InprojBwdRefIdeal.τ).loc Cert.InprojBwdRefIdeal.main_arg2) = m ((c.tc : Thread Cert.InprojBwdIdeal.nD Cert.InprojBwdIdeal.τ).loc Cert.InprojBwdIdeal.main_arg2)
      ∧ m' ((c.tc : Thread Cert.InprojBwdRefIdeal.nD Cert.InprojBwdRefIdeal.τ).loc Cert.InprojBwdRefIdeal.main_arg3) = m ((c.tc : Thread Cert.InprojBwdIdeal.nD Cert.InprojBwdIdeal.τ).loc Cert.InprojBwdIdeal.main_arg3)
      ∧ m' ((c.tc : Thread Cert.InprojBwdRefIdeal.nD Cert.InprojBwdRefIdeal.τ).loc Cert.InprojBwdRefIdeal.main_arg4) = m ((c.tc : Thread Cert.InprojBwdIdeal.nD Cert.InprojBwdIdeal.τ).loc Cert.InprojBwdIdeal.main_arg4)
      ∧ m' ((c.tc : Thread Cert.InprojBwdRefIdeal.nD Cert.InprojBwdRefIdeal.τ).loc Cert.InprojBwdRefIdeal.main_arg5) = m ((c.tc : Thread Cert.InprojBwdIdeal.nD Cert.InprojBwdIdeal.τ).loc Cert.InprojBwdIdeal.main_arg5)
      ∧ m' ((c.tc : Thread Cert.InprojBwdRefIdeal.nD Cert.InprojBwdRefIdeal.τ).loc Cert.InprojBwdRefIdeal.main_arg6) = m ((c.tc : Thread Cert.InprojBwdIdeal.nD Cert.InprojBwdIdeal.τ).loc Cert.InprojBwdIdeal.main_arg6)
      ∧ m' ((c.tc : Thread Cert.InprojBwdRefIdeal.nD Cert.InprojBwdRefIdeal.τ).loc Cert.InprojBwdRefIdeal.main_arg7) = m ((c.tc : Thread Cert.InprojBwdIdeal.nD Cert.InprojBwdIdeal.τ).loc Cert.InprojBwdIdeal.main_arg7)) →
    ∃ (v0 : (c : Dev Cert.InprojBwdIdeal.nD) → Buf (Elt Ideal) ((c.tc : Thread Cert.InprojBwdIdeal.nD Cert.InprojBwdIdeal.τ).loc Cert.InprojBwdIdeal.main_v57_0)) (v1 : (c : Dev Cert.InprojBwdIdeal.nD) → Buf (Elt Ideal) ((c.tc : Thread Cert.InprojBwdIdeal.nD Cert.InprojBwdIdeal.τ).loc Cert.InprojBwdIdeal.main_v57_1)) (v2 : (c : Dev Cert.InprojBwdIdeal.nD) → Buf (Elt Ideal) ((c.tc : Thread Cert.InprojBwdIdeal.nD Cert.InprojBwdIdeal.τ).loc Cert.InprojBwdIdeal.main_v57_2)) (v3 : (c : Dev Cert.InprojBwdIdeal.nD) → Buf (Elt Ideal) ((c.tc : Thread Cert.InprojBwdIdeal.nD Cert.InprojBwdIdeal.τ).loc Cert.InprojBwdIdeal.main_v57_3)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v57_0) = v0 c
          ∧ r.2.mem ((c.tc : Thread Cert.InprojBwdIdeal.nD Cert.InprojBwdIdeal.τ).loc Cert.InprojBwdIdeal.main_v57_1) = v1 c
          ∧ r.2.mem ((c.tc : Thread Cert.InprojBwdIdeal.nD Cert.InprojBwdIdeal.τ).loc Cert.InprojBwdIdeal.main_v57_2) = v2 c
          ∧ r.2.mem ((c.tc : Thread Cert.InprojBwdIdeal.nD Cert.InprojBwdIdeal.τ).loc Cert.InprojBwdIdeal.main_v57_3) = v3 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
          ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
          ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
          ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7))
      ∧ θ_run (Cert.InprojBwdRefIdeal.defs (F := Ideal)) (onTc (τ := Cert.InprojBwdRefIdeal.τ) (Cert.InprojBwdRefIdeal.main (F := Ideal))) ⟨m', fun _ => 0, g'⟩ (fun r => ∀ c : Dev Cert.InprojBwdRefIdeal.nD,
          r.2.mem ((c.tc : Thread Cert.InprojBwdRefIdeal.nD Cert.InprojBwdRefIdeal.τ).loc Cert.InprojBwdRefIdeal.main_v155) = v0 c
          ∧ r.2.mem ((c.tc : Thread Cert.InprojBwdRefIdeal.nD Cert.InprojBwdRefIdeal.τ).loc Cert.InprojBwdRefIdeal.main_v157) = v1 c
          ∧ r.2.mem ((c.tc : Thread Cert.InprojBwdRefIdeal.nD Cert.InprojBwdRefIdeal.τ).loc Cert.InprojBwdRefIdeal.main_v127) = v2 c
          ∧ r.2.mem ((c.tc : Thread Cert.InprojBwdRefIdeal.nD Cert.InprojBwdRefIdeal.τ).loc Cert.InprojBwdRefIdeal.main_v154) = v3 c
          ∧ r.2.mem ((c.tc : Thread Cert.InprojBwdRefIdeal.nD Cert.InprojBwdRefIdeal.τ).loc Cert.InprojBwdRefIdeal.main_arg0) = m' ((c.tc : Thread Cert.InprojBwdRefIdeal.nD Cert.InprojBwdRefIdeal.τ).loc Cert.InprojBwdRefIdeal.main_arg0)
          ∧ r.2.mem ((c.tc : Thread Cert.InprojBwdRefIdeal.nD Cert.InprojBwdRefIdeal.τ).loc Cert.InprojBwdRefIdeal.main_arg1) = m' ((c.tc : Thread Cert.InprojBwdRefIdeal.nD Cert.InprojBwdRefIdeal.τ).loc Cert.InprojBwdRefIdeal.main_arg1)
          ∧ r.2.mem ((c.tc : Thread Cert.InprojBwdRefIdeal.nD Cert.InprojBwdRefIdeal.τ).loc Cert.InprojBwdRefIdeal.main_arg2) = m' ((c.tc : Thread Cert.InprojBwdRefIdeal.nD Cert.InprojBwdRefIdeal.τ).loc Cert.InprojBwdRefIdeal.main_arg2)
          ∧ r.2.mem ((c.tc : Thread Cert.InprojBwdRefIdeal.nD Cert.InprojBwdRefIdeal.τ).loc Cert.InprojBwdRefIdeal.main_arg3) = m' ((c.tc : Thread Cert.InprojBwdRefIdeal.nD Cert.InprojBwdRefIdeal.τ).loc Cert.InprojBwdRefIdeal.main_arg3)
          ∧ r.2.mem ((c.tc : Thread Cert.InprojBwdRefIdeal.nD Cert.InprojBwdRefIdeal.τ).loc Cert.InprojBwdRefIdeal.main_arg4) = m' ((c.tc : Thread Cert.InprojBwdRefIdeal.nD Cert.InprojBwdRefIdeal.τ).loc Cert.InprojBwdRefIdeal.main_arg4)
          ∧ r.2.mem ((c.tc : Thread Cert.InprojBwdRefIdeal.nD Cert.InprojBwdRefIdeal.τ).loc Cert.InprojBwdRefIdeal.main_arg5) = m' ((c.tc : Thread Cert.InprojBwdRefIdeal.nD Cert.InprojBwdRefIdeal.τ).loc Cert.InprojBwdRefIdeal.main_arg5)
          ∧ r.2.mem ((c.tc : Thread Cert.InprojBwdRefIdeal.nD Cert.InprojBwdRefIdeal.τ).loc Cert.InprojBwdRefIdeal.main_arg6) = m' ((c.tc : Thread Cert.InprojBwdRefIdeal.nD Cert.InprojBwdRefIdeal.τ).loc Cert.InprojBwdRefIdeal.main_arg6)
          ∧ r.2.mem ((c.tc : Thread Cert.InprojBwdRefIdeal.nD Cert.InprojBwdRefIdeal.τ).loc Cert.InprojBwdRefIdeal.main_arg7) = m' ((c.tc : Thread Cert.InprojBwdRefIdeal.nD Cert.InprojBwdRefIdeal.τ).loc Cert.InprojBwdRefIdeal.main_arg7))

def preserves_AttnBwd_AttnBwdIdeal : Prop :=
  True

def algebraic_AttnBwdIdeal_AttnBwdRefIdeal_pre_finite_attn [hAttnBwdIdeal : Cert.AttnBwdIdeal.Facts] [hAttnBwdRefIdeal : Cert.AttnBwdRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_attn m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)
      ∧ m' ((c.tc : Thread Cert.AttnBwdRefIdeal.nD Cert.AttnBwdRefIdeal.τ).loc Cert.AttnBwdRefIdeal.main_arg4) = m ((c.tc : Thread Cert.AttnBwdIdeal.nD Cert.AttnBwdIdeal.τ).loc Cert.AttnBwdIdeal.main_arg4)) →
    ∃ (v0 : (c : Dev Cert.AttnBwdIdeal.nD) → Buf (Elt Ideal) ((c.tc : Thread Cert.AttnBwdIdeal.nD Cert.AttnBwdIdeal.τ).loc Cert.AttnBwdIdeal.main_v92_0)) (v1 : (c : Dev Cert.AttnBwdIdeal.nD) → Buf (Elt Ideal) ((c.tc : Thread Cert.AttnBwdIdeal.nD Cert.AttnBwdIdeal.τ).loc Cert.AttnBwdIdeal.main_v92_1)) (v2 : (c : Dev Cert.AttnBwdIdeal.nD) → Buf (Elt Ideal) ((c.tc : Thread Cert.AttnBwdIdeal.nD Cert.AttnBwdIdeal.τ).loc Cert.AttnBwdIdeal.main_v92_2)) (v3 : (c : Dev Cert.AttnBwdIdeal.nD) → Buf (Elt Ideal) ((c.tc : Thread Cert.AttnBwdIdeal.nD Cert.AttnBwdIdeal.τ).loc Cert.AttnBwdIdeal.main_v92_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v92_0) = v0 c
          ∧ r.2.mem ((c.tc : Thread Cert.AttnBwdIdeal.nD Cert.AttnBwdIdeal.τ).loc Cert.AttnBwdIdeal.main_v92_1) = v1 c
          ∧ r.2.mem ((c.tc : Thread Cert.AttnBwdIdeal.nD Cert.AttnBwdIdeal.τ).loc Cert.AttnBwdIdeal.main_v92_2) = v2 c
          ∧ r.2.mem ((c.tc : Thread Cert.AttnBwdIdeal.nD Cert.AttnBwdIdeal.τ).loc Cert.AttnBwdIdeal.main_v92_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v159) = v0 c
          ∧ r.2.mem ((c.tc : Thread Cert.AttnBwdRefIdeal.nD Cert.AttnBwdRefIdeal.τ).loc Cert.AttnBwdRefIdeal.main_v160) = v1 c
          ∧ r.2.mem ((c.tc : Thread Cert.AttnBwdRefIdeal.nD Cert.AttnBwdRefIdeal.τ).loc Cert.AttnBwdRefIdeal.main_v161) = v2 c
          ∧ r.2.mem ((c.tc : Thread Cert.AttnBwdRefIdeal.nD Cert.AttnBwdRefIdeal.τ).loc Cert.AttnBwdRefIdeal.main_v158) = v3 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3)
          ∧ r.2.mem ((c.tc : Thread Cert.AttnBwdRefIdeal.nD Cert.AttnBwdRefIdeal.τ).loc Cert.AttnBwdRefIdeal.main_arg4) = m' ((c.tc : Thread Cert.AttnBwdRefIdeal.nD Cert.AttnBwdRefIdeal.τ).loc Cert.AttnBwdRefIdeal.main_arg4))

def preserves_FfnBwd_FfnBwdIdeal : Prop :=
  True

def algebraic_FfnBwdIdeal_FfnBwdRefIdeal_pre_finite_ffn [hFfnBwdIdeal : Cert.FfnBwdIdeal.Facts] [hFfnBwdRefIdeal : Cert.FfnBwdRefIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdRefIdeal.nD Cert.FfnBwdRefIdeal.τ Cert.FfnBwdRefIdeal.sig) → Buf (Elt Ideal) ℓ) (g' : Dev Cert.FfnBwdRefIdeal.nD → PrngReg), Pre_FfnBwdIdeal_finite_ffn m →
    (∀ c : Dev Cert.FfnBwdIdeal.nD,
      m' ((c.tc : Thread Cert.FfnBwdRefIdeal.nD Cert.FfnBwdRefIdeal.τ).loc Cert.FfnBwdRefIdeal.main_arg0) = m ((c.tc : Thread Cert.FfnBwdIdeal.nD Cert.FfnBwdIdeal.τ).loc Cert.FfnBwdIdeal.main_arg0)
      ∧ m' ((c.tc : Thread Cert.FfnBwdRefIdeal.nD Cert.FfnBwdRefIdeal.τ).loc Cert.FfnBwdRefIdeal.main_arg1) = m ((c.tc : Thread Cert.FfnBwdIdeal.nD Cert.FfnBwdIdeal.τ).loc Cert.FfnBwdIdeal.main_arg1)
      ∧ m' ((c.tc : Thread Cert.FfnBwdRefIdeal.nD Cert.FfnBwdRefIdeal.τ).loc Cert.FfnBwdRefIdeal.main_arg2) = m ((c.tc : Thread Cert.FfnBwdIdeal.nD Cert.FfnBwdIdeal.τ).loc Cert.FfnBwdIdeal.main_arg2)
      ∧ m' ((c.tc : Thread Cert.FfnBwdRefIdeal.nD Cert.FfnBwdRefIdeal.τ).loc Cert.FfnBwdRefIdeal.main_arg3) = m ((c.tc : Thread Cert.FfnBwdIdeal.nD Cert.FfnBwdIdeal.τ).loc Cert.FfnBwdIdeal.main_arg3)
      ∧ m' ((c.tc : Thread Cert.FfnBwdRefIdeal.nD Cert.FfnBwdRefIdeal.τ).loc Cert.FfnBwdRefIdeal.main_arg4) = m ((c.tc : Thread Cert.FfnBwdIdeal.nD Cert.FfnBwdIdeal.τ).loc Cert.FfnBwdIdeal.main_arg4)
      ∧ m' ((c.tc : Thread Cert.FfnBwdRefIdeal.nD Cert.FfnBwdRefIdeal.τ).loc Cert.FfnBwdRefIdeal.main_arg5) = m ((c.tc : Thread Cert.FfnBwdIdeal.nD Cert.FfnBwdIdeal.τ).loc Cert.FfnBwdIdeal.main_arg5)
      ∧ m' ((c.tc : Thread Cert.FfnBwdRefIdeal.nD Cert.FfnBwdRefIdeal.τ).loc Cert.FfnBwdRefIdeal.main_arg6) = m ((c.tc : Thread Cert.FfnBwdIdeal.nD Cert.FfnBwdIdeal.τ).loc Cert.FfnBwdIdeal.main_arg6)) →
    ∃ (v0 : (c : Dev Cert.FfnBwdIdeal.nD) → Buf (Elt Ideal) ((c.tc : Thread Cert.FfnBwdIdeal.nD Cert.FfnBwdIdeal.τ).loc Cert.FfnBwdIdeal.main_v32_0)) (v1 : (c : Dev Cert.FfnBwdIdeal.nD) → Buf (Elt Ideal) ((c.tc : Thread Cert.FfnBwdIdeal.nD Cert.FfnBwdIdeal.τ).loc Cert.FfnBwdIdeal.main_v32_1)) (v2 : (c : Dev Cert.FfnBwdIdeal.nD) → Buf (Elt Ideal) ((c.tc : Thread Cert.FfnBwdIdeal.nD Cert.FfnBwdIdeal.τ).loc Cert.FfnBwdIdeal.main_v32_2)) (v3 : (c : Dev Cert.FfnBwdIdeal.nD) → Buf (Elt Ideal) ((c.tc : Thread Cert.FfnBwdIdeal.nD Cert.FfnBwdIdeal.τ).loc Cert.FfnBwdIdeal.main_v32_3)) (v4 : (c : Dev Cert.FfnBwdIdeal.nD) → Buf (Elt Ideal) ((c.tc : Thread Cert.FfnBwdIdeal.nD Cert.FfnBwdIdeal.τ).loc Cert.FfnBwdIdeal.main_v32_4)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v32_0) = v0 c
          ∧ r.2.mem ((c.tc : Thread Cert.FfnBwdIdeal.nD Cert.FfnBwdIdeal.τ).loc Cert.FfnBwdIdeal.main_v32_1) = v1 c
          ∧ r.2.mem ((c.tc : Thread Cert.FfnBwdIdeal.nD Cert.FfnBwdIdeal.τ).loc Cert.FfnBwdIdeal.main_v32_2) = v2 c
          ∧ r.2.mem ((c.tc : Thread Cert.FfnBwdIdeal.nD Cert.FfnBwdIdeal.τ).loc Cert.FfnBwdIdeal.main_v32_3) = v3 c
          ∧ r.2.mem ((c.tc : Thread Cert.FfnBwdIdeal.nD Cert.FfnBwdIdeal.τ).loc Cert.FfnBwdIdeal.main_v32_4) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ θ_run (Cert.FfnBwdRefIdeal.defs (F := Ideal)) (onTc (τ := Cert.FfnBwdRefIdeal.τ) (Cert.FfnBwdRefIdeal.main (F := Ideal))) ⟨m', fun _ => 0, g'⟩ (fun r => ∀ c : Dev Cert.FfnBwdRefIdeal.nD,
          r.2.mem ((c.tc : Thread Cert.FfnBwdRefIdeal.nD Cert.FfnBwdRefIdeal.τ).loc Cert.FfnBwdRefIdeal.main_v65) = v0 c
          ∧ r.2.mem ((c.tc : Thread Cert.FfnBwdRefIdeal.nD Cert.FfnBwdRefIdeal.τ).loc Cert.FfnBwdRefIdeal.main_v66) = v1 c
          ∧ r.2.mem ((c.tc : Thread Cert.FfnBwdRefIdeal.nD Cert.FfnBwdRefIdeal.τ).loc Cert.FfnBwdRefIdeal.main_v70) = v2 c
          ∧ r.2.mem ((c.tc : Thread Cert.FfnBwdRefIdeal.nD Cert.FfnBwdRefIdeal.τ).loc Cert.FfnBwdRefIdeal.main_v72) = v3 c
          ∧ r.2.mem ((c.tc : Thread Cert.FfnBwdRefIdeal.nD Cert.FfnBwdRefIdeal.τ).loc Cert.FfnBwdRefIdeal.main_v74) = v4 c
          ∧ r.2.mem ((c.tc : Thread Cert.FfnBwdRefIdeal.nD Cert.FfnBwdRefIdeal.τ).loc Cert.FfnBwdRefIdeal.main_arg0) = m' ((c.tc : Thread Cert.FfnBwdRefIdeal.nD Cert.FfnBwdRefIdeal.τ).loc Cert.FfnBwdRefIdeal.main_arg0)
          ∧ r.2.mem ((c.tc : Thread Cert.FfnBwdRefIdeal.nD Cert.FfnBwdRefIdeal.τ).loc Cert.FfnBwdRefIdeal.main_arg1) = m' ((c.tc : Thread Cert.FfnBwdRefIdeal.nD Cert.FfnBwdRefIdeal.τ).loc Cert.FfnBwdRefIdeal.main_arg1)
          ∧ r.2.mem ((c.tc : Thread Cert.FfnBwdRefIdeal.nD Cert.FfnBwdRefIdeal.τ).loc Cert.FfnBwdRefIdeal.main_arg2) = m' ((c.tc : Thread Cert.FfnBwdRefIdeal.nD Cert.FfnBwdRefIdeal.τ).loc Cert.FfnBwdRefIdeal.main_arg2)
          ∧ r.2.mem ((c.tc : Thread Cert.FfnBwdRefIdeal.nD Cert.FfnBwdRefIdeal.τ).loc Cert.FfnBwdRefIdeal.main_arg3) = m' ((c.tc : Thread Cert.FfnBwdRefIdeal.nD Cert.FfnBwdRefIdeal.τ).loc Cert.FfnBwdRefIdeal.main_arg3)
          ∧ r.2.mem ((c.tc : Thread Cert.FfnBwdRefIdeal.nD Cert.FfnBwdRefIdeal.τ).loc Cert.FfnBwdRefIdeal.main_arg4) = m' ((c.tc : Thread Cert.FfnBwdRefIdeal.nD Cert.FfnBwdRefIdeal.τ).loc Cert.FfnBwdRefIdeal.main_arg4)
          ∧ r.2.mem ((c.tc : Thread Cert.FfnBwdRefIdeal.nD Cert.FfnBwdRefIdeal.τ).loc Cert.FfnBwdRefIdeal.main_arg5) = m' ((c.tc : Thread Cert.FfnBwdRefIdeal.nD Cert.FfnBwdRefIdeal.τ).loc Cert.FfnBwdRefIdeal.main_arg5)
          ∧ r.2.mem ((c.tc : Thread Cert.FfnBwdRefIdeal.nD Cert.FfnBwdRefIdeal.τ).loc Cert.FfnBwdRefIdeal.main_arg6) = m' ((c.tc : Thread Cert.FfnBwdRefIdeal.nD Cert.FfnBwdRefIdeal.τ).loc Cert.FfnBwdRefIdeal.main_arg6))

def preserves_PoolBwd_PoolBwdIdeal : Prop :=
  True

def algebraic_PoolBwdIdeal_PoolBwdRefIdeal_pre_finite_pool [hPoolBwdIdeal : Cert.PoolBwdIdeal.Facts] [hPoolBwdRefIdeal : Cert.PoolBwdRefIdeal.Facts] [hPre_finite_pool : Cert.Pre_finite_pool.Facts] : Prop :=
  ∀ (m : (ℓ : Loc Cert.PoolBwdIdeal.nD Cert.PoolBwdIdeal.τ Cert.PoolBwdIdeal.sig) → Buf (Elt Ideal) ℓ) (g : Dev Cert.PoolBwdIdeal.nD → PrngReg)
    (m' : (ℓ : Loc Cert.PoolBwdRefIdeal.nD Cert.PoolBwdRefIdeal.τ Cert.PoolBwdRefIdeal.sig) → Buf (Elt Ideal) ℓ) (g' : Dev Cert.PoolBwdRefIdeal.nD → PrngReg), Pre_PoolBwdIdeal_finite_pool m →
    (∀ c : Dev Cert.PoolBwdIdeal.nD,
      m' ((c.tc : Thread Cert.PoolBwdRefIdeal.nD Cert.PoolBwdRefIdeal.τ).loc Cert.PoolBwdRefIdeal.main_arg0) = m ((c.tc : Thread Cert.PoolBwdIdeal.nD Cert.PoolBwdIdeal.τ).loc Cert.PoolBwdIdeal.main_arg0)
      ∧ m' ((c.tc : Thread Cert.PoolBwdRefIdeal.nD Cert.PoolBwdRefIdeal.τ).loc Cert.PoolBwdRefIdeal.main_arg1) = m ((c.tc : Thread Cert.PoolBwdIdeal.nD Cert.PoolBwdIdeal.τ).loc Cert.PoolBwdIdeal.main_arg1)
      ∧ m' ((c.tc : Thread Cert.PoolBwdRefIdeal.nD Cert.PoolBwdRefIdeal.τ).loc Cert.PoolBwdRefIdeal.main_arg2) = m ((c.tc : Thread Cert.PoolBwdIdeal.nD Cert.PoolBwdIdeal.τ).loc Cert.PoolBwdIdeal.main_arg2)
      ∧ m' ((c.tc : Thread Cert.PoolBwdRefIdeal.nD Cert.PoolBwdRefIdeal.τ).loc Cert.PoolBwdRefIdeal.main_arg3) = m ((c.tc : Thread Cert.PoolBwdIdeal.nD Cert.PoolBwdIdeal.τ).loc Cert.PoolBwdIdeal.main_arg3)
      ∧ m' ((c.tc : Thread Cert.PoolBwdRefIdeal.nD Cert.PoolBwdRefIdeal.τ).loc Cert.PoolBwdRefIdeal.main_arg4) = m ((c.tc : Thread Cert.PoolBwdIdeal.nD Cert.PoolBwdIdeal.τ).loc Cert.PoolBwdIdeal.main_arg4)
      ∧ m' ((c.tc : Thread Cert.PoolBwdRefIdeal.nD Cert.PoolBwdRefIdeal.τ).loc Cert.PoolBwdRefIdeal.main_arg5) = m ((c.tc : Thread Cert.PoolBwdIdeal.nD Cert.PoolBwdIdeal.τ).loc Cert.PoolBwdIdeal.main_arg5)
      ∧ m' ((c.tc : Thread Cert.PoolBwdRefIdeal.nD Cert.PoolBwdRefIdeal.τ).loc Cert.PoolBwdRefIdeal.main_arg6) = m ((c.tc : Thread Cert.PoolBwdIdeal.nD Cert.PoolBwdIdeal.τ).loc Cert.PoolBwdIdeal.main_arg6)) →
    ∃ (v0 : (c : Dev Cert.PoolBwdIdeal.nD) → Buf (Elt Ideal) ((c.tc : Thread Cert.PoolBwdIdeal.nD Cert.PoolBwdIdeal.τ).loc Cert.PoolBwdIdeal.main_v72_0)) (v1 : (c : Dev Cert.PoolBwdIdeal.nD) → Buf (Elt Ideal) ((c.tc : Thread Cert.PoolBwdIdeal.nD Cert.PoolBwdIdeal.τ).loc Cert.PoolBwdIdeal.main_v72_1)) (v2 : (c : Dev Cert.PoolBwdIdeal.nD) → Buf (Elt Ideal) ((c.tc : Thread Cert.PoolBwdIdeal.nD Cert.PoolBwdIdeal.τ).loc Cert.PoolBwdIdeal.main_v72_2)) (v3 : (c : Dev Cert.PoolBwdIdeal.nD) → Buf (Elt Ideal) ((c.tc : Thread Cert.PoolBwdIdeal.nD Cert.PoolBwdIdeal.τ).loc Cert.PoolBwdIdeal.main_v72_3)) (v4 : (c : Dev Cert.PoolBwdIdeal.nD) → Buf (Elt Ideal) ((c.tc : Thread Cert.PoolBwdIdeal.nD Cert.PoolBwdIdeal.τ).loc Cert.PoolBwdIdeal.main_v72_4)) (v5 : (c : Dev Cert.PoolBwdIdeal.nD) → Buf (Elt Ideal) ((c.tc : Thread Cert.PoolBwdIdeal.nD Cert.PoolBwdIdeal.τ).loc Cert.PoolBwdIdeal.main_v72_5)),
      θ_run (Cert.PoolBwdIdeal.defs (F := Ideal)) (onTc (τ := Cert.PoolBwdIdeal.τ) (Cert.PoolBwdIdeal.main (F := Ideal))) ⟨m, fun _ => 0, g⟩ (fun r => ∀ c : Dev Cert.PoolBwdIdeal.nD,
          r.2.mem ((c.tc : Thread Cert.PoolBwdIdeal.nD Cert.PoolBwdIdeal.τ).loc Cert.PoolBwdIdeal.main_v72_0) = v0 c
          ∧ r.2.mem ((c.tc : Thread Cert.PoolBwdIdeal.nD Cert.PoolBwdIdeal.τ).loc Cert.PoolBwdIdeal.main_v72_1) = v1 c
          ∧ r.2.mem ((c.tc : Thread Cert.PoolBwdIdeal.nD Cert.PoolBwdIdeal.τ).loc Cert.PoolBwdIdeal.main_v72_2) = v2 c
          ∧ r.2.mem ((c.tc : Thread Cert.PoolBwdIdeal.nD Cert.PoolBwdIdeal.τ).loc Cert.PoolBwdIdeal.main_v72_3) = v3 c
          ∧ r.2.mem ((c.tc : Thread Cert.PoolBwdIdeal.nD Cert.PoolBwdIdeal.τ).loc Cert.PoolBwdIdeal.main_v72_4) = v4 c
          ∧ r.2.mem ((c.tc : Thread Cert.PoolBwdIdeal.nD Cert.PoolBwdIdeal.τ).loc Cert.PoolBwdIdeal.main_v72_5) = v5 c
          ∧ r.2.mem ((c.tc : Thread Cert.PoolBwdIdeal.nD Cert.PoolBwdIdeal.τ).loc Cert.PoolBwdIdeal.main_arg0) = m ((c.tc : Thread Cert.PoolBwdIdeal.nD Cert.PoolBwdIdeal.τ).loc Cert.PoolBwdIdeal.main_arg0)
          ∧ r.2.mem ((c.tc : Thread Cert.PoolBwdIdeal.nD Cert.PoolBwdIdeal.τ).loc Cert.PoolBwdIdeal.main_arg1) = m ((c.tc : Thread Cert.PoolBwdIdeal.nD Cert.PoolBwdIdeal.τ).loc Cert.PoolBwdIdeal.main_arg1)
          ∧ r.2.mem ((c.tc : Thread Cert.PoolBwdIdeal.nD Cert.PoolBwdIdeal.τ).loc Cert.PoolBwdIdeal.main_arg2) = m ((c.tc : Thread Cert.PoolBwdIdeal.nD Cert.PoolBwdIdeal.τ).loc Cert.PoolBwdIdeal.main_arg2)
          ∧ r.2.mem ((c.tc : Thread Cert.PoolBwdIdeal.nD Cert.PoolBwdIdeal.τ).loc Cert.PoolBwdIdeal.main_arg3) = m ((c.tc : Thread Cert.PoolBwdIdeal.nD Cert.PoolBwdIdeal.τ).loc Cert.PoolBwdIdeal.main_arg3)
          ∧ r.2.mem ((c.tc : Thread Cert.PoolBwdIdeal.nD Cert.PoolBwdIdeal.τ).loc Cert.PoolBwdIdeal.main_arg4) = m ((c.tc : Thread Cert.PoolBwdIdeal.nD Cert.PoolBwdIdeal.τ).loc Cert.PoolBwdIdeal.main_arg4)
          ∧ r.2.mem ((c.tc : Thread Cert.PoolBwdIdeal.nD Cert.PoolBwdIdeal.τ).loc Cert.PoolBwdIdeal.main_arg5) = m ((c.tc : Thread Cert.PoolBwdIdeal.nD Cert.PoolBwdIdeal.τ).loc Cert.PoolBwdIdeal.main_arg5)
          ∧ r.2.mem ((c.tc : Thread Cert.PoolBwdIdeal.nD Cert.PoolBwdIdeal.τ).loc Cert.PoolBwdIdeal.main_arg6) = m ((c.tc : Thread Cert.PoolBwdIdeal.nD Cert.PoolBwdIdeal.τ).loc Cert.PoolBwdIdeal.main_arg6))
      ∧ θ_run (Cert.PoolBwdRefIdeal.defs (F := Ideal)) (onTc (τ := Cert.PoolBwdRefIdeal.τ) (Cert.PoolBwdRefIdeal.main (F := Ideal))) ⟨m', fun _ => 0, g'⟩ (fun r => ∀ c : Dev Cert.PoolBwdRefIdeal.nD,
          r.2.mem ((c.tc : Thread Cert.PoolBwdRefIdeal.nD Cert.PoolBwdRefIdeal.τ).loc Cert.PoolBwdRefIdeal.main_v102) = v0 c
          ∧ r.2.mem ((c.tc : Thread Cert.PoolBwdRefIdeal.nD Cert.PoolBwdRefIdeal.τ).loc Cert.PoolBwdRefIdeal.main_v104) = v1 c
          ∧ r.2.mem ((c.tc : Thread Cert.PoolBwdRefIdeal.nD Cert.PoolBwdRefIdeal.τ).loc Cert.PoolBwdRefIdeal.main_v105) = v2 c
          ∧ r.2.mem ((c.tc : Thread Cert.PoolBwdRefIdeal.nD Cert.PoolBwdRefIdeal.τ).loc Cert.PoolBwdRefIdeal.main_v106) = v3 c
          ∧ r.2.mem ((c.tc : Thread Cert.PoolBwdRefIdeal.nD Cert.PoolBwdRefIdeal.τ).loc Cert.PoolBwdRefIdeal.main_v107) = v4 c
          ∧ r.2.mem ((c.tc : Thread Cert.PoolBwdRefIdeal.nD Cert.PoolBwdRefIdeal.τ).loc Cert.PoolBwdRefIdeal.main_v108) = v5 c
          ∧ r.2.mem ((c.tc : Thread Cert.PoolBwdRefIdeal.nD Cert.PoolBwdRefIdeal.τ).loc Cert.PoolBwdRefIdeal.main_arg0) = m' ((c.tc : Thread Cert.PoolBwdRefIdeal.nD Cert.PoolBwdRefIdeal.τ).loc Cert.PoolBwdRefIdeal.main_arg0)
          ∧ r.2.mem ((c.tc : Thread Cert.PoolBwdRefIdeal.nD Cert.PoolBwdRefIdeal.τ).loc Cert.PoolBwdRefIdeal.main_arg1) = m' ((c.tc : Thread Cert.PoolBwdRefIdeal.nD Cert.PoolBwdRefIdeal.τ).loc Cert.PoolBwdRefIdeal.main_arg1)
          ∧ r.2.mem ((c.tc : Thread Cert.PoolBwdRefIdeal.nD Cert.PoolBwdRefIdeal.τ).loc Cert.PoolBwdRefIdeal.main_arg2) = m' ((c.tc : Thread Cert.PoolBwdRefIdeal.nD Cert.PoolBwdRefIdeal.τ).loc Cert.PoolBwdRefIdeal.main_arg2)
          ∧ r.2.mem ((c.tc : Thread Cert.PoolBwdRefIdeal.nD Cert.PoolBwdRefIdeal.τ).loc Cert.PoolBwdRefIdeal.main_arg3) = m' ((c.tc : Thread Cert.PoolBwdRefIdeal.nD Cert.PoolBwdRefIdeal.τ).loc Cert.PoolBwdRefIdeal.main_arg3)
          ∧ r.2.mem ((c.tc : Thread Cert.PoolBwdRefIdeal.nD Cert.PoolBwdRefIdeal.τ).loc Cert.PoolBwdRefIdeal.main_arg4) = m' ((c.tc : Thread Cert.PoolBwdRefIdeal.nD Cert.PoolBwdRefIdeal.τ).loc Cert.PoolBwdRefIdeal.main_arg4)
          ∧ r.2.mem ((c.tc : Thread Cert.PoolBwdRefIdeal.nD Cert.PoolBwdRefIdeal.τ).loc Cert.PoolBwdRefIdeal.main_arg5) = m' ((c.tc : Thread Cert.PoolBwdRefIdeal.nD Cert.PoolBwdRefIdeal.τ).loc Cert.PoolBwdRefIdeal.main_arg5)
          ∧ r.2.mem ((c.tc : Thread Cert.PoolBwdRefIdeal.nD Cert.PoolBwdRefIdeal.τ).loc Cert.PoolBwdRefIdeal.main_arg6) = m' ((c.tc : Thread Cert.PoolBwdRefIdeal.nD Cert.PoolBwdRefIdeal.τ).loc Cert.PoolBwdRefIdeal.main_arg6))

def preserves_AttnFwd_AttnFwdIdeal : Prop :=
  True

def algebraic_AttnFwdIdeal_AttnFwdRefIdeal_pre_finite_attnfwd [hAttnFwdIdeal : Cert.AttnFwdIdeal.Facts] [hAttnFwdRefIdeal : Cert.AttnFwdRefIdeal.Facts] [hPre_finite_attnfwd : Cert.Pre_finite_attnfwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attnfwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)) →
    ∃ (v0 : (c : Dev Cert.AttnFwdIdeal.nD) → Buf (Elt Ideal) ((c.tc : Thread Cert.AttnFwdIdeal.nD Cert.AttnFwdIdeal.τ).loc Cert.AttnFwdIdeal.main_v28_0)) (v1 : (c : Dev Cert.AttnFwdIdeal.nD) → Buf (Elt Ideal) ((c.tc : Thread Cert.AttnFwdIdeal.nD Cert.AttnFwdIdeal.τ).loc Cert.AttnFwdIdeal.main_v28_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v28_0) = v0 c
          ∧ r.2.mem ((c.tc : Thread Cert.AttnFwdIdeal.nD Cert.AttnFwdIdeal.τ).loc Cert.AttnFwdIdeal.main_v28_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v73) = v0 c
          ∧ r.2.mem ((c.tc : Thread Cert.AttnFwdRefIdeal.nD Cert.AttnFwdRefIdeal.τ).loc Cert.AttnFwdRefIdeal.main_v71) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3))

def Claim : Prop :=
  ∃ (hInprojBwd : Cert.InprojBwd.Facts) (hInprojBwdIdeal : Cert.InprojBwdIdeal.Facts) (hInprojBwdRefIdeal : Cert.InprojBwdRefIdeal.Facts) (hAttnBwd : Cert.AttnBwd.Facts) (hAttnBwdIdeal : Cert.AttnBwdIdeal.Facts) (hAttnBwdRefIdeal : Cert.AttnBwdRefIdeal.Facts) (hFfnBwd : Cert.FfnBwd.Facts) (hFfnBwdIdeal : Cert.FfnBwdIdeal.Facts) (hFfnBwdRefIdeal : Cert.FfnBwdRefIdeal.Facts) (hPoolBwd : Cert.PoolBwd.Facts) (hPoolBwdIdeal : Cert.PoolBwdIdeal.Facts) (hPoolBwdRefIdeal : Cert.PoolBwdRefIdeal.Facts) (hAttnFwd : Cert.AttnFwd.Facts) (hAttnFwdIdeal : Cert.AttnFwdIdeal.Facts) (hAttnFwdRefIdeal : Cert.AttnFwdRefIdeal.Facts) (hPre_finite : Cert.Pre_finite.Facts) (hPre_finite_attn : Cert.Pre_finite_attn.Facts) (hPre_finite_ffn : Cert.Pre_finite_ffn.Facts) (hPre_finite_pool : Cert.Pre_finite_pool.Facts) (hPre_finite_attnfwd : Cert.Pre_finite_attnfwd.Facts),
    quiescent_InprojBwd (hInprojBwd := hInprojBwd)
    ∧ quiescent_InprojBwdIdeal (hInprojBwdIdeal := hInprojBwdIdeal)
    ∧ quiescent_InprojBwdIdeal_pre_finite (hInprojBwdIdeal := hInprojBwdIdeal) (hPre_finite := hPre_finite)
    ∧ quiescent_InprojBwdRefIdeal (hInprojBwdRefIdeal := hInprojBwdRefIdeal)
    ∧ quiescent_InprojBwdRefIdeal_pre_finite (hInprojBwdRefIdeal := hInprojBwdRefIdeal) (hPre_finite := hPre_finite)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnBwdRefIdeal (hAttnBwdRefIdeal := hAttnBwdRefIdeal)
    ∧ quiescent_AttnBwdRefIdeal_pre_finite_attn (hAttnBwdRefIdeal := hAttnBwdRefIdeal) (hPre_finite_attn := hPre_finite_attn)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnBwdRefIdeal (hFfnBwdRefIdeal := hFfnBwdRefIdeal)
    ∧ quiescent_FfnBwdRefIdeal_pre_finite_ffn (hFfnBwdRefIdeal := hFfnBwdRefIdeal) (hPre_finite_ffn := hPre_finite_ffn)
    ∧ quiescent_PoolBwd (hPoolBwd := hPoolBwd)
    ∧ quiescent_PoolBwdIdeal (hPoolBwdIdeal := hPoolBwdIdeal)
    ∧ quiescent_PoolBwdIdeal_pre_finite_pool (hPoolBwdIdeal := hPoolBwdIdeal) (hPre_finite_pool := hPre_finite_pool)
    ∧ quiescent_PoolBwdRefIdeal (hPoolBwdRefIdeal := hPoolBwdRefIdeal)
    ∧ quiescent_PoolBwdRefIdeal_pre_finite_pool (hPoolBwdRefIdeal := hPoolBwdRefIdeal) (hPre_finite_pool := hPre_finite_pool)
    ∧ quiescent_AttnFwd (hAttnFwd := hAttnFwd)
    ∧ quiescent_AttnFwdIdeal (hAttnFwdIdeal := hAttnFwdIdeal)
    ∧ quiescent_AttnFwdIdeal_pre_finite_attnfwd (hAttnFwdIdeal := hAttnFwdIdeal) (hPre_finite_attnfwd := hPre_finite_attnfwd)
    ∧ quiescent_AttnFwdRefIdeal (hAttnFwdRefIdeal := hAttnFwdRefIdeal)
    ∧ quiescent_AttnFwdRefIdeal_pre_finite_attnfwd (hAttnFwdRefIdeal := hAttnFwdRefIdeal) (hPre_finite_attnfwd := hPre_finite_attnfwd)
    ∧ preserves_InprojBwd_InprojBwdIdeal
    ∧ algebraic_InprojBwdIdeal_InprojBwdRefIdeal_pre_finite (hInprojBwdIdeal := hInprojBwdIdeal) (hInprojBwdRefIdeal := hInprojBwdRefIdeal) (hPre_finite := hPre_finite)
    ∧ preserves_AttnBwd_AttnBwdIdeal
    ∧ algebraic_AttnBwdIdeal_AttnBwdRefIdeal_pre_finite_attn (hAttnBwdIdeal := hAttnBwdIdeal) (hAttnBwdRefIdeal := hAttnBwdRefIdeal) (hPre_finite_attn := hPre_finite_attn)
    ∧ preserves_FfnBwd_FfnBwdIdeal
    ∧ algebraic_FfnBwdIdeal_FfnBwdRefIdeal_pre_finite_ffn (hFfnBwdIdeal := hFfnBwdIdeal) (hFfnBwdRefIdeal := hFfnBwdRefIdeal) (hPre_finite_ffn := hPre_finite_ffn)
    ∧ preserves_PoolBwd_PoolBwdIdeal
    ∧ algebraic_PoolBwdIdeal_PoolBwdRefIdeal_pre_finite_pool (hPoolBwdIdeal := hPoolBwdIdeal) (hPoolBwdRefIdeal := hPoolBwdRefIdeal) (hPre_finite_pool := hPre_finite_pool)
    ∧ preserves_AttnFwd_AttnFwdIdeal
    ∧ algebraic_AttnFwdIdeal_AttnFwdRefIdeal_pre_finite_attnfwd (hAttnFwdIdeal := hAttnFwdIdeal) (hAttnFwdRefIdeal := hAttnFwdRefIdeal) (hPre_finite_attnfwd := hPre_finite_attnfwd)
-- ==== Pre_finite.lean ====
abbrev S1x8192x1024 : Shape := ⟨3, ![1, 8192, 1024]⟩
abbrev S1x1024 : Shape := ⟨2, ![1, 1024]⟩
abbrev S1x1024x1280 : Shape := ⟨3, ![1, 1024, 1280]⟩
abbrev S8192x512 : Shape := ⟨2, ![8192, 512]⟩
abbrev S8192x128 : Shape := ⟨2, ![8192, 128]⟩
abbrev S8192x1024 : Shape := ⟨2, ![8192, 1024]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x1280 : S_.BroadcastsInDim S1x1024x1280 (![] : Fin 0 → Fin S1x1024x1280.rank)
  bcast_S_S8192x512 : S_.BroadcastsInDim S8192x512 (![] : Fin 0 → Fin S8192x512.rank)
  bcast_S_S8192x128 : S_.BroadcastsInDim S8192x128 (![] : Fin 0 → Fin S8192x128.rank)
  bitsLt_bf16_f32 : FTy.bits .bf16 < FTy.bits .f32

variable [Facts]

def fn_part1 {F : FTy → Type} [FloatOps F] (main_arg6 : FVec F S8192x512 .bf16) (main_v2 : IVec S1x8192x1024 1) (main_v5 : IVec S1x1024 1) (main_v8 : IVec S1x1024x1280 1) (main_v11 : IVec S8192x512 1) (main_v14 : IVec S8192x128 1) (main_v17 : IVec S8192x128 1) : IVec S1x8192x1024 1 × IVec S1x1024 1 × IVec S1x1024x1280 1 × IVec S8192x512 1 × IVec S8192x128 1 × IVec S8192x128 1 × IVec S8192x512 1 :=
  let main_v18 : FVec F S8192x512 .f32 := (extf .f32 · bitsLt_bf16_f32) main_arg6
  let main_v19 : FVec F S8192x512 .f32 := Host.absf main_v18
  let main_cst_5 : FVec F S_ .f32 := constant S_ .f32 0x7F800000#32
  let main_v20 : FVec F S8192x512 .f32 := broadcastInDim S8192x512 ![] bcast_S_S8192x512 main_cst_5
  let main_v21 : IVec S8192x512 1 := cmpf .olt main_v19 main_v20
  (main_v2, main_v5, main_v8, main_v11, main_v14, main_v17, main_v21)

def fn {F : FTy → Type} [FloatOps F] (main_arg0 : FVec F S1x8192x1024 .f32) (main_arg1 : FVec F S1x1024 .f32) (main_arg2 : FVec F S1x1024x1280 .f32) (main_arg3 : FVec F S8192x512 .f32) (main_arg4 : FVec F S8192x128 .f32) (main_arg5 : FVec F S8192x128 .f32) (main_arg6 : FVec F S8192x512 .bf16) (main_arg7 : FVec F S8192x1024 .f32) : IVec S1x8192x1024 1 × IVec S1x1024 1 × IVec S1x1024x1280 1 × IVec S8192x512 1 × IVec S8192x128 1 × IVec S8192x128 1 × IVec S8192x512 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1280 .f32 := Host.absf main_arg2
  let main_cst_1 : FVec F S_ .f32 := constant S_ .f32 0x7F800000#32
  let main_v7 : FVec F S1x1024x1280 .f32 := broadcastInDim S1x1024x1280 ![] bcast_S_S1x1024x1280 main_cst_1
  let main_v8 : IVec S1x1024x1280 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_v12 : FVec F S8192x128 .f32 := Host.absf main_arg4
  let main_cst_3 : FVec F S_ .f32 := constant S_ .f32 0x7F800000#32
  let main_v13 : FVec F S8192x128 .f32 := broadcastInDim S8192x128 ![] bcast_S_S8192x128 main_cst_3
  let main_v14 : IVec S8192x128 1 := cmpf .olt main_v12 main_v13
  let main_v15 : FVec F S8192x128 .f32 := Host.absf main_arg5
  let main_cst_4 : FVec F S_ .f32 := constant S_ .f32 0x7F800000#32
  let main_v16 : FVec F S8192x128 .f32 := broadcastInDim S8192x128 ![] bcast_S_S8192x128 main_cst_4
  let main_v17 : IVec S8192x128 1 := cmpf .olt main_v15 main_v16
  fn_part1 (F := F) main_arg6 main_v2 main_v5 main_v8 main_v11 main_v14 main_v17
-- ==== Pre_finite_attn.lean ====
abbrev S1x8192x8x64 : Shape := ⟨4, ![1, 8192, 8, 64]⟩
abbrev S1x8192x2x64 : Shape := ⟨4, ![1, 8192, 2, 64]⟩
abbrev S1x8 : Shape := ⟨2, ![1, 8]⟩
abbrev S1x8192x512 : Shape := ⟨3, ![1, 8192, 512]⟩
abbrev S_ : Shape := ⟨0, ![]⟩

class Facts : Prop where
  bcast_S_S1x8192x8x64 : S_.BroadcastsInDim S1x8192x8x64 (![] : Fin 0 → Fin S1x8192x8x64.rank)
  bcast_S_S1x8192x2x64 : S_.BroadcastsInDim S1x8192x2x64 (![] : Fin 0 → Fin S1x8192x2x64.rank)
  bcast_S_S1x8 : S_.BroadcastsInDim S1x8 (![] : Fin 0 → Fin S1x8.rank)
  bcast_S_S1x8192x512 : S_.BroadcastsInDim S1x8192x512 (![] : Fin 0 → Fin S1x8192x512.rank)

variable [Facts]

def fn {F : FTy → Type} [FloatOps F] (main_arg0 : FVec F S1x8192x8x64 .f32) (main_arg1 : FVec F S1x8192x2x64 .f32) (main_arg2 : FVec F S1x8192x2x64 .f32) (main_arg3 : FVec F S1x8 .f32) (main_arg4 : FVec F S1x8192x512 .f32) : IVec S1x8192x8x64 1 × IVec S1x8192x2x64 1 × IVec S1x8192x2x64 1 × IVec S1x8 1 × IVec S1x8192x512 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_v3 : FVec F S1x8192x2x64 .f32 := Host.absf main_arg1
  let main_cst_0 : FVec F S_ .f32 := constant S_ .f32 0x7F800000#32
  let main_v4 : FVec F S1x8192x2x64 .f32 := broadcastInDim S1x8192x2x64 ![] bcast_S_S1x8192x2x64 main_cst_0
  let main_v5 : IVec S1x8192x2x64 1 := cmpf .olt main_v3 main_v4
  let main_v6 : FVec F S1x8192x2x64 .f32 := Host.absf main_arg2
  let main_cst_1 : FVec F S_ .f32 := constant S_ .f32 0x7F800000#32
  let main_v7 : FVec F S1x8192x2x64 .f32 := broadcastInDim S1x8192x2x64 ![] bcast_S_S1x8192x2x64 main_cst_1
  let main_v8 : IVec S1x8192x2x64 1 := cmpf .olt main_v6 main_v7
  let main_v9 : FVec F S1x8 .f32 := Host.absf main_arg3
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_v12 : FVec F S1x8192x512 .f32 := Host.absf main_arg4
  let main_cst_3 : FVec F S_ .f32 := constant S_ .f32 0x7F800000#32
  let main_v13 : FVec F S1x8192x512 .f32 := broadcastInDim S1x8192x512 ![] bcast_S_S1x8192x512 main_cst_3
  let main_v14 : IVec S1x8192x512 1 := cmpf .olt main_v12 main_v13
  (main_v2, main_v5, main_v8, main_v11, main_v14)
-- ==== Pre_finite_attnfwd.lean ====
abbrev S1x8192x8x64 : Shape := ⟨4, ![1, 8192, 8, 64]⟩
abbrev S1x8192x2x64 : Shape := ⟨4, ![1, 8192, 2, 64]⟩
abbrev S1x8 : Shape := ⟨2, ![1, 8]⟩
abbrev S_ : Shape := ⟨0, ![]⟩

class Facts : Prop where
  bcast_S_S1x8192x8x64 : S_.BroadcastsInDim S1x8192x8x64 (![] : Fin 0 → Fin S1x8192x8x64.rank)
  bcast_S_S1x8192x2x64 : S_.BroadcastsInDim S1x8192x2x64 (![] : Fin 0 → Fin S1x8192x2x64.rank)
  bcast_S_S1x8 : S_.BroadcastsInDim S1x8 (![] : Fin 0 → Fin S1x8.rank)

variable [Facts]

def fn {F : FTy → Type} [FloatOps F] (main_arg0 : FVec F S1x8192x8x64 .f32) (main_arg1 : FVec F S1x8192x2x64 .f32) (main_arg2 : FVec F S1x8192x2x64 .f32) (main_arg3 : FVec F S1x8 .f32) : IVec S1x8192x8x64 1 × IVec S1x8192x2x64 1 × IVec S1x8 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_v3 : FVec F S1x8192x2x64 .f32 := Host.absf main_arg1
  let main_cst_0 : FVec F S_ .f32 := constant S_ .f32 0x7F800000#32
  let main_v4 : FVec F S1x8192x2x64 .f32 := broadcastInDim S1x8192x2x64 ![] bcast_S_S1x8192x2x64 main_cst_0
  let main_v5 : IVec S1x8192x2x64 1 := cmpf .olt main_v3 main_v4
  let main_v6 : FVec F S1x8 .f32 := Host.absf main_arg3
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  (main_v2, main_v5, main_v8)
-- ==== Pre_finite_ffn.lean ====
abbrev S8192x1024 : Shape := ⟨2, ![8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn_part1 {F : FTy → Type} [FloatOps F] (main_arg6 : FVec F S8192x1024 .f32) (main_v2 : IVec S8192x1024 1) (main_v5 : IVec S1x1024 1) (main_v8 : IVec S1x1024 1) (main_v11 : IVec S1x1024x2816 1) (main_v14 : IVec S1x1024x2816 1) (main_v17 : IVec S1x2816x1024 1) : IVec S8192x1024 1 × IVec S1x1024 1 × IVec S1x1024 1 × IVec S1x1024x2816 1 × IVec S1x1024x2816 1 × IVec S1x2816x1024 1 × IVec S8192x1024 1 :=
  let main_v18 : FVec F S8192x1024 .f32 := Host.absf main_arg6
  let main_cst_5 : FVec F S_ .f32 := constant S_ .f32 0x7F800000#32
  let main_v19 : FVec F S8192x1024 .f32 := broadcastInDim S8192x1024 ![] bcast_S_S8192x1024 main_cst_5
  let main_v20 : IVec S8192x1024 1 := cmpf .olt main_v18 main_v19
  (main_v2, main_v5, main_v8, main_v11, main_v14, main_v17, main_v20)

def fn {F : FTy → Type} [FloatOps F] (main_arg0 : FVec F S8192x1024 .f32) (main_arg1 : FVec F S1x1024 .f32) (main_arg2 : FVec F S1x1024 .f32) (main_arg3 : FVec F S1x1024x2816 .f32) (main_arg4 : FVec F S1x1024x2816 .f32) (main_arg5 : FVec F S1x2816x1024 .f32) (main_arg6 : FVec F S8192x1024 .f32) : IVec S8192x1024 1 × IVec S1x1024 1 × IVec S1x1024 1 × IVec S1x1024x2816 1 × IVec S1x1024x2816 1 × IVec S1x2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x1024x2816 .f32 := Host.absf main_arg4
  let main_cst_3 : FVec F S_ .f32 := constant S_ .f32 0x7F800000#32
  let main_v13 : FVec F S1x1024x2816 .f32 := broadcastInDim S1x1024x2816 ![] bcast_S_S1x1024x2816 main_cst_3
  let main_v14 : IVec S1x1024x2816 1 := cmpf .olt main_v12 main_v13
  let main_v15 : FVec F S1x2816x1024 .f32 := Host.absf main_arg5
  let main_cst_4 : FVec F S_ .f32 := constant S_ .f32 0x7F800000#32
  let main_v16 : FVec F S1x2816x1024 .f32 := broadcastInDim S1x2816x1024 ![] bcast_S_S1x2816x1024 main_cst_4
  let main_v17 : IVec S1x2816x1024 1 := cmpf .olt main_v15 main_v16
  fn_part1 (F := F) main_arg6 main_v2 main_v5 main_v8 main_v11 main_v14 main_v17
-- ==== Pre_finite_pool.lean ====
abbrev S1x8192x512 : Shape := ⟨3, ![1, 8192, 512]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S8192x1024 : Shape := ⟨2, ![8192, 1024]⟩
abbrev S_ : Shape := ⟨0, ![]⟩

class Facts : Prop where
  bcast_S_S1x4x128x128 : S_.BroadcastsInDim S1x4x128x128 (![] : Fin 0 → Fin S1x4x128x128.rank)
  bcast_S_S1x4x128 : S_.BroadcastsInDim S1x4x128 (![] : Fin 0 → Fin S1x4x128.rank)
  bcast_S_S1x1024x1024 : S_.BroadcastsInDim S1x1024x1024 (![] : Fin 0 → Fin S1x1024x1024.rank)
  bcast_S_S8192x1024 : S_.BroadcastsInDim S8192x1024 (![] : Fin 0 → Fin S8192x1024.rank)

variable [Facts]

def fn {F : FTy → Type} [FloatOps F] (main_arg0 : FVec F S1x8192x512 .f32) (main_arg1 : FVec F S1x8192x512 .f32) (main_arg2 : FVec F S1x4x128x128 .f32) (main_arg3 : FVec F S1x4x128 .f32) (main_arg4 : FVec F S1x4x128 .f32) (main_arg5 : FVec F S1x1024x1024 .f32) (main_arg6 : FVec F S8192x1024 .f32) : IVec S1x4x128x128 1 × IVec S1x4x128 1 × IVec S1x1024x1024 1 × IVec S8192x1024 1 :=
  let main_v0 : FVec F S1x4x128x128 .f32 := Host.absf main_arg2
  let main_cst : FVec F S_ .f32 := constant S_ .f32 0x7F800000#32
  let main_v1 : FVec F S1x4x128x128 .f32 := broadcastInDim S1x4x128x128 ![] bcast_S_S1x4x128x128 main_cst
  let main_v2 : IVec S1x4x128x128 1 := cmpf .olt main_v0 main_v1
  let main_v3 : FVec F S1x4x128 .f32 := Host.absf main_arg4
  let main_cst_0 : FVec F S_ .f32 := constant S_ .f32 0x7F800000#32
  let main_v4 : FVec F S1x4x128 .f32 := broadcastInDim S1x4x128 ![] bcast_S_S1x4x128 main_cst_0
  let main_v5 : IVec S1x4x128 1 := cmpf .olt main_v3 main_v4
  let main_v6 : FVec F S1x1024x1024 .f32 := Host.absf main_arg5
  let main_cst_1 : FVec F S_ .f32 := constant S_ .f32 0x7F800000#32
  let main_v7 : FVec F S1x1024x1024 .f32 := broadcastInDim S1x1024x1024 ![] bcast_S_S1x1024x1024 main_cst_1
  let main_v8 : IVec S1x1024x1024 1 := cmpf .olt main_v6 main_v7
  let main_v9 : FVec F S8192x1024 .f32 := Host.absf main_arg6
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== InprojBwd.lean ====
abbrev S1x8192x1024 : Shape := ⟨3, ![1, 8192, 1024]⟩
abbrev S1x1024 : Shape := ⟨2, ![1, 1024]⟩
abbrev S1x1024x1280 : Shape := ⟨3, ![1, 1024, 1280]⟩
abbrev S8192x512 : Shape := ⟨2, ![8192, 512]⟩
abbrev S8192x128 : Shape := ⟨2, ![8192, 128]⟩
abbrev S8192x1024 : Shape := ⟨2, ![8192, 1024]⟩
abbrev S2 : Shape := ⟨1, ![2]⟩
abbrev S1024x1280 : Shape := ⟨2, ![1024, 1280]⟩
abbrev S1280x1024 : Shape := ⟨2, ![1280, 1024]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S2x32 : Shape := ⟨2, ![2, 32]⟩
abbrev S64 : Shape := ⟨1, ![64]⟩
abbrev S1x64 : Shape := ⟨2, ![1, 64]⟩
abbrev S2x64 : Shape := ⟨2, ![2, 64]⟩
abbrev S512 : Shape := ⟨1, ![512]⟩
abbrev S512x1 : Shape := ⟨2, ![512, 1]⟩
abbrev S1x128 : Shape := ⟨2, ![1, 128]⟩
abbrev S512x128 : Shape := ⟨2, ![512, 128]⟩
abbrev S16 : Shape := ⟨1, ![16]⟩
abbrev S16x1 : Shape := ⟨2, ![16, 1]⟩
abbrev S16x128 : Shape := ⟨2, ![16, 128]⟩
abbrev S1x512x128 : Shape := ⟨3, ![1, 512, 128]⟩
abbrev S4x512x128 : Shape := ⟨3, ![4, 512, 128]⟩
abbrev S16x1x128 : Shape := ⟨3, ![16, 1, 128]⟩
abbrev S16x2x128 : Shape := ⟨3, ![16, 2, 128]⟩
abbrev S1x1280 : Shape := ⟨2, ![1, 1280]⟩
abbrev S512x512 : Shape := ⟨2, ![512, 512]⟩
abbrev S1x2x128 : Shape := ⟨3, ![1, 2, 128]⟩
abbrev S512x1024 : Shape := ⟨2, ![512, 1024]⟩
abbrev S2x128 : Shape := ⟨2, ![2, 128]⟩
abbrev S256x512 : Shape := ⟨2, ![256, 512]⟩
abbrev S256x128 : Shape := ⟨2, ![256, 128]⟩
abbrev S256x1280 : Shape := ⟨2, ![256, 1280]⟩
abbrev S1280 : Shape := ⟨1, ![1280]⟩
abbrev S256x1024 : Shape := ⟨2, ![256, 1024]⟩
abbrev S256 : Shape := ⟨1, ![256]⟩
abbrev S256x1 : Shape := ⟨2, ![256, 1]⟩
abbrev S512x1280 : Shape := ⟨2, ![512, 1280]⟩
abbrev S512x256 : Shape := ⟨2, ![512, 256]⟩
abbrev S1024 : Shape := ⟨1, ![1024]⟩

abbrev nBuf : Space → Nat
  | .hbm => 77
  | .vmem => 22
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x1280, .f32⟩
  | .hbm, ⟨3, _⟩ => ⟨S8192x512, .f32⟩
  | .hbm, ⟨4, _⟩ => ⟨S8192x128, .f32⟩
  | .hbm, ⟨5, _⟩ => ⟨S8192x128, .f32⟩
  | .hbm, ⟨6, _⟩ => ⟨S8192x512, .bf16⟩
  | .hbm, ⟨7, _⟩ => ⟨S8192x1024, .f32⟩
  | .hbm, ⟨8, _⟩ => ⟨S2, .f32⟩
  | .hbm, ⟨9, _⟩ => ⟨S8192x1024, .f32⟩
  | .hbm, ⟨10, _⟩ => ⟨S1024x1280, .f32⟩
  | .hbm, ⟨11, _⟩ => ⟨S1280x1024, .f32⟩
  | .hbm, ⟨12, _⟩ => ⟨S1280x1024, .bf16⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S1x32, .f32⟩
  | .hbm, ⟨30, _⟩ => ⟨S4x32, .f32⟩
  | .hbm, ⟨31, _⟩ => ⟨S128, .f32⟩
  | .hbm, ⟨32, _⟩ => ⟨S2x32, .f32⟩
  | .hbm, ⟨33, _⟩ => ⟨S64, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S512, .f32⟩
  | .hbm, ⟨38, _⟩ => ⟨S512x1, .f32⟩
  | .hbm, ⟨39, _⟩ => ⟨S1x128, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S16x1, .f32⟩
  | .hbm, ⟨51, _⟩ => ⟨S1x128, .f32⟩
  | .hbm, ⟨52, _⟩ => ⟨S16x128, .f32⟩
  | .hbm, ⟨53, _⟩ => ⟨S16x128, .f32⟩
  | .hbm, ⟨54, _⟩ => ⟨S16x128, .f32⟩
  | .hbm, ⟨55, _⟩ => ⟨S512x128, .f32⟩
  | .hbm, ⟨56, _⟩ => ⟨S512x128, .f32⟩
  | .hbm, ⟨57, _⟩ => ⟨S1x128, .f32⟩
  | .hbm, ⟨58, _⟩ => ⟨S512x128, .f32⟩
  | .hbm, ⟨59, _⟩ => ⟨S512x128, .f32⟩
  | .hbm, ⟨60, _⟩ => ⟨S1x128, .f32⟩
  | .hbm, ⟨61, _⟩ => ⟨S512x128, .f32⟩
  | .hbm, ⟨62, _⟩ => ⟨S512x128, .f32⟩
  | .hbm, ⟨63, _⟩ => ⟨S1x512x128, .f32⟩
  | .hbm, ⟨64, _⟩ => ⟨S1x512x128, .f32⟩
  | .hbm, ⟨65, _⟩ => ⟨S1x512x128, .f32⟩
  | .hbm, ⟨66, _⟩ => ⟨S1x512x128, .f32⟩
  | .hbm, ⟨67, _⟩ => ⟨S4x512x128, .f32⟩
  | .hbm, ⟨68, _⟩ => ⟨S16x128, .f32⟩
  | .hbm, ⟨69, _⟩ => ⟨S16x128, .f32⟩
  | .hbm, ⟨70, _⟩ => ⟨S16x1x128, .f32⟩
  | .hbm, ⟨71, _⟩ => ⟨S16x1x128, .f32⟩
  | .hbm, ⟨72, _⟩ => ⟨S16x2x128, .f32⟩
  | .hbm, ⟨73, _⟩ => ⟨S8192x1024, .f32⟩
  | .hbm, ⟨74, _⟩ => ⟨S1280x1024, .f32⟩
  | .hbm, ⟨75, _⟩ => ⟨S1x1280, .f32⟩
  | .hbm, ⟨76, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .bf16⟩
  | .local _ .vmem, ⟨7, _⟩ => ⟨S512x512, .bf16⟩
  | .local _ .vmem, ⟨8, _⟩ => ⟨S4x512x128, .f32⟩
  | .local _ .vmem, ⟨9, _⟩ => ⟨S1x2x128, .f32⟩
  | .local _ .vmem, ⟨10, _⟩ => ⟨S1x2x128, .f32⟩
  | .local _ .vmem, ⟨11, _⟩ => ⟨S1280x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1280x1024, .f32⟩
  | .local _ .vmem, ⟨20, _⟩ => ⟨S1x1280, .f32⟩
  | .local _ .vmem, ⟨21, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57_0 : Ref sig .tc := ⟨.hbm, 73, rfl⟩
abbrev main_v57_1 : Ref sig .tc := ⟨.hbm, 74, rfl⟩
abbrev main_v57_2 : Ref sig .tc := ⟨.hbm, 75, rfl⟩
abbrev main_v57_3 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1280x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InprojBwdRefIdeal.lean ====
abbrev S1x8192x1024 : Shape := ⟨3, ![1, 8192, 1024]⟩
abbrev S1x1024 : Shape := ⟨2, ![1, 1024]⟩
abbrev S1x1024x1280 : Shape := ⟨3, ![1, 1024, 1280]⟩
abbrev S8192x512 : Shape := ⟨2, ![8192, 512]⟩
abbrev S8192x128 : Shape := ⟨2, ![8192, 128]⟩
abbrev S8192x1024 : Shape := ⟨2, ![8192, 1024]⟩
abbrev S_ : Shape := ⟨0, ![]⟩
abbrev S1x1280 : Shape := ⟨2, ![1, 1280]⟩
abbrev S1x8192x8x64 : Shape := ⟨4, ![1, 8192, 8, 64]⟩
abbrev S1x8192x2x64 : Shape := ⟨4, ![1, 8192, 2, 64]⟩
abbrev S1x8192x512 : Shape := ⟨3, ![1, 8192, 512]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x1280 : Shape := ⟨2, ![1024, 1280]⟩
abbrev S1x8192x1280 : Shape := ⟨3, ![1, 8192, 1280]⟩
abbrev S1280 : Shape := ⟨1, ![1280]⟩
abbrev S1x1x1280 : Shape := ⟨3, ![1, 1, 1280]⟩
abbrev S1x8192x128 : Shape := ⟨3, ![1, 8192, 128]⟩
abbrev S1x8192x8x32 : Shape := ⟨4, ![1, 8192, 8, 32]⟩
abbrev S1x8192x1x32 : Shape := ⟨4, ![1, 8192, 1, 32]⟩
abbrev S1x8192x2x32 : Shape := ⟨4, ![1, 8192, 2, 32]⟩
abbrev S1280x1024 : Shape := ⟨2, ![1280, 1024]⟩

abbrev nBuf : Space → Nat
  | .hbm => 187
  | .vmem => 0
  | .smem => 0
  | _ => 0

abbrev hbmTy0_0 (i : Nat) : BufTy := match i % 128 with
  | 0 => ⟨S1x8192x1024, .f32⟩
  | 1 => ⟨S1x1024, .f32⟩
  | 2 => ⟨S1x1024x1280, .f32⟩
  | 3 => ⟨S8192x512, .f32⟩
  | 4 => ⟨S8192x128, .f32⟩
  | 5 => ⟨S8192x128, .f32⟩
  | 6 => ⟨S8192x512, .bf16⟩
  | 7 => ⟨S8192x1024, .f32⟩
  | 8 => ⟨S_, .f32⟩
  | 9 => ⟨S1x1280, .f32⟩
  | 10 => ⟨S1x8192x1024, .f32⟩
  | 11 => ⟨S1x8192x8x64, .f32⟩
  | 12 => ⟨S1x8192x2x64, .f32⟩
  | 13 => ⟨S1x8192x2x64, .f32⟩
  | 14 => ⟨S8192x512, .f32⟩
  | 15 => ⟨S1x8192x512, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S_, .f32⟩
  | 27 => ⟨S32, .f32⟩
  | 28 => ⟨S32, .f32⟩
  | 29 => ⟨S_, .f32⟩
  | 30 => ⟨S32, .f32⟩
  | 31 => ⟨S32, .f32⟩
  | 32 => ⟨S8192, .f32⟩
  | 33 => ⟨S8192x1, .f32⟩
  | 34 => ⟨S1x32, .f32⟩
  | 35 => ⟨S8192x32, .f32⟩
  | 36 => ⟨S8192x32, .f32⟩
  | 37 => ⟨S8192x32, .f32⟩
  | 38 => ⟨S8192x32, .f32⟩
  | 39 => ⟨S8192x32, .f32⟩
  | 40 => ⟨S1024, .f32⟩
  | 41 => ⟨S1x8192x1024, .f32⟩
  | 42 => ⟨S_, .f32⟩
  | 43 => ⟨S1x8192, .f32⟩
  | 44 => ⟨S1x8192x1, .f32⟩
  | 45 => ⟨S_, .f32⟩
  | 46 => ⟨S1x8192x1, .f32⟩
  | 47 => ⟨S1x8192x1, .f32⟩
  | 48 => ⟨S_, .f32⟩
  | 49 => ⟨S1x8192x1, .f32⟩
  | 50 => ⟨S1x8192x1, .f32⟩
  | 51 => ⟨S1x8192x1, .f32⟩
  | 52 => ⟨S1x8192x1, .f32⟩
  | 53 => ⟨S_, .f32⟩
  | 54 => ⟨S1x8192x1, .f32⟩
  | 55 => ⟨S1x8192x1, .f32⟩
  | 56 => ⟨S1x8192x1024, .f32⟩
  | 57 => ⟨S1x8192x1024, .f32⟩
  | 58 => ⟨S1x1x1024, .f32⟩
  | 59 => ⟨S1x8192x1024, .f32⟩
  | 60 => ⟨S1x8192x1024, .f32⟩
  | 61 => ⟨S1024x1280, .f32⟩
  | 62 => ⟨S1x8192x1280, .f32⟩
  | 63 => ⟨S1280, .f32⟩
  | 64 => ⟨S1x1x1280, .f32⟩
  | 65 => ⟨S1x8192x1280, .f32⟩
  | 66 => ⟨S1x8192x1280, .f32⟩
  | 67 => ⟨S1x8192x512, .f32⟩
  | 68 => ⟨S1x8192x8x64, .f32⟩
  | 69 => ⟨S1x8192x128, .f32⟩
  | 70 => ⟨S1x8192x2x64, .f32⟩
  | 71 => ⟨S1x8192x128, .f32⟩
  | 72 => ⟨S1x8192x2x64, .f32⟩
  | 73 => ⟨S1x8192x512, .f32⟩
  | 74 => ⟨S1x8192x8x32, .f32⟩
  | 75 => ⟨S1x8192x8x32, .f32⟩
  | 76 => ⟨S1x8192x1x32, .f32⟩
  | 77 => ⟨S1x8192x1x32, .f32⟩
  | 78 => ⟨S1x8192x8x32, .f32⟩
  | 79 => ⟨S1x8192x8x32, .f32⟩
  | 80 => ⟨S1x8192x8x32, .f32⟩
  | 81 => ⟨S1x8192x8x32, .f32⟩
  | 82 => ⟨S1x8192x8x32, .f32⟩
  | 83 => ⟨S1x8192x8x32, .f32⟩
  | 84 => ⟨S1x8192x8x32, .f32⟩
  | 85 => ⟨S1x8192x8x32, .f32⟩
  | 86 => ⟨S1x8192x8x32, .f32⟩
  | 87 => ⟨S1x8192x8x32, .f32⟩
  | 88 => ⟨S1x8192x8x64, .f32⟩
  | 89 => ⟨S1x8192x2x32, .f32⟩
  | 90 => ⟨S1x8192x2x32, .f32⟩
  | 91 => ⟨S1x8192x1x32, .f32⟩
  | 92 => ⟨S1x8192x1x32, .f32⟩
  | 93 => ⟨S1x8192x2x32, .f32⟩
  | 94 => ⟨S1x8192x2x32, .f32⟩
  | 95 => ⟨S1x8192x2x32, .f32⟩
  | 96 => ⟨S1x8192x2x32, .f32⟩
  | 97 => ⟨S1x8192x2x32, .f32⟩
  | 98 => ⟨S1x8192x2x32, .f32⟩
  | 99 => ⟨S1x8192x2x32, .f32⟩
  | 100 => ⟨S1x8192x2x32, .f32⟩
  | 101 => ⟨S1x8192x2x32, .f32⟩
  | 102 => ⟨S1x8192x2x32, .f32⟩
  | 103 => ⟨S1x8192x2x64, .f32⟩
  | 104 => ⟨S1x8192x2x32, .f32⟩
  | 105 => ⟨S1x8192x2x32, .f32⟩
  | 106 => ⟨S1x8192x2x32, .f32⟩
  | 107 => ⟨S1x8192x2x32, .f32⟩
  | 108 => ⟨S1x8192x2x32, .f32⟩
  | 109 => ⟨S1x8192x2x32, .f32⟩
  | 110 => ⟨S1x8192x2x32, .f32⟩
  | 111 => ⟨S1x8192x2x32, .f32⟩
  | 112 => ⟨S1x8192x2x32, .f32⟩
  | 113 => ⟨S1x8192x2x32, .f32⟩
  | 114 => ⟨S1x8192x2x32, .f32⟩
  | 115 => ⟨S1x8192x2x32, .f32⟩
  | 116 => ⟨S1x8192x2x32, .f32⟩
  | 117 => ⟨S1x8192x2x64, .f32⟩
  | 118 => ⟨S1x8192x8x32, .f32⟩
  | 119 => ⟨S1x8192x8x32, .f32⟩
  | 120 => ⟨S1x8192x8x32, .f32⟩
  | 121 => ⟨S1x8192x8x32, .f32⟩
  | 122 => ⟨S1x8192x8x32, .f32⟩
  | 123 => ⟨S1x8192x8x32, .f32⟩
  | 124 => ⟨S1x8192x8x32, .f32⟩
  | 125 => ⟨S1x8192x8x32, .f32⟩
  | 126 => ⟨S1x8192x8x32, .f32⟩
  | 127 => ⟨S1x8192x8x32, .f32⟩
  | _ => ⟨S1x8192x1024, .f32⟩

abbrev hbmTy0_1 (i : Nat) : BufTy := match i % 128 with
  | 0 => ⟨S1x8192x8x32, .f32⟩
  | 1 => ⟨S1x8192x8x32, .f32⟩
  | 2 => ⟨S1x8192x8x32, .f32⟩
  | 3 => ⟨S1x8192x8x64, .f32⟩
  | 4 => ⟨S_, .f32⟩
  | 5 => ⟨S1x8192x1280, .f32⟩
  | 6 => ⟨S1x8192x128, .f32⟩
  | 7 => ⟨S_, .f32⟩
  | 8 => ⟨S1x8192x1280, .f32⟩
  | 9 => ⟨S1x8192x1280, .f32⟩
  | 10 => ⟨S1x8192x128, .f32⟩
  | 11 => ⟨S_, .f32⟩
  | 12 => ⟨S1x8192x1280, .f32⟩
  | 13 => ⟨S1x8192x1280, .f32⟩
  | 14 => ⟨S1x8192x512, .f32⟩
  | 15 => ⟨S_, .f32⟩
  | 16 => ⟨S1x8192x1280, .f32⟩
  | 17 => ⟨S1x8192x1280, .f32⟩
  | 18 => ⟨S_, .f32⟩
  | 19 => ⟨S1x1280, .f32⟩
  | 20 => ⟨S1x1x1280, .f32⟩
  | 21 => ⟨S_, .f32⟩
  | 22 => ⟨S1280, .f32⟩
  | 23 => ⟨S1x1280, .f32⟩
  | 24 => ⟨S1280x1024, .f32⟩
  | 25 => ⟨S1024x1280, .f32⟩
  | 26 => ⟨S1x8192x1024, .f32⟩
  | 27 => ⟨S1x1024x1280, .f32⟩
  | 28 => ⟨S1x8192x1024, .f32⟩
  | 29 => ⟨S_, .f32⟩
  | 30 => ⟨S1x1024, .f32⟩
  | 31 => ⟨S1x1x1024, .f32⟩
  | 32 => ⟨S1x8192x1024, .f32⟩
  | 33 => ⟨S1x8192x1024, .f32⟩
  | 34 => ⟨S_, .f32⟩
  | 35 => ⟨S1024, .f32⟩
  | 36 => ⟨S1x8192x1024, .f32⟩
  | 37 => ⟨S_, .f32⟩
  | 38 => ⟨S1x8192, .f32⟩
  | 39 => ⟨S1x8192x1, .f32⟩
  | 40 => ⟨S1x8192x1024, .f32⟩
  | 41 => ⟨S1x8192x1024, .f32⟩
  | 42 => ⟨S1x8192x1024, .f32⟩
  | 43 => ⟨S1x8192x1, .f32⟩
  | 44 => ⟨S_, .f32⟩
  | 45 => ⟨S1x8192x1, .f32⟩
  | 46 => ⟨S1x8192x1, .f32⟩
  | 47 => ⟨S_, .f32⟩
  | 48 => ⟨S8192, .f32⟩
  | 49 => ⟨S1x8192, .f32⟩
  | 50 => ⟨S1x8192x1024, .f32⟩
  | 51 => ⟨S1x8192x1024, .f32⟩
  | 52 => ⟨S1x8192x1024, .f32⟩
  | 53 => ⟨S1x8192x1024, .f32⟩
  | 54 => ⟨S1x8192x1024, .f32⟩
  | 55 => ⟨S1x1024, .f32⟩
  | 56 => ⟨S8192x1024, .f32⟩
  | 57 => ⟨S1024x1280, .f32⟩
  | 58 => ⟨S1280x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_cst_9 : Ref sig .tc := ⟨.hbm, 132, rfl⟩
abbrev main_v114 : Ref sig .tc := ⟨.hbm, 133, rfl⟩
abbrev main_v115 : Ref sig .tc := ⟨.hbm, 134, rfl⟩
abbrev main_cst_10 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_cst_11 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_cst_12 : Ref sig .tc := ⟨.hbm, 143, rfl⟩
abbrev main_v122 : Ref sig .tc := ⟨.hbm, 144, rfl⟩
abbrev main_v123 : Ref sig .tc := ⟨.hbm, 145, rfl⟩
abbrev main_cst_13 : Ref sig .tc := ⟨.hbm, 146, rfl⟩
abbrev main_v124 : Ref sig .tc := ⟨.hbm, 147, rfl⟩
abbrev main_v125 : Ref sig .tc := ⟨.hbm, 148, rfl⟩
abbrev main_cst_14 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_cst_15 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_cst_16 : Ref sig .tc := ⟨.hbm, 162, rfl⟩
abbrev main_v137 : Ref sig .tc := ⟨.hbm, 163, rfl⟩
abbrev main_v138 : Ref sig .tc := ⟨.hbm, 164, rfl⟩
abbrev main_cst_17 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_cst_18 : Ref sig .tc := ⟨.hbm, 172, rfl⟩
abbrev main_v145 : Ref sig .tc := ⟨.hbm, 173, rfl⟩
abbrev main_v146 : Ref sig .tc := ⟨.hbm, 174, rfl⟩
abbrev main_cst_19 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩

abbrev nD : Nat := 1
abbrev τ : Topo := Topo.v7x

variable {F : FTy → Type} [FloatOps F]
-- ==== AttnBwd.lean ====
abbrev S1x8192x8x64 : Shape := ⟨4, ![1, 8192, 8, 64]⟩
abbrev S1x8192x2x64 : Shape := ⟨4, ![1, 8192, 2, 64]⟩
abbrev S1x8 : Shape := ⟨2, ![1, 8]⟩
abbrev S1x8192x512 : Shape := ⟨3, ![1, 8192, 512]⟩
abbrev S8 : Shape := ⟨1, ![8]⟩
abbrev S1x64x128x2x4x64 : Shape := ⟨6, ![1, 64, 128, 2, 4, 64]⟩
abbrev S1x64x128x2x64 : Shape := ⟨5, ![1, 64, 128, 2, 64]⟩
abbrev S_ : Shape := ⟨0, ![]⟩
abbrev S1x1x128x2x64 : Shape := ⟨5, ![1, 1, 128, 2, 64]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S64x2x4x128 : Shape := ⟨4, ![64, 2, 4, 128]⟩
abbrev S2x4x64x128 : Shape := ⟨4, ![2, 4, 64, 128]⟩
abbrev S8x8192 : Shape := ⟨2, ![8, 8192]⟩
abbrev S8192x8x64 : Shape := ⟨3, ![8192, 8, 64]⟩
abbrev S8192x512 : Shape := ⟨2, ![8192, 512]⟩
abbrev S8192x64 : Shape := ⟨2, ![8192, 64]⟩
abbrev S1x8192x1x64 : Shape := ⟨4, ![1, 8192, 1, 64]⟩
abbrev S8192x128 : Shape := ⟨2, ![8192, 128]⟩
abbrev S1024x512 : Shape := ⟨2, ![1024, 512]⟩
abbrev S128x512 : Shape := ⟨2, ![128, 512]⟩
abbrev S8x1024 : Shape := ⟨2, ![8, 1024]⟩
abbrev S1024x128 : Shape := ⟨2, ![1024, 128]⟩
abbrev S1152x128 : Shape := ⟨2, ![1152, 128]⟩
abbrev S128x128 : Shape := ⟨2, ![128, 128]⟩
abbrev S512x256 : Shape := ⟨2, ![512, 256]⟩
abbrev S256x128 : Shape := ⟨2, ![256, 128]⟩
abbrev S512x128 : Shape := ⟨2, ![512, 128]⟩
abbrev S1x128 : Shape := ⟨2, ![1, 128]⟩
abbrev S256x256 : Shape := ⟨2, ![256, 256]⟩
abbrev S32x256 : Shape := ⟨2, ![32, 256]⟩
abbrev S16x256 : Shape := ⟨2, ![16, 256]⟩
abbrev S8x256 : Shape := ⟨2, ![8, 256]⟩
abbrev S1x1 : Shape := ⟨2, ![1, 1]⟩
abbrev S1 : Shape := ⟨1, ![1]⟩

abbrev nBuf : Space → Nat
  | .hbm => 118
  | .vmem => 26
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S1x8, .f32⟩
  | .hbm, ⟨4, _⟩ => ⟨S1x8192x512, .f32⟩
  | .hbm, ⟨5, _⟩ => ⟨S8, .f32⟩
  | .hbm, ⟨6, _⟩ => ⟨S1x64x128x2x4x64, .f32⟩
  | .hbm, ⟨7, _⟩ => ⟨S1x64x128x2x64, .f32⟩
  | .hbm, ⟨8, _⟩ => ⟨S_, .f32⟩
  | .hbm, ⟨9, _⟩ => ⟨S1x1x128x2x64, .f32⟩
  | .hbm, ⟨10, _⟩ => ⟨S1x63x128x2x64, .f32⟩
  | .hbm, ⟨11, _⟩ => ⟨S1x64x128x2x64, .f32⟩
  | .hbm, ⟨12, _⟩ => ⟨S1x64x256x2x64, .f32⟩
  | .hbm, ⟨13, _⟩ => ⟨S1x64x2x256x128x4, .f32⟩
  | .hbm, ⟨14, _⟩ => ⟨S1x64x2x4x128x256, .f32⟩
  | .hbm, ⟨15, _⟩ => ⟨S_, .f32⟩
  | .hbm, ⟨16, _⟩ => ⟨S1x64x2x4x128x256, .f32⟩
  | .hbm, ⟨17, _⟩ => ⟨S1x64x2x4x128x256, .f32⟩
  | .hbm, ⟨18, _⟩ => ⟨S128, .i32⟩
  | .hbm, ⟨19, _⟩ => ⟨S128x1, .i32⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S256, .i32⟩
  | .hbm, ⟨24, _⟩ => ⟨S1x256, .i32⟩
  | .hbm, ⟨25, _⟩ => ⟨S128x256, .i32⟩
  | .hbm, ⟨26, _⟩ => ⟨S128x256, .i32⟩
  | .hbm, ⟨27, _⟩ => ⟨S128x256, .i32⟩
  | .hbm, ⟨28, _⟩ => ⟨S_, .i32⟩
  | .hbm, ⟨29, _⟩ => ⟨S128x256, .i32⟩
  | .hbm, ⟨30, _⟩ => ⟨S128x256, .i1⟩
  | .hbm, ⟨31, _⟩ => ⟨S_, .i32⟩
  | .hbm, ⟨32, _⟩ => ⟨S128x256, .i32⟩
  | .hbm, ⟨33, _⟩ => ⟨S128x256, .i1⟩
  | .hbm, ⟨34, _⟩ => ⟨S128x256, .i1⟩
  | .hbm, ⟨35, _⟩ => ⟨S64, .i32⟩
  | .hbm, ⟨36, _⟩ => ⟨S64x1, .i32⟩
  | .hbm, ⟨37, _⟩ => ⟨S_, .i32⟩
  | .hbm, ⟨38, _⟩ => ⟨S64x1, .i32⟩
  | .hbm, ⟨39, _⟩ => ⟨S64x1, .i32⟩
  | .hbm, ⟨40, _⟩ => ⟨S64x256, .i32⟩
  | .hbm, ⟨41, _⟩ => ⟨S64x256, .i32⟩
  | .hbm, ⟨42, _⟩ => ⟨S64x256, .i32⟩
  | .hbm, ⟨43, _⟩ => ⟨S_, .i32⟩
  | .hbm, ⟨44, _⟩ => ⟨S64x256, .i32⟩
  | .hbm, ⟨45, _⟩ => ⟨S64x256, .i32⟩
  | .hbm, ⟨46, _⟩ => ⟨S1x128x256, .i1⟩
  | .hbm, ⟨47, _⟩ => ⟨S_, .i32⟩
  | .hbm, ⟨48, _⟩ => ⟨S64x256, .i32⟩
  | .hbm, ⟨49, _⟩ => ⟨S64x256, .i1⟩
  | .hbm, ⟨50, _⟩ => ⟨S64x1x256, .i1⟩
  | .hbm, ⟨51, _⟩ => ⟨S64x128x256, .i1⟩
  | .hbm, ⟨52, _⟩ => ⟨S64x128x256, .i1⟩
  | .hbm, ⟨53, _⟩ => ⟨S64x128x256, .i1⟩
  | .hbm, ⟨54, _⟩ => ⟨S1x64x1x1x128x256, .i1⟩
  | .hbm, ⟨55, _⟩ => ⟨S_, .f32⟩
  | .hbm, ⟨56, _⟩ => ⟨S_, .f32⟩
  | .hbm, ⟨57, _⟩ => ⟨S1x64x2x4x128x256, .i1⟩
  | .hbm, ⟨58, _⟩ => ⟨S1x64x2x4x128x256, .f32⟩
  | .hbm, ⟨59, _⟩ => ⟨S1x64x2x4x128x256, .f32⟩
  | .hbm, ⟨60, _⟩ => ⟨S2x4, .f32⟩
  | .hbm, ⟨61, _⟩ => ⟨S1x1x2x4x1x1, .f32⟩
  | .hbm, ⟨62, _⟩ => ⟨S_, .f32⟩
  | .hbm, ⟨63, _⟩ => ⟨S1x64x2x4x128, .f32⟩
  | .hbm, ⟨64, _⟩ => ⟨S1x64x2x4x128x1, .f32⟩
  | .hbm, ⟨65, _⟩ => ⟨S1x64x2x4x128x1, .f32⟩
  | .hbm, ⟨66, _⟩ => ⟨S1x64x2x4x128x1, .f32⟩
  | .hbm, ⟨67, _⟩ => ⟨S1x64x2x4x128x256, .f32⟩
  | .hbm, ⟨68, _⟩ => ⟨S1x64x2x4x128x256, .f32⟩
  | .hbm, ⟨69, _⟩ => ⟨S1x64x2x4x128x256, .f32⟩
  | .hbm, ⟨70, _⟩ => ⟨S_, .f32⟩
  | .hbm, ⟨71, _⟩ => ⟨S1x64x2x4x128, .f32⟩
  | .hbm, ⟨72, _⟩ => ⟨S1x64x2x4x128x1, .f32⟩
  | .hbm, ⟨73, _⟩ => ⟨S1x64x2x4x128x1, .f32⟩
  | .hbm, ⟨74, _⟩ => ⟨S1x64x2x4x128x1, .f32⟩
  | .hbm, ⟨75, _⟩ => ⟨S1x64x2x4x128x1, .f32⟩
  | .hbm, ⟨76, _⟩ => ⟨S1x64x2x4x128x1, .f32⟩
  | .hbm, ⟨77, _⟩ => ⟨S1x64x2x4x128x1, .f32⟩
  | .hbm, ⟨78, _⟩ => ⟨S1x64x2x4x128x1, .f32⟩
  | .hbm, ⟨79, _⟩ => ⟨S64x2x4x128, .f32⟩
  | .hbm, ⟨80, _⟩ => ⟨S2x4x64x128, .f32⟩
  | .hbm, ⟨81, _⟩ => ⟨S8x8192, .f32⟩
  | .hbm, ⟨82, _⟩ => ⟨S8192x8x64, .f32⟩
  | .hbm, ⟨83, _⟩ => ⟨S8192x512, .f32⟩
  | .hbm, ⟨84, _⟩ => ⟨S_, .f32⟩
  | .hbm, ⟨85, _⟩ => ⟨S8192x512, .f32⟩
  | .hbm, ⟨86, _⟩ => ⟨S8192x512, .f32⟩
  | .hbm, ⟨87, _⟩ => ⟨S8192x512, .bf16⟩
  | .hbm, ⟨88, _⟩ => ⟨S_, .f32⟩
  | .hbm, ⟨89, _⟩ => ⟨S8192x64, .f32⟩
  | .hbm, ⟨90, _⟩ => ⟨S1x8192x1x64, .f32⟩
  | .hbm, ⟨91, _⟩ => ⟨S8192x64, .f32⟩
  | .hbm, ⟨92, _⟩ => ⟨S1x8192x1x64, .f32⟩
  | .hbm, ⟨93, _⟩ => ⟨S8192x64, .f32⟩
  | .hbm, ⟨94, _⟩ => ⟨S1x8192x1x64, .f32⟩
  | .hbm, ⟨95, _⟩ => ⟨S8192x64, .f32⟩
  | .hbm, ⟨96, _⟩ => ⟨S1x8192x1x64, .f32⟩
  | .hbm, ⟨97, _⟩ => ⟨S8192x64, .f32⟩
  | .hbm, ⟨98, _⟩ => ⟨S8192x512, .f32⟩
  | .hbm, ⟨99, _⟩ => ⟨S8192x512, .bf16⟩
  | .hbm, ⟨100, _⟩ => ⟨S_, .f32⟩
  | .hbm, ⟨101, _⟩ => ⟨S8192x64, .f32⟩
  | .hbm, ⟨102, _⟩ => ⟨S1x8192x1x64, .f32⟩
  | .hbm, ⟨103, _⟩ => ⟨S8192x64, .f32⟩
  | .hbm, ⟨104, _⟩ => ⟨S1x8192x1x64, .f32⟩
  | .hbm, ⟨105, _⟩ => ⟨S8192x64, .f32⟩
  | .hbm, ⟨106, _⟩ => ⟨S1x8192x1x64, .f32⟩
  | .hbm, ⟨107, _⟩ => ⟨S8192x64, .f32⟩
  | .hbm, ⟨108, _⟩ => ⟨S1x8192x1x64, .f32⟩
  | .hbm, ⟨109, _⟩ => ⟨S8192x64, .f32⟩
  | .hbm, ⟨110, _⟩ => ⟨S8192x512, .f32⟩
  | .hbm, ⟨111, _⟩ => ⟨S8192x512, .bf16⟩
  | .hbm, ⟨112, _⟩ => ⟨S8192x512, .f32⟩
  | .hbm, ⟨113, _⟩ => ⟨S8192x512, .bf16⟩
  | .hbm, ⟨114, _⟩ => ⟨S8192x512, .f32⟩
  | .hbm, ⟨115, _⟩ => ⟨S8192x128, .f32⟩
  | .hbm, ⟨116, _⟩ => ⟨S8192x128, .f32⟩
  | .hbm, ⟨117, _⟩ => ⟨S1x8, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S128x512, .bf16⟩
  | .local _ .vmem, ⟨5, _⟩ => ⟨S128x512, .bf16⟩
  | .local _ .vmem, ⟨6, _⟩ => ⟨S1024x512, .bf16⟩
  | .local _ .vmem, ⟨7, _⟩ => ⟨S1024x512, .bf16⟩
  | .local _ .vmem, ⟨8, _⟩ => ⟨S128x512, .bf16⟩
  | .local _ .vmem, ⟨9, _⟩ => ⟨S128x512, .bf16⟩
  | .local _ .vmem, ⟨10, _⟩ => ⟨S1024x512, .bf16⟩
  | .local _ .vmem, ⟨11, _⟩ => ⟨S1024x512, .bf16⟩
  | .local _ .vmem, ⟨12, _⟩ => ⟨S8x1024, .f32⟩
  | .local _ .vmem, ⟨13, _⟩ => ⟨S8x1024, .f32⟩
  | .local _ .vmem, ⟨14, _⟩ => ⟨S1x8, .f32⟩
  | .local _ .vmem, ⟨15, _⟩ => ⟨S1024x512, .f32⟩
  | .local _ .vmem, ⟨16, _⟩ => ⟨S1024x512, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1x8, .f32⟩
  | .local _ .vmem, ⟨22, _⟩ => ⟨S1152x128, .f32⟩
  | .local _ .vmem, ⟨23, _⟩ => ⟨S1152x128, .f32⟩
  | .local _ .vmem, ⟨24, _⟩ => ⟨S128x128, .f32⟩
  | .local _ .vmem, ⟨25, _⟩ => ⟨S128x128, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_10 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_11 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92_0 : Ref sig .tc := ⟨.hbm, 114, rfl⟩
abbrev main_v92_1 : Ref sig .tc := ⟨.hbm, 115, rfl⟩
abbrev main_v92_2 : Ref sig .tc := ⟨.hbm, 116, rfl⟩
abbrev main_v92_3 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli c8_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli c8_i32 v0
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AttnBwdRefIdeal.lean ====
abbrev S1x8192x8x64 : Shape := ⟨4, ![1, 8192, 8, 64]⟩
abbrev S1x8192x2x64 : Shape := ⟨4, ![1, 8192, 2, 64]⟩
abbrev S1x8 : Shape := ⟨2, ![1, 8]⟩
abbrev S1x8192x512 : Shape := ⟨3, ![1, 8192, 512]⟩
abbrev S8 : Shape := ⟨1, ![8]⟩
abbrev S1x64x128x2x64 : Shape := ⟨5, ![1, 64, 128, 2, 64]⟩
abbrev S_ : Shape := ⟨0, ![]⟩
abbrev S1x1x128x2x64 : Shape := ⟨5, ![1, 1, 128, 2, 64]⟩
abbrev S1x63x128x2x64 : Shape := ⟨5, ![1, 63, 128, 2, 64]⟩
abbrev S1x64x256x2x64 : Shape := ⟨5, ![1, 64, 256, 2, 64]⟩
abbrev S1x64x128x2x4x64 : Shape := ⟨6, ![1, 64, 128, 2, 4, 64]⟩
abbrev S1x64x2x256x128x4 : Shape := ⟨6, ![1, 64, 2, 256, 128, 4]⟩
abbrev S1x64x2x4x128x256 : Shape := ⟨6, ![1, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S1x64x2x64x256 : Shape := ⟨5, ![1, 64, 2, 64, 256]⟩
abbrev S1x2x4x1 : Shape := ⟨4, ![1, 2, 4, 1]⟩
abbrev S64x2x4x128 : Shape := ⟨4, ![64, 2, 4, 128]⟩
abbrev S1x64x2x128x4x64 : Shape := ⟨6, ![1, 64, 2, 128, 4, 64]⟩
abbrev S1x64x2x256x64 : Shape := ⟨5, ![1, 64, 2, 256, 64]⟩
abbrev S8192x512 : Shape := ⟨2, ![8192, 512]⟩
abbrev S8192x128 : Shape := ⟨2, ![8192, 128]⟩

abbrev nBuf : Space → Nat
  | .hbm => 206
  | .vmem => 0
  | .smem => 0
  | _ => 0

abbrev hbmTy0_0 (i : Nat) : BufTy := match i % 128 with
  | 0 => ⟨S1x8192x8x64, .f32⟩
  | 1 => ⟨S1x8192x2x64, .f32⟩
  | 2 => ⟨S1x8192x2x64, .f32⟩
  | 3 => ⟨S1x8, .f32⟩
  | 4 => ⟨S1x8192x512, .f32⟩
  | 5 => ⟨S8, .f32⟩
  | 6 => ⟨S1x64x128x2x64, .f32⟩
  | 7 => ⟨S_, .f32⟩
  | 8 => ⟨S1x1x128x2x64, .f32⟩
  | 9 => ⟨S1x63x128x2x64, .f32⟩
  | 10 => ⟨S1x64x128x2x64, .f32⟩
  | 11 => ⟨S_, .f32⟩
  | 12 => ⟨S1x1x128x2x64, .f32⟩
  | 13 => ⟨S1x64x256x2x64, .f32⟩
  | 14 => ⟨S1x64x128x2x4x64, .f32⟩
  | 15 => ⟨S1x64x128x2x64, .f32⟩
  | 16 => ⟨S_, .f32⟩
  | 17 => ⟨S1x1x128x2x64, .f32⟩
  | 18 => ⟨S1x63x128x2x64, .f32⟩
  | 19 => ⟨S1x64x128x2x64, .f32⟩
  | 20 => ⟨S_, .f32⟩
  | 21 => ⟨S1x1x128x2x64, .f32⟩
  | 22 => ⟨S1x64x256x2x64, .f32⟩
  | 23 => ⟨S1x64x2x256x128x4, .f32⟩
  | 24 => ⟨S1x64x2x4x128x256, .f32⟩
  | 25 => ⟨S_, .f32⟩
  | 26 => ⟨S1x64x2x4x128x256, .f32⟩
  | 27 => ⟨S1x64x2x4x128x256, .f32⟩
  | 28 => ⟨S128, .i32⟩
  | 29 => ⟨S128x1, .i32⟩
  | 30 => ⟨S_, .i32⟩
  | 31 => ⟨S128x1, .i32⟩
  | 32 => ⟨S128x1, .i32⟩
  | 33 => ⟨S256, .i32⟩
  | 34 => ⟨S1x256, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S64, .i32⟩
  | 46 => ⟨S64x1, .i32⟩
  | 47 => ⟨S_, .i32⟩
  | 48 => ⟨S64x1, .i32⟩
  | 49 => ⟨S64x1, .i32⟩
  | 50 => ⟨S64x256, .i32⟩
  | 51 => ⟨S64x256, .i32⟩
  | 52 => ⟨S64x256, .i32⟩
  | 53 => ⟨S_, .i32⟩
  | 54 => ⟨S64x256, .i32⟩
  | 55 => ⟨S64x256, .i32⟩
  | 56 => ⟨S1x128x256, .i1⟩
  | 57 => ⟨S_, .i32⟩
  | 58 => ⟨S64x256, .i32⟩
  | 59 => ⟨S64x256, .i1⟩
  | 60 => ⟨S64x1x256, .i1⟩
  | 61 => ⟨S64x128x256, .i1⟩
  | 62 => ⟨S64x128x256, .i1⟩
  | 63 => ⟨S64x128x256, .i1⟩
  | 64 => ⟨S1x64x1x1x128x256, .i1⟩
  | 65 => ⟨S_, .f32⟩
  | 66 => ⟨S_, .f32⟩
  | 67 => ⟨S1x64x2x4x128x256, .i1⟩
  | 68 => ⟨S1x64x2x4x128x256, .f32⟩
  | 69 => ⟨S1x64x2x4x128x256, .f32⟩
  | 70 => ⟨S_, .f32⟩
  | 71 => ⟨S1x64x2x4x128x256, .f32⟩
  | 72 => ⟨S2x4, .f32⟩
  | 73 => ⟨S1x1x2x4x1x1, .f32⟩
  | 74 => ⟨S_, .f32⟩
  | 75 => ⟨S1x64x2x4x128, .f32⟩
  | 76 => ⟨S1x64x2x4x128x1, .f32⟩
  | 77 => ⟨S1x64x2x4x128x256, .f32⟩
  | 78 => ⟨S1x64x2x4x128x256, .i1⟩
  | 79 => ⟨S1x64x2x4x128x256, .f32⟩
  | 80 => ⟨S_, .f32⟩
  | 81 => ⟨S1x64x2x4x128, .f32⟩
  | 82 => ⟨S1x64x2x4x128x1, .f32⟩
  | 83 => ⟨S1x64x2x4x128x1, .f32⟩
  | 84 => ⟨S1x64x2x4x128x1, .f32⟩
  | 85 => ⟨S1x64x2x4x128x1, .f32⟩
  | 86 => ⟨S1x64x2x4x128x1, .i1⟩
  | 87 => ⟨S1x64x2x4x128x1, .f32⟩
  | 88 => ⟨S1x64x2x4x128x1, .i1⟩
  | 89 => ⟨S_, .f32⟩
  | 90 => ⟨S1x64x2x4x128x1, .f32⟩
  | 91 => ⟨S_, .f32⟩
  | 92 => ⟨S1x64x2x4x128x1, .f32⟩
  | 93 => ⟨S_, .f32⟩
  | 94 => ⟨S1x64x2x4x128x1, .f32⟩
  | 95 => ⟨S1x64x2x4x128x1, .f32⟩
  | 96 => ⟨S1x64x2x4x128x1, .f32⟩
  | 97 => ⟨S1x64x2x4x128x1, .f32⟩
  | 98 => ⟨S1x64x2x4x128x1, .i1⟩
  | 99 => ⟨S1x64x2x4x128x1, .f32⟩
  | 100 => ⟨S1x64x2x4x128x1, .i1⟩
  | 101 => ⟨S_, .f32⟩
  | 102 => ⟨S1x64x2x4x128x1, .f32⟩
  | 103 => ⟨S_, .f32⟩
  | 104 => ⟨S1x64x2x4x128x1, .f32⟩
  | 105 => ⟨S_, .f32⟩
  | 106 => ⟨S1x64x2x4x128x1, .f32⟩
  | 107 => ⟨S1x64x2x4x128x1, .f32⟩
  | 108 => ⟨S1x64x2x4x128x1, .f32⟩
  | 109 => ⟨S1x64x2x4x128x256, .f32⟩
  | 110 => ⟨S1x64x2x4x128x256, .f32⟩
  | 111 => ⟨S1x64x2x4x128x256, .f32⟩
  | 112 => ⟨S_, .f32⟩
  | 113 => ⟨S1x64x2x4x128, .f32⟩
  | 114 => ⟨S1x64x2x4x128x1, .f32⟩
  | 115 => ⟨S1x64x2x4x128x1, .f32⟩
  | 116 => ⟨S1x64x2x4x128x1, .f32⟩
  | 117 => ⟨S1x64x2x4x128x1, .f32⟩
  | 118 => ⟨S1x64x2x4x128x1, .f32⟩
  | 119 => ⟨S1x64x2x4x128x256, .f32⟩
  | 120 => ⟨S1x64x2x4x128x256, .f32⟩
  | 121 => ⟨S1x64x2x4x128x1, .f32⟩
  | 122 => ⟨S_, .f32⟩
  | 123 => ⟨S1x64x2x4x128x1, .f32⟩
  | 124 => ⟨S1x64x2x4x128x1, .f32⟩
  | 125 => ⟨S1x64x2x64x4x128, .f32⟩
  | 126 => ⟨S1x64x128x2x4x64, .f32⟩
  | 127 => ⟨S1x8192x512, .f32⟩
  | _ => ⟨S1x8192x8x64, .f32⟩

abbrev hbmTy0_1 (i : Nat) : BufTy := match i % 128 with
  | 0 => ⟨S1x64x128x2x4x64, .f32⟩
  | 1 => ⟨S1x64x2x64x4x128, .f32⟩
  | 2 => ⟨S1x64x2x4x128x256, .f32⟩
  | 3 => ⟨S1x64x2x64x256, .f32⟩
  | 4 => ⟨S1x64x256x2x64, .f32⟩
  | 5 => ⟨S1x64x2x4x128x256, .f32⟩
  | 6 => ⟨S1x64x2x4x128x256, .f32⟩
  | 7 => ⟨S1x64x2x4x128x256, .f32⟩
  | 8 => ⟨S_, .f32⟩
  | 9 => ⟨S1x64x2x4x128, .f32⟩
  | 10 => ⟨S1x64x2x4x128x1, .f32⟩
  | 11 => ⟨S1x64x2x4x128x1, .f32⟩
  | 12 => ⟨S1x64x2x4x128x256, .f32⟩
  | 13 => ⟨S1x64x2x4x128x256, .f32⟩
  | 14 => ⟨S1x64x2x4x128x1, .f32⟩
  | 15 => ⟨S_, .f32⟩
  | 16 => ⟨S1x2x4x1, .f32⟩
  | 17 => ⟨S1x1x2x4x1x1, .f32⟩
  | 18 => ⟨S1x64x2x4x128x1, .f32⟩
  | 19 => ⟨S_, .f32⟩
  | 20 => ⟨S64x2x4x128, .f32⟩
  | 21 => ⟨S1x64x2x4x128, .f32⟩
  | 22 => ⟨S1x64x2x4x128x256, .f32⟩
  | 23 => ⟨S1x64x2x4x128x256, .f32⟩
  | 24 => ⟨S1x64x2x4x128x256, .f32⟩
  | 25 => ⟨S1x64x2x4x128x256, .f32⟩
  | 26 => ⟨S_, .f32⟩
  | 27 => ⟨S1x64x2x4x128, .f32⟩
  | 28 => ⟨S1x64x2x4x128x1, .f32⟩
  | 29 => ⟨S1x64x2x4x128x1, .f32⟩
  | 30 => ⟨S1x64x2x4x128x1, .f32⟩
  | 31 => ⟨S_, .f32⟩
  | 32 => ⟨S1x2x4x1, .f32⟩
  | 33 => ⟨S1x1x2x4x1x1, .f32⟩
  | 34 => ⟨S1x1x2x4x1x1, .f32⟩
  | 35 => ⟨S1x64x2x4x128x1, .f32⟩
  | 36 => ⟨S_, .f32⟩
  | 37 => ⟨S64x2x4x128, .f32⟩
  | 38 => ⟨S1x64x2x4x128, .f32⟩
  | 39 => ⟨S1x64x2x4x128, .f32⟩
  | 40 => ⟨S1x64x2x4x128x256, .f32⟩
  | 41 => ⟨S1x64x2x4x128x256, .f32⟩
  | 42 => ⟨S1x64x2x4x128x256, .f32⟩
  | 43 => ⟨S_, .f32⟩
  | 44 => ⟨S2x4, .f32⟩
  | 45 => ⟨S8, .f32⟩
  | 46 => ⟨S_, .f32⟩
  | 47 => ⟨S1x64x2x4x128x256, .f32⟩
  | 48 => ⟨S1x64x2x4x128x256, .f32⟩
  | 49 => ⟨S_, .f32⟩
  | 50 => ⟨S1x64x2x4x128x256, .f32⟩
  | 51 => ⟨S1x64x2x4x128x256, .f32⟩
  | 52 => ⟨S1x64x2x256x128x4, .f32⟩
  | 53 => ⟨S1x64x2x128x4x64, .f32⟩
  | 54 => ⟨S1x64x128x2x4x64, .f32⟩
  | 55 => ⟨S1x64x2x256x64, .f32⟩
  | 56 => ⟨S1x64x256x2x64, .f32⟩
  | 57 => ⟨S1x64x128x2x64, .f32⟩
  | 58 => ⟨S1x64x128x2x64, .f32⟩
  | 59 => ⟨S1x1x128x2x64, .f32⟩
  | 60 => ⟨S1x63x128x2x64, .f32⟩
  | 61 => ⟨S_, .f32⟩
  | 62 => ⟨S1x64x128x2x64, .f32⟩
  | 63 => ⟨S1x64x128x2x64, .f32⟩
  | 64 => ⟨S1x8192x2x64, .f32⟩
  | 65 => ⟨S1x8192x8x64, .f32⟩
  | 66 => ⟨S1x64x128x2x64, .f32⟩
  | 67 => ⟨S1x64x128x2x64, .f32⟩
  | 68 => ⟨S1x1x128x2x64, .f32⟩
  | 69 => ⟨S1x63x128x2x64, .f32⟩
  | 70 => ⟨S_, .f32⟩
  | 71 => ⟨S1x64x128x2x64, .f32⟩
  | 72 => ⟨S1x64x128x2x64, .f32⟩
  | 73 => ⟨S1x8192x2x64, .f32⟩
  | 74 => ⟨S1x8, .f32⟩
  | 75 => ⟨S8192x512, .f32⟩
  | 76 => ⟨S8192x128, .f32⟩
  | 77 => ⟨S8192x128, .f32⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_8 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_call0_v0 : Ref sig .tc := ⟨.hbm, 66, rfl⟩
abbrev main_v49_1 : Ref sig .tc := ⟨.hbm, 67, rfl⟩
abbrev main_call0_v2 : Ref sig .tc := ⟨.hbm, 68, rfl⟩
abbrev main_v49_0 : Ref sig .tc := ⟨.hbm, 69, rfl⟩
abbrev main_call0_cst : Ref sig .tc := ⟨.hbm, 70, rfl⟩
abbrev main_v49_2 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_cst_17 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_cst_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_19 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_20 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_cst_21 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_cst_22 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_23 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_24 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_25 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_26 : Ref sig .tc := ⟨.hbm, 171, rfl⟩
abbrev main_v133 : Ref sig .tc := ⟨.hbm, 172, rfl⟩
abbrev main_v134 : Ref sig .tc := ⟨.hbm, 173, rfl⟩
abbrev main_call1_cst : Ref sig .tc := ⟨.hbm, 174, rfl⟩
abbrev main_call1_v0 : Ref sig .tc := ⟨.hbm, 175, rfl⟩
abbrev main_v135 : Ref sig .tc := ⟨.hbm, 176, rfl⟩
abbrev main_cst_27 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_cst_28 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_29 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩

abbrev nD : Nat := 1
abbrev τ : Topo := Topo.v7x

variable {F : FTy → Type} [FloatOps F]
-- ==== FfnBwd.lean ====
abbrev S8192x1024 : Shape := ⟨2, ![8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S2816x1024 : Shape := ⟨2, ![2816, 1024]⟩
abbrev S256x1024 : Shape := ⟨2, ![256, 1024]⟩
abbrev S256x2816 : Shape := ⟨2, ![256, 2816]⟩
abbrev S2 : Shape := ⟨1, ![2]⟩
abbrev S256 : Shape := ⟨1, ![256]⟩
abbrev S256x1 : Shape := ⟨2, ![256, 1]⟩
abbrev S256x256 : Shape := ⟨2, ![256, 256]⟩
abbrev S1 : Shape := ⟨1, ![1]⟩

abbrev nBuf : Space → Nat
  | .hbm => 47
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S8192x1024, .f32⟩
  | .hbm, ⟨7, _⟩ => ⟨S1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S1024x2816, .f32⟩
  | .hbm, ⟨29, _⟩ => ⟨S8192x2816, .f32⟩
  | .hbm, ⟨30, _⟩ => ⟨S1024x2816, .f32⟩
  | .hbm, ⟨31, _⟩ => ⟨S8192x2816, .f32⟩
  | .hbm, ⟨32, _⟩ => ⟨S8192x2816, .bf16⟩
  | .hbm, ⟨33, _⟩ => ⟨S8192x2816, .bf16⟩
  | .hbm, ⟨34, _⟩ => ⟨S2816x1024, .f32⟩
  | .hbm, ⟨35, _⟩ => ⟨S2816x1024, .bf16⟩
  | .hbm, ⟨36, _⟩ => ⟨S1024x2816, .f32⟩
  | .hbm, ⟨37, _⟩ => ⟨S2816x1024, .f32⟩
  | .hbm, ⟨38, _⟩ => ⟨S2816x1024, .bf16⟩
  | .hbm, ⟨39, _⟩ => ⟨S1024x2816, .f32⟩
  | .hbm, ⟨40, _⟩ => ⟨S2816x1024, .f32⟩
  | .hbm, ⟨41, _⟩ => ⟨S2816x1024, .bf16⟩
  | .hbm, ⟨42, _⟩ => ⟨S8192x1024, .f32⟩
  | .hbm, ⟨43, _⟩ => ⟨S1x1024, .f32⟩
  | .hbm, ⟨44, _⟩ => ⟨S1x1024, .f32⟩
  | .hbm, ⟨45, _⟩ => ⟨S2816x1024, .f32⟩
  | .hbm, ⟨46, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S2816x1024, .bf16⟩
  | .local _ .vmem, ⟨9, _⟩ => ⟨S2816x1024, .bf16⟩
  | .local _ .vmem, ⟨10, _⟩ => ⟨S2816x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S256x2816, .bf16⟩
  | .local _ .vmem, ⟨17, _⟩ => ⟨S256x2816, .bf16⟩
  | .local _ .vmem, ⟨18, _⟩ => ⟨S2816x1024, .f32⟩
  | .local _ .vmem, ⟨19, _⟩ => ⟨S2816x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32_0 : Ref sig .tc := ⟨.hbm, 42, rfl⟩
abbrev main_v32_1 : Ref sig .tc := ⟨.hbm, 43, rfl⟩
abbrev main_v32_2 : Ref sig .tc := ⟨.hbm, 44, rfl⟩
abbrev main_v32_3 : Ref sig .tc := ⟨.hbm, 45, rfl⟩
abbrev main_v32_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnBwdRefIdeal.lean ====
abbrev S8192x1024 : Shape := ⟨2, ![8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S8192x2816 : Shape := ⟨2, ![8192, 2816]⟩
abbrev S2816x1024 : Shape := ⟨2, ![2816, 1024]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S8192x1024, .f32⟩
  | .hbm, ⟨7, _⟩ => ⟨S1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S1024x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S_, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S1024x2816, .f32⟩
  | .hbm, ⟨48, _⟩ => ⟨S8192x2816, .f32⟩
  | .hbm, ⟨49, _⟩ => ⟨S8192x2816, .f32⟩
  | .hbm, ⟨50, _⟩ => ⟨S2816x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S2816x1024, .f32⟩
  | .hbm, ⟨59, _⟩ => ⟨S1024x2816, .f32⟩
  | .hbm, ⟨60, _⟩ => ⟨S8192x1024, .f32⟩
  | .hbm, ⟨61, _⟩ => ⟨S1x1024x2816, .f32⟩
  | .hbm, ⟨62, _⟩ => ⟨S8192x2816, .f32⟩
  | .hbm, ⟨63, _⟩ => ⟨S8192x2816, .f32⟩
  | .hbm, ⟨64, _⟩ => ⟨S8192x2816, .f32⟩
  | .hbm, ⟨65, _⟩ => ⟨S8192x2816, .f32⟩
  | .hbm, ⟨66, _⟩ => ⟨S2816x1024, .f32⟩
  | .hbm, ⟨67, _⟩ => ⟨S1024x2816, .f32⟩
  | .hbm, ⟨68, _⟩ => ⟨S8192x1024, .f32⟩
  | .hbm, ⟨69, _⟩ => ⟨S8192x1024, .f32⟩
  | .hbm, ⟨70, _⟩ => ⟨S1x1024x2816, .f32⟩
  | .hbm, ⟨71, _⟩ => ⟨S8192x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S1x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S_, .f32⟩
  | .hbm, ⟨102, _⟩ => ⟨S1024, .f32⟩
  | .hbm, ⟨103, _⟩ => ⟨S1x1024, .f32⟩
  | .hbm, ⟨104, _⟩ => ⟨S1024x2816, .f32⟩
  | .hbm, ⟨105, _⟩ => ⟨S2816x1024, .f32⟩
  | .hbm, ⟨106, _⟩ => ⟨S1024x2816, .f32⟩
  | .hbm, ⟨107, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v23_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v23_1 : Ref sig .tc := ⟨.hbm, 45, rfl⟩
abbrev main_v23_0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_3 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_cst_5 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_v59 : Ref sig .tc := ⟨.hbm, 89, rfl⟩
abbrev main_cst_7 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_8 : Ref sig .tc := ⟨.hbm, 98, rfl⟩
abbrev main_v67 : Ref sig .tc := ⟨.hbm, 99, rfl⟩
abbrev main_v68 : Ref sig .tc := ⟨.hbm, 100, rfl⟩
abbrev main_cst_9 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]
-- ==== PoolBwd.lean ====
abbrev S1x8192x512 : Shape := ⟨3, ![1, 8192, 512]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S8192x1024 : Shape := ⟨2, ![8192, 1024]⟩
abbrev S1x8192x4x128 : Shape := ⟨4, ![1, 8192, 4, 128]⟩
abbrev S_ : Shape := ⟨0, ![]⟩
abbrev S1x1x4x128 : Shape := ⟨4, ![1, 1, 4, 128]⟩
abbrev S1x8193x4x128 : Shape := ⟨4, ![1, 8193, 4, 128]⟩
abbrev S8192 : Shape := ⟨1, ![8192]⟩
abbrev S8192x1 : Shape := ⟨2, ![8192, 1]⟩
abbrev S1 : Shape := ⟨1, ![1]⟩
abbrev S4 : Shape := ⟨1, ![4]⟩
abbrev S1x4 : Shape := ⟨2, ![1, 4]⟩
abbrev S8192x4 : Shape := ⟨2, ![8192, 4]⟩
abbrev S8192x4x1 : Shape := ⟨3, ![8192, 4, 1]⟩
abbrev S8192x4x2 : Shape := ⟨3, ![8192, 4, 2]⟩
abbrev S1x8192x4x1 : Shape := ⟨4, ![1, 8192, 4, 1]⟩
abbrev S4x128x128 : Shape := ⟨3, ![4, 128, 128]⟩
abbrev S4x128 : Shape := ⟨2, ![4, 128]⟩
abbrev S4x128x1x8192 : Shape := ⟨4, ![4, 128, 1, 8192]⟩
abbrev S8192x512 : Shape := ⟨2, ![8192, 512]⟩
abbrev S8192x4x128 : Shape := ⟨3, ![8192, 4, 128]⟩
abbrev S1024x1024 : Shape := ⟨2, ![1024, 1024]⟩
abbrev S1x512 : Shape := ⟨2, ![1, 512]⟩
abbrev S1024x512 : Shape := ⟨2, ![1024, 512]⟩
abbrev S16x512 : Shape := ⟨2, ![16, 512]⟩
abbrev S512x1024 : Shape := ⟨2, ![512, 1024]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S16x128 : Shape := ⟨2, ![16, 128]⟩
abbrev S1008x128 : Shape := ⟨2, ![1008, 128]⟩
abbrev S1040x128 : Shape := ⟨2, ![1040, 128]⟩

abbrev nBuf : Space → Nat
  | .hbm => 99
  | .vmem => 21
  | .smem => 0
  | _ => 0

abbrev bufTy : (tb : Table) → Fin (tcTables nBuf tb) → BufTy
  | .hbm, ⟨0, _⟩ => ⟨S1x8192x512, .f32⟩
  | .hbm, ⟨1, _⟩ => ⟨S1x8192x512, .f32⟩
  | .hbm, ⟨2, _⟩ => ⟨S1x4x128x128, .f32⟩
  | .hbm, ⟨3, _⟩ => ⟨S1x4x128, .f32⟩
  | .hbm, ⟨4, _⟩ => ⟨S1x4x128, .f32⟩
  | .hbm, ⟨5, _⟩ => ⟨S1x1024x1024, .f32⟩
  | .hbm, ⟨6, _⟩ => ⟨S8192x1024, .f32⟩
  | .hbm, ⟨7, _⟩ => ⟨S1x8192x4x128, .f32⟩
  | .hbm, ⟨8, _⟩ => ⟨S_, .f32⟩
  | .hbm, ⟨9, _⟩ => ⟨S1x1x4x128, .f32⟩
  | .hbm, ⟨10, _⟩ => ⟨S_, .f32⟩
  | .hbm, ⟨11, _⟩ => ⟨S_, .f32⟩
  | .hbm, ⟨12, _⟩ => ⟨S1x8192x4x128, .f32⟩
  | .hbm, ⟨13, _⟩ => ⟨S1x8193x4x128, .f32⟩
  | .hbm, ⟨14, _⟩ => ⟨S8192, .i32⟩
  | .hbm, ⟨15, _⟩ => ⟨S8192x1, .i32⟩
  | .hbm, ⟨16, _⟩ => ⟨S_, .i32⟩
  | .hbm, ⟨17, _⟩ => ⟨S1, .i32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S4, .i32⟩
  | .hbm, ⟨25, _⟩ => ⟨S1x4, .i32⟩
  | .hbm, ⟨26, _⟩ => ⟨S_, .i32⟩
  | .hbm, ⟨27, _⟩ => ⟨S8192x1, .i32⟩
  | .hbm, ⟨28, _⟩ => ⟨S8192x1, .i32⟩
  | .hbm, ⟨29, _⟩ => ⟨S8192x4, .i32⟩
  | .hbm, ⟨30, _⟩ => ⟨S8192x4, .i32⟩
  | .hbm, ⟨31, _⟩ => ⟨S8192x4, .i32⟩
  | .hbm, ⟨32, _⟩ => ⟨S_, .i32⟩
  | .hbm, ⟨33, _⟩ => ⟨S8192x4, .i32⟩
  | .hbm, ⟨34, _⟩ => ⟨S8192x4, .i32⟩
  | .hbm, ⟨35, _⟩ => ⟨S4, .i32⟩
  | .hbm, ⟨36, _⟩ => ⟨S1x4, .i32⟩
  | .hbm, ⟨37, _⟩ => ⟨S1x8192x4x128, .f32⟩
  | .hbm, ⟨38, _⟩ => ⟨S_, .i32⟩
  | .hbm, ⟨39, _⟩ => ⟨S8192x4, .i32⟩
  | .hbm, ⟨40, _⟩ => ⟨S8192x4, .i1⟩
  | .hbm, ⟨41, _⟩ => ⟨S_, .i32⟩
  | .hbm, ⟨42, _⟩ => ⟨S8192x4, .i32⟩
  | .hbm, ⟨43, _⟩ => ⟨S8192x4, .i32⟩
  | .hbm, ⟨44, _⟩ => ⟨S8192x4, .i32⟩
  | .hbm, ⟨45, _⟩ => ⟨S_, .i32⟩
  | .hbm, ⟨46, _⟩ => ⟨S1x4, .i32⟩
  | .hbm, ⟨47, _⟩ => ⟨S1x4, .i1⟩
  | .hbm, ⟨48, _⟩ => ⟨S_, .i32⟩
  | .hbm, ⟨49, _⟩ => ⟨S1x4, .i32⟩
  | .hbm, ⟨50, _⟩ => ⟨S1x4, .i32⟩
  | .hbm, ⟨51, _⟩ => ⟨S1x4, .i32⟩
  | .hbm, ⟨52, _⟩ => ⟨S8192x4, .i32⟩
  | .hbm, ⟨53, _⟩ => ⟨S8192x4x1, .i32⟩
  | .hbm, ⟨54, _⟩ => ⟨S8192x4x1, .i32⟩
  | .hbm, ⟨55, _⟩ => ⟨S8192x4x2, .i32⟩
  | .hbm, ⟨56, _⟩ => ⟨S1x8192x4x128, .f32⟩
  | .hbm, ⟨57, _⟩ => ⟨S1x8192x4x128, .f32⟩
  | .hbm, ⟨58, _⟩ => ⟨S_, .i32⟩
  | .hbm, ⟨59, _⟩ => ⟨S8192x1, .i32⟩
  | .hbm, ⟨60, _⟩ => ⟨S8192x1, .i32⟩
  | .hbm, ⟨61, _⟩ => ⟨S8192x4, .i32⟩
  | .hbm, ⟨62, _⟩ => ⟨S8192x4, .i32⟩
  | .hbm, ⟨63, _⟩ => ⟨S8192x4, .f32⟩
  | .hbm, ⟨64, _⟩ => ⟨S1x8192x4x1, .f32⟩
  | .hbm, ⟨65, _⟩ => ⟨S1x8192x4x128, .f32⟩
  | .hbm, ⟨66, _⟩ => ⟨S1x8192x4x128, .f32⟩
  | .hbm, ⟨67, _⟩ => ⟨S1x8192x4x128, .f32⟩
  | .hbm, ⟨68, _⟩ => ⟨S4x128x128, .f32⟩
  | .hbm, ⟨69, _⟩ => ⟨S4x128, .f32⟩
  | .hbm, ⟨70, _⟩ => ⟨S4x128, .f32⟩
  | .hbm, ⟨71, _⟩ => ⟨S4x128x1x8192, .f32⟩
  | .hbm, ⟨72, _⟩ => ⟨S1x8192x4x128, .f32⟩
  | .hbm, ⟨73, _⟩ => ⟨S1x1x4x128, .f32⟩
  | .hbm, ⟨74, _⟩ => ⟨S1x8192x4x128, .f32⟩
  | .hbm, ⟨75, _⟩ => ⟨S1x8192x4x128, .f32⟩
  | .hbm, ⟨76, _⟩ => ⟨S1x1x4x128, .f32⟩
  | .hbm, ⟨77, _⟩ => ⟨S1x8192x4x128, .f32⟩
  | .hbm, ⟨78, _⟩ => ⟨S1x8192x4x128, .f32⟩
  | .hbm, ⟨79, _⟩ => ⟨S1x8192x512, .f32⟩
  | .hbm, ⟨80, _⟩ => ⟨S8192x512, .f32⟩
  | .hbm, ⟨81, _⟩ => ⟨S8192x4x128, .f32⟩
  | .hbm, ⟨82, _⟩ => ⟨S8192x512, .f32⟩
  | .hbm, ⟨83, _⟩ => ⟨S8192x512, .f32⟩
  | .hbm, ⟨84, _⟩ => ⟨S8192x512, .bf16⟩
  | .hbm, ⟨85, _⟩ => ⟨S8192x512, .bf16⟩
  | .hbm, ⟨86, _⟩ => ⟨S8192x512, .bf16⟩
  | .hbm, ⟨87, _⟩ => ⟨S1024x1024, .f32⟩
  | .hbm, ⟨88, _⟩ => ⟨S1024x1024, .bf16⟩
  | .hbm, ⟨89, _⟩ => ⟨S4x128x128, .f32⟩
  | .hbm, ⟨90, _⟩ => ⟨S4x128x128, .bf16⟩
  | .hbm, ⟨91, _⟩ => ⟨S1x512, .f32⟩
  | .hbm, ⟨92, _⟩ => ⟨S1x512, .f32⟩
  | .hbm, ⟨93, _⟩ => ⟨S8192x512, .bf16⟩
  | .hbm, ⟨94, _⟩ => ⟨S8192x512, .bf16⟩
  | .hbm, ⟨95, _⟩ => ⟨S1024x1024, .f32⟩
  | .hbm, ⟨96, _⟩ => ⟨S4x128x128, .f32⟩
  | .hbm, ⟨97, _⟩ => ⟨S1x512, .f32⟩
  | .hbm, ⟨98, _⟩ => ⟨S1x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S4x128x128, .bf16⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x1024, .f32⟩
  | .local _ .vmem, ⟨17, _⟩ => ⟨S4x128x128, .f32⟩
  | .local _ .vmem, ⟨18, _⟩ => ⟨S1x512, .f32⟩
  | .local _ .vmem, ⟨19, _⟩ => ⟨S1x512, .f32⟩
  | .local _ .vmem, ⟨20, _⟩ => ⟨S16x512, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_call0_call0_cst : Ref sig .tc := ⟨.hbm, 10, rfl⟩
abbrev main_call0_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_7 : Ref sig .tc := ⟨.hbm, 45, rfl⟩
abbrev main_v27 : Ref sig .tc := ⟨.hbm, 46, rfl⟩
abbrev main_v28 : Ref sig .tc := ⟨.hbm, 47, rfl⟩
abbrev main_c_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72_0 : Ref sig .tc := ⟨.hbm, 93, rfl⟩
abbrev main_v72_1 : Ref sig .tc := ⟨.hbm, 94, rfl⟩
abbrev main_v72_2 : Ref sig .tc := ⟨.hbm, 95, rfl⟩
abbrev main_v72_3 : Ref sig .tc := ⟨.hbm, 96, rfl⟩
abbrev main_v72_4 : Ref sig .tc := ⟨.hbm, 97, rfl⟩
abbrev main_v72_5 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== PoolBwdRefIdeal.lean ====
abbrev S1x8192x512 : Shape := ⟨3, ![1, 8192, 512]⟩
abbrev S1x4x128x128 : Shape := ⟨4, ![1, 4, 128, 128]⟩
abbrev S1x4x128 : Shape := ⟨3, ![1, 4, 128]⟩
abbrev S1x1024x1024 : Shape := ⟨3, ![1, 1024, 1024]⟩
abbrev S8192x1024 : Shape := ⟨2, ![8192, 1024]⟩
abbrev S4x128x128 : Shape := ⟨3, ![4, 128, 128]⟩
abbrev S4x128 : Shape := ⟨2, ![4, 128]⟩
abbrev S1x8192x4x128 : Shape := ⟨4, ![1, 8192, 4, 128]⟩
abbrev S_ : Shape := ⟨0, ![]⟩
abbrev S1x1x4x128 : Shape := ⟨4, ![1, 1, 4, 128]⟩
abbrev S1x8193x4x128 : Shape := ⟨4, ![1, 8193, 4, 128]⟩
abbrev S8192 : Shape := ⟨1, ![8192]⟩
abbrev S8192x1 : Shape := ⟨2, ![8192, 1]⟩
abbrev S1 : Shape := ⟨1, ![1]⟩
abbrev S4 : Shape := ⟨1, ![4]⟩
abbrev S1x4 : Shape := ⟨2, ![1, 4]⟩
abbrev S8192x4 : Shape := ⟨2, ![8192, 4]⟩
abbrev S8192x4x1 : Shape := ⟨3, ![8192, 4, 1]⟩
abbrev S8192x4x2 : Shape := ⟨3, ![8192, 4, 2]⟩
abbrev S1x8192x4x1 : Shape := ⟨4, ![1, 8192, 4, 1]⟩
abbrev S4x128x1x8192 : Shape := ⟨4, ![4, 128, 1, 8192]⟩
abbrev S1x8192x1024 : Shape := ⟨3, ![1, 8192, 1024]⟩
abbrev S1024x1024 : Shape := ⟨2, ![1024, 1024]⟩
abbrev S4x1x8192x128 : Shape := ⟨4, ![4, 1, 8192, 128]⟩
abbrev S8192x512 : Shape := ⟨2, ![8192, 512]⟩
abbrev S1x512 : Shape := ⟨2, ![1, 512]⟩

abbrev nBuf : Space → Nat
  | .hbm => 139
  | .vmem => 0
  | .smem => 0
  | _ => 0

abbrev hbmTy0_0 (i : Nat) : BufTy := match i % 128 with
  | 0 => ⟨S1x8192x512, .f32⟩
  | 1 => ⟨S1x8192x512, .f32⟩
  | 2 => ⟨S1x4x128x128, .f32⟩
  | 3 => ⟨S1x4x128, .f32⟩
  | 4 => ⟨S1x4x128, .f32⟩
  | 5 => ⟨S1x1024x1024, .f32⟩
  | 6 => ⟨S8192x1024, .f32⟩
  | 7 => ⟨S4x128x128, .f32⟩
  | 8 => ⟨S4x128, .f32⟩
  | 9 => ⟨S4x128, .f32⟩
  | 10 => ⟨S1x8192x4x128, .f32⟩
  | 11 => ⟨S_, .f32⟩
  | 12 => ⟨S1x1x4x128, .f32⟩
  | 13 => ⟨S_, .f32⟩
  | 14 => ⟨S_, .f32⟩
  | 15 => ⟨S1x8192x4x128, .f32⟩
  | 16 => ⟨S1x8193x4x128, .f32⟩
  | 17 => ⟨S_, .f32⟩
  | 18 => ⟨S1x1x4x128, .f32⟩
  | 19 => ⟨S8192, .i32⟩
  | 20 => ⟨S8192x1, .i32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S4, .i32⟩
  | 30 => ⟨S1x4, .i32⟩
  | 31 => ⟨S_, .i32⟩
  | 32 => ⟨S8192x1, .i32⟩
  | 33 => ⟨S8192x1, .i32⟩
  | 34 => ⟨S8192x4, .i32⟩
  | 35 => ⟨S8192x4, .i32⟩
  | 36 => ⟨S8192x4, .i32⟩
  | 37 => ⟨S_, .i32⟩
  | 38 => ⟨S8192x4, .i32⟩
  | 39 => ⟨S8192x4, .i32⟩
  | 40 => ⟨S4, .i32⟩
  | 41 => ⟨S1x4, .i32⟩
  | 42 => ⟨S1x8192x4x128, .f32⟩
  | 43 => ⟨S_, .i32⟩
  | 44 => ⟨S8192x4, .i32⟩
  | 45 => ⟨S8192x4, .i1⟩
  | 46 => ⟨S_, .i32⟩
  | 47 => ⟨S8192x4, .i32⟩
  | 48 => ⟨S8192x4, .i32⟩
  | 49 => ⟨S8192x4, .i32⟩
  | 50 => ⟨S_, .i32⟩
  | 51 => ⟨S1x4, .i32⟩
  | 52 => ⟨S1x4, .i1⟩
  | 53 => ⟨S_, .i32⟩
  | 54 => ⟨S1x4, .i32⟩
  | 55 => ⟨S1x4, .i32⟩
  | 56 => ⟨S1x4, .i32⟩
  | 57 => ⟨S8192x4, .i32⟩
  | 58 => ⟨S8192x4x1, .i32⟩
  | 59 => ⟨S8192x4x1, .i32⟩
  | 60 => ⟨S8192x4x2, .i32⟩
  | 61 => ⟨S1x8192x4x128, .f32⟩
  | 62 => ⟨S1x8192x4x128, .f32⟩
  | 63 => ⟨S_, .i32⟩
  | 64 => ⟨S8192x1, .i32⟩
  | 65 => ⟨S8192x1, .i32⟩
  | 66 => ⟨S8192x4, .i32⟩
  | 67 => ⟨S8192x4, .i32⟩
  | 68 => ⟨S8192x4, .f32⟩
  | 69 => ⟨S1x8192x4x1, .f32⟩
  | 70 => ⟨S1x8192x4x128, .f32⟩
  | 71 => ⟨S1x8192x4x128, .f32⟩
  | 72 => ⟨S1x8192x4x128, .f32⟩
  | 73 => ⟨S4x128x1x8192, .f32⟩
  | 74 => ⟨S1x8192x4x128, .f32⟩
  | 75 => ⟨S1x1x4x128, .f32⟩
  | 76 => ⟨S1x8192x4x128, .f32⟩
  | 77 => ⟨S1x8192x4x128, .f32⟩
  | 78 => ⟨S1x1x4x128, .f32⟩
  | 79 => ⟨S1x8192x4x128, .f32⟩
  | 80 => ⟨S1x8192x4x128, .f32⟩
  | 81 => ⟨S1x8192x512, .f32⟩
  | 82 => ⟨S1x8192x1024, .f32⟩
  | 83 => ⟨S1024x1024, .f32⟩
  | 84 => ⟨S1x8192x1024, .f32⟩
  | 85 => ⟨S1x8192x1024, .f32⟩
  | 86 => ⟨S1024x1024, .f32⟩
  | 87 => ⟨S1024x1024, .f32⟩
  | 88 => ⟨S1x8192x1024, .f32⟩
  | 89 => ⟨S1x1024x1024, .f32⟩
  | 90 => ⟨S1x8192x512, .f32⟩
  | 91 => ⟨S1x8192x512, .f32⟩
  | 92 => ⟨S1x8192x4x128, .f32⟩
  | 93 => ⟨S1x8192x4x128, .f32⟩
  | 94 => ⟨S_, .f32⟩
  | 95 => ⟨S1x4x128, .f32⟩
  | 96 => ⟨S1x1x4x128, .f32⟩
  | 97 => ⟨S1x8192x4x128, .f32⟩
  | 98 => ⟨S1x8192x4x128, .f32⟩
  | 99 => ⟨S_, .f32⟩
  | 100 => ⟨S4x128, .f32⟩
  | 101 => ⟨S_, .f32⟩
  | 102 => ⟨S1x4x128, .f32⟩
  | 103 => ⟨S1x1x4x128, .f32⟩
  | 104 => ⟨S_, .f32⟩
  | 105 => ⟨S4x128, .f32⟩
  | 106 => ⟨S4x128x1x8192, .f32⟩
  | 107 => ⟨S4x1x8192x128, .f32⟩
  | 108 => ⟨S1x8192x4x128, .f32⟩
  | 109 => ⟨S4x128x128, .f32⟩
  | 110 => ⟨S4x128x128, .f32⟩
  | 111 => ⟨S1x8192x4x128, .f32⟩
  | 112 => ⟨S1x8192x4x128, .f32⟩
  | 113 => ⟨S1x8192x4x128, .f32⟩
  | 114 => ⟨S1x8192x4x128, .f32⟩
  | 115 => ⟨S_, .f32⟩
  | 116 => ⟨S1x8193x4x128, .f32⟩
  | 117 => ⟨S1x8193x4x128, .f32⟩
  | 118 => ⟨S_, .f32⟩
  | 119 => ⟨S1x8193x4x128, .f32⟩
  | 120 => ⟨S1x8193x4x128, .f32⟩
  | 121 => ⟨S1x1x4x128, .f32⟩
  | 122 => ⟨S1x8192x4x128, .f32⟩
  | 123 => ⟨S_, .f32⟩
  | 124 => ⟨S_, .f32⟩
  | 125 => ⟨S1x8192x4x128, .f32⟩
  | 126 => ⟨S1x8192x4x128, .f32⟩
  | 127 => ⟨S1x8192x512, .f32⟩
  | _ => ⟨S1x8192x512, .f32⟩

abbrev hbmTy0_1 (i : Nat) : BufTy := match i % 128 with
  | 0 => ⟨S1x4x128, .f32⟩
  | 1 => ⟨S1x4x128, .f32⟩
  | 2 => ⟨S1x4x128x128, .f32⟩
  | 3 => ⟨S8192x512, .f32⟩
  | 4 => ⟨S8192x512, .bf16⟩
  | 5 => ⟨S8192x512, .f32⟩
  | 6 => ⟨S8192x512, .bf16⟩
  | 7 => ⟨S1024x1024, .f32⟩
  | 8 => ⟨S4x128x128, .f32⟩
  | 9 => ⟨S1x512, .f32⟩
  | 10 => ⟨S1x512, .f32⟩
  | _ => ⟨S1x8192x512, .f32⟩

abbrev hbmTy (i : Nat) : BufTy := match i / 128 with
  | 0 => hbmTy0_0 i
  | 1 => hbmTy0_1 i
  | _ => ⟨S1x8192x512, .f32⟩

abbrev bufTy : (tb : Table) → Fin (tcTables nBuf tb) → BufTy
  | .hbm, ⟨i, _⟩ => hbmTy i
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_call0_call0_cst : Ref sig .tc := ⟨.hbm, 13, rfl⟩
abbrev main_call0_call0_v0 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_c_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_c_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_8 : Ref sig .tc := ⟨.hbm, 50, rfl⟩
abbrev main_v31 : Ref sig .tc := ⟨.hbm, 51, rfl⟩
abbrev main_v32 : Ref sig .tc := ⟨.hbm, 52, rfl⟩
abbrev main_c_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_12 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_15 : Ref sig .tc := ⟨.hbm, 115, rfl⟩
abbrev main_v89 : Ref sig .tc := ⟨.hbm, 116, rfl⟩
abbrev main_v90 : Ref sig .tc := ⟨.hbm, 117, rfl⟩
abbrev main_cst_16 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_call1_call0_cst : Ref sig .tc := ⟨.hbm, 123, rfl⟩
abbrev main_call1_call0_v0 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩

abbrev nD : Nat := 1
abbrev τ : Topo := Topo.v7x

variable {F : FTy → Type} [FloatOps F]
-- ==== AttnFwd.lean ====
abbrev S1x8192x8x64 : Shape := ⟨4, ![1, 8192, 8, 64]⟩
abbrev S1x8192x2x64 : Shape := ⟨4, ![1, 8192, 2, 64]⟩
abbrev S1x8 : Shape := ⟨2, ![1, 8]⟩
abbrev S8192x8x64 : Shape := ⟨3, ![8192, 8, 64]⟩
abbrev S8192x512 : Shape := ⟨2, ![8192, 512]⟩
abbrev S_ : Shape := ⟨0, ![]⟩
abbrev S8192x64 : Shape := ⟨2, ![8192, 64]⟩
abbrev S1x8192x1x64 : Shape := ⟨4, ![1, 8192, 1, 64]⟩
abbrev S512x8192 : Shape := ⟨2, ![512, 8192]⟩
abbrev S8x8192 : Shape := ⟨2, ![8, 8192]⟩
abbrev S1024x512 : Shape := ⟨2, ![1024, 512]⟩
abbrev S128x512 : Shape := ⟨2, ![128, 512]⟩
abbrev S512x1024 : Shape := ⟨2, ![512, 1024]⟩
abbrev S512x128 : Shape := ⟨2, ![512, 128]⟩
abbrev S8x1024 : Shape := ⟨2, ![8, 1024]⟩
abbrev S512x256 : Shape := ⟨2, ![512, 256]⟩
abbrev S128x128 : Shape := ⟨2, ![128, 128]⟩
abbrev S256x128 : Shape := ⟨2, ![256, 128]⟩
abbrev S1x256 : Shape := ⟨2, ![1, 256]⟩
abbrev S1x1 : Shape := ⟨2, ![1, 1]⟩
abbrev S256x256 : Shape := ⟨2, ![256, 256]⟩
abbrev S128x256 : Shape := ⟨2, ![128, 256]⟩
abbrev S64x256 : Shape := ⟨2, ![64, 256]⟩
abbrev S32x256 : Shape := ⟨2, ![32, 256]⟩
abbrev S16x256 : Shape := ⟨2, ![16, 256]⟩
abbrev S8x256 : Shape := ⟨2, ![8, 256]⟩
abbrev S256 : Shape := ⟨1, ![256]⟩
abbrev S1x128 : Shape := ⟨2, ![1, 128]⟩

abbrev nBuf : Space → Nat
  | .hbm => 37
  | .vmem => 15
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S1x8, .f32⟩
  | .hbm, ⟨4, _⟩ => ⟨S8192x8x64, .f32⟩
  | .hbm, ⟨5, _⟩ => ⟨S8192x512, .f32⟩
  | .hbm, ⟨6, _⟩ => ⟨S_, .f32⟩
  | .hbm, ⟨7, _⟩ => ⟨S8192x512, .f32⟩
  | .hbm, ⟨8, _⟩ => ⟨S8192x512, .f32⟩
  | .hbm, ⟨9, _⟩ => ⟨S8192x512, .bf16⟩
  | .hbm, ⟨10, _⟩ => ⟨S_, .f32⟩
  | .hbm, ⟨11, _⟩ => ⟨S8192x64, .f32⟩
  | .hbm, ⟨12, _⟩ => ⟨S1x8192x1x64, .f32⟩
  | .hbm, ⟨13, _⟩ => ⟨S8192x64, .f32⟩
  | .hbm, ⟨14, _⟩ => ⟨S1x8192x1x64, .f32⟩
  | .hbm, ⟨15, _⟩ => ⟨S8192x64, .f32⟩
  | .hbm, ⟨16, _⟩ => ⟨S1x8192x1x64, .f32⟩
  | .hbm, ⟨17, _⟩ => ⟨S8192x64, .f32⟩
  | .hbm, ⟨18, _⟩ => ⟨S1x8192x1x64, .f32⟩
  | .hbm, ⟨19, _⟩ => ⟨S8192x64, .f32⟩
  | .hbm, ⟨20, _⟩ => ⟨S8192x512, .f32⟩
  | .hbm, ⟨21, _⟩ => ⟨S8192x512, .bf16⟩
  | .hbm, ⟨22, _⟩ => ⟨S_, .f32⟩
  | .hbm, ⟨23, _⟩ => ⟨S8192x64, .f32⟩
  | .hbm, ⟨24, _⟩ => ⟨S1x8192x1x64, .f32⟩
  | .hbm, ⟨25, _⟩ => ⟨S8192x64, .f32⟩
  | .hbm, ⟨26, _⟩ => ⟨S1x8192x1x64, .f32⟩
  | .hbm, ⟨27, _⟩ => ⟨S8192x64, .f32⟩
  | .hbm, ⟨28, _⟩ => ⟨S1x8192x1x64, .f32⟩
  | .hbm, ⟨29, _⟩ => ⟨S8192x64, .f32⟩
  | .hbm, ⟨30, _⟩ => ⟨S1x8192x1x64, .f32⟩
  | .hbm, ⟨31, _⟩ => ⟨S8192x64, .f32⟩
  | .hbm, ⟨32, _⟩ => ⟨S8192x512, .f32⟩
  | .hbm, ⟨33, _⟩ => ⟨S8192x512, .bf16⟩
  | .hbm, ⟨34, _⟩ => ⟨S512x8192, .bf16⟩
  | .hbm, ⟨35, _⟩ => ⟨S8192x512, .bf16⟩
  | .hbm, ⟨36, _⟩ => ⟨S8x8192, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S128x512, .bf16⟩
  | .local _ .vmem, ⟨5, _⟩ => ⟨S128x512, .bf16⟩
  | .local _ .vmem, ⟨6, _⟩ => ⟨S512x1024, .bf16⟩
  | .local _ .vmem, ⟨7, _⟩ => ⟨S512x1024, .bf16⟩
  | .local _ .vmem, ⟨8, _⟩ => ⟨S512x128, .bf16⟩
  | .local _ .vmem, ⟨9, _⟩ => ⟨S512x128, .bf16⟩
  | .local _ .vmem, ⟨10, _⟩ => ⟨S1x8, .f32⟩
  | .local _ .vmem, ⟨11, _⟩ => ⟨S1024x512, .bf16⟩
  | .local _ .vmem, ⟨12, _⟩ => ⟨S1024x512, .bf16⟩
  | .local _ .vmem, ⟨13, _⟩ => ⟨S8x1024, .f32⟩
  | .local _ .vmem, ⟨14, _⟩ => ⟨S8x1024, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28_0 : Ref sig .tc := ⟨.hbm, 35, rfl⟩
abbrev main_v28_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c8_i32 : BitVec 32 := 8#32
  let v0 : BitVec 32 := Scalar.muli c8_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnFwdRefIdeal.lean ====
abbrev S1x8192x8x64 : Shape := ⟨4, ![1, 8192, 8, 64]⟩
abbrev S1x8192x2x64 : Shape := ⟨4, ![1, 8192, 2, 64]⟩
abbrev S1x8 : Shape := ⟨2, ![1, 8]⟩
abbrev S8 : Shape := ⟨1, ![8]⟩
abbrev S1x64x128x2x4x64 : Shape := ⟨6, ![1, 64, 128, 2, 4, 64]⟩
abbrev S1x64x128x2x64 : Shape := ⟨5, ![1, 64, 128, 2, 64]⟩
abbrev S_ : Shape := ⟨0, ![]⟩
abbrev S1x1x128x2x64 : Shape := ⟨5, ![1, 1, 128, 2, 64]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S64x2x4x128 : Shape := ⟨4, ![64, 2, 4, 128]⟩
abbrev S2x4x64x128 : Shape := ⟨4, ![2, 4, 64, 128]⟩
abbrev S8x8192 : Shape := ⟨2, ![8, 8192]⟩
abbrev S8192x512 : Shape := ⟨2, ![8192, 512]⟩

abbrev nBuf : Space → Nat
  | .hbm => 93
  | .vmem => 0
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S1x8192x2x64, .f32⟩
  | .hbm, ⟨3, _⟩ => ⟨S1x8, .f32⟩
  | .hbm, ⟨4, _⟩ => ⟨S8, .f32⟩
  | .hbm, ⟨5, _⟩ => ⟨S1x64x128x2x4x64, .f32⟩
  | .hbm, ⟨6, _⟩ => ⟨S1x64x128x2x64, .f32⟩
  | .hbm, ⟨7, _⟩ => ⟨S_, .f32⟩
  | .hbm, ⟨8, _⟩ => ⟨S1x1x128x2x64, .f32⟩
  | .hbm, ⟨9, _⟩ => ⟨S1x63x128x2x64, .f32⟩
  | .hbm, ⟨10, _⟩ => ⟨S1x64x128x2x64, .f32⟩
  | .hbm, ⟨11, _⟩ => ⟨S1x64x256x2x64, .f32⟩
  | .hbm, ⟨12, _⟩ => ⟨S1x64x2x256x128x4, .f32⟩
  | .hbm, ⟨13, _⟩ => ⟨S1x64x2x4x128x256, .f32⟩
  | .hbm, ⟨14, _⟩ => ⟨S_, .f32⟩
  | .hbm, ⟨15, _⟩ => ⟨S1x64x2x4x128x256, .f32⟩
  | .hbm, ⟨16, _⟩ => ⟨S1x64x2x4x128x256, .f32⟩
  | .hbm, ⟨17, _⟩ => ⟨S128, .i32⟩
  | .hbm, ⟨18, _⟩ => ⟨S128x1, .i32⟩
  | .hbm, ⟨19, _⟩ => ⟨S_, .i32⟩
  | .hbm, ⟨20, _⟩ => ⟨S128x1, .i32⟩
  | .hbm, ⟨21, _⟩ => ⟨S128x1, .i32⟩
  | .hbm, ⟨22, _⟩ => ⟨S256, .i32⟩
  | .hbm, ⟨23, _⟩ => ⟨S1x256, .i32⟩
  | .hbm, ⟨24, _⟩ => ⟨S128x256, .i32⟩
  | .hbm, ⟨25, _⟩ => ⟨S128x256, .i32⟩
  | .hbm, ⟨26, _⟩ => ⟨S128x256, .i32⟩
  | .hbm, ⟨27, _⟩ => ⟨S_, .i32⟩
  | .hbm, ⟨28, _⟩ => ⟨S128x256, .i32⟩
  | .hbm, ⟨29, _⟩ => ⟨S128x256, .i1⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S128x256, .i1⟩
  | .hbm, ⟨34, _⟩ => ⟨S64, .i32⟩
  | .hbm, ⟨35, _⟩ => ⟨S64x1, .i32⟩
  | .hbm, ⟨36, _⟩ => ⟨S_, .i32⟩
  | .hbm, ⟨37, _⟩ => ⟨S64x1, .i32⟩
  | .hbm, ⟨38, _⟩ => ⟨S64x1, .i32⟩
  | .hbm, ⟨39, _⟩ => ⟨S64x256, .i32⟩
  | .hbm, ⟨40, _⟩ => ⟨S64x256, .i32⟩
  | .hbm, ⟨41, _⟩ => ⟨S64x256, .i32⟩
  | .hbm, ⟨42, _⟩ => ⟨S_, .i32⟩
  | .hbm, ⟨43, _⟩ => ⟨S64x256, .i32⟩
  | .hbm, ⟨44, _⟩ => ⟨S64x256, .i32⟩
  | .hbm, ⟨45, _⟩ => ⟨S1x128x256, .i1⟩
  | .hbm, ⟨46, _⟩ => ⟨S_, .i32⟩
  | .hbm, ⟨47, _⟩ => ⟨S64x256, .i32⟩
  | .hbm, ⟨48, _⟩ => ⟨S64x256, .i1⟩
  | .hbm, ⟨49, _⟩ => ⟨S64x1x256, .i1⟩
  | .hbm, ⟨50, _⟩ => ⟨S64x128x256, .i1⟩
  | .hbm, ⟨51, _⟩ => ⟨S64x128x256, .i1⟩
  | .hbm, ⟨52, _⟩ => ⟨S64x128x256, .i1⟩
  | .hbm, ⟨53, _⟩ => ⟨S1x64x1x1x128x256, .i1⟩
  | .hbm, ⟨54, _⟩ => ⟨S_, .f32⟩
  | .hbm, ⟨55, _⟩ => ⟨S_, .f32⟩
  | .hbm, ⟨56, _⟩ => ⟨S1x64x2x4x128x256, .i1⟩
  | .hbm, ⟨57, _⟩ => ⟨S1x64x2x4x128x256, .f32⟩
  | .hbm, ⟨58, _⟩ => ⟨S1x64x2x4x128x256, .f32⟩
  | .hbm, ⟨59, _⟩ => ⟨S2x4, .f32⟩
  | .hbm, ⟨60, _⟩ => ⟨S1x1x2x4x1x1, .f32⟩
  | .hbm, ⟨61, _⟩ => ⟨S_, .f32⟩
  | .hbm, ⟨62, _⟩ => ⟨S1x64x2x4x128, .f32⟩
  | .hbm, ⟨63, _⟩ => ⟨S1x64x2x4x128x1, .f32⟩
  | .hbm, ⟨64, _⟩ => ⟨S1x64x2x4x128x1, .f32⟩
  | .hbm, ⟨65, _⟩ => ⟨S1x64x2x4x128x1, .f32⟩
  | .hbm, ⟨66, _⟩ => ⟨S1x64x2x4x128x256, .f32⟩
  | .hbm, ⟨67, _⟩ => ⟨S1x64x2x4x128x256, .f32⟩
  | .hbm, ⟨68, _⟩ => ⟨S1x64x2x4x128x256, .f32⟩
  | .hbm, ⟨69, _⟩ => ⟨S_, .f32⟩
  | .hbm, ⟨70, _⟩ => ⟨S1x64x2x4x128, .f32⟩
  | .hbm, ⟨71, _⟩ => ⟨S1x64x2x4x128x1, .f32⟩
  | .hbm, ⟨72, _⟩ => ⟨S1x64x2x4x128x1, .f32⟩
  | .hbm, ⟨73, _⟩ => ⟨S1x64x2x4x128x1, .f32⟩
  | .hbm, ⟨74, _⟩ => ⟨S1x64x2x4x128x1, .f32⟩
  | .hbm, ⟨75, _⟩ => ⟨S1x64x2x4x128x1, .f32⟩
  | .hbm, ⟨76, _⟩ => ⟨S1x64x2x4x128x256, .f32⟩
  | .hbm, ⟨77, _⟩ => ⟨S1x64x2x4x128x256, .f32⟩
  | .hbm, ⟨78, _⟩ => ⟨S1x64x128x2x64, .f32⟩
  | .hbm, ⟨79, _⟩ => ⟨S_, .f32⟩
  | .hbm, ⟨80, _⟩ => ⟨S1x1x128x2x64, .f32⟩
  | .hbm, ⟨81, _⟩ => ⟨S1x63x128x2x64, .f32⟩
  | .hbm, ⟨82, _⟩ => ⟨S1x64x128x2x64, .f32⟩
  | .hbm, ⟨83, _⟩ => ⟨S1x64x256x2x64, .f32⟩
  | .hbm, ⟨84, _⟩ => ⟨S1x64x2x64x4x128, .f32⟩
  | .hbm, ⟨85, _⟩ => ⟨S1x64x128x2x4x64, .f32⟩
  | .hbm, ⟨86, _⟩ => ⟨S1x64x2x4x128x1, .f32⟩
  | .hbm, ⟨87, _⟩ => ⟨S1x64x2x4x128x1, .f32⟩
  | .hbm, ⟨88, _⟩ => ⟨S64x2x4x128, .f32⟩
  | .hbm, ⟨89, _⟩ => ⟨S2x4x64x128, .f32⟩
  | .hbm, ⟨90, _⟩ => ⟨S8x8192, .f32⟩
  | .hbm, ⟨91, _⟩ => ⟨S8192x512, .f32⟩
  | .hbm, ⟨92, _⟩ => ⟨S8192x512, .bf16⟩
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Proof.Inproj.Block.lean ====
/- What one grid point of the input-projection backward kernel computes, from the ten input blocks it is given: the rows of the gradient
   of the projection's result, the gradient of the normalised input, and the terms added to the three accumulated gradients. -/
module

public import proofs.«01_k».proof.Proof.Gen.InprojBwdIdeal.Value
public import Idealize.ShloMosaic.Lib.Pipeline.ValueKit
public import Idealize.ShloMosaic.Lib.Pipeline.ReadBack

@[expose] public section

set_option maxRecDepth 16384

noncomputable section

namespace Cert.InprojBwdIdeal.Block

open Cert.InprojBwdIdeal Cert.InprojBwdIdeal.Gen Idealize.ShloMosaic Idealize.ShloMosaic.TcCoe Idealize.SL.Sem

/-- The lane test of the rotation: the lane modulo 64 is below 32. -/
theorem lane_test : ∀ l : Fin 512, IntOp.cmpi CmpIPredicate.slt
          (Scalar.select
            (IntOp.andi
              (IntOp.xori (IntOp.cmpi CmpIPredicate.slt (IntOp.remsi ArithUnit.vector (BitVec.ofNat 32 l.val) 64#32) 0#32)
                (Scalar.cmpi CmpIPredicate.slt 64#32 0#32))
              (IntOp.cmpi CmpIPredicate.ne (IntOp.remsi ArithUnit.vector (BitVec.ofNat 32 l.val) 64#32) 0#32))
            (IntOp.addi (IntOp.remsi ArithUnit.vector (BitVec.ofNat 32 l.val) 64#32) 64#32)
            (IntOp.remsi ArithUnit.vector (BitVec.ofNat 32 l.val) 64#32))
          32#32 = if l.val % 64 < 32 then 1#1 else 0#1 := by
  decide +kernel

/-- The divisor the kernel selects (64, were it not 0). -/
theorem divisor : Scalar.select (Scalar.cmpi CmpIPredicate.eq 64#32 0#32) 1#32 64#32 = 64#32 := by decide +kernel

/-- A selection by a bit that was decided by a proposition. -/
theorem select_if {α : Type} (P : Prop) [Decidable P] (a b : α) :
    Scalar.select (if P then 1#1 else 0#1) a b = if P then a else b := by
  by_cases h : P <;> simp [h, Scalar.select]

/-- A sum over 512 rows is the sum over its two halves. -/
theorem sum_halves (f : Fin 512 → EReal) :
    ∑ p, f p = ∑ r : Fin 256, f ⟨r.val, by omega⟩ + ∑ r : Fin 256, f ⟨256 + r.val, by omega⟩ :=
  Fin.sum_univ_add (a := 256) (b := 256) f

section
variable (x0 : Vec Ideal S512x512 .f32) (x1 x2 : Vec Ideal S512x128 .f32) (x3 : Vec Ideal S512x512 .bf16)
  (x4 : Vec Ideal S4x512x128 .f32) (x5 : Vec Ideal S1x2x128 .f32) (x6 : Vec Ideal S1280x1024 .bf16)
  (x7 : Vec Ideal S512x1024 .f32) (x8 : Vec Ideal S1x1024 .f32) (x9 : Vec Ideal S512x1024 .f32)

/-- The cosine table of the tile: the cosine of (place in the tile + start of the tile) by the addition formula. -/
def cosB (p : Fin 512) (l : Fin 128) : EReal := x4 (ix3 0 p l) * x5 (ix3 0 0 l) - x4 (ix3 1 p l) * x5 (ix3 0 1 l)
/-- The signed sine table of the tile. -/
def sinB (p : Fin 512) (l : Fin 128) : EReal := x4 (ix3 2 p l) * x5 (ix3 0 0 l) + x4 (ix3 3 p l) * x5 (ix3 0 1 l)

/-- The gradient of a rotated row: `d * cos` plus `d * sin` with the two halves of every 64 lanes exchanged. -/
def unrotB {n : Nat} (d : Fin n → EReal) (cs sn : Fin 128 → EReal) (hn : n % 64 = 0) (j : Fin n) : EReal :=
  d j * cs ⟨j.val % 128, Nat.mod_lt _ (by omega)⟩ +
    if h : j.val % 64 < 32 then d ⟨j.val + 32, by omega⟩ * sn ⟨(j.val + 32) % 128, Nat.mod_lt _ (by omega)⟩
    else d ⟨j.val - 32, by omega⟩ * sn ⟨(j.val - 32) % 128, Nat.mod_lt _ (by omega)⟩

/-- The gradient of the projection's result, row `p` of the tile. -/
def dzB (p : Fin 512) (j : Fin 1280) : EReal :=
  if h : j.val < 512 then unrotB (fun k : Fin 512 => x0 (ix2 p k)) (cosB x4 x5 p) (sinB x4 x5 p) (by decide) ⟨j.val, h⟩
  else if h' : j.val < 640 then unrotB (fun k : Fin 128 => x1 (ix2 p k)) (cosB x4 x5 p) (sinB x4 x5 p) (by decide) ⟨j.val - 512, by omega⟩
  else if h'' : j.val < 768 then x2 (ix2 p ⟨j.val - 640, by omega⟩)
  else x3 (ix2 p ⟨j.val - 768, by omega⟩)

/-- The first half's rows as the kernel computes them. -/
def zlo : FVec Ideal S256x1280 .f32 :=
  k0_pay18
    (k0_pay13
      (k0_pay11 x5 (View.ld x4 (Rect.unit ![0, 0, 0] ![1, 512, 128] inb_S4x512x128_S1x512x128_0_0_0))
        (View.ld x4 (Rect.unit ![1, 0, 0] ![1, 512, 128] inb_S4x512x128_S1x512x128_1_0_0))
        (View.ld x0 (Rect.unit ![0, 0] ![256, 512] inb_S512x512_S256x512_0_0)))
      (k0_pay12 x5 (View.ld x4 (Rect.unit ![2, 0, 0] ![1, 512, 128] inb_S4x512x128_S1x512x128_2_0_0))
        (View.ld x4 (Rect.unit ![3, 0, 0] ![1, 512, 128] inb_S4x512x128_S1x512x128_3_0_0))
        (View.ld x0 (Rect.unit ![0, 0] ![256, 512] inb_S512x512_S256x512_0_0)))
      (iota Kind.tc S256x512 32 [1] iota_S256x512_d1_w32) 64#32 0#1)
    (k0_pay14
      (k0_pay9 x5 (View.ld x4 (Rect.unit ![0, 0, 0] ![1, 512, 128] inb_S4x512x128_S1x512x128_0_0_0))
        (View.ld x4 (Rect.unit ![1, 0, 0] ![1, 512, 128] inb_S4x512x128_S1x512x128_1_0_0)))
      (View.ld x1 (Rect.unit ![0, 0] ![256, 128] inb_S512x128_S256x128_0_0)))
    (k0_pay15
      (k0_pay10 x5 (View.ld x4 (Rect.unit ![2, 0, 0] ![1, 512, 128] inb_S4x512x128_S1x512x128_2_0_0))
        (View.ld x4 (Rect.unit ![3, 0, 0] ![1, 512, 128] inb_S4x512x128_S1x512x128_3_0_0)))
      (View.ld x1 (Rect.unit ![0, 0] ![256, 128] inb_S512x128_S256x128_0_0)))
    k0_pay16 k0_pay17 (View.ld x2 (Rect.unit ![0, 0] ![256, 128] inb_S512x128_S256x128_0_0))
    (View.ld x3 (Rect.unit ![0, 0] ![256, 512] inb_S512x512_S256x512_0_0))

/-- The second half's rows as the kernel computes them. -/
def zhi : FVec Ideal S256x1280 .f32 :=
  k0_pay35
    (k0_pay28 (View.ld x0 (Rect.unit ![256, 0] ![256, 512] inb_S512x512_S256x512_256_0))
      (k0_pay26
        (k0_pay10 x5 (View.ld x4 (Rect.unit ![2, 0, 0] ![1, 512, 128] inb_S4x512x128_S1x512x128_2_0_0))
          (View.ld x4 (Rect.unit ![3, 0, 0] ![1, 512, 128] inb_S4x512x128_S1x512x128_3_0_0))))
      (k0_pay27
        (k0_pay9 x5 (View.ld x4 (Rect.unit ![0, 0, 0] ![1, 512, 128] inb_S4x512x128_S1x512x128_0_0_0))
          (View.ld x4 (Rect.unit ![1, 0, 0] ![1, 512, 128] inb_S4x512x128_S1x512x128_1_0_0)))))
    (k0_pay29
      (k0_pay9 x5 (View.ld x4 (Rect.unit ![0, 0, 0] ![1, 512, 128] inb_S4x512x128_S1x512x128_0_0_0))
        (View.ld x4 (Rect.unit ![1, 0, 0] ![1, 512, 128] inb_S4x512x128_S1x512x128_1_0_0)))
      (View.ld x1 (Rect.unit ![256, 0] ![256, 128] inb_S512x128_S256x128_256_0)))
    (k0_pay30
      (k0_pay10 x5 (View.ld x4 (Rect.unit ![2, 0, 0] ![1, 512, 128] inb_S4x512x128_S1x512x128_2_0_0))
        (View.ld x4 (Rect.unit ![3, 0, 0] ![1, 512, 128] inb_S4x512x128_S1x512x128_3_0_0)))
      (View.ld x1 (Rect.unit ![256, 0] ![256, 128] inb_S512x128_S256x128_256_0)))
    (64#32) k0_pay31 k0_pay32 k0_pay33 k0_pay34
    (View.ld x2 (Rect.unit ![256, 0] ![256, 128] inb_S512x128_S256x128_256_0))
    (View.ld x3 (Rect.unit ![256, 0] ![256, 512] inb_S512x512_S256x512_256_0))

/-- Four copies of a 128-lane array side by side, at a lane. -/
theorem tile4_apply (v : FVec Ideal S256x128 .f32) (h) (r : Fin 256) (j : Fin 512) :
    concatenate S256x512 1 [⟨S256x128, v⟩, ⟨S256x128, v⟩, ⟨S256x128, v⟩, ⟨S256x128, v⟩] h (ix2 r j)
      = v (ix2 r ⟨j.val % 128, Nat.mod_lt _ (by decide)⟩) := by
  pointwise
  split_ifs <;> (congr 2; apply Fin.ext; show _ = j.val % 128; simp only; omega)

theorem cos_apply (p : Fin 512) (l : Fin 128) :
    k0_pay9 x5 (View.ld x4 (Rect.unit ![0, 0, 0] ![1, 512, 128] inb_S4x512x128_S1x512x128_0_0_0))
      (View.ld x4 (Rect.unit ![1, 0, 0] ![1, 512, 128] inb_S4x512x128_S1x512x128_1_0_0)) (ix2 p l) = cosB x4 x5 p l := by
  pointwise [k0_pay9, k0_pay6, k0_pay7, k0_pay8, cosB]

theorem sin_apply (p : Fin 512) (l : Fin 128) :
    k0_pay10 x5 (View.ld x4 (Rect.unit ![2, 0, 0] ![1, 512, 128] inb_S4x512x128_S1x512x128_2_0_0))
      (View.ld x4 (Rect.unit ![3, 0, 0] ![1, 512, 128] inb_S4x512x128_S1x512x128_3_0_0)) (ix2 p l) = sinB x4 x5 p l := by
  pointwise [k0_pay10, k0_pay6, k0_pay7, k0_pay8, sinB]

/-- The products with the cosine and sine tables of the first half, at an index. -/
theorem pay11_apply (v3 v7 v11 v26) (r : Fin 256) (j : Fin 512) : k0_pay11 (F := Ideal) v3 v7 v11 v26 (ix2 r j)
    = v26 (ix2 r j) * k0_pay9 v3 v7 v11 (ix2 ⟨r.val, by omega⟩ ⟨j.val % 128, Nat.mod_lt _ (by decide)⟩) := by
  unfold k0_pay11
  rw [mulf_apply, tile4_apply]
  pointwise

theorem pay12_apply (v3 v7 v11 v26) (r : Fin 256) (j : Fin 512) : k0_pay12 (F := Ideal) v3 v7 v11 v26 (ix2 r j)
    = v26 (ix2 r j) * k0_pay10 v3 v7 v11 (ix2 ⟨r.val, by omega⟩ ⟨j.val % 128, Nat.mod_lt _ (by decide)⟩) := by
  unfold k0_pay12
  rw [mulf_apply, tile4_apply]
  pointwise

/-- Lanes exchanged by halves of 64, as the two rotations give them. -/
def swapHalf {n : Nat} (d : Fin n → EReal) (hn : n % 64 = 0) (j : Fin n) : EReal :=
  if h : j.val % 64 < 32 then d ⟨j.val + 32, by omega⟩ else d ⟨j.val - 32, by omega⟩

theorem swap_eq {n k : Nat} (d : Fin n → EReal) (hn : n % 64 = 0) (hk : n = k + 32) (j : Fin n) (h1 h2) :
    (if j.val % 64 < 32 then d ⟨(j.val + n - k) % n, h1⟩ else d ⟨(j.val + n - 32) % n, h2⟩) = swapHalf d hn j := by
  unfold swapHalf
  have hj := j.isLt
  have e1 : j.val % 64 < 32 → (j.val + n - k) % n = j.val + 32 := fun h => by
    rw [Nat.mod_eq_of_lt] <;> omega
  have e2 : ¬ j.val % 64 < 32 → (j.val + n - 32) % n = j.val - 32 := fun h => by
    have : j.val + n - 32 = (j.val - 32) + n := by omega
    rw [this, Nat.add_mod_right, Nat.mod_eq_of_lt]; omega
  split_ifs with h
  · congr 1; exact Fin.ext (e1 h)
  · congr 1; exact Fin.ext (e2 h)

theorem pay13_apply (a b : FVec Ideal S256x512 .f32) (r : Fin 256) (j : Fin 512) :
    k0_pay13 a b (iota Kind.tc S256x512 32 [1] iota_S256x512_d1_w32) 64#32 0#1 (ix2 r j)
      = a (ix2 r j) + swapHalf (fun k : Fin 512 => b (ix2 r k)) (by decide) j := by
  pointwise [k0_pay13]
  rw [lane_test, select_if]
  exact congrArg _ (swap_eq (fun k : Fin 512 => b (ix2 r k)) (by decide) (k := 480) rfl j _ _)

theorem pay18_apply (a : FVec Ideal S256x512 .f32) (b d e : FVec Ideal S256x128 .f32) (f : FVec Ideal S256x512 .bf16)
    (r : Fin 256) (j : Fin 1280) :
    k0_pay18 a b d k0_pay16 k0_pay17 e f (ix2 r j)
      = if h : j.val < 512 then a (ix2 r ⟨j.val, h⟩)
        else if h' : j.val < 640 then b (ix2 r ⟨j.val - 512, by omega⟩) + swapHalf (fun k : Fin 128 => d (ix2 r k)) (by decide) ⟨j.val - 512, by omega⟩
        else if h'' : j.val < 768 then e (ix2 r ⟨j.val - 640, by omega⟩) else f (ix2 r ⟨j.val - 768, by omega⟩) := by
  pointwise [k0_pay18, k0_pay16, k0_pay17]
  simp only [divisor]
  by_cases h : j.val < 512
  · simp only [h, dite_true]
  by_cases h' : j.val < 640
  · have e1 : j.val - 512 < 128 := by omega
    simp only [h, h', e1, dite_true, dite_false]
    rw [lane_test ⟨j.val - 512, by omega⟩, select_if]
    exact congrArg _ (swap_eq (fun k : Fin 128 => d (ix2 r k)) (by decide) (k := 96) rfl ⟨j.val - 512, by omega⟩ _ _)
  have e1 : ¬ j.val - 512 < 128 := by omega
  by_cases h'' : j.val < 768
  · have e2 : j.val - 512 - 128 < 128 := by omega
    simp only [h, h', h'', e1, e2, dite_true, dite_false]
    congr 3
  · have e2 : ¬ j.val - 512 - 128 < 128 := by omega
    simp only [h, h', h'', e1, e2, dite_false]
    congr 3

theorem pay28_apply (v : FVec Ideal S256x512 .f32) (s c : _) (r : Fin 256) (j : Fin 512) :
    k0_pay28 (F := Ideal) v (k0_pay26 s) (k0_pay27 c) (ix2 r j)
      = v (ix2 r j) * c (ix2 ⟨256 + r.val, by omega⟩ ⟨j.val % 128, Nat.mod_lt _ (by decide)⟩)
        + swapHalf (fun k : Fin 512 => v (ix2 r k) * s (ix2 ⟨256 + r.val, by omega⟩ ⟨k.val % 128, Nat.mod_lt _ (by decide)⟩)) (by decide) j := by
  have hc : ∀ j : Fin 512, k0_pay27 c (ix2 r j) = c (ix2 ⟨256 + r.val, by omega⟩ ⟨j.val % 128, Nat.mod_lt _ (by decide)⟩) := fun j => by
    unfold k0_pay27; rw [tile4_apply]; pointwise
  unfold k0_pay28
  have hs : ∀ (hh) (j : Fin 512), concatenate S256x512 1 [⟨S256x128, k0_pay26 s⟩, ⟨S256x128, k0_pay26 s⟩, ⟨S256x128, k0_pay26 s⟩, ⟨S256x128, k0_pay26 s⟩] hh (ix2 r j)
      = s (ix2 ⟨256 + r.val, by omega⟩ ⟨j.val % 128, Nat.mod_lt _ (by decide)⟩) := fun hh j => by
    rw [tile4_apply]; pointwise [k0_pay26]
  generalize hcc : concatenate S256x512 1 [⟨S256x128, k0_pay26 s⟩, ⟨S256x128, k0_pay26 s⟩, ⟨S256x128, k0_pay26 s⟩, ⟨S256x128, k0_pay26 s⟩] _ = w
  pointwise
  simp only [divisor]
  rw [lane_test, select_if, hc]
  subst hcc
  simp only [hs]
  exact congrArg _ (swap_eq (fun k : Fin 512 => v (ix2 r k) * s (ix2 ⟨256 + r.val, by omega⟩ ⟨k.val % 128, Nat.mod_lt _ (by decide)⟩)) (by decide) (k := 480) rfl j _ _)

theorem pay35_apply (a : FVec Ideal S256x512 .f32) (b d e : FVec Ideal S256x128 .f32) (f : FVec Ideal S256x512 .bf16)
    (r : Fin 256) (j : Fin 1280) :
    k0_pay35 a b d 64#32 k0_pay31 k0_pay32 k0_pay33 k0_pay34 e f (ix2 r j)
      = if h : j.val < 512 then a (ix2 r ⟨j.val, h⟩)
        else if h' : j.val < 640 then b (ix2 r ⟨j.val - 512, by omega⟩) + swapHalf (fun k : Fin 128 => d (ix2 r k)) (by decide) ⟨j.val - 512, by omega⟩
        else if h'' : j.val < 768 then e (ix2 r ⟨j.val - 640, by omega⟩) else f (ix2 r ⟨j.val - 768, by omega⟩) := by
  pointwise [k0_pay35, k0_pay31, k0_pay32, k0_pay33, k0_pay34]
  simp only [divisor]
  by_cases h : j.val < 512
  · simp only [h, dite_true]
  by_cases h' : j.val < 640
  · have e1 : j.val - 512 < 128 := by omega
    simp only [h, h', e1, dite_true, dite_false]
    rw [lane_test ⟨j.val - 512, by omega⟩, select_if]
    exact congrArg _ (swap_eq (fun k : Fin 128 => d (ix2 r k)) (by decide) (k := 96) rfl ⟨j.val - 512, by omega⟩ _ _)
  have e1 : ¬ j.val - 512 < 128 := by omega
  by_cases h'' : j.val < 768
  · have e2 : j.val - 512 - 128 < 128 := by omega
    simp only [h, h', h'', e1, e2, dite_true, dite_false]
    congr 3
  · have e2 : ¬ j.val - 512 - 128 < 128 := by omega
    simp only [h, h', h'', e1, e2, dite_false]
    congr 3

theorem unrotB_eq {n : Nat} (d : Fin n → EReal) (cs sn : Fin 128 → EReal) (hn : n % 64 = 0) (j : Fin n) :
    unrotB d cs sn hn j = d j * cs ⟨j.val % 128, Nat.mod_lt _ (by omega)⟩
      + swapHalf (fun k => d k * sn ⟨k.val % 128, Nat.mod_lt _ (by omega)⟩) hn j := rfl

/-- A lane of 128 is its own remainder. -/
theorem mod_lane (k : Fin 128) (h) : (⟨k.val % 128, h⟩ : Fin 128) = k := Fin.ext (Nat.mod_eq_of_lt k.isLt)

theorem mod_lane' (k : Nat) (h : k < 128) (h') : (⟨k % 128, h'⟩ : Fin 128) = ⟨k, h⟩ := Fin.ext (Nat.mod_eq_of_lt h)

theorem zlo_apply (r : Fin 256) (j : Fin 1280) : zlo x0 x1 x2 x3 x4 x5 (ix2 r j) = dzB x0 x1 x2 x3 x4 x5 ⟨r.val, by omega⟩ j := by
  unfold zlo dzB
  rw [pay18_apply]
  by_cases h : j.val < 512
  · rw [dif_pos h, dif_pos h, pay13_apply]
    simp only [pay11_apply, pay12_apply, cos_apply, sin_apply, unrotB_eq]
    pointwise
  by_cases h' : j.val < 640
  · rw [dif_neg h, dif_pos h', dif_neg h, dif_pos h']
    simp only [unrotB_eq, mod_lane, mod_lane' (j.val - 512) (by omega)]
    pointwise [k0_pay14, k0_pay15, cos_apply, sin_apply]
  rw [dif_neg h, dif_neg h', dif_neg h, dif_neg h']
  pointwise

theorem zhi_apply (r : Fin 256) (j : Fin 1280) : zhi x0 x1 x2 x3 x4 x5 (ix2 r j) = dzB x0 x1 x2 x3 x4 x5 ⟨256 + r.val, by omega⟩ j := by
  unfold zhi dzB
  rw [pay35_apply]
  by_cases h : j.val < 512
  · rw [dif_pos h, dif_pos h]
    simp only [pay28_apply, cos_apply, sin_apply, unrotB_eq]
    pointwise
  by_cases h' : j.val < 640
  · rw [dif_neg h, dif_pos h', dif_neg h, dif_pos h']
    simp only [unrotB_eq, mod_lane, mod_lane' (j.val - 512) (by omega)]
    pointwise [k0_pay29, k0_pay30, cos_apply, sin_apply]
  rw [dif_neg h, dif_neg h', dif_neg h, dif_neg h']
  pointwise

/-! ## The normalisation and the products -/

/-- The reciprocal root of row `p`'s mean square. -/
def rB (p : Fin 512) : EReal :=
  Ideal.rsqrt (Ideal.div (∑ x : Fin 1024, x7 (ix2 p x) * x7 (ix2 p x)) (Ideal.ofBits FTy.f32 1149239296#32) + Ideal.ofBits FTy.f32 925353388#32)

/-- The gradient of the normalised and scaled input: the row of `dz` times the transposed weights. -/
def dhB (p : Fin 512) (k : Fin 1024) : EReal := ∑ j : Fin 1280, dzB x0 x1 x2 x3 x4 x5 p j * x6 (ix2 j k)

/-- The normalised row. -/
def nB (p : Fin 512) (k : Fin 1024) : EReal := x7 (ix2 p k) * rB x7 p

/-- The input's gradient, row `p` of the tile. -/
def dxB (p : Fin 512) (k : Fin 1024) : EReal :=
  x9 (ix2 p k) + rB x7 p * (dhB x0 x1 x2 x3 x4 x5 x6 p k * x8 (ix2 0 k)
    - nB x7 p k * Ideal.div (∑ i : Fin 1024, dhB x0 x1 x2 x3 x4 x5 x6 p i * x8 (ix2 0 i) * nB x7 p i) (Ideal.ofBits FTy.f32 1149239296#32))

variable (m : (ℓ : Loc nD τ sig) → Buf (Elt Ideal) ℓ)

theorem r22_apply (r : Fin 256) (z) : k0_pay22 (View.ld x7 (Rect.unit ![0, 0] ![256, 1024] inb_S512x1024_S256x1024_0_0)) (ix2 r z) = rB x7 ⟨r.val, by omega⟩ := by
  pointwise [k0_pay22, k0_pay21, rB]
theorem n23_apply (r : Fin 256) (k : Fin 1024) : k0_pay23 (View.ld x7 (Rect.unit ![0, 0] ![256, 1024] inb_S512x1024_S256x1024_0_0)) (ix2 r k) = nB x7 ⟨r.val, by omega⟩ k := by
  pointwise [k0_pay23, r22_apply, k0_pay21, nB]
theorem r39_apply (r : Fin 256) (z) : k0_pay39 (View.ld x7 (Rect.unit ![256, 0] ![256, 1024] inb_S512x1024_S256x1024_256_0)) (ix2 r z) = rB x7 ⟨256 + r.val, by omega⟩ := by
  pointwise [k0_pay39, k0_pay38, rB]
theorem n40_apply (r : Fin 256) (k : Fin 1024) : k0_pay40 (View.ld x7 (Rect.unit ![256, 0] ![256, 1024] inb_S512x1024_S256x1024_256_0)) (ix2 r k) = nB x7 ⟨256 + r.val, by omega⟩ k := by
  pointwise [k0_pay40, r39_apply, k0_pay38, nB]

/-- The first half's rows times the transposed weights. -/
def dlo : FVec Ideal S256x1024 .f32 :=
  k0_pay25
    (k0_pay13
      (k0_pay11 x5 (View.ld x4 (Rect.unit ![0, 0, 0] ![1, 512, 128] inb_S4x512x128_S1x512x128_0_0_0))
        (View.ld x4 (Rect.unit ![1, 0, 0] ![1, 512, 128] inb_S4x512x128_S1x512x128_1_0_0))
        (View.ld x0 (Rect.unit ![0, 0] ![256, 512] inb_S512x512_S256x512_0_0)))
      (k0_pay12 x5 (View.ld x4 (Rect.unit ![2, 0, 0] ![1, 512, 128] inb_S4x512x128_S1x512x128_2_0_0))
        (View.ld x4 (Rect.unit ![3, 0, 0] ![1, 512, 128] inb_S4x512x128_S1x512x128_3_0_0))
        (View.ld x0 (Rect.unit ![0, 0] ![256, 512] inb_S512x512_S256x512_0_0)))
      (iota Kind.tc S256x512 32 [1] iota_S256x512_d1_w32) 64#32 0#1)
    (k0_pay14
      (k0_pay9 x5 (View.ld x4 (Rect.unit ![0, 0, 0] ![1, 512, 128] inb_S4x512x128_S1x512x128_0_0_0))
        (View.ld x4 (Rect.unit ![1, 0, 0] ![1, 512, 128] inb_S4x512x128_S1x512x128_1_0_0)))
      (View.ld x1 (Rect.unit ![0, 0] ![256, 128] inb_S512x128_S256x128_0_0)))
    (k0_pay15
      (k0_pay10 x5 (View.ld x4 (Rect.unit ![2, 0, 0] ![1, 512, 128] inb_S4x512x128_S1x512x128_2_0_0))
        (View.ld x4 (Rect.unit ![3, 0, 0] ![1, 512, 128] inb_S4x512x128_S1x512x128_3_0_0)))
      (View.ld x1 (Rect.unit ![0, 0] ![256, 128] inb_S512x128_S256x128_0_0)))
    k0_pay16 k0_pay17 (View.ld x2 (Rect.unit ![0, 0] ![256, 128] inb_S512x128_S256x128_0_0))
    (View.ld x3 (Rect.unit ![0, 0] ![256, 512] inb_S512x512_S256x512_0_0)) x6

/-- The second half's rows times the transposed weights. -/
def dhi : FVec Ideal S256x1024 .f32 :=
  k0_pay43 (k0_pay37
    (k0_pay28 (View.ld x0 (Rect.unit ![256, 0] ![256, 512] inb_S512x512_S256x512_256_0))
      (k0_pay26
        (k0_pay10 x5 (View.ld x4 (Rect.unit ![2, 0, 0] ![1, 512, 128] inb_S4x512x128_S1x512x128_2_0_0))
          (View.ld x4 (Rect.unit ![3, 0, 0] ![1, 512, 128] inb_S4x512x128_S1x512x128_3_0_0))))
      (k0_pay27
        (k0_pay9 x5 (View.ld x4 (Rect.unit ![0, 0, 0] ![1, 512, 128] inb_S4x512x128_S1x512x128_0_0_0))
          (View.ld x4 (Rect.unit ![1, 0, 0] ![1, 512, 128] inb_S4x512x128_S1x512x128_1_0_0)))))
    (k0_pay29
      (k0_pay9 x5 (View.ld x4 (Rect.unit ![0, 0, 0] ![1, 512, 128] inb_S4x512x128_S1x512x128_0_0_0))
        (View.ld x4 (Rect.unit ![1, 0, 0] ![1, 512, 128] inb_S4x512x128_S1x512x128_1_0_0)))
      (View.ld x1 (Rect.unit ![256, 0] ![256, 128] inb_S512x128_S256x128_256_0)))
    (k0_pay30
      (k0_pay10 x5 (View.ld x4 (Rect.unit ![2, 0, 0] ![1, 512, 128] inb_S4x512x128_S1x512x128_2_0_0))
        (View.ld x4 (Rect.unit ![3, 0, 0] ![1, 512, 128] inb_S4x512x128_S1x512x128_3_0_0)))
      (View.ld x1 (Rect.unit ![256, 0] ![256, 128] inb_S512x128_S256x128_256_0)))
    (64#32) k0_pay31 k0_pay32 k0_pay33 k0_pay34
    (View.ld x2 (Rect.unit ![256, 0] ![256, 128] inb_S512x128_S256x128_256_0))
    (View.ld x3 (Rect.unit ![256, 0] ![256, 512] inb_S512x512_S256x512_256_0))) (k0_pay42 x6) (constant S256x1024 FTy.f32 0#32)

theorem dlo_apply (r : Fin 256) (k : Fin 1024) : dlo x0 x1 x2 x3 x4 x5 x6 (ix2 r k) = dhB x0 x1 x2 x3 x4 x5 x6 ⟨r.val, by omega⟩ k := by
  have e := zlo_apply x0 x1 x2 x3 x4 x5 r
  unfold zlo at e
  pointwise [dlo, k0_pay25, k0_pay20, dhB, e]

theorem dhi_apply (r : Fin 256) (k : Fin 1024) : dhi x0 x1 x2 x3 x4 x5 x6 (ix2 r k) = dhB x0 x1 x2 x3 x4 x5 x6 ⟨256 + r.val, by omega⟩ k := by
  have e := zhi_apply x0 x1 x2 x3 x4 x5 r
  unfold zhi at e
  pointwise [dhi, k0_pay43, k0_pay42, k0_pay37, dhB, e]

/-- Row `p` of the input's gradient, stored by the first half … -/
theorem dx_lo (p : Fin 512) (k : Fin 1024) (x : S256x1024.Idx) (h0 : p.val = (x 0).val) (h1 : k.val = (x 1).val) :
    k0_pay52 x8 (k0_pay22 (View.ld x7 (Rect.unit ![0, 0] ![256, 1024] inb_S512x1024_S256x1024_0_0)))
      (k0_pay23 (View.ld x7 (Rect.unit ![0, 0] ![256, 1024] inb_S512x1024_S256x1024_0_0))) (dlo x0 x1 x2 x3 x4 x5 x6)
      (View.ld x9 (Rect.unit ![0, 0] ![256, 1024] inb_S512x1024_S256x1024_0_0)) x
    = dxB x0 x1 x2 x3 x4 x5 x6 x7 x8 x9 p k := by
  obtain ⟨r, k', rfl⟩ : ∃ (r : Fin 256) (k' : Fin 1024), x = ix2 r k' := ⟨x 0, x 1, eq_ix2 x⟩
  obtain rfl : p = ⟨r.val, Nat.lt_of_lt_of_le r.isLt (by decide)⟩ := Fin.ext h0
  obtain rfl : k = k' := Fin.ext h1
  pointwise [k0_pay52, r22_apply, n23_apply, dlo_apply, dxB]

/-- … and by the second. -/
theorem dx_hi (p : Fin 512) (k : Fin 1024) (x : S256x1024.Idx) (h0 : p.val = 256 + (x 0).val) (h1 : k.val = (x 1).val) :
    k0_pay2 (k0_pay53 x8 (k0_pay39 (View.ld x7 (Rect.unit ![256, 0] ![256, 1024] inb_S512x1024_S256x1024_256_0)))
      (k0_pay40 (View.ld x7 (Rect.unit ![256, 0] ![256, 1024] inb_S512x1024_S256x1024_256_0))) (dhi x0 x1 x2 x3 x4 x5 x6))
      (View.ld x9 (Rect.unit ![256, 0] ![256, 1024] inb_S512x1024_S256x1024_256_0)) x
    = dxB x0 x1 x2 x3 x4 x5 x6 x7 x8 x9 p k := by
  obtain ⟨r, k', rfl⟩ : ∃ (r : Fin 256) (k' : Fin 1024), x = ix2 r k' := ⟨x 0, x 1, eq_ix2 x⟩
  obtain rfl : p = ⟨256 + r.val, Nat.add_lt_add_left r.isLt 256⟩ := Fin.ext h0
  obtain rfl : k = k' := Fin.ext h1
  pointwise [k0_pay2, k0_pay53, r39_apply, n40_apply, dhi_apply, dxB]

/-- The normalised and scaled row. -/
def hB (p : Fin 512) (k : Fin 1024) : EReal := nB x7 p k * x8 (ix2 0 k)

/-- Row chunk `m0` of the weight gradient: what was there plus the products over the tile's 512 rows. -/
theorem dw_sum (z : FVec Ideal S256x1280 .bf16) (h : FVec Ideal S256x1024 .bf16) (z' : FVec Ideal S256x1280 .bf16) (h' : FVec Ideal S256x1024 .bf16)
    (i i' : Fin 1280) (k k' : Fin 1024) (hi : i'.val = i.val) (hk : k'.val = k.val)
    (hz : ∀ r j, z (ix2 r j) = dzB x0 x1 x2 x3 x4 x5 ⟨r.val, by omega⟩ j) (hz' : ∀ r j, z' (ix2 r j) = dzB x0 x1 x2 x3 x4 x5 ⟨256 + r.val, by omega⟩ j)
    (hh : ∀ r j, h (ix2 r j) = hB x7 x8 ⟨r.val, by omega⟩ j) (hh' : ∀ r j, h' (ix2 r j) = hB x7 x8 ⟨256 + r.val, by omega⟩ j) (p : Fin 512) :
    k0_pay44 z z' (ix2 p i) * k0_pay45 h h' (ix2 p k) = dzB x0 x1 x2 x3 x4 x5 p i' * hB x7 x8 p k' := by
  obtain rfl := Fin.ext hi
  obtain rfl := Fin.ext hk
  pointwise [k0_pay44, k0_pay45]
  by_cases hp : p.val < 256
  · simp only [hp, dite_true, hz, hh]
  · simp only [hp, dite_false, hz', hh']
    have e : (⟨256 + (p.val - 256), by omega⟩ : Fin 512) = p := Fin.ext (by simp only; omega)
    rw [e]

/-- An index of the weight gradient from its two coordinates. -/
theorem ix2_eq (y : S1280x1024.Idx) (a : Fin 1280) (b : Fin 1024) (h0 : (y 0).val = a.val) (h1 : (y 1).val = b.val) : ix2 a b = y := by
  rw [eq_ix2 y]; exact congrArg₂ ix2 (Fin.ext h0.symm) (Fin.ext h1.symm)

theorem z20_apply (r : Fin 256) (j : Fin 1280) : k0_pay20
    (k0_pay13
      (k0_pay11 x5 (View.ld x4 (Rect.unit ![0, 0, 0] ![1, 512, 128] inb_S4x512x128_S1x512x128_0_0_0))
        (View.ld x4 (Rect.unit ![1, 0, 0] ![1, 512, 128] inb_S4x512x128_S1x512x128_1_0_0))
        (View.ld x0 (Rect.unit ![0, 0] ![256, 512] inb_S512x512_S256x512_0_0)))
      (k0_pay12 x5 (View.ld x4 (Rect.unit ![2, 0, 0] ![1, 512, 128] inb_S4x512x128_S1x512x128_2_0_0))
        (View.ld x4 (Rect.unit ![3, 0, 0] ![1, 512, 128] inb_S4x512x128_S1x512x128_3_0_0))
        (View.ld x0 (Rect.unit ![0, 0] ![256, 512] inb_S512x512_S256x512_0_0)))
      (iota Kind.tc S256x512 32 [1] iota_S256x512_d1_w32) 64#32 0#1)
    (k0_pay14
      (k0_pay9 x5 (View.ld x4 (Rect.unit ![0, 0, 0] ![1, 512, 128] inb_S4x512x128_S1x512x128_0_0_0))
        (View.ld x4 (Rect.unit ![1, 0, 0] ![1, 512, 128] inb_S4x512x128_S1x512x128_1_0_0)))
      (View.ld x1 (Rect.unit ![0, 0] ![256, 128] inb_S512x128_S256x128_0_0)))
    (k0_pay15
      (k0_pay10 x5 (View.ld x4 (Rect.unit ![2, 0, 0] ![1, 512, 128] inb_S4x512x128_S1x512x128_2_0_0))
        (View.ld x4 (Rect.unit ![3, 0, 0] ![1, 512, 128] inb_S4x512x128_S1x512x128_3_0_0)))
      (View.ld x1 (Rect.unit ![0, 0] ![256, 128] inb_S512x128_S256x128_0_0)))
    k0_pay16 k0_pay17 (View.ld x2 (Rect.unit ![0, 0] ![256, 128] inb_S512x128_S256x128_0_0))
    (View.ld x3 (Rect.unit ![0, 0] ![256, 512] inb_S512x512_S256x512_0_0)) (ix2 r j) = dzB x0 x1 x2 x3 x4 x5 ⟨r.val, by omega⟩ j := by
  have e := zlo_apply x0 x1 x2 x3 x4 x5 r
  unfold zlo at e
  pointwise [k0_pay20, e]

theorem z37_apply (r : Fin 256) (j : Fin 1280) : k0_pay37
    (k0_pay28 (View.ld x0 (Rect.unit ![256, 0] ![256, 512] inb_S512x512_S256x512_256_0))
      (k0_pay26
        (k0_pay10 x5 (View.ld x4 (Rect.unit ![2, 0, 0] ![1, 512, 128] inb_S4x512x128_S1x512x128_2_0_0))
          (View.ld x4 (Rect.unit ![3, 0, 0] ![1, 512, 128] inb_S4x512x128_S1x512x128_3_0_0))))
      (k0_pay27
        (k0_pay9 x5 (View.ld x4 (Rect.unit ![0, 0, 0] ![1, 512, 128] inb_S4x512x128_S1x512x128_0_0_0))
          (View.ld x4 (Rect.unit ![1, 0, 0] ![1, 512, 128] inb_S4x512x128_S1x512x128_1_0_0)))))
    (k0_pay29
      (k0_pay9 x5 (View.ld x4 (Rect.unit ![0, 0, 0] ![1, 512, 128] inb_S4x512x128_S1x512x128_0_0_0))
        (View.ld x4 (Rect.unit ![1, 0, 0] ![1, 512, 128] inb_S4x512x128_S1x512x128_1_0_0)))
      (View.ld x1 (Rect.unit ![256, 0] ![256, 128] inb_S512x128_S256x128_256_0)))
    (k0_pay30
      (k0_pay10 x5 (View.ld x4 (Rect.unit ![2, 0, 0] ![1, 512, 128] inb_S4x512x128_S1x512x128_2_0_0))
        (View.ld x4 (Rect.unit ![3, 0, 0] ![1, 512, 128] inb_S4x512x128_S1x512x128_3_0_0)))
      (View.ld x1 (Rect.unit ![256, 0] ![256, 128] inb_S512x128_S256x128_256_0)))
    (64#32) k0_pay31 k0_pay32 k0_pay33 k0_pay34
    (View.ld x2 (Rect.unit ![256, 0] ![256, 128] inb_S512x128_S256x128_256_0))
    (View.ld x3 (Rect.unit ![256, 0] ![256, 512] inb_S512x512_S256x512_256_0)) (ix2 r j) = dzB x0 x1 x2 x3 x4 x5 ⟨256 + r.val, by omega⟩ j := by
  have e := zhi_apply x0 x1 x2 x3 x4 x5 r
  unfold zhi at e
  pointwise [k0_pay37, e]

theorem h24_apply (r : Fin 256) (k : Fin 1024) : k0_pay24 x8 (View.ld x7 (Rect.unit ![0, 0] ![256, 1024] inb_S512x1024_S256x1024_0_0)) (ix2 r k) = hB x7 x8 ⟨r.val, by omega⟩ k := by
  pointwise [k0_pay24, n23_apply, hB]
theorem h41_apply (r : Fin 256) (k : Fin 1024) : k0_pay41 x8 (View.ld x7 (Rect.unit ![256, 0] ![256, 1024] inb_S512x1024_S256x1024_256_0)) (ix2 r k) = hB x7 x8 ⟨256 + r.val, by omega⟩ k := by
  pointwise [k0_pay41, n40_apply, hB]

theorem out10 (c : Dev nD) (t : Fin cfg0.N) (p : Fin 512) (k : Fin 1024) :
    (outsAt0 (F := Ideal) m c t.val t.isLt).1 (ix2 p k)
      = dxB (iblk m c 0 t) (iblk m c 1 t) (iblk m c 2 t) (iblk m c 3 t) (iblk m c 4 t) (iblk m c 5 t) (iblk m c 6 t) (iblk m c 7 t) (iblk m c 8 t) (iblk m c 9 t) p k := by
  by_cases h : t.val % 16 = 0
  · rw [Gen.outsAt0_A m c t h]
    frame_open
    simp (disch := decide) only [↓ View.readCov_skip, ↓ View.readCov_cons_toLoadRect, ↓ View.readCov_fill]
    frame_out
    canon_tiles x hx
    · exact dx_hi _ _ _ _ _ _ _ _ _ _ p k x hx0 hx1
    · exact dx_lo _ _ _ _ _ _ _ _ _ _ p k x hx0 hx1
  · rw [Gen.outsAt0_B m c t h]
    frame_open
    simp (disch := decide) only [↓ View.readCov_skip, ↓ View.readCov_cons_toLoadRect, ↓ View.readCov_fill]
    frame_out
    canon_tiles x hx
    · exact dx_hi _ _ _ _ _ _ _ _ _ _ p k x hx0 hx1
    · exact dx_lo _ _ _ _ _ _ _ _ _ _ p k x hx0 hx1

theorem out12_A (c : Dev nD) (t : Fin cfg0.N) (h : t.val % 16 = 0) (y : S1x1280.Idx) :
    (outsAt0 (F := Ideal) m c t.val t.isLt).2.2.1 y
      = ∑ p, dzB (iblk m c 0 t) (iblk m c 1 t) (iblk m c 2 t) (iblk m c 3 t) (iblk m c 4 t) (iblk m c 5 t) p (y 1) := by
  rw [Gen.outsAt0_A m c t h]
  frame_open
  simp (disch := decide) only [↓ View.readCov_skip, ↓ View.readCov_cons_toLoadRect, ↓ View.readCov_fill]
  frame_out
  have e := zlo_apply (iblk m c 0 t) (iblk m c 1 t) (iblk m c 2 t) (iblk m c 3 t) (iblk m c 4 t) (iblk m c 5 t)
  unfold zlo at e
  have e' := zhi_apply (iblk m c 0 t) (iblk m c 1 t) (iblk m c 2 t) (iblk m c 3 t) (iblk m c 4 t) (iblk m c 5 t)
  unfold zhi at e'
  pointwise [k0_pay36, k0_pay19, k0_pay4, e, e']
  exact (sum_halves fun p => dzB (iblk m c 0 t) (iblk m c 1 t) (iblk m c 2 t) (iblk m c 3 t) (iblk m c 4 t) (iblk m c 5 t) p (y 1)).symm

theorem out13_A (c : Dev nD) (t : Fin cfg0.N) (h : t.val % 16 = 0) (y : S1x1024.Idx) :
    (outsAt0 (F := Ideal) m c t.val t.isLt).2.2.2 y
      = ∑ p, dhB (iblk m c 0 t) (iblk m c 1 t) (iblk m c 2 t) (iblk m c 3 t) (iblk m c 4 t) (iblk m c 5 t) (iblk m c 6 t) p (y 1) * nB (iblk m c 7 t) p (y 1) := by
  rw [Gen.outsAt0_A m c t h]
  frame_open
  simp (disch := decide) only [↓ View.readCov_skip, ↓ View.readCov_cons_toLoadRect, ↓ View.readCov_fill]
  frame_out
  have e := dlo_apply (iblk m c 0 t) (iblk m c 1 t) (iblk m c 2 t) (iblk m c 3 t) (iblk m c 4 t) (iblk m c 5 t) (iblk m c 6 t)
  unfold dlo at e
  have e' := dhi_apply (iblk m c 0 t) (iblk m c 1 t) (iblk m c 2 t) (iblk m c 3 t) (iblk m c 4 t) (iblk m c 5 t) (iblk m c 6 t)
  unfold dhi at e'
  pointwise [k0_pay1, k0_pay54, k0_pay55, k0_pay51, k0_pay5, e, e', n23_apply, n40_apply]
  exact (sum_halves fun p => dhB (iblk m c 0 t) (iblk m c 1 t) (iblk m c 2 t) (iblk m c 3 t) (iblk m c 4 t) (iblk m c 5 t) (iblk m c 6 t) p (y 1) * nB (iblk m c 7 t) p (y 1)).symm

/-- Stores that cover an index hide every store before them there. -/
theorem canon_prefix {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_prefix L' L y ?_
      obtain ⟨q, hq, hyq⟩ := hy
      rcases List.mem_cons.mp hq with rfl | hq'
      · exact absurd hyq hm
      · exact ⟨q, hq', hyq⟩

/-- Five stores that cover the buffer in blocks of `sz` hide every store before them. -/
theorem canon_five {S : Shape} {e : EltTy} (a b c d f : View.Piece (Elt Ideal) S e) (L : List (View.Piece (Elt Ideal) S e)) (sz : Fin S.rank → Nat)
    (h : View.Piece.tiled [a, b, c, d, f] sz = true) (y : S.Idx) :
    View.canon (a :: b :: c :: d :: f :: L) y = View.canon [a, b, c, d, f] y :=
  canon_prefix L [a, b, c, d, f] y (View.cover_of_tiled _ sz h y)

theorem out11_A (c : Dev nD) (t : Fin cfg0.N) (h : t.val % 16 = 0) (y : S1280x1024.Idx) :
    (outsAt0 (F := Ideal) m c t.val t.isLt).2.1 y
      = ∑ p, dzB (iblk m c 0 t) (iblk m c 1 t) (iblk m c 2 t) (iblk m c 3 t) (iblk m c 4 t) (iblk m c 5 t) p (y 0) * hB (iblk m c 7 t) (iblk m c 8 t) p (y 1) := by
  rw [Gen.outsAt0_A m c t h]
  frame_open
  simp (disch := decide) only [↓ View.readCov_skip, ↓ View.readCov_cons_toLoadRect, ↓ View.readCov_fill]
  frame_out
  have e := z20_apply (iblk m c 0 t) (iblk m c 1 t) (iblk m c 2 t) (iblk m c 3 t) (iblk m c 4 t) (iblk m c 5 t)
  have e' := z37_apply (iblk m c 0 t) (iblk m c 1 t) (iblk m c 2 t) (iblk m c 3 t) (iblk m c 4 t) (iblk m c 5 t)
  have d := h24_apply (iblk m c 7 t) (iblk m c 8 t)
  have d' := h41_apply (iblk m c 7 t) (iblk m c 8 t)
  rw [canon_five _ _ _ _ _ _ ![256, 1024] rfl y]
  canon_tiles x hx
  all_goals
    pointwise [k0_pay46, k0_pay47, k0_pay48, k0_pay49, k0_pay50, k0_pay3]
    exact Finset.sum_congr rfl fun p _ => dw_sum _ _ _ _ _ _ _ _ _ _ _ _ _ _ _ _ hx0 hx1 e e' d d' p

theorem out12_B (c : Dev nD) (t : Fin cfg0.N) (h : ¬t.val % 16 = 0) (y : S1x1280.Idx) :
    (outsAt0 (F := Ideal) m c t.val t.isLt).2.2.1 y
      = (outsAt0 (F := Ideal) m c (t.val - 1) (Nat.lt_of_le_of_lt (Nat.sub_le _ _) t.isLt)).2.2.1 y + ∑ p, dzB (iblk m c 0 t) (iblk m c 1 t) (iblk m c 2 t) (iblk m c 3 t) (iblk m c 4 t) (iblk m c 5 t) p (y 1) := by
  rw [Gen.outsAt0_B m c t h]
  frame_open
  simp (disch := decide) only [↓ View.readCov_skip, ↓ View.readCov_cons_toLoadRect, ↓ View.readCov_fill]
  frame_out
  have e := zlo_apply (iblk m c 0 t) (iblk m c 1 t) (iblk m c 2 t) (iblk m c 3 t) (iblk m c 4 t) (iblk m c 5 t)
  unfold zlo at e
  have e' := zhi_apply (iblk m c 0 t) (iblk m c 1 t) (iblk m c 2 t) (iblk m c 3 t) (iblk m c 4 t) (iblk m c 5 t)
  unfold zhi at e'
  pointwise [k0_pay36, k0_pay19, k0_pay4, e, e']
  exact (add_assoc (G := EReal) _ _ _).trans (congrArg _ (sum_halves fun p => dzB (iblk m c 0 t) (iblk m c 1 t) (iblk m c 2 t) (iblk m c 3 t) (iblk m c 4 t) (iblk m c 5 t) p (y 1)).symm)

theorem out13_B (c : Dev nD) (t : Fin cfg0.N) (h : ¬t.val % 16 = 0) (y : S1x1024.Idx) :
    (outsAt0 (F := Ideal) m c t.val t.isLt).2.2.2 y
      = (outsAt0 (F := Ideal) m c (t.val - 1) (Nat.lt_of_le_of_lt (Nat.sub_le _ _) t.isLt)).2.2.2 y + ∑ p, dhB (iblk m c 0 t) (iblk m c 1 t) (iblk m c 2 t) (iblk m c 3 t) (iblk m c 4 t) (iblk m c 5 t) (iblk m c 6 t) p (y 1) * nB (iblk m c 7 t) p (y 1) := by
  rw [Gen.outsAt0_B m c t h]
  frame_open
  simp (disch := decide) only [↓ View.readCov_skip, ↓ View.readCov_cons_toLoadRect, ↓ View.readCov_fill]
  frame_out
  have e := dlo_apply (iblk m c 0 t) (iblk m c 1 t) (iblk m c 2 t) (iblk m c 3 t) (iblk m c 4 t) (iblk m c 5 t) (iblk m c 6 t)
  unfold dlo at e
  have e' := dhi_apply (iblk m c 0 t) (iblk m c 1 t) (iblk m c 2 t) (iblk m c 3 t) (iblk m c 4 t) (iblk m c 5 t) (iblk m c 6 t)
  unfold dhi at e'
  pointwise [k0_pay1, k0_pay54, k0_pay55, k0_pay51, k0_pay5, e, e', n23_apply, n40_apply]
  exact (add_assoc (G := EReal) _ _ _).trans (congrArg _ (sum_halves fun p => dhB (iblk m c 0 t) (iblk m c 1 t) (iblk m c 2 t) (iblk m c 3 t) (iblk m c 4 t) (iblk m c 5 t) (iblk m c 6 t) p (y 1) * nB (iblk m c 7 t) p (y 1)).symm)

theorem out11_B (c : Dev nD) (t : Fin cfg0.N) (h : ¬t.val % 16 = 0) (y : S1280x1024.Idx) :
    (outsAt0 (F := Ideal) m c t.val t.isLt).2.1 y
      = (outsAt0 (F := Ideal) m c (t.val - 1) (Nat.lt_of_le_of_lt (Nat.sub_le _ _) t.isLt)).2.1 y + ∑ p, dzB (iblk m c 0 t) (iblk m c 1 t) (iblk m c 2 t) (iblk m c 3 t) (iblk m c 4 t) (iblk m c 5 t) p (y 0) * hB (iblk m c 7 t) (iblk m c 8 t) p (y 1) := by
  rw [Gen.outsAt0_B m c t h]
  frame_open
  simp (disch := decide) only [↓ View.readCov_skip, ↓ View.readCov_cons_toLoadRect, ↓ View.readCov_fill]
  frame_out
  have e := z20_apply (iblk m c 0 t) (iblk m c 1 t) (iblk m c 2 t) (iblk m c 3 t) (iblk m c 4 t) (iblk m c 5 t)
  have e' := z37_apply (iblk m c 0 t) (iblk m c 1 t) (iblk m c 2 t) (iblk m c 3 t) (iblk m c 4 t) (iblk m c 5 t)
  have d := h24_apply (iblk m c 7 t) (iblk m c 8 t)
  have d' := h41_apply (iblk m c 7 t) (iblk m c 8 t)
  canon_tiles x hx
  all_goals
    pointwise [k0_pay46, k0_pay47, k0_pay48, k0_pay49, k0_pay50, k0_pay3]
    refine congrArg₂ (· + ·) (congrArg _ (ix2_eq y _ _ hx0 hx1)) ?_
    exact Finset.sum_congr rfl fun p _ => dw_sum _ _ _ _ _ _ _ _ _ _ _ _ _ _ _ _ hx0 hx1 e e' d d' p

end

end Cert.InprojBwdIdeal.Block
end
-- ==== Proof.Reals.lean ====
/- Extended reals that are real numbers, and the values of the constants that occur. -/
module

public import Idealize.ShloMosaic.Lib.Pipeline.ValueKit

@[expose] public section

noncomputable section

namespace Cert.Reals

open Idealize.ShloMosaic

/-- `x` is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of reals, taken in the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} {s : Finset ι} {f : ι → EReal} (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self _ _)).add (ih fun i hi => h i (Finset.mem_insert_of_mem hi))

/-- Division of reals by a nonzero real. -/
theorem div_coe (a b : ℝ) (hb : b ≠ 0) : Ideal.div (a : EReal) (b : EReal) = ((a / b : ℝ) : EReal) := by
  have : (b : EReal) ≠ 0 := by exact_mod_cast hb
  rw [Ideal.div, if_neg this, div_eq_mul_inv, EReal.coe_mul, EReal.coe_inv]

theorem rsqrt_coe (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg (not_lt.mpr ha.le), if_neg ha.ne']

theorem IsReal.cos {x : EReal} (hx : IsReal x) : IsReal (Ideal.cos x) := by
  obtain ⟨a, rfl⟩ := hx; exact ⟨Real.cos a, rfl⟩
theorem IsReal.sin {x : EReal} (hx : IsReal x) : IsReal (Ideal.sin x) := by
  obtain ⟨a, rfl⟩ := hx; exact ⟨Real.sin a, rfl⟩

/-- A small natural number converted from its word is that number. -/
theorem sitofp_nat (n : Nat) (hn : n < 2 ^ 31) :
    FloatOps.sitofp (F := Ideal) FTy.f32 (BitVec.ofNat 32 n) = ((n : ℝ) : EReal) := by
  show (((BitVec.ofNat 32 n).toInt : ℝ) : EReal) = _
  have : (BitVec.ofNat 32 n).toInt = (n : Int) := by
    rw [BitVec.toInt_eq_toNat_of_lt (by rw [BitVec.toNat_ofNat]; omega), BitVec.toNat_ofNat]; omega
  rw [this]; norm_num

/-- What a finiteness test says: the value is a real number. -/
theorem isReal_of_cmp {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-! The constants. -/

theorem c1024 : Ideal.ofBits FTy.f32 1149239296#32 = ((1024 : ℝ) : EReal) := by
  simp [Ideal.ofBits, Ideal.ieee, -EReal.coe_mul]; norm_num
theorem cHalfNeg : Ideal.ofBits FTy.f32 3204448256#32 = ((-(1 / 2) : ℝ) : EReal) := by
  simp [Ideal.ofBits, Ideal.ieee, -EReal.coe_mul]; norm_num
theorem c512 : Ideal.ofBits FTy.f32 1140850688#32 = ((512 : ℝ) : EReal) := by
  simp [Ideal.ofBits, Ideal.ieee, -EReal.coe_mul]; norm_num
theorem c10000 : Ideal.ofBits FTy.f32 1176256512#32 = ((10000 : ℝ) : EReal) := by
  simp [Ideal.ofBits, Ideal.ieee, -EReal.coe_mul]; norm_num
theorem c2 : Ideal.ofBits FTy.f32 1073741824#32 = ((2 : ℝ) : EReal) := by
  simp [Ideal.ofBits, Ideal.ieee, -EReal.coe_mul]; norm_num
theorem c64 : Ideal.ofBits FTy.f32 1115684864#32 = ((64 : ℝ) : EReal) := by
  simp [Ideal.ofBits, Ideal.ieee, -EReal.coe_mul]; norm_num
theorem cEps : ∃ e : ℝ, 0 < e ∧ Ideal.ofBits FTy.f32 925353388#32 = (e : EReal) := by
  refine ⟨10995116 / 2 ^ 40, by norm_num, ?_⟩
  simp [Ideal.ofBits, Ideal.ieee, -EReal.coe_mul]; norm_num
theorem cOne : Ideal.ofBits FTy.f32 1065353216#32 = ((1 : ℝ) : EReal) := by
  simp [Ideal.ofBits, Ideal.ieee, -EReal.coe_mul]; norm_num
theorem cNegOne : Ideal.ofBits FTy.f32 3212836864#32 = ((-1 : ℝ) : EReal) := by
  simp [Ideal.ofBits, Ideal.ieee, -EReal.coe_mul]; norm_num

end Cert.Reals
end
-- ==== Proof.Rope.lean ====
/- The rotary tables: the sine and cosine of every row's angle, and how a tile's table comes from that of its first row by the addition theorems. -/
module

public import proofs.«01_k».proof.Proof.Reals

@[expose] public section

noncomputable section

namespace Cert.Rope

open Idealize.ShloMosaic Cert.Reals

/-- The frequency of lane `j`: one over 10000 to the power 2 j / 64. -/
def freq (j : Nat) : EReal :=
  Ideal.div 1 (Ideal.pow (Ideal.ofBits FTy.f32 1176256512#32)
    (Ideal.div (Ideal.ofBits FTy.f32 1073741824#32 * FloatOps.sitofp (F := Ideal) FTy.f32 (BitVec.ofNat 32 j)) (Ideal.ofBits FTy.f32 1115684864#32)))

/-- Row `i`'s angle in lane `j`, its cosine and its sine. -/
def ang (i j : Nat) : EReal := FloatOps.sitofp (F := Ideal) FTy.f32 (BitVec.ofNat 32 i) * freq j
def cosT (i j : Nat) : EReal := Ideal.cos (ang i j)
def sinT (i j : Nat) : EReal := Ideal.sin (ang i j)
/-- The angle of the first row of tile `t` of 512 rows. -/
def ang0 (t j : Nat) : EReal := Ideal.ofBits FTy.f32 1140850688#32 * FloatOps.sitofp (F := Ideal) FTy.f32 (BitVec.ofNat 32 t) * freq j

theorem freq_real (j : Nat) (hj : j < 32) : ∃ f : ℝ, freq j = (f : EReal) := by
  refine ⟨1 / (10000 : ℝ) ^ ((2 * (j : ℝ)) / 64), ?_⟩
  unfold freq
  rw [c10000, c2, c64, sitofp_nat j (by omega), ← EReal.coe_mul, div_coe _ _ (by norm_num)]
  exact div_coe 1 _ (Real.rpow_pos_of_pos (by norm_num) _).ne'

theorem ang_real (i j : Nat) (hi : i < 8192) (hj : j < 32) : IsReal (ang i j) := by
  obtain ⟨f, hf⟩ := freq_real j hj
  unfold ang; rw [sitofp_nat i (by omega), hf]; exact (isReal_coe _).mul (isReal_coe _)

theorem cosT_real (i j : Nat) (hi : i < 8192) (hj : j < 32) : IsReal (cosT i j) := (ang_real i j hi hj).cos
theorem sinT_real (i j : Nat) (hi : i < 8192) (hj : j < 32) : IsReal (sinT i j) := (ang_real i j hi hj).sin

/-- The cosine of row `p` of tile `t`. -/
theorem cos_tile (t p j : Nat) (ht : t < 16) (hp : p < 512) (hj : j < 32) :
    Ideal.cos (ang p j) * Ideal.cos (ang0 t j) - Ideal.sin (ang p j) * Ideal.sin (ang0 t j) = cosT (512 * t + p) j := by
  obtain ⟨f, hf⟩ := freq_real j hj
  unfold cosT ang ang0
  rw [hf, c512, sitofp_nat p (by omega), sitofp_nat t (by omega), sitofp_nat (512 * t + p) (by omega), ← EReal.coe_mul, ← EReal.coe_mul, ← EReal.coe_mul, ← EReal.coe_mul]
  show (Real.cos _ : EReal) * (Real.cos _ : EReal) - (Real.sin _ : EReal) * (Real.sin _ : EReal) = (Real.cos _ : EReal)
  rw [← EReal.coe_mul, ← EReal.coe_mul, ← EReal.coe_sub, ← Real.cos_add]
  congr 2; push_cast; ring

/-- The sine of row `p` of tile `t`, with a sign. -/
theorem sin_tile (s : ℝ) (t p j : Nat) (ht : t < 16) (hp : p < 512) (hj : j < 32) :
    (s : EReal) * Ideal.sin (ang p j) * Ideal.cos (ang0 t j) + (s : EReal) * Ideal.cos (ang p j) * Ideal.sin (ang0 t j) = (s : EReal) * sinT (512 * t + p) j := by
  obtain ⟨f, hf⟩ := freq_real j hj
  unfold sinT ang ang0
  rw [hf, c512, sitofp_nat p (by omega), sitofp_nat t (by omega), sitofp_nat (512 * t + p) (by omega), ← EReal.coe_mul, ← EReal.coe_mul, ← EReal.coe_mul, ← EReal.coe_mul]
  show (s : EReal) * (Real.sin _ : EReal) * (Real.cos _ : EReal) + (s : EReal) * (Real.cos _ : EReal) * (Real.sin _ : EReal) = (s : EReal) * (Real.sin _ : EReal)
  simp only [← EReal.coe_mul, ← EReal.coe_add]
  rw [show ((512 * t + p : ℕ) : ℝ) * f = (p : ℝ) * f + 512 * (t : ℝ) * f by push_cast; ring, Real.sin_add]
  congr 1; ring_nf

end Cert.Rope
end
-- ==== Proof.Inproj.Arrays.lean ====
module

public import proofs.«01_k».proof.Proof.Inproj.Block
public import proofs.«01_k».proof.Proof.Rope
public import Idealize.ShloMosaic.Lib.StableHlo.RunRead

@[expose] public section

set_option maxRecDepth 16384

noncomputable section

namespace Cert.InprojBwdIdeal.Block

open Cert.Reals Cert.Rope Cert.InprojBwdIdeal Cert.InprojBwdIdeal.Gen Idealize.ShloMosaic Idealize.ShloMosaic.TcCoe Idealize.SL.Sem

variable (m : (ℓ : Loc nD τ sig) → Buf (Elt Ideal) ℓ)

/-- Row `p` of tile `t`, as a row of the whole array. -/
def row (t : Fin cfg0.N) (p : Fin 512) : Fin 8192 := ⟨512 * t.val + p.val, by have : t.val < 16 := lt_of_lt_of_eq t.isLt Gen.N_0; omega⟩

theorem index_rows : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![t.val, 0, 0] ∧ win0_6.index t = ![0, 0]
    ∧ win0_7.index t = ![t.val, 0] ∧ win0_8.index t = ![0, 0] ∧ win0_9.index t = ![t.val, 0] ∧ win0_10.index t = ![t.val, 0]
    ∧ win0_11.index t = ![0, 0] ∧ win0_12.index t = ![0, 0] ∧ win0_13.index t = ![0, 0] := by decide +kernel

variable (c : Dev nD) (t : Fin cfg0.N)

theorem blk0 (p : Fin 512) (j : Fin 512) : iblk m c 0 t (ix2 p j) = m ((c : Thread nD τ).loc main_arg3) (ix2 (row t p) j) := by
  blk_ext [iblk, V_main_arg3, index_rows t, row]
theorem blk1 (p : Fin 512) (j : Fin 128) : iblk m c 1 t (ix2 p j) = m ((c : Thread nD τ).loc main_arg4) (ix2 (row t p) j) := by
  blk_ext [iblk, V_main_arg4, index_rows t, row]
theorem blk2 (p : Fin 512) (j : Fin 128) : iblk m c 2 t (ix2 p j) = m ((c : Thread nD τ).loc main_arg5) (ix2 (row t p) j) := by
  blk_ext [iblk, V_main_arg5, index_rows t, row]
theorem blk3 (p : Fin 512) (j : Fin 512) : iblk m c 3 t (ix2 p j) = m ((c : Thread nD τ).loc main_arg6) (ix2 (row t p) j) := by
  blk_ext [iblk, V_main_arg6, index_rows t, row]

theorem blk8 (k : Fin 1024) : iblk m c 8 t (ix2 0 k) = m ((c : Thread nD τ).loc main_arg1) (ix2 0 k) := by
  blk_ext [iblk, V_main_arg1, index_rows t]
theorem blk9 (p : Fin 512) (k : Fin 1024) : iblk m c 9 t (ix2 p k) = m ((c : Thread nD τ).loc main_arg7) (ix2 (row t p) k) := by
  blk_ext [iblk, V_main_arg7, index_rows t, row]
theorem blk7 (p : Fin 512) (k : Fin 1024) : iblk m c 7 t (ix2 p k) = m ((c : Thread nD τ).loc main_arg0) (ix3 0 (row t p) k) := by
  blk_simp [iblk, index_rows t, row]
  entry_read
  pointwise
  refine congrArg _ ?_
  blk_ext [index_rows t]
theorem blk6 (j : Fin 1280) (k : Fin 1024) : iblk m c 6 t (ix2 j k) = m ((c : Thread nD τ).loc main_arg2) (ix3 0 k j) := by
  blk_simp [iblk, index_rows t, row]
  entry_read
  pointwise
  refine congrArg _ ?_
  blk_ext [index_rows t]

/-! The host's tables. -/

theorem tab4 (p : Fin 512) (l : Fin 128) :
    V m c main_v51 (ix3 0 p l) = Ideal.cos (ang p.val (l.val % 32)) ∧ V m c main_v51 (ix3 1 p l) = Ideal.sin (ang p.val (l.val % 32))
    ∧ V m c main_v51 (ix3 2 p l) = Ideal.ofBits FTy.f32 (lit0 (S2.rowMajor (ix1 ⟨l.val % 64 / 32, by omega⟩))) * Ideal.sin (ang p.val (l.val % 32))
    ∧ V m c main_v51 (ix3 3 p l) = Ideal.ofBits FTy.f32 (lit0 (S2.rowMajor (ix1 ⟨l.val % 64 / 32, by omega⟩))) * Ideal.cos (ang p.val (l.val % 32)) := by
  unfold ang freq V
  refine ⟨?_, ?_, ?_, ?_⟩
  all_goals
    after_reads_simp
    pointwise
    after_reads_simp
    pointwise

theorem tab5 (t : Fin 16) (l : Fin 128) :
    V m c main_v56 (ix3 t 0 l) = Ideal.cos (ang0 t.val (l.val % 32)) ∧ V m c main_v56 (ix3 t 1 l) = Ideal.sin (ang0 t.val (l.val % 32)) := by
  unfold ang0 freq V
  refine ⟨?_, ?_⟩
  all_goals
    after_reads_simp
    pointwise

theorem blk4 (n : Fin 4) (p : Fin 512) (l : Fin 128) : iblk m c 4 t (ix3 n p l) = V m c main_v51 (ix3 n p l) := by
  blk_ext [iblk, index_rows t]
theorem blk5 (n : Fin 2) (l : Fin 128) : iblk m c 5 t (ix3 0 n l) = V m c main_v56 (ix3 ⟨t.val, lt_of_lt_of_eq t.isLt Gen.N_0⟩ n l) := by
  blk_ext [iblk, index_rows t]

theorem lit0_val (i : Fin 2) : Ideal.ofBits FTy.f32 (lit0 (S2.rowMajor (ix1 i))) = ((if i.val = 0 then -1 else 1 : ℝ) : EReal) := by
  fin_cases i
  · exact cNegOne
  · exact cOne.trans (by norm_num)

end Cert.InprojBwdIdeal.Block
end
-- ==== Proof.Sums.lean ====
/- Sums over several axes, all but one of extent one, read at an index. -/
module

public import Idealize.ShloMosaic.Lib.Pipeline.ValueKit

@[expose] public section

set_option maxRecDepth 16384

noncomputable section

namespace Cert.Sums

open Idealize.ShloMosaic

/-- A sum over the two leading axes, both of extent one. -/
theorem reduce_lead {n : Nat} (h : (⟨3, ![1, 1, n]⟩ : Shape).ReducesTo [0, 1] ⟨1, ![n]⟩) (v : (⟨3, ![1, 1, n]⟩ : Shape).Idx → EReal)
    (init : EReal) (k : Fin n) : Ideal.hostReduceAdd h v init (ix1 k) = init + v (ix3 0 0 k) := by
  refine congrArg (init + ·) ?_
  refine Finset.sum_eq_single_of_mem (ix3 0 0 k) (Finset.mem_filter.mpr ⟨Finset.mem_univ _, ?_⟩) fun i hi hne => absurd ?_ hne
  · funext a
    match a with
    | ⟨0, _⟩ => rfl
  · have e : (i 2).val = k.val := congrArg Fin.val (congrFun (Finset.mem_filter.mp hi).2 ⟨0, Nat.zero_lt_one⟩)
    funext a
    match a with
    | ⟨0, _⟩ => exact Subsingleton.elim (α := Fin 1) _ _
    | ⟨1, _⟩ => exact Subsingleton.elim (α := Fin 1) _ _
    | ⟨2, _⟩ => exact Fin.ext e

/-- A sum over the two leading axes of four, both of extent one. -/
theorem reduce_two {a b : Nat} (h : (⟨4, ![1, 1, a, b]⟩ : Shape).ReducesTo [0, 1] ⟨2, ![a, b]⟩) (v : (⟨4, ![1, 1, a, b]⟩ : Shape).Idx → EReal)
    (init : EReal) (j : Fin a) (k : Fin b) : Ideal.hostReduceAdd h v init (ix2 j k) = init + v (ix4 0 0 j k) := by
  refine congrArg (init + ·) ?_
  refine Finset.sum_eq_single_of_mem (ix4 0 0 j k) (Finset.mem_filter.mpr ⟨Finset.mem_univ _, ?_⟩) fun i hi hne => absurd ?_ hne
  · funext a
    match a with
    | ⟨0, _⟩ => rfl
    | ⟨1, _⟩ => rfl
  · have e : (i 2).val = j.val := congrArg Fin.val (congrFun (Finset.mem_filter.mp hi).2 ⟨0, Nat.zero_lt_two⟩)
    have e' : (i 3).val = k.val := congrArg Fin.val (congrFun (Finset.mem_filter.mp hi).2 ⟨1, Nat.one_lt_two⟩)
    funext a
    match a with
    | ⟨0, _⟩ => exact Subsingleton.elim (α := Fin 1) _ _
    | ⟨1, _⟩ => exact Subsingleton.elim (α := Fin 1) _ _
    | ⟨2, _⟩ => exact Fin.ext e
    | ⟨3, _⟩ => exact Fin.ext e'

/-- A sum over the two outer axes, both of extent one. -/
theorem reduce_ends {n : Nat} (h : (⟨3, ![1, n, 1]⟩ : Shape).ReducesTo [0, 2] ⟨1, ![n]⟩) (v : (⟨3, ![1, n, 1]⟩ : Shape).Idx → EReal)
    (init : EReal) (k : Fin n) : Ideal.hostReduceAdd h v init (ix1 k) = init + v (ix3 0 k 0) := by
  refine congrArg (init + ·) ?_
  refine Finset.sum_eq_single_of_mem (ix3 0 k 0) (Finset.mem_filter.mpr ⟨Finset.mem_univ _, ?_⟩) fun i hi hne => absurd ?_ hne
  · funext a
    match a with
    | ⟨0, _⟩ => rfl
  · have e : (i 1).val = k.val := congrArg Fin.val (congrFun (Finset.mem_filter.mp hi).2 ⟨0, Nat.zero_lt_one⟩)
    funext a
    match a with
    | ⟨0, _⟩ => exact Subsingleton.elim (α := Fin 1) _ _
    | ⟨1, _⟩ => exact Fin.ext e
    | ⟨2, _⟩ => exact Subsingleton.elim (α := Fin 1) _ _

section
variable {a b c d e n : Nat}

theorem fiber_last (h : (⟨6, ![a, b, c, d, e, n]⟩ : Shape).ReducesTo [5] ⟨5, ![a, b, c, d, e]⟩) (x0 : Fin a) (x1 : Fin b) (x2 : Fin c) (x3 : Fin d) (x4 : Fin e)
    (i : (⟨6, ![a, b, c, d, e, n]⟩ : Shape).Idx) : h.drop i = ix5 x0 x1 x2 x3 x4 ↔ ∃ k : Fin n, ix6 x0 x1 x2 x3 x4 k = i := by
  constructor
  · intro z
    have e0 : (i 0).val = x0.val := congrArg Fin.val (congrFun z 0)
    have e1 : (i 1).val = x1.val := congrArg Fin.val (congrFun z 1)
    have e2 : (i 2).val = x2.val := congrArg Fin.val (congrFun z 2)
    have e3 : (i 3).val = x3.val := congrArg Fin.val (congrFun z 3)
    have e4 : (i 4).val = x4.val := congrArg Fin.val (congrFun z 4)
    refine ⟨i 5, ?_⟩
    funext y
    match y with
    | 0 => exact Fin.ext e0.symm
    | 1 => exact Fin.ext e1.symm
    | 2 => exact Fin.ext e2.symm
    | 3 => exact Fin.ext e3.symm
    | 4 => exact Fin.ext e4.symm
    | 5 => rfl
  · rintro ⟨k, rfl⟩
    funext y
    match y with
    | 0 => rfl
    | 1 => rfl
    | 2 => rfl
    | 3 => rfl
    | 4 => rfl

theorem ix6_last {x0 : Fin a} {x1 : Fin b} {x2 : Fin c} {x3 : Fin d} {x4 : Fin e} : Function.Injective fun k : Fin n => ix6 x0 x1 x2 x3 x4 k :=
  fun _ _ h => congrFun h 5

/-- A sum over the last of six axes. -/
theorem reduce_last (h : (⟨6, ![a, b, c, d, e, n]⟩ : Shape).ReducesTo [5] ⟨5, ![a, b, c, d, e]⟩) (v : (⟨6, ![a, b, c, d, e, n]⟩ : Shape).Idx → EReal)
    (init : EReal) (x0 : Fin a) (x1 : Fin b) (x2 : Fin c) (x3 : Fin d) (x4 : Fin e) :
    Ideal.hostReduceAdd h v init (ix5 x0 x1 x2 x3 x4) = init + ∑ k, v (ix6 x0 x1 x2 x3 x4 k) :=
  congrArg (init + ·) (Finset.sum_filter_eq_sum_of_fiber _ _ ix6_last (fiber_last h x0 x1 x2 x3 x4) v)

/-- The largest over the last of six axes. -/
theorem fold_last (h : (⟨6, ![a, b, c, d, e, n]⟩ : Shape).ReducesTo [5] ⟨5, ![a, b, c, d, e]⟩) (v : (⟨6, ![a, b, c, d, e, n]⟩ : Shape).Idx → EReal)
    (init : EReal) (x0 : Fin a) (x1 : Fin b) (x2 : Fin c) (x3 : Fin d) (x4 : Fin e) :
    (Finset.univ.filter fun i => h.drop i = ix5 x0 x1 x2 x3 x4).fold max init v = Finset.univ.fold max init fun k => v (ix6 x0 x1 x2 x3 x4 k) :=
  Finset.fold_filter_eq_fold_of_fiber _ _ _ ix6_last (fiber_last h x0 x1 x2 x3 x4) init v

/-- A sum over the first and the last of six axes, both of extent one. -/
theorem reduce_outer (h : (⟨6, ![1, b, c, d, e, 1]⟩ : Shape).ReducesTo [0, 5] ⟨4, ![b, c, d, e]⟩) (v : (⟨6, ![1, b, c, d, e, 1]⟩ : Shape).Idx → EReal)
    (init : EReal) (x1 : Fin b) (x2 : Fin c) (x3 : Fin d) (x4 : Fin e) :
    Ideal.hostReduceAdd h v init (ix4 x1 x2 x3 x4) = init + v (ix6 0 x1 x2 x3 x4 0) := by
  refine congrArg (init + ·) ?_
  refine Finset.sum_eq_single_of_mem (ix6 0 x1 x2 x3 x4 0) (Finset.mem_filter.mpr ⟨Finset.mem_univ _, ?_⟩) fun i hi hne => absurd ?_ hne
  · funext y
    match y with
    | 0 => rfl
    | 1 => rfl
    | 2 => rfl
    | 3 => rfl
  · have z := (Finset.mem_filter.mp hi).2
    have e1 : (i 1).val = x1.val := congrArg Fin.val (congrFun z 0)
    have e2 : (i 2).val = x2.val := congrArg Fin.val (congrFun z 1)
    have e3 : (i 3).val = x3.val := congrArg Fin.val (congrFun z 2)
    have e4 : (i 4).val = x4.val := congrArg Fin.val (congrFun z 3)
    funext y
    match y with
    | 0 => exact Subsingleton.elim (α := Fin 1) _ _
    | 1 => exact Fin.ext e1
    | 2 => exact Fin.ext e2
    | 3 => exact Fin.ext e3
    | 4 => exact Fin.ext e4
    | 5 => exact Subsingleton.elim (α := Fin 1) _ _

/-- A sum over the first two and the last two of six axes, all of extent one. -/
theorem reduce_frame (h : (⟨6, ![1, 1, c, d, 1, 1]⟩ : Shape).ReducesTo [0, 1, 4, 5] ⟨2, ![c, d]⟩) (v : (⟨6, ![1, 1, c, d, 1, 1]⟩ : Shape).Idx → EReal)
    (init : EReal) (x2 : Fin c) (x3 : Fin d) : Ideal.hostReduceAdd h v init (ix2 x2 x3) = init + v (ix6 0 0 x2 x3 0 0) := by
  refine congrArg (init + ·) ?_
  refine Finset.sum_eq_single_of_mem (ix6 0 0 x2 x3 0 0) (Finset.mem_filter.mpr ⟨Finset.mem_univ _, ?_⟩) fun i hi hne => absurd ?_ hne
  · funext y
    match y with
    | 0 => rfl
    | 1 => rfl
  · have z := (Finset.mem_filter.mp hi).2
    have e2 : (i 2).val = x2.val := congrArg Fin.val (congrFun z 0)
    have e3 : (i 3).val = x3.val := congrArg Fin.val (congrFun z 1)
    funext y
    match y with
    | 0 => exact Subsingleton.elim (α := Fin 1) _ _
    | 1 => exact Subsingleton.elim (α := Fin 1) _ _
    | 2 => exact Fin.ext e2
    | 3 => exact Fin.ext e3
    | 4 => exact Subsingleton.elim (α := Fin 1) _ _
    | 5 => exact Subsingleton.elim (α := Fin 1) _ _

/-- A sum over the second and the fifth of six axes. -/
theorem reduce_rows (h : (⟨6, ![1, b, c, d, e, 1]⟩ : Shape).ReducesTo [1, 4] ⟨4, ![1, c, d, 1]⟩) (v : (⟨6, ![1, b, c, d, e, 1]⟩ : Shape).Idx → EReal)
    (init : EReal) (x2 : Fin c) (x3 : Fin d) :
    Ideal.hostReduceAdd h v init (ix4 0 x2 x3 0) = init + ∑ x1 : Fin b, ∑ x4 : Fin e, v (ix6 0 x1 x2 x3 x4 0) := by
  refine congrArg (init + ·) ?_
  refine (Finset.sum_filter_eq_sum_of_fiber _ (fun k : Fin b × Fin e => (ix6 0 k.1 x2 x3 k.2 0 : (⟨6, ![1, b, c, d, e, 1]⟩ : Shape).Idx)) (fun k k' hk => Prod.ext (congrFun hk 1) (congrFun hk 4)) (fun i => ?_) v).trans
    (Fintype.sum_prod_type _)
  constructor
  · intro z
    have e2 : (i 2).val = x2.val := congrArg Fin.val (congrFun z 1)
    have e3 : (i 3).val = x3.val := congrArg Fin.val (congrFun z 2)
    refine ⟨(i 1, i 4), ?_⟩
    funext y
    match y with
    | 0 => exact Subsingleton.elim (α := Fin 1) _ _
    | 1 => rfl
    | 2 => exact Fin.ext e2.symm
    | 3 => exact Fin.ext e3.symm
    | 4 => rfl
    | 5 => exact Subsingleton.elim (α := Fin 1) _ _
  · rintro ⟨k, rfl⟩
    funext y
    match y with
    | 0 => exact Subsingleton.elim (α := Fin 1) _ _
    | 1 => rfl
    | 2 => rfl
    | 3 => exact Subsingleton.elim (α := Fin 1) _ _

end

end Cert.Sums
end
-- ==== Proof.Norm.lean ====
/- The backward step of the root-mean-square normalisation, over the reals. -/
module

public import proofs.«01_k».proof.Proof.Reals

@[expose] public section

noncomputable section

namespace Cert.Norm

open Idealize.ShloMosaic Cert.Reals

/-- The mean square of a row plus the small constant. -/
def ms (x : Fin 1024 → EReal) : EReal :=
  Ideal.div (∑ k, x k * x k) (Ideal.ofBits FTy.f32 1149239296#32) + Ideal.ofBits FTy.f32 925353388#32

/-- It is a positive real. -/
theorem ms_real (X : Fin 1024 → ℝ) : ∃ v : ℝ, 0 < v ∧ ms (fun k => (X k : EReal)) = (v : EReal) := by
  obtain ⟨e, he, hE⟩ := cEps
  refine ⟨(∑ k, X k * X k) / 1024 + e, ?_, ?_⟩
  · have : 0 ≤ ∑ k, X k * X k := Finset.sum_nonneg fun k _ => mul_self_nonneg _
    positivity
  · unfold ms
    simp only [← EReal.coe_mul]
    rw [coe_sum, c1024, hE, div_coe _ _ (by norm_num), ← EReal.coe_add]

/-- The gradient through the normalisation in the kernel's form equals the derivative of the mean, root and quotient in turn. -/
theorem rms_bwd (x d : Fin 1024 → EReal) (hx : ∀ k, IsReal (x k)) (hd : ∀ k, IsReal (d k)) (d2 : EReal) (k : Fin 1024) :
    d2 + Ideal.rsqrt (ms x) * (d k - x k * Ideal.rsqrt (ms x) * Ideal.div (∑ i, d i * (x i * Ideal.rsqrt (ms x))) (Ideal.ofBits FTy.f32 1149239296#32))
      = d2 + d k * Ideal.rsqrt (ms x)
        + x k * Ideal.div ((∑ i, x i * d i) * (Ideal.ofBits FTy.f32 3204448256#32 * Ideal.div (Ideal.rsqrt (ms x)) (ms x))) (Ideal.ofBits FTy.f32 1149239296#32)
        + Ideal.div ((∑ i, x i * d i) * (Ideal.ofBits FTy.f32 3204448256#32 * Ideal.div (Ideal.rsqrt (ms x)) (ms x))) (Ideal.ofBits FTy.f32 1149239296#32) * x k := by
  choose X hX using hx
  choose D hD using hd
  obtain rfl : x = fun k => (X k : EReal) := funext hX
  obtain rfl : d = fun k => (D k : EReal) := funext hD
  obtain ⟨v, hv, hms⟩ := ms_real X
  rw [hms, rsqrt_coe v hv, c1024, cHalfNeg, div_coe _ _ hv.ne']
  simp only [← EReal.coe_mul, coe_sum]
  rw [div_coe _ _ (by norm_num), div_coe _ _ (by norm_num)]
  simp only [← EReal.coe_mul, ← EReal.coe_sub, add_assoc, ← EReal.coe_add]
  congr 2
  have hs : Real.sqrt v ≠ 0 := (Real.sqrt_pos.mpr hv).ne'
  have hvv : v = Real.sqrt v * Real.sqrt v := (Real.mul_self_sqrt hv.le).symm
  have e : ∑ i, D i * (X i * (Real.sqrt v)⁻¹) = (∑ i, X i * D i) * (Real.sqrt v)⁻¹ := by
    rw [Finset.sum_mul]; exact Finset.sum_congr rfl fun i _ => by ring
  rw [e]
  generalize (∑ i, X i * D i) = S
  have hq : (Real.sqrt v)⁻¹ / v = (Real.sqrt v)⁻¹ * (Real.sqrt v)⁻¹ * (Real.sqrt v)⁻¹ := by
    conv_lhs => rw [hvv]
    rw [Real.sqrt_mul_self (Real.sqrt_nonneg v)]
    field_simp
  rw [hq]; ring

end Cert.Norm
end
-- ==== Proof.Inproj.Ref.lean ====
/- What the reference's arrays hold, entry by entry: the gradient of the projection's result, of the normalised input, and the four results. -/
module

public import proofs.«01_k».proof.Proof.Gen.InprojBwdRefIdeal.Read
public import proofs.«01_k».proof.Proof.Sums
public import proofs.«01_k».proof.Proof.Rope
public import proofs.«01_k».proof.Proof.Norm

@[expose] public section

set_option maxRecDepth 16384

noncomputable section

namespace Cert.InprojBwdRefIdeal.Read

open Cert.Rope Cert.Norm Cert.InprojBwdRefIdeal Cert.InprojBwdRefIdeal.Gen Idealize.ShloMosaic Idealize.ShloMosaic.TcCoe Idealize.SL.Sem

/-- The tables of the angles' cosines and sines. -/
theorem cos_ref (i : Fin 8192) (j : Fin 32) : val_main_v24 (F := Ideal) (ix2 i j) = cosT i.val j.val ∧ val_main_v25 (F := Ideal) (ix2 i j) = sinT i.val j.val := by
  unfold cosT sinT ang freq
  constructor
  all_goals pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_cst_0, val_main_cst_1, val_main_cst_2, val_main_cst_3, val_main_cst_4]

/-- The gradient of a rotated row: lane `l` of a head takes the cosine of its own gradient and the sine of its partner's. -/
def unrotR {n : Nat} (d : Fin n → EReal) (i : Nat) (hn : n % 64 = 0) (j : Fin n) : EReal :=
  if h : j.val % 64 < 32 then d ⟨j.val + 32, by omega⟩ * sinT i (j.val % 32) + d j * cosT i (j.val % 32)
  else d j * cosT i (j.val % 32) + -d ⟨j.val - 32, by omega⟩ * sinT i (j.val % 32)

/-- The slices and joins of one head of 64 lanes, as the reference takes them, are `unrotR`. -/
theorem unrot_form {n : Nat} (d : Fin n → EReal) (i : Fin 8192) (hn : n % 64 = 0) (j : Fin n) :
    (if h : j.val % 64 < 32 then
        d ⟨j.val / 64 * 64 + (32 + j.val % 64), by omega⟩ * val_main_v25 (F := Ideal) (ix2 i ⟨j.val % 64, by omega⟩) + d j * val_main_v24 (F := Ideal) (ix2 i ⟨j.val % 64, by omega⟩)
      else d ⟨j.val / 64 * 64 + (32 + (j.val % 64 - 32)), by omega⟩ * val_main_v24 (F := Ideal) (ix2 i ⟨j.val % 64 - 32, by omega⟩)
        + -d ⟨j.val / 64 * 64 + (j.val % 64 - 32), by omega⟩ * val_main_v25 (F := Ideal) (ix2 i ⟨j.val % 64 - 32, by omega⟩)) = unrotR d i.val hn j := by
  have hd : ∀ a b : Fin n, a.val = b.val → d a = d b := fun a b h => congrArg d (Fin.ext h)
  unfold unrotR
  by_cases h : j.val % 64 < 32
  · rw [dif_pos h, dif_pos h, (cos_ref _ _).1, (cos_ref _ _).2, hd _ ⟨j.val + 32, by omega⟩ (by show j.val / 64 * 64 + (32 + j.val % 64) = _; dsimp only; omega)]
    simp only [show j.val % 64 = j.val % 32 by omega]
  · rw [dif_neg h, dif_neg h, (cos_ref _ _).1, (cos_ref _ _).2, hd _ j (by show j.val / 64 * 64 + (32 + (j.val % 64 - 32)) = _; omega),
      hd ⟨j.val / 64 * 64 + (j.val % 64 - 32), _⟩ ⟨j.val - 32, by omega⟩ (by show j.val / 64 * 64 + (j.val % 64 - 32) = _; dsimp only; omega)]
    simp only [show j.val % 64 - 32 = j.val % 32 by omega]

theorem ev99 (x4) (i : Fin 8192) (j : Fin 128) :
    val_main_v99 (F := Ideal) x4 (ix4 0 i ⟨j.val / 64, by omega⟩ ⟨j.val % 64, by omega⟩) = unrotR (fun k : Fin 128 => x4 (ix2 i k)) i.val (by decide) j := by
  pointwise [val_main_v3, val_main_v58, val_main_v59, val_main_v86, val_main_v87, val_main_v88, val_main_v89, val_main_v90, val_main_v91, val_main_v92, val_main_v93, val_main_v94, val_main_v95, val_main_v96, val_main_v97, val_main_v98, val_main_v99, val_main_v73, val_main_v74]
  exact unrot_form (fun k : Fin 128 => x4 (ix2 i k)) i (by decide) j

theorem ev113 (x3) (i : Fin 8192) (j : Fin 512) :
    val_main_v113 (F := Ideal) x3 (ix4 0 i ⟨j.val / 64, by omega⟩ ⟨j.val % 64, by omega⟩) = unrotR (fun k : Fin 512 => x3 (ix2 i k)) i.val (by decide) j := by
  pointwise [val_main_v2, val_main_v58, val_main_v59, val_main_v100, val_main_v101, val_main_v102, val_main_v103, val_main_v104, val_main_v105, val_main_v106, val_main_v107, val_main_v108, val_main_v109, val_main_v110, val_main_v111, val_main_v112, val_main_v113]
  exact unrot_form (fun k : Fin 512 => x3 (ix2 i k)) i (by decide) j

/-- The gradient of the projection's result: the rotated parts of the queries and the keys, the values and the pooled branch side by side. -/
def dzR (x3 : S8192x512.Idx → EReal) (x4 x5 : S8192x128.Idx → EReal) (x6 : S8192x512.Idx → EReal) (i : Fin 8192) (j : Fin 1280) : EReal :=
  if h : j.val < 512 then unrotR (fun k : Fin 512 => x3 (ix2 i k)) i.val (by decide) ⟨j.val, h⟩
  else if h' : j.val < 640 then unrotR (fun k : Fin 128 => x4 (ix2 i k)) i.val (by decide) ⟨j.val - 512, by omega⟩
  else if h'' : j.val < 768 then x5 (ix2 i ⟨j.val - 640, by omega⟩)
  else x6 (ix2 i ⟨j.val - 768, by omega⟩)

theorem ev123 (x3 x4 x5 x6) (i : Fin 8192) (j : Fin 1280) : val_main_v123 (F := Ideal) x3 x4 x5 x6 (ix3 0 i j) = dzR x3 x4 x5 x6 i j := by
  pointwise [val_main_v4, val_main_v5, val_main_v6, val_main_v114, val_main_v115, val_main_v116, val_main_v117, val_main_v118, val_main_v119, val_main_v120, val_main_v121, val_main_v122, val_main_v123, val_main_cst_9, val_main_cst_10, val_main_cst_11, val_main_cst_12]
  have hj := j.isLt
  unfold dzR
  by_cases h : j.val < 512
  · rw [dif_pos h, dif_pos h, dif_neg (by omega), dif_neg (by omega), dif_neg (by omega), ← ev113]
    simp
  · by_cases h' : j.val < 640
    · rw [dif_neg h, dif_neg h, dif_pos h', dif_neg (by omega), dif_neg (by omega), dif_pos (by omega), ← ev99]
      simp
    · by_cases h'' : j.val < 768
      · rw [dif_neg h, dif_neg h, dif_neg h', dif_pos h'', dif_neg (by omega), dif_pos (by omega), dif_neg (by omega)]
        simp
      · rw [dif_neg h, dif_neg h, dif_neg h', dif_neg h'', dif_pos (by omega), dif_neg (by omega), dif_neg (by omega)]
        simp

/-- The gradient of the normalised and scaled input. -/
def dhR (x2 : S1x1024x1280.Idx → EReal) (x3 : S8192x512.Idx → EReal) (x4 x5 : S8192x128.Idx → EReal) (x6 : S8192x512.Idx → EReal) (i : Fin 8192) (k : Fin 1024) : EReal :=
  ∑ j : Fin 1280, dzR x3 x4 x5 x6 i j * x2 (ix3 0 k j)

theorem ev130 (x2 x3 x4 x5 x6) (i : Fin 8192) (k : Fin 1024) : val_main_v130 (F := Ideal) x2 x3 x4 x5 x6 (ix3 0 i k) = dhR x2 x3 x4 x5 x6 i k := by
  pointwise [val_main_v130, val_main_v43, ev123]
  rfl

/-- Row `i` of the input and its mean square. -/
def rowR (x0 : S1x8192x1024.Idx → EReal) (i : Fin 8192) (k : Fin 1024) : EReal := x0 (ix3 0 i k)

theorem ev33 (x0) (i : Fin 8192) : val_main_v33 (F := Ideal) x0 (ix3 0 i 0) = ms (rowR x0 i) := by
  pointwise [val_main_v27, val_main_cst_5, val_main_v28, val_main_v29, val_main_cst_6, val_main_v30, val_main_v31, val_main_cst_7, val_main_v32, val_main_v33]
  rfl

theorem ev39 (x0) (i : Fin 8192) (k : Fin 1024) : val_main_v39 (F := Ideal) x0 (ix3 0 i k) = rowR x0 i k * Ideal.rsqrt (ms (rowR x0 i)) := by
  pointwise [val_main_v34, val_main_v38, val_main_v39, ev33]
  rfl

/-- The bias's gradient. -/
theorem ev127 (x3 x4 x5 x6) (j : Fin 1280) : val_main_v127 (F := Ideal) x3 x4 x5 x6 (ix2 0 j) = ∑ i, dzR x3 x4 x5 x6 i j := by
  pointwise [val_main_v127, val_main_v126, val_main_v125, val_main_v124, val_main_cst_13, val_main_cst_14, Cert.Sums.reduce_lead, Cert.Sums.reduce_ends, ev123]

/-- The weights' gradient, transposed. -/
theorem ev157 (x0 x1 x3 x4 x5 x6) (j : Fin 1280) (k : Fin 1024) : val_main_v157 (F := Ideal) x0 x1 x3 x4 x5 x6 (ix2 j k)
    = ∑ i, dzR x3 x4 x5 x6 i j * (rowR x0 i k * Ideal.rsqrt (ms (rowR x0 i)) * x1 (ix2 0 k)) := by
  pointwise [val_main_v157, val_main_v156, val_main_v131, val_main_v129, val_main_v128, val_main_v26, val_main_v40, val_main_v41, val_main_v42]
  rw [Fin.sum_univ_one]
  exact Finset.sum_congr rfl fun i _ => by rw [ev123, ev39]

/-- The gain's gradient. -/
theorem ev154 (x0 x2 x3 x4 x5 x6) (k : Fin 1024) : val_main_v154 (F := Ideal) x0 x2 x3 x4 x5 x6 (ix2 0 k)
    = ∑ i, rowR x0 i k * Ideal.rsqrt (ms (rowR x0 i)) * dhR x2 x3 x4 x5 x6 i k := by
  pointwise [val_main_v154, val_main_v132, val_main_cst_15, val_main_v133, val_main_v134, val_main_cst_16, val_main_v137, val_main_v26, Cert.Sums.reduce_lead, Cert.Sums.reduce_ends, ev39, ev130]

theorem ev140 (x0 x1 x2 x3 x4 x5 x6) (i : Fin 8192) : val_main_v140 (F := Ideal) x0 x1 x2 x3 x4 x5 x6 (ix3 0 i 0)
    = ∑ k, rowR x0 i k * (dhR x2 x3 x4 x5 x6 i k * x1 (ix2 0 k)) := by
  pointwise [val_main_v135, val_main_v136, val_main_v138, val_main_cst_17, val_main_v139, val_main_v140, val_main_v40, val_main_v26, ev130]
  rfl

theorem ev147 (x0 x1 x2 x3 x4 x5 x6) (i : Fin 8192) : val_main_v147 (F := Ideal) x0 x1 x2 x3 x4 x5 x6 (ix1 i)
    = Ideal.div ((∑ k, rowR x0 i k * (dhR x2 x3 x4 x5 x6 i k * x1 (ix2 0 k))) * (Ideal.ofBits FTy.f32 3204448256#32 * Ideal.div (Ideal.rsqrt (ms (rowR x0 i))) (ms (rowR x0 i)))) (Ideal.ofBits FTy.f32 1149239296#32) := by
  pointwise [val_main_v34, val_main_v35, val_main_cst_8, val_main_v36, val_main_v37, val_main_v144, val_main_cst_18, val_main_v145, val_main_v146, val_main_cst_19, val_main_v147, Cert.Sums.reduce_ends, ev140, ev33]

/-- The input's gradient. -/
theorem ev155 (x0 x1 x2 x3 x4 x5 x6 x7) (i : Fin 8192) (k : Fin 1024) : val_main_v155 (F := Ideal) x0 x1 x2 x3 x4 x5 x6 x7 (ix2 i k)
    = x7 (ix2 i k) + dhR x2 x3 x4 x5 x6 i k * x1 (ix2 0 k) * Ideal.rsqrt (ms (rowR x0 i)) + rowR x0 i k * val_main_v147 (F := Ideal) x0 x1 x2 x3 x4 x5 x6 (ix1 i) + val_main_v147 (F := Ideal) x0 x1 x2 x3 x4 x5 x6 (ix1 i) * rowR x0 i k := by
  pointwise [val_main_v1, val_main_v26, val_main_v34, val_main_v35, val_main_v38, val_main_v40, val_main_v135, val_main_v136, val_main_v141, val_main_v142, val_main_v143, val_main_v148, val_main_v149, val_main_v150, val_main_v151, val_main_v152, val_main_v153, val_main_v155, ev33, ev130]
  rfl

end Cert.InprojBwdRefIdeal.Read
end
-- ==== Proof.Inproj.Value.lean ====
/- The kernel's four arrays after the run, entry by entry, as the reference's entries. -/
module

public import proofs.«01_k».proof.Proof.Inproj.Arrays
public import proofs.«01_k».proof.Proof.Inproj.Ref
public import proofs.«01_k».proof.Proof.Gen.InprojBwdIdeal.Value

@[expose] public section

set_option maxRecDepth 16384

noncomputable section

namespace Cert.InprojBwdIdeal.Block

open Cert.Reals Cert.Rope Cert.Norm Cert.InprojBwdIdeal Cert.InprojBwdIdeal.Gen Idealize.ShloMosaic Idealize.ShloMosaic.TcCoe Idealize.SL.Sem
open Cert.InprojBwdRefIdeal.Read (unrotR dzR dhR rowR)
open Idealize.ShloMosaic.Pipeline (Dat)

variable (m : (ℓ : Loc nD τ sig) → Buf (Elt Ideal) ℓ) (c : Dev nD) (t : Fin cfg0.N)

theorem t_lt : t.val < 16 := lt_of_lt_of_eq t.isLt Gen.N_0

/-- The tile's cosines are those of its rows. -/
theorem cosB_eq (p : Fin 512) (l : Fin 128) : cosB (iblk m c 4 t) (iblk m c 5 t) p l = cosT (row t p).val (l.val % 32) := by
  unfold cosB
  rw [blk4, blk4, blk5, blk5, (tab4 m c p l).1, (tab4 m c p l).2.1, (tab5 m c _ l).1, (tab5 m c _ l).2]
  exact cos_tile t.val p.val (l.val % 32) (t_lt t) p.isLt (by omega)

/-- The tile's signed sines are those of its rows: negative in the first half of every 64 lanes. -/
theorem sinB_eq (p : Fin 512) (l : Fin 128) :
    sinB (iblk m c 4 t) (iblk m c 5 t) p l = ((if l.val % 64 / 32 = 0 then -1 else 1 : ℝ) : EReal) * sinT (row t p).val (l.val % 32) := by
  unfold sinB
  rw [blk4, blk4, blk5, blk5, (tab4 m c p l).2.2.1, (tab4 m c p l).2.2.2, (tab5 m c _ l).1, (tab5 m c _ l).2, lit0_val]
  exact sin_tile _ t.val p.val (l.val % 32) (t_lt t) p.isLt (by omega)

theorem unrot_eq {n : Nat} (d : Fin n → EReal) (p : Fin 512) (hn : n % 64 = 0) (j : Fin n) :
    unrotB d (cosB (iblk m c 4 t) (iblk m c 5 t) p) (sinB (iblk m c 4 t) (iblk m c 5 t) p) hn j = unrotR d (row t p).val hn j := by
  unfold unrotB unrotR
  simp only [cosB_eq, sinB_eq]
  by_cases h : j.val % 64 < 32
  · rw [dif_pos h, dif_pos h, if_neg (by omega), show j.val % 128 % 32 = j.val % 32 by omega, show (j.val + 32) % 128 % 32 = j.val % 32 by omega, EReal.coe_one, one_mul, add_comm]
  · rw [dif_neg h, dif_neg h, if_pos (by omega), show j.val % 128 % 32 = j.val % 32 by omega, show (j.val - 32) % 128 % 32 = j.val % 32 by omega, EReal.coe_neg, EReal.coe_one, neg_mul, one_mul, mul_neg, neg_mul]

theorem dz_eq (p : Fin 512) (j : Fin 1280) :
    dzB (iblk m c 0 t) (iblk m c 1 t) (iblk m c 2 t) (iblk m c 3 t) (iblk m c 4 t) (iblk m c 5 t) p j = dzR (m ((c : Thread nD τ).loc main_arg3)) (m ((c : Thread nD τ).loc main_arg4)) (m ((c : Thread nD τ).loc main_arg5)) (m ((c : Thread nD τ).loc main_arg6)) (row t p) j := by
  unfold dzB dzR
  simp only [unrot_eq, blk0, blk1, blk2, blk3]

theorem dh_eq (p : Fin 512) (k : Fin 1024) :
    dhB (iblk m c 0 t) (iblk m c 1 t) (iblk m c 2 t) (iblk m c 3 t) (iblk m c 4 t) (iblk m c 5 t) (iblk m c 6 t) p k = dhR (m ((c : Thread nD τ).loc main_arg2)) (m ((c : Thread nD τ).loc main_arg3)) (m ((c : Thread nD τ).loc main_arg4)) (m ((c : Thread nD τ).loc main_arg5)) (m ((c : Thread nD τ).loc main_arg6)) (row t p) k := by
  unfold dhB dhR
  simp only [dz_eq, blk6]

theorem r_eq (p : Fin 512) : rB (iblk m c 7 t) p = Ideal.rsqrt (ms (rowR (m ((c : Thread nD τ).loc main_arg0)) (row t p))) := by
  unfold rB ms rowR
  simp only [blk7]

theorem n_eq (p : Fin 512) (k : Fin 1024) : nB (iblk m c 7 t) p k = rowR (m ((c : Thread nD τ).loc main_arg0)) (row t p) k * Ideal.rsqrt (ms (rowR (m ((c : Thread nD τ).loc main_arg0)) (row t p))) := by
  unfold nB
  rw [r_eq, blk7]; rfl

theorem h_eq (p : Fin 512) (k : Fin 1024) : hB (iblk m c 7 t) (iblk m c 8 t) p k = rowR (m ((c : Thread nD τ).loc main_arg0)) (row t p) k * Ideal.rsqrt (ms (rowR (m ((c : Thread nD τ).loc main_arg0)) (row t p))) * (m ((c : Thread nD τ).loc main_arg1)) (ix2 0 k) := by
  unfold hB
  rw [n_eq, blk8]

/-- A sum over the tiles and the rows of each is a sum over all rows. -/
theorem sum_rows (f : Fin 8192 → EReal) : ∑ t : Fin cfg0.N, ∑ p : Fin 512, f (row t p) = ∑ i, f i :=
  Fin.sum_mul_add_congr (fun s k hl => congrArg f (Fin.ext (by show 512 * s.val + k.val = s.val * 512 + k.val; omega))) (by rw [show cfg0.N = 16 from Gen.N_0])

variable (x0 : S1x8192x1024.Idx → EReal) (x1 : S1x1024.Idx → EReal) (x2 : S1x1024x1280.Idx → EReal) (x3 : S8192x512.Idx → EReal) (x4 x5 : S8192x128.Idx → EReal) (x6 : S8192x512.Idx → EReal) (x7 : S8192x1024.Idx → EReal)

/-- The weights' gradient, transposed; the bias's; the gain's; and the input's in the kernel's form. -/
def dwF (y : S1280x1024.Idx) : EReal := ∑ i, dzR x3 x4 x5 x6 i (y 0) * (rowR x0 i (y 1) * Ideal.rsqrt (ms (rowR x0 i)) * x1 (ix2 0 (y 1)))
def dbF (y : S1x1280.Idx) : EReal := ∑ i, dzR x3 x4 x5 x6 i (y 1)
def dgF (y : S1x1024.Idx) : EReal := ∑ i, rowR x0 i (y 1) * Ideal.rsqrt (ms (rowR x0 i)) * dhR x2 x3 x4 x5 x6 i (y 1)
def dxF (y : S8192x1024.Idx) : EReal :=
  x7 y + Ideal.rsqrt (ms (rowR x0 (y 0))) * (dhR x2 x3 x4 x5 x6 (y 0) (y 1) * x1 (ix2 0 (y 1))
      - rowR x0 (y 0) (y 1) * Ideal.rsqrt (ms (rowR x0 (y 0))) * Ideal.div (∑ l, dhR x2 x3 x4 x5 x6 (y 0) l * x1 (ix2 0 l) * (rowR x0 (y 0) l * Ideal.rsqrt (ms (rowR x0 (y 0))))) (Ideal.ofBits FTy.f32 1149239296#32))

/-- The last point. -/
def tL : Fin cfg0.N := ⟨15, lt_of_lt_of_eq (by decide) Gen.N_0.symm⟩

/-- The weights' gradient after the run. -/
theorem arr11 : (dats m 0 c).arrAt 11 cfg0.N = dwF (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (dats m 0 c).arrAt_eq_of_after_last 11 tL (by decide +kernel) _ fun y => ?_
  blk_simp
  rw [after0_11]
  refine (Pipeline.eq_sum_fin_of_reset_step_apply_last (fun n h => (outsAt0 m c n h).2.1) 16 (fun _ => (0 : EReal))
    (fun t y => ∑ p, dzR (m ((c : Thread nD τ).loc main_arg3)) (m ((c : Thread nD τ).loc main_arg4)) (m ((c : Thread nD τ).loc main_arg5)) (m ((c : Thread nD τ).loc main_arg6)) (row t p) (y 0) * (rowR (m ((c : Thread nD τ).loc main_arg0)) (row t p) (y 1) * Ideal.rsqrt (ms (rowR (m ((c : Thread nD τ).loc main_arg0)) (row t p))) * (m ((c : Thread nD τ).loc main_arg1)) (ix2 0 (y 1)))) (fun t h y => ?_) (fun t h y => ?_) (le_of_eq Gen.N_0) tL rfl y).trans ?_
  · exact ((out11_A m c t h y).trans (Finset.sum_congr rfl fun p _ => congrArg₂ (fun a b : EReal => a * b) (dz_eq m c t p (y 0)) (h_eq m c t p (y 1)))).trans (zero_add (M := EReal) _).symm
  · exact (out11_B m c t h y).trans (congrArg (fun z : EReal => (outsAt0 (F := Ideal) m c (t.val - 1) (Nat.lt_of_le_of_lt (Nat.sub_le _ _) t.isLt)).2.1 y + z) (Finset.sum_congr rfl fun p _ => congrArg₂ (fun a b : EReal => a * b) (dz_eq m c t p (y 0)) (h_eq m c t p (y 1))))
  · rw [zero_add]
    exact (sum_rows fun i => dzR (m ((c : Thread nD τ).loc main_arg3)) (m ((c : Thread nD τ).loc main_arg4)) (m ((c : Thread nD τ).loc main_arg5)) (m ((c : Thread nD τ).loc main_arg6)) i (y 0) * (rowR (m ((c : Thread nD τ).loc main_arg0)) i (y 1) * Ideal.rsqrt (ms (rowR (m ((c : Thread nD τ).loc main_arg0)) i)) * (m ((c : Thread nD τ).loc main_arg1)) (ix2 0 (y 1))))

/-- The bias's gradient after the run. -/
theorem arr12 : (dats m 0 c).arrAt 12 cfg0.N = dbF (m ((c : Thread nD τ).loc main_arg3)) (m ((c : Thread nD τ).loc main_arg4)) (m ((c : Thread nD τ).loc main_arg5)) (m ((c : Thread nD τ).loc main_arg6)) := by
  refine (dats m 0 c).arrAt_eq_of_after_last 12 tL (by decide +kernel) _ fun y => ?_
  blk_simp
  rw [after0_12]
  refine (Pipeline.eq_sum_fin_of_reset_step_apply_last (fun n h => (outsAt0 m c n h).2.2.1) 16 (fun _ => (0 : EReal))
    (fun t y => ∑ p, dzR (m ((c : Thread nD τ).loc main_arg3)) (m ((c : Thread nD τ).loc main_arg4)) (m ((c : Thread nD τ).loc main_arg5)) (m ((c : Thread nD τ).loc main_arg6)) (row t p) (y 1)) (fun t h y => ?_) (fun t h y => ?_) (le_of_eq Gen.N_0) tL rfl y).trans ?_
  · exact ((out12_A m c t h y).trans (Finset.sum_congr rfl fun p _ => dz_eq m c t p (y 1))).trans (zero_add (M := EReal) _).symm
  · exact (out12_B m c t h y).trans (congrArg (fun z : EReal => (outsAt0 (F := Ideal) m c (t.val - 1) (Nat.lt_of_le_of_lt (Nat.sub_le _ _) t.isLt)).2.2.1 y + z) (Finset.sum_congr rfl fun p _ => dz_eq m c t p (y 1)))
  · rw [zero_add]
    exact (sum_rows fun i => dzR (m ((c : Thread nD τ).loc main_arg3)) (m ((c : Thread nD τ).loc main_arg4)) (m ((c : Thread nD τ).loc main_arg5)) (m ((c : Thread nD τ).loc main_arg6)) i (y 1))

/-- The gain's gradient after the run. -/
theorem arr13 : (dats m 0 c).arrAt 13 cfg0.N = dgF (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 13 tL (by decide +kernel) _ fun y => ?_
  blk_simp
  rw [after0_13]
  refine (Pipeline.eq_sum_fin_of_reset_step_apply_last (fun n h => (outsAt0 m c n h).2.2.2) 16 (fun _ => (0 : EReal))
    (fun t y => ∑ p, rowR (m ((c : Thread nD τ).loc main_arg0)) (row t p) (y 1) * Ideal.rsqrt (ms (rowR (m ((c : Thread nD τ).loc main_arg0)) (row t p))) * dhR (m ((c : Thread nD τ).loc main_arg2)) (m ((c : Thread nD τ).loc main_arg3)) (m ((c : Thread nD τ).loc main_arg4)) (m ((c : Thread nD τ).loc main_arg5)) (m ((c : Thread nD τ).loc main_arg6)) (row t p) (y 1)) (fun t h y => ?_) (fun t h y => ?_) (le_of_eq Gen.N_0) tL rfl y).trans ?_
  · exact ((out13_A m c t h y).trans (Finset.sum_congr rfl fun p _ => (congrArg₂ (fun a b : EReal => a * b) (dh_eq m c t p (y 1)) (n_eq m c t p (y 1))).trans (mul_comm _ _))).trans (zero_add (M := EReal) _).symm
  · exact (out13_B m c t h y).trans (congrArg (fun z : EReal => (outsAt0 (F := Ideal) m c (t.val - 1) (Nat.lt_of_le_of_lt (Nat.sub_le _ _) t.isLt)).2.2.2 y + z) (Finset.sum_congr rfl fun p _ => (congrArg₂ (fun a b : EReal => a * b) (dh_eq m c t p (y 1)) (n_eq m c t p (y 1))).trans (mul_comm _ _)))
  · rw [zero_add]
    exact (sum_rows fun i => rowR (m ((c : Thread nD τ).loc main_arg0)) i (y 1) * Ideal.rsqrt (ms (rowR (m ((c : Thread nD τ).loc main_arg0)) i)) * dhR (m ((c : Thread nD τ).loc main_arg2)) (m ((c : Thread nD τ).loc main_arg3)) (m ((c : Thread nD τ).loc main_arg4)) (m ((c : Thread nD τ).loc main_arg5)) (m ((c : Thread nD τ).loc main_arg6)) i (y 1))

/-- The input's gradient after the run, in the kernel's form. -/
theorem arr10 : (dats m 0 c).arrAt 10 cfg0.N = dxF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t hf y => ?_
  obtain ⟨p, k, rfl⟩ : ∃ (p : Fin 512) (k : Fin 1024), y = ix2 p k := ⟨y 0, y 1, eq_ix2 y⟩
  blk_simp
  rw [after0_10]
  refine (out10 m c t p k).trans ?_
  unfold dxB
  simp only [dh_eq, n_eq, r_eq, blk8, blk9]
  refine Eq.trans ?_ (congrArg (dxF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (show ix2 (row t p) k = _ from ?_))
  · rfl
  · blk_ext [index_rows t, row]

end Cert.InprojBwdIdeal.Block
end
-- ==== Proof.Inproj.Claim.lean ====
/- The value claim of the input projection's backward call: the four arrays the kernel leaves are the reference's. -/
module

public import proofs.«01_k».proof.Defs
public import proofs.«01_k».proof.Proof.Inproj.Value
public import proofs.«01_k».proof.Proof.Gen.InprojBwdRefIdeal.Run
public import proofs.«01_k».proof.Proof.Gen.Pre_finite

@[expose] public section

set_option maxRecDepth 16384

noncomputable section

namespace Cert.InprojBwdIdeal.Block

open Cert.Reals Cert.Rope Cert.Norm Cert.InprojBwdIdeal Cert.InprojBwdIdeal.Gen Idealize.ShloMosaic Idealize.ShloMosaic.TcCoe Idealize.SL.Sem
open Cert.InprojBwdRefIdeal.Read (unrotR dzR dhR rowR)

variable (m : (ℓ : Loc nD τ sig) → Buf (Elt Ideal) ℓ)

/-- The precondition, entry by entry. -/
theorem pre_real (h : Cert.Pre_InprojBwdIdeal_finite m) (c : Dev nD) :
    (∀ y, IsReal (m ((c : Thread nD τ).loc main_arg0) y)) ∧ (∀ y, IsReal (m ((c : Thread nD τ).loc main_arg1) y)) ∧ (∀ y, IsReal (m ((c : Thread nD τ).loc main_arg2) y))
    ∧ (∀ y, IsReal (m ((c : Thread nD τ).loc main_arg3) y)) ∧ (∀ y, IsReal (m ((c : Thread nD τ).loc main_arg4) y)) ∧ (∀ y, IsReal (m ((c : Thread nD τ).loc main_arg5) y))
    ∧ (∀ y, IsReal (m ((c : Thread nD τ).loc main_arg6) y)) := by
  obtain ⟨h0, h1, h2, h3, h4, h5, h6⟩ := h c
  exact ⟨fun y => isReal_of_cmp (congrFun h0 y), fun y => isReal_of_cmp (congrFun h1 y), fun y => isReal_of_cmp (congrFun h2 y), fun y => isReal_of_cmp (congrFun h3 y),
    fun y => isReal_of_cmp (congrFun h4 y), fun y => isReal_of_cmp (congrFun h5 y), fun y => isReal_of_cmp (congrFun h6 y)⟩

theorem unrotR_real {n : Nat} (d : Fin n → EReal) (i : Nat) (hi : i < 8192) (hn : n % 64 = 0) (j : Fin n) (hd : ∀ k, IsReal (d k)) : IsReal (unrotR d i hn j) := by
  unfold unrotR
  split
  · exact ((hd _).mul (sinT_real _ _ hi (by omega))).add ((hd _).mul (cosT_real _ _ hi (by omega)))
  · exact ((hd _).mul (cosT_real _ _ hi (by omega))).add ((hd _).neg.mul (sinT_real _ _ hi (by omega)))

/-- Of real arguments the gradient of the normalised input is real. -/
theorem dhR_real (x2 x3 x4 x5 x6) (h2 : ∀ y, IsReal (x2 y)) (h3 : ∀ y, IsReal (x3 y)) (h4 : ∀ y, IsReal (x4 y)) (h5 : ∀ y, IsReal (x5 y)) (h6 : ∀ y, IsReal (x6 y)) (i : Fin 8192) (k : Fin 1024) :
    IsReal (dhR x2 x3 x4 x5 x6 i k) := by
  refine IsReal.sum fun j _ => IsReal.mul ?_ (h2 _)
  unfold dzR
  split
  · exact unrotR_real _ _ i.isLt _ _ fun k => h3 _
  split
  · exact unrotR_real _ _ i.isLt _ _ fun k => h4 _
  split
  · exact h5 _
  · exact h6 _

theorem algebraic : Cert.algebraic_InprojBwdIdeal_InprojBwdRefIdeal_pre_finite := by
  pair_intro
  · run_from Cert.InprojBwdIdeal.Value.run_blocks m g
  · run_from Cert.InprojBwdRefIdeal.Value.run m' g'
    · obtain ⟨h0, h1, h2, h3, h4, h5, h6⟩ := pre_real m hpre c
      obtain ⟨e0, e1, e2, e3, e4, e5, e6, e7⟩ := hagree c
      rw [Cert.InprojBwdRefIdeal.Read.val_main_v155_eq, arr10, e0, e1, e2, e3, e4, e5, e6, e7]
      funext y
      obtain ⟨i, k, rfl⟩ : ∃ (i : Fin 8192) (k : Fin 1024), y = ix2 i k := ⟨y 0, y 1, eq_ix2 y⟩
      refine (Cert.InprojBwdRefIdeal.Read.ev155 _ _ _ _ _ _ _ _ i k).trans ?_
      rw [Cert.InprojBwdRefIdeal.Read.ev147]
      exact (rms_bwd (rowR _ i) (fun k => dhR _ _ _ _ _ i k * m ((c : Thread nD τ).loc main_arg1) (ix2 0 k)) (fun k => h0 _) (fun k => (dhR_real _ _ _ _ _ h2 h3 h4 h5 h6 i k).mul (h1 _)) _ k).symm
    · obtain ⟨e0, e1, e2, e3, e4, e5, e6, e7⟩ := hagree c
      rw [Cert.InprojBwdRefIdeal.Read.val_main_v157_eq, arr11, e0, e1, e3, e4, e5, e6]
      funext y
      obtain ⟨i, k, rfl⟩ : ∃ (i : Fin 1280) (k : Fin 1024), y = ix2 i k := ⟨y 0, y 1, eq_ix2 y⟩
      exact Cert.InprojBwdRefIdeal.Read.ev157 _ _ _ _ _ _ i k
    · obtain ⟨e0, e1, e2, e3, e4, e5, e6, e7⟩ := hagree c
      rw [Cert.InprojBwdRefIdeal.Read.val_main_v127_eq, arr12, e3, e4, e5, e6]
      funext y
      obtain ⟨z, k, rfl⟩ : ∃ (z : Fin 1) (k : Fin 1280), y = ix2 z k := ⟨y 0, y 1, eq_ix2 y⟩
      obtain rfl := Subsingleton.elim z 0
      exact Cert.InprojBwdRefIdeal.Read.ev127 _ _ _ _ k
    · obtain ⟨e0, e1, e2, e3, e4, e5, e6, e7⟩ := hagree c
      rw [Cert.InprojBwdRefIdeal.Read.val_main_v154_eq, arr13, e0, e2, e3, e4, e5, e6]
      funext y
      obtain ⟨z, k, rfl⟩ : ∃ (z : Fin 1) (k : Fin 1024), y = ix2 z k := ⟨y 0, y 1, eq_ix2 y⟩
      obtain rfl := Subsingleton.elim z 0
      exact Cert.InprojBwdRefIdeal.Read.ev154 _ _ _ _ _ _ k

end Cert.InprojBwdIdeal.Block
end
-- ==== Proof.Attn.Chain.lean ====
/- The operations one chain of the attention backward kernel performs - one block of 128 queries, one key head, its two halves of 256
   keys - written once for every block and head. -/
module

public import proofs.«01_k».proof.Proof.Gen.AttnBwdIdeal.Value
public import Idealize.ShloMosaic.Lib.Pipeline.ValueKit
public import Idealize.ShloMosaic.Lib.Pipeline.ReadBack

@[expose] public section

set_option maxRecDepth 16384

noncomputable section

namespace Cert.AttnBwdIdeal.Chain

open Cert.AttnBwdIdeal Cert.AttnBwdIdeal.Gen Idealize.ShloMosaic Idealize.ShloMosaic.TcCoe Idealize.SL.Sem

theorem fit_slab (b : Fin 8) (kv s : Fin 2) : ∀ a, (![128 * b.val, 256 * kv.val + 128 * s.val] : Fin 2 → Nat) a + S128x128.size a ≤ S1024x512.size a := by
  revert b kv s; decide
theorem fit_prev (kv s : Fin 2) : ∀ a, (![0, 256 * kv.val + 128 * s.val] : Fin 2 → Nat) a + S128x128.size a ≤ S128x512.size a := by
  revert kv s; decide
theorem fit_pair (k : Nat) (h : k + 1 < 8) (kv s : Fin 2) :
    ∀ a, (![128 * k, 256 * kv.val + 128 * s.val] : Fin 2 → Nat) a + S256x128.size a ≤ S1024x512.size a := by
  have := kv.isLt
  have := s.isLt
  intro a
  match a with
  | 0 => show 128 * k + 256 ≤ 1024; omega
  | 1 => show 256 * kv.val + 128 * s.val + 128 ≤ 512; omega
theorem fit_lse (b : Fin 8) (kv half s : Fin 2) : ∀ a, (![4 * kv.val + half.val + 2 * s.val, 128 * b.val] : Fin 2 → Nat) a + S1x128.size a ≤ S8x1024.size a := by
  revert b kv half s; decide
theorem fit_sink (kv half s : Fin 2) : ∀ a, (![0, 4 * kv.val + half.val + 2 * s.val] : Fin 2 → Nat) a + S1x1.size a ≤ S1x8.size a := by
  revert kv half s; decide
theorem fit_half (half : Fin 2) : S512x256.Slices ![256 * half.val, 0] S256x256 := by revert half; decide
theorem fit_row (s : Fin 2) : S256x128.Slices ![128 * s.val, 0] S128x128 := by revert s; decide
theorem fit_lane (s : Fin 2) : S1x256.Slices ![0, 128 * s.val] S1x128 := by revert s; decide

/-- The key's place in its half, and the query's place in its block, as the kernel's integers. -/
def keyPlace : IVec S512x256 32 :=
  select (andi (xori k0_pay12 (broadcastTo S512x256 k0_pay13 broadcasts_S512x256_S512x256)) k0_pay11) (addi k0_pay10 (broadcast S512x256 256#32)) k0_pay10
def rowRem : IVec S512x256 32 := remsi (iota .tc S512x256 32 [1] iota_S512x256_d1_w32) (broadcast S512x256 128#32)
def rowPlace : IVec S512x256 32 :=
  select (andi (xori (cmpi .slt rowRem (broadcast S512x256 0#32)) (broadcastTo S512x256 (broadcast S512x256 0#1) broadcasts_S512x256_S512x256))
    (cmpi .ne rowRem (broadcast S512x256 0#32))) (addi rowRem (broadcast S512x256 128#32)) rowRem
/-- The mask of a band, and that of the first block of a tile, where the block before may not exist. -/
def bandMask : IVec S512x256 1 := andi (cmpi .sgt keyPlace rowPlace) (cmpi .sle keyPlace (addi rowPlace (broadcast S512x256 128#32)))
def firstMask (t : Fin cfg0.N) : IVec S512x256 1 :=
  andi bandMask (ori (broadcast S512x256 (Scalar.cmpi .sgt (Scalar.subi 7#32 (BitVec.ofNat 32 (grid0.coords t 0).val)) 0#32))
    (cmpi .sge keyPlace (broadcast S512x256 128#32)))

section
variable (X0 : Vec Ideal S1024x512 .bf16) (X1 X3 : Vec Ideal S1024x512 .bf16) (X2 X4 : Vec Ideal S128x512 .bf16)
  (X5 : Vec Ideal S1024x512 .bf16) (X6 : Vec Ideal S8x1024 .f32) (X7 : Vec Ideal S1x8 .f32) (M : IVec S512x256 1)

/-- The two 128-lane slabs of a block's rows, one below the other. -/
def stack (X : Vec Ideal S1024x512 .bf16) (b : Fin 8) (kv : Fin 2) : FVec Ideal S256x128 .bf16 :=
  concatenate S256x128 0
    [⟨S128x128, shapeCast S128x128 (View.ld X (Rect.unit ![128 * b.val, 256 * kv.val + 128 * (0 : Fin 2).val] ![128, 128] (fit_slab b kv 0))) shapeCasts_S128x128_S128x128⟩,
     ⟨S128x128, shapeCast S128x128 (View.ld X (Rect.unit ![128 * b.val, 256 * kv.val + 128 * (1 : Fin 2).val] ![128, 128] (fit_slab b kv 1))) shapeCasts_S128x128_S128x128⟩]
    concatenates_S128x128_S128x128_S256x128_d0

/-- The 256 keys of a band, for one half of the spread: the block before and the block. -/
def bandHalf (X : Vec Ideal S1024x512 .bf16) (P : Vec Ideal S128x512 .bf16) (b : Fin 8) (kv half : Fin 2) : FVec Ideal S256x128 .bf16 :=
  match b with
  | ⟨0, _⟩ => concatenate S256x128 0
      [⟨S128x128, shapeCast S128x128 (View.ld P (Rect.unit ![0, 256 * kv.val + 128 * half.val] ![128, 128] (fit_prev kv half))) shapeCasts_S128x128_S128x128⟩,
       ⟨S128x128, shapeCast S128x128 (View.ld X (Rect.unit ![128 * (0 : Fin 8).val, 256 * kv.val + 128 * half.val] ![128, 128] (fit_slab 0 kv half))) shapeCasts_S128x128_S128x128⟩]
      concatenates_S128x128_S128x128_S256x128_d0
  | ⟨k + 1, h⟩ => shapeCast S256x128 (View.ld X (Rect.unit ![128 * k, 256 * kv.val + 128 * half.val] ![256, 128] (fit_pair k h kv half))) shapeCasts_S256x128_S256x128

def band (X : Vec Ideal S1024x512 .bf16) (P : Vec Ideal S128x512 .bf16) (b : Fin 8) (kv : Fin 2) : FVec Ideal S512x128 .bf16 :=
  concatenate S512x128 0 [⟨S256x128, bandHalf X P b kv 0⟩, ⟨S256x128, bandHalf X P b kv 1⟩] concatenates_S256x128_S256x128_S512x128_d0

/-- The products of the band's rows with the stacked rows. -/
def score (X : Vec Ideal S1024x512 .bf16) (P : Vec Ideal S128x512 .bf16) (Q : Vec Ideal S1024x512 .bf16) (b : Fin 8) (kv : Fin 2) : FVec Ideal S512x256 .f32 :=
  matmul dot_S512x128_S256x128_S512x256_1_1_0_0_n_n none (band X P b kv) (stack Q b kv) (constant S512x256 .f32 0x00000000#32)

/-- The saved log-sum-exp of the two heads of a half, by query. -/
def lseRow (b : Fin 8) (kv half : Fin 2) : FVec Ideal S1x256 .f32 :=
  concatenate S1x256 1
    [⟨S1x128, shapeCast S1x128 (View.ld X6 (Rect.unit ![4 * kv.val + half.val + 2 * (0 : Fin 2).val, 128 * b.val] ![1, 128] (fit_lse b kv half 0))) shapeCasts_S1x128_S1x128⟩,
     ⟨S1x128, shapeCast S1x128 (View.ld X6 (Rect.unit ![4 * kv.val + half.val + 2 * (1 : Fin 2).val, 128 * b.val] ![1, 128] (fit_lse b kv half 1))) shapeCasts_S1x128_S1x128⟩]
    concatenates_S1x128_S1x128_S1x256_d1

def prob (b : Fin 8) (kv half : Fin 2) : FVec Ideal S256x256 .f32 :=
  select (extractStridedSlice S256x256 ![256 * half.val, 0] M (fit_half half))
    (exp (subf (extractStridedSlice S256x256 ![256 * half.val, 0] (score X1 X2 X0 b kv) (fit_half half))
      (broadcastTo S256x256 (lseRow X6 b kv half) broadcasts_S1x256_S256x256)))
    (broadcast S256x256 (Scalar.ofBits .f32 0x00000000#32))

def dprob (b : Fin 8) (kv half : Fin 2) : FVec Ideal S256x256 .f32 :=
  extractStridedSlice S256x256 ![256 * half.val, 0] (score X3 X4 X5 b kv) (fit_half half)

/-- The halves of a column of 256 rows added up again and again, down to 8 rows, and those summed. -/
def fold8 (v : FVec Ideal S256x256 .f32) : FVec Ideal S1x256 .f32 :=
  let a := addf (extractStridedSlice S128x256 ![0, 0] v slices_S256x256_o0_0_S128x256) (extractStridedSlice S128x256 ![128, 0] v slices_S256x256_o128_0_S128x256)
  let b := addf (extractStridedSlice S64x256 ![0, 0] a slices_S128x256_o0_0_S64x256) (extractStridedSlice S64x256 ![64, 0] a slices_S128x256_o64_0_S64x256)
  let c := addf (extractStridedSlice S32x256 ![0, 0] b slices_S64x256_o0_0_S32x256) (extractStridedSlice S32x256 ![32, 0] b slices_S64x256_o32_0_S32x256)
  let d := addf (extractStridedSlice S16x256 ![0, 0] c slices_S32x256_o0_0_S16x256) (extractStridedSlice S16x256 ![16, 0] c slices_S32x256_o16_0_S16x256)
  let e := addf (extractStridedSlice S8x256 ![0, 0] d slices_S16x256_o0_0_S8x256) (extractStridedSlice S8x256 ![8, 0] d slices_S16x256_o8_0_S8x256)
  shapeCast S1x256 (multiReduction .add [0] S256 e 0x00000000#32 reduces_S8x256_S256 (.inl rfl) rfl) shapeCasts_S256_S1x256

def delta (b : Fin 8) (kv half : Fin 2) : FVec Ideal S1x256 .f32 :=
  fold8 (mulf (prob X0 X1 X2 X6 M b kv half) (dprob X3 X4 X5 b kv half))

def dscore (b : Fin 8) (kv half : Fin 2) : FVec Ideal S256x256 .bf16 :=
  truncf .bf16 (mulf (prob X0 X1 X2 X6 M b kv half) (subf (dprob X3 X4 X5 b kv half)
    (broadcastTo S256x256 (delta X0 X1 X3 X2 X4 X5 X6 M b kv half) broadcasts_S1x256_S256x256))) bitsLt_bf16_f32

def leakRow (b : Fin 8) (kv half : Fin 2) : FVec Ideal S1x256 .f32 :=
  mulf (exp (subf (select (cmpi .slt (iota .tc S1x256 32 [1] iota_S1x256_d1_w32) (broadcast S1x256 128#32))
      (broadcastTo S1x256 (shapeCast S1x1 (View.ld X7 (Rect.unit ![0, 4 * kv.val + half.val + 2 * (0 : Fin 2).val] ![1, 1] (fit_sink kv half 0))) shapeCasts_S1x1_S1x1) broadcasts_S1x1_S1x256)
      (broadcastTo S1x256 (shapeCast S1x1 (View.ld X7 (Rect.unit ![0, 4 * kv.val + half.val + 2 * (1 : Fin 2).val] ![1, 1] (fit_sink kv half 1))) shapeCasts_S1x1_S1x1) broadcasts_S1x1_S1x256))
    (lseRow X6 b kv half))) (delta X0 X1 X3 X2 X4 X5 X6 M b kv half)

/-- The sink gradient of one head after one block: what it was, less the block's leak. -/
def sinkStep (old : Vec Ideal S1x1 .f32) (b : Fin 8) (kv half s : Fin 2) : FVec Ideal S1x1 .f32 :=
  subf (shapeCast S1x1 old shapeCasts_S1x1_S1x1)
    (shapeCast S1x1 (multiReduction .add [1] S1
      (extractStridedSlice S1x128 ![0, 128 * s.val] (leakRow X0 X1 X3 X2 X4 X5 X6 X7 M b kv half) (fit_lane s)) 0x00000000#32 reduces_S1x128_S1 (.inl rfl) rfl) shapeCasts_S1_S1x1)

def dscores (b : Fin 8) (kv : Fin 2) : FVec Ideal S512x256 .bf16 :=
  concatenate S512x256 0 [⟨S256x256, dscore X0 X1 X3 X2 X4 X5 X6 M b kv 0⟩, ⟨S256x256, dscore X0 X1 X3 X2 X4 X5 X6 M b kv 1⟩] concatenates_S256x256_S256x256_S512x256_d0
def probs (b : Fin 8) (kv : Fin 2) : FVec Ideal S512x256 .bf16 :=
  concatenate S512x256 0 [⟨S256x256, truncf .bf16 (prob X0 X1 X2 X6 M b kv 0) bitsLt_bf16_f32⟩, ⟨S256x256, truncf .bf16 (prob X0 X1 X2 X6 M b kv 1) bitsLt_bf16_f32⟩] concatenates_S256x256_S256x256_S512x256_d0

def dqPiece (b : Fin 8) (kv s : Fin 2) : FVec Ideal S128x128 .f32 :=
  mulf (extractStridedSlice S128x128 ![128 * s.val, 0]
    (matmul dot_S512x256_S512x128_S256x128_0_0_1_1_n_n none (dscores X0 X1 X3 X2 X4 X5 X6 M b kv) (band X1 X2 b kv) (constant S256x128 .f32 0x00000000#32)) (fit_row s))
    (broadcast S128x128 (Scalar.ofBits .f32 0x3E000000#32))

def dkSpread (b : Fin 8) (kv : Fin 2) : FVec Ideal S512x128 .f32 :=
  matmul dot_S512x256_S256x128_S512x128_1_0_0_1_n_n none (dscores X0 X1 X3 X2 X4 X5 X6 M b kv) (stack X0 b kv) (constant S512x128 .f32 0x00000000#32)
def dvSpread (b : Fin 8) (kv : Fin 2) : FVec Ideal S512x128 .f32 :=
  matmul dot_S512x256_S256x128_S512x128_1_0_0_1_n_n none (probs X0 X1 X2 X6 M b kv) (stack X5 b kv) (constant S512x128 .f32 0x00000000#32)

/-- The low 64 lanes, as a mask. -/
def lowLanes : IVec S256x128 1 := cmpi .slt (iota .tc S256x128 32 [1] iota_S256x128_d1_w32) (broadcast S256x128 64#32)

/-- The two halves of a spread gradient, each in its own lanes, added with the lanes turned by 64. -/
def foldSpread (v : FVec Ideal S512x128 .f32) : FVec Ideal S256x128 .f32 :=
  let w := select lowLanes (extractStridedSlice S256x128 ![0, 0] v slices_S512x128_o0_0_S256x128) (extractStridedSlice S256x128 ![256, 0] v slices_S512x128_o256_0_S256x128)
  addf w (dynamicRotate 1 64#32 none w rotates_S256x128_d1)

/-- What an accumulator's 256 rows hold after one block: what they held, plus both key heads' folded gradients. -/
def accStep (old : Vec Ideal S256x128 .f32) (v0 v1 : FVec Ideal S512x128 .f32) : FVec Ideal S256x128 .f32 :=
  shapeCast S256x128 (addf old (select lowLanes (foldSpread v0) (foldSpread v1))) shapeCasts_S256x128_S256x128

end
end Cert.AttnBwdIdeal.Chain
end
-- ==== Proof.Attn.Entry.lean ====
/- The entries of the arrays one chain of the attention backward kernel computes, as functions of the blocks it is given. -/
module

public import proofs.«01_k».proof.Proof.Attn.Chain

@[expose] public section

set_option maxRecDepth 16384

noncomputable section

namespace Cert.AttnBwdIdeal.Chain

open Cert.AttnBwdIdeal Cert.AttnBwdIdeal.Gen Idealize.ShloMosaic Idealize.ShloMosaic.TcCoe Idealize.SL.Sem

/-- Which keys of a band a query sees: the last 128 up to itself, and none before the first block of the sequence. -/
def Sees (t : Fin cfg0.N) (b : Fin 8) (j q : Fin 256) : Prop :=
  q.val % 128 < j.val ∧ j.val ≤ q.val % 128 + 128 ∧ (b.val = 0 → t.val = 7 → 128 ≤ j.val)

instance (t : Fin cfg0.N) (b : Fin 8) (j q : Fin 256) : Decidable (Sees t b j q) := by unfold Sees; infer_instance

/-- The mask of a block. -/
def blockMask (t : Fin cfg0.N) (b : Fin 8) : IVec S512x256 1 :=
  match b with
  | ⟨0, _⟩ => firstMask t
  | ⟨_ + 1, _⟩ => bandMask

theorem place_of : ∀ n : Fin 512,
    Scalar.select
      (IntOp.andi (IntOp.xori (IntOp.cmpi CmpIPredicate.slt (IntOp.remsi ArithUnit.vector (BitVec.ofNat 32 n.val) 256#32) 0#32) 0#1)
        (IntOp.cmpi CmpIPredicate.ne (IntOp.remsi ArithUnit.vector (BitVec.ofNat 32 n.val) 256#32) 0#32))
      (IntOp.addi (IntOp.remsi ArithUnit.vector (BitVec.ofNat 32 n.val) 256#32) 256#32)
      (IntOp.remsi ArithUnit.vector (BitVec.ofNat 32 n.val) 256#32) = BitVec.ofNat 32 (n.val % 256) := by decide +kernel

theorem row_of : ∀ n : Fin 256,
    Scalar.select
      (IntOp.andi (IntOp.xori (IntOp.cmpi CmpIPredicate.slt (IntOp.remsi ArithUnit.vector (BitVec.ofNat 32 n.val) 128#32) 0#32) 0#1)
        (IntOp.cmpi CmpIPredicate.ne (IntOp.remsi ArithUnit.vector (BitVec.ofNat 32 n.val) 128#32) 0#32))
      (IntOp.addi (IntOp.remsi ArithUnit.vector (BitVec.ofNat 32 n.val) 128#32) 128#32)
      (IntOp.remsi ArithUnit.vector (BitVec.ofNat 32 n.val) 128#32) = BitVec.ofNat 32 (n.val % 128) := by decide +kernel

theorem keyPlace_apply (n : Fin 512) (q : Fin 256) : keyPlace (ix2 n q) = BitVec.ofNat 32 (n.val % 256) := by
  rw [← place_of n]
  pointwise [keyPlace, k0_pay10, k0_pay11, k0_pay12, k0_pay13]
  rfl

theorem rowPlace_apply (n : Fin 512) (q : Fin 256) : rowPlace (ix2 n q) = BitVec.ofNat 32 (q.val % 128) := by
  rw [← row_of q]
  pointwise [rowPlace, rowRem]

theorem cmp_nat {a b : Nat} (ha : a < 1024) (hb : b < 1024) :
    IntOp.cmpi CmpIPredicate.sgt (BitVec.ofNat 32 a) (BitVec.ofNat 32 b) = (if b < a then 1#1 else 0#1) ∧
    IntOp.cmpi CmpIPredicate.sle (BitVec.ofNat 32 a) (BitVec.ofNat 32 b) = (if a ≤ b then 1#1 else 0#1) ∧
    IntOp.cmpi CmpIPredicate.sge (BitVec.ofNat 32 a) (BitVec.ofNat 32 b) = (if b ≤ a then 1#1 else 0#1) := by
  have e : ∀ n, n < 1024 → (BitVec.ofNat 32 n).toInt = n := fun n hn => by
    rw [BitVec.toInt_ofNat']; simp only [Int.bmod]; omega
  refine ⟨?_, ?_, ?_⟩ <;> simp only [IntOp.cmpi, BitVec.slt, BitVec.sle, e _ ha, e _ hb, Int.ofNat_le, Int.ofNat_lt, Nat.cast_le, Nat.cast_lt] <;> split_ifs with h <;> simp [h]

theorem bandMask_apply (n : Fin 512) (q : Fin 256) :
    bandMask (ix2 n q) = if q.val % 128 < n.val % 256 ∧ n.val % 256 ≤ q.val % 128 + 128 then 1#1 else 0#1 := by
  pointwise [bandMask, keyPlace_apply, rowPlace_apply]
  have h1 := n.isLt
  have h2 := q.isLt
  rw [show IntOp.addi (BitVec.ofNat 32 (q.val % 128)) 128#32 = BitVec.ofNat 32 (q.val % 128 + 128) from (BitVec.ofNat_add ..).symm,
    (cmp_nat (by omega) (by omega)).1, (cmp_nat (by omega) (by omega)).2.1]
  by_cases a : q.val % 128 < n.val % 256 <;> by_cases b : n.val % 256 ≤ q.val % 128 + 128 <;> simp [a, b, IntOp.andi]

theorem first_tile : ∀ t : Fin cfg0.N, Scalar.cmpi .sgt (Scalar.subi 7#32 (BitVec.ofNat 32 (grid0.coords t 0).val)) 0#32 = if t.val = 7 then 0#1 else 1#1 := by
  decide +kernel

theorem firstMask_apply (t : Fin cfg0.N) (n : Fin 512) (q : Fin 256) :
    firstMask t (ix2 n q) = if q.val % 128 < n.val % 256 ∧ n.val % 256 ≤ q.val % 128 + 128 ∧ (t.val = 7 → 128 ≤ n.val % 256) then 1#1 else 0#1 := by
  pointwise [firstMask, keyPlace_apply, bandMask_apply]
  have h1 := n.isLt
  have h2 := q.isLt
  rw [first_tile t, show (128#32) = BitVec.ofNat 32 128 from rfl, (cmp_nat (by omega) (by omega)).2.2]
  by_cases a : q.val % 128 < n.val % 256 <;> by_cases b : n.val % 256 ≤ q.val % 128 + 128 <;> by_cases d : t.val = 7 <;>
    by_cases e : 128 ≤ n.val % 256 <;> simp [a, b, d, e, IntOp.andi, IntOp.ori]

/-- A key's row among the 512 of a band's two halves. -/
def key (half : Fin 2) (j : Fin 256) : Fin 512 := ⟨256 * half.val + j.val, by omega⟩

theorem blockMask_apply (t : Fin cfg0.N) (b : Fin 8) (half : Fin 2) (j q : Fin 256) :
    blockMask t b (ix2 (key half j) q) = if Sees t b j q then 1#1 else 0#1 := by
  have e : (key half j).val % 256 = j.val := by
    show (256 * half.val + j.val) % 256 = _
    have := half.isLt
    have := j.isLt
    omega
  unfold Sees
  match b with
  | ⟨0, _⟩ => exact (firstMask_apply t _ q).trans (by rw [e]; simp)
  | ⟨k + 1, _⟩ => exact (bandMask_apply _ q).trans (by rw [e]; simp)

section
variable (X0 : Vec Ideal S1024x512 .bf16) (X1 X3 : Vec Ideal S1024x512 .bf16) (X2 X4 : Vec Ideal S128x512 .bf16)
  (X5 : Vec Ideal S1024x512 .bf16) (X6 : Vec Ideal S8x1024 .f32) (X7 : Vec Ideal S1x8 .f32) (t : Fin cfg0.N)

/-- A query's row in the tile, and the lane of its slab. -/
def qrow (b : Fin 8) (q : Fin 256) : Fin 1024 := ⟨128 * b.val + q.val % 128, by omega⟩
def qlane (kv : Fin 2) (q : Fin 256) (l : Fin 128) : Fin 512 := ⟨256 * kv.val + 128 * (q.val / 128) + l.val, by omega⟩
def klane (kv half : Fin 2) (l : Fin 128) : Fin 512 := ⟨256 * kv.val + 128 * half.val + l.val, by omega⟩
/-- The head of a query's column. -/
def head (kv half : Fin 2) (q : Fin 256) : Fin 8 := ⟨4 * kv.val + half.val + 2 * (q.val / 128), by omega⟩

/-- An entry of a band: of the block before the tile, or of the tile. -/
def kz (X : Vec Ideal S1024x512 .bf16) (P : Vec Ideal S128x512 .bf16) (b : Fin 8) (kv half : Fin 2) (j : Fin 256) (l : Fin 128) : EReal :=
  if h : 128 * b.val + j.val < 128 then P (ix2 ⟨128 * b.val + j.val, h⟩ (klane kv half l))
  else X (ix2 ⟨128 * b.val + j.val - 128, by omega⟩ (klane kv half l))

theorem stack_apply (X : Vec Ideal S1024x512 .bf16) (b : Fin 8) (kv : Fin 2) (q : Fin 256) (l : Fin 128) :
    stack X b kv (ix2 q l) = X (ix2 (qrow b q) (qlane kv q l)) := by
  pointwise [stack]
  have hq := q.isLt
  by_cases h : q.val < 128
  · rw [dif_pos h]
    exact congrArg X (congrArg₂ ix2 (Fin.ext (by simp only [qrow]; omega)) (Fin.ext (by simp only [qlane]; omega)))
  · rw [dif_neg h]
    exact congrArg X (congrArg₂ ix2 (Fin.ext (by simp only [qrow]; omega)) (Fin.ext (by simp only [qlane]; omega)))

theorem bandHalf_apply (X : Vec Ideal S1024x512 .bf16) (P : Vec Ideal S128x512 .bf16) (b : Fin 8) (kv half : Fin 2) (j : Fin 256) (l : Fin 128) :
    bandHalf X P b kv half (ix2 j l) = kz X P b kv half j l := by
  match b with
  | ⟨0, _⟩ =>
    pointwise [bandHalf, kz]
    rfl
  | ⟨k + 1, _⟩ =>
    pointwise [bandHalf, kz]
    rw [dif_neg (by omega)]
    exact congrArg X (congrArg₂ ix2 (Fin.ext (by show 128 * k + j.val = 128 * (k + 1) + j.val - 128; omega)) rfl)

theorem band_apply (X : Vec Ideal S1024x512 .bf16) (P : Vec Ideal S128x512 .bf16) (b : Fin 8) (kv half : Fin 2) (j : Fin 256) (l : Fin 128) :
    band X P b kv (ix2 (key half j) l) = kz X P b kv half j l := by
  fin_cases half
  · pointwise [band, bandHalf_apply, key]
  · pointwise [band, bandHalf_apply, key]

/-- The scores, the probabilities, the gradients of the probabilities, their mean, and the gradients of the scores. -/
def sB (b : Fin 8) (kv half : Fin 2) (j q : Fin 256) : EReal := ∑ l, kz X1 X2 b kv half j l * X0 (ix2 (qrow b q) (qlane kv q l))
def lseB (b : Fin 8) (kv half : Fin 2) (q : Fin 256) : EReal := X6 (ix2 (head kv half q) (qrow b q))
def pB (b : Fin 8) (kv half : Fin 2) (j q : Fin 256) : EReal :=
  if Sees t b j q then Ideal.exp (sB X0 X1 X2 b kv half j q - lseB X6 b kv half q) else 0
def dB (b : Fin 8) (kv half : Fin 2) (q : Fin 256) : EReal := ∑ j, pB X0 X1 X2 X6 t b kv half j q * sB X5 X3 X4 b kv half j q
def dsB (b : Fin 8) (kv half : Fin 2) (j q : Fin 256) : EReal :=
  pB X0 X1 X2 X6 t b kv half j q * (sB X5 X3 X4 b kv half j q - dB X0 X1 X3 X2 X4 X5 X6 t b kv half q)
def leakB (b : Fin 8) (kv half : Fin 2) (q : Fin 256) : EReal :=
  Ideal.exp (X7 (ix2 0 (head kv half q)) - lseB X6 b kv half q) * dB X0 X1 X3 X2 X4 X5 X6 t b kv half q

theorem score_apply (X : Vec Ideal S1024x512 .bf16) (P : Vec Ideal S128x512 .bf16) (Q : Vec Ideal S1024x512 .bf16) (b : Fin 8) (kv half : Fin 2) (j q : Fin 256) :
    score X P Q b kv (ix2 (key half j) q) = sB Q X P b kv half j q := by
  pointwise [score, band_apply, stack_apply, sB]

theorem lseRow_apply (b : Fin 8) (kv half : Fin 2) (q : Fin 256) : lseRow X6 b kv half (ix2 0 q) = lseB X6 b kv half q := by
  pointwise [lseRow, lseB]
  have hq := q.isLt
  by_cases h : q.val < 128
  · rw [dif_pos h]
    exact congrArg X6 (congrArg₂ ix2 (Fin.ext (by simp only [head]; omega)) (Fin.ext (by simp only [qrow]; omega)))
  · rw [dif_neg h]
    exact congrArg X6 (congrArg₂ ix2 (Fin.ext (by simp only [head]; omega)) (Fin.ext (by simp only [qrow]; omega)))

/-- A half of the band's rows is cut out. -/
theorem cut_apply {α : Type} (v : S512x256.Idx → α) (half : Fin 2) (j q : Fin 256) :
    extractStridedSlice S256x256 ![256 * half.val, 0] v (fit_half half) (ix2 j q) = v (ix2 (key half j) q) := by
  fin_cases half
  · pointwise [key]
  · pointwise [key]

theorem prob_apply (b : Fin 8) (kv half : Fin 2) (j q : Fin 256) :
    prob X0 X1 X2 X6 (blockMask t b) b kv half (ix2 j q) = pB X0 X1 X2 X6 t b kv half j q := by
  pointwise [prob, cut_apply, lseRow_apply, score_apply, blockMask_apply, pB]
  by_cases h : Sees t b j q <;> simp [h, Scalar.select]

theorem dprob_apply (b : Fin 8) (kv half : Fin 2) (j q : Fin 256) :
    dprob X3 X4 X5 b kv half (ix2 j q) = sB X5 X3 X4 b kv half j q := by
  pointwise [dprob, cut_apply, score_apply]

theorem half_sum (n : Nat) (f : Fin (n + n) → EReal) :
    ∑ r : Fin n, (f ⟨r.val, by omega⟩ + f ⟨n + r.val, by omega⟩) = ∑ j, f j := by
  rw [Fin.sum_univ_add, Finset.sum_add_distrib]
  rfl

theorem fold8_apply (v : FVec Ideal S256x256 .f32) (q : Fin 256) : fold8 v (ix2 0 q) = ∑ j, v (ix2 j q) := by
  rw [← half_sum 128, ← half_sum 64, ← half_sum 32, ← half_sum 16, ← half_sum 8]
  pointwise [fold8]

theorem delta_apply (b : Fin 8) (kv half : Fin 2) (q : Fin 256) :
    delta X0 X1 X3 X2 X4 X5 X6 (blockMask t b) b kv half (ix2 0 q) = dB X0 X1 X3 X2 X4 X5 X6 t b kv half q := by
  rw [delta, fold8_apply]
  pointwise [prob_apply, dprob_apply, dB]

theorem dscore_apply (b : Fin 8) (kv half : Fin 2) (j q : Fin 256) :
    dscore X0 X1 X3 X2 X4 X5 X6 (blockMask t b) b kv half (ix2 j q) = dsB X0 X1 X3 X2 X4 X5 X6 t b kv half j q := by
  pointwise [dscore, prob_apply, dprob_apply, delta_apply, dsB]

theorem first_slab : ∀ q : Fin 256, IntOp.cmpi CmpIPredicate.slt (BitVec.ofNat 32 q.val) 128#32 = if q.val < 128 then 1#1 else 0#1 := by decide +kernel

theorem leakRow_apply (b : Fin 8) (kv half : Fin 2) (q : Fin 256) :
    leakRow X0 X1 X3 X2 X4 X5 X6 X7 (blockMask t b) b kv half (ix2 0 q) = leakB X0 X1 X3 X2 X4 X5 X6 X7 t b kv half q := by
  pointwise [leakRow, lseRow_apply, delta_apply, leakB]
  refine congrArg (fun z => Ideal.exp (z - _) * _) ?_
  have hq := q.isLt
  rw [first_slab q]
  by_cases h : q.val < 128
  · simp only [h, if_true, Scalar.select]
    exact congrArg X7 (congrArg₂ ix2 rfl (Fin.ext (by simp only [head]; omega)))
  · simp only [h, if_false, Scalar.select]
    exact congrArg X7 (congrArg₂ ix2 rfl (Fin.ext (by simp only [head]; omega)))

/-- The query of a slab's row. -/
def qcol (s : Fin 2) (r : Fin 128) : Fin 256 := ⟨128 * s.val + r.val, by omega⟩

theorem sinkStep_apply (old : Vec Ideal S1x1 .f32) (b : Fin 8) (kv half s : Fin 2) :
    sinkStep X0 X1 X3 X2 X4 X5 X6 X7 (blockMask t b) old b kv half s (ix2 0 0)
      = old (ix2 0 0) - ∑ r, leakB X0 X1 X3 X2 X4 X5 X6 X7 t b kv half (qcol s r) := by
  fin_cases s
  · pointwise [sinkStep, leakRow_apply, qcol]
  · pointwise [sinkStep, leakRow_apply, qcol]

theorem sum_keys (f : Fin 512 → EReal) : ∑ i, f i = ∑ half : Fin 2, ∑ j, f (key half j) := by
  rw [Fin.sum_univ_two]
  exact Fin.sum_univ_add (a := 256) (b := 256) f

theorem dscores_apply (b : Fin 8) (kv half : Fin 2) (j q : Fin 256) :
    dscores X0 X1 X3 X2 X4 X5 X6 (blockMask t b) b kv (ix2 (key half j) q) = dsB X0 X1 X3 X2 X4 X5 X6 t b kv half j q := by
  fin_cases half
  · pointwise [dscores, dscore_apply, key]
  · pointwise [dscores, dscore_apply, key]

theorem probs_apply (b : Fin 8) (kv half : Fin 2) (j q : Fin 256) :
    probs X0 X1 X2 X6 (blockMask t b) b kv (ix2 (key half j) q) = pB X0 X1 X2 X6 t b kv half j q := by
  fin_cases half
  · pointwise [probs, prob_apply, key]
  · pointwise [probs, prob_apply, key]

/-- An eighth, as the kernel's constant. -/
def c8 : EReal := Ideal.ofBits FTy.f32 0x3E000000#32

def dqB (b : Fin 8) (kv : Fin 2) (q : Fin 256) (l : Fin 128) : EReal :=
  (∑ half : Fin 2, ∑ j, dsB X0 X1 X3 X2 X4 X5 X6 t b kv half j q * kz X1 X2 b kv half j l) * c8

theorem dqPiece_apply (b : Fin 8) (kv s : Fin 2) (r l : Fin 128) :
    dqPiece X0 X1 X3 X2 X4 X5 X6 (blockMask t b) b kv s (ix2 r l) = dqB X0 X1 X3 X2 X4 X5 X6 t b kv (qcol s r) l := by
  fin_cases s
  · pointwise [dqPiece, qcol, dqB]
    rw [sum_keys]
    pointwise [dscores_apply, band_apply]
    rfl
  · pointwise [dqPiece, qcol, dqB]
    rw [sum_keys]
    pointwise [dscores_apply, band_apply]
    rfl

/-- What a block adds to the gradients of its band's keys and values, still spread over the two halves' lanes. -/
def dkzB (b : Fin 8) (kv half : Fin 2) (j : Fin 256) (l : Fin 128) : EReal :=
  ∑ q, dsB X0 X1 X3 X2 X4 X5 X6 t b kv half j q * X0 (ix2 (qrow b q) (qlane kv q l))
def dvzB (b : Fin 8) (kv half : Fin 2) (j : Fin 256) (l : Fin 128) : EReal :=
  ∑ q, pB X0 X1 X2 X6 t b kv half j q * X5 (ix2 (qrow b q) (qlane kv q l))

theorem dkSpread_apply (b : Fin 8) (kv half : Fin 2) (j : Fin 256) (l : Fin 128) :
    dkSpread X0 X1 X3 X2 X4 X5 X6 (blockMask t b) b kv (ix2 (key half j) l) = dkzB X0 X1 X3 X2 X4 X5 X6 t b kv half j l := by
  pointwise [dkSpread, dscores_apply, stack_apply, dkzB]
theorem dvSpread_apply (b : Fin 8) (kv half : Fin 2) (j : Fin 256) (l : Fin 128) :
    dvSpread X0 X1 X2 X5 X6 (blockMask t b) b kv (ix2 (key half j) l) = dvzB X0 X1 X2 X5 X6 t b kv half j l := by
  pointwise [dvSpread, probs_apply, stack_apply, dvzB]

/-- The two halves of a spread gradient, folded into one key head's 64 lanes. -/
def foldB (g : Fin 2 → Fin 2 → Fin 256 → Fin 128 → EReal) (j : Fin 256) (l : Fin 128) : EReal :=
  ∑ half : Fin 2, g ⟨l.val / 64, by omega⟩ half j ⟨64 * half.val + l.val % 64, by omega⟩

theorem lowLanes_apply : ∀ (j : Fin 256) (l : Fin 128), lowLanes (ix2 j l) = if l.val < 64 then 1#1 else 0#1 := by
  intro j l
  pointwise [lowLanes]
  revert l
  decide +kernel

theorem foldSpread_apply (v : FVec Ideal S512x128 .f32) (j : Fin 256) (l : Fin 128) :
    foldSpread v (ix2 j l) = if h : l.val < 64 then v (ix2 (key 0 j) l) + v (ix2 (key 1 j) ⟨l.val + 64, by omega⟩)
      else v (ix2 (key 1 j) l) + v (ix2 (key 0 j) ⟨l.val - 64, by omega⟩) := by
  pointwise [foldSpread, lowLanes_apply]
  have hl := l.isLt
  by_cases h : l.val < 64
  · rw [dif_pos h, if_pos h, if_neg (by omega)]
    exact congrArg₂ (· + ·) (congrArg v (congrArg₂ ix2 (Fin.ext (by simp [key])) rfl)) (congrArg v (congrArg₂ ix2 rfl (Fin.ext (by simp only []; omega))))
  · rw [dif_neg h, if_neg h, if_pos (by omega)]
    exact congrArg₂ (· + ·) (congrArg v (congrArg₂ ix2 rfl rfl)) (congrArg v (congrArg₂ ix2 (Fin.ext (by simp [key])) (Fin.ext (by simp only []; omega))))

theorem accStep_apply (g : Fin 2 → Fin 2 → Fin 256 → Fin 128 → EReal) (old : Vec Ideal S256x128 .f32) (v0 v1 : FVec Ideal S512x128 .f32)
    (h0 : ∀ half j l, v0 (ix2 (key half j) l) = g 0 half j l) (h1 : ∀ half j l, v1 (ix2 (key half j) l) = g 1 half j l) (j : Fin 256) (l : Fin 128) :
    accStep old v0 v1 (ix2 j l) = old (ix2 j l) + foldB g j l := by
  pointwise [accStep, lowLanes_apply, foldSpread_apply, foldB, h0, h1]
  refine congrArg _ ?_
  rw [Fin.sum_univ_two]
  have hl := l.isLt
  by_cases h : l.val < 64
  · rw [if_pos h, dif_pos h]
    have e : (⟨l.val / 64, by omega⟩ : Fin 2) = 0 := Fin.ext (by show l.val / 64 = 0; omega)
    rw [e]
    exact congrArg₂ (· + ·) (congrArg (g 0 0 j) (Fin.ext (by show l.val = 64 * 0 + l.val % 64; omega)))
      (congrArg (g 0 1 j) (Fin.ext (by show l.val + 64 = 64 * 1 + l.val % 64; omega)))
  · rw [if_neg h, dif_neg h, dif_neg h]
    refine Eq.trans (b := g 1 1 j l + g 1 0 j ⟨l.val - 64, by omega⟩) rfl ?_
    have e : (⟨l.val / 64, by omega⟩ : Fin 2) = 1 := Fin.ext (by show l.val / 64 = 1; omega)
    rw [e]
    refine (add_comm (G := EReal) _ _).trans ?_
    exact congrArg₂ (· + ·) (congrArg (g 1 0 j) (Fin.ext (by show l.val - 64 = 64 * 0 + l.val % 64; omega)))
      (congrArg (g 1 1 j) (Fin.ext (by show l.val = 64 * 1 + l.val % 64; omega)))

end
end Cert.AttnBwdIdeal.Chain
end
-- ==== Proof.Attn.Acc.lean ====
/- The accumulator of the key and value gradients: eight blocks in turn add 256 rows each to the buffer of 1152 rows. -/
module

public import proofs.«01_k».proof.Proof.Attn.Entry

@[expose] public section

set_option maxRecDepth 16384

noncomputable section

namespace Cert.AttnBwdIdeal.Chain

open Cert.AttnBwdIdeal Cert.AttnBwdIdeal.Gen Idealize.ShloMosaic Idealize.ShloMosaic.TcCoe Idealize.SL.Sem

variable (base : Fin 1152 → Fin 128 → EReal) (inc : Fin 8 → Fin 256 → Fin 128 → EReal)

/-- The buffer after the first `n` blocks. -/
def accK : Nat → Fin 1152 → Fin 128 → EReal
  | 0, a, l => base a l
  | n + 1, a, l => if h : 128 * n ≤ a.val ∧ a.val < 128 * n + 256 ∧ n < 8 then accK n a l + inc ⟨n, h.2.2⟩ ⟨a.val - 128 * n, by omega⟩ l else accK n a l

theorem not_mem_rows (o : Nat) (n : Nat) (fit : ∀ a, (![o, 0] : Fin 2 → Nat) a + (![n, 128] : Fin 2 → Nat) a ≤ S1152x128.size a) (a : Fin 1152) (l : Fin 128)
    (h : ¬(o ≤ a.val ∧ a.val < o + n)) : (ix2 a l : S1152x128.Idx) ∉ (Rect.unit (s := S1152x128) ![o, 0] ![n, 128] fit).set := by
  intro hm
  have e := Rect.mem_set_unit.mp hm 0
  exact h e

theorem rows_emb (o : Nat) (n : Nat) (fit : ∀ a, (![o, 0] : Fin 2 → Nat) a + (![n, 128] : Fin 2 → Nat) a ≤ S1152x128.size a) (a : Fin 1152) (l : Fin 128)
    (h : o ≤ a.val ∧ a.val < o + n) :
    (Rect.unit (s := S1152x128) ![o, 0] ![n, 128] fit).emb (ix2 ⟨a.val - o, by omega⟩ l) = (ix2 a l : S1152x128.Idx) := by
  funext i
  match i with
  | 0 => exact Fin.ext (show o + 1 * (a.val - o) = a.val by omega)
  | 1 => exact Fin.ext (show 0 + 1 * l.val = l.val by omega)

theorem acc_step {κ : Kind} {sp : Space} (v : View sig κ sp S1152x128 .f32) (k : Nat) (hk : k < 8) (o : Nat) (ho : o = 128 * k)
    (fit : ∀ a, (![o, 0] : Fin 2 → Nat) a + (![256, 128] : Fin 2 → Nat) a ≤ S1152x128.size a)
    (L : List (View.Piece (Elt Ideal) S1152x128 .f32)) (w : (Rect.unit (s := S1152x128) ![o, 0] ![256, 128] fit).shape.Idx → Elt Ideal .f32)
    (hL : ∀ a l, View.canon L (ix2 a l) = accK base inc k a l)
    (hw : ∀ (j : Fin 256) (l : Fin 128), w (ix2 j l) = v.readCov L (Rect.unit (s := S1152x128) ![o, 0] ![256, 128] fit).toLoadRect (ix2 j l) + inc ⟨k, hk⟩ j l) :
    ∀ a l, View.canon (⟨Rect.unit ![o, 0] ![256, 128] fit, w⟩ :: L) (ix2 a l) = accK base inc (k + 1) a l := by
  intro a l
  subst ho
  by_cases h : 128 * k ≤ a.val ∧ a.val < 128 * k + 256
  · rw [accK, dif_pos ⟨h.1, h.2, hk⟩, ← hL]
    refine (congrArg (View.canon _) (rows_emb (128 * k) 256 fit a l h).symm).trans ((View.canon_cons_emb _ _ _ _).trans ((hw _ _).trans ?_))
    refine congrArg (· + _) ?_
    rw [View.readCov_eq_canon']
    exact congrArg (View.canon L) (rows_emb (128 * k) 256 fit a l h)
  · rw [accK, dif_neg (fun h' => h ⟨h'.1, h'.2.1⟩), ← hL]
    exact View.canon_cons_of_not_mem _ _ (not_mem_rows _ _ fit a l h)

/-- The first block reads rows that the carried ones are not among. -/
theorem acc_step0 {κ : Kind} {sp : Space} (v : View sig κ sp S1152x128 .f32)
    (fit : ∀ a, (![0, 0] : Fin 2 → Nat) a + (![256, 128] : Fin 2 → Nat) a ≤ S1152x128.size a)
    (fit1 : ∀ a, (![1024, 0] : Fin 2 → Nat) a + (![128, 128] : Fin 2 → Nat) a ≤ S1152x128.size a)
    (L : List (View.Piece (Elt Ideal) S1152x128 .f32)) (w : (Rect.unit (s := S1152x128) ![0, 0] ![256, 128] fit).shape.Idx → Elt Ideal .f32)
    (w1 : (Rect.unit (s := S1152x128) ![1024, 0] ![128, 128] fit1).shape.Idx → Elt Ideal .f32)
    (hL : ∀ (a : Fin 1152) (l : Fin 128), View.canon (⟨Rect.unit ![1024, 0] ![128, 128] fit1, w1⟩ :: L) (ix2 a l) = accK base inc 0 a l)
    (hw : ∀ (j : Fin 256) (l : Fin 128), w (ix2 j l) = v.readCov L (Rect.unit (s := S1152x128) ![0, 0] ![256, 128] fit).toLoadRect (ix2 j l) + inc 0 j l) :
    ∀ a l, View.canon (⟨Rect.unit ![0, 0] ![256, 128] fit, w⟩ :: ⟨Rect.unit ![1024, 0] ![128, 128] fit1, w1⟩ :: L) (ix2 a l) = accK base inc 1 a l := by
  refine acc_step base inc v 0 (by decide) 0 rfl fit _ w hL fun j l => (hw j l).trans (congrArg (· + _) ?_)
  rw [View.readCov_eq_canon', View.readCov_eq_canon']
  refine (View.canon_cons_of_not_mem ⟨_, w1⟩ _ ?_).symm
  intro hm
  have e : 1024 ≤ 0 + 1 * j.val := (Rect.mem_set_unit (inb := fit1).mp hm 0).1
  omega

/-- The buffer before the first block: zeros, and the rows carried from the tile after. -/
theorem acc_base (fit : ∀ a, (![1024, 0] : Fin 2 → Nat) a + (![128, 128] : Fin 2 → Nat) a ≤ S1152x128.size a)
    (fit' : ∀ a, (![0, 0] : Fin 2 → Nat) a + (![1024, 128] : Fin 2 → Nat) a ≤ S1152x128.size a)
    (w : (Rect.unit (s := S1152x128) ![1024, 0] ![128, 128] fit).shape.Idx → Elt Ideal .f32)
    (w' : (Rect.unit (s := S1152x128) ![0, 0] ![1024, 128] fit').shape.Idx → Elt Ideal .f32) (L : List (View.Piece (Elt Ideal) S1152x128 .f32))
    (h : ∀ (r l : Fin 128), w (ix2 r l) = base ⟨1024 + r.val, by omega⟩ l) (h' : ∀ (r : Fin 1024) (l : Fin 128), w' (ix2 r l) = base ⟨r.val, by omega⟩ l) :
    ∀ (a : Fin 1152) (l : Fin 128), View.canon (⟨Rect.unit ![1024, 0] ![128, 128] fit, w⟩ :: ⟨Rect.unit ![0, 0] ![1024, 128] fit', w'⟩ :: L) (ix2 a l) = accK base inc 0 a l := by
  intro a l
  by_cases c : a.val < 1024
  · have n : (ix2 a l : S1152x128.Idx) ∉ (Rect.unit (s := S1152x128) ![1024, 0] ![128, 128] fit).set :=
      not_mem_rows 1024 128 fit a l (fun z => absurd z.1 (Nat.not_le.mpr c))
    have e := rows_emb 0 1024 fit' a l ⟨Nat.zero_le _, by omega⟩
    refine (View.canon_cons_of_not_mem ⟨_, w⟩ _ n).trans ?_
    refine (congrArg (View.canon _) e.symm).trans ((View.canon_cons_emb _ w' L _).trans ?_)
    refine (h' ⟨a.val - 0, by omega⟩ l).trans ?_
    exact congrArg (base · l) (Fin.ext (Nat.sub_zero _))
  · have e := rows_emb 1024 128 fit a l ⟨by omega, by omega⟩
    refine (congrArg (View.canon _) e.symm).trans ((View.canon_cons_emb _ w _ _).trans ?_)
    refine (h ⟨a.val - 1024, by omega⟩ l).trans ?_
    exact congrArg (base · l) (Fin.ext (by show 1024 + (a.val - 1024) = a.val; omega))

/-- Blocks whose band does not hold the row leave it. -/
theorem accK_stay (n d : Nat) (a : Fin 1152) (l : Fin 128) (h : ∀ k, n ≤ k → k < n + d → ¬(128 * k ≤ a.val ∧ a.val < 128 * k + 256)) :
    accK base inc (n + d) a l = accK base inc n a l := by
  induction d with
  | zero => rfl
  | succ d ih =>
    rw [← Nat.add_assoc, accK, dif_neg (fun c => h (n + d) (by omega) (by omega) ⟨c.1, c.2.1⟩)]
    exact ih fun k h1 h2 => h k h1 (by omega)

theorem accK_hit (n : Nat) (hn : n < 8) (j : Fin 256) (a : Fin 1152) (ha : a.val = 128 * n + j.val) (l : Fin 128) :
    accK base inc (n + 1) a l = accK base inc n a l + inc ⟨n, hn⟩ j l := by
  rw [accK, dif_pos ⟨by omega, by omega, hn⟩]
  exact congrArg (fun z => _ + inc ⟨n, hn⟩ z l) (Fin.ext (by show a.val - 128 * n = j.val; omega))

/-- The first block's rows: the carry for the tile before. -/
theorem accK_first (r : Fin 128) (l : Fin 128) (a : Fin 1152) (ha : a.val = r.val) :
    accK base inc 8 a l = base a l + inc 0 ⟨r.val, by omega⟩ l := by
  rw [accK_stay base inc 1 7 a l (fun k h1 h2 => by omega)]
  exact accK_hit base inc 0 (by decide) ⟨r.val, by omega⟩ a (by simp only []; omega) l

/-- The last block's rows: what was carried, and the last block's own. -/
theorem accK_last (r : Fin 128) (l : Fin 128) (a : Fin 1152) (ha : a.val = 1024 + r.val) :
    accK base inc 8 a l = base a l + inc 7 ⟨128 + r.val, by omega⟩ l := by
  rw [accK_hit base inc 7 (by decide) ⟨128 + r.val, by omega⟩ a (by simp only []; omega) l]
  exact congrArg (· + _) (accK_stay base inc 0 7 a l (fun k h1 h2 => by omega))

/-- The rows between two blocks: the second half of the one's band and the first half of the next one's. -/
theorem accK_mid (i : Fin 7) (r : Fin 128) (l : Fin 128) (a : Fin 1152) (ha : a.val = 128 * (i.val + 1) + r.val) :
    accK base inc 8 a l = base a l + inc ⟨i.val, by omega⟩ ⟨128 + r.val, by omega⟩ l + inc ⟨i.val + 1, by omega⟩ ⟨r.val, by omega⟩ l := by
  have hi := i.isLt
  have hr := r.isLt
  have e := accK_stay base inc (i.val + 2) (6 - i.val) a l (fun k h1 h2 => by omega)
  rw [show i.val + 2 + (6 - i.val) = 8 from by omega] at e
  rw [e, accK_hit base inc (i.val + 1) (by omega) ⟨r.val, by omega⟩ a (by simp only []; omega) l,
    accK_hit base inc i.val (by omega) ⟨128 + r.val, by omega⟩ a (by simp only []; omega) l]
  have e' := accK_stay base inc 0 i.val a l (fun k h1 h2 => by omega)
  rw [Nat.zero_add] at e'
  rw [e']
  rfl

end Cert.AttnBwdIdeal.Chain
end
-- ==== Proof.Attn.BlockS.lean ====
/- The gradient of the sink logits one grid point of the attention backward kernel leaves. -/
module

public import proofs.«01_k».proof.Proof.Attn.Acc
public import proofs.«01_k».proof.Proof.Inproj.Block

@[expose] public section

set_option maxRecDepth 16384

noncomputable section

namespace Cert.AttnBwdIdeal.Block

open Cert.AttnBwdIdeal Cert.AttnBwdIdeal.Gen Cert.AttnBwdIdeal.Chain Idealize.ShloMosaic Idealize.ShloMosaic.TcCoe Idealize.SL.Sem
variable (m : (ℓ : Loc nD τ sig) → Buf (Elt Ideal) ℓ)

/-- What is left of the mass of a block's rows for the sink of a head: the term subtracted from the gradient. -/
def incS (c : Dev nD) (t : Fin cfg0.N) (kv half s : Fin 2) (b : Fin 8) : EReal :=
  ∑ r, leakB (iblk m c 0 t) (iblk m c 1 t) (iblk m c 3 t) (iblk m c 2 t) (iblk m c 4 t) (iblk m c 5 t) (iblk m c 6 t) (iblk m c 7 t) t b kv half (qcol s r)

/-- The eight blocks' terms subtracted in turn. -/
def subS (x : EReal) (f : Fin 8 → EReal) : EReal := x - f 0 - f 1 - f 2 - f 3 - f 4 - f 5 - f 6 - f 7

def stepS (c : Dev nD) (t : Fin cfg0.N) (kv half s : Fin 2) (b : Fin 8) (old : Vec Ideal S1x1 .f32) : FVec Ideal S1x1 .f32 :=
  sinkStep (iblk m c 0 t) (iblk m c 1 t) (iblk m c 3 t) (iblk m c 2 t) (iblk m c 4 t) (iblk m c 5 t) (iblk m c 6 t) (iblk m c 7 t) (blockMask t b) old b kv half s

def eightS (c : Dev nD) (t : Fin cfg0.N) (kv half s : Fin 2) (old : Vec Ideal S1x1 .f32) : FVec Ideal S1x1 .f32 :=
  stepS m c t kv half s 7 (stepS m c t kv half s 6 (stepS m c t kv half s 5 (stepS m c t kv half s 4 (stepS m c t kv half s 3 (stepS m c t kv half s 2
    (stepS m c t kv half s 1 (stepS m c t kv half s 0 old)))))))

theorem stepS_apply (c : Dev nD) (t : Fin cfg0.N) (kv half s : Fin 2) (b : Fin 8) (old : Vec Ideal S1x1 .f32) :
    stepS m c t kv half s b old (ix2 0 0) = old (ix2 0 0) - incS m c t kv half s b := sinkStep_apply _ _ _ _ _ _ _ _ t old b kv half s

theorem eightS_apply (c : Dev nD) (t : Fin cfg0.N) (kv half s : Fin 2) (old : Vec Ideal S1x1 .f32) :
    eightS m c t kv half s old (ix2 0 0) = subS (old (ix2 0 0)) (incS m c t kv half s) := by
  rw [eightS, stepS_apply, stepS_apply, stepS_apply, stepS_apply, stepS_apply, stepS_apply, stepS_apply, stepS_apply, subS]

/-- The sink gradient accumulated before the grid point; zero at the first. -/
def prevS (c : Dev nD) (t : Fin cfg0.N) (h : Fin 8) : EReal :=
  if t.val % 8 = 0 then 0
  else (outsAt0 (F := Ideal) m c (t.val - 1) (Nat.lt_of_le_of_lt (Nat.sub_le _ _) t.isLt)).2.2.2.1 (ix2 0 h)

theorem canon_eight {S : Shape} {e : EltTy} (a b c d f g h i : View.Piece (Elt Ideal) S e) (L : List (View.Piece (Elt Ideal) S e)) (sz : Fin S.rank → Nat)
    (hc : View.Piece.tiled [a, b, c, d, f, g, h, i] sz = true) (y : S.Idx) :
    View.canon (a :: b :: c :: d :: f :: g :: h :: i :: L) y = View.canon [a, b, c, d, f, g, h, i] y :=
  Cert.InprojBwdIdeal.Block.canon_prefix L [a, b, c, d, f, g, h, i] y (View.cover_of_tiled _ sz hc y)

/-- One column of the row of sinks. -/
def column (X : Vec Ideal S1x8 .f32) (h : Fin 8) (fit : ∀ a, (![0, h.val] : Fin 2 → Nat) a + (![1, 1] : Fin 2 → Nat) a ≤ S1x8.size a) : Vec Ideal S1x1 .f32 :=
  View.ld X (Rect.unit (s := S1x8) ![0, h.val] ![1, 1] fit)

theorem baseS_A (c : Dev nD) (t : Fin cfg0.N) (h : Fin 8) (ht : t.val % 8 = 0)
    (fit : ∀ a, (![0, h.val] : Fin 2 → Nat) a + (![1, 1] : Fin 2 → Nat) a ≤ S1x8.size a) :
    column (k0_pay5 (F := Ideal)) h fit (ix2 0 0) = prevS m c t h := by
  rw [prevS, if_pos ht]
  pointwise [column, k0_pay5]

theorem baseS_B (c : Dev nD) (t : Fin cfg0.N) (h : Fin 8) (ht : ¬t.val % 8 = 0)
    (fit : ∀ a, (![0, h.val] : Fin 2 → Nat) a + (![1, 1] : Fin 2 → Nat) a ≤ S1x8.size a) :
    column (outsAt0 (F := Ideal) m c (t.val - 1) (Nat.lt_of_le_of_lt (Nat.sub_le _ _) t.isLt)).2.2.2.1 h fit (ix2 0 0)
      = prevS m c t h := by
  rw [prevS, if_neg ht, column, View.ld_apply]
  refine congrArg _ (funext fun i => ?_)
  match i with
  | 0 => rfl
  | 1 => exact Fin.ext (show h.val + 1 * 0 = h.val by omega)

set_option maxHeartbeats 4000000 in
/-- The sink gradient a grid point leaves: what it finds, less the terms of its eight blocks. -/
theorem out11 (c : Dev nD) (t : Fin cfg0.N) (h : Fin 8) :
    (outsAt0 (F := Ideal) m c t.val t.isLt).2.2.2.1 (ix2 0 h)
      = subS (prevS m c t h) (incS m c t ⟨h.val / 4, by omega⟩ ⟨h.val % 2, by omega⟩ ⟨h.val / 2 % 2, by omega⟩) := by
  by_cases ht : t.val % 8 = 0
  on_goal 1 => rw [Gen.outsAt0_A m c t ht]
  on_goal 2 => rw [Gen.outsAt0_B m c t ht]
  all_goals
    frame_open
    simp (disch := decide) only [↓ View.readCov_skip, ↓ View.readCov_cons_toLoadRect, ↓ View.readCov_fill]
    frame_out
    rw [Memref.IsWhole.read_unread]
    rw [canon_eight _ _ _ _ _ _ _ _ _ ![1, 1] rfl]
    canon_tiles x hx
    all_goals
      obtain ⟨x0, x1, rfl⟩ : ∃ (x0 x1 : Fin 1), x = ix2 x0 x1 := ⟨x 0, x 1, eq_ix2 x⟩
      obtain rfl : x0 = 0 := Subsingleton.elim _ _
      obtain rfl : x1 = 0 := Subsingleton.elim _ _
  · obtain rfl : h = 7 := Fin.ext (hx1.trans rfl)
    exact (eightS_apply m c t 1 1 1 _).trans (congrArg (subS · _) (baseS_A m c t 7 ht inb_S1x8_S1x1_0_7))
  · obtain rfl : h = 5 := Fin.ext (hx1.trans rfl)
    exact (eightS_apply m c t 1 1 0 _).trans (congrArg (subS · _) (baseS_A m c t 5 ht inb_S1x8_S1x1_0_5))
  · obtain rfl : h = 6 := Fin.ext (hx1.trans rfl)
    exact (eightS_apply m c t 1 0 1 _).trans (congrArg (subS · _) (baseS_A m c t 6 ht inb_S1x8_S1x1_0_6))
  · obtain rfl : h = 4 := Fin.ext (hx1.trans rfl)
    exact (eightS_apply m c t 1 0 0 _).trans (congrArg (subS · _) (baseS_A m c t 4 ht inb_S1x8_S1x1_0_4))
  · obtain rfl : h = 3 := Fin.ext (hx1.trans rfl)
    exact (eightS_apply m c t 0 1 1 _).trans (congrArg (subS · _) (baseS_A m c t 3 ht inb_S1x8_S1x1_0_3))
  · obtain rfl : h = 1 := Fin.ext (hx1.trans rfl)
    exact (eightS_apply m c t 0 1 0 _).trans (congrArg (subS · _) (baseS_A m c t 1 ht inb_S1x8_S1x1_0_1))
  · obtain rfl : h = 2 := Fin.ext (hx1.trans rfl)
    exact (eightS_apply m c t 0 0 1 _).trans (congrArg (subS · _) (baseS_A m c t 2 ht inb_S1x8_S1x1_0_2))
  · obtain rfl : h = 0 := Fin.ext (hx1.trans rfl)
    exact (eightS_apply m c t 0 0 0 _).trans (congrArg (subS · _) (baseS_A m c t 0 ht inb_S1x8_S1x1_0_0))
  · obtain rfl : h = 7 := Fin.ext (hx1.trans rfl)
    exact (eightS_apply m c t 1 1 1 _).trans (congrArg (subS · _) (baseS_B m c t 7 ht inb_S1x8_S1x1_0_7))
  · obtain rfl : h = 5 := Fin.ext (hx1.trans rfl)
    exact (eightS_apply m c t 1 1 0 _).trans (congrArg (subS · _) (baseS_B m c t 5 ht inb_S1x8_S1x1_0_5))
  · obtain rfl : h = 6 := Fin.ext (hx1.trans rfl)
    exact (eightS_apply m c t 1 0 1 _).trans (congrArg (subS · _) (baseS_B m c t 6 ht inb_S1x8_S1x1_0_6))
  · obtain rfl : h = 4 := Fin.ext (hx1.trans rfl)
    exact (eightS_apply m c t 1 0 0 _).trans (congrArg (subS · _) (baseS_B m c t 4 ht inb_S1x8_S1x1_0_4))
  · obtain rfl : h = 3 := Fin.ext (hx1.trans rfl)
    exact (eightS_apply m c t 0 1 1 _).trans (congrArg (subS · _) (baseS_B m c t 3 ht inb_S1x8_S1x1_0_3))
  · obtain rfl : h = 1 := Fin.ext (hx1.trans rfl)
    exact (eightS_apply m c t 0 1 0 _).trans (congrArg (subS · _) (baseS_B m c t 1 ht inb_S1x8_S1x1_0_1))
  · obtain rfl : h = 2 := Fin.ext (hx1.trans rfl)
    exact (eightS_apply m c t 0 0 1 _).trans (congrArg (subS · _) (baseS_B m c t 2 ht inb_S1x8_S1x1_0_2))
  · obtain rfl : h = 0 := Fin.ext (hx1.trans rfl)
    exact (eightS_apply m c t 0 0 0 _).trans (congrArg (subS · _) (baseS_B m c t 0 ht inb_S1x8_S1x1_0_0))

end Cert.AttnBwdIdeal.Block
end
-- ==== Proof.Attn.Soft.lean ====
/- One row of the softmax with a sink, its gradient through the saved log-sum-exp, and the same gradient by the chain rule. -/
module

public import proofs.«01_k».proof.Proof.Reals

@[expose] public section

noncomputable section

namespace Cert.Soft

open Idealize.ShloMosaic Cert.Reals

variable {n : Nat} (mask : Fin n → Prop) [DecidablePred mask] (s dP : Fin n → EReal) (sk : EReal)

/-- The masked scores, their largest with the sink, the exponentials, their sum and the log-sum-exp. -/
def x (j : Fin n) : EReal := if mask j then s j else ⊥
def top : EReal := Finset.univ.fold max ⊥ (x mask s)
def mx : EReal := max (top mask s) sk
def e (j : Fin n) : EReal := Ideal.exp (x mask s j - mx mask s sk)
def Z : EReal := ∑ j, e mask s sk j + Ideal.exp (sk - mx mask s sk)
def lse : EReal := mx mask s sk + Ideal.log (Z mask s sk)
/-- The probabilities from the log-sum-exp, and the gradient of the scores from them. -/
def p (j : Fin n) : EReal := if mask j then Ideal.exp (s j - lse mask s sk) else 0
def D : EReal := ∑ j, p mask s sk j * dP j
def dS (j : Fin n) : EReal := p mask s sk j * (dP j - D mask s dP sk)
/-- The sink's gradient, before the sign. -/
def leak : EReal := Ideal.exp (sk - lse mask s sk) * D mask s dP sk
/-- The gradient of the sum and of the scores, by the chain rule. -/
def T : EReal := -∑ j, dP j * Ideal.div 1 (Z mask s sk * Z mask s sk) * e mask s sk j
def ds (j : Fin n) : EReal := (Ideal.div (dP j) (Z mask s sk) + T mask s dP sk) * e mask s sk j

/-- The fold is one of the entries or the bottom. -/
theorem fold_mem {ι : Type} [DecidableEq ι] (f : ι → EReal) (t : Finset ι) : t.fold max ⊥ f = ⊥ ∨ ∃ j ∈ t, t.fold max ⊥ f = f j := by
  induction t using Finset.induction_on with
  | empty => exact Or.inl rfl
  | insert a t ha ih =>
    rw [Finset.fold_insert ha]
    rcases max_choice (f a) (t.fold max ⊥ f) with h | h
    · exact Or.inr ⟨a, Finset.mem_insert_self _ _, h⟩
    · rw [h]
      rcases ih with h' | ⟨j, hj, h'⟩
      · exact Or.inl h'
      · exact Or.inr ⟨j, Finset.mem_insert_of_mem hj, h'⟩

/-- The largest score is attained, so the number of places that attain it is not zero. -/
theorem count_real (hn : 0 < n) (f : Fin n → EReal) :
    ∃ c : ℝ, c ≠ 0 ∧ ∑ j, (if f j = Finset.univ.fold max ⊥ f then (1 : EReal) else 0) = (c : EReal) := by
  obtain ⟨j₀, h₀⟩ : ∃ j, f j = Finset.univ.fold max ⊥ f := by
    rcases fold_mem f Finset.univ with h | ⟨j, _, h⟩
    · refine ⟨⟨0, hn⟩, ?_⟩
      have : f ⟨0, hn⟩ ≤ Finset.univ.fold max ⊥ f := (Finset.le_fold_max _).mpr (Or.inr ⟨_, Finset.mem_univ _, le_refl _⟩)
      rw [h] at this ⊢
      exact le_bot_iff.mp this
    · exact ⟨j, h.symm⟩
  refine ⟨∑ j, (if f j = Finset.univ.fold max ⊥ f then (1 : ℝ) else 0), ?_, ?_⟩
  · refine (Finset.sum_pos' (fun j _ => by split_ifs <;> norm_num) ⟨j₀, Finset.mem_univ _, by rw [if_pos h₀]; norm_num⟩).ne'
  · rw [← coe_sum]
    refine Finset.sum_congr rfl fun j _ => ?_
    split_ifs <;> norm_num

theorem exp_real (a : ℝ) : Ideal.exp (a : EReal) = ((Real.exp a : ℝ) : EReal) := rfl

section
variable (hs : ∀ j, IsReal (s j)) (hk : IsReal sk)
include hs hk

theorem mx_real : IsReal (mx mask s sk) := by
  obtain ⟨k, rfl⟩ := hk
  rcases fold_mem (x mask s) Finset.univ with h | ⟨j, _, h⟩
  · exact ⟨k, by rw [mx, top, h]; exact max_eq_right bot_le⟩
  · rw [mx, top, h, x]
    split_ifs
    · obtain ⟨r, hr⟩ := hs j
      rw [hr]
      rcases max_choice (r : EReal) (k : EReal) with h | h <;> rw [h] <;> exact isReal_coe _
    · exact ⟨k, max_eq_right bot_le⟩

/-- The row over the reals. -/
theorem row_real (hd : ∀ j, IsReal (dP j)) : ∃ (m' k' : ℝ) (e' d' : Fin n → ℝ), mx mask s sk = m' ∧ sk = k'
    ∧ (∀ j, e mask s sk j = e' j) ∧ (∀ j, 0 ≤ e' j) ∧ (∀ j, dP j = d' j)
    ∧ (∀ j, mask j → s j = ((m' + Real.log (e' j) : ℝ) : EReal) ∧ 0 < e' j) ∧ (∀ j, ¬mask j → e' j = 0) := by
  obtain ⟨m', hm⟩ := mx_real mask s sk hs hk
  obtain ⟨k', hk'⟩ := hk
  choose s' hs' using hs
  choose d' hd' using hd
  refine ⟨m', k', fun j => if mask j then Real.exp (s' j - m') else 0, d', hm, hk', fun j => ?_, fun j => ?_, hd', fun j hj => ?_, fun j hj => ?_⟩
  · rw [e, x, hm]
    by_cases h : mask j
    · simp only [if_pos h]; rw [hs', ← EReal.coe_sub, exp_real]
    · simp only [if_neg h]; rw [show (⊥ : EReal) - (m' : EReal) = ⊥ from rfl]; rfl
  · dsimp only; split_ifs; · exact (Real.exp_pos _).le
    · exact le_refl _
  · simp only [if_pos hj, Real.log_exp, hs' j]
    exact ⟨by congr 1; ring, Real.exp_pos _⟩
  · simp only [if_neg hj]

/-- The sum is a positive real. -/
theorem Z_real : ∃ z : ℝ, 0 < z ∧ Z mask s sk = z := by
  obtain ⟨m', k', e', d', hm, hk', he, h0, -, -, -⟩ := row_real mask s (fun _ => 0) sk hs hk (fun _ => isReal_zero)
  refine ⟨∑ j, e' j + Real.exp (k' - m'), add_pos_of_nonneg_of_pos (Finset.sum_nonneg fun j _ => h0 j) (Real.exp_pos _), ?_⟩
  rw [Z, hm, hk', ← EReal.coe_sub, exp_real, EReal.coe_add, ← coe_sum]
  rw [← hk']
  exact congrArg (· + _) (Finset.sum_congr rfl fun j _ => he j)

theorem lse_real : IsReal (lse mask s sk) := by
  obtain ⟨z, hz, hZ⟩ := Z_real mask s sk hs hk
  obtain ⟨m', hm⟩ := mx_real mask s sk hs hk
  refine ⟨m' + Real.log z, ?_⟩
  rw [lse, hZ, hm, EReal.coe_add, Ideal.log_coe, if_neg (not_le.mpr hz)]

theorem p_real (j : Fin n) : IsReal (p mask s sk j) := by
  obtain ⟨l, hl⟩ := lse_real mask s sk hs hk
  obtain ⟨r, hr⟩ := hs j
  rw [p]; split_ifs
  · exact ⟨Real.exp (r - l), by rw [hl, hr, ← EReal.coe_sub, exp_real]⟩
  · exact isReal_zero

/-- The probabilities are the quotients. -/
theorem div_eq_p (j : Fin n) : Ideal.div (e mask s sk j) (Z mask s sk) = p mask s sk j := by
  obtain ⟨z, hz, hZ⟩ := Z_real mask s sk hs hk
  obtain ⟨m', k', e', d', hm, hk', he, h0, -, h1, h2⟩ := row_real mask s (fun _ => 0) sk hs hk (fun _ => isReal_zero)
  rw [he, hZ, div_coe _ _ hz.ne', p, lse, hZ, hm, Ideal.log_coe, if_neg (not_le.mpr hz), ← EReal.coe_add]
  split_ifs with h
  · rw [(h1 j h).1, ← EReal.coe_sub, exp_real]
    congr 1
    rw [show m' + Real.log (e' j) - (m' + Real.log z) = Real.log (e' j) - Real.log z by ring, Real.exp_sub, Real.exp_log (h1 j h).2, Real.exp_log hz]
  · rw [h2 j h, zero_div]; rfl

theorem D_real (hd : ∀ j, IsReal (dP j)) : IsReal (D mask s dP sk) :=
  IsReal.sum fun j _ => (p_real mask s sk hs hk j).mul (hd j)

theorem dS_real (hd : ∀ j, IsReal (dP j)) (j : Fin n) : IsReal (dS mask s dP sk j) :=
  (p_real mask s sk hs hk j).mul ((hd j).sub (D_real mask s dP sk hs hk hd))

/-- The sum's gradient is minus the inner product over the sum. -/
theorem T_eq (hd : ∀ j, IsReal (dP j)) : ∃ z t m' k' : ℝ, 0 < z ∧ Z mask s sk = z ∧ D mask s dP sk = t ∧ T mask s dP sk = ((-(t / z) : ℝ) : EReal)
    ∧ mx mask s sk = m' ∧ sk = k' := by
  obtain ⟨z, hz, hZ⟩ := Z_real mask s sk hs hk
  obtain ⟨m', k', e', d', hm, hk', he, h0, hd', h1, h2⟩ := row_real mask s dP sk hs hk hd
  refine ⟨z, ∑ j, e' j / z * d' j, m', k', hz, hZ, ?_, ?_, hm, hk'⟩
  · rw [D, ← coe_sum]
    refine Finset.sum_congr rfl fun j _ => ?_
    rw [← div_eq_p mask s sk hs hk, he, hZ, div_coe _ _ hz.ne', hd', EReal.coe_mul]
  · rw [T, EReal.coe_neg, Finset.sum_div, ← coe_sum]
    refine congrArg Neg.neg (Finset.sum_congr rfl fun j _ => ?_)
    rw [hZ, he, hd', ← EReal.coe_mul, ← EReal.coe_one, div_coe _ _ (mul_pos hz hz).ne', ← EReal.coe_mul, ← EReal.coe_mul]
    congr 1
    field_simp

/-- The two gradients of the scores agree. -/
theorem ds_eq_dS (hd : ∀ j, IsReal (dP j)) (j : Fin n) : ds mask s dP sk j = dS mask s dP sk j := by
  obtain ⟨z, t, m', k', hz, hZ, hD, hT, -, -⟩ := T_eq mask s dP sk hs hk hd
  obtain ⟨_, _, e', d', -, -, he, -, hd', -, -⟩ := row_real mask s dP sk hs hk hd
  rw [ds, dS, hD, hT, ← div_eq_p mask s sk hs hk, hZ, he, hd', div_coe _ _ hz.ne', div_coe _ _ hz.ne', ← EReal.coe_add, ← EReal.coe_sub, ← EReal.coe_mul, ← EReal.coe_mul]
  congr 1
  field_simp
  ring

/-- The two gradients of the sink agree. -/
theorem sink_eq (hd : ∀ j, IsReal (dP j)) : T mask s dP sk * Ideal.exp (sk - mx mask s sk) = -leak mask s dP sk := by
  obtain ⟨z, t, m', k', hz, hZ, hD, hT, hm, hk'⟩ := T_eq mask s dP sk hs hk hd
  rw [leak, lse, hT, hD, hZ, hm, hk', Ideal.log_coe, if_neg (not_le.mpr hz), ← EReal.coe_add, ← EReal.coe_sub, ← EReal.coe_sub, exp_real, exp_real,
    ← EReal.coe_mul, ← EReal.coe_mul, ← EReal.coe_neg]
  congr 1
  rw [show k' - (m' + Real.log z) = (k' - m') - Real.log z by ring, Real.exp_sub _ (Real.log z), Real.exp_log hz]
  ring

/-- What would flow through the largest score is zero. -/
theorem flow_zero (hd : ∀ j, IsReal (dP j)) :
    -(T mask s dP sk * Ideal.exp (sk - mx mask s sk)) + ∑ j, -ds mask s dP sk j = 0 := by
  obtain ⟨z, t, m', k', hz, hZ, hD, hT, hm, hk'⟩ := T_eq mask s dP sk hs hk hd
  obtain ⟨_, _, e', d', -, -, he, -, hd', -, -⟩ := row_real mask s dP sk hs hk hd
  have hz' : (z : EReal) = ((∑ j, e' j + Real.exp (k' - m') : ℝ) : EReal) := by
    rw [← hZ, Z, hm, hk', ← EReal.coe_sub, exp_real, EReal.coe_add, ← coe_sum, ← hk']
    exact congrArg (· + _) (Finset.sum_congr rfl fun j _ => he j)
  have hz'' : z = ∑ j, e' j + Real.exp (k' - m') := by exact_mod_cast hz'
  have ht : (t : EReal) = ((∑ j, e' j / z * d' j : ℝ) : EReal) := by
    rw [← hD, D, ← coe_sum]
    refine Finset.sum_congr rfl fun j _ => ?_
    rw [← div_eq_p mask s sk hs hk, he, hZ, div_coe _ _ hz.ne', hd', EReal.coe_mul]
  have ht' : t = ∑ j, e' j / z * d' j := by exact_mod_cast ht
  have hsum : ∑ j, -ds mask s dP sk j = ((∑ j, -((d' j / z + -(t / z)) * e' j) : ℝ) : EReal) := by
    rw [← coe_sum]
    refine Finset.sum_congr rfl fun j _ => ?_
    rw [ds, hT, hZ, he, hd', div_coe _ _ hz.ne', ← EReal.coe_add, ← EReal.coe_mul, ← EReal.coe_neg]
  rw [hsum, hT, hm, hk', ← EReal.coe_sub, exp_real, ← EReal.coe_mul, ← EReal.coe_neg, ← EReal.coe_add, ← EReal.coe_zero]
  congr 1
  have h1 : ∑ j, -((d' j / z + -(t / z)) * e' j) = -(∑ j, e' j / z * d' j) + t / z * ∑ j, e' j := by
    rw [Finset.mul_sum, ← Finset.sum_neg_distrib, ← Finset.sum_add_distrib]
    exact Finset.sum_congr rfl fun j _ => by ring
  rw [h1, ← ht', show ∑ j, e' j = z - Real.exp (k' - m') by rw [hz'']; ring]
  field_simp
  ring

end

end Cert.Soft
end
-- ==== Proof.Attn.Spec.lean ====
/- The gradients of the attention with a sliding window and a sink, over plain functions of its inputs: queries of 64 blocks of 128 rows,
   each seeing the band of its own block and the one before. -/
module

public import proofs.«01_k».proof.Proof.Attn.Soft

@[expose] public section

noncomputable section

namespace Cert.AttnSpec

open Idealize.ShloMosaic Cert.Reals

/-- A row of a block, the key head of a query head, a head from its key head and its place in the group. -/
def row (n : Fin 64) (r : Fin 128) : Fin 8192 := ⟨128 * n.val + r.val, by omega⟩
def kvOf (h : Fin 8) : Fin 2 := ⟨h.val / 4, by omega⟩
def hd (kv : Fin 2) (g : Fin 4) : Fin 8 := ⟨4 * kv.val + g.val, by omega⟩

/-- Which keys of the band a query sees: the last 128 up to itself, and nothing before the sequence. -/
def Sees (n : Fin 64) (r : Fin 128) (j : Fin 256) : Prop := r.val < j.val ∧ j.val ≤ r.val + 128 ∧ 128 ≤ 128 * n.val + j.val
instance (n : Fin 64) (r : Fin 128) : DecidablePred (Sees n r) := fun j => by unfold Sees; infer_instance

/-- The band of a block: the block before, then the block; zeros before the sequence. -/
def band (k : Fin 8192 → Fin 2 → Fin 64 → EReal) (n : Fin 64) (j : Fin 256) (kv : Fin 2) (d : Fin 64) : EReal :=
  if _h : 128 ≤ 128 * n.val + j.val then k ⟨128 * n.val + j.val - 128, by omega⟩ kv d else 0

/-- An eighth. -/
def c8 : EReal := Ideal.ofBits FTy.f32 0x3E000000#32

variable (q : Fin 8192 → Fin 8 → Fin 64 → EReal) (k v : Fin 8192 → Fin 2 → Fin 64 → EReal) (sk : Fin 8 → EReal) (o : Fin 8192 → Fin 8 → Fin 64 → EReal)

def sc (n : Fin 64) (h : Fin 8) (r : Fin 128) (j : Fin 256) : EReal := (∑ d, band k n j (kvOf h) d * q (row n r) h d) * c8
def dP (n : Fin 64) (h : Fin 8) (r : Fin 128) (j : Fin 256) : EReal := ∑ d, o (row n r) h d * band v n j (kvOf h) d
def P (n : Fin 64) (h : Fin 8) (r : Fin 128) (j : Fin 256) : EReal := Soft.p (Sees n r) (sc q k n h r) (sk h) j
def dS (n : Fin 64) (h : Fin 8) (r : Fin 128) (j : Fin 256) : EReal := Soft.dS (Sees n r) (sc q k n h r) (dP v o n h r) (sk h) j
def leak (n : Fin 64) (h : Fin 8) (r : Fin 128) : EReal := Soft.leak (Sees n r) (sc q k n h r) (dP v o n h r) (sk h)

def dq (n : Fin 64) (r : Fin 128) (h : Fin 8) (d : Fin 64) : EReal := ∑ j, dS q k v sk o n h r j * c8 * band k n j (kvOf h) d
def dkBand (n : Fin 64) (j : Fin 256) (kv : Fin 2) (d : Fin 64) : EReal :=
  ∑ r, ∑ g, dS q k v sk o n (hd kv g) r j * c8 * q (row n r) (hd kv g) d
def dvBand (n : Fin 64) (j : Fin 256) (kv : Fin 2) (d : Fin 64) : EReal :=
  ∑ g, ∑ r, o (row n r) (hd kv g) d * P q k sk n (hd kv g) r j
/-- A block's own gradient: from its own band, and from the band of the block after. -/
def unband (f : Fin 64 → Fin 256 → EReal) (n : Fin 64) (r : Fin 128) : EReal :=
  f n ⟨128 + r.val, by omega⟩ + if _h : n.val < 63 then f ⟨n.val + 1, by omega⟩ ⟨r.val, by omega⟩ else 0
def dk (n : Fin 64) (r : Fin 128) (kv : Fin 2) (d : Fin 64) : EReal := unband (fun n j => dkBand q k v sk o n j kv d) n r
def dv (n : Fin 64) (r : Fin 128) (kv : Fin 2) (d : Fin 64) : EReal := unband (fun n j => dvBand q k sk o n j kv d) n r
def dsink (h : Fin 8) : EReal := ∑ n, ∑ r, -leak q k v sk o n h r

section
variable (hq : ∀ i h d, IsReal (q i h d)) (hk : ∀ i h d, IsReal (k i h d))

theorem c8_real : c8 = ((1 / 8 : ℝ) : EReal) := by
  simp [c8, Ideal.ofBits, Ideal.ieee, -EReal.coe_mul]; norm_num

include hk in
theorem band_real (n : Fin 64) (j : Fin 256) (kv : Fin 2) (d : Fin 64) : IsReal (band k n j kv d) := by
  unfold band
  split_ifs
  · exact hk _ _ _
  · exact isReal_zero

include hq hk in
theorem sc_real (n : Fin 64) (h : Fin 8) (r : Fin 128) (j : Fin 256) : IsReal (sc q k n h r j) :=
  (IsReal.sum fun d _ => (band_real k hk n j _ d).mul (hq _ _ _)).mul ⟨_, c8_real⟩

include hk hq in
theorem dP_real (n : Fin 64) (h : Fin 8) (r : Fin 128) (j : Fin 256) : IsReal (dP k q n h r j) :=
  IsReal.sum fun d _ => (hq _ _ _).mul (band_real k hk n j _ d)

end

end Cert.AttnSpec
end
-- ==== Proof.Attn.RefScores.lean ====
/- What the reference's scores hold, entry by entry: the bands, the mask, the masked scores and the largest of a row. -/
module

public import proofs.«01_k».proof.Proof.Gen.AttnBwdRefIdeal.Read
public import proofs.«01_k».proof.Proof.Sums
public import proofs.«01_k».proof.Proof.Attn.Spec

@[expose] public section

set_option maxRecDepth 16384

noncomputable section

namespace Cert.AttnBwdRefIdeal.Read

open Cert.AttnSpec Cert.AttnBwdRefIdeal Cert.AttnBwdRefIdeal.Gen Idealize.ShloMosaic Idealize.ShloMosaic.TcCoe Idealize.SL.Sem

def qf (x : S1x8192x8x64.Idx → EReal) (i : Fin 8192) (h : Fin 8) (d : Fin 64) : EReal := x (ix4 0 i h d)
def kf (x : S1x8192x2x64.Idx → EReal) (i : Fin 8192) (h : Fin 2) (d : Fin 64) : EReal := x (ix4 0 i h d)
def sf (x : S1x8.Idx → EReal) (h : Fin 8) : EReal := x (ix2 0 h)
def of (x : S1x8192x512.Idx → EReal) (i : Fin 8192) (h : Fin 8) (d : Fin 64) : EReal := x (ix3 0 i ⟨64 * h.val + d.val, by omega⟩)

theorem kv_hd (kv : Fin 2) (g : Fin 4) : kvOf (hd kv g) = kv := Fin.ext (by simp only [kvOf, hd]; omega)

theorem negInf : Ideal.ofBits FTy.f32 4286578688#32 = ⊥ := by
  simp [Ideal.ofBits, Ideal.ieee]

theorem band_form (x1 : S1x8192x2x64.Idx → EReal) (n : Fin 64) (j : Fin 256) (kv : Fin 2) (d : Fin 64) :
    (if h : j.val < 128 then if h : n.val < 1 then 0 else x1 (ix4 0 ⟨(n.val - 1) * 128 + j.val, by omega⟩ kv d)
      else x1 (ix4 0 ⟨n.val * 128 + (j.val - 128), by omega⟩ kv d)) = band (kf x1) n j kv d := by
  unfold band
  by_cases h : j.val < 128
  · by_cases h' : n.val < 1
    · rw [dif_pos h, dif_pos h', dif_neg (by omega)]
    · rw [dif_pos h, dif_neg h', dif_pos (by omega)]
      exact congrArg (fun z => x1 (ix4 0 z kv d)) (Fin.ext (by simp only []; omega))
  · rw [dif_neg h, dif_pos (by omega)]
    exact congrArg (fun z => x1 (ix4 0 z kv d)) (Fin.ext (by simp only []; omega))

theorem ev13 (x1) (n : Fin 64) (j : Fin 256) (kv : Fin 2) (d : Fin 64) : val_main_v13 (F := Ideal) x1 (ix5 0 n j kv d) = band (kf x1) n j kv d := by
  pointwise [val_main_v13, val_main_v12, val_main_v11, val_main_v10, val_main_v9, val_main_v8, val_main_cst_1, val_main_cst_2]
  exact band_form x1 n j kv d

theorem ev6 (x2) (n : Fin 64) (j : Fin 256) (kv : Fin 2) (d : Fin 64) : val_main_v6 (F := Ideal) x2 (ix5 0 n j kv d) = band (kf x2) n j kv d := by
  pointwise [val_main_v6, val_main_v5, val_main_v4, val_main_v3, val_main_v2, val_main_v1, val_main_cst, val_main_cst_0]
  exact band_form x2 n j kv d

theorem ev7 (x0) (n : Fin 64) (r : Fin 128) (kv : Fin 2) (g : Fin 4) (d : Fin 64) : val_main_v7 (F := Ideal) x0 (ix6 0 n r kv g d) = qf x0 (row n r) (hd kv g) d := by
  pointwise [val_main_v7, qf]
  refine congrArg x0 ?_
  rw [show row n r = ⟨n.val * 128 + r.val, by omega⟩ from Fin.ext (by simp only [row]; omega), show hd kv g = ⟨kv.val * 4 + g.val, by omega⟩ from Fin.ext (by simp only [hd]; omega)]

theorem near : ∀ (r : Fin 128) (j : Fin 256), IntOp.andi
        (IntOp.cmpi CmpIPredicate.sge (IntOp.subi (IntOp.addi (BitVec.ofNat 32 r.val) 128#32) (BitVec.ofNat 32 j.val)) 0#32)
        (IntOp.cmpi CmpIPredicate.slt (IntOp.subi (IntOp.addi (BitVec.ofNat 32 r.val) 128#32) (BitVec.ofNat 32 j.val)) 128#32)
      = if r.val < j.val ∧ j.val ≤ r.val + 128 then 1#1 else 0#1 := by decide +kernel

theorem inside : ∀ (n : Fin 64) (j : Fin 256), IntOp.cmpi CmpIPredicate.sge
        (IntOp.subi (IntOp.addi (IntOp.muli (BitVec.ofNat 32 n.val) 128#32) (BitVec.ofNat 32 j.val)) 128#32) 0#32
      = if 128 ≤ 128 * n.val + j.val then 1#1 else 0#1 := by decide +kernel

theorem ev48 (n : Fin 64) (r : Fin 128) (j : Fin 256) : val_main_v48 (F := Ideal) (ix6 0 n 0 0 r j) = if Sees n r j then 1#1 else 0#1 := by
  pointwise [val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_c, val_main_c_4, val_main_c_5, val_main_c_6, val_main_c_7, val_main_c_8]
  rw [near, inside]
  unfold Sees
  by_cases a : r.val < j.val <;> by_cases b : j.val ≤ r.val + 128 <;> by_cases c : 128 ≤ 128 * n.val + j.val <;> simp [a, b, c, IntOp.andi]

theorem ev97 (x4) (n : Fin 64) (r : Fin 128) (kv : Fin 2) (g : Fin 4) (d : Fin 64) : val_main_v97 (F := Ideal) x4 (ix6 0 n kv d g r) = of x4 (row n r) (hd kv g) d := by
  pointwise [val_main_v97, val_main_v96, of]
  refine congrArg x4 (congrArg₂ (ix3 0) (Fin.ext ?_) (Fin.ext ?_)) <;> simp only [row, hd] <;> omega

section
variable (x0 : S1x8192x8x64.Idx → EReal) (x1 x2 : S1x8192x2x64.Idx → EReal) (x3 : S1x8.Idx → EReal) (x4 : S1x8192x512.Idx → EReal)

theorem ev17 (n : Fin 64) (r : Fin 128) (kv : Fin 2) (g : Fin 4) (j : Fin 256) :
    val_main_v17 (F := Ideal) x0 x1 (ix6 0 n kv g r j) = sc (qf x0) (kf x1) n (hd kv g) r j := by
  pointwise [val_main_v17, val_main_v16, val_main_v15, val_main_v14, val_main_cst_3, ev13, ev7, sc]
  rw [kv_hd]
  rfl

theorem ev49 (n : Fin 64) (r : Fin 128) (kv : Fin 2) (g : Fin 4) (j : Fin 256) :
    val_main_v49_0 (F := Ideal) x0 x1 (ix6 0 n kv g r j) = Soft.x (Sees n r) (sc (qf x0) (kf x1) n (hd kv g) r) j := by
  pointwise [val_main_v49_0, val_main_v49_1, val_main_call0_v2, val_main_call0_v0, val_main_cst_9, ev48, ev17]
  unfold Soft.x
  by_cases h : Sees n r j
  · simp [h, Scalar.select]
  · simp [h, Scalar.select]
    exact negInf

theorem ev51 (kv : Fin 2) (g : Fin 4) : val_main_v51 (F := Ideal) x3 (ix6 0 0 kv g 0 0) = sf x3 (hd kv g) := by
  pointwise [val_main_v51, val_main_v50, val_main_v0, sf]
  exact congrArg (fun z => x3 (ix2 0 z)) (Fin.ext (by simp only [hd]; omega))

theorem ev52 (n : Fin 64) (r : Fin 128) (kv : Fin 2) (g : Fin 4) :
    val_main_v52 (F := Ideal) x0 x1 (ix5 0 n kv g r) = Soft.top (Sees n r) (sc (qf x0) (kf x1) n (hd kv g) r) := by
  pointwise [val_main_v52, val_main_cst_10]
  refine (Sums.fold_last _ _ _ 0 n kv g r).trans ?_
  rw [negInf]
  exact congrArg (Finset.univ.fold max ⊥) (funext fun j => ev49 x0 x1 n r kv g j)

end

end Cert.AttnBwdRefIdeal.Read
end
-- ==== Proof.Attn.RefSoft.lean ====
/- What the reference's arrays hold, entry by entry: the softmax and its gradient by the chain rule. -/
module

public import proofs.«01_k».proof.Proof.Attn.RefScores

@[expose] public section

set_option maxRecDepth 16384

noncomputable section

namespace Cert.AttnBwdRefIdeal.Read

open Cert.AttnSpec Cert.AttnBwdRefIdeal Cert.AttnBwdRefIdeal.Gen Idealize.ShloMosaic Idealize.ShloMosaic.TcCoe Idealize.SL.Sem

section
variable (x0 : S1x8192x8x64.Idx → EReal) (x1 x2 : S1x8192x2x64.Idx → EReal) (x3 : S1x8.Idx → EReal) (x4 : S1x8192x512.Idx → EReal)

theorem ev58 (n : Fin 64) (r : Fin 128) (kv : Fin 2) (g : Fin 4) :
    val_main_v58 (F := Ideal) x0 x1 (ix6 0 n kv g r 0) = Soft.top (Sees n r) (sc (qf x0) (kf x1) n (hd kv g) r) := by
  refine Eq.trans ?_ (ev52 x0 x1 n r kv g)
  unfold val_main_v58
  generalize val_main_v52 (F := Ideal) x0 x1 = v
  pointwise

theorem ev59 (n : Fin 64) (r : Fin 128) (kv : Fin 2) (g : Fin 4) : val_main_v59 (F := Ideal) x3 (ix6 0 n kv g r 0) = sf x3 (hd kv g) := by
  refine Eq.trans ?_ (ev51 x3 kv g)
  unfold val_main_v59
  generalize val_main_v51 (F := Ideal) x3 = v
  pointwise

theorem v60_is : val_main_v60 (F := Ideal) x0 x1 x3 = maximumf (F := Ideal) (s := S1x64x2x4x128x1) (φ := .f32) (val_main_v58 (F := Ideal) x0 x1) (val_main_v59 (F := Ideal) x3) := rfl

theorem max_at (v w : FVec Ideal S1x64x2x4x128x1 .f32) (i) : maximumf (F := Ideal) v w i = max (v i) (w i) := rfl

theorem ev60 (n : Fin 64) (r : Fin 128) (kv : Fin 2) (g : Fin 4) :
    val_main_v60 (F := Ideal) x0 x1 x3 (ix6 0 n kv g r 0) = Soft.mx (Sees n r) (sc (qf x0) (kf x1) n (hd kv g) r) (sf x3 (hd kv g)) := by
  rw [v60_is, max_at, ev58, ev59, Soft.mx]

theorem ev81 (n : Fin 64) (r : Fin 128) (kv : Fin 2) (g : Fin 4) (j : Fin 256) :
    val_main_v81 (F := Ideal) x0 x1 x3 (ix6 0 n kv g r j) = Soft.e (Sees n r) (sc (qf x0) (kf x1) n (hd kv g) r) (sf x3 (hd kv g)) j := by
  pointwise [val_main_v81, val_main_v80, val_main_v79, ev60, ev49, Soft.e]

theorem ev86 (n : Fin 64) (r : Fin 128) (kv : Fin 2) (g : Fin 4) :
    val_main_v86 (F := Ideal) x0 x1 x3 (ix6 0 n kv g r 0) = Ideal.exp (sf x3 (hd kv g) - Soft.mx (Sees n r) (sc (qf x0) (kf x1) n (hd kv g) r) (sf x3 (hd kv g))) := by
  pointwise [val_main_v86, val_main_v85, val_main_v84, ev60, ev51]

theorem ev87 (n : Fin 64) (r : Fin 128) (kv : Fin 2) (g : Fin 4) :
    val_main_v87 (F := Ideal) x0 x1 x3 (ix6 0 n kv g r 0) = Soft.Z (Sees n r) (sc (qf x0) (kf x1) n (hd kv g) r) (sf x3 (hd kv g)) := by
  pointwise [val_main_v87, val_main_v83, val_main_v82, val_main_cst_18, ev86, Sums.reduce_last, ev81, Soft.Z]

theorem ev89 (n : Fin 64) (r : Fin 128) (kv : Fin 2) (g : Fin 4) (j : Fin 256) :
    val_main_v89 (F := Ideal) x0 x1 x3 (ix6 0 n kv g r j) = Ideal.div (Soft.e (Sees n r) (sc (qf x0) (kf x1) n (hd kv g) r) (sf x3 (hd kv g)) j) (Soft.Z (Sees n r) (sc (qf x0) (kf x1) n (hd kv g) r) (sf x3 (hd kv g))) := by
  pointwise [val_main_v89, val_main_v88, ev87, ev81]

theorem ev98 (n : Fin 64) (r : Fin 128) (kv : Fin 2) (g : Fin 4) (j : Fin 256) :
    val_main_v98 (F := Ideal) x2 x4 (ix6 0 n kv g r j) = dP (kf x2) (of x4) n (hd kv g) r j := by
  pointwise [val_main_v98, ev97, ev6, dP]
  rw [kv_hd]

theorem ev106 (n : Fin 64) (r : Fin 128) (kv : Fin 2) (g : Fin 4) :
    val_main_v106 (F := Ideal) x0 x1 x2 x3 x4 (ix6 0 n kv g r 0) = Soft.T (Sees n r) (sc (qf x0) (kf x1) n (hd kv g) r) (dP (kf x2) (of x4) n (hd kv g) r) (sf x3 (hd kv g)) := by
  pointwise [val_main_v106, val_main_v105, val_main_v104, val_main_v103, val_main_v102, val_main_v101, val_main_v92, val_main_v91, val_main_v90, val_main_cst_19, val_main_cst_20, Sums.reduce_last, ev98, ev87, ev81, Soft.T]

theorem ev117 (n : Fin 64) (r : Fin 128) (kv : Fin 2) (g : Fin 4) (j : Fin 256) :
    val_main_v117 (F := Ideal) x0 x1 x2 x3 x4 (ix6 0 n kv g r j) = Soft.ds (Sees n r) (sc (qf x0) (kf x1) n (hd kv g) r) (dP (kf x2) (of x4) n (hd kv g) r) (sf x3 (hd kv g)) j := by
  pointwise [val_main_v117, val_main_v116, val_main_v115, val_main_v114, val_main_v113, val_main_v108, val_main_v107, val_main_cst_22, Sums.reduce_outer, ev106, ev98, ev87, ev81, Soft.ds]

theorem ev121 (n : Fin 64) (r : Fin 128) (kv : Fin 2) (g : Fin 4) :
    val_main_v121 (F := Ideal) x0 x1 x2 x3 x4 (ix6 0 n kv g r 0) = -(Soft.T (Sees n r) (sc (qf x0) (kf x1) n (hd kv g) r) (dP (kf x2) (of x4) n (hd kv g) r) (sf x3 (hd kv g)) * Ideal.exp (sf x3 (hd kv g) - Soft.mx (Sees n r) (sc (qf x0) (kf x1) n (hd kv g) r) (sf x3 (hd kv g))))
      + ∑ j, -Soft.ds (Sees n r) (sc (qf x0) (kf x1) n (hd kv g) r) (dP (kf x2) (of x4) n (hd kv g) r) (sf x3 (hd kv g)) j := by
  pointwise [val_main_v121, val_main_v120, val_main_v119, val_main_v118, val_main_v112, val_main_v109, val_main_cst_23, Sums.reduce_last, ev106, ev117, ev86]

end

end Cert.AttnBwdRefIdeal.Read
end
-- ==== Proof.Attn.Ref.lean ====
/- What the reference's arrays hold, entry by entry: the softmax, its gradient by the chain rule, and the four results. -/
module

public import proofs.«01_k».proof.Proof.Attn.RefSoft

@[expose] public section

set_option maxRecDepth 16384

noncomputable section

namespace Cert.AttnBwdRefIdeal.Read

open Cert.AttnSpec Cert.AttnBwdRefIdeal Cert.AttnBwdRefIdeal.Gen Idealize.ShloMosaic Idealize.ShloMosaic.TcCoe Idealize.SL.Sem

section
variable (x0 : S1x8192x8x64.Idx → EReal) (x1 x2 : S1x8192x2x64.Idx → EReal) (x3 : S1x8.Idx → EReal) (x4 : S1x8192x512.Idx → EReal)

theorem unband_form (f : Fin 64 → Fin 256 → Fin 2 → Fin 64 → EReal) (i : Fin 8192) (l : Fin 128) :
    (f ⟨i.val / 128, by omega⟩ ⟨128 + i.val % 128, by omega⟩ ⟨l.val / 64, by omega⟩ ⟨l.val % 64, by omega⟩
      + if h : i.val / 128 < 63 ∧ i.val % 128 < 128 ∧ l.val / 64 < 2 ∧ l.val % 64 < 64 then
          f ⟨1 + i.val / 128, by omega⟩ ⟨i.val % 128, by omega⟩ ⟨l.val / 64, by omega⟩ ⟨l.val % 64, by omega⟩ else 0)
      = unband (fun n j => f n j ⟨l.val / 64, by omega⟩ ⟨l.val % 64, by omega⟩) ⟨i.val / 128, by omega⟩ ⟨i.val % 128, by omega⟩ := by
  unfold unband
  refine congrArg₂ (· + ·) rfl ?_
  by_cases h : i.val / 128 < 63
  · refine (dif_pos ⟨h, by omega, by omega, by omega⟩).trans (Eq.trans ?_ (dif_pos h).symm)
    exact congrArg (fun z => f z ⟨i.val % 128, by omega⟩ ⟨l.val / 64, by omega⟩ ⟨l.val % 64, by omega⟩) (Fin.ext (Nat.add_comm _ _))
  · rw [dif_neg (fun h' => h h'.1), dif_neg h]

theorem ev54 (n : Fin 64) (r : Fin 128) (kv : Fin 2) (g : Fin 4) (j : Fin 256) :
    val_main_v54 (F := Ideal) x0 x1 (ix6 0 n kv g r j) = Soft.top (Sees n r) (sc (qf x0) (kf x1) n (hd kv g) r) := by
  refine Eq.trans ?_ (ev52 x0 x1 n r kv g)
  unfold val_main_v54 val_main_v53
  generalize val_main_v52 (F := Ideal) x0 x1 = v
  pointwise

theorem ev56 (n : Fin 64) (r : Fin 128) (kv : Fin 2) (g : Fin 4) (j : Fin 256) :
    val_main_v56 (F := Ideal) x0 x1 (ix6 0 n kv g r j) = if Soft.x (Sees n r) (sc (qf x0) (kf x1) n (hd kv g) r) j = Soft.top (Sees n r) (sc (qf x0) (kf x1) n (hd kv g) r) then 1 else 0 := by
  rw [← ev54 x0 x1 n r kv g j, ← ev49]
  unfold val_main_v56 val_main_v55
  generalize val_main_v54 (F := Ideal) x0 x1 = v
  generalize val_main_v49_0 (F := Ideal) x0 x1 = w
  pointwise
  by_cases h : w (ix6 0 n kv g r j) = v (ix6 0 n kv g r j)
  · rw [if_pos h, decide_eq_true h]
    show (((1 : ℕ) : ℝ) : EReal) = 1
    norm_num
  · rw [if_neg h, decide_eq_false h]
    show (((0 : ℕ) : ℝ) : EReal) = 0
    norm_num

theorem ev57 (n : Fin 64) (r : Fin 128) (kv : Fin 2) (g : Fin 4) :
    ∃ c : ℝ, c ≠ 0 ∧ val_main_v57 (F := Ideal) x0 x1 (ix5 0 n kv g r) = (c : EReal) := by
  obtain ⟨c, hc, e⟩ := Soft.count_real (by decide) (Soft.x (Sees n r) (sc (qf x0) (kf x1) n (hd kv g) r))
  refine ⟨c, hc, Eq.trans ?_ e⟩
  pointwise [val_main_v57, val_main_cst_11, Sums.reduce_last]
  exact Finset.sum_congr rfl fun j _ => ev56 x0 x1 n r kv g j

section
variable (h0 : ∀ i, Reals.IsReal (x0 i)) (h1 : ∀ i, Reals.IsReal (x1 i)) (h2 : ∀ i, Reals.IsReal (x2 i)) (h3 : ∀ i, Reals.IsReal (x3 i)) (h4 : ∀ i, Reals.IsReal (x4 i))
include h0 h1 h2 h3 h4

theorem ev121_zero (n : Fin 64) (r : Fin 128) (kv : Fin 2) (g : Fin 4) : val_main_v121 (F := Ideal) x0 x1 x2 x3 x4 (ix6 0 n kv g r 0) = 0 :=
  (ev121 x0 x1 x2 x3 x4 n r kv g).trans (Soft.flow_zero _ _ _ _ (sc_real _ _ (fun _ _ _ => h0 _) (fun _ _ _ => h1 _) _ _ _) (h3 _)
    (dP_real _ _ (fun _ _ _ => h4 _) (fun _ _ _ => h2 _) _ _ _))

theorem ev131 (n : Fin 64) (r : Fin 128) (kv : Fin 2) (g : Fin 4) (j : Fin 256) : val_main_v131 (F := Ideal) x0 x1 x2 x3 x4 (ix6 0 n kv g r j) = 0 := by
  obtain ⟨c, hc, e⟩ := ev57 x0 x1 n r kv g
  have z := ev121_zero x0 x1 x2 x3 x4 h0 h1 h2 h3 h4 n r kv g
  unfold val_main_v131 val_main_v130 val_main_v129 val_main_v128 val_main_v127 val_main_v126
  revert e z
  generalize val_main_v121 (F := Ideal) x0 x1 x2 x3 x4 = a
  generalize val_main_v57 (F := Ideal) x0 x1 = b
  generalize val_main_v56 (F := Ideal) x0 x1 = d
  generalize val_main_v69 (F := Ideal) x0 x1 x3 = w
  intro e z
  pointwise [val_main_cst_25, Sums.reduce_outer, z, e]
  rw [zero_mul, show Ideal.div 0 (c : EReal) = 0 by rw [← EReal.coe_zero, Reals.div_coe _ _ hc, zero_div], zero_mul]

theorem ev135 (n : Fin 64) (r : Fin 128) (kv : Fin 2) (g : Fin 4) (j : Fin 256) :
    val_main_v135 (F := Ideal) x0 x1 x2 x3 x4 (ix6 0 n kv g r j) = dS (qf x0) (kf x1) (kf x2) (sf x3) (of x4) n (hd kv g) r j := by
  have e : val_main_v132 (F := Ideal) x0 x1 x2 x3 x4 (ix6 0 n kv g r j) = dS (qf x0) (kf x1) (kf x2) (sf x3) (of x4) n (hd kv g) r j := by
    refine (congrArg₂ (· + ·) (ev117 x0 x1 x2 x3 x4 n r kv g j) (ev131 x0 x1 x2 x3 x4 h0 h1 h2 h3 h4 n r kv g j)).trans ((add_zero (M := EReal) _).trans ?_)
    exact Soft.ds_eq_dS _ _ _ _ (sc_real _ _ (fun _ _ _ => h0 _) (fun _ _ _ => h1 _) _ _ _) (h3 _) (dP_real _ _ (fun _ _ _ => h4 _) (fun _ _ _ => h2 _) _ _ _) j
  unfold val_main_v135
  revert e
  generalize val_main_v132 (F := Ideal) x0 x1 x2 x3 x4 = a
  intro e
  pointwise [val_main_v49_1, ev48, e, val_main_call1_v0, val_main_call1_cst]
  by_cases h : Sees n r j
  · rw [if_pos h]; rfl
  · rw [if_neg h]
    unfold dS Soft.dS Soft.p
    rw [if_neg h, zero_mul]
    rfl

theorem ev89' (n : Fin 64) (r : Fin 128) (kv : Fin 2) (g : Fin 4) (j : Fin 256) :
    val_main_v89 (F := Ideal) x0 x1 x3 (ix6 0 n kv g r j) = P (qf x0) (kf x1) (sf x3) n (hd kv g) r j :=
  (ev89 x0 x1 x3 n r kv g j).trans (Soft.div_eq_p _ _ _ (sc_real _ _ (fun _ _ _ => h0 _) (fun _ _ _ => h1 _) _ _ _) (h3 _) j)

theorem ev138 (n : Fin 64) (r : Fin 128) (kv : Fin 2) (g : Fin 4) (j : Fin 256) :
    val_main_v138 (F := Ideal) x0 x1 x2 x3 x4 (ix6 0 n kv j r g) = dS (qf x0) (kf x1) (kf x2) (sf x3) (of x4) n (hd kv g) r j * c8 := by
  have e := ev135 x0 x1 x2 x3 x4 h0 h1 h2 h3 h4 n r kv g j
  unfold val_main_v138 val_main_v137
  revert e
  generalize val_main_v135 (F := Ideal) x0 x1 x2 x3 x4 = a
  intro e
  pointwise [val_main_v136, val_main_cst_27, e, c8]

theorem res_dq (i : Fin 8192) (l : Fin 512) :
    val_main_v159 (F := Ideal) x0 x1 x2 x3 x4 (ix2 i l) = dq (qf x0) (kf x1) (kf x2) (sf x3) (of x4) ⟨i.val / 128, by omega⟩ ⟨i.val % 128, by omega⟩ ⟨l.val / 64, by omega⟩ ⟨l.val % 64, by omega⟩ := by
  have e := ev138 x0 x1 x2 x3 x4 h0 h1 h2 h3 h4
  unfold val_main_v159 val_main_v150 val_main_v140 val_main_v139
  revert e
  generalize val_main_v138 (F := Ideal) x0 x1 x2 x3 x4 = a
  intro e
  pointwise [e, ev13]
  rw [show hd ⟨l.val / 256, by omega⟩ ⟨l.val / 64 % 4, by omega⟩ = ⟨l.val / 64, by omega⟩ from Fin.ext (by simp only [hd]; omega)]
  unfold dq
  rw [show kvOf ⟨l.val / 64, by omega⟩ = ⟨l.val / 256, by omega⟩ from Fin.ext (by simp only [kvOf]; omega)]

theorem ev141 (n : Fin 64) (j : Fin 256) (kv : Fin 2) (d : Fin 64) :
    val_main_v142 (F := Ideal) x0 x1 x2 x3 x4 (ix5 0 n j kv d) = dkBand (qf x0) (kf x1) (kf x2) (sf x3) (of x4) n j kv d := by
  have e := ev138 x0 x1 x2 x3 x4 h0 h1 h2 h3 h4
  unfold val_main_v142 val_main_v141
  revert e
  generalize val_main_v138 (F := Ideal) x0 x1 x2 x3 x4 = a
  intro e
  pointwise [e, ev7, dkBand]

theorem ev100 (n : Fin 64) (j : Fin 256) (kv : Fin 2) (d : Fin 64) :
    val_main_v100 (F := Ideal) x0 x1 x3 x4 (ix5 0 n j kv d) = dvBand (qf x0) (kf x1) (sf x3) (of x4) n j kv d := by
  have e := ev89' x0 x1 x2 x3 x4 h0 h1 h2 h3 h4
  unfold val_main_v100 val_main_v99
  revert e
  generalize val_main_v89 (F := Ideal) x0 x1 x3 = a
  intro e
  pointwise [e, ev97, dvBand]

theorem res_dk (i : Fin 8192) (l : Fin 128) :
    val_main_v160 (F := Ideal) x0 x1 x2 x3 x4 (ix2 i l) = dk (qf x0) (kf x1) (kf x2) (sf x3) (of x4) ⟨i.val / 128, by omega⟩ ⟨i.val % 128, by omega⟩ ⟨l.val / 64, by omega⟩ ⟨l.val % 64, by omega⟩ := by
  have e := ev141 x0 x1 x2 x3 x4 h0 h1 h2 h3 h4
  unfold val_main_v160 val_main_v149 val_main_v148 val_main_v147 val_main_v146 val_main_v144 val_main_v143
  revert e
  generalize val_main_v142 (F := Ideal) x0 x1 x2 x3 x4 = a
  intro e
  pointwise [e, val_main_cst_28]
  exact unband_form (dkBand (qf x0) (kf x1) (kf x2) (sf x3) (of x4)) i l

theorem ev109 (n : Fin 64) (r : Fin 128) (kv : Fin 2) (g : Fin 4) :
    val_main_v109 (F := Ideal) x0 x1 x2 x3 x4 (ix6 0 n kv g r 0) = -leak (qf x0) (kf x1) (kf x2) (sf x3) (of x4) n (hd kv g) r := by
  pointwise [val_main_v109, ev106, ev86]
  exact Soft.sink_eq _ _ _ _ (sc_real _ _ (fun _ _ _ => h0 _) (fun _ _ _ => h1 _) _ _ _) (h3 _) (dP_real _ _ (fun _ _ _ => h4 _) (fun _ _ _ => h2 _) _ _ _)

theorem res_dv (i : Fin 8192) (l : Fin 128) :
    val_main_v161 (F := Ideal) x0 x1 x3 x4 (ix2 i l) = dv (qf x0) (kf x1) (sf x3) (of x4) ⟨i.val / 128, by omega⟩ ⟨i.val % 128, by omega⟩ ⟨l.val / 64, by omega⟩ ⟨l.val % 64, by omega⟩ := by
  have e := ev100 x0 x1 x2 x3 x4 h0 h1 h2 h3 h4
  unfold val_main_v161 val_main_v157 val_main_v156 val_main_v155 val_main_v154 val_main_v152 val_main_v151
  revert e
  generalize val_main_v100 (F := Ideal) x0 x1 x3 x4 = a
  intro e
  pointwise [e, val_main_cst_29]
  exact unband_form (dvBand (qf x0) (kf x1) (sf x3) (of x4)) i l

theorem res_dsink (l : Fin 8) :
    val_main_v158 (F := Ideal) x0 x1 x2 x3 x4 (ix2 0 l) = dsink (qf x0) (kf x1) (kf x2) (sf x3) (of x4) l := by
  have z := ev121_zero x0 x1 x2 x3 x4 h0 h1 h2 h3 h4
  unfold val_main_v158 val_main_v134 val_main_v133 val_main_v125 val_main_v124 val_main_v123 val_main_v122 val_main_v111 val_main_v110
  have e := ev109 x0 x1 x2 x3 x4 h0 h1 h2 h3 h4
  revert z e
  generalize val_main_v121 (F := Ideal) x0 x1 x2 x3 x4 = a
  generalize val_main_v78 (F := Ideal) x0 x1 x3 = w
  generalize val_main_v109 (F := Ideal) x0 x1 x2 x3 x4 = b
  intro z e
  pointwise [z, e, val_main_cst_21, val_main_cst_24, val_main_cst_26, Sums.reduce_frame, Sums.reduce_rows]
  rw [show hd ⟨l.val / 4, by omega⟩ ⟨l.val % 4, by omega⟩ = l from Fin.ext (by simp only [hd]; omega)]
  refine (congrArg (dsink (qf x0) (kf x1) (kf x2) (sf x3) (of x4) l + ·) ?_).trans (add_zero (M := EReal) _)
  exact Finset.sum_eq_zero fun _ _ => Finset.sum_eq_zero fun _ _ => zero_mul _

end

end

end Cert.AttnBwdRefIdeal.Read
end
-- ==== Proof.Attn.Host.lean ====
/- What the host prepares for the attention backward kernel: the scaled queries, the spread keys and values, the cotangent, and the
   log-sum-exp of every row from the same lines as the forward pass. -/
module

public import proofs.«01_k».proof.Proof.Attn.BlockS
public import proofs.«01_k».proof.Proof.Attn.Ref
public import Idealize.ShloMosaic.Lib.StableHlo.RunRead

@[expose] public section

set_option maxRecDepth 16384

noncomputable section

namespace Cert.AttnBwdIdeal.Host

open Cert.AttnBwdIdeal Cert.AttnBwdIdeal.Gen Idealize.ShloMosaic Idealize.ShloMosaic.TcCoe Idealize.SL.Sem
open Cert.AttnSpec (hd kvOf row sc)
open Cert.AttnBwdRefIdeal.Read (qf kf sf of near inside negInf max_at band_form)

variable (m : (ℓ : Loc nD τ sig) → Buf (Elt Ideal) ℓ) (c : Dev nD)

/-- The arguments as plain functions. -/
def Q : Fin 8192 → Fin 8 → Fin 64 → EReal := qf (m ((c : Thread nD τ).loc main_arg0))
def K : Fin 8192 → Fin 2 → Fin 64 → EReal := kf (m ((c : Thread nD τ).loc main_arg1))
def U : Fin 8192 → Fin 2 → Fin 64 → EReal := kf (m ((c : Thread nD τ).loc main_arg2))
def S : Fin 8 → EReal := sf (m ((c : Thread nD τ).loc main_arg3))
def O : Fin 8192 → Fin 8 → Fin 64 → EReal := of (m ((c : Thread nD τ).loc main_arg4))

/-! The host's arrays, at their types. -/
def W10 : FVec Ideal S1x64x2x4x128x256 .f32 := V m c main_v10
def W41 : IVec S1x64x1x1x128x256 1 := V m c main_v41
def W42 : FVec Ideal S1x64x2x4x128x256 .f32 := V m c main_v42
def W44 : FVec Ideal S1x1x2x4x1x1 .f32 := V m c main_v44
def W45 : FVec Ideal S1x64x2x4x128 .f32 := V m c main_v45
def W48 : FVec Ideal S1x64x2x4x128x1 .f32 := V m c main_v48
def W51 : FVec Ideal S1x64x2x4x128x256 .f32 := V m c main_v51
def W57 : FVec Ideal S1x64x2x4x128x1 .f32 := V m c main_v57
def W62 : FVec Ideal S8x8192 .f32 := V m c main_v62
def W67 : FVec Ideal S8192x512 .bf16 := V m c main_v67
def W78 : FVec Ideal S8192x512 .bf16 := V m c main_v78
def W89 : FVec Ideal S8192x512 .bf16 := V m c main_v89
def W91 : FVec Ideal S8192x512 .bf16 := V m c main_v91

theorem mask_at (n : Fin 64) (r : Fin 128) (j : Fin 256) : (W41 m c) (ix6 0 n 0 0 r j) = if Cert.AttnSpec.Sees n r j then 1#1 else 0#1 := by
  unfold W41 V
  after_reads_simp
  pointwise
  rw [near, inside]
  unfold Cert.AttnSpec.Sees
  by_cases a : r.val < j.val <;> by_cases b : j.val ≤ r.val + 128 <;> by_cases c : 128 ≤ 128 * n.val + j.val <;> simp [a, b, c, IntOp.andi]

theorem score_form (x0 : S1x8192x8x64.Idx → EReal) (x1 : S1x8192x2x64.Idx → EReal) (n : Fin 64) (kv : Fin 2) (g : Fin 4) (r : Fin 128) (j : Fin 256) :
    (∑ d : Fin 64, (if h : j.val < 128 then if h : n.val < 1 then 0 else x1 (ix4 0 ⟨(n.val - 1) * 128 + j.val, by omega⟩ kv d)
      else x1 (ix4 0 ⟨n.val * 128 + (j.val - 128), by omega⟩ kv d)) * x0 (ix4 0 ⟨n.val * 128 + r.val, by omega⟩ ⟨kv.val * 4 + g.val, by omega⟩ d)) * Ideal.ofBits FTy.f32 0x3E000000#32
      = sc (qf x0) (kf x1) n (hd kv g) r j := by
  unfold sc
  rw [Cert.AttnBwdRefIdeal.Read.kv_hd]
  refine congrArg (fun z : EReal => z * Ideal.ofBits FTy.f32 0x3E000000#32) (Finset.sum_congr rfl fun d _ => ?_)
  rw [band_form x1 n j kv d, show row n r = ⟨n.val * 128 + r.val, by omega⟩ from Fin.ext (by simp only [row]; omega), show hd kv g = ⟨kv.val * 4 + g.val, by omega⟩ from Fin.ext (by simp only [hd]; omega)]
  rfl

theorem score_at (n : Fin 64) (kv : Fin 2) (g : Fin 4) (r : Fin 128) (j : Fin 256) :
    (W10 m c) (ix6 0 n kv g r j) = sc (Q m c) (K m c) n (hd kv g) r j := by
  unfold W10 V
  after_reads_simp
  pointwise
  after_reads_simp
  pointwise
  exact score_form (m ((c : Thread nD τ).loc main_arg0)) (m ((c : Thread nD τ).loc main_arg1)) n kv g r j

theorem sink_at (kv : Fin 2) (g : Fin 4) : (W44 m c) (ix6 0 0 kv g 0 0) = S m c (hd kv g) := by
  unfold W44 V
  after_reads_simp
  pointwise
  exact congrArg (fun z => m ((c : Thread nD τ).loc main_arg3) (ix2 0 z)) (Fin.ext (by simp only [hd]; omega))

theorem v42_is : (W42 m c) = select (broadcastInDim S1x64x2x4x128x256 ![0, 1, 2, 3, 4, 5] bcast_S1x64x1x1x128x256_S1x64x2x4x128x256_0_1_2_3_4_5 (W41 m c)) (W10 m c)
    (broadcastInDim S1x64x2x4x128x256 ![] bcast_S_S1x64x2x4x128x256 (constant (F := Ideal) S_ .f32 0xFF800000#32 : FVec Ideal S_ .f32)) := by
  unfold W10 W41 W42 V
  after_reads_simp
  rfl

theorem v45_is : (W45 m c)
    = Host.reduce FloatOps.maximumf (W42 m c) (constant (F := Ideal) S_ .f32 0xFF800000#32 : FVec Ideal S_ .f32) reducesTo_S1x64x2x4x128x256_S1x64x2x4x128_d5 h_S_ := by
  unfold W42 W45 V
  after_reads_simp

theorem v48_is : (W48 m c)
    = maximumf (broadcastInDim S1x64x2x4x128x1 ![0, 1, 2, 3, 4] bcast_S1x64x2x4x128_S1x64x2x4x128x1_0_1_2_3_4 (W45 m c))
      (broadcastInDim S1x64x2x4x128x1 ![0, 1, 2, 3, 4, 5] bcast_S1x1x2x4x1x1_S1x64x2x4x128x1_0_1_2_3_4_5 (W44 m c)) := by
  unfold W44 W45 W48 V
  after_reads_simp

theorem v51_is : (W51 m c)
    = Host.exp (subf (W42 m c)
      (broadcastInDim S1x64x2x4x128x256 ![0, 1, 2, 3, 4, 5] bcast_S1x64x2x4x128x1_S1x64x2x4x128x256_0_1_2_3_4_5 (W48 m c))) := by
  unfold W42 W48 W51 V
  after_reads_simp

theorem v57_is : (W57 m c)
    = addf (broadcastInDim S1x64x2x4x128x1 ![0, 1, 2, 3, 4] bcast_S1x64x2x4x128_S1x64x2x4x128x1_0_1_2_3_4
        (Host.reduceAdd (W51 m c) (constant (F := Ideal) S_ .f32 0x00000000#32 : FVec Ideal S_ .f32) reducesTo_S1x64x2x4x128x256_S1x64x2x4x128_d5 h_S_))
      (Host.exp (subf (broadcastInDim S1x64x2x4x128x1 ![0, 1, 2, 3, 4, 5] bcast_S1x1x2x4x1x1_S1x64x2x4x128x1_0_1_2_3_4_5 (W44 m c)) (W48 m c))) := by
  unfold W44 W48 W51 W57 V
  after_reads_simp

theorem v62_is : (W62 m c)
    = shapeCast S8x8192 (transpose S2x4x64x128 [1, 2, 0, 3] (shapeCast S64x2x4x128 (addf (W48 m c) (Host.log (W57 m c)))
        shapeCasts_S1x64x2x4x128x1_S64x2x4x128) transposes_S64x2x4x128_S2x4x64x128_1_2_0_3) shapeCasts_S2x4x64x128_S8x8192 := by
  unfold W48 W57 W62 V
  after_reads_simp
  rfl

variable (n : Fin 64) (r : Fin 128) (kv : Fin 2) (g : Fin 4)

theorem x_at (j : Fin 256) : (W42 m c) (ix6 0 n kv g r j)
    = Soft.x (Cert.AttnSpec.Sees n r) (sc (Q m c) (K m c) n (hd kv g) r) j := by
  have e1 := mask_at m c n r j
  have e2 := score_at m c n kv g r j
  rw [v42_is]
  revert e1 e2
  generalize (W41 m c) = a
  generalize (W10 m c) = b
  intro e1 e2
  pointwise [e1, e2]
  unfold Soft.x
  by_cases h : Cert.AttnSpec.Sees n r j
  · simp [h, Scalar.select]
  · simp [h, Scalar.select]
    exact negInf

theorem top_at : (W45 m c) (ix5 0 n kv g r) = Soft.top (Cert.AttnSpec.Sees n r) (sc (Q m c) (K m c) n (hd kv g) r) := by
  have e := x_at m c n r kv g
  rw [v45_is]
  revert e
  generalize (W42 m c) = a
  intro e
  pointwise
  refine (Sums.fold_last _ _ _ 0 n kv g r).trans ?_
  rw [negInf]
  exact congrArg (Finset.univ.fold max ⊥) (funext fun j => e j)

theorem mx_at : (W48 m c) (ix6 0 n kv g r 0)
    = Soft.mx (Cert.AttnSpec.Sees n r) (sc (Q m c) (K m c) n (hd kv g) r) (S m c (hd kv g)) := by
  have e1 := top_at m c n r kv g
  have e2 := sink_at m c kv g
  rw [v48_is, max_at]
  revert e1 e2
  generalize (W45 m c) = a
  generalize (W44 m c) = b
  intro e1 e2
  rw [Soft.mx, ← e1, ← e2]
  pointwise

theorem e_at (j : Fin 256) : (W51 m c) (ix6 0 n kv g r j)
    = Soft.e (Cert.AttnSpec.Sees n r) (sc (Q m c) (K m c) n (hd kv g) r) (S m c (hd kv g)) j := by
  have e1 := x_at m c n r kv g j
  have e2 := mx_at m c n r kv g
  rw [v51_is]
  revert e1 e2
  generalize (W42 m c) = a
  generalize (W48 m c) = b
  intro e1 e2
  pointwise [e1, e2, Soft.e]

theorem Z_at : (W57 m c) (ix6 0 n kv g r 0)
    = Soft.Z (Cert.AttnSpec.Sees n r) (sc (Q m c) (K m c) n (hd kv g) r) (S m c (hd kv g)) := by
  have e1 := e_at m c n r kv g
  have e2 := mx_at m c n r kv g
  have e3 := sink_at m c kv g
  rw [v57_is]
  revert e1 e2 e3
  generalize (W51 m c) = a
  generalize (W48 m c) = b
  generalize (W44 m c) = d
  intro e1 e2 e3
  pointwise [e1, e2, e3, Sums.reduce_last, Soft.Z]

theorem v62_at (a b : FVec Ideal S1x64x2x4x128x1 .f32) (h : Fin 8) (i : Fin 8192) :
    shapeCast S8x8192 (transpose S2x4x64x128 [1, 2, 0, 3] (shapeCast S64x2x4x128 (addf a (Host.log b))
        shapeCasts_S1x64x2x4x128x1_S64x2x4x128) transposes_S64x2x4x128_S2x4x64x128_1_2_0_3) shapeCasts_S2x4x64x128_S8x8192 (ix2 h i)
      = a (ix6 0 ⟨i.val / 128, by omega⟩ ⟨h.val / 4, by omega⟩ ⟨h.val % 4, by omega⟩ ⟨i.val % 128, by omega⟩ 0)
        + Ideal.log (b (ix6 0 ⟨i.val / 128, by omega⟩ ⟨h.val / 4, by omega⟩ ⟨h.val % 4, by omega⟩ ⟨i.val % 128, by omega⟩ 0)) := by
  pointwise

/-- The log-sum-exp of a row. -/
theorem lse_at (h : Fin 8) (i : Fin 8192) : (W62 m c) (ix2 h i)
    = Soft.lse (Cert.AttnSpec.Sees ⟨i.val / 128, by omega⟩ ⟨i.val % 128, by omega⟩) (sc (Q m c) (K m c) ⟨i.val / 128, by omega⟩ h ⟨i.val % 128, by omega⟩) (S m c h) := by
  rw [v62_is, v62_at, mx_at, Z_at, show hd ⟨h.val / 4, by omega⟩ ⟨h.val % 4, by omega⟩ = h from Fin.ext (by simp only [hd]; omega), Soft.lse]

theorem q_at (i : Fin 8192) (l : Fin 512) : (W67 m c) (ix2 i l) = Q m c i ⟨l.val / 64, by omega⟩ ⟨l.val % 64, by omega⟩ * Chain.c8 := by
  unfold W67 V
  after_reads_simp
  pointwise
  rfl

theorem o_at (i : Fin 8192) (l : Fin 512) : (W91 m c) (ix2 i l) = O m c i ⟨l.val / 64, by omega⟩ ⟨l.val % 64, by omega⟩ := by
  unfold W91 V
  after_reads_simp
  pointwise
  exact congrArg (fun z => m ((c : Thread nD τ).loc main_arg4) (ix3 0 i z)) (Fin.ext (by simp only []; omega))

/-- The spread of a key head's rows over the lanes: the first half of 128 lanes holds them low, the second half high. -/
theorem spread_form (x : S1x8192x2x64.Idx → EReal) (i : Fin 8192) (l : Fin 512) :
    (if h : l.val < 64 then x (ix4 0 i 0 ⟨l.val, by omega⟩) else if h : l.val - 64 < 64 then 0 else if h : l.val - 64 - 64 < 64 then 0
      else if h : l.val - 64 - 64 - 64 < 64 then x (ix4 0 i 0 ⟨l.val - 64 - 64 - 64, by omega⟩)
      else if h : l.val - 64 - 64 - 64 - 64 < 64 then x (ix4 0 i 1 ⟨l.val - 64 - 64 - 64 - 64, by omega⟩)
      else if h : l.val - 64 - 64 - 64 - 64 - 64 < 64 then 0 else if h : l.val - 64 - 64 - 64 - 64 - 64 - 64 < 64 then 0
      else x (ix4 0 i 1 ⟨l.val - 64 - 64 - 64 - 64 - 64 - 64 - 64, by omega⟩))
    = if l.val % 128 / 64 = l.val / 128 % 2 then kf x i ⟨l.val / 256, by omega⟩ ⟨l.val % 64, by omega⟩ else 0 := by
  unfold kf
  have key : ∀ (a : Fin 2) (b : Fin 64), a.val = l.val / 256 → b.val = l.val % 64 → x (ix4 0 i a b) = x (ix4 0 i ⟨l.val / 256, by omega⟩ ⟨l.val % 64, by omega⟩) :=
    fun a b ha hb => congrArg₂ (fun a b => x (ix4 0 i a b)) (Fin.ext ha) (Fin.ext hb)
  have hl := l.isLt
  by_cases e : l.val % 128 / 64 = l.val / 128 % 2
  · rw [if_pos e]
    split_ifs
    all_goals first | omega | (refine key _ _ ?_ ?_ <;> simp <;> omega)
  · rw [if_neg e]
    split_ifs
    all_goals first | rfl | omega

theorem k_at (i : Fin 8192) (l : Fin 512) : (W78 m c) (ix2 i l) = if l.val % 128 / 64 = l.val / 128 % 2 then K m c i ⟨l.val / 256, by omega⟩ ⟨l.val % 64, by omega⟩ else 0 := by
  unfold W78 V
  after_reads_simp
  pointwise
  after_reads_simp
  pointwise
  exact spread_form (m ((c : Thread nD τ).loc main_arg1)) i l

theorem v_at (i : Fin 8192) (l : Fin 512) : (W89 m c) (ix2 i l) = if l.val % 128 / 64 = l.val / 128 % 2 then U m c i ⟨l.val / 256, by omega⟩ ⟨l.val % 64, by omega⟩ else 0 := by
  unfold W89 V
  after_reads_simp
  pointwise
  after_reads_simp
  pointwise
  exact spread_form (m ((c : Thread nD τ).loc main_arg2)) i l

end Cert.AttnBwdIdeal.Host
end
-- ==== Proof.Attn.Corr.lean ====
/- The blocks a grid point is given, and what one chain computes of them, in terms of the attention's arguments. -/
module

public import proofs.«01_k».proof.Proof.Attn.Host

@[expose] public section

set_option maxRecDepth 16384

noncomputable section

namespace Cert.AttnBwdIdeal.Host

open Cert.AttnBwdIdeal Cert.AttnBwdIdeal.Gen Cert.AttnBwdIdeal.Chain Cert.Reals Idealize.ShloMosaic Idealize.ShloMosaic.TcCoe Idealize.SL.Sem
open Cert.AttnSpec (hd kvOf row sc)

variable (m : (ℓ : Loc nD τ sig) → Buf (Elt Ideal) ℓ) (c : Dev nD) (t : Fin cfg0.N)

theorem t_lt : t.val < 8 := lt_of_lt_of_eq t.isLt Gen.N_0

/-- Row `p` of a grid point's tile (the tiles run backwards), the rows of the block before the tile, and a block's number. -/
def rowT (p : Fin 1024) : Fin 8192 := ⟨1024 * (7 - t.val) + p.val, by have := t_lt t; omega⟩
def rowP (p : Fin 128) : Fin 8192 := ⟨128 * (8 * (7 - t.val) - 1) + p.val, by have := t_lt t; omega⟩
def nb (b : Fin 8) : Fin 64 := ⟨8 * (7 - t.val) + b.val, by have := t_lt t; omega⟩

theorem index_rows : ∀ t : Fin cfg0.N, win0_0.index t = ![7 - t.val, 0] ∧ win0_1.index t = ![7 - t.val, 0] ∧ win0_2.index t = ![8 * (7 - t.val) - 1, 0]
    ∧ win0_3.index t = ![7 - t.val, 0] ∧ win0_4.index t = ![8 * (7 - t.val) - 1, 0] ∧ win0_5.index t = ![7 - t.val, 0] ∧ win0_6.index t = ![0, 7 - t.val]
    ∧ win0_7.index t = ![0, 0] ∧ win0_8.index t = ![7 - t.val, 0] ∧ win0_9.index t = ![7 - t.val, 0] ∧ win0_10.index t = ![7 - t.val, 0]
    ∧ win0_11.index t = ![0, 0] := by decide +kernel

theorem blk0 (p : Fin 1024) (l : Fin 512) : iblk m c 0 t (ix2 p l) = W67 m c (ix2 (rowT t p) l) := by
  unfold W67
  blk_ext [iblk, index_rows t, rowT]
theorem blk1 (p : Fin 1024) (l : Fin 512) : iblk m c 1 t (ix2 p l) = W78 m c (ix2 (rowT t p) l) := by
  unfold W78
  blk_ext [iblk, index_rows t, rowT]
theorem blk2 (p : Fin 128) (l : Fin 512) : iblk m c 2 t (ix2 p l) = W78 m c (ix2 (rowP t p) l) := by
  unfold W78
  blk_ext [iblk, index_rows t, rowP]
theorem blk3 (p : Fin 1024) (l : Fin 512) : iblk m c 3 t (ix2 p l) = W89 m c (ix2 (rowT t p) l) := by
  unfold W89
  blk_ext [iblk, index_rows t, rowT]
theorem blk4 (p : Fin 128) (l : Fin 512) : iblk m c 4 t (ix2 p l) = W89 m c (ix2 (rowP t p) l) := by
  unfold W89
  blk_ext [iblk, index_rows t, rowP]
theorem blk5 (p : Fin 1024) (l : Fin 512) : iblk m c 5 t (ix2 p l) = W91 m c (ix2 (rowT t p) l) := by
  unfold W91
  blk_ext [iblk, index_rows t, rowT]
theorem emb6 (h : Fin 8) (p : Fin 1024) : (((cfg0.win 6).blk t).view.emb (ix2 h p) : S8x8192.Idx) = ix2 h (rowT t p) := by
  blk_ext [index_rows t, rowT]
theorem blk6 (h : Fin 8) (p : Fin 1024) : iblk m c 6 t (ix2 h p) = W62 m c (ix2 h (rowT t p)) := by
  unfold iblk W62
  generalize V m c = f
  rw [View.read_apply, cast_eq]
  exact congrArg (f main_v62) (emb6 t h p)
theorem blk7 (h : Fin 8) : iblk m c 7 t (ix2 0 h) = S m c h := by
  unfold S Cert.AttnBwdRefIdeal.Read.sf
  blk_ext [iblk, V_main_arg3, index_rows t]

variable (b : Fin 8) (kv half : Fin 2) (q j : Fin 256)

/-- A query's row in its block. -/
def qr (q : Fin 256) : Fin 128 := ⟨q.val % 128, by omega⟩

theorem row_q : rowT t (qrow b q) = row (nb t b) (qr q) :=
  Fin.ext (by show 1024 * (7 - t.val) + (128 * b.val + q.val % 128) = 128 * (8 * (7 - t.val) + b.val) + q.val % 128; omega)

/-- The scaled query at a lane, and the cotangent. -/
theorem q_lane (l : Fin 128) : iblk m c 0 t (ix2 (qrow b q) (qlane kv q l))
    = Q m c (row (nb t b) (qr q)) (head kv ⟨l.val / 64, by omega⟩ q) ⟨l.val % 64, by omega⟩ * c8 := by
  rw [blk0, q_at, row_q]
  refine congrArg (fun z : EReal => z * c8) (congrArg₂ (Q m c (row (nb t b) (qr q))) (Fin.ext ?_) (Fin.ext ?_))
  · simp only [qlane, head]; omega
  · simp only [qlane]; omega
theorem o_lane (l : Fin 128) : iblk m c 5 t (ix2 (qrow b q) (qlane kv q l))
    = O m c (row (nb t b) (qr q)) (head kv ⟨l.val / 64, by omega⟩ q) ⟨l.val % 64, by omega⟩ := by
  rw [blk5, o_at, row_q]
  refine congrArg₂ (O m c (row (nb t b) (qr q))) (Fin.ext ?_) (Fin.ext ?_)
  · simp only [qlane, head]; omega
  · simp only [qlane]; omega

theorem sees_iff : Sees t b j q ↔ Cert.AttnSpec.Sees (nb t b) (qr q) j := by
  have := t_lt t
  unfold Sees Cert.AttnSpec.Sees
  show _ ↔ q.val % 128 < j.val ∧ j.val ≤ q.val % 128 + 128 ∧ 128 ≤ 128 * (8 * (7 - t.val) + b.val) + j.val
  constructor
  · rintro ⟨h1, h2, h3⟩
    refine ⟨h1, h2, ?_⟩
    by_cases hb : b.val = 0
    · by_cases ht : t.val = 7
      · have := h3 hb ht; omega
      · omega
    · omega
  · rintro ⟨h1, h2, h3⟩
    exact ⟨h1, h2, fun hb ht => by omega⟩

/-- A band's entry at a lane, inside the sequence. -/
theorem band_lane (f : Fin 8192 → Fin 2 → Fin 64 → EReal) (X : Vec Ideal S1024x512 .bf16) (P : Vec Ideal S128x512 .bf16)
    (hX : ∀ p l, X (ix2 p l) = if l.val % 128 / 64 = l.val / 128 % 2 then f (rowT t p) ⟨l.val / 256, by omega⟩ ⟨l.val % 64, by omega⟩ else 0)
    (hP : ∀ p l, P (ix2 p l) = if l.val % 128 / 64 = l.val / 128 % 2 then f (rowP t p) ⟨l.val / 256, by omega⟩ ⟨l.val % 64, by omega⟩ else 0)
    (h : 128 ≤ 128 * (nb t b).val + j.val) (l : Fin 128) :
    kz X P b kv half j l = if l.val / 64 = half.val then Cert.AttnSpec.band f (nb t b) j kv ⟨l.val % 64, by omega⟩ else 0 := by
  have ht := t_lt t
  have hn : (nb t b).val = 8 * (7 - t.val) + b.val := rfl
  have e1 : (klane kv half l).val % 128 / 64 = l.val / 64 := by simp only [klane]; omega
  have e2 : (klane kv half l).val / 128 % 2 = half.val := by simp only [klane]; omega
  have e3 : (⟨(klane kv half l).val / 256, by omega⟩ : Fin 2) = kv := Fin.ext (by simp only [klane]; omega)
  have e4 : (⟨(klane kv half l).val % 64, by omega⟩ : Fin 64) = ⟨l.val % 64, by omega⟩ := Fin.ext (by simp only [klane]; omega)
  unfold kz Cert.AttnSpec.band
  rw [dif_pos h]
  by_cases hb : 128 * b.val + j.val < 128
  · rw [dif_pos hb, hP, e1, e2, e3, e4]
    refine congrArg (fun z => if l.val / 64 = half.val then f z kv ⟨l.val % 64, by omega⟩ else 0) (Fin.ext ?_)
    show 128 * (8 * (7 - t.val) - 1) + (128 * b.val + j.val) = 128 * (8 * (7 - t.val) + b.val) + j.val - 128
    omega
  · rw [dif_neg hb, hX, e1, e2, e3, e4]
    refine congrArg (fun z => if l.val / 64 = half.val then f z kv ⟨l.val % 64, by omega⟩ else 0) (Fin.ext ?_)
    show 1024 * (7 - t.val) + (128 * b.val + j.val - 128) = 128 * (8 * (7 - t.val) + b.val) + j.val - 128
    omega

theorem k_lane (h : 128 ≤ 128 * (nb t b).val + j.val) (l : Fin 128) : kz (iblk m c 1 t) (iblk m c 2 t) b kv half j l
    = if l.val / 64 = half.val then Cert.AttnSpec.band (K m c) (nb t b) j kv ⟨l.val % 64, by omega⟩ else 0 :=
  band_lane t b kv half j (K m c) _ _ (fun p l => (blk1 m c t p l).trans (k_at m c _ l)) (fun p l => (blk2 m c t p l).trans (k_at m c _ l)) h l
theorem v_lane (h : 128 ≤ 128 * (nb t b).val + j.val) (l : Fin 128) : kz (iblk m c 3 t) (iblk m c 4 t) b kv half j l
    = if l.val / 64 = half.val then Cert.AttnSpec.band (U m c) (nb t b) j kv ⟨l.val % 64, by omega⟩ else 0 :=
  band_lane t b kv half j (U m c) _ _ (fun p l => (blk3 m c t p l).trans (v_at m c _ l)) (fun p l => (blk4 m c t p l).trans (v_at m c _ l)) h l

/-- A sum over 128 lanes of which one half is zero. -/
theorem sum_half (half : Fin 2) (f : Fin 64 → EReal) :
    ∑ l : Fin 128, (if l.val / 64 = half.val then f ⟨l.val % 64, by omega⟩ else 0) = ∑ d, f d := by
  have e : ∀ g : Fin (64 + 64) → EReal, ∑ l, g l = ∑ d : Fin 64, g (Fin.castAdd 64 d) + ∑ d : Fin 64, g (Fin.natAdd 64 d) := fun g => Fin.sum_univ_add g
  refine (e fun l => if l.val / 64 = half.val then f ⟨l.val % 64, by omega⟩ else 0).trans ?_
  have h0 : ∀ d : Fin 64, (Fin.castAdd 64 d).val / 64 = 0 := fun d => by show d.val / 64 = 0; omega
  have h1 : ∀ d : Fin 64, (Fin.natAdd 64 d).val / 64 = 1 := fun d => by show (64 + d.val) / 64 = 1; omega
  have m0 : ∀ d : Fin 64, (⟨(Fin.castAdd 64 d).val % 64, by omega⟩ : Fin 64) = d := fun d => Fin.ext (by show d.val % 64 = d.val; omega)
  have m1 : ∀ d : Fin 64, (⟨(Fin.natAdd 64 d).val % 64, by omega⟩ : Fin 64) = d := fun d => Fin.ext (by show (64 + d.val) % 64 = d.val; omega)
  simp only [h0, h1, m0, m1]
  match half with
  | ⟨0, _⟩ => simp
  | ⟨1, _⟩ => simp

section
variable (hq : ∀ i h d, IsReal (Q m c i h d)) (hk : ∀ i h d, IsReal (K m c i h d))

theorem kv_head : kvOf (head kv half q) = kv := Fin.ext (by simp only [kvOf, head]; omega)
theorem head_half (l : Fin 128) (h : l.val / 64 = half.val) : head kv ⟨l.val / 64, by omega⟩ q = head kv half q :=
  congrArg (fun z => head kv z q) (Fin.ext h)

include hq hk in
theorem sB_eq (h : 128 ≤ 128 * (nb t b).val + j.val) : sB (iblk m c 0 t) (iblk m c 1 t) (iblk m c 2 t) b kv half j q
    = sc (Q m c) (K m c) (nb t b) (head kv half q) (qr q) j := by
  unfold sB sc
  refine (Finset.sum_congr rfl fun l _ => ?_).trans ((sum_half half fun d => Cert.AttnSpec.band (K m c) (nb t b) j kv d * (Q m c (row (nb t b) (qr q)) (head kv half q) d * c8)).trans ?_)
  · rw [k_lane m c t b kv half j h l, q_lane]
    split_ifs with e
    · rw [head_half kv half q l e]
    · exact zero_mul _
  · rw [kv_head]
    choose k' hk' using Cert.AttnSpec.band_real (K m c) hk (nb t b) j kv
    choose q' hq' using hq (row (nb t b) (qr q)) (head kv half q)
    have hc : c8 = ((1 / 8 : ℝ) : EReal) := Cert.AttnSpec.c8_real
    rw [show Cert.AttnSpec.c8 = ((1 / 8 : ℝ) : EReal) from Cert.AttnSpec.c8_real]
    simp only [hk', hq', hc, ← EReal.coe_mul, coe_sum]
    rw [Finset.sum_mul]
    exact congrArg _ (Finset.sum_congr rfl fun d _ => by ring)

theorem dP_eq (h : 128 ≤ 128 * (nb t b).val + j.val) : sB (iblk m c 5 t) (iblk m c 3 t) (iblk m c 4 t) b kv half j q
    = Cert.AttnSpec.dP (U m c) (O m c) (nb t b) (head kv half q) (qr q) j := by
  unfold sB Cert.AttnSpec.dP
  refine (Finset.sum_congr rfl fun l _ => ?_).trans ((sum_half half fun d => O m c (row (nb t b) (qr q)) (head kv half q) d * Cert.AttnSpec.band (U m c) (nb t b) j kv d).trans ?_)
  · rw [v_lane m c t b kv half j h l, o_lane]
    split_ifs with e
    · rw [head_half kv half q l e]; exact mul_comm _ _
    · exact zero_mul _
  · rw [kv_head]

theorem lse_eq : lseB (iblk m c 6 t) b kv half q = Soft.lse (Cert.AttnSpec.Sees (nb t b) (qr q)) (sc (Q m c) (K m c) (nb t b) (head kv half q) (qr q)) (S m c (head kv half q)) := by
  unfold lseB
  rw [blk6, lse_at, row_q]
  have e1 : (⟨(row (nb t b) (qr q)).val / 128, by omega⟩ : Fin 64) = nb t b := Fin.ext (by simp only [row, qr]; omega)
  have e2 : (⟨(row (nb t b) (qr q)).val % 128, by omega⟩ : Fin 128) = qr q := Fin.ext (by simp only [row, qr]; omega)
  rw [e1, e2]

include hq hk in
theorem pB_eq : pB (iblk m c 0 t) (iblk m c 1 t) (iblk m c 2 t) (iblk m c 6 t) t b kv half j q
    = Cert.AttnSpec.P (Q m c) (K m c) (S m c) (nb t b) (head kv half q) (qr q) j := by
  unfold pB Cert.AttnSpec.P Soft.p
  by_cases h : Sees t b j q
  · have h' := (sees_iff t b q j).mp h
    rw [if_pos h, if_pos h', sB_eq m c t b kv half q j hq hk h'.2.2, lse_eq]
  · rw [if_neg h, if_neg (fun h' => h ((sees_iff t b q j).mpr h'))]

theorem P_out (n : Fin 64) (h : Fin 8) (r : Fin 128) (hn : ¬128 ≤ 128 * n.val + j.val) : Cert.AttnSpec.P (Q m c) (K m c) (S m c) n h r j = 0 :=
  if_neg fun h' => hn h'.2.2

include hq hk in
theorem dB_eq : dB (iblk m c 0 t) (iblk m c 1 t) (iblk m c 3 t) (iblk m c 2 t) (iblk m c 4 t) (iblk m c 5 t) (iblk m c 6 t) t b kv half q
    = Soft.D (Cert.AttnSpec.Sees (nb t b) (qr q)) (sc (Q m c) (K m c) (nb t b) (head kv half q) (qr q)) (Cert.AttnSpec.dP (U m c) (O m c) (nb t b) (head kv half q) (qr q)) (S m c (head kv half q)) := by
  unfold dB Soft.D
  refine Finset.sum_congr rfl fun j _ => ?_
  rw [pB_eq m c t b kv half q j hq hk]
  by_cases h : 128 ≤ 128 * (nb t b).val + j.val
  · rw [dP_eq m c t b kv half q j h]; rfl
  · rw [P_out m c j _ _ _ h, zero_mul]
    exact ((congrArg (fun z : EReal => z * _) (P_out m c j (nb t b) (head kv half q) (qr q) h)).trans (zero_mul _)).symm

include hq hk in
theorem dsB_eq : dsB (iblk m c 0 t) (iblk m c 1 t) (iblk m c 3 t) (iblk m c 2 t) (iblk m c 4 t) (iblk m c 5 t) (iblk m c 6 t) t b kv half j q
    = Cert.AttnSpec.dS (Q m c) (K m c) (U m c) (S m c) (O m c) (nb t b) (head kv half q) (qr q) j := by
  unfold dsB
  rw [pB_eq m c t b kv half q j hq hk, dB_eq m c t b kv half q hq hk]
  by_cases h : 128 ≤ 128 * (nb t b).val + j.val
  · rw [dP_eq m c t b kv half q j h]; rfl
  · rw [P_out m c j _ _ _ h, zero_mul]
    exact ((congrArg (fun z : EReal => z * _) (P_out m c j (nb t b) (head kv half q) (qr q) h)).trans (zero_mul _)).symm

theorem dS_out (n : Fin 64) (h : Fin 8) (r : Fin 128) (hn : ¬128 ≤ 128 * n.val + j.val) : Cert.AttnSpec.dS (Q m c) (K m c) (U m c) (S m c) (O m c) n h r j = 0 :=
  (congrArg (fun z : EReal => z * _) (P_out m c j n h r hn)).trans (zero_mul _)

include hq hk in
theorem leakB_eq : leakB (iblk m c 0 t) (iblk m c 1 t) (iblk m c 3 t) (iblk m c 2 t) (iblk m c 4 t) (iblk m c 5 t) (iblk m c 6 t) (iblk m c 7 t) t b kv half q
    = Cert.AttnSpec.leak (Q m c) (K m c) (U m c) (S m c) (O m c) (nb t b) (head kv half q) (qr q) := by
  unfold leakB
  rw [dB_eq m c t b kv half q hq hk, lse_eq, blk7]
  rfl

end

end Cert.AttnBwdIdeal.Host
end
-- ==== Proof.Attn.BlockQ.lean ====
/- The query gradient one grid point of the attention backward kernel writes, as a function of its input blocks. -/
module

public import proofs.«01_k».proof.Proof.Attn.Entry

@[expose] public section

set_option maxRecDepth 16384

noncomputable section

namespace Cert.AttnBwdIdeal.Block

open Cert.AttnBwdIdeal Cert.AttnBwdIdeal.Gen Cert.AttnBwdIdeal.Chain Idealize.ShloMosaic Idealize.ShloMosaic.TcCoe Idealize.SL.Sem
variable (m : (ℓ : Loc nD τ sig) → Buf (Elt Ideal) ℓ)

/-- The query gradient of a tile's row and lane. -/
def dqG (c : Dev nD) (t : Fin cfg0.N) (p : Fin 1024) (j : Fin 512) : EReal :=
  dqB (iblk m c 0 t) (iblk m c 1 t) (iblk m c 3 t) (iblk m c 2 t) (iblk m c 4 t) (iblk m c 5 t) (iblk m c 6 t) t
    ⟨p.val / 128, by omega⟩ ⟨j.val / 256, by omega⟩ (qcol ⟨j.val / 128 % 2, by omega⟩ ⟨p.val % 128, by omega⟩) ⟨j.val % 128, by omega⟩

theorem dq_at (c : Dev nD) (t : Fin cfg0.N) (p : Fin 1024) (j : Fin 512) (b : Fin 8) (kv s : Fin 2) (x : S128x128.Idx)
    (h0 : p.val = 128 * b.val + (x 0).val) (h1 : j.val = 256 * kv.val + 128 * s.val + (x 1).val) :
    dqPiece (iblk m c 0 t) (iblk m c 1 t) (iblk m c 3 t) (iblk m c 2 t) (iblk m c 4 t) (iblk m c 5 t) (iblk m c 6 t) (blockMask t b) b kv s x
      = dqG m c t p j := by
  obtain ⟨r, l, rfl⟩ : ∃ (r l : Fin 128), x = ix2 r l := ⟨x 0, x 1, eq_ix2 x⟩
  refine (dqPiece_apply _ _ _ _ _ _ _ t b kv s r l).trans ?_
  have h0' : p.val = 128 * b.val + r.val := h0
  have h1' : j.val = 256 * kv.val + 128 * s.val + l.val := h1
  have hr := r.isLt
  have hl := l.isLt
  have eb : (⟨p.val / 128, by omega⟩ : Fin 8) = b := Fin.ext (by simp only []; omega)
  have ek : (⟨j.val / 256, by omega⟩ : Fin 2) = kv := Fin.ext (by simp only []; omega)
  have es : (⟨j.val / 128 % 2, by omega⟩ : Fin 2) = s := Fin.ext (by simp only []; omega)
  have er : (⟨p.val % 128, by omega⟩ : Fin 128) = r := Fin.ext (by simp only []; omega)
  have el : (⟨j.val % 128, by omega⟩ : Fin 128) = l := Fin.ext (by simp only []; omega)
  rw [dqG, eb, ek, es, er, el]

set_option maxHeartbeats 4000000 in
theorem out8 (c : Dev nD) (t : Fin cfg0.N) (p : Fin 1024) (j : Fin 512) :
    (outsAt0 (F := Ideal) m c t.val t.isLt).1 (ix2 p j) = dqG m c t p j := by
  have k := dq_at m c t p j
  by_cases h : t.val % 8 = 0
  on_goal 1 => rw [Gen.outsAt0_A m c t h]
  on_goal 2 => rw [Gen.outsAt0_B m c t h]
  all_goals
    frame_open
    simp (disch := decide) only [↓ View.readCov_skip, ↓ View.readCov_cons_toLoadRect, ↓ View.readCov_fill]
    frame_out
    rw [Memref.IsWhole.read_unread]
    canon_tiles x hx
    exacts [k 7 1 1 x hx0 hx1, k 7 1 0 x hx0 hx1, k 7 0 1 x hx0 hx1, k 7 0 0 x hx0 (hx1.trans (Nat.zero_add _).symm),
      k 6 1 1 x hx0 hx1, k 6 1 0 x hx0 hx1, k 6 0 1 x hx0 hx1, k 6 0 0 x hx0 (hx1.trans (Nat.zero_add _).symm),
      k 5 1 1 x hx0 hx1, k 5 1 0 x hx0 hx1, k 5 0 1 x hx0 hx1, k 5 0 0 x hx0 (hx1.trans (Nat.zero_add _).symm),
      k 4 1 1 x hx0 hx1, k 4 1 0 x hx0 hx1, k 4 0 1 x hx0 hx1, k 4 0 0 x hx0 (hx1.trans (Nat.zero_add _).symm),
      k 3 1 1 x hx0 hx1, k 3 1 0 x hx0 hx1, k 3 0 1 x hx0 hx1, k 3 0 0 x hx0 (hx1.trans (Nat.zero_add _).symm),
      k 2 1 1 x hx0 hx1, k 2 1 0 x hx0 hx1, k 2 0 1 x hx0 hx1, k 2 0 0 x hx0 (hx1.trans (Nat.zero_add _).symm),
      k 1 1 1 x hx0 hx1, k 1 1 0 x hx0 hx1, k 1 0 1 x hx0 hx1, k 1 0 0 x hx0 (hx1.trans (Nat.zero_add _).symm),
      k 0 1 1 x (hx0.trans (Nat.zero_add _).symm) hx1, k 0 1 0 x (hx0.trans (Nat.zero_add _).symm) hx1, k 0 0 1 x (hx0.trans (Nat.zero_add _).symm) hx1, k 0 0 0 x (hx0.trans (Nat.zero_add _).symm) (hx1.trans (Nat.zero_add _).symm)]

end Cert.AttnBwdIdeal.Block
end
-- ==== Proof.Attn.BlockK.lean ====
/- The key gradient one grid point of the attention backward kernel writes and the one it carries on to the next. -/
module

public import proofs.«01_k».proof.Proof.Attn.Acc

@[expose] public section

set_option maxRecDepth 16384

noncomputable section

namespace Cert.AttnBwdIdeal.Block

open Cert.AttnBwdIdeal Cert.AttnBwdIdeal.Gen Cert.AttnBwdIdeal.Chain Idealize.ShloMosaic Idealize.ShloMosaic.TcCoe Idealize.SL.Sem
variable (m : (ℓ : Loc nD τ sig) → Buf (Elt Ideal) ℓ)

/-- The accumulator before the first block: zeros, and what the grid point before carried. -/
def baseOf (prev : Fin 128 → Fin 128 → EReal) (a : Fin 1152) (l : Fin 128) : EReal :=
  if h : 1024 ≤ a.val then prev ⟨a.val - 1024, by omega⟩ l else 0

/-- What is carried on is stored as it is. -/
theorem keep (x : Vec Ideal S128x128 .f32) : k0_pay1 (F := Ideal) x = x := by
  funext y
  obtain ⟨r, l, rfl⟩ : ∃ (r l : Fin 128), y = ix2 r l := ⟨y 0, y 1, eq_ix2 y⟩
  pointwise [k0_pay1]

/-- What the grid point before carried of the key gradient; nothing at the first. -/
def prevK (c : Dev nD) (t : Fin cfg0.N) (r l : Fin 128) : EReal :=
  if t.val % 8 = 0 then 0
  else (outsAt0 (F := Ideal) m c (t.val - 1) (Nat.lt_of_le_of_lt (Nat.sub_le _ _) t.isLt)).2.2.2.2.1 (ix2 r l)

/-- What a block adds to the key gradient's accumulator. -/
def incK (c : Dev nD) (t : Fin cfg0.N) (b : Fin 8) : Fin 256 → Fin 128 → EReal :=
  foldB (fun kv half => dkzB (iblk m c 0 t) (iblk m c 1 t) (iblk m c 3 t) (iblk m c 2 t) (iblk m c 4 t) (iblk m c 5 t) (iblk m c 6 t) t b kv half)

theorem incK_step (c : Dev nD) (t : Fin cfg0.N) (b : Fin 8) (old : Vec Ideal S256x128 .f32) (j : Fin 256) (l : Fin 128) :
    accStep old (dkSpread (iblk m c 0 t) (iblk m c 1 t) (iblk m c 3 t) (iblk m c 2 t) (iblk m c 4 t) (iblk m c 5 t) (iblk m c 6 t) (blockMask t b) b 0)
      (dkSpread (iblk m c 0 t) (iblk m c 1 t) (iblk m c 3 t) (iblk m c 2 t) (iblk m c 4 t) (iblk m c 5 t) (iblk m c 6 t) (blockMask t b) b 1) (ix2 j l)
      = old (ix2 j l) + incK m c t b j l :=
  accStep_apply _ old _ _ (dkSpread_apply _ _ _ _ _ _ _ t b 0) (dkSpread_apply _ _ _ _ _ _ _ t b 1) j l

theorem baseK_A (c : Dev nD) (t : Fin cfg0.N) (h : t.val % 8 = 0) (r l : Fin 128) :
    k0_pay8 (F := Ideal) (k0_pay3 (F := Ideal)) (ix2 r l) = baseOf (prevK m c t) ⟨1024 + r.val, by omega⟩ l := by
  rw [baseOf, dif_pos (by simp only []; omega), prevK, if_pos h]
  pointwise [k0_pay8, k0_pay3]

theorem baseK_B (c : Dev nD) (t : Fin cfg0.N) (h : ¬t.val % 8 = 0) (r l : Fin 128) :
    k0_pay8 (F := Ideal) (View.read (Elt Ideal) (View.whole cc0_scratch2) ((Memref.isWhole_whole cc0_scratch2).unread
      (outsAt0 (F := Ideal) m c (t.val - 1) (Nat.lt_of_le_of_lt (Nat.sub_le _ _) t.isLt)).2.2.2.2.1)) (ix2 r l) = baseOf (prevK m c t) ⟨1024 + r.val, by omega⟩ l := by
  rw [baseOf, dif_pos (by simp only []; omega), prevK, if_neg h, read_unread_whole]
  pointwise [k0_pay8]

theorem zeroK (c : Dev nD) (t : Fin cfg0.N) (r : Fin 1024) (l : Fin 128) : k0_pay6 (F := Ideal) (ix2 r l) = baseOf (prevK m c t) ⟨r.val, by omega⟩ l := by
  rw [baseOf, dif_neg (by simp only []; omega)]
  pointwise [k0_pay6]

set_option maxHeartbeats 4000000 in
theorem out9 (c : Dev nD) (t : Fin cfg0.N) (p : Fin 1024) (l : Fin 128) :
    (outsAt0 (F := Ideal) m c t.val t.isLt).2.1 (ix2 p l) = accK (baseOf (prevK m c t)) (incK m c t) 8 ⟨128 + p.val, by omega⟩ l := by
  by_cases h : t.val % 8 = 0
  on_goal 1 => rw [Gen.outsAt0_A m c t h]
  on_goal 2 => rw [Gen.outsAt0_B m c t h]
  all_goals
    frame_open
    simp (disch := decide) only [↓ View.readCov_skip, ↓ View.readCov_cons_toLoadRect, ↓ View.readCov_fill]
    frame_out
    rw [Memref.IsWhole.read_unread]
    refine (congrFun (View.readCov_eq_canon' _ _ _) _).trans ?_
    refine Eq.trans (congrArg (View.canon _) (?_ : _ = ix2 (⟨128 + p.val, by omega⟩ : Fin 1152) l)) ?_
    · funext i
      match i with
      | 0 => exact Fin.ext (show 128 + 1 * p.val = 128 + p.val by omega)
      | 1 => exact Fin.ext (show 0 + 1 * l.val = l.val by omega)
    refine acc_step _ _ _ 7 (by decide) 896 rfl _ _ _ ?_ (incK_step m c t 7 _) _ _
    refine acc_step _ _ _ 6 (by decide) 768 rfl _ _ _ ?_ (incK_step m c t 6 _)
    refine acc_step _ _ _ 5 (by decide) 640 rfl _ _ _ ?_ (incK_step m c t 5 _)
    refine acc_step _ _ _ 4 (by decide) 512 rfl _ _ _ ?_ (incK_step m c t 4 _)
    refine acc_step _ _ _ 3 (by decide) 384 rfl _ _ _ ?_ (incK_step m c t 3 _)
    refine acc_step _ _ _ 2 (by decide) 256 rfl _ _ _ ?_ (incK_step m c t 2 _)
    refine acc_step _ _ _ 1 (by decide) 128 rfl _ _ _ ?_ (incK_step m c t 1 _)
    refine acc_step0 _ _ _ _ _ _ _ _ ?_ (incK_step m c t 0 _)
  · exact acc_base _ _ _ _ _ _ _ (baseK_A m c t h) (zeroK m c t)
  · exact acc_base _ _ _ _ _ _ _ (baseK_B m c t h) (zeroK m c t)

set_option maxHeartbeats 4000000 in
/-- What the grid point carries on: the first half of its first band. -/
theorem carryK (c : Dev nD) (t : Fin cfg0.N) (r l : Fin 128) :
    (outsAt0 (F := Ideal) m c t.val t.isLt).2.2.2.2.1 (ix2 r l) = incK m c t 0 ⟨r.val, by omega⟩ l := by
  refine Eq.trans ?_ ((accK_hit (baseOf (prevK m c t)) (incK m c t) 0 (by decide) ⟨r.val, by omega⟩ ⟨r.val, by omega⟩ (by simp only []; omega) l).trans ?_)
  · by_cases h : t.val % 8 = 0
    on_goal 1 => rw [Gen.outsAt0_A m c t h]
    on_goal 2 => rw [Gen.outsAt0_B m c t h]
    all_goals
      frame_open
      simp (disch := decide) only [↓ View.readCov_skip, ↓ View.readCov_cons_toLoadRect, ↓ View.readCov_fill]
      frame_out
      rw [Memref.IsWhole.read_unread]
      refine (congrFun (keep _) _).trans ?_
      refine (congrFun (View.readCov_eq_canon' _ _ _) _).trans ?_
      refine Eq.trans (congrArg (View.canon _) (?_ : _ = ix2 (⟨r.val, by omega⟩ : Fin 1152) l)) ?_
      · funext i
        match i with
        | 0 => exact Fin.ext (show 0 + 1 * r.val = r.val by omega)
        | 1 => exact Fin.ext (show 0 + 1 * l.val = l.val by omega)
      refine acc_step0 _ _ _ _ _ _ _ _ ?_ (incK_step m c t 0 _) _ _
    · exact acc_base _ _ _ _ _ _ _ (baseK_A m c t h) (zeroK m c t)
    · exact acc_base _ _ _ _ _ _ _ (baseK_B m c t h) (zeroK m c t)
  · rw [accK, baseOf, dif_neg (by simp only []; omega)]
    exact zero_add (M := EReal) _

end Cert.AttnBwdIdeal.Block
end
-- ==== Proof.Attn.BlockV.lean ====
/- The value gradient one grid point of the attention backward kernel writes and the one it carries on to the next. -/
module

public import proofs.«01_k».proof.Proof.Attn.BlockK

@[expose] public section

set_option maxRecDepth 16384

noncomputable section

namespace Cert.AttnBwdIdeal.Block

open Cert.AttnBwdIdeal Cert.AttnBwdIdeal.Gen Cert.AttnBwdIdeal.Chain Idealize.ShloMosaic Idealize.ShloMosaic.TcCoe Idealize.SL.Sem
variable (m : (ℓ : Loc nD τ sig) → Buf (Elt Ideal) ℓ)

/-- What is carried on is stored as it is. -/
theorem keepV (x : Vec Ideal S128x128 .f32) : k0_pay2 (F := Ideal) x = x := by
  funext y
  obtain ⟨r, l, rfl⟩ : ∃ (r l : Fin 128), y = ix2 r l := ⟨y 0, y 1, eq_ix2 y⟩
  pointwise [k0_pay2]

/-- What the grid point before carried of the value gradient; nothing at the first. -/
def prevV (c : Dev nD) (t : Fin cfg0.N) (r l : Fin 128) : EReal :=
  if t.val % 8 = 0 then 0
  else (outsAt0 (F := Ideal) m c (t.val - 1) (Nat.lt_of_le_of_lt (Nat.sub_le _ _) t.isLt)).2.2.2.2.2 (ix2 r l)

/-- What a block adds to the value gradient's accumulator. -/
def incV (c : Dev nD) (t : Fin cfg0.N) (b : Fin 8) : Fin 256 → Fin 128 → EReal :=
  foldB (fun kv half => dvzB (iblk m c 0 t) (iblk m c 1 t) (iblk m c 2 t) (iblk m c 5 t) (iblk m c 6 t) t b kv half)

theorem incV_step (c : Dev nD) (t : Fin cfg0.N) (b : Fin 8) (old : Vec Ideal S256x128 .f32) (j : Fin 256) (l : Fin 128) :
    accStep old (dvSpread (iblk m c 0 t) (iblk m c 1 t) (iblk m c 2 t) (iblk m c 5 t) (iblk m c 6 t) (blockMask t b) b 0)
      (dvSpread (iblk m c 0 t) (iblk m c 1 t) (iblk m c 2 t) (iblk m c 5 t) (iblk m c 6 t) (blockMask t b) b 1) (ix2 j l)
      = old (ix2 j l) + incV m c t b j l :=
  accStep_apply _ old _ _ (dvSpread_apply _ _ _ _ _ t b 0) (dvSpread_apply _ _ _ _ _ t b 1) j l

theorem baseV_A (c : Dev nD) (t : Fin cfg0.N) (h : t.val % 8 = 0) (r l : Fin 128) :
    k0_pay9 (F := Ideal) (k0_pay4 (F := Ideal)) (ix2 r l) = baseOf (prevV m c t) ⟨1024 + r.val, by omega⟩ l := by
  rw [baseOf, dif_pos (by simp only []; omega), prevV, if_pos h]
  pointwise [k0_pay9, k0_pay4]

theorem baseV_B (c : Dev nD) (t : Fin cfg0.N) (h : ¬t.val % 8 = 0) (r l : Fin 128) :
    k0_pay9 (F := Ideal) (View.read (Elt Ideal) (View.whole cc0_scratch3) ((Memref.isWhole_whole cc0_scratch3).unread
      (outsAt0 (F := Ideal) m c (t.val - 1) (Nat.lt_of_le_of_lt (Nat.sub_le _ _) t.isLt)).2.2.2.2.2)) (ix2 r l) = baseOf (prevV m c t) ⟨1024 + r.val, by omega⟩ l := by
  rw [baseOf, dif_pos (by simp only []; omega), prevV, if_neg h, read_unread_whole]
  pointwise [k0_pay9]

theorem zeroV (c : Dev nD) (t : Fin cfg0.N) (r : Fin 1024) (l : Fin 128) : k0_pay7 (F := Ideal) (ix2 r l) = baseOf (prevV m c t) ⟨r.val, by omega⟩ l := by
  rw [baseOf, dif_neg (by simp only []; omega)]
  pointwise [k0_pay7]

set_option maxHeartbeats 4000000 in
theorem out10 (c : Dev nD) (t : Fin cfg0.N) (p : Fin 1024) (l : Fin 128) :
    (outsAt0 (F := Ideal) m c t.val t.isLt).2.2.1 (ix2 p l) = accK (baseOf (prevV m c t)) (incV m c t) 8 ⟨128 + p.val, by omega⟩ l := by
  by_cases h : t.val % 8 = 0
  on_goal 1 => rw [Gen.outsAt0_A m c t h]
  on_goal 2 => rw [Gen.outsAt0_B m c t h]
  all_goals
    frame_open
    simp (disch := decide) only [↓ View.readCov_skip, ↓ View.readCov_cons_toLoadRect, ↓ View.readCov_fill]
    frame_out
    rw [Memref.IsWhole.read_unread]
    refine (congrFun (View.readCov_eq_canon' _ _ _) _).trans ?_
    refine Eq.trans (congrArg (View.canon _) (?_ : _ = ix2 (⟨128 + p.val, by omega⟩ : Fin 1152) l)) ?_
    · funext i
      match i with
      | 0 => exact Fin.ext (show 128 + 1 * p.val = 128 + p.val by omega)
      | 1 => exact Fin.ext (show 0 + 1 * l.val = l.val by omega)
    refine acc_step _ _ _ 7 (by decide) 896 rfl _ _ _ ?_ (incV_step m c t 7 _) _ _
    refine acc_step _ _ _ 6 (by decide) 768 rfl _ _ _ ?_ (incV_step m c t 6 _)
    refine acc_step _ _ _ 5 (by decide) 640 rfl _ _ _ ?_ (incV_step m c t 5 _)
    refine acc_step _ _ _ 4 (by decide) 512 rfl _ _ _ ?_ (incV_step m c t 4 _)
    refine acc_step _ _ _ 3 (by decide) 384 rfl _ _ _ ?_ (incV_step m c t 3 _)
    refine acc_step _ _ _ 2 (by decide) 256 rfl _ _ _ ?_ (incV_step m c t 2 _)
    refine acc_step _ _ _ 1 (by decide) 128 rfl _ _ _ ?_ (incV_step m c t 1 _)
    refine acc_step0 _ _ _ _ _ _ _ _ ?_ (incV_step m c t 0 _)
  · exact acc_base _ _ _ _ _ _ _ (baseV_A m c t h) (zeroV m c t)
  · exact acc_base _ _ _ _ _ _ _ (baseV_B m c t h) (zeroV m c t)

set_option maxHeartbeats 4000000 in
/-- What the grid point carries on: the first half of its first band. -/
theorem carryV (c : Dev nD) (t : Fin cfg0.N) (r l : Fin 128) :
    (outsAt0 (F := Ideal) m c t.val t.isLt).2.2.2.2.2 (ix2 r l) = incV m c t 0 ⟨r.val, by omega⟩ l := by
  refine Eq.trans ?_ ((accK_hit (baseOf (prevV m c t)) (incV m c t) 0 (by decide) ⟨r.val, by omega⟩ ⟨r.val, by omega⟩ (by simp only []; omega) l).trans ?_)
  · by_cases h : t.val % 8 = 0
    on_goal 1 => rw [Gen.outsAt0_A m c t h]
    on_goal 2 => rw [Gen.outsAt0_B m c t h]
    all_goals
      frame_open
      simp (disch := decide) only [↓ View.readCov_skip, ↓ View.readCov_cons_toLoadRect, ↓ View.readCov_fill]
      frame_out
      rw [Memref.IsWhole.read_unread]
      refine (congrFun (keepV _) _).trans ?_
      refine (congrFun (View.readCov_eq_canon' _ _ _) _).trans ?_
      refine Eq.trans (congrArg (View.canon _) (?_ : _ = ix2 (⟨r.val, by omega⟩ : Fin 1152) l)) ?_
      · funext i
        match i with
        | 0 => exact Fin.ext (show 0 + 1 * r.val = r.val by omega)
        | 1 => exact Fin.ext (show 0 + 1 * l.val = l.val by omega)
      refine acc_step0 _ _ _ _ _ _ _ _ ?_ (incV_step m c t 0 _) _ _
    · exact acc_base _ _ _ _ _ _ _ (baseV_A m c t h) (zeroV m c t)
    · exact acc_base _ _ _ _ _ _ _ (baseV_B m c t h) (zeroV m c t)
  · rw [accK, baseOf, dif_neg (by simp only []; omega)]
    exact zero_add (M := EReal) _

end Cert.AttnBwdIdeal.Block
end
-- ==== Proof.Attn.Grad.lean ====
/- What a grid point writes, as the attention's gradients. -/
module

public import proofs.«01_k».proof.Proof.Attn.Corr
public import proofs.«01_k».proof.Proof.Attn.BlockQ
public import proofs.«01_k».proof.Proof.Attn.BlockK
public import proofs.«01_k».proof.Proof.Attn.BlockV

@[expose] public section

set_option maxRecDepth 16384

noncomputable section

namespace Cert.AttnBwdIdeal.Host

open Cert.AttnBwdIdeal Cert.AttnBwdIdeal.Gen Cert.AttnBwdIdeal.Chain Cert.AttnBwdIdeal.Block Cert.Reals Idealize.ShloMosaic Idealize.ShloMosaic.TcCoe Idealize.SL.Sem
open Cert.AttnSpec (hd kvOf row sc)

variable (m : (ℓ : Loc nD τ sig) → Buf (Elt Ideal) ℓ) (c : Dev nD) (t : Fin cfg0.N)

/-- The block after a tile. -/
def nxt (t : Fin cfg0.N) : Fin 64 := ⟨(8 * (7 - t.val) + 8) % 64, by omega⟩

/-- A sum over a chain's two halves and its queries is one over the rows and the heads of the group. -/
theorem sum_heads (kv : Fin 2) (F : Fin 8 → Fin 128 → EReal) :
    ∑ half : Fin 2, ∑ q : Fin 256, F (head kv half q) (qr q) = ∑ r, ∑ g, F (hd kv g) r := by
  have e : ∀ g : Fin (128 + 128) → EReal, ∑ l, g l = ∑ d : Fin 128, g (Fin.castAdd 128 d) + ∑ d : Fin 128, g (Fin.natAdd 128 d) := fun g => Fin.sum_univ_add g
  have e' : ∀ half : Fin 2, ∑ q : Fin 256, F (head kv half q) (qr q) = ∑ r, F (hd kv ⟨half.val, by omega⟩) r + ∑ r, F (hd kv ⟨half.val + 2, by omega⟩) r := fun half => by
    refine (e fun q => F (head kv half q) (qr q)).trans (congrArg₂ (fun x y : EReal => x + y) (Finset.sum_congr rfl fun r _ => ?_) (Finset.sum_congr rfl fun r _ => ?_))
    · exact congrArg₂ F (Fin.ext (by show 4 * kv.val + half.val + 2 * (r.val / 128) = 4 * kv.val + half.val; omega)) (Fin.ext (by show r.val % 128 = r.val; omega))
    · exact congrArg₂ F (Fin.ext (by show 4 * kv.val + half.val + 2 * ((128 + r.val) / 128) = 4 * kv.val + (half.val + 2); omega)) (Fin.ext (by show (128 + r.val) % 128 = r.val; omega))
  rw [Fin.sum_univ_two, e', e']
  simp only [Fin.sum_univ_four, Finset.sum_add_distrib]
  show ∑ r, F (hd kv 0) r + ∑ r, F (hd kv 2) r + (∑ r, F (hd kv 1) r + ∑ r, F (hd kv 3) r) = _
  abel

section
variable (hq : ∀ i h d, IsReal (Q m c i h d)) (hk : ∀ i h d, IsReal (K m c i h d)) (hu : ∀ i h d, IsReal (U m c i h d)) (ho : ∀ i h d, IsReal (O m c i h d))

theorem half_form (S : Fin 2 → Fin 256 → EReal) (B : Fin 256 → EReal) (h0 : Fin 2) (a : EReal) (ha : IsReal a) (hS : ∀ h j, IsReal (S h j)) (hB : ∀ j, IsReal (B j)) :
    (∑ half : Fin 2, ∑ j, S half j * (if h0.val = half.val then B j else 0)) * a = ∑ j, S h0 j * a * B j := by
  have e : ∑ half : Fin 2, ∑ j, S half j * (if h0.val = half.val then B j else 0) = ∑ j, S h0 j * B j := by
    refine (Finset.sum_eq_single h0 (fun h _ hn => Finset.sum_eq_zero fun j _ => ?_) (fun h => absurd (Finset.mem_univ _) h)).trans (Finset.sum_congr rfl fun j _ => ?_)
    · rw [if_neg (fun e => hn (Fin.ext e.symm)), mul_zero]
    · rw [if_pos rfl]
  rw [e]
  choose s hs using hS h0
  choose b hb using hB
  obtain ⟨a, rfl⟩ := ha
  simp only [hs, hb, ← EReal.coe_mul, coe_sum]
  rw [Finset.sum_mul]
  exact congrArg _ (Finset.sum_congr rfl fun j _ => by ring)

variable (hs' : ∀ h, IsReal (S m c h))

include hs' hq hk hu ho in
theorem dS_real (n : Fin 64) (h : Fin 8) (r : Fin 128) (j : Fin 256) : IsReal (Cert.AttnSpec.dS (Q m c) (K m c) (U m c) (S m c) (O m c) n h r j) :=
  Soft.dS_real _ _ _ _ (Cert.AttnSpec.sc_real _ _ hq hk _ _ _) (hs' h) (Cert.AttnSpec.dP_real _ _ ho hu _ _ _) j

include hs' hq hk hu ho in
theorem dqB_eq (b : Fin 8) (kv : Fin 2) (q : Fin 256) (l : Fin 128) :
    dqB (iblk m c 0 t) (iblk m c 1 t) (iblk m c 3 t) (iblk m c 2 t) (iblk m c 4 t) (iblk m c 5 t) (iblk m c 6 t) t b kv q l
      = Cert.AttnSpec.dq (Q m c) (K m c) (U m c) (S m c) (O m c) (nb t b) (qr q) (head kv ⟨l.val / 64, by omega⟩ q) ⟨l.val % 64, by omega⟩ := by
  have hs : ∀ (half : Fin 2) (j : Fin 256), dsB (iblk m c 0 t) (iblk m c 1 t) (iblk m c 3 t) (iblk m c 2 t) (iblk m c 4 t) (iblk m c 5 t) (iblk m c 6 t) t b kv half j q
        * kz (iblk m c 1 t) (iblk m c 2 t) b kv half j l
      = Cert.AttnSpec.dS (Q m c) (K m c) (U m c) (S m c) (O m c) (nb t b) (head kv half q) (qr q) j
        * (if l.val / 64 = half.val then Cert.AttnSpec.band (K m c) (nb t b) j kv ⟨l.val % 64, by omega⟩ else 0) := fun half j => by
    rw [dsB_eq m c t b kv half q j hq hk]
    by_cases h : 128 ≤ 128 * (nb t b).val + j.val
    · rw [k_lane m c t b kv half j h l]
    · rw [dS_out m c j _ _ _ h, zero_mul, zero_mul]
  unfold dqB
  simp only [hs]
  refine (half_form
    (fun half j => Cert.AttnSpec.dS (Q m c) (K m c) (U m c) (S m c) (O m c) (nb t b) (head kv half q) (qr q) j)
    (fun j => Cert.AttnSpec.band (K m c) (nb t b) j kv ⟨l.val % 64, by omega⟩) ⟨l.val / 64, by omega⟩ c8 ⟨_, Cert.AttnSpec.c8_real⟩
    (fun h j => dS_real m c hq hk hu ho hs' _ _ _ j)
    (fun j => Cert.AttnSpec.band_real _ hk _ _ _ _)).trans ?_
  unfold Cert.AttnSpec.dq
  rw [kv_head]
  rfl

theorem swap_last (a b c : EReal) : a * (b * c) = a * c * b := by rw [mul_comm b c, mul_assoc]

include hq hk in
theorem incK_eq (b : Fin 8) (j : Fin 256) (l : Fin 128) : incK m c t b j l
    = Cert.AttnSpec.dkBand (Q m c) (K m c) (U m c) (S m c) (O m c) (nb t b) j ⟨l.val / 64, by omega⟩ ⟨l.val % 64, by omega⟩ := by
  unfold incK foldB dkzB Cert.AttnSpec.dkBand
  refine Eq.trans (Finset.sum_congr rfl fun half _ => Finset.sum_congr rfl fun q _ => ?_) (sum_heads ⟨l.val / 64, by omega⟩
    fun h r => Cert.AttnSpec.dS (Q m c) (K m c) (U m c) (S m c) (O m c) (nb t b) h r j * Cert.AttnSpec.c8 * Q m c (row (nb t b) r) h ⟨l.val % 64, by omega⟩)
  rw [dsB_eq m c t b _ half q j hq hk, q_lane]
  have e1 : (⟨(64 * half.val + l.val % 64) / 64, by omega⟩ : Fin 2) = half := Fin.ext (by simp only []; omega)
  have e2 : (⟨(64 * half.val + l.val % 64) % 64, by omega⟩ : Fin 64) = ⟨l.val % 64, by omega⟩ := Fin.ext (by simp only []; omega)
  simp only [e1, e2]
  exact swap_last _ _ _

include hq hk in
theorem incV_eq (b : Fin 8) (j : Fin 256) (l : Fin 128) : incV m c t b j l
    = Cert.AttnSpec.dvBand (Q m c) (K m c) (S m c) (O m c) (nb t b) j ⟨l.val / 64, by omega⟩ ⟨l.val % 64, by omega⟩ := by
  unfold incV foldB dvzB Cert.AttnSpec.dvBand
  refine Eq.trans (Finset.sum_congr rfl fun half _ => Finset.sum_congr rfl fun q _ => ?_) ((sum_heads ⟨l.val / 64, by omega⟩
    fun h r => O m c (row (nb t b) r) h ⟨l.val % 64, by omega⟩ * Cert.AttnSpec.P (Q m c) (K m c) (S m c) (nb t b) h r j).trans Finset.sum_comm)
  rw [pB_eq m c t b _ half q j hq hk, o_lane]
  have e1 : (⟨(64 * half.val + l.val % 64) / 64, by omega⟩ : Fin 2) = half := Fin.ext (by simp only []; omega)
  have e2 : (⟨(64 * half.val + l.val % 64) % 64, by omega⟩ : Fin 64) = ⟨l.val % 64, by omega⟩ := Fin.ext (by simp only []; omega)
  simp only [e1, e2]
  exact mul_comm _ _

include hq hk in
theorem incS_eq (kv half s : Fin 2) (b : Fin 8) : incS m c t kv half s b
    = ∑ r, Cert.AttnSpec.leak (Q m c) (K m c) (U m c) (S m c) (O m c) (nb t b) ⟨4 * kv.val + half.val + 2 * s.val, by omega⟩ r := by
  unfold incS
  refine Finset.sum_congr rfl fun r _ => ?_
  rw [leakB_eq m c t b kv half _ hq hk]
  have e1 : head kv half (qcol s r) = ⟨4 * kv.val + half.val + 2 * s.val, by omega⟩ := Fin.ext (by simp only [head, qcol]; omega)
  have e2 : qr (qcol s r) = r := Fin.ext (by simp only [qr, qcol]; omega)
  rw [e1, e2]

end

/-- A tile's rows: the blocks' own parts, each with what the block after adds to it; the last block's is carried from the tile before. -/
theorem rows_eq (prev : Fin 128 → Fin 128 → EReal) (inc : Fin 8 → Fin 256 → Fin 128 → EReal) (f : Fin 64 → Fin 256 → Fin 128 → EReal)
    (hi : ∀ b j l, inc b j l = f (nb t b) j l)
    (hp : ∀ r l, prev r l = if h : t.val = 0 then 0 else f (nxt t) ⟨r.val, by omega⟩ l)
    (p : Fin 1024) (l : Fin 128) :
    accK (baseOf prev) inc 8 ⟨128 + p.val, by omega⟩ l = Cert.AttnSpec.unband (fun n j => f n j l) (nb t ⟨p.val / 128, by omega⟩) ⟨p.val % 128, by omega⟩ := by
  have ht := t_lt t
  unfold Cert.AttnSpec.unband
  by_cases h : p.val < 896
  · rw [accK_mid (baseOf prev) inc ⟨p.val / 128, by omega⟩ ⟨p.val % 128, by omega⟩ l _ (by simp only []; omega), hi, hi]
    rw [baseOf, dif_neg (by simp only []; omega), dif_pos (by show 8 * (7 - t.val) + p.val / 128 < 63; omega)]
    exact congrArg (fun z : EReal => z + _) (zero_add (M := EReal) _)
  · rw [accK_last (baseOf prev) inc ⟨p.val % 128, by omega⟩ l _ (by simp only []; omega), hi]
    rw [baseOf, dif_pos (by simp only []; omega), hp]
    have e7 : (7 : Fin 8) = ⟨p.val / 128, by omega⟩ := Fin.ext (by show 7 = p.val / 128; omega)
    rw [e7]
    refine (add_comm (G := EReal) _ _).trans (congrArg (fun z : EReal => _ + z) ?_)
    by_cases h0 : t.val = 0
    · rw [dif_pos h0, dif_neg (by show ¬8 * (7 - t.val) + p.val / 128 < 63; omega)]
    · rw [dif_neg h0, dif_pos (by show 8 * (7 - t.val) + p.val / 128 < 63; omega)]
      refine congrArg₂ (fun n j => f n j l) (Fin.ext ?_) (Fin.ext ?_)
      · show (8 * (7 - t.val) + 8) % 64 = 8 * (7 - t.val) + p.val / 128 + 1; omega
      · show 128 + p.val - 1024 = p.val % 128; omega

section
variable (hq : ∀ i h d, IsReal (Q m c i h d)) (hk : ∀ i h d, IsReal (K m c i h d)) (hu : ∀ i h d, IsReal (U m c i h d)) (ho : ∀ i h d, IsReal (O m c i h d))

theorem prev_form (x g : EReal) (f : Fin 64 → EReal) (h : ¬t.val = 0 → g = f (nxt t))
    (hx : x = if t.val % 8 = 0 then 0 else g) : x = if h : t.val = 0 then 0 else f (nxt t) := by
  have ht := t_lt t
  rw [hx]
  by_cases h0 : t.val = 0
  · rw [if_pos (by omega), dif_pos h0]
  · rw [if_neg (by omega), dif_neg h0, h h0]

include hq hk in
theorem prevK_eq (r l : Fin 128) : prevK m c t r l = if h : t.val = 0 then 0
    else Cert.AttnSpec.dkBand (Q m c) (K m c) (U m c) (S m c) (O m c) (nxt t) ⟨r.val, by omega⟩ ⟨l.val / 64, by omega⟩ ⟨l.val % 64, by omega⟩ := by
  refine prev_form t _ _ (fun n => Cert.AttnSpec.dkBand (Q m c) (K m c) (U m c) (S m c) (O m c) n ⟨r.val, by omega⟩ ⟨l.val / 64, by omega⟩ ⟨l.val % 64, by omega⟩) (fun h0 => ?_) rfl
  refine (carryK m c ⟨t.val - 1, Nat.lt_of_le_of_lt (Nat.sub_le _ _) t.isLt⟩ r l).trans ((incK_eq m c _ hq hk 0 _ l).trans ?_)
  refine congrArg (fun n => Cert.AttnSpec.dkBand (Q m c) (K m c) (U m c) (S m c) (O m c) n ⟨r.val, by omega⟩ ⟨l.val / 64, by omega⟩ ⟨l.val % 64, by omega⟩) (Fin.ext ?_)
  have ht := t_lt t
  show 8 * (7 - (t.val - 1)) + 0 = (8 * (7 - t.val) + 8) % 64
  omega

include hq hk in
theorem prevV_eq (r l : Fin 128) : prevV m c t r l = if h : t.val = 0 then 0
    else Cert.AttnSpec.dvBand (Q m c) (K m c) (S m c) (O m c) (nxt t) ⟨r.val, by omega⟩ ⟨l.val / 64, by omega⟩ ⟨l.val % 64, by omega⟩ := by
  refine prev_form t _ _ (fun n => Cert.AttnSpec.dvBand (Q m c) (K m c) (S m c) (O m c) n ⟨r.val, by omega⟩ ⟨l.val / 64, by omega⟩ ⟨l.val % 64, by omega⟩) (fun h0 => ?_) rfl
  refine (carryV m c ⟨t.val - 1, Nat.lt_of_le_of_lt (Nat.sub_le _ _) t.isLt⟩ r l).trans ((incV_eq m c _ hq hk 0 _ l).trans ?_)
  refine congrArg (fun n => Cert.AttnSpec.dvBand (Q m c) (K m c) (S m c) (O m c) n ⟨r.val, by omega⟩ ⟨l.val / 64, by omega⟩ ⟨l.val % 64, by omega⟩) (Fin.ext ?_)
  have ht := t_lt t
  show 8 * (7 - (t.val - 1)) + 0 = (8 * (7 - t.val) + 8) % 64
  omega

theorem row_blk (p : Fin 1024) : (⟨(rowT t p).val / 128, by omega⟩ : Fin 64) = nb t ⟨p.val / 128, by omega⟩ :=
  Fin.ext (by show (1024 * (7 - t.val) + p.val) / 128 = 8 * (7 - t.val) + p.val / 128; omega)
theorem row_row (p : Fin 1024) : (⟨(rowT t p).val % 128, by omega⟩ : Fin 128) = ⟨p.val % 128, by omega⟩ :=
  Fin.ext (by show (1024 * (7 - t.val) + p.val) % 128 = p.val % 128; omega)

/-- The gradients at a row and a column of the arrays. -/
def dqF (i : Fin 8192) (j : Fin 512) : EReal :=
  Cert.AttnSpec.dq (Q m c) (K m c) (U m c) (S m c) (O m c) ⟨i.val / 128, by omega⟩ ⟨i.val % 128, by omega⟩ ⟨j.val / 64, by omega⟩ ⟨j.val % 64, by omega⟩
def dkF (i : Fin 8192) (j : Fin 128) : EReal :=
  Cert.AttnSpec.dk (Q m c) (K m c) (U m c) (S m c) (O m c) ⟨i.val / 128, by omega⟩ ⟨i.val % 128, by omega⟩ ⟨j.val / 64, by omega⟩ ⟨j.val % 64, by omega⟩
def dvF (i : Fin 8192) (j : Fin 128) : EReal :=
  Cert.AttnSpec.dv (Q m c) (K m c) (S m c) (O m c) ⟨i.val / 128, by omega⟩ ⟨i.val % 128, by omega⟩ ⟨j.val / 64, by omega⟩ ⟨j.val % 64, by omega⟩

variable (hs' : ∀ h, IsReal (S m c h))

include hs' hq hk hu ho in
theorem dq_at (p : Fin 1024) (j : Fin 512) : (outsAt0 (F := Ideal) m c t.val t.isLt).1 (ix2 p j) = dqF m c (rowT t p) j := by
  refine (out8 m c t p j).trans ?_
  unfold dqG dqF
  rw [dqB_eq m c t hq hk hu ho hs', row_blk, row_row]
  have e1 : qr (qcol ⟨j.val / 128 % 2, by omega⟩ ⟨p.val % 128, by omega⟩) = ⟨p.val % 128, by omega⟩ := Fin.ext (by simp only [qr, qcol]; omega)
  have e2 : head ⟨j.val / 256, by omega⟩ ⟨(⟨j.val % 128, by omega⟩ : Fin 128).val / 64, by omega⟩ (qcol ⟨j.val / 128 % 2, by omega⟩ ⟨p.val % 128, by omega⟩) = ⟨j.val / 64, by omega⟩ :=
    Fin.ext (by simp only [head, qcol]; omega)
  have e3 : (⟨(⟨j.val % 128, by omega⟩ : Fin 128).val % 64, by omega⟩ : Fin 64) = ⟨j.val % 64, by omega⟩ := Fin.ext (by simp only []; omega)
  rw [e1, e2, e3]

include hq hk in
theorem dk_at (p : Fin 1024) (j : Fin 128) : (outsAt0 (F := Ideal) m c t.val t.isLt).2.1 (ix2 p j) = dkF m c (rowT t p) j := by
  refine (out9 m c t p j).trans ((rows_eq t _ _
    (fun n i l => Cert.AttnSpec.dkBand (Q m c) (K m c) (U m c) (S m c) (O m c) n i ⟨l.val / 64, by omega⟩ ⟨l.val % 64, by omega⟩)
    (incK_eq m c t hq hk) (prevK_eq m c t hq hk) p j).trans ?_)
  unfold dkF Cert.AttnSpec.dk
  rw [row_blk, row_row]

include hq hk in
theorem dv_at (p : Fin 1024) (j : Fin 128) : (outsAt0 (F := Ideal) m c t.val t.isLt).2.2.1 (ix2 p j) = dvF m c (rowT t p) j := by
  refine (out10 m c t p j).trans ((rows_eq t _ _
    (fun n i l => Cert.AttnSpec.dvBand (Q m c) (K m c) (S m c) (O m c) n i ⟨l.val / 64, by omega⟩ ⟨l.val % 64, by omega⟩)
    (incV_eq m c t hq hk) (prevV_eq m c t hq hk) p j).trans ?_)
  unfold dvF Cert.AttnSpec.dv
  rw [row_blk, row_row]

end

end Cert.AttnBwdIdeal.Host
end
-- ==== Proof.Attn.Value.lean ====
/- The four arrays the kernel leaves, as the attention's gradients of the arguments. -/
module

public import proofs.«01_k».proof.Proof.Attn.Grad
public import proofs.«01_k».proof.Proof.Gen.AttnBwdIdeal.Value

@[expose] public section

set_option maxRecDepth 16384

noncomputable section

namespace Cert.AttnBwdIdeal.Host

open Cert.AttnBwdIdeal Cert.AttnBwdIdeal.Gen Cert.AttnBwdIdeal.Chain Cert.AttnBwdIdeal.Block Cert.Reals Idealize.ShloMosaic Idealize.ShloMosaic.TcCoe Idealize.SL.Sem
open Idealize.ShloMosaic.Pipeline (Dat)

variable (m : (ℓ : Loc nD τ sig) → Buf (Elt Ideal) ℓ) (c : Dev nD)

/-- Eight terms subtracted in turn. -/
theorem sub_eight (x : EReal) (f : Fin 8 → EReal) : subS x f = x + ∑ b, -f b := by
  unfold subS
  simp only [sub_eq_add_neg, Fin.sum_univ_eight, add_assoc]

/-- A sum over the tiles, last first, and the blocks of each is one over all blocks. -/
theorem sum_blocks (G : Fin 64 → EReal) : ∑ t : Fin cfg0.N, ∑ b : Fin 8, G (nb t b) = ∑ n, G n := by
  refine (Finset.sum_product' (Finset.univ : Finset (Fin cfg0.N)) (Finset.univ : Finset (Fin 8)) fun t b => G (nb t b)).symm.trans ?_
  refine Finset.sum_bij' (fun x _ => nb x.1 x.2) (fun n _ => (⟨7 - n.val / 8, lt_of_lt_of_eq (by omega) Gen.N_0.symm⟩, ⟨n.val % 8, by omega⟩)) (fun _ _ => Finset.mem_univ _) (fun _ _ => Finset.mem_univ _) (fun x _ => ?_) (fun n _ => ?_) (fun _ _ => rfl)
  · have := t_lt x.1
    have := x.2.isLt
    refine Prod.ext (Fin.ext ?_) (Fin.ext ?_)
    · show 7 - (8 * (7 - x.1.val) + x.2.val) / 8 = x.1.val; omega
    · show (8 * (7 - x.1.val) + x.2.val) % 8 = x.2.val; omega
  · refine Fin.ext ?_
    show 8 * (7 - (7 - n.val / 8)) + n.val % 8 = n.val
    omega

/-- The last point. -/
def tL : Fin cfg0.N := ⟨7, lt_of_lt_of_eq (by decide) Gen.N_0.symm⟩

section
variable (hq : ∀ i h d, IsReal (Q m c i h d)) (hk : ∀ i h d, IsReal (K m c i h d)) (hu : ∀ i h d, IsReal (U m c i h d)) (hs' : ∀ h, IsReal (S m c h)) (ho : ∀ i h d, IsReal (O m c i h d))

include hq hk hu hs' ho in
theorem leak_real (n : Fin 64) (h : Fin 8) (r : Fin 128) : IsReal (Cert.AttnSpec.leak (Q m c) (K m c) (U m c) (S m c) (O m c) n h r) := by
  unfold Cert.AttnSpec.leak Soft.leak
  refine IsReal.mul ?_ (Soft.D_real _ _ _ _ (Cert.AttnSpec.sc_real _ _ hq hk _ _ _) (hs' h) (Cert.AttnSpec.dP_real _ _ ho hu _ _ _))
  obtain ⟨l, hl⟩ := Soft.lse_real (Cert.AttnSpec.Sees n r) (Cert.AttnSpec.sc (Q m c) (K m c) n h r) (S m c h) (Cert.AttnSpec.sc_real _ _ hq hk _ _ _) (hs' h)
  obtain ⟨s, hs⟩ := hs' h
  rw [hl, hs, ← EReal.coe_sub, Soft.exp_real]
  exact ⟨_, rfl⟩

theorem neg_sum (f : Fin 128 → EReal) (hf : ∀ r, IsReal (f r)) : -∑ r, f r = ∑ r, -f r := by
  choose g hg using hf
  simp only [hg, coe_sum, ← EReal.coe_neg]
  rw [Finset.sum_neg_distrib]

/-- What a tile adds to a sink's gradient. -/
def dsT (t : Fin cfg0.N) (h : Fin 8) : EReal := ∑ b : Fin 8, ∑ r, -Cert.AttnSpec.leak (Q m c) (K m c) (U m c) (S m c) (O m c) (nb t b) h r

include hq hk hu hs' ho in
theorem ds_at (t : Fin cfg0.N) (h : Fin 8) : (outsAt0 (F := Ideal) m c t.val t.isLt).2.2.2.1 (ix2 0 h) = prevS m c t h + dsT m c t h := by
  refine (out11 m c t h).trans ((sub_eight _ _).trans (congrArg (fun z : EReal => prevS m c t h + z) (Finset.sum_congr rfl fun b _ => ?_)))
  rw [incS_eq m c t hq hk]
  have e : (⟨4 * (⟨h.val / 4, by omega⟩ : Fin 2).val + (⟨h.val % 2, by omega⟩ : Fin 2).val + 2 * (⟨h.val / 2 % 2, by omega⟩ : Fin 2).val, by simp only []; omega⟩ : Fin 8) = h :=
    Fin.ext (by simp only []; omega)
  rw [e]
  exact neg_sum _ fun r => leak_real m c hq hk hu hs' ho _ _ _

include hq hk hu hs' ho in
/-- The sinks' gradient after the run. -/
theorem arr11 : (dats m 0 c).arrAt 11 cfg0.N = fun y : S1x8.Idx => Cert.AttnSpec.dsink (Q m c) (K m c) (U m c) (S m c) (O m c) (y 1) := by
  refine (dats m 0 c).arrAt_eq_of_after_last 11 tL (by decide +kernel) _ fun y => ?_
  obtain ⟨z, h, rfl⟩ : ∃ (z : Fin 1) (h : Fin 8), y = ix2 z h := ⟨y 0, y 1, eq_ix2 y⟩
  obtain rfl := Subsingleton.elim z 0
  blk_simp
  rw [after0_11]
  refine (Pipeline.eq_sum_fin_of_reset_step_apply_last (fun n h => (outsAt0 m c n h).2.2.2.1) 8 (fun _ => (0 : EReal)) (fun t y => dsT m c t (y 1))
    (fun t h y => ?_) (fun t h y => ?_) (le_of_eq Gen.N_0) tL rfl (ix2 0 h)).trans ?_
  · obtain ⟨z, k, rfl⟩ : ∃ (z : Fin 1) (h : Fin 8), y = ix2 z h := ⟨y 0, y 1, eq_ix2 y⟩
    obtain rfl := Subsingleton.elim z 0
    refine (ds_at m c hq hk hu hs' ho t k).trans ?_
    rw [prevS, if_pos h]
    rfl
  · obtain ⟨z, k, rfl⟩ : ∃ (z : Fin 1) (h : Fin 8), y = ix2 z h := ⟨y 0, y 1, eq_ix2 y⟩
    obtain rfl := Subsingleton.elim z 0
    refine (ds_at m c hq hk hu hs' ho t k).trans ?_
    rw [prevS, if_neg h]
    rfl
  · rw [zero_add]
    exact sum_blocks fun n => ∑ r, -Cert.AttnSpec.leak (Q m c) (K m c) (U m c) (S m c) (O m c) n h r

include hq hk hu hs' ho in
/-- The queries' gradient after the run. -/
theorem arr8 : (dats m 0 c).arrAt 8 cfg0.N = fun y : S8192x512.Idx => dqF m c (y 0) (y 1) := by
  refine (dats m 0 c).arrAt_eq_of_covers 8 _ (by decide +kernel) fun t hf y => ?_
  obtain ⟨p, k, rfl⟩ : ∃ (p : Fin 1024) (k : Fin 512), y = ix2 p k := ⟨y 0, y 1, eq_ix2 y⟩
  blk_simp
  rw [after0_8]
  refine (dq_at m c t hq hk hu ho hs' p k).trans ?_
  refine Eq.trans ?_ (congrArg (fun y : S8192x512.Idx => dqF m c (y 0) (y 1)) (show ix2 (rowT t p) k = _ from ?_))
  · rfl
  · blk_ext [index_rows t, rowT]

include hq hk in
/-- The keys' gradient after the run. -/
theorem arr9 : (dats m 0 c).arrAt 9 cfg0.N = fun y : S8192x128.Idx => dkF m c (y 0) (y 1) := by
  refine (dats m 0 c).arrAt_eq_of_covers 9 _ (by decide +kernel) fun t hf y => ?_
  obtain ⟨p, k, rfl⟩ : ∃ (p : Fin 1024) (k : Fin 128), y = ix2 p k := ⟨y 0, y 1, eq_ix2 y⟩
  blk_simp
  rw [after0_9]
  refine (dk_at m c t hq hk p k).trans ?_
  refine Eq.trans ?_ (congrArg (fun y : S8192x128.Idx => dkF m c (y 0) (y 1)) (show ix2 (rowT t p) k = _ from ?_))
  · rfl
  · blk_ext [index_rows t, rowT]

include hq hk in
/-- The values' gradient after the run. -/
theorem arr10 : (dats m 0 c).arrAt 10 cfg0.N = fun y : S8192x128.Idx => dvF m c (y 0) (y 1) := by
  refine (dats m 0 c).arrAt_eq_of_covers 10 _ (by decide +kernel) fun t hf y => ?_
  obtain ⟨p, k, rfl⟩ : ∃ (p : Fin 1024) (k : Fin 128), y = ix2 p k := ⟨y 0, y 1, eq_ix2 y⟩
  blk_simp
  rw [after0_10]
  refine (dv_at m c t hq hk p k).trans ?_
  refine Eq.trans ?_ (congrArg (fun y : S8192x128.Idx => dvF m c (y 0) (y 1)) (show ix2 (rowT t p) k = _ from ?_))
  · rfl
  · blk_ext [index_rows t, rowT]

end

end Cert.AttnBwdIdeal.Host
end
-- ==== Proof.Attn.Claim.lean ====
/- The value claim of the attention's backward call: the four arrays the kernel leaves are the reference's. -/
module

public import proofs.«01_k».proof.Defs
public import proofs.«01_k».proof.Proof.Attn.Value
public import proofs.«01_k».proof.Proof.Gen.AttnBwdRefIdeal.Run
public import proofs.«01_k».proof.Proof.Gen.Pre_finite_attn

@[expose] public section

set_option maxRecDepth 16384

noncomputable section

namespace Cert.AttnBwdIdeal.Host

open Cert.Reals Cert.AttnBwdIdeal Cert.AttnBwdIdeal.Gen Idealize.ShloMosaic Idealize.ShloMosaic.TcCoe Idealize.SL.Sem

variable (m : (ℓ : Loc nD τ sig) → Buf (Elt Ideal) ℓ)

/-- The precondition, entry by entry. -/
theorem pre_real (h : Cert.Pre_AttnBwdIdeal_finite_attn m) (c : Dev nD) :
    (∀ y, IsReal (m ((c : Thread nD τ).loc main_arg0) y)) ∧ (∀ y, IsReal (m ((c : Thread nD τ).loc main_arg1) y)) ∧ (∀ y, IsReal (m ((c : Thread nD τ).loc main_arg2) y))
    ∧ (∀ y, IsReal (m ((c : Thread nD τ).loc main_arg3) y)) ∧ (∀ y, IsReal (m ((c : Thread nD τ).loc main_arg4) y)) := by
  obtain ⟨h0, h1, h2, h3, h4⟩ := h c
  exact ⟨fun y => isReal_of_cmp (congrFun h0 y), fun y => isReal_of_cmp (congrFun h1 y), fun y => isReal_of_cmp (congrFun h2 y), fun y => isReal_of_cmp (congrFun h3 y),
    fun y => isReal_of_cmp (congrFun h4 y)⟩

/-- The reference is launched on the kernel's arguments. -/
theorem args_eq (m' : (ℓ : Loc AttnBwdRefIdeal.nD AttnBwdRefIdeal.τ AttnBwdRefIdeal.sig) → Buf (Elt Idealize.ShloMosaic.Ideal) ℓ)
    (h : ∀ (c : Dev nD), m' (c.tc.loc AttnBwdRefIdeal.main_arg0) = m (c.tc.loc main_arg0) ∧ m' (c.tc.loc AttnBwdRefIdeal.main_arg1) = m (c.tc.loc main_arg1)
      ∧ m' (c.tc.loc AttnBwdRefIdeal.main_arg2) = m (c.tc.loc main_arg2) ∧ m' (c.tc.loc AttnBwdRefIdeal.main_arg3) = m (c.tc.loc main_arg3)
      ∧ m' (c.tc.loc AttnBwdRefIdeal.main_arg4) = m (c.tc.loc main_arg4)) (c : Dev nD) :
    StableHlo.launchContents m' c (Proc.tc.devRef AttnBwdRefIdeal.main_arg0) = m (c.tc.loc main_arg0)
    ∧ StableHlo.launchContents m' c (Proc.tc.devRef AttnBwdRefIdeal.main_arg1) = m (c.tc.loc main_arg1)
    ∧ StableHlo.launchContents m' c (Proc.tc.devRef AttnBwdRefIdeal.main_arg2) = m (c.tc.loc main_arg2)
    ∧ StableHlo.launchContents m' c (Proc.tc.devRef AttnBwdRefIdeal.main_arg3) = m (c.tc.loc main_arg3)
    ∧ StableHlo.launchContents m' c (Proc.tc.devRef AttnBwdRefIdeal.main_arg4) = m (c.tc.loc main_arg4) := h c

/-- The queries' gradient of the reference is the array the kernel leaves. -/
theorem same_dq (hpre : Cert.Pre_AttnBwdIdeal_finite_attn m) (c : Dev nD) :
    Cert.AttnBwdRefIdeal.Read.val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 8 cfg0.N := by
  obtain ⟨h0, h1, h2, h3, h4⟩ := pre_real m hpre c
  refine Eq.trans ?_ (arr8 m c (fun _ _ _ => h0 _) (fun _ _ _ => h1 _) (fun _ _ _ => h2 _) (fun _ => h3 _) (fun _ _ _ => h4 _)).symm
  funext y
  obtain ⟨i, k, rfl⟩ : ∃ (i : Fin 8192) (k : Fin 512), y = ix2 i k := ⟨y 0, y 1, eq_ix2 y⟩
  exact Cert.AttnBwdRefIdeal.Read.res_dq _ _ _ _ _ h0 h1 h2 h3 h4 i k

/-- The keys' gradient of the reference is the array the kernel leaves. -/
theorem same_dk (hpre : Cert.Pre_AttnBwdIdeal_finite_attn m) (c : Dev nD) :
    Cert.AttnBwdRefIdeal.Read.val_main_v160 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 9 cfg0.N := by
  obtain ⟨h0, h1, h2, h3, h4⟩ := pre_real m hpre c
  refine Eq.trans ?_ (arr9 m c (fun _ _ _ => h0 _) (fun _ _ _ => h1 _)).symm
  funext y
  obtain ⟨i, k, rfl⟩ : ∃ (i : Fin 8192) (k : Fin 128), y = ix2 i k := ⟨y 0, y 1, eq_ix2 y⟩
  exact Cert.AttnBwdRefIdeal.Read.res_dk _ _ _ _ _ h0 h1 h2 h3 h4 i k

/-- The values' gradient of the reference is the array the kernel leaves. -/
theorem same_dv (hpre : Cert.Pre_AttnBwdIdeal_finite_attn m) (c : Dev nD) :
    Cert.AttnBwdRefIdeal.Read.val_main_v161 (F := Ideal) (m ((c : Thread nD τ).loc main_arg0)) (m ((c : Thread nD τ).loc main_arg1)) (m ((c : Thread nD τ).loc main_arg3)) (m ((c : Thread nD τ).loc main_arg4)) = (dats m 0 c).arrAt 10 cfg0.N := by
  obtain ⟨h0, h1, h2, h3, h4⟩ := pre_real m hpre c
  refine Eq.trans ?_ (arr10 m c (fun _ _ _ => h0 _) (fun _ _ _ => h1 _)).symm
  funext y
  obtain ⟨i, k, rfl⟩ : ∃ (i : Fin 8192) (k : Fin 128), y = ix2 i k := ⟨y 0, y 1, eq_ix2 y⟩
  exact Cert.AttnBwdRefIdeal.Read.res_dv _ _ _ _ _ h0 h1 h2 h3 h4 i k

/-- The sinks' gradient of the reference is the array the kernel leaves. -/
theorem same_dsink (hpre : Cert.Pre_AttnBwdIdeal_finite_attn m) (c : Dev nD) :
    Cert.AttnBwdRefIdeal.Read.val_main_v158 (F := Ideal) (m ((c : Thread nD τ).loc main_arg0)) (m ((c : Thread nD τ).loc main_arg1)) (m ((c : Thread nD τ).loc main_arg2)) (m ((c : Thread nD τ).loc main_arg3)) (m ((c : Thread nD τ).loc main_arg4)) = (dats m 0 c).arrAt 11 cfg0.N := by
  obtain ⟨h0, h1, h2, h3, h4⟩ := pre_real m hpre c
  refine Eq.trans ?_ (arr11 m c (fun _ _ _ => h0 _) (fun _ _ _ => h1 _) (fun _ _ _ => h2 _) (fun _ => h3 _) (fun _ _ _ => h4 _)).symm
  funext y
  obtain ⟨z, k, rfl⟩ : ∃ (z : Fin 1) (k : Fin 8), y = ix2 z k := ⟨y 0, y 1, eq_ix2 y⟩
  obtain rfl := Subsingleton.elim z 0
  exact Cert.AttnBwdRefIdeal.Read.res_dsink _ _ _ _ _ h0 h1 h2 h3 h4 k

set_option maxHeartbeats 2000000 in
theorem algebraic : Cert.algebraic_AttnBwdIdeal_AttnBwdRefIdeal_pre_finite_attn := by
  pair_intro
  · run_from Cert.AttnBwdIdeal.Value.run_blocks m g
  · run_from Cert.AttnBwdRefIdeal.Value.run m' g'
    · obtain ⟨e0, e1, e2, e3, e4⟩ := args_eq m m' hagree c
      rw [Cert.AttnBwdRefIdeal.Read.val_main_v159_eq, e0, e1, e2, e3, e4]
      exact same_dq m hpre c
    · obtain ⟨e0, e1, e2, e3, e4⟩ := args_eq m m' hagree c
      rw [Cert.AttnBwdRefIdeal.Read.val_main_v160_eq, e0, e1, e2, e3, e4]
      exact same_dk m hpre c
    · obtain ⟨e0, e1, e2, e3, e4⟩ := args_eq m m' hagree c
      rw [Cert.AttnBwdRefIdeal.Read.val_main_v161_eq, e0, e1, e3, e4]
      exact same_dv m hpre c
    · obtain ⟨e0, e1, e2, e3, e4⟩ := args_eq m m' hagree c
      rw [Cert.AttnBwdRefIdeal.Read.val_main_v158_eq, e0, e1, e2, e3, e4]
      exact same_dsink m hpre c

end Cert.AttnBwdIdeal.Host
end
-- ==== Proof.Ffn.Block.lean ====
/- What one grid point of the FFN backward kernel computes, from the eight input blocks it is given. -/
module

public import proofs.«01_k».proof.Proof.Gen.FfnBwdIdeal.Value
public import Idealize.ShloMosaic.Lib.Pipeline.ValueKit
public import Idealize.ShloMosaic.Lib.Pipeline.ReadBack

@[expose] public section

set_option maxRecDepth 16384

noncomputable section

namespace Cert.FfnBwdIdeal.Block

open Cert.FfnBwdIdeal Cert.FfnBwdIdeal.Gen Idealize.ShloMosaic Idealize.ShloMosaic.TcCoe Idealize.SL.Sem

section
variable (x0 : Vec Ideal S256x1024 .f32) (x1 x2 : Vec Ideal S256x2816 .bf16) (x3 : Vec Ideal S256x1024 .f32)
  (x4 x5 x6 : Vec Ideal S2816x1024 .bf16) (x7 : Vec Ideal S1x1024 .f32)

/-- The gradient of the gated activation. -/
def dactB (p : Fin 256) (j : Fin 2816) : EReal := ∑ k : Fin 1024, x0 (ix2 p k) * x4 (ix2 j k)

/-- The gradient of the up projection. -/
def dupB (p : Fin 256) (j : Fin 2816) : EReal := dactB x0 x4 p j * (x1 (ix2 p j) * Ideal.logistic (x1 (ix2 p j)))

/-- The gradient of the gate. -/
def dgateB (p : Fin 256) (j : Fin 2816) : EReal :=
  dactB x0 x4 p j * x2 (ix2 p j) * (Ideal.logistic (x1 (ix2 p j))
    + x1 (ix2 p j) * Ideal.logistic (x1 (ix2 p j)) * (Ideal.ofBits FTy.f32 1065353216#32 - Ideal.logistic (x1 (ix2 p j))))

/-- The reciprocal root of a row's mean square. -/
def rB (p : Fin 256) : EReal :=
  Ideal.rsqrt (Ideal.div (∑ x : Fin 1024, x3 (ix2 p x) * x3 (ix2 p x)) (Ideal.ofBits FTy.f32 1149239296#32) + Ideal.ofBits FTy.f32 925353388#32)

/-- The normalised row. -/
def nB (p : Fin 256) (k : Fin 1024) : EReal := x3 (ix2 p k) * rB x3 p

/-- The normalised and scaled row. -/
def hB (p : Fin 256) (k : Fin 1024) : EReal := nB x3 p k * x7 (ix2 0 k)

/-- The gradient of the normalised and scaled input. -/
def dhB (p : Fin 256) (k : Fin 1024) : EReal :=
  ∑ j, dgateB x0 x1 x2 x4 p j * x5 (ix2 j k) + ∑ j, dupB x0 x1 x4 p j * x6 (ix2 j k)

/-- The gradient of the layer's input. -/
def dxB (p : Fin 256) (k : Fin 1024) : EReal :=
  x0 (ix2 p k) + rB x3 p * (dhB x0 x1 x2 x4 x5 x6 p k * x7 (ix2 0 k)
    - nB x3 p k * Ideal.div (∑ i : Fin 1024, dhB x0 x1 x2 x4 x5 x6 p i * x7 (ix2 0 i) * nB x3 p i) (Ideal.ofBits FTy.f32 1149239296#32))

theorem r_at (p : Fin 256) (z) : k0_pay9 x3 (ix2 p z) = rB x3 p := by
  pointwise [k0_pay9, k0_pay8, rB]
theorem n_at (p : Fin 256) (k : Fin 1024) : k0_pay10 x3 (ix2 p k) = nB x3 p k := by
  pointwise [k0_pay10, r_at, k0_pay8, nB]
theorem h_at (p : Fin 256) (k : Fin 1024) : k0_pay11 x7 x3 (ix2 p k) = hB x3 x7 p k := by
  pointwise [k0_pay11, n_at, hB]

/-- A function of an index from the index's place in a chunk of 256 columns. -/
theorem at_cols (f : Fin 256 → Fin 2816 → EReal) (y : S256x2816.Idx) (o : Nat) (r l : Fin 256) (ho : o + 256 ≤ 2816) (h0 : (y 0).val = r.val) (h1 : (y 1).val = o + l.val) :
    f (y 0) (y 1) = f r ⟨o + l.val, by omega⟩ := by
  have e0 : (y 0 : Fin 256) = r := Fin.ext h0
  have e1 : (y 1 : Fin 2816) = ⟨o + l.val, by omega⟩ := Fin.ext h1
  rw [e0, e1]
  rfl

/-- A function of an index from the index's place in a chunk of 256 rows. -/
theorem at_rows (f : Fin 2816 → Fin 1024 → EReal) (y : S2816x1024.Idx) (o : Nat) (r : Fin 256) (l : Fin 1024) (ho : o + 256 ≤ 2816) (h0 : (y 0).val = o + r.val) (h1 : (y 1).val = l.val) :
    f (y 0) (y 1) = f ⟨o + r.val, by omega⟩ l := by
  have e0 : (y 0 : Fin 2816) = ⟨o + r.val, by omega⟩ := Fin.ext h0
  have e1 : (y 1 : Fin 1024) = l := Fin.ext h1
  rw [e0, e1]
  rfl

/-- The gate's gradient read back whole. -/
theorem dg_read (L : List (View.Piece (Elt Ideal) S256x2816 .bf16)) (h : ∀ y, View.canon L y = dgateB x0 x1 x2 x4 (y 0) (y 1)) :
    (View.whole cc0_scratch0).readCov L (Rect.unit ![0, 0] ![256, 2816] inb_S256x2816_S256x2816_0_0).toLoadRect = fun y => dgateB x0 x1 x2 x4 (y 0) (y 1) := by
  funext y
  rw [View.readCov_eq_canon']
  refine (h _).trans ?_
  refine congrArg₂ (dgateB x0 x1 x2 x4) (Fin.ext ?_) (Fin.ext ?_)
  · show 0 + 1 * (y 0).val = (y 0).val; omega
  · show 0 + 1 * (y 1).val = (y 1).val; omega

/-- The up projection's gradient read back whole. -/
theorem du_read (L : List (View.Piece (Elt Ideal) S256x2816 .bf16)) (h : ∀ y, View.canon L y = dupB x0 x1 x4 (y 0) (y 1)) :
    (View.whole cc0_scratch1).readCov L (Rect.unit ![0, 0] ![256, 2816] inb_S256x2816_S256x2816_0_0).toLoadRect = fun y => dupB x0 x1 x4 (y 0) (y 1) := by
  funext y
  rw [View.readCov_eq_canon']
  refine (h _).trans ?_
  refine congrArg₂ (dupB x0 x1 x4) (Fin.ext ?_) (Fin.ext ?_)
  · show 0 + 1 * (y 0).val = (y 0).val; omega
  · show 0 + 1 * (y 1).val = (y 1).val; omega

theorem dh_at (G : Vec Ideal S256x2816 .bf16) (U : Vec Ideal S256x2816 .bf16) (hG : G = fun y => dgateB x0 x1 x2 x4 (y 0) (y 1)) (hU : U = fun y => dupB x0 x1 x4 (y 0) (y 1))
    (p : Fin 256) (k : Fin 1024) : k0_pay128 G x5 U x6 (ix2 p k) = dhB x0 x1 x2 x4 x5 x6 p k := by
  subst hG hU
  pointwise [k0_pay128, dhB]

theorem dx_at (G : Vec Ideal S256x2816 .bf16) (U : Vec Ideal S256x2816 .bf16) (hG : G = fun y => dgateB x0 x1 x2 x4 (y 0) (y 1)) (hU : U = fun y => dupB x0 x1 x4 (y 0) (y 1))
    (p : Fin 256) (k : Fin 1024) : k0_pay130 x7 (k0_pay9 x3) (k0_pay10 x3) G x5 U x6 x0 (ix2 p k) = dxB x0 x1 x2 x3 x4 x5 x6 x7 p k := by
  have e := dh_at x0 x1 x2 x4 x5 x6 G U hG hU
  clear hG hU
  pointwise [k0_pay130, r_at, n_at, e, dxB]
end

variable (m : (ℓ : Loc nD τ sig) → Buf (Elt Ideal) ℓ)

/-- Stores that cover an index hide every store before them there. -/
theorem canon_prefix {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_prefix L' L y ?_
      obtain ⟨q, hq, hyq⟩ := hy
      rcases List.mem_cons.mp hq with rfl | hq'
      · exact absurd hyq hm
      · exact ⟨q, hq', hyq⟩

/-- Eleven stores that cover the buffer in blocks of `sz` hide every store before them. -/
theorem canon_eleven {S : Shape} {e : EltTy} (a1 a2 a3 a4 a5 a6 a7 a8 a9 a10 a11 : View.Piece (Elt Ideal) S e) (L : List (View.Piece (Elt Ideal) S e)) (sz : Fin S.rank → Nat)
    (h : View.Piece.tiled [a1, a2, a3, a4, a5, a6, a7, a8, a9, a10, a11] sz = true) (y : S.Idx) :
    View.canon (a1 :: a2 :: a3 :: a4 :: a5 :: a6 :: a7 :: a8 :: a9 :: a10 :: a11 :: L) y = View.canon [a1, a2, a3, a4, a5, a6, a7, a8, a9, a10, a11] y :=
  canon_prefix L [a1, a2, a3, a4, a5, a6, a7, a8, a9, a10, a11] y (View.cover_of_tiled _ sz h y)

/-- A block's part of the norm weight's gradient. -/
def dgB (x0 : Vec Ideal S256x1024 .f32) (x1 x2 : Vec Ideal S256x2816 .bf16) (x3 : Vec Ideal S256x1024 .f32)
  (x4 x5 x6 : Vec Ideal S2816x1024 .bf16) (k : Fin 1024) : EReal := ∑ p, dhB x0 x1 x2 x4 x5 x6 p k * nB x3 p k

/-- A block's part of the bias's gradient. -/
def dbB (x0 : Vec Ideal S256x1024 .f32) (x1 x2 : Vec Ideal S256x2816 .bf16) (x3 : Vec Ideal S256x1024 .f32)
  (x4 x5 x6 : Vec Ideal S2816x1024 .bf16) (x7 : Vec Ideal S1x1024 .f32) (k : Fin 1024) : EReal := ∑ p, dxB x0 x1 x2 x3 x4 x5 x6 x7 p k

/-- A block's part of the gate weight's gradient. -/
def dwgB (x0 : Vec Ideal S256x1024 .f32) (x1 x2 : Vec Ideal S256x2816 .bf16) (x3 : Vec Ideal S256x1024 .f32)
  (x4 : Vec Ideal S2816x1024 .bf16) (x7 : Vec Ideal S1x1024 .f32) (j : Fin 2816) (k : Fin 1024) : EReal :=
  ∑ p, dgateB x0 x1 x2 x4 p j * hB x3 x7 p k

/-- A block's part of the up weight's gradient. -/
def dwuB (x0 : Vec Ideal S256x1024 .f32) (x1 : Vec Ideal S256x2816 .bf16) (x3 : Vec Ideal S256x1024 .f32)
  (x4 : Vec Ideal S2816x1024 .bf16) (x7 : Vec Ideal S1x1024 .f32) (j : Fin 2816) (k : Fin 1024) : EReal :=
  ∑ p, dupB x0 x1 x4 p j * hB x3 x7 p k

theorem dg_at (x0 : Vec Ideal S256x1024 .f32) (x1 x2 : Vec Ideal S256x2816 .bf16) (x3 : Vec Ideal S256x1024 .f32)
  (x4 x5 x6 : Vec Ideal S2816x1024 .bf16) (G : Vec Ideal S256x2816 .bf16) (U : Vec Ideal S256x2816 .bf16) (hG : G = fun y => dgateB x0 x1 x2 x4 (y 0) (y 1)) (hU : U = fun y => dupB x0 x1 x4 (y 0) (y 1))
    (k : Fin 1024) : k0_pay129 (k0_pay10 x3) G x5 U x6 (ix2 0 k) = dgB x0 x1 x2 x3 x4 x5 x6 k := by
  have e := dh_at x0 x1 x2 x4 x5 x6 G U hG hU
  clear hG hU
  pointwise [k0_pay129, n_at, e, dgB]

set_option maxHeartbeats 4000000 in
/-- At the first point the first result's block is the gradient of the layer's input. -/
theorem out8_A (c : Dev nD) (t : Fin cfg0.N) (h0 : t.val % 32 = 0) (h1 : ¬t.val % 32 = 31) (p : Fin 256) (k : Fin 1024) :
    (outsAt0 (F := Ideal) m c t.val t.isLt).1 (ix2 p k) = dxB (iblk m c 0 t) (iblk m c 1 t) (iblk m c 2 t) (iblk m c 3 t) (iblk m c 4 t) (iblk m c 5 t) (iblk m c 6 t) (iblk m c 7 t) p k := by
  rw [Gen.outsAt0_A m c t h0 h1]
  frame_open
  simp (disch := decide) only [↓ View.readCov_skip, ↓ View.readCov_cons_toLoadRect, ↓ View.readCov_fill]
  frame_out
  refine dx_at _ _ _ _ _ _ _ _ _ _ (dg_read _ _ _ _ _ fun y => ?_) (du_read _ _ _ _ fun y => ?_) p k
  · canon_tiles x hx
    all_goals
      first
        | refine Eq.trans ?_ (at_cols _ y _ (x 0) (x 1) (by decide) hx0 hx1).symm
        | refine Eq.trans ?_ (at_cols _ y 0 (x 0) (x 1) (by decide) hx0 (hx1.trans (Nat.zero_add _).symm)).symm
      pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dgateB, dactB]
  · canon_tiles x hx
    all_goals
      first
        | refine Eq.trans ?_ (at_cols _ y _ (x 0) (x 1) (by decide) hx0 hx1).symm
        | refine Eq.trans ?_ (at_cols _ y 0 (x 0) (x 1) (by decide) hx0 (hx1.trans (Nat.zero_add _).symm)).symm
      pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dupB, dactB]

set_option maxHeartbeats 4000000 in
theorem out9_A (c : Dev nD) (t : Fin cfg0.N) (h0 : t.val % 32 = 0) (h1 : ¬t.val % 32 = 31) (k : Fin 1024) :
    (outsAt0 (F := Ideal) m c t.val t.isLt).2.1 (ix2 0 k) = dgB (iblk m c 0 t) (iblk m c 1 t) (iblk m c 2 t) (iblk m c 3 t) (iblk m c 4 t) (iblk m c 5 t) (iblk m c 6 t) k := by
  rw [Gen.outsAt0_A m c t h0 h1]
  frame_open
  simp (disch := decide) only [↓ View.readCov_skip, ↓ View.readCov_cons_toLoadRect, ↓ View.readCov_fill]
  frame_out
  generalize ha : k0_pay129 (F := Ideal) _ _ _ _ _ = a
  have e : a (ix2 0 k) = dgB (iblk m c 0 t) (iblk m c 1 t) (iblk m c 2 t) (iblk m c 3 t) (iblk m c 4 t) (iblk m c 5 t) (iblk m c 6 t) k := by
    rw [← ha]
    refine dg_at _ _ _ _ _ _ _ _ _ (dg_read _ _ _ _ _ fun y => ?_) (du_read _ _ _ _ fun y => ?_) k
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dgateB, dactB]
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dupB, dactB]
  clear ha
  pointwise [k0_pay1, k0_pay3, read_unread_whole, e]

set_option maxHeartbeats 4000000 in
theorem out10_A (c : Dev nD) (t : Fin cfg0.N) (h0 : t.val % 32 = 0) (h1 : ¬t.val % 32 = 31) (k : Fin 1024) :
    (outsAt0 (F := Ideal) m c t.val t.isLt).2.2.1 (ix2 0 k) = dbB (iblk m c 0 t) (iblk m c 1 t) (iblk m c 2 t) (iblk m c 3 t) (iblk m c 4 t) (iblk m c 5 t) (iblk m c 6 t) (iblk m c 7 t) k := by
  rw [Gen.outsAt0_A m c t h0 h1]
  frame_open
  simp (disch := decide) only [↓ View.readCov_skip, ↓ View.readCov_cons_toLoadRect, ↓ View.readCov_fill]
  frame_out
  generalize ha : k0_pay130 (F := Ideal) _ _ _ _ _ _ _ _ = a
  have e : ∀ p k, a (ix2 p k) = dxB (iblk m c 0 t) (iblk m c 1 t) (iblk m c 2 t) (iblk m c 3 t) (iblk m c 4 t) (iblk m c 5 t) (iblk m c 6 t) (iblk m c 7 t) p k := by
    intro p k
    rw [← ha]
    refine dx_at _ _ _ _ _ _ _ _ _ _ (dg_read _ _ _ _ _ fun y => ?_) (du_read _ _ _ _ fun y => ?_) p k
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dgateB, dactB]
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dupB, dactB]
  clear ha
  pointwise [k0_pay2, k0_pay4, read_unread_whole, e, dbB]

set_option maxHeartbeats 4000000 in
theorem accg_A (c : Dev nD) (t : Fin cfg0.N) (h0 : t.val % 32 = 0) (h1 : ¬t.val % 32 = 31) (y : S2816x1024.Idx) :
    (outsAt0 (F := Ideal) m c t.val t.isLt).2.2.2.1 y = dwgB (iblk m c 0 t) (iblk m c 1 t) (iblk m c 2 t) (iblk m c 3 t) (iblk m c 4 t) (iblk m c 7 t) (y 0) (y 1) := by
  rw [Gen.outsAt0_A m c t h0 h1]
  frame_open
  simp (disch := decide) only [↓ View.readCov_skip, ↓ View.readCov_cons_toLoadRect, ↓ View.readCov_fill]
  frame_out
  rw [canon_eleven _ _ _ _ _ _ _ _ _ _ _ _ ![256, 1024] rfl y]
  canon_tiles x hx
  all_goals
    first
      | refine Eq.trans ?_ (at_rows _ y _ (x 0) (x 1) (by decide) hx0 hx1).symm
      | refine Eq.trans ?_ (at_rows _ y 0 (x 0) (x 1) (by decide) (hx0.trans (Nat.zero_add _).symm) hx1).symm
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, h_at, k0_pay5, read_unread_whole, dwgB, dgateB, dactB]

set_option maxHeartbeats 4000000 in
theorem accu_A (c : Dev nD) (t : Fin cfg0.N) (h0 : t.val % 32 = 0) (h1 : ¬t.val % 32 = 31) (y : S2816x1024.Idx) :
    (outsAt0 (F := Ideal) m c t.val t.isLt).2.2.2.2.1 y = dwuB (iblk m c 0 t) (iblk m c 1 t) (iblk m c 3 t) (iblk m c 4 t) (iblk m c 7 t) (y 0) (y 1) := by
  rw [Gen.outsAt0_A m c t h0 h1]
  frame_open
  simp (disch := decide) only [↓ View.readCov_skip, ↓ View.readCov_cons_toLoadRect, ↓ View.readCov_fill]
  frame_out
  rw [canon_eleven _ _ _ _ _ _ _ _ _ _ _ _ ![256, 1024] rfl y]
  canon_tiles x hx
  all_goals
    first
      | refine Eq.trans ?_ (at_rows _ y _ (x 0) (x 1) (by decide) hx0 hx1).symm
      | refine Eq.trans ?_ (at_rows _ y 0 (x 0) (x 1) (by decide) (hx0.trans (Nat.zero_add _).symm) hx1).symm
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, h_at, k0_pay6, read_unread_whole, dwuB, dupB, dactB]

set_option maxHeartbeats 4000000 in
/-- At a point between the first and the last the first result's block is the gradient of the layer's input. -/
theorem out8_B (c : Dev nD) (t : Fin cfg0.N) (h0 : ¬t.val % 32 = 0) (h1 : ¬t.val % 32 = 31) (p : Fin 256) (k : Fin 1024) :
    (outsAt0 (F := Ideal) m c t.val t.isLt).1 (ix2 p k) = dxB (iblk m c 0 t) (iblk m c 1 t) (iblk m c 2 t) (iblk m c 3 t) (iblk m c 4 t) (iblk m c 5 t) (iblk m c 6 t) (iblk m c 7 t) p k := by
  rw [Gen.outsAt0_B m c t h0 h1]
  frame_open
  simp (disch := decide) only [↓ View.readCov_skip, ↓ View.readCov_cons_toLoadRect, ↓ View.readCov_fill]
  frame_out
  refine dx_at _ _ _ _ _ _ _ _ _ _ (dg_read _ _ _ _ _ fun y => ?_) (du_read _ _ _ _ fun y => ?_) p k
  · canon_tiles x hx
    all_goals
      first
        | refine Eq.trans ?_ (at_cols _ y _ (x 0) (x 1) (by decide) hx0 hx1).symm
        | refine Eq.trans ?_ (at_cols _ y 0 (x 0) (x 1) (by decide) hx0 (hx1.trans (Nat.zero_add _).symm)).symm
      pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dgateB, dactB]
  · canon_tiles x hx
    all_goals
      first
        | refine Eq.trans ?_ (at_cols _ y _ (x 0) (x 1) (by decide) hx0 hx1).symm
        | refine Eq.trans ?_ (at_cols _ y 0 (x 0) (x 1) (by decide) hx0 (hx1.trans (Nat.zero_add _).symm)).symm
      pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dupB, dactB]

set_option maxHeartbeats 4000000 in
theorem out9_B (c : Dev nD) (t : Fin cfg0.N) (h0 : ¬t.val % 32 = 0) (h1 : ¬t.val % 32 = 31) (k : Fin 1024) :
    (outsAt0 (F := Ideal) m c t.val t.isLt).2.1 (ix2 0 k) = (outsAt0 (F := Ideal) m c (t.val - 1) (Nat.lt_of_le_of_lt (Nat.sub_le _ _) t.isLt)).2.1 (ix2 0 k) + dgB (iblk m c 0 t) (iblk m c 1 t) (iblk m c 2 t) (iblk m c 3 t) (iblk m c 4 t) (iblk m c 5 t) (iblk m c 6 t) k := by
  rw [Gen.outsAt0_B m c t h0 h1]
  frame_open
  simp (disch := decide) only [↓ View.readCov_skip, ↓ View.readCov_cons_toLoadRect, ↓ View.readCov_fill]
  frame_out
  generalize ha : k0_pay129 (F := Ideal) _ _ _ _ _ = a
  have e : a (ix2 0 k) = dgB (iblk m c 0 t) (iblk m c 1 t) (iblk m c 2 t) (iblk m c 3 t) (iblk m c 4 t) (iblk m c 5 t) (iblk m c 6 t) k := by
    rw [← ha]
    refine dg_at _ _ _ _ _ _ _ _ _ (dg_read _ _ _ _ _ fun y => ?_) (du_read _ _ _ _ fun y => ?_) k
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dgateB, dactB]
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dupB, dactB]
  clear ha
  pointwise [k0_pay1, k0_pay3, read_unread_whole, e]

set_option maxHeartbeats 4000000 in
theorem out10_B (c : Dev nD) (t : Fin cfg0.N) (h0 : ¬t.val % 32 = 0) (h1 : ¬t.val % 32 = 31) (k : Fin 1024) :
    (outsAt0 (F := Ideal) m c t.val t.isLt).2.2.1 (ix2 0 k) = (outsAt0 (F := Ideal) m c (t.val - 1) (Nat.lt_of_le_of_lt (Nat.sub_le _ _) t.isLt)).2.2.1 (ix2 0 k) + dbB (iblk m c 0 t) (iblk m c 1 t) (iblk m c 2 t) (iblk m c 3 t) (iblk m c 4 t) (iblk m c 5 t) (iblk m c 6 t) (iblk m c 7 t) k := by
  rw [Gen.outsAt0_B m c t h0 h1]
  frame_open
  simp (disch := decide) only [↓ View.readCov_skip, ↓ View.readCov_cons_toLoadRect, ↓ View.readCov_fill]
  frame_out
  generalize ha : k0_pay130 (F := Ideal) _ _ _ _ _ _ _ _ = a
  have e : ∀ p k, a (ix2 p k) = dxB (iblk m c 0 t) (iblk m c 1 t) (iblk m c 2 t) (iblk m c 3 t) (iblk m c 4 t) (iblk m c 5 t) (iblk m c 6 t) (iblk m c 7 t) p k := by
    intro p k
    rw [← ha]
    refine dx_at _ _ _ _ _ _ _ _ _ _ (dg_read _ _ _ _ _ fun y => ?_) (du_read _ _ _ _ fun y => ?_) p k
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dgateB, dactB]
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dupB, dactB]
  clear ha
  pointwise [k0_pay2, k0_pay4, read_unread_whole, e, dbB]

set_option maxHeartbeats 4000000 in
theorem accg_B (c : Dev nD) (t : Fin cfg0.N) (h0 : ¬t.val % 32 = 0) (h1 : ¬t.val % 32 = 31) (y : S2816x1024.Idx) :
    (outsAt0 (F := Ideal) m c t.val t.isLt).2.2.2.1 y = (outsAt0 (F := Ideal) m c (t.val - 1) (Nat.lt_of_le_of_lt (Nat.sub_le _ _) t.isLt)).2.2.2.1 (ix2 (y 0) (y 1)) + dwgB (iblk m c 0 t) (iblk m c 1 t) (iblk m c 2 t) (iblk m c 3 t) (iblk m c 4 t) (iblk m c 7 t) (y 0) (y 1) := by
  rw [Gen.outsAt0_B m c t h0 h1]
  frame_open
  simp (disch := decide) only [↓ View.readCov_skip, ↓ View.readCov_cons_toLoadRect, ↓ View.readCov_fill]
  frame_out
  canon_tiles x hx
  all_goals
    first
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.1 (ix2 a b)) y _ (x 0) (x 1) (by decide) hx0 hx1) (at_rows (dwgB (iblk m c 0 t) (iblk m c 1 t) (iblk m c 2 t) (iblk m c 3 t) (iblk m c 4 t) (iblk m c 7 t)) y _ (x 0) (x 1) (by decide) hx0 hx1)).symm
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.1 (ix2 a b)) y 0 (x 0) (x 1) (by decide) (hx0.trans (Nat.zero_add _).symm) hx1) (at_rows (dwgB (iblk m c 0 t) (iblk m c 1 t) (iblk m c 2 t) (iblk m c 3 t) (iblk m c 4 t) (iblk m c 7 t)) y 0 (x 0) (x 1) (by decide) (hx0.trans (Nat.zero_add _).symm) hx1)).symm
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, h_at, k0_pay5, read_unread_whole, dwgB, dgateB, dactB]

set_option maxHeartbeats 4000000 in
theorem accu_B (c : Dev nD) (t : Fin cfg0.N) (h0 : ¬t.val % 32 = 0) (h1 : ¬t.val % 32 = 31) (y : S2816x1024.Idx) :
    (outsAt0 (F := Ideal) m c t.val t.isLt).2.2.2.2.1 y = (outsAt0 (F := Ideal) m c (t.val - 1) (Nat.lt_of_le_of_lt (Nat.sub_le _ _) t.isLt)).2.2.2.2.1 (ix2 (y 0) (y 1)) + dwuB (iblk m c 0 t) (iblk m c 1 t) (iblk m c 3 t) (iblk m c 4 t) (iblk m c 7 t) (y 0) (y 1) := by
  rw [Gen.outsAt0_B m c t h0 h1]
  frame_open
  simp (disch := decide) only [↓ View.readCov_skip, ↓ View.readCov_cons_toLoadRect, ↓ View.readCov_fill]
  frame_out
  canon_tiles x hx
  all_goals
    first
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.2.1 (ix2 a b)) y _ (x 0) (x 1) (by decide) hx0 hx1) (at_rows (dwuB (iblk m c 0 t) (iblk m c 1 t) (iblk m c 3 t) (iblk m c 4 t) (iblk m c 7 t)) y _ (x 0) (x 1) (by decide) hx0 hx1)).symm
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.2.1 (ix2 a b)) y 0 (x 0) (x 1) (by decide) (hx0.trans (Nat.zero_add _).symm) hx1) (at_rows (dwuB (iblk m c 0 t) (iblk m c 1 t) (iblk m c 3 t) (iblk m c 4 t) (iblk m c 7 t)) y 0 (x 0) (x 1) (by decide) (hx0.trans (Nat.zero_add _).symm) hx1)).symm
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, h_at, k0_pay6, read_unread_whole, dwuB, dupB, dactB]

set_option maxHeartbeats 4000000 in
/-- At the last point the first result's block is the gradient of the layer's input. -/
theorem out8_C (c : Dev nD) (t : Fin cfg0.N) (h0 : ¬t.val % 32 = 0) (h1 : t.val % 32 = 31) (p : Fin 256) (k : Fin 1024) :
    (outsAt0 (F := Ideal) m c t.val t.isLt).1 (ix2 p k) = dxB (iblk m c 0 t) (iblk m c 1 t) (iblk m c 2 t) (iblk m c 3 t) (iblk m c 4 t) (iblk m c 5 t) (iblk m c 6 t) (iblk m c 7 t) p k := by
  rw [Gen.outsAt0_C m c t h0 h1]
  frame_open
  simp (disch := decide) only [↓ View.readCov_skip, ↓ View.readCov_cons_toLoadRect, ↓ View.readCov_fill]
  frame_out
  refine dx_at _ _ _ _ _ _ _ _ _ _ (dg_read _ _ _ _ _ fun y => ?_) (du_read _ _ _ _ fun y => ?_) p k
  · canon_tiles x hx
    all_goals
      first
        | refine Eq.trans ?_ (at_cols _ y _ (x 0) (x 1) (by decide) hx0 hx1).symm
        | refine Eq.trans ?_ (at_cols _ y 0 (x 0) (x 1) (by decide) hx0 (hx1.trans (Nat.zero_add _).symm)).symm
      pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dgateB, dactB]
  · canon_tiles x hx
    all_goals
      first
        | refine Eq.trans ?_ (at_cols _ y _ (x 0) (x 1) (by decide) hx0 hx1).symm
        | refine Eq.trans ?_ (at_cols _ y 0 (x 0) (x 1) (by decide) hx0 (hx1.trans (Nat.zero_add _).symm)).symm
      pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dupB, dactB]

set_option maxHeartbeats 4000000 in
theorem out9_C (c : Dev nD) (t : Fin cfg0.N) (h0 : ¬t.val % 32 = 0) (h1 : t.val % 32 = 31) (k : Fin 1024) :
    (outsAt0 (F := Ideal) m c t.val t.isLt).2.1 (ix2 0 k) = (outsAt0 (F := Ideal) m c (t.val - 1) (Nat.lt_of_le_of_lt (Nat.sub_le _ _) t.isLt)).2.1 (ix2 0 k) + dgB (iblk m c 0 t) (iblk m c 1 t) (iblk m c 2 t) (iblk m c 3 t) (iblk m c 4 t) (iblk m c 5 t) (iblk m c 6 t) k := by
  rw [Gen.outsAt0_C m c t h0 h1]
  frame_open
  simp (disch := decide) only [↓ View.readCov_skip, ↓ View.readCov_cons_toLoadRect, ↓ View.readCov_fill]
  frame_out
  generalize ha : k0_pay129 (F := Ideal) _ _ _ _ _ = a
  have e : a (ix2 0 k) = dgB (iblk m c 0 t) (iblk m c 1 t) (iblk m c 2 t) (iblk m c 3 t) (iblk m c 4 t) (iblk m c 5 t) (iblk m c 6 t) k := by
    rw [← ha]
    refine dg_at _ _ _ _ _ _ _ _ _ (dg_read _ _ _ _ _ fun y => ?_) (du_read _ _ _ _ fun y => ?_) k
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dgateB, dactB]
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dupB, dactB]
  clear ha
  pointwise [k0_pay1, k0_pay3, read_unread_whole, e]

set_option maxHeartbeats 4000000 in
theorem out10_C (c : Dev nD) (t : Fin cfg0.N) (h0 : ¬t.val % 32 = 0) (h1 : t.val % 32 = 31) (k : Fin 1024) :
    (outsAt0 (F := Ideal) m c t.val t.isLt).2.2.1 (ix2 0 k) = (outsAt0 (F := Ideal) m c (t.val - 1) (Nat.lt_of_le_of_lt (Nat.sub_le _ _) t.isLt)).2.2.1 (ix2 0 k) + dbB (iblk m c 0 t) (iblk m c 1 t) (iblk m c 2 t) (iblk m c 3 t) (iblk m c 4 t) (iblk m c 5 t) (iblk m c 6 t) (iblk m c 7 t) k := by
  rw [Gen.outsAt0_C m c t h0 h1]
  frame_open
  simp (disch := decide) only [↓ View.readCov_skip, ↓ View.readCov_cons_toLoadRect, ↓ View.readCov_fill]
  frame_out
  generalize ha : k0_pay130 (F := Ideal) _ _ _ _ _ _ _ _ = a
  have e : ∀ p k, a (ix2 p k) = dxB (iblk m c 0 t) (iblk m c 1 t) (iblk m c 2 t) (iblk m c 3 t) (iblk m c 4 t) (iblk m c 5 t) (iblk m c 6 t) (iblk m c 7 t) p k := by
    intro p k
    rw [← ha]
    refine dx_at _ _ _ _ _ _ _ _ _ _ (dg_read _ _ _ _ _ fun y => ?_) (du_read _ _ _ _ fun y => ?_) p k
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dgateB, dactB]
    · canon_tiles x hx
      all_goals
        first
          | refine Eq.trans ?_ (at_cols _ y _ (x 0) (x 1) (by decide) hx0 hx1).symm
          | refine Eq.trans ?_ (at_cols _ y 0 (x 0) (x 1) (by decide) hx0 (hx1.trans (Nat.zero_add _).symm)).symm
        pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, dupB, dactB]
  clear ha
  pointwise [k0_pay2, k0_pay4, read_unread_whole, e, dbB]

set_option maxHeartbeats 4000000 in
theorem accg_C (c : Dev nD) (t : Fin cfg0.N) (h0 : ¬t.val % 32 = 0) (h1 : t.val % 32 = 31) (y : S2816x1024.Idx) :
    (outsAt0 (F := Ideal) m c t.val t.isLt).2.2.2.1 y = (outsAt0 (F := Ideal) m c (t.val - 1) (Nat.lt_of_le_of_lt (Nat.sub_le _ _) t.isLt)).2.2.2.1 (ix2 (y 0) (y 1)) + dwgB (iblk m c 0 t) (iblk m c 1 t) (iblk m c 2 t) (iblk m c 3 t) (iblk m c 4 t) (iblk m c 7 t) (y 0) (y 1) := by
  rw [Gen.outsAt0_C m c t h0 h1]
  frame_open
  simp (disch := decide) only [↓ View.readCov_skip, ↓ View.readCov_cons_toLoadRect, ↓ View.readCov_fill]
  frame_out
  canon_tiles x hx
  all_goals
    first
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.1 (ix2 a b)) y _ (x 0) (x 1) (by decide) hx0 hx1) (at_rows (dwgB (iblk m c 0 t) (iblk m c 1 t) (iblk m c 2 t) (iblk m c 3 t) (iblk m c 4 t) (iblk m c 7 t)) y _ (x 0) (x 1) (by decide) hx0 hx1)).symm
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.1 (ix2 a b)) y 0 (x 0) (x 1) (by decide) (hx0.trans (Nat.zero_add _).symm) hx1) (at_rows (dwgB (iblk m c 0 t) (iblk m c 1 t) (iblk m c 2 t) (iblk m c 3 t) (iblk m c 4 t) (iblk m c 7 t)) y 0 (x 0) (x 1) (by decide) (hx0.trans (Nat.zero_add _).symm) hx1)).symm
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, h_at, k0_pay5, read_unread_whole, dwgB, dgateB, dactB]

set_option maxHeartbeats 4000000 in
theorem accu_C (c : Dev nD) (t : Fin cfg0.N) (h0 : ¬t.val % 32 = 0) (h1 : t.val % 32 = 31) (y : S2816x1024.Idx) :
    (outsAt0 (F := Ideal) m c t.val t.isLt).2.2.2.2.1 y = (outsAt0 (F := Ideal) m c (t.val - 1) (Nat.lt_of_le_of_lt (Nat.sub_le _ _) t.isLt)).2.2.2.2.1 (ix2 (y 0) (y 1)) + dwuB (iblk m c 0 t) (iblk m c 1 t) (iblk m c 3 t) (iblk m c 4 t) (iblk m c 7 t) (y 0) (y 1) := by
  rw [Gen.outsAt0_C m c t h0 h1]
  frame_open
  simp (disch := decide) only [↓ View.readCov_skip, ↓ View.readCov_cons_toLoadRect, ↓ View.readCov_fill]
  frame_out
  canon_tiles x hx
  all_goals
    first
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.2.1 (ix2 a b)) y _ (x 0) (x 1) (by decide) hx0 hx1) (at_rows (dwuB (iblk m c 0 t) (iblk m c 1 t) (iblk m c 3 t) (iblk m c 4 t) (iblk m c 7 t)) y _ (x 0) (x 1) (by decide) hx0 hx1)).symm
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.2.1 (ix2 a b)) y 0 (x 0) (x 1) (by decide) (hx0.trans (Nat.zero_add _).symm) hx1) (at_rows (dwuB (iblk m c 0 t) (iblk m c 1 t) (iblk m c 3 t) (iblk m c 4 t) (iblk m c 7 t)) y 0 (x 0) (x 1) (by decide) (hx0.trans (Nat.zero_add _).symm) hx1)).symm
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, h_at, k0_pay6, read_unread_whole, dwuB, dupB, dactB]

set_option maxHeartbeats 4000000 in
theorem dwg_C (c : Dev nD) (t : Fin cfg0.N) (h0 : ¬t.val % 32 = 0) (h1 : t.val % 32 = 31) (y : S2816x1024.Idx) :
    (outsAt0 (F := Ideal) m c t.val t.isLt).2.2.2.2.2.1 y = (outsAt0 (F := Ideal) m c (t.val - 1) (Nat.lt_of_le_of_lt (Nat.sub_le _ _) t.isLt)).2.2.2.1 (ix2 (y 0) (y 1)) + dwgB (iblk m c 0 t) (iblk m c 1 t) (iblk m c 2 t) (iblk m c 3 t) (iblk m c 4 t) (iblk m c 7 t) (y 0) (y 1) := by
  rw [Gen.outsAt0_C m c t h0 h1]
  unfold hbw0_C_0
  frame_open
  frame_out
  rw [View.write_whole_univ]
  refine (View.read_writes_apply_eq_canon _ _ _ _ (View.cover_of_tiled _ ![256, 1024] rfl _)).trans ?_
  canon_tiles x hx
  all_goals
    first
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.1 (ix2 a b)) y _ (x 0) (x 1) (by decide) hx0 hx1) (at_rows (dwgB (iblk m c 0 t) (iblk m c 1 t) (iblk m c 2 t) (iblk m c 3 t) (iblk m c 4 t) (iblk m c 7 t)) y _ (x 0) (x 1) (by decide) hx0 hx1)).symm
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.1 (ix2 a b)) y 0 (x 0) (x 1) (by decide) (hx0.trans (Nat.zero_add _).symm) hx1) (at_rows (dwgB (iblk m c 0 t) (iblk m c 1 t) (iblk m c 2 t) (iblk m c 3 t) (iblk m c 4 t) (iblk m c 7 t)) y 0 (x 0) (x 1) (by decide) (hx0.trans (Nat.zero_add _).symm) hx1)).symm
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, h_at, k0_pay5, read_unread_whole, dwgB, dgateB, dactB]

set_option maxHeartbeats 4000000 in
theorem dwu_C (c : Dev nD) (t : Fin cfg0.N) (h0 : ¬t.val % 32 = 0) (h1 : t.val % 32 = 31) (y : S2816x1024.Idx) :
    (outsAt0 (F := Ideal) m c t.val t.isLt).2.2.2.2.2.2 y = (outsAt0 (F := Ideal) m c (t.val - 1) (Nat.lt_of_le_of_lt (Nat.sub_le _ _) t.isLt)).2.2.2.2.1 (ix2 (y 0) (y 1)) + dwuB (iblk m c 0 t) (iblk m c 1 t) (iblk m c 3 t) (iblk m c 4 t) (iblk m c 7 t) (y 0) (y 1) := by
  rw [Gen.outsAt0_C m c t h0 h1]
  unfold hbw0_C_1
  frame_open
  frame_out
  rw [View.write_whole_univ]
  refine (View.read_writes_apply_eq_canon _ _ _ _ (View.cover_of_tiled _ ![256, 1024] rfl _)).trans ?_
  canon_tiles x hx
  all_goals
    first
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.2.1 (ix2 a b)) y _ (x 0) (x 1) (by decide) hx0 hx1) (at_rows (dwuB (iblk m c 0 t) (iblk m c 1 t) (iblk m c 3 t) (iblk m c 4 t) (iblk m c 7 t)) y _ (x 0) (x 1) (by decide) hx0 hx1)).symm
      | refine Eq.trans ?_ (congrArg₂ (HAdd.hAdd (α := EReal) (β := EReal)) (at_rows (fun a b => (outsAt0 (F := Ideal) m c (t.val - 1) (Nat.lt_of_le_of_lt (Nat.sub_le _ _) t.isLt)).2.2.2.2.1 (ix2 a b)) y 0 (x 0) (x 1) (by decide) (hx0.trans (Nat.zero_add _).symm) hx1) (at_rows (dwuB (iblk m c 0 t) (iblk m c 1 t) (iblk m c 3 t) (iblk m c 4 t) (iblk m c 7 t)) y 0 (x 0) (x 1) (by decide) (hx0.trans (Nat.zero_add _).symm) hx1)).symm
    pointwise [k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay7, h_at, k0_pay6, read_unread_whole, dwuB, dupB, dactB]

end Cert.FfnBwdIdeal.Block
end
-- ==== Proof.Ffn.Ref.lean ====
/- What the FFN reference's arrays hold, entry by entry: the normalised rows, the gates, their gradients and the five results. -/
module

public import proofs.«01_k».proof.Proof.Gen.FfnBwdRefIdeal.Read
public import proofs.«01_k».proof.Proof.Norm

@[expose] public section

set_option maxRecDepth 16384

noncomputable section

namespace Cert.FfnBwdRefIdeal.Read

open Cert.Norm Cert.Reals Cert.FfnBwdRefIdeal Cert.FfnBwdRefIdeal.Gen Idealize.ShloMosaic Idealize.ShloMosaic.TcCoe Idealize.SL.Sem

variable (x0 : S8192x1024.Idx → EReal) (x1 x2 : S1x1024.Idx → EReal) (x3 x4 : S1x1024x2816.Idx → EReal) (x5 : S1x2816x1024.Idx → EReal)
  (x6 : S8192x1024.Idx → EReal)

/-- A row of the layer's input with the bias. -/
def xR (i : Fin 8192) (k : Fin 1024) : EReal := x0 (ix2 i k) + x1 (ix2 0 k)

/-- The normalised and scaled row. -/
def hR (i : Fin 8192) (k : Fin 1024) : EReal := xR x0 x1 i k * Ideal.rsqrt (ms (xR x0 x1 i)) * x2 (ix2 0 k)

/-- The gate. -/
def gateR (i : Fin 8192) (j : Fin 2816) : EReal := ∑ k, hR x0 x1 x2 i k * x3 (ix3 0 k j)

/-- The gradient of the gated activation. -/
def dactR (i : Fin 8192) (j : Fin 2816) : EReal := ∑ k, x6 (ix2 i k) * x5 (ix3 0 j k)

/-- The gradient of the up projection. -/
def dupR (i : Fin 8192) (j : Fin 2816) : EReal :=
  gateR x0 x1 x2 x3 i j * Ideal.logistic (gateR x0 x1 x2 x3 i j) * dactR x5 x6 i j

/-- The gradient of the gate. -/
def dgateR (i : Fin 8192) (j : Fin 2816) : EReal :=
  dactR x5 x6 i j * gateR x0 x1 x2 x4 i j * Ideal.logistic (gateR x0 x1 x2 x3 i j)
    + gateR x0 x1 x2 x3 i j * (dactR x5 x6 i j * gateR x0 x1 x2 x4 i j)
      * (Ideal.logistic (gateR x0 x1 x2 x3 i j) * (1 - Ideal.logistic (gateR x0 x1 x2 x3 i j)))

/-- The gradient of the normalised and scaled input. -/
def dhR (i : Fin 8192) (k : Fin 1024) : EReal :=
  ∑ j, dupR x0 x1 x2 x3 x5 x6 i j * x4 (ix3 0 k j) + ∑ j, dgateR x0 x1 x2 x3 x4 x5 x6 i j * x3 (ix3 0 k j)

theorem ev3 (i : Fin 8192) (k : Fin 1024) : val_main_v3 (F := Ideal) x0 x1 (ix2 i k) = xR x0 x1 i k := by
  pointwise [val_main_v3, val_main_v2, val_main_v1, val_main_v0, xR]

theorem ev11 (i : Fin 8192) (z : Fin 1) : val_main_v11 (F := Ideal) x0 x1 (ix2 i z) = ms (xR x0 x1 i) := by
  unfold ms
  pointwise [val_main_v11, val_main_v10, val_main_v9, val_main_v8, val_main_v7, val_main_v6, val_main_v5, val_main_cst, val_main_cst_0, val_main_cst_1, ev3]

theorem ev12 (i : Fin 8192) (z : Fin 1) : val_main_v12 (F := Ideal) x0 x1 (ix2 i z) = Ideal.rsqrt (ms (xR x0 x1 i)) := by
  pointwise [val_main_v12, ev11]

theorem ev17 (i : Fin 8192) (k : Fin 1024) : val_main_v17 (F := Ideal) x0 x1 (ix2 i k) = xR x0 x1 i k * Ideal.rsqrt (ms (xR x0 x1 i)) := by
  pointwise [val_main_v17, val_main_v16, ev12, ev3]

theorem ev20 (i : Fin 8192) (k : Fin 1024) : val_main_v20 (F := Ideal) x0 x1 x2 (ix2 i k) = hR x0 x1 x2 i k := by
  pointwise [val_main_v20, val_main_v19, val_main_v18, val_main_v4, ev17, hR]

theorem ev22 (i : Fin 8192) (j : Fin 2816) : val_main_v22 (F := Ideal) x0 x1 x2 x3 (ix2 i j) = gateR x0 x1 x2 x3 i j := by
  have e := ev20 x0 x1 x2
  unfold val_main_v22
  revert e
  generalize val_main_v20 (F := Ideal) x0 x1 x2 = a
  intro e
  pointwise [e, val_main_v21, gateR]

theorem ev25 (i : Fin 8192) (j : Fin 2816) : val_main_v25 (F := Ideal) x0 x1 x2 x4 (ix2 i j) = gateR x0 x1 x2 x4 i j := by
  have e := ev20 x0 x1 x2
  unfold val_main_v25
  revert e
  generalize val_main_v20 (F := Ideal) x0 x1 x2 = a
  intro e
  pointwise [e, val_main_v24, gateR]

theorem ev32 (i : Fin 8192) (j : Fin 2816) : val_main_v32 (F := Ideal) x5 x6 (ix2 i j) = dactR x5 x6 i j := by
  pointwise [val_main_v32, val_main_v31, val_main_v27, dactR]

theorem evsig (i : Fin 8192) (j : Fin 2816) : val_main_v23_2 (F := Ideal) x0 x1 x2 x3 (ix2 i j) = Ideal.logistic (gateR x0 x1 x2 x3 i j) := by
  have e := ev22 x0 x1 x2 x3
  unfold val_main_v23_2 val_main_call0_v3 val_main_call0_v1 val_main_call0_v0
  revert e
  generalize val_main_v22 (F := Ideal) x0 x1 x2 x3 = a
  intro e
  unfold Ideal.logistic
  pointwise [e, val_main_call0_v4, val_main_call0_v2, val_main_call0_cst, val_main_call0_cst_0, cOne]
  rfl

theorem ev33 (i : Fin 8192) (j : Fin 2816) : val_main_v33 (F := Ideal) x0 x1 x2 x3 x5 x6 (ix2 i j) = dupR x0 x1 x2 x3 x5 x6 i j := by
  pointwise [val_main_v33, val_main_v23_0, ev22, evsig, ev32, dupR]

theorem ev39 (i : Fin 8192) (j : Fin 2816) : val_main_v39 (F := Ideal) x0 x1 x2 x3 x4 x5 x6 (ix2 i j) = dgateR x0 x1 x2 x3 x4 x5 x6 i j := by
  pointwise [val_main_v39, val_main_call1_v1, val_main_call1_v2, val_main_call1_v0, val_main_v34, val_main_v23_1, val_main_call0_v7, val_main_call0_v6, val_main_call0_cst_1, ev22, ev25, evsig, ev32, dgateR, cOne]
  rfl

theorem ev43 (i : Fin 8192) (k : Fin 1024) : val_main_v43 (F := Ideal) x0 x1 x2 x3 x4 x5 x6 (ix2 i k) = dhR x0 x1 x2 x3 x4 x5 x6 i k := by
  have e := ev33 x0 x1 x2 x3 x5 x6
  have e' := ev39 x0 x1 x2 x3 x4 x5 x6
  unfold val_main_v43 val_main_v37 val_main_v42
  revert e e'
  generalize val_main_v33 (F := Ideal) x0 x1 x2 x3 x5 x6 = a
  generalize val_main_v39 (F := Ideal) x0 x1 x2 x3 x4 x5 x6 = b
  intro e e'
  pointwise [e, e', val_main_v24, val_main_v21, dhR]

/-- The gradient of the layer's input. -/
def dxR (i : Fin 8192) (k : Fin 1024) : EReal :=
  x6 (ix2 i k) + dhR x0 x1 x2 x3 x4 x5 x6 i k * x2 (ix2 0 k) * Ideal.rsqrt (ms (xR x0 x1 i))
    + xR x0 x1 i k * Ideal.div ((∑ l, xR x0 x1 i l * (dhR x0 x1 x2 x3 x4 x5 x6 i l * x2 (ix2 0 l))) * (Ideal.ofBits FTy.f32 3204448256#32 * Ideal.div (Ideal.rsqrt (ms (xR x0 x1 i))) (ms (xR x0 x1 i)))) (Ideal.ofBits FTy.f32 1149239296#32)
    + Ideal.div ((∑ l, xR x0 x1 i l * (dhR x0 x1 x2 x3 x4 x5 x6 i l * x2 (ix2 0 l))) * (Ideal.ofBits FTy.f32 3204448256#32 * Ideal.div (Ideal.rsqrt (ms (xR x0 x1 i))) (ms (xR x0 x1 i)))) (Ideal.ofBits FTy.f32 1149239296#32) * xR x0 x1 i k

theorem ev49 (i : Fin 8192) (k : Fin 1024) : val_main_v49 (F := Ideal) x0 x1 x2 x3 x4 x5 x6 (ix2 i k) = dhR x0 x1 x2 x3 x4 x5 x6 i k * x2 (ix2 0 k) := by
  pointwise [val_main_v49, val_main_v48, val_main_v18, val_main_v4, ev43]

theorem ev52 (i : Fin 8192) : val_main_v52 (F := Ideal) x0 x1 x2 x3 x4 x5 x6 (ix1 i) = ∑ l, xR x0 x1 i l * (dhR x0 x1 x2 x3 x4 x5 x6 i l * x2 (ix2 0 l)) := by
  pointwise [val_main_v52, val_main_v51, val_main_cst_5, ev49, ev3]

theorem ev60 (i : Fin 8192) : val_main_v60 (F := Ideal) x0 x1 x2 x3 x4 x5 x6 (ix1 i)
    = Ideal.div ((∑ l, xR x0 x1 i l * (dhR x0 x1 x2 x3 x4 x5 x6 i l * x2 (ix2 0 l))) * (Ideal.ofBits FTy.f32 3204448256#32 * Ideal.div (Ideal.rsqrt (ms (xR x0 x1 i))) (ms (xR x0 x1 i)))) (Ideal.ofBits FTy.f32 1149239296#32) := by
  pointwise [val_main_v60, val_main_v59, val_main_v58, val_main_v57, val_main_v53, val_main_v15, val_main_v14, val_main_v13, val_main_cst_7, val_main_cst_6, val_main_cst_2, ev52, ev12, ev11]
  exact Fin.sum_univ_one _

theorem ev65 (i : Fin 8192) (k : Fin 1024) : val_main_v65 (F := Ideal) x0 x1 x2 x3 x4 x5 x6 (ix2 i k) = dxR x0 x1 x2 x3 x4 x5 x6 i k := by
  pointwise [val_main_v65, val_main_v64, val_main_v63, val_main_v62, val_main_v61, val_main_v56, val_main_v55, val_main_v54, val_main_v30, ev49, ev3, ev12, ev60, dxR]

theorem ev66 (k : Fin 1024) : val_main_v66 (F := Ideal) x0 x1 x2 x3 x4 x5 x6 (ix2 0 k)
    = ∑ i, xR x0 x1 i k * Ideal.rsqrt (ms (xR x0 x1 i)) * dhR x0 x1 x2 x3 x4 x5 x6 i k := by
  pointwise [val_main_v66, val_main_v50, val_main_v47, val_main_v46, val_main_v45, val_main_cst_4, val_main_cst_3, ev17, ev43]
  exact Fin.sum_univ_one _

theorem ev70 (k : Fin 1024) : val_main_v70 (F := Ideal) x0 x1 x2 x3 x4 x5 x6 (ix2 0 k) = ∑ i, dxR x0 x1 x2 x3 x4 x5 x6 i k := by
  pointwise [val_main_v70, val_main_v69, val_main_v68, val_main_v67, val_main_cst_9, val_main_cst_8, ev65]
  exact Fin.sum_univ_one _

theorem ev72 (j : Fin 2816) (k : Fin 1024) : val_main_v72 (F := Ideal) x0 x1 x2 x3 x4 x5 x6 (ix2 j k)
    = ∑ i, dgateR x0 x1 x2 x3 x4 x5 x6 i j * hR x0 x1 x2 i k := by
  have e := ev20 x0 x1 x2
  have e' := ev39 x0 x1 x2 x3 x4 x5 x6
  unfold val_main_v72 val_main_v71 val_main_v44 val_main_v41 val_main_v40
  revert e e'
  generalize val_main_v20 (F := Ideal) x0 x1 x2 = a
  generalize val_main_v39 (F := Ideal) x0 x1 x2 x3 x4 x5 x6 = b
  intro e e'
  pointwise [e, e']

theorem ev74 (j : Fin 2816) (k : Fin 1024) : val_main_v74 (F := Ideal) x0 x1 x2 x3 x5 x6 (ix2 j k)
    = ∑ i, dupR x0 x1 x2 x3 x5 x6 i j * hR x0 x1 x2 i k := by
  have e := ev20 x0 x1 x2
  have e' := ev33 x0 x1 x2 x3 x5 x6
  unfold val_main_v74 val_main_v73 val_main_v38 val_main_v36 val_main_v35
  revert e e'
  generalize val_main_v20 (F := Ideal) x0 x1 x2 = a
  generalize val_main_v33 (F := Ideal) x0 x1 x2 x3 x5 x6 = b
  intro e e'
  pointwise [e, e']

end Cert.FfnBwdRefIdeal.Read
end
-- ==== Proof.Ffn.Arrays.lean ====
/- The blocks of the FFN kernel's operands, in terms of the program's arguments. -/
module

public import proofs.«01_k».proof.Proof.Gen.FfnBwdIdeal.Value
public import proofs.«01_k».proof.Proof.Ffn.Ref
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.FfnBwdIdeal.Block

open Cert.Norm Cert.FfnBwdIdeal Cert.FfnBwdIdeal.Gen Idealize.ShloMosaic Idealize.ShloMosaic.TcCoe Idealize.SL.Sem

open Cert.FfnBwdRefIdeal.Read (xR hR gateR dactR dupR dgateR dhR dxR)

variable (m : (ℓ : Loc nD τ sig) → Buf (Elt Ideal) ℓ)

/-- Row `p` of tile `t`, as a row of the whole array. -/
def row (t : Fin cfg0.N) (p : Fin 256) : Fin 8192 := ⟨256 * t.val + p.val, by have : t.val < 32 := lt_of_lt_of_eq t.isLt Gen.N_0; omega⟩

theorem index_rows : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![0, 0] ∧ win0_10.index t = ![0, 0] := by decide +kernel

variable (c : Dev nD) (t : Fin cfg0.N)

theorem blk0 (p : Fin 256) (k : Fin 1024) : iblk m c 0 t (ix2 p k) = m ((c : Thread nD τ).loc main_arg6) (ix2 (row t p) k) := by
  blk_ext [iblk, V_main_arg6, index_rows t, row]
theorem blk7 (k : Fin 1024) : iblk m c 7 t (ix2 0 k) = m ((c : Thread nD τ).loc main_arg2) (ix2 0 k) := by
  blk_ext [iblk, V_main_arg2, index_rows t]
theorem blk4 (j : Fin 2816) (k : Fin 1024) : iblk m c 4 t (ix2 j k) = m ((c : Thread nD τ).loc main_arg5) (ix3 0 j k) := by
  blk_simp [iblk, index_rows t, row]
  entry_read
  pointwise
  refine congrArg _ ?_
  blk_ext [index_rows t]
theorem blk5 (j : Fin 2816) (k : Fin 1024) : iblk m c 5 t (ix2 j k) = m ((c : Thread nD τ).loc main_arg3) (ix3 0 k j) := by
  blk_simp [iblk, index_rows t, row]
  entry_read
  pointwise
  refine congrArg _ ?_
  blk_ext [index_rows t]
theorem blk6 (j : Fin 2816) (k : Fin 1024) : iblk m c 6 t (ix2 j k) = m ((c : Thread nD τ).loc main_arg4) (ix3 0 k j) := by
  blk_simp [iblk, index_rows t, row]
  entry_read
  pointwise
  refine congrArg _ ?_
  blk_ext [index_rows t]
theorem blk3 (p : Fin 256) (k : Fin 1024) : iblk m c 3 t (ix2 p k) = xR (m ((c : Thread nD τ).loc main_arg0)) (m ((c : Thread nD τ).loc main_arg1)) (row t p) k := by
  blk_simp [iblk]
  rw [show (win0_3.blk t).view.emb (ix2 p k) = ix2 (row t p) k from ?_]
  · entry_read
    pointwise [xR]
  · blk_ext [index_rows t, row]
theorem blk1 (p : Fin 256) (j : Fin 2816) : iblk m c 1 t (ix2 p j) = gateR (m ((c : Thread nD τ).loc main_arg0)) (m ((c : Thread nD τ).loc main_arg1)) (m ((c : Thread nD τ).loc main_arg2)) (m ((c : Thread nD τ).loc main_arg3)) (row t p) j := by
  blk_simp [iblk]
  rw [show (win0_1.blk t).view.emb (ix2 p j) = ix2 (row t p) j from ?_]
  · entry_read
    pointwise [gateR, hR, xR, ms]
  · blk_ext [index_rows t, row]
theorem blk2 (p : Fin 256) (j : Fin 2816) : iblk m c 2 t (ix2 p j) = gateR (m ((c : Thread nD τ).loc main_arg0)) (m ((c : Thread nD τ).loc main_arg1)) (m ((c : Thread nD τ).loc main_arg2)) (m ((c : Thread nD τ).loc main_arg4)) (row t p) j := by
  blk_simp [iblk]
  rw [show (win0_2.blk t).view.emb (ix2 p j) = ix2 (row t p) j from ?_]
  · entry_read
    pointwise [gateR, hR, xR, ms]
  · blk_ext [index_rows t, row]

end Cert.FfnBwdIdeal.Block
end
-- ==== Proof.Ffn.Value.lean ====
/- The arrays the FFN kernel leaves, in terms of the program's finite arguments: they are the reference's. -/
module

public import proofs.«01_k».proof.Proof.Ffn.Block
public import proofs.«01_k».proof.Proof.Ffn.Arrays

@[expose] public section

set_option maxRecDepth 16384

noncomputable section

namespace Cert.FfnBwdIdeal.Block

open Cert.Reals Cert.Norm Cert.FfnBwdIdeal Cert.FfnBwdIdeal.Gen Idealize.ShloMosaic Idealize.ShloMosaic.TcCoe Idealize.SL.Sem
open Cert.FfnBwdRefIdeal.Read (xR hR gateR dactR dupR dgateR dhR dxR)
open Idealize.ShloMosaic.Pipeline (Dat)

/-! Of real arguments every array on the way is real. -/

theorem logistic_real (x : EReal) (h : IsReal x) : IsReal (Ideal.logistic x) := by
  obtain ⟨v, rfl⟩ := h
  exact ⟨_, Ideal.logistic_coe _⟩

/-- The gate's gradient in the kernel's form is the reference's: the derivative of `g · σ(g)` taken at once or in turn. -/
theorem gate_form (d u g : EReal) (hd : IsReal d) (hu : IsReal u) (hg : IsReal g) :
    d * u * (Ideal.logistic g + g * Ideal.logistic g * (Ideal.ofBits FTy.f32 1065353216#32 - Ideal.logistic g))
      = d * u * Ideal.logistic g + g * (d * u) * (Ideal.logistic g * (1 - Ideal.logistic g)) := by
  obtain ⟨s, hs⟩ := logistic_real g hg
  obtain ⟨D, rfl⟩ := hd
  obtain ⟨U, rfl⟩ := hu
  obtain ⟨G, rfl⟩ := hg
  rw [hs, cOne, ← EReal.coe_one]
  simp only [← EReal.coe_mul, ← EReal.coe_sub, ← EReal.coe_add]
  congr 1
  ring

section
variable (x0 : S8192x1024.Idx → EReal) (x1 x2 : S1x1024.Idx → EReal) (x3 x4 : S1x1024x2816.Idx → EReal) (x5 : S1x2816x1024.Idx → EReal)
  (x6 : S8192x1024.Idx → EReal)
variable (h0 : ∀ y, IsReal (x0 y)) (h1 : ∀ y, IsReal (x1 y)) (h2 : ∀ y, IsReal (x2 y)) (h3 : ∀ y, IsReal (x3 y)) (h4 : ∀ y, IsReal (x4 y))
  (h5 : ∀ y, IsReal (x5 y)) (h6 : ∀ y, IsReal (x6 y))

include h0 h1 in
theorem xR_real (i : Fin 8192) (k : Fin 1024) : IsReal (xR x0 x1 i k) := (h0 _).add (h1 _)

/-- The reciprocal root of a real row's mean square is real. -/
theorem rsqrt_real (x : Fin 1024 → EReal) (hx : ∀ k, IsReal (x k)) : IsReal (Ideal.rsqrt (ms x)) := by
  choose X hX using hx
  obtain rfl : x = fun k => (X k : EReal) := funext hX
  obtain ⟨v, hv, hms⟩ := ms_real X
  rw [hms, rsqrt_coe v hv]
  exact isReal_coe _

include h0 h1 h2 in
theorem hR_real (i : Fin 8192) (k : Fin 1024) : IsReal (hR x0 x1 x2 i k) :=
  ((xR_real x0 x1 h0 h1 i k).mul (rsqrt_real _ (xR_real x0 x1 h0 h1 i))).mul (h2 _)

include h0 h1 h2 h3 in
theorem gateR_real (i : Fin 8192) (j : Fin 2816) : IsReal (gateR x0 x1 x2 x3 i j) :=
  IsReal.sum fun k _ => (hR_real x0 x1 x2 h0 h1 h2 i k).mul (h3 _)

include h5 h6 in
theorem dactR_real (i : Fin 8192) (j : Fin 2816) : IsReal (dactR x5 x6 i j) := IsReal.sum fun k _ => (h6 _).mul (h5 _)

include h0 h1 h2 h3 h4 h5 h6 in
theorem dhR_real (i : Fin 8192) (k : Fin 1024) : IsReal (dhR x0 x1 x2 x3 x4 x5 x6 i k) := by
  have g := gateR_real x0 x1 x2 x3 h0 h1 h2 h3 i
  have u := gateR_real x0 x1 x2 x4 h0 h1 h2 h4 i
  have d := dactR_real x5 x6 h5 h6 i
  have s := fun j => logistic_real _ (g j)
  refine (IsReal.sum fun j _ => IsReal.mul (((g j).mul (s j)).mul (d j)) (h4 _)).add (IsReal.sum fun j _ => IsReal.mul ?_ (h3 _))
  exact (((d j).mul (u j)).mul (s j)).add (((g j).mul ((d j).mul (u j))).mul ((s j).mul (isReal_one.sub (s j))))
end

variable (m : (ℓ : Loc nD τ sig) → Buf (Elt Ideal) ℓ) (c : Dev nD)

/-- Every argument is real. -/
def RealArgs : Prop :=
  (∀ y, IsReal ((m ((c : Thread nD τ).loc main_arg0)) y)) ∧ (∀ y, IsReal ((m ((c : Thread nD τ).loc main_arg1)) y)) ∧ (∀ y, IsReal ((m ((c : Thread nD τ).loc main_arg2)) y)) ∧ (∀ y, IsReal ((m ((c : Thread nD τ).loc main_arg3)) y)) ∧ (∀ y, IsReal ((m ((c : Thread nD τ).loc main_arg4)) y)) ∧ (∀ y, IsReal ((m ((c : Thread nD τ).loc main_arg5)) y)) ∧ (∀ y, IsReal ((m ((c : Thread nD τ).loc main_arg6)) y))

variable (t : Fin cfg0.N)

theorem dact_eq (p : Fin 256) (j : Fin 2816) : dactB (iblk m c 0 t) (iblk m c 4 t) p j = dactR (m ((c : Thread nD τ).loc main_arg5)) (m ((c : Thread nD τ).loc main_arg6)) (row t p) j := by
  unfold dactB dactR
  simp only [blk0, blk4]

theorem dup_eq (p : Fin 256) (j : Fin 2816) : dupB (iblk m c 0 t) (iblk m c 1 t) (iblk m c 4 t) p j = dupR (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (row t p) j := by
  unfold dupB dupR
  rw [dact_eq, blk1, mul_comm]

theorem r_eq (p : Fin 256) : rB (iblk m c 3 t) p = Ideal.rsqrt (ms (xR (m ((c : Thread nD τ).loc main_arg0)) (m ((c : Thread nD τ).loc main_arg1)) (row t p))) := by
  unfold rB ms
  simp only [blk3]

theorem n_eq (p : Fin 256) (k : Fin 1024) : nB (iblk m c 3 t) p k = xR (m ((c : Thread nD τ).loc main_arg0)) (m ((c : Thread nD τ).loc main_arg1)) (row t p) k * Ideal.rsqrt (ms (xR (m ((c : Thread nD τ).loc main_arg0)) (m ((c : Thread nD τ).loc main_arg1)) (row t p))) := by
  unfold nB
  rw [r_eq, blk3]

theorem h_eq (p : Fin 256) (k : Fin 1024) : hB (iblk m c 3 t) (iblk m c 7 t) p k = hR (m ((c : Thread nD τ).loc main_arg0)) (m ((c : Thread nD τ).loc main_arg1)) (m ((c : Thread nD τ).loc main_arg2)) (row t p) k := by
  unfold hB hR
  rw [n_eq, blk7]

variable (hr : RealArgs m c)
include hr

theorem dgate_eq (p : Fin 256) (j : Fin 2816) :
    dgateB (iblk m c 0 t) (iblk m c 1 t) (iblk m c 2 t) (iblk m c 4 t) p j = dgateR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t p) j := by
  obtain ⟨h0, h1, h2, h3, h4, h5, h6⟩ := hr
  unfold dgateB dgateR
  rw [dact_eq, blk1, blk2]
  exact gate_form _ _ _ (dactR_real _ _ h5 h6 _ _) (gateR_real _ _ _ _ h0 h1 h2 h4 _ _) (gateR_real _ _ _ _ h0 h1 h2 h3 _ _)

theorem dh_eq (p : Fin 256) (k : Fin 1024) :
    dhB (iblk m c 0 t) (iblk m c 1 t) (iblk m c 2 t) (iblk m c 4 t) (iblk m c 5 t) (iblk m c 6 t) p k = dhR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t p) k := by
  unfold dhB dhR
  simp only [dgate_eq m c t hr, dup_eq, blk5, blk6]
  exact add_comm (G := EReal) _ _

theorem dx_eq (p : Fin 256) (k : Fin 1024) : dxB (iblk m c 0 t) (iblk m c 1 t) (iblk m c 2 t) (iblk m c 3 t) (iblk m c 4 t) (iblk m c 5 t) (iblk m c 6 t) (iblk m c 7 t) p k = dxR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t p) k := by
  obtain ⟨h0, h1, h2, h3, h4, h5, h6⟩ := id hr
  unfold dxB dxR
  simp only [dh_eq m c t hr, n_eq, r_eq, blk7, blk0]
  exact rms_bwd (xR _ _ _) (fun k => dhR _ _ _ _ _ _ _ _ k * (m ((c : Thread nD τ).loc main_arg2)) (ix2 0 k)) (xR_real _ _ h0 h1 _) (fun k => (dhR_real _ _ _ _ _ _ _ h0 h1 h2 h3 h4 h5 h6 _ k).mul (h2 _)) _ k

theorem dg_eq (k : Fin 1024) : dgB (iblk m c 0 t) (iblk m c 1 t) (iblk m c 2 t) (iblk m c 3 t) (iblk m c 4 t) (iblk m c 5 t) (iblk m c 6 t) k = ∑ p, xR (m ((c : Thread nD τ).loc main_arg0)) (m ((c : Thread nD τ).loc main_arg1)) (row t p) k * Ideal.rsqrt (ms (xR (m ((c : Thread nD τ).loc main_arg0)) (m ((c : Thread nD τ).loc main_arg1)) (row t p))) * dhR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t p) k := by
  unfold dgB
  exact Finset.sum_congr rfl fun p _ => (congrArg₂ (fun a b : EReal => a * b) (dh_eq m c t hr p k) (n_eq m c t p k)).trans (mul_comm _ _)

theorem db_eq (k : Fin 1024) : dbB (iblk m c 0 t) (iblk m c 1 t) (iblk m c 2 t) (iblk m c 3 t) (iblk m c 4 t) (iblk m c 5 t) (iblk m c 6 t) (iblk m c 7 t) k = ∑ p, dxR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t p) k := by
  unfold dbB
  exact Finset.sum_congr rfl fun p _ => dx_eq m c t hr p k

theorem dwg_eq (j : Fin 2816) (k : Fin 1024) : dwgB (iblk m c 0 t) (iblk m c 1 t) (iblk m c 2 t) (iblk m c 3 t) (iblk m c 4 t) (iblk m c 7 t) j k = ∑ p, dgateR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t p) j * hR (m ((c : Thread nD τ).loc main_arg0)) (m ((c : Thread nD τ).loc main_arg1)) (m ((c : Thread nD τ).loc main_arg2)) (row t p) k := by
  unfold dwgB
  exact Finset.sum_congr rfl fun p _ => congrArg₂ (fun a b : EReal => a * b) (dgate_eq m c t hr p j) (h_eq m c t p k)

omit hr in
theorem dwu_eq (j : Fin 2816) (k : Fin 1024) : dwuB (iblk m c 0 t) (iblk m c 1 t) (iblk m c 3 t) (iblk m c 4 t) (iblk m c 7 t) j k = ∑ p, dupR (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (row t p) j * hR (m ((c : Thread nD τ).loc main_arg0)) (m ((c : Thread nD τ).loc main_arg1)) (m ((c : Thread nD τ).loc main_arg2)) (row t p) k := by
  unfold dwuB
  exact Finset.sum_congr rfl fun p _ => congrArg₂ (fun a b : EReal => a * b) (dup_eq m c t p j) (h_eq m c t p k)

omit hr in
/-- A sum over the tiles and the rows of each is a sum over all rows. -/
theorem sum_rows (f : Fin 8192 → EReal) : ∑ t : Fin cfg0.N, ∑ p : Fin 256, f (row t p) = ∑ i, f i :=
  Fin.sum_mul_add_congr (fun s k hl => congrArg f (Fin.ext (by show 256 * s.val + k.val = s.val * 256 + k.val; omega))) (by rw [show cfg0.N = 32 from Gen.N_0])

/-- The last point. -/
def tL : Fin cfg0.N := ⟨31, lt_of_lt_of_eq (by decide) Gen.N_0.symm⟩

omit hr in
theorem out9_step (k : Fin 1024) (h0 : ¬t.val % 32 = 0) :
    (outsAt0 (F := Ideal) m c t.val t.isLt).2.1 (ix2 0 k) = (outsAt0 (F := Ideal) m c (t.val - 1) (Nat.lt_of_le_of_lt (Nat.sub_le _ _) t.isLt)).2.1 (ix2 0 k) + dgB (iblk m c 0 t) (iblk m c 1 t) (iblk m c 2 t) (iblk m c 3 t) (iblk m c 4 t) (iblk m c 5 t) (iblk m c 6 t) k := by
  by_cases h1 : t.val % 32 = 31
  · exact out9_C m c t h0 h1 k
  · exact out9_B m c t h0 h1 k

omit hr in
theorem out10_step (k : Fin 1024) (h0 : ¬t.val % 32 = 0) :
    (outsAt0 (F := Ideal) m c t.val t.isLt).2.2.1 (ix2 0 k) = (outsAt0 (F := Ideal) m c (t.val - 1) (Nat.lt_of_le_of_lt (Nat.sub_le _ _) t.isLt)).2.2.1 (ix2 0 k) + dbB (iblk m c 0 t) (iblk m c 1 t) (iblk m c 2 t) (iblk m c 3 t) (iblk m c 4 t) (iblk m c 5 t) (iblk m c 6 t) (iblk m c 7 t) k := by
  by_cases h1 : t.val % 32 = 31
  · exact out10_C m c t h0 h1 k
  · exact out10_B m c t h0 h1 k

omit hr in
theorem accg_step (y : S2816x1024.Idx) (h0 : ¬t.val % 32 = 0) :
    (outsAt0 (F := Ideal) m c t.val t.isLt).2.2.2.1 y = (outsAt0 (F := Ideal) m c (t.val - 1) (Nat.lt_of_le_of_lt (Nat.sub_le _ _) t.isLt)).2.2.2.1 y + dwgB (iblk m c 0 t) (iblk m c 1 t) (iblk m c 2 t) (iblk m c 3 t) (iblk m c 4 t) (iblk m c 7 t) (y 0) (y 1) := by
  obtain ⟨j, k, rfl⟩ : ∃ (j : Fin 2816) (k : Fin 1024), y = ix2 j k := ⟨y 0, y 1, eq_ix2 y⟩
  by_cases h1 : t.val % 32 = 31
  · exact accg_C m c t h0 h1 (ix2 j k)
  · exact accg_B m c t h0 h1 (ix2 j k)

omit hr in
theorem accu_step (y : S2816x1024.Idx) (h0 : ¬t.val % 32 = 0) :
    (outsAt0 (F := Ideal) m c t.val t.isLt).2.2.2.2.1 y = (outsAt0 (F := Ideal) m c (t.val - 1) (Nat.lt_of_le_of_lt (Nat.sub_le _ _) t.isLt)).2.2.2.2.1 y + dwuB (iblk m c 0 t) (iblk m c 1 t) (iblk m c 3 t) (iblk m c 4 t) (iblk m c 7 t) (y 0) (y 1) := by
  obtain ⟨j, k, rfl⟩ : ∃ (j : Fin 2816) (k : Fin 1024), y = ix2 j k := ⟨y 0, y 1, eq_ix2 y⟩
  by_cases h1 : t.val % 32 = 31
  · exact accu_C m c t h0 h1 (ix2 j k)
  · exact accu_B m c t h0 h1 (ix2 j k)

/-- The norm weight's gradient after the run. -/
theorem arr9 (k : Fin 1024) : (dats m 0 c).arrAt 9 cfg0.N (ix2 0 k) = ∑ i, xR (m ((c : Thread nD τ).loc main_arg0)) (m ((c : Thread nD τ).loc main_arg1)) i k * Ideal.rsqrt (ms (xR (m ((c : Thread nD τ).loc main_arg0)) (m ((c : Thread nD τ).loc main_arg1)) i)) * dhR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k := by
  suffices h : (dats m 0 c).arrAt 9 cfg0.N = fun y => ∑ i, xR (m ((c : Thread nD τ).loc main_arg0)) (m ((c : Thread nD τ).loc main_arg1)) i (y 1) * Ideal.rsqrt (ms (xR (m ((c : Thread nD τ).loc main_arg0)) (m ((c : Thread nD τ).loc main_arg1)) i)) * dhR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i (y 1) from congrFun h (ix2 0 k)
  refine (dats m 0 c).arrAt_eq_of_after_last 9 tL (by decide +kernel) _ fun y => ?_
  obtain ⟨k, rfl⟩ : ∃ k : Fin 1024, y = ix2 0 k := ⟨y 1, (eq_ix2 y).trans (congrArg (fun a => ix2 a (y 1)) (Subsingleton.elim _ _))⟩
  blk_simp
  rw [after0_9]
  refine Eq.trans ?_ (show ∑ i, xR (m ((c : Thread nD τ).loc main_arg0)) (m ((c : Thread nD τ).loc main_arg1)) i k * Ideal.rsqrt (ms (xR (m ((c : Thread nD τ).loc main_arg0)) (m ((c : Thread nD τ).loc main_arg1)) i)) * dhR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k = _ from rfl)
  refine (Pipeline.eq_sum_fin_of_reset_step_apply_last (fun n h y => (outsAt0 m c n h).2.1 (ix2 0 y)) 32 (fun _ => (0 : EReal))
    (fun t k => ∑ p, xR (m ((c : Thread nD τ).loc main_arg0)) (m ((c : Thread nD τ).loc main_arg1)) (row t p) k * Ideal.rsqrt (ms (xR (m ((c : Thread nD τ).loc main_arg0)) (m ((c : Thread nD τ).loc main_arg1)) (row t p))) * dhR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t p) k) (fun t h k => ?_) (fun t h k => ?_) (le_of_eq Gen.N_0) tL rfl k).trans ?_
  · exact ((out9_A m c t h (by omega) k).trans (dg_eq m c t hr k)).trans (zero_add (M := EReal) _).symm
  · exact (out9_step m c t k h).trans (congrArg (fun z : EReal => (outsAt0 (F := Ideal) m c (t.val - 1) (Nat.lt_of_le_of_lt (Nat.sub_le _ _) t.isLt)).2.1 (ix2 0 k) + z) (dg_eq m c t hr k))
  · rw [zero_add]
    exact sum_rows fun i => xR (m ((c : Thread nD τ).loc main_arg0)) (m ((c : Thread nD τ).loc main_arg1)) i k * Ideal.rsqrt (ms (xR (m ((c : Thread nD τ).loc main_arg0)) (m ((c : Thread nD τ).loc main_arg1)) i)) * dhR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k

/-- The bias's gradient after the run. -/
theorem arr10 (k : Fin 1024) : (dats m 0 c).arrAt 10 cfg0.N (ix2 0 k) = ∑ i, dxR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k := by
  suffices h : (dats m 0 c).arrAt 10 cfg0.N = fun y => ∑ i, dxR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i (y 1) from congrFun h (ix2 0 k)
  refine (dats m 0 c).arrAt_eq_of_after_last 10 tL (by decide +kernel) _ fun y => ?_
  obtain ⟨k, rfl⟩ : ∃ k : Fin 1024, y = ix2 0 k := ⟨y 1, (eq_ix2 y).trans (congrArg (fun a => ix2 a (y 1)) (Subsingleton.elim _ _))⟩
  blk_simp
  rw [after0_10]
  refine Eq.trans ?_ (show ∑ i, dxR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k = _ from rfl)
  refine (Pipeline.eq_sum_fin_of_reset_step_apply_last (fun n h y => (outsAt0 m c n h).2.2.1 (ix2 0 y)) 32 (fun _ => (0 : EReal))
    (fun t k => ∑ p, dxR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t p) k) (fun t h k => ?_) (fun t h k => ?_) (le_of_eq Gen.N_0) tL rfl k).trans ?_
  · exact ((out10_A m c t h (by omega) k).trans (db_eq m c t hr k)).trans (zero_add (M := EReal) _).symm
  · exact (out10_step m c t k h).trans (congrArg (fun z : EReal => (outsAt0 (F := Ideal) m c (t.val - 1) (Nat.lt_of_le_of_lt (Nat.sub_le _ _) t.isLt)).2.2.1 (ix2 0 k) + z) (db_eq m c t hr k))
  · rw [zero_add]
    exact sum_rows fun i => dxR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k

/-- The gate weight's gradient in its accumulator at the last point. -/
theorem accg_last (ht : t.val = 31) (j : Fin 2816) (k : Fin 1024) : (outsAt0 (F := Ideal) m c t.val t.isLt).2.2.2.1 (ix2 j k) = ∑ i, dgateR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i j * hR (m ((c : Thread nD τ).loc main_arg0)) (m ((c : Thread nD τ).loc main_arg1)) (m ((c : Thread nD τ).loc main_arg2)) i k := by
  refine (Pipeline.eq_sum_fin_of_reset_step_apply_last (fun n h y => (outsAt0 m c n h).2.2.2.1 y) 32 (fun _ => (0 : EReal))
    (fun t y => ∑ p, dgateR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (row t p) (y 0) * hR (m ((c : Thread nD τ).loc main_arg0)) (m ((c : Thread nD τ).loc main_arg1)) (m ((c : Thread nD τ).loc main_arg2)) (row t p) (y 1)) (fun t h y => ?_) (fun t h y => ?_) (le_of_eq Gen.N_0) t (by have : cfg0.N = 32 := N_0; omega) (ix2 j k)).trans ?_
  · exact ((accg_A m c t h (by omega) y).trans (dwg_eq m c t hr (y 0) (y 1))).trans (zero_add (M := EReal) _).symm
  · exact (accg_step m c t y h).trans (congrArg (fun z : EReal => (outsAt0 (F := Ideal) m c (t.val - 1) (Nat.lt_of_le_of_lt (Nat.sub_le _ _) t.isLt)).2.2.2.1 y + z) (dwg_eq m c t hr (y 0) (y 1)))
  · rw [zero_add]
    exact sum_rows fun i => dgateR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i j * hR (m ((c : Thread nD τ).loc main_arg0)) (m ((c : Thread nD τ).loc main_arg1)) (m ((c : Thread nD τ).loc main_arg2)) i k

omit hr in
/-- The up weight's gradient in its accumulator at the last point. -/
theorem accu_last (ht : t.val = 31) (j : Fin 2816) (k : Fin 1024) : (outsAt0 (F := Ideal) m c t.val t.isLt).2.2.2.2.1 (ix2 j k) = ∑ i, dupR (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) i j * hR (m ((c : Thread nD τ).loc main_arg0)) (m ((c : Thread nD τ).loc main_arg1)) (m ((c : Thread nD τ).loc main_arg2)) i k := by
  refine (Pipeline.eq_sum_fin_of_reset_step_apply_last (fun n h y => (outsAt0 m c n h).2.2.2.2.1 y) 32 (fun _ => (0 : EReal))
    (fun t y => ∑ p, dupR (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (row t p) (y 0) * hR (m ((c : Thread nD τ).loc main_arg0)) (m ((c : Thread nD τ).loc main_arg1)) (m ((c : Thread nD τ).loc main_arg2)) (row t p) (y 1)) (fun t h y => ?_) (fun t h y => ?_) (le_of_eq Gen.N_0) t (by have : cfg0.N = 32 := N_0; omega) (ix2 j k)).trans ?_
  · exact ((accu_A m c t h (by omega) y).trans (dwu_eq m c t (y 0) (y 1))).trans (zero_add (M := EReal) _).symm
  · exact (accu_step m c t y h).trans (congrArg (fun z : EReal => (outsAt0 (F := Ideal) m c (t.val - 1) (Nat.lt_of_le_of_lt (Nat.sub_le _ _) t.isLt)).2.2.2.2.1 y + z) (dwu_eq m c t (y 0) (y 1)))
  · rw [zero_add]
    exact sum_rows fun i => dupR (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) i j * hR (m ((c : Thread nD τ).loc main_arg0)) (m ((c : Thread nD τ).loc main_arg1)) (m ((c : Thread nD τ).loc main_arg2)) i k

/-- The copies of the accumulators that the last point makes. -/
theorem dwg_last (n : Nat) (h : n < cfg0.N) (hn : n = 31) (j : Fin 2816) (k : Fin 1024) :
    (outsAt0 (F := Ideal) m c n h).2.2.2.2.2.1 (ix2 j k) = ∑ i, dgateR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i j * hR (m ((c : Thread nD τ).loc main_arg0)) (m ((c : Thread nD τ).loc main_arg1)) (m ((c : Thread nD τ).loc main_arg2)) i k := by
  have h0 : ¬n % 32 = 0 := by omega
  have h1 : n % 32 = 31 := by omega
  exact ((dwg_C m c ⟨n, h⟩ h0 h1 (ix2 j k)).trans (accg_C m c ⟨n, h⟩ h0 h1 (ix2 j k)).symm).trans (accg_last m c ⟨n, h⟩ hr hn j k)

omit hr in
theorem dwu_last (n : Nat) (h : n < cfg0.N) (hn : n = 31) (j : Fin 2816) (k : Fin 1024) :
    (outsAt0 (F := Ideal) m c n h).2.2.2.2.2.2 (ix2 j k) = ∑ i, dupR (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) i j * hR (m ((c : Thread nD τ).loc main_arg0)) (m ((c : Thread nD τ).loc main_arg1)) (m ((c : Thread nD τ).loc main_arg2)) i k := by
  have h0 : ¬n % 32 = 0 := by omega
  have h1 : n % 32 = 31 := by omega
  exact ((dwu_C m c ⟨n, h⟩ h0 h1 (ix2 j k)).trans (accu_C m c ⟨n, h⟩ h0 h1 (ix2 j k)).symm).trans (accu_last m c ⟨n, h⟩ hn j k)

omit hr in
theorem out8 (p : Fin 256) (k : Fin 1024) : (outsAt0 (F := Ideal) m c t.val t.isLt).1 (ix2 p k) = dxB (iblk m c 0 t) (iblk m c 1 t) (iblk m c 2 t) (iblk m c 3 t) (iblk m c 4 t) (iblk m c 5 t) (iblk m c 6 t) (iblk m c 7 t) p k := by
  by_cases h0 : t.val % 32 = 0
  · exact out8_A m c t h0 (by omega) p k
  · by_cases h1 : t.val % 32 = 31
    · exact out8_C m c t h0 h1 p k
    · exact out8_B m c t h0 h1 p k

/-- The gradient of the layer's input after the run. -/
theorem arr8 (i : Fin 8192) (k : Fin 1024) : (dats m 0 c).arrAt 8 cfg0.N (ix2 i k) = dxR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i k := by
  suffices h : (dats m 0 c).arrAt 8 cfg0.N = fun y => dxR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1) from congrFun h (ix2 i k)
  refine (dats m 0 c).arrAt_eq_of_covers 8 _ (by decide +kernel) fun t hf y => ?_
  obtain ⟨p, k, rfl⟩ : ∃ (p : Fin 256) (k : Fin 1024), y = ix2 p k := ⟨y 0, y 1, eq_ix2 y⟩
  blk_simp
  rw [after0_8]
  refine ((out8 m c t p k).trans (dx_eq m c t hr p k)).trans ?_
  refine Eq.trans ?_ (congrArg (fun y : S8192x1024.Idx => dxR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (y 0) (y 1)) (show ix2 (row t p) k = _ from ?_))
  · rfl
  · blk_ext [index_rows t, row]

end Cert.FfnBwdIdeal.Block
end
-- ==== Proof.Ffn.Claim.lean ====
/- The value claim of the FFN's backward call: the five arrays the kernel leaves are the reference's. -/
module

public import proofs.«01_k».proof.Defs
public import proofs.«01_k».proof.Proof.Ffn.Value
public import proofs.«01_k».proof.Proof.Gen.FfnBwdRefIdeal.Run
public import proofs.«01_k».proof.Proof.Gen.Pre_finite_ffn

@[expose] public section

set_option maxRecDepth 16384

noncomputable section

namespace Cert.FfnBwdIdeal.Block

open Cert.Reals Cert.Norm Cert.FfnBwdIdeal Cert.FfnBwdIdeal.Gen Idealize.ShloMosaic Idealize.ShloMosaic.TcCoe Idealize.SL.Sem

variable (m : (ℓ : Loc nD τ sig) → Buf (Elt Ideal) ℓ)

/-- The precondition, entry by entry. -/
theorem pre_real (h : Cert.Pre_FfnBwdIdeal_finite_ffn m) (c : Dev nD) : RealArgs m c := by
  obtain ⟨h0, h1, h2, h3, h4, h5, h6⟩ := h c
  exact ⟨fun y => isReal_of_cmp (congrFun h0 y), fun y => isReal_of_cmp (congrFun h1 y), fun y => isReal_of_cmp (congrFun h2 y), fun y => isReal_of_cmp (congrFun h3 y),
    fun y => isReal_of_cmp (congrFun h4 y), fun y => isReal_of_cmp (congrFun h5 y), fun y => isReal_of_cmp (congrFun h6 y)⟩

/-- The reference's gradient of the layer's input is the array the kernel leaves. -/
theorem same_dx (hpre : Cert.Pre_FfnBwdIdeal_finite_ffn m) (c : Dev nD) :
    Cert.FfnBwdRefIdeal.Read.val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = (dats m 0 c).arrAt 8 cfg0.N := by
  funext y
  obtain ⟨i, k, rfl⟩ : ∃ (i : Fin 8192) (k : Fin 1024), y = ix2 i k := ⟨y 0, y 1, eq_ix2 y⟩
  exact (Cert.FfnBwdRefIdeal.Read.ev65 _ _ _ _ _ _ _ i k).trans (arr8 m c (pre_real m hpre c) i k).symm

/-- The same for the norm weight's gradient. -/
theorem same_dg (hpre : Cert.Pre_FfnBwdIdeal_finite_ffn m) (c : Dev nD) :
    Cert.FfnBwdRefIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = (dats m 0 c).arrAt 9 cfg0.N := by
  funext y
  obtain ⟨i, k, rfl⟩ : ∃ (i : Fin 1) (k : Fin 1024), y = ix2 i k := ⟨y 0, y 1, eq_ix2 y⟩
  obtain rfl := Subsingleton.elim i 0
  exact (Cert.FfnBwdRefIdeal.Read.ev66 _ _ _ _ _ _ _ k).trans (arr9 m c (pre_real m hpre c) k).symm

/-- The same for the bias's gradient. -/
theorem same_db (hpre : Cert.Pre_FfnBwdIdeal_finite_ffn m) (c : Dev nD) :
    Cert.FfnBwdRefIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = (dats m 0 c).arrAt 10 cfg0.N := by
  funext y
  obtain ⟨i, k, rfl⟩ : ∃ (i : Fin 1) (k : Fin 1024), y = ix2 i k := ⟨y 0, y 1, eq_ix2 y⟩
  obtain rfl := Subsingleton.elim i 0
  exact (Cert.FfnBwdRefIdeal.Read.ev70 _ _ _ _ _ _ _ k).trans (arr10 m c (pre_real m hpre c) k).symm

/-- The same for the gate weight's gradient. -/
theorem same_dwg (hpre : Cert.Pre_FfnBwdIdeal_finite_ffn m) (c : Dev nD) (n : Nat) (h : n < cfg0.N) (hn : n = 31) :
    Cert.FfnBwdRefIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = (outsAt0 (F := Ideal) m c n h).2.2.2.2.2.1 := by
  funext y
  obtain ⟨i, k, rfl⟩ : ∃ (i : Fin 2816) (k : Fin 1024), y = ix2 i k := ⟨y 0, y 1, eq_ix2 y⟩
  exact (Cert.FfnBwdRefIdeal.Read.ev72 _ _ _ _ _ _ _ i k).trans (dwg_last m c (pre_real m hpre c) n h hn i k).symm

/-- The same for the up weight's gradient. -/
theorem same_dwu (hpre : Cert.Pre_FfnBwdIdeal_finite_ffn m) (c : Dev nD) (n : Nat) (h : n < cfg0.N) (hn : n = 31) :
    Cert.FfnBwdRefIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) = (outsAt0 (F := Ideal) m c n h).2.2.2.2.2.2 := by
  funext y
  obtain ⟨i, k, rfl⟩ : ∃ (i : Fin 2816) (k : Fin 1024), y = ix2 i k := ⟨y 0, y 1, eq_ix2 y⟩
  exact (Cert.FfnBwdRefIdeal.Read.ev74 _ _ _ _ _ _ i k).trans (dwu_last m c n h hn i k).symm

/-- The last grid point is point 31. -/
theorem last_val : (Fin.last cfg0.N).val - 1 = 31 := by rw [Fin.val_last, show cfg0.N = 32 from Gen.N_0]

/-- What a grid point leaves of the gate weight's gradient. -/
@[irreducible] def dwgAt (c : Dev nD) (n : Nat) (h : n < cfg0.N) : Vec Ideal S2816x1024 .f32 := (outsAt0 (F := Ideal) m c n h).2.2.2.2.2.1

theorem dwgAt_eq (c : Dev nD) (n : Nat) (h : n < cfg0.N) : dwgAt m c n h = (outsAt0 (F := Ideal) m c n h).2.2.2.2.2.1 := by
  unfold dwgAt
  exact Eq.refl _

/-- It is the reference's, at the last point. -/
theorem same_dwgAt (hpre : Cert.Pre_FfnBwdIdeal_finite_ffn m) (c : Dev nD) (n : Nat) (h : n < cfg0.N) (hn : n = 31) :
    Cert.FfnBwdRefIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) = dwgAt m c n h :=
  (same_dwg m hpre c n h hn).trans (dwgAt_eq m c n h).symm

/-- What a grid point leaves of the up weight's gradient. -/
@[irreducible] def dwuAt (c : Dev nD) (n : Nat) (h : n < cfg0.N) : Vec Ideal S2816x1024 .f32 := (outsAt0 (F := Ideal) m c n h).2.2.2.2.2.2

theorem dwuAt_eq (c : Dev nD) (n : Nat) (h : n < cfg0.N) : dwuAt m c n h = (outsAt0 (F := Ideal) m c n h).2.2.2.2.2.2 := by
  unfold dwuAt
  exact Eq.refl _

/-- It is the reference's, at the last point. -/
theorem same_dwuAt (hpre : Cert.Pre_FfnBwdIdeal_finite_ffn m) (c : Dev nD) (n : Nat) (h : n < cfg0.N) (hn : n = 31) :
    Cert.FfnBwdRefIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) = dwuAt m c n h :=
  (same_dwu m hpre c n h hn).trans (dwuAt_eq m c n h).symm

/-- The results before the arguments. -/
theorem reorder {p0 p1 p2 a0 a1 a2 a3 a4 a5 a6 p3 p4 q3 q4 : Prop} (f3 : p3 → q3) (f4 : p4 → q4)
    (h : p0 ∧ p1 ∧ p2 ∧ a0 ∧ a1 ∧ a2 ∧ a3 ∧ a4 ∧ a5 ∧ a6 ∧ p3 ∧ p4) : p0 ∧ p1 ∧ p2 ∧ q3 ∧ q4 ∧ a0 ∧ a1 ∧ a2 ∧ a3 ∧ a4 ∧ a5 ∧ a6 := by
  obtain ⟨h0, h1, h2, a0, a1, a2, a3, a4, a5, a6, h3, h4⟩ := h
  exact ⟨h0, h1, h2, f3 h3, f4 h4, a0, a1, a2, a3, a4, a5, a6⟩

/-- The kernel's run, the results before the arguments. -/
theorem run_results (ρ : Dev nD → PrngReg) :
    θ_run defs (onTc (τ := τ) (main (F := Ideal))) ⟨m, fun _ => 0, ρ⟩ fun r => ∀ c : Dev nD,
      r.2.mem ((c : Thread nD τ).loc main_v32_0) = (dats m 0 c).arrAt 8 cfg0.N
      ∧ r.2.mem ((c : Thread nD τ).loc main_v32_1) = (dats m 0 c).arrAt 9 cfg0.N
      ∧ r.2.mem ((c : Thread nD τ).loc main_v32_2) = (dats m 0 c).arrAt 10 cfg0.N
      ∧ r.2.mem ((c : Thread nD τ).loc main_v32_3) = dwgAt m c ((Fin.last cfg0.N).val - 1) (by rw [Fin.val_last]; have : cfg0.N = 32 := Gen.N_0; omega)
      ∧ r.2.mem ((c : Thread nD τ).loc main_v32_4) = dwuAt m c ((Fin.last cfg0.N).val - 1) (by rw [Fin.val_last]; have : cfg0.N = 32 := Gen.N_0; omega)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => reorder (fun e => Eq.trans e (dwgAt_eq m c _ _).symm) (fun e => Eq.trans e (dwuAt_eq m c _ _).symm) (h c))
    (Cert.FfnBwdIdeal.Value.run_blocks (F := Ideal) m ρ)

set_option maxHeartbeats 2000000 in
theorem algebraic : Cert.algebraic_FfnBwdIdeal_FfnBwdRefIdeal_pre_finite_ffn := by
  pair_intro
  · run_from run_results m g
  · run_from Cert.FfnBwdRefIdeal.Value.run m' g'
    · obtain ⟨e0, e1, e2, e3, e4, e5, e6⟩ := hagree c
      rw [Cert.FfnBwdRefIdeal.Read.val_main_v65_eq, e0, e1, e2, e3, e4, e5, e6]
      exact same_dx m hpre c
    · obtain ⟨e0, e1, e2, e3, e4, e5, e6⟩ := hagree c
      rw [Cert.FfnBwdRefIdeal.Read.val_main_v66_eq, e0, e1, e2, e3, e4, e5, e6]
      exact same_dg m hpre c
    · obtain ⟨e0, e1, e2, e3, e4, e5, e6⟩ := hagree c
      rw [Cert.FfnBwdRefIdeal.Read.val_main_v70_eq, e0, e1, e2, e3, e4, e5, e6]
      exact same_db m hpre c
    · obtain ⟨e0, e1, e2, e3, e4, e5, e6⟩ := hagree c
      rw [Cert.FfnBwdRefIdeal.Read.val_main_v72_eq, e0, e1, e2, e3, e4, e5, e6]
      exact same_dwgAt m hpre c _ _ last_val
    · obtain ⟨e0, e1, e2, e3, e4, e5, e6⟩ := hagree c
      rw [Cert.FfnBwdRefIdeal.Read.val_main_v74_eq, e0, e1, e2, e3, e5, e6]
      exact same_dwuAt m hpre c _ _ last_val

end Cert.FfnBwdIdeal.Block
end
-- ==== Proof.AttnFwd.Chain.lean ====
/- The operations one chain of the attention forward kernel performs - one block of 128 queries, one key head, its two halves of 256
   keys - written once for every block and head. -/
module

public import proofs.«01_k».proof.Proof.Gen.AttnFwdIdeal.Value
public import Idealize.ShloMosaic.Lib.Pipeline.ValueKit
public import Idealize.ShloMosaic.Lib.Pipeline.ReadBack

@[expose] public section

set_option maxRecDepth 16384

noncomputable section

namespace Cert.AttnFwdIdeal.Chain

open Cert.AttnFwdIdeal Cert.AttnFwdIdeal.Gen Idealize.ShloMosaic Idealize.ShloMosaic.TcCoe Idealize.SL.Sem

theorem fit_slab (b : Fin 8) (kv s : Fin 2) : ∀ a, (![128 * b.val, 256 * kv.val + 128 * s.val] : Fin 2 → Nat) a + S128x128.size a ≤ S1024x512.size a := by
  revert b kv s; decide
theorem fit_prev (kv s : Fin 2) : ∀ a, (![0, 256 * kv.val + 128 * s.val] : Fin 2 → Nat) a + S128x128.size a ≤ S128x512.size a := by
  revert kv s; decide
theorem fit_pair (k : Nat) (h : k + 1 < 8) (kv s : Fin 2) :
    ∀ a, (![128 * k, 256 * kv.val + 128 * s.val] : Fin 2 → Nat) a + S256x128.size a ≤ S1024x512.size a := by
  have := kv.isLt
  have := s.isLt
  intro a
  match a with
  | 0 => show 128 * k + 256 ≤ 1024; omega
  | 1 => show 256 * kv.val + 128 * s.val + 128 ≤ 512; omega
theorem fit_prevT (kv s : Fin 2) : ∀ a, (![256 * kv.val + 128 * s.val, 0] : Fin 2 → Nat) a + S128x128.size a ≤ S512x128.size a := by
  revert kv s; decide
theorem fit_slabT (kv s : Fin 2) : ∀ a, (![256 * kv.val + 128 * s.val, 0] : Fin 2 → Nat) a + S128x128.size a ≤ S512x1024.size a := by
  revert kv s; decide
theorem fit_pairT (k : Nat) (h : k + 1 < 8) (kv s : Fin 2) :
    ∀ a, (![256 * kv.val + 128 * s.val, 128 * k] : Fin 2 → Nat) a + S128x256.size a ≤ S512x1024.size a := by
  have := kv.isLt
  have := s.isLt
  intro a
  match a with
  | 0 => show 256 * kv.val + 128 * s.val + 128 ≤ 512; omega
  | 1 => show 128 * k + 256 ≤ 1024; omega
theorem fit_sink (kv half s : Fin 2) : ∀ a, (![0, 4 * kv.val + half.val + 2 * s.val] : Fin 2 → Nat) a + S1x1.size a ≤ S1x8.size a := by
  revert kv half s; decide
theorem fit_half (half : Fin 2) : S512x256.Slices ![256 * half.val, 0] S256x256 := by revert half; decide
theorem fit_row (s : Fin 2) : S256x128.Slices ![128 * s.val, 0] S128x128 := by revert s; decide
theorem fit_lane (s : Fin 2) : S1x256.Slices ![0, 128 * s.val] S1x128 := by revert s; decide

/-- The mask of a band, and that of the first block of a tile, where the block before may not exist. -/
def bandMask : IVec S512x256 1 := k0_pay5
def firstMask (t : Fin cfg0.N) : IVec S512x256 1 := andi k0_pay5 (k0_pay6 (grid0.coords t))
/-- The mask of a block. -/
def blockMask (t : Fin cfg0.N) (b : Fin 8) : IVec S512x256 1 :=
  match b with
  | ⟨0, _⟩ => firstMask t
  | ⟨_ + 1, _⟩ => bandMask

section
variable (X0 : Vec Ideal S1024x512 .bf16) (X1 : Vec Ideal S1024x512 .bf16) (X2 : Vec Ideal S128x512 .bf16)
  (X3 : Vec Ideal S512x1024 .bf16) (X4 : Vec Ideal S512x128 .bf16) (X5 : Vec Ideal S1x8 .f32) (M : IVec S512x256 1)

/-- The two 128-lane slabs of a block's rows, one below the other. -/
def stack (X : Vec Ideal S1024x512 .bf16) (b : Fin 8) (kv : Fin 2) : FVec Ideal S256x128 .bf16 :=
  concatenate S256x128 0
    [⟨S128x128, shapeCast S128x128 (View.ld X (Rect.unit ![128 * b.val, 256 * kv.val + 128 * (0 : Fin 2).val] ![128, 128] (fit_slab b kv 0))) shapeCasts_S128x128_S128x128⟩,
     ⟨S128x128, shapeCast S128x128 (View.ld X (Rect.unit ![128 * b.val, 256 * kv.val + 128 * (1 : Fin 2).val] ![128, 128] (fit_slab b kv 1))) shapeCasts_S128x128_S128x128⟩]
    concatenates_S128x128_S128x128_S256x128_d0

/-- The 256 keys of a band, for one half of the spread: the block before and the block. -/
def bandHalf (X : Vec Ideal S1024x512 .bf16) (P : Vec Ideal S128x512 .bf16) (b : Fin 8) (kv half : Fin 2) : FVec Ideal S256x128 .bf16 :=
  match b with
  | ⟨0, _⟩ => concatenate S256x128 0
      [⟨S128x128, shapeCast S128x128 (View.ld P (Rect.unit ![0, 256 * kv.val + 128 * half.val] ![128, 128] (fit_prev kv half))) shapeCasts_S128x128_S128x128⟩,
       ⟨S128x128, shapeCast S128x128 (View.ld X (Rect.unit ![128 * (0 : Fin 8).val, 256 * kv.val + 128 * half.val] ![128, 128] (fit_slab 0 kv half))) shapeCasts_S128x128_S128x128⟩]
      concatenates_S128x128_S128x128_S256x128_d0
  | ⟨k + 1, h⟩ => shapeCast S256x128 (View.ld X (Rect.unit ![128 * k, 256 * kv.val + 128 * half.val] ![256, 128] (fit_pair k h kv half))) shapeCasts_S256x128_S256x128

def band (X : Vec Ideal S1024x512 .bf16) (P : Vec Ideal S128x512 .bf16) (b : Fin 8) (kv : Fin 2) : FVec Ideal S512x128 .bf16 :=
  concatenate S512x128 0 [⟨S256x128, bandHalf X P b kv 0⟩, ⟨S256x128, bandHalf X P b kv 1⟩] concatenates_S256x128_S256x128_S512x128_d0

/-- The products of the band's rows with the stacked rows. -/
def score (X : Vec Ideal S1024x512 .bf16) (P : Vec Ideal S128x512 .bf16) (Q : Vec Ideal S1024x512 .bf16) (b : Fin 8) (kv : Fin 2) : FVec Ideal S512x256 .f32 :=
  matmul dot_S512x128_S256x128_S512x256_1_1_0_0_n_n none (band X P b kv) (stack Q b kv) (constant S512x256 .f32 0x00000000#32)

/-- The halves of a column of 256 rows added up again and again, down to 8 rows, and those summed. -/
def fold8 (v : FVec Ideal S256x256 .f32) : FVec Ideal S1x256 .f32 :=
  let a := addf (extractStridedSlice S128x256 ![0, 0] v slices_S256x256_o0_0_S128x256) (extractStridedSlice S128x256 ![128, 0] v slices_S256x256_o128_0_S128x256)
  let b := addf (extractStridedSlice S64x256 ![0, 0] a slices_S128x256_o0_0_S64x256) (extractStridedSlice S64x256 ![64, 0] a slices_S128x256_o64_0_S64x256)
  let c := addf (extractStridedSlice S32x256 ![0, 0] b slices_S64x256_o0_0_S32x256) (extractStridedSlice S32x256 ![32, 0] b slices_S64x256_o32_0_S32x256)
  let d := addf (extractStridedSlice S16x256 ![0, 0] c slices_S32x256_o0_0_S16x256) (extractStridedSlice S16x256 ![16, 0] c slices_S32x256_o16_0_S16x256)
  let e := addf (extractStridedSlice S8x256 ![0, 0] d slices_S16x256_o0_0_S8x256) (extractStridedSlice S8x256 ![8, 0] d slices_S16x256_o8_0_S8x256)
  shapeCast S1x256 (multiReduction .add [0] S256 e 0x00000000#32 reduces_S8x256_S256 (.inl rfl) rfl) shapeCasts_S256_S1x256

/-- The halves of a column of 256 rows compared again and again, down to 8 rows, and the largest of those. -/
def top8 (v : FVec Ideal S256x256 .f32) : FVec Ideal S1x256 .f32 :=
  let a := maximumf (extractStridedSlice S128x256 ![0, 0] v slices_S256x256_o0_0_S128x256) (extractStridedSlice S128x256 ![128, 0] v slices_S256x256_o128_0_S128x256)
  let b := maximumf (extractStridedSlice S64x256 ![0, 0] a slices_S128x256_o0_0_S64x256) (extractStridedSlice S64x256 ![64, 0] a slices_S128x256_o64_0_S64x256)
  let c := maximumf (extractStridedSlice S32x256 ![0, 0] b slices_S64x256_o0_0_S32x256) (extractStridedSlice S32x256 ![32, 0] b slices_S64x256_o32_0_S32x256)
  let d := maximumf (extractStridedSlice S16x256 ![0, 0] c slices_S32x256_o0_0_S16x256) (extractStridedSlice S16x256 ![16, 0] c slices_S32x256_o16_0_S16x256)
  let e := maximumf (extractStridedSlice S8x256 ![0, 0] d slices_S16x256_o0_0_S8x256) (extractStridedSlice S8x256 ![8, 0] d slices_S16x256_o8_0_S8x256)
  shapeCast S1x256 (multiReduction .maximumf [0] S256 e 0xFF800000#32 reduces_S8x256_S256 (.inl rfl) rfl) shapeCasts_S256_S1x256

/-- The masked scores of a half of the keys. -/
def masked (b : Fin 8) (kv half : Fin 2) : FVec Ideal S256x256 .f32 :=
  extractStridedSlice S256x256 ![256 * half.val, 0]
    (select M (score X1 X2 X0 b kv) (broadcast S512x256 (Scalar.ofBits .f32 0xFF800000#32))) (fit_half half)

/-- The sinks of the two heads of a half, by query. -/
def sinkRow (kv half : Fin 2) : FVec Ideal S1x256 .f32 :=
  select (cmpi .slt (iota .tc S1x256 32 [1] iota_S1x256_d1_w32) (broadcast S1x256 128#32))
      (broadcastTo S1x256 (shapeCast S1x1 (View.ld X5 (Rect.unit ![0, 4 * kv.val + half.val + 2 * (0 : Fin 2).val] ![1, 1] (fit_sink kv half 0))) shapeCasts_S1x1_S1x1) broadcasts_S1x1_S1x256)
      (broadcastTo S1x256 (shapeCast S1x1 (View.ld X5 (Rect.unit ![0, 4 * kv.val + half.val + 2 * (1 : Fin 2).val] ![1, 1] (fit_sink kv half 1))) shapeCasts_S1x1_S1x1) broadcasts_S1x1_S1x256)

/-- The largest score of a query with the sink, the exponentials, their sum, the probabilities and the log-sum-exp. -/
def largest (b : Fin 8) (kv half : Fin 2) : FVec Ideal S1x256 .f32 := maximumf (top8 (masked X0 X1 X2 M b kv half)) (sinkRow X5 kv half)
def expo (b : Fin 8) (kv half : Fin 2) : FVec Ideal S256x256 .f32 :=
  exp (subf (masked X0 X1 X2 M b kv half) (broadcastTo S256x256 (largest X0 X1 X2 X5 M b kv half) broadcasts_S1x256_S256x256))
def total (b : Fin 8) (kv half : Fin 2) : FVec Ideal S1x256 .f32 :=
  addf (fold8 (expo X0 X1 X2 X5 M b kv half)) (exp (subf (sinkRow X5 kv half) (largest X0 X1 X2 X5 M b kv half)))
def prob (b : Fin 8) (kv half : Fin 2) : FVec Ideal S256x256 .bf16 :=
  truncf .bf16 (mulf (expo X0 X1 X2 X5 M b kv half)
    (broadcastTo S256x256 (divf (broadcast S1x256 (Scalar.ofBits .f32 0x3F800000#32)) (total X0 X1 X2 X5 M b kv half)) broadcasts_S1x256_S256x256)) bitsLt_bf16_f32
def lseRow (b : Fin 8) (kv half : Fin 2) : FVec Ideal S1x256 .f32 :=
  addf (largest X0 X1 X2 X5 M b kv half) (log (total X0 X1 X2 X5 M b kv half))
def lsePiece (b : Fin 8) (kv half s : Fin 2) : FVec Ideal S1x128 .f32 :=
  extractStridedSlice S1x128 ![0, 128 * s.val] (lseRow X0 X1 X2 X5 M b kv half) (fit_lane s)

/-- The values of a band, transposed: the block before and the block, for one half of the spread and for both. -/
def bandHalfT (b : Fin 8) (kv half : Fin 2) : FVec Ideal S128x256 .bf16 :=
  match b with
  | ⟨0, _⟩ => concatenate S128x256 1
      [⟨S128x128, shapeCast S128x128 (View.ld X4 (Rect.unit ![256 * kv.val + 128 * half.val, 0] ![128, 128] (fit_prevT kv half))) shapeCasts_S128x128_S128x128⟩,
       ⟨S128x128, shapeCast S128x128 (View.ld X3 (Rect.unit ![256 * kv.val + 128 * half.val, 0] ![128, 128] (fit_slabT kv half))) shapeCasts_S128x128_S128x128⟩]
      concatenates_S128x128_S128x128_S128x256_d1
  | ⟨k + 1, h⟩ => shapeCast S128x256 (View.ld X3 (Rect.unit ![256 * kv.val + 128 * half.val, 128 * k] ![128, 256] (fit_pairT k h kv half))) shapeCasts_S128x256_S128x256
def bandT (b : Fin 8) (kv : Fin 2) : FVec Ideal S128x512 .bf16 :=
  concatenate S128x512 1 [⟨S128x256, bandHalfT X3 X4 b kv 0⟩, ⟨S128x256, bandHalfT X3 X4 b kv 1⟩] concatenates_S128x256_S128x256_S128x512_d1
def probs (b : Fin 8) (kv : Fin 2) : FVec Ideal S512x256 .bf16 :=
  concatenate S512x256 0 [⟨S256x256, prob X0 X1 X2 X5 M b kv 0⟩, ⟨S256x256, prob X0 X1 X2 X5 M b kv 1⟩] concatenates_S256x256_S256x256_S512x256_d0
/-- The outputs of a block's queries, a slab of 128 lanes. -/
def outPiece (b : Fin 8) (kv s : Fin 2) : FVec Ideal S128x128 .bf16 :=
  extractStridedSlice S128x128 ![128 * s.val, 0] (truncf .bf16 (transpose S256x128 [1, 0]
    (matmul dot_S128x512_S512x256_S128x256_1_0_0_1_n_n none (bandT X3 X4 b kv) (probs X0 X1 X2 X5 M b kv) (constant S128x256 .f32 0x00000000#32))
    transposes_S128x256_p1_0_S256x128) bitsLt_bf16_f32) (fit_row s)

end
end Cert.AttnFwdIdeal.Chain
end
-- ==== Proof.AttnFwd.Entry.lean ====
/- The entries of the arrays one chain of the attention forward kernel computes, as functions of the blocks it is given. -/
module

public import proofs.«01_k».proof.Proof.Attn.Entry
public import proofs.«01_k».proof.Proof.Attn.RefScores
public import proofs.«01_k».proof.Proof.AttnFwd.Chain

@[expose] public section

set_option maxRecDepth 16384

noncomputable section

namespace Cert.AttnFwdIdeal.Chain

open Cert.AttnBwdIdeal.Chain (place_of row_of cmp_nat half_sum first_slab key qrow qlane klane head qcol sum_keys)
open Cert.AttnFwdIdeal Cert.AttnFwdIdeal.Gen Idealize.ShloMosaic Idealize.ShloMosaic.TcCoe Idealize.SL.Sem

/-- Which keys of a band a query sees: the last 128 up to itself, and none before the first block of the sequence. -/
def Sees (t : Fin cfg0.N) (b : Fin 8) (q j : Fin 256) : Prop :=
  q.val % 128 < j.val ∧ j.val ≤ q.val % 128 + 128 ∧ (b.val = 0 → t.val = 0 → 128 ≤ j.val)

instance (t : Fin cfg0.N) (b : Fin 8) (q : Fin 256) : DecidablePred (Sees t b q) := fun j => by unfold Sees; infer_instance

theorem keyPlace_apply (n : Fin 512) (q : Fin 256) : k0_pay4 (ix2 n q) = BitVec.ofNat 32 (n.val % 256) := by
  rw [← place_of n]
  pointwise [k0_pay4]
  rfl

theorem bandMask_apply (n : Fin 512) (q : Fin 256) :
    bandMask (ix2 n q) = if q.val % 128 < n.val % 256 ∧ n.val % 256 ≤ q.val % 128 + 128 then 1#1 else 0#1 := by
  have e := row_of q
  pointwise [bandMask, k0_pay5, keyPlace_apply]
  have h1 := n.isLt
  have h2 := q.isLt
  refine Eq.trans (b := IntOp.andi (IntOp.cmpi .sgt (BitVec.ofNat 32 (n.val % 256)) (BitVec.ofNat 32 (q.val % 128)))
    (IntOp.cmpi .sle (BitVec.ofNat 32 (n.val % 256)) (IntOp.addi (BitVec.ofNat 32 (q.val % 128)) 128#32))) ?_ ?_
  · rw [← e]; rfl
  rw [show IntOp.addi (BitVec.ofNat 32 (q.val % 128)) 128#32 = BitVec.ofNat 32 (q.val % 128 + 128) from (BitVec.ofNat_add ..).symm,
    (cmp_nat (by omega) (by omega)).1, (cmp_nat (by omega) (by omega)).2.1]
  by_cases a : q.val % 128 < n.val % 256 <;> by_cases b : n.val % 256 ≤ q.val % 128 + 128 <;> simp [a, b, IntOp.andi]

theorem first_tile : ∀ t : Fin cfg0.N, Scalar.cmpi .sgt (BitVec.ofNat 32 (grid0.coords t 0).val) 0#32 = if t.val = 0 then 0#1 else 1#1 := by
  decide +kernel

theorem firstMask_apply (t : Fin cfg0.N) (n : Fin 512) (q : Fin 256) :
    firstMask t (ix2 n q) = if q.val % 128 < n.val % 256 ∧ n.val % 256 ≤ q.val % 128 + 128 ∧ (t.val = 0 → 128 ≤ n.val % 256) then 1#1 else 0#1 := by
  have e0 := bandMask_apply n q
  unfold bandMask at e0
  pointwise [firstMask, k0_pay6, keyPlace_apply, e0]
  have h1 := n.isLt
  have h2 := q.isLt
  rw [first_tile t, show (128#32) = BitVec.ofNat 32 128 from rfl, (cmp_nat (by omega) (by omega)).2.2]
  by_cases a : q.val % 128 < n.val % 256 <;> by_cases b : n.val % 256 ≤ q.val % 128 + 128 <;> by_cases d : t.val = 0 <;>
    by_cases e : 128 ≤ n.val % 256 <;> simp [a, b, d, e, IntOp.andi, IntOp.ori]

theorem blockMask_apply (t : Fin cfg0.N) (b : Fin 8) (half : Fin 2) (q j : Fin 256) :
    blockMask t b (ix2 (key half j) q) = if Sees t b q j then 1#1 else 0#1 := by
  have e : (key half j).val % 256 = j.val := by
    show (256 * half.val + j.val) % 256 = _
    have := half.isLt
    have := j.isLt
    omega
  unfold Sees
  match b with
  | ⟨0, _⟩ => exact (firstMask_apply t _ q).trans (by rw [e]; simp)
  | ⟨k + 1, _⟩ => exact (bandMask_apply _ q).trans (by rw [e]; simp)

section
variable (X0 : Vec Ideal S1024x512 .bf16) (X1 : Vec Ideal S1024x512 .bf16) (X2 : Vec Ideal S128x512 .bf16)
  (X3 : Vec Ideal S512x1024 .bf16) (X4 : Vec Ideal S512x128 .bf16) (X5 : Vec Ideal S1x8 .f32) (t : Fin cfg0.N)

/-- An entry of a band of transposed values: of the block before the tile, or of the tile. -/
def vz (b : Fin 8) (kv half : Fin 2) (l : Fin 128) (j : Fin 256) : EReal :=
  if h : 128 * b.val + j.val < 128 then X4 (ix2 (klane kv half l) ⟨128 * b.val + j.val, h⟩)
  else X3 (ix2 (klane kv half l) ⟨128 * b.val + j.val - 128, by omega⟩)

/-- An entry of a band: of the block before the tile, or of the tile. -/
def kz (X : Vec Ideal S1024x512 .bf16) (P : Vec Ideal S128x512 .bf16) (b : Fin 8) (kv half : Fin 2) (j : Fin 256) (l : Fin 128) : EReal :=
  if h : 128 * b.val + j.val < 128 then P (ix2 ⟨128 * b.val + j.val, h⟩ (klane kv half l))
  else X (ix2 ⟨128 * b.val + j.val - 128, by omega⟩ (klane kv half l))

theorem stack_apply (X : Vec Ideal S1024x512 .bf16) (b : Fin 8) (kv : Fin 2) (q : Fin 256) (l : Fin 128) :
    stack X b kv (ix2 q l) = X (ix2 (qrow b q) (qlane kv q l)) := by
  pointwise [stack]
  have hq := q.isLt
  by_cases h : q.val < 128
  · rw [dif_pos h]
    exact congrArg X (congrArg₂ ix2 (Fin.ext (by simp only [qrow]; omega)) (Fin.ext (by simp only [qlane]; omega)))
  · rw [dif_neg h]
    exact congrArg X (congrArg₂ ix2 (Fin.ext (by simp only [qrow]; omega)) (Fin.ext (by simp only [qlane]; omega)))

theorem bandHalf_apply (X : Vec Ideal S1024x512 .bf16) (P : Vec Ideal S128x512 .bf16) (b : Fin 8) (kv half : Fin 2) (j : Fin 256) (l : Fin 128) :
    bandHalf X P b kv half (ix2 j l) = kz X P b kv half j l := by
  match b with
  | ⟨0, _⟩ =>
    pointwise [bandHalf, kz]
    rfl
  | ⟨k + 1, _⟩ =>
    pointwise [bandHalf, kz]
    rw [dif_neg (by omega)]
    exact congrArg X (congrArg₂ ix2 (Fin.ext (by show 128 * k + j.val = 128 * (k + 1) + j.val - 128; omega)) rfl)

theorem band_apply (X : Vec Ideal S1024x512 .bf16) (P : Vec Ideal S128x512 .bf16) (b : Fin 8) (kv half : Fin 2) (j : Fin 256) (l : Fin 128) :
    band X P b kv (ix2 (key half j) l) = kz X P b kv half j l := by
  fin_cases half
  · pointwise [band, bandHalf_apply, key]
  · pointwise [band, bandHalf_apply, key]

/-- The scores of a query. -/
def sB (b : Fin 8) (kv half : Fin 2) (q j : Fin 256) : EReal := ∑ l, kz X1 X2 b kv half j l * X0 (ix2 (qrow b q) (qlane kv q l))

theorem score_apply (b : Fin 8) (kv half : Fin 2) (j q : Fin 256) :
    score X1 X2 X0 b kv (ix2 (key half j) q) = sB X0 X1 X2 b kv half q j := by
  pointwise [score, band_apply, stack_apply, sB]

/-- A half of the band's rows is cut out. -/
theorem cut_apply {α : Type} (v : S512x256.Idx → α) (half : Fin 2) (j q : Fin 256) :
    extractStridedSlice S256x256 ![256 * half.val, 0] v (fit_half half) (ix2 j q) = v (ix2 (key half j) q) := by
  fin_cases half
  · pointwise [key]
  · pointwise [key]

theorem fold8_apply (v : FVec Ideal S256x256 .f32) (q : Fin 256) : fold8 v (ix2 0 q) = ∑ j, v (ix2 j q) := by
  rw [← half_sum 128, ← half_sum 64, ← half_sum 32, ← half_sum 16, ← half_sum 8]
  pointwise [fold8]

theorem half_max (n : Nat) (f : Fin (n + n) → EReal) :
    Finset.univ.fold max ⊥ (fun r : Fin n => max (f ⟨r.val, by omega⟩) (f ⟨n + r.val, by omega⟩)) = Finset.univ.fold max ⊥ f := by
  refine le_antisymm ((Finset.fold_max_le _).mpr ⟨bot_le, fun r _ => max_le ?_ ?_⟩) ((Finset.fold_max_le _).mpr ⟨bot_le, fun j _ => ?_⟩)
  · exact (Finset.le_fold_max _).mpr (Or.inr ⟨_, Finset.mem_univ _, le_refl _⟩)
  · exact (Finset.le_fold_max _).mpr (Or.inr ⟨_, Finset.mem_univ _, le_refl _⟩)
  · refine (Finset.le_fold_max _).mpr (Or.inr ?_)
    by_cases h : j.val < n
    · exact ⟨⟨j.val, h⟩, Finset.mem_univ _, le_max_left _ _⟩
    · refine ⟨⟨j.val - n, by omega⟩, Finset.mem_univ _, le_trans (le_of_eq ?_) (le_max_right _ _)⟩
      exact congrArg f (Fin.ext (by simp only []; omega))

theorem top8_apply (v : FVec Ideal S256x256 .f32) (q : Fin 256) : top8 v (ix2 0 q) = Finset.univ.fold max ⊥ fun j => v (ix2 j q) := by
  rw [← half_max 128, ← half_max 64, ← half_max 32, ← half_max 16, ← half_max 8]
  pointwise [top8]
  exact congrArg (fun z : EReal => Finset.univ.fold max z _) Cert.AttnBwdRefIdeal.Read.negInf

theorem masked_apply (b : Fin 8) (kv half : Fin 2) (q j : Fin 256) :
    masked X0 X1 X2 (blockMask t b) b kv half (ix2 j q) = Soft.x (Sees t b q) (sB X0 X1 X2 b kv half q) j := by
  pointwise [masked, cut_apply, score_apply, blockMask_apply, Soft.x]
  by_cases h : Sees t b q j
  · simp [h, Scalar.select]
  · simp [h, Scalar.select]
    exact Cert.AttnBwdRefIdeal.Read.negInf

theorem sinkRow_apply (kv half : Fin 2) (q : Fin 256) : sinkRow X5 kv half (ix2 0 q) = X5 (ix2 0 (head kv half q)) := by
  pointwise [sinkRow]
  have hq := q.isLt
  rw [first_slab q]
  by_cases h : q.val < 128
  · simp only [h, if_true, Scalar.select]
    exact congrArg X5 (congrArg₂ ix2 rfl (Fin.ext (by simp only [head]; omega)))
  · simp only [h, if_false, Scalar.select]
    exact congrArg X5 (congrArg₂ ix2 rfl (Fin.ext (by simp only [head]; omega)))

section
variable (b : Fin 8) (kv half : Fin 2) (q : Fin 256)

theorem largest_apply : largest X0 X1 X2 X5 (blockMask t b) b kv half (ix2 0 q)
    = Soft.mx (Sees t b q) (sB X0 X1 X2 b kv half q) (X5 (ix2 0 (head kv half q))) := by
  pointwise [largest, top8_apply, masked_apply, sinkRow_apply, Soft.mx, Soft.top]

theorem expo_apply (j : Fin 256) : expo X0 X1 X2 X5 (blockMask t b) b kv half (ix2 j q)
    = Soft.e (Sees t b q) (sB X0 X1 X2 b kv half q) (X5 (ix2 0 (head kv half q))) j := by
  pointwise [expo, masked_apply, largest_apply, Soft.e]

theorem total_apply : total X0 X1 X2 X5 (blockMask t b) b kv half (ix2 0 q)
    = Soft.Z (Sees t b q) (sB X0 X1 X2 b kv half q) (X5 (ix2 0 (head kv half q))) := by
  pointwise [total, fold8_apply, expo_apply, largest_apply, sinkRow_apply, Soft.Z]

theorem lseRow_apply : lseRow X0 X1 X2 X5 (blockMask t b) b kv half (ix2 0 q)
    = Soft.lse (Sees t b q) (sB X0 X1 X2 b kv half q) (X5 (ix2 0 (head kv half q))) := by
  pointwise [lseRow, total_apply, largest_apply, Soft.lse]

/-- A probability: the exponential times the sum's reciprocal. -/
def pB (j : Fin 256) : EReal := Soft.e (Sees t b q) (sB X0 X1 X2 b kv half q) (X5 (ix2 0 (head kv half q))) j
  * Ideal.div 1 (Soft.Z (Sees t b q) (sB X0 X1 X2 b kv half q) (X5 (ix2 0 (head kv half q))))

theorem prob_apply (j : Fin 256) : prob X0 X1 X2 X5 (blockMask t b) b kv half (ix2 j q) = pB X0 X1 X2 X5 t b kv half q j := by
  pointwise [prob, total_apply, expo_apply, pB]

end

theorem probs_apply (b : Fin 8) (kv half : Fin 2) (j q : Fin 256) :
    probs X0 X1 X2 X5 (blockMask t b) b kv (ix2 (key half j) q) = pB X0 X1 X2 X5 t b kv half q j := by
  fin_cases half
  · pointwise [probs, prob_apply, key]
  · pointwise [probs, prob_apply, key]

theorem lsePiece_apply (b : Fin 8) (kv half s : Fin 2) (r : Fin 128) : lsePiece X0 X1 X2 X5 (blockMask t b) b kv half s (ix2 0 r)
    = Soft.lse (Sees t b (qcol s r)) (sB X0 X1 X2 b kv half (qcol s r)) (X5 (ix2 0 (head kv half (qcol s r)))) := by
  fin_cases s
  · pointwise [lsePiece, lseRow_apply, qcol]
  · pointwise [lsePiece, lseRow_apply, qcol]

theorem bandHalfT_apply (b : Fin 8) (kv half : Fin 2) (l : Fin 128) (j : Fin 256) :
    bandHalfT X3 X4 b kv half (ix2 l j) = vz X3 X4 b kv half l j := by
  match b with
  | ⟨0, _⟩ =>
    pointwise [bandHalfT, vz]
    rfl
  | ⟨k + 1, _⟩ =>
    pointwise [bandHalfT, vz]
    rw [dif_neg (by omega)]
    exact congrArg X3 (congrArg₂ ix2 rfl (Fin.ext (by show 128 * k + j.val = 128 * (k + 1) + j.val - 128; omega)))

theorem bandT_apply (b : Fin 8) (kv half : Fin 2) (l : Fin 128) (j : Fin 256) :
    bandT X3 X4 b kv (ix2 l (key half j)) = vz X3 X4 b kv half l j := by
  fin_cases half
  · pointwise [bandT, bandHalfT_apply, key]
  · pointwise [bandT, bandHalfT_apply, key]

/-- An output of a query at a lane: both halves' values weighted by their probabilities. -/
def oB (b : Fin 8) (kv : Fin 2) (q : Fin 256) (l : Fin 128) : EReal :=
  ∑ half : Fin 2, ∑ j, vz X3 X4 b kv half l j * pB X0 X1 X2 X5 t b kv half q j

theorem outPiece_apply (b : Fin 8) (kv s : Fin 2) (r l : Fin 128) :
    outPiece X0 X1 X2 X3 X4 X5 (blockMask t b) b kv s (ix2 r l) = oB X0 X1 X2 X3 X4 X5 t b kv (qcol s r) l := by
  fin_cases s
  · pointwise [outPiece, qcol, oB]
    rw [sum_keys]
    pointwise [probs_apply, bandT_apply]
  · pointwise [outPiece, qcol, oB]
    rw [sum_keys]
    pointwise [probs_apply, bandT_apply]

end
end Cert.AttnFwdIdeal.Chain
end
-- ==== Proof.AttnFwd.Host.lean ====
/- What the host prepares for the attention forward kernel, and the blocks a grid point is given, in terms of the arguments. -/
module

public import proofs.«01_k».proof.Proof.AttnFwd.Entry
public import proofs.«01_k».proof.Proof.Attn.Corr
public import Idealize.ShloMosaic.Lib.StableHlo.RunRead

@[expose] public section

set_option maxRecDepth 16384

noncomputable section

namespace Cert.AttnFwdIdeal.Host

open Cert.AttnBwdIdeal.Chain (key qrow qlane klane head qcol)
open Cert.AttnFwdIdeal Cert.AttnFwdIdeal.Gen Cert.AttnFwdIdeal.Chain Idealize.ShloMosaic Idealize.ShloMosaic.TcCoe Idealize.SL.Sem
open Cert.AttnSpec (hd kvOf row sc c8)
open Cert.AttnBwdRefIdeal.Read (qf kf sf)
open Cert.AttnBwdIdeal.Host (spread_form qr)

variable (m : (ℓ : Loc nD τ sig) → Buf (Elt Ideal) ℓ) (c : Dev nD) (t : Fin cfg0.N)

/-- The arguments as plain functions. -/
def Q : Fin 8192 → Fin 8 → Fin 64 → EReal := qf (m ((c : Thread nD τ).loc main_arg0))
def K : Fin 8192 → Fin 2 → Fin 64 → EReal := kf (m ((c : Thread nD τ).loc main_arg1))
def U : Fin 8192 → Fin 2 → Fin 64 → EReal := kf (m ((c : Thread nD τ).loc main_arg2))
def S : Fin 8 → EReal := sf (m ((c : Thread nD τ).loc main_arg3))

/-! The host's arrays, at their types. -/
def W4 : FVec Ideal S8192x512 .bf16 := V m c main_v4
def W15 : FVec Ideal S8192x512 .bf16 := V m c main_v15
def W27 : FVec Ideal S512x8192 .bf16 := V m c main_v27

theorem q_at (i : Fin 8192) (l : Fin 512) : (W4 m c) (ix2 i l) = Q m c i ⟨l.val / 64, by omega⟩ ⟨l.val % 64, by omega⟩ * c8 := by
  unfold W4 V
  after_reads_simp
  pointwise
  rfl

theorem k_at (i : Fin 8192) (l : Fin 512) : (W15 m c) (ix2 i l) = if l.val % 128 / 64 = l.val / 128 % 2 then K m c i ⟨l.val / 256, by omega⟩ ⟨l.val % 64, by omega⟩ else 0 := by
  unfold W15 V
  after_reads_simp
  pointwise
  after_reads_simp
  pointwise
  exact spread_form (m ((c : Thread nD τ).loc main_arg1)) i l

theorem v_at (l : Fin 512) (i : Fin 8192) : (W27 m c) (ix2 l i) = if l.val % 128 / 64 = l.val / 128 % 2 then U m c i ⟨l.val / 256, by omega⟩ ⟨l.val % 64, by omega⟩ else 0 := by
  unfold W27 V
  after_reads_simp
  pointwise
  after_reads_simp
  pointwise
  exact spread_form (m ((c : Thread nD τ).loc main_arg2)) i l

theorem t_lt : t.val < 8 := lt_of_lt_of_eq t.isLt Gen.N_0

/-- Row `p` of a grid point's tile, the rows of the block before the tile, and a block's number. -/
def rowT (p : Fin 1024) : Fin 8192 := ⟨1024 * t.val + p.val, by have := t_lt t; omega⟩
def rowP (p : Fin 128) : Fin 8192 := ⟨128 * (8 * t.val - 1) + p.val, by have := t_lt t; omega⟩
def nb (b : Fin 8) : Fin 64 := ⟨8 * t.val + b.val, by have := t_lt t; omega⟩

theorem index_rows : ∀ t : Fin cfg0.N, win0_0.index t = ![t.val, 0] ∧ win0_1.index t = ![t.val, 0] ∧ win0_2.index t = ![8 * t.val - 1, 0]
    ∧ win0_3.index t = ![0, t.val] ∧ win0_4.index t = ![0, 8 * t.val - 1] ∧ win0_5.index t = ![0, 0] ∧ win0_6.index t = ![t.val, 0]
    ∧ win0_7.index t = ![0, t.val] := by decide +kernel

theorem blk0 (p : Fin 1024) (l : Fin 512) : iblk m c 0 t (ix2 p l) = W4 m c (ix2 (rowT t p) l) := by
  unfold W4
  blk_ext [iblk, index_rows t, rowT]
theorem blk1 (p : Fin 1024) (l : Fin 512) : iblk m c 1 t (ix2 p l) = W15 m c (ix2 (rowT t p) l) := by
  unfold W15
  blk_ext [iblk, index_rows t, rowT]
theorem blk2 (p : Fin 128) (l : Fin 512) : iblk m c 2 t (ix2 p l) = W15 m c (ix2 (rowP t p) l) := by
  unfold W15
  blk_ext [iblk, index_rows t, rowP]
theorem emb3 (l : Fin 512) (p : Fin 1024) : (((cfg0.win 3).blk t).view.emb (ix2 l p) : S512x8192.Idx) = ix2 l (rowT t p) := by
  blk_ext [index_rows t, rowT]
theorem blk3 (l : Fin 512) (p : Fin 1024) : iblk m c 3 t (ix2 l p) = W27 m c (ix2 l (rowT t p)) := by
  unfold iblk W27
  generalize V m c = f
  rw [View.read_apply, cast_eq]
  exact congrArg (f main_v27) (emb3 t l p)
theorem emb4 (l : Fin 512) (p : Fin 128) : (((cfg0.win 4).blk t).view.emb (ix2 l p) : S512x8192.Idx) = ix2 l (rowP t p) := by
  blk_ext [index_rows t, rowP]
theorem blk4 (l : Fin 512) (p : Fin 128) : iblk m c 4 t (ix2 l p) = W27 m c (ix2 l (rowP t p)) := by
  unfold iblk W27
  generalize V m c = f
  rw [View.read_apply, cast_eq]
  exact congrArg (f main_v27) (emb4 t l p)
theorem blk5 (h : Fin 8) : iblk m c 5 t (ix2 0 h) = S m c h := by
  unfold S Cert.AttnBwdRefIdeal.Read.sf
  blk_ext [iblk, V_main_arg3, index_rows t]

variable (b : Fin 8) (kv half : Fin 2) (q j : Fin 256)

theorem row_q : rowT t (qrow b q) = row (nb t b) (qr q) :=
  Fin.ext (by show 1024 * t.val + (128 * b.val + q.val % 128) = 128 * (8 * t.val + b.val) + q.val % 128; omega)

/-- The scaled query at a lane. -/
theorem q_lane (l : Fin 128) : iblk m c 0 t (ix2 (qrow b q) (qlane kv q l))
    = Q m c (row (nb t b) (qr q)) (head kv ⟨l.val / 64, by omega⟩ q) ⟨l.val % 64, by omega⟩ * c8 := by
  rw [blk0, q_at, row_q]
  refine congrArg (fun z : EReal => z * c8) (congrArg₂ (Q m c (row (nb t b) (qr q))) (Fin.ext ?_) (Fin.ext ?_))
  · simp only [qlane, head]; omega
  · simp only [qlane]; omega
theorem sees_iff : Sees t b q j ↔ Cert.AttnSpec.Sees (nb t b) (qr q) j := by
  have := t_lt t
  unfold Sees Cert.AttnSpec.Sees
  show _ ↔ q.val % 128 < j.val ∧ j.val ≤ q.val % 128 + 128 ∧ 128 ≤ 128 * (8 * t.val + b.val) + j.val
  constructor
  · rintro ⟨h1, h2, h3⟩
    refine ⟨h1, h2, ?_⟩
    by_cases hb : b.val = 0
    · by_cases ht : t.val = 0
      · have := h3 hb ht; omega
      · omega
    · omega
  · rintro ⟨h1, h2, h3⟩
    exact ⟨h1, h2, fun hb ht => by omega⟩

/-- A band's entry at a lane, inside the sequence. -/
theorem band_lane (f : Fin 8192 → Fin 2 → Fin 64 → EReal) (X : Vec Ideal S1024x512 .bf16) (P : Vec Ideal S128x512 .bf16)
    (hX : ∀ p l, X (ix2 p l) = if l.val % 128 / 64 = l.val / 128 % 2 then f (rowT t p) ⟨l.val / 256, by omega⟩ ⟨l.val % 64, by omega⟩ else 0)
    (hP : ∀ p l, P (ix2 p l) = if l.val % 128 / 64 = l.val / 128 % 2 then f (rowP t p) ⟨l.val / 256, by omega⟩ ⟨l.val % 64, by omega⟩ else 0)
    (h : 128 ≤ 128 * (nb t b).val + j.val) (l : Fin 128) :
    kz X P b kv half j l = if l.val / 64 = half.val then Cert.AttnSpec.band f (nb t b) j kv ⟨l.val % 64, by omega⟩ else 0 := by
  have ht := t_lt t
  have hn : (nb t b).val = 8 * t.val + b.val := rfl
  have e1 : (klane kv half l).val % 128 / 64 = l.val / 64 := by simp only [klane]; omega
  have e2 : (klane kv half l).val / 128 % 2 = half.val := by simp only [klane]; omega
  have e3 : (⟨(klane kv half l).val / 256, by omega⟩ : Fin 2) = kv := Fin.ext (by simp only [klane]; omega)
  have e4 : (⟨(klane kv half l).val % 64, by omega⟩ : Fin 64) = ⟨l.val % 64, by omega⟩ := Fin.ext (by simp only [klane]; omega)
  unfold kz Cert.AttnSpec.band
  rw [dif_pos h]
  by_cases hb : 128 * b.val + j.val < 128
  · rw [dif_pos hb, hP, e1, e2, e3, e4]
    refine congrArg (fun z => if l.val / 64 = half.val then f z kv ⟨l.val % 64, by omega⟩ else 0) (Fin.ext ?_)
    show 128 * (8 * t.val - 1) + (128 * b.val + j.val) = 128 * (8 * t.val + b.val) + j.val - 128
    omega
  · rw [dif_neg hb, hX, e1, e2, e3, e4]
    refine congrArg (fun z => if l.val / 64 = half.val then f z kv ⟨l.val % 64, by omega⟩ else 0) (Fin.ext ?_)
    show 1024 * t.val + (128 * b.val + j.val - 128) = 128 * (8 * t.val + b.val) + j.val - 128
    omega

theorem k_lane (h : 128 ≤ 128 * (nb t b).val + j.val) (l : Fin 128) : kz (iblk m c 1 t) (iblk m c 2 t) b kv half j l
    = if l.val / 64 = half.val then Cert.AttnSpec.band (K m c) (nb t b) j kv ⟨l.val % 64, by omega⟩ else 0 :=
  band_lane t b kv half j (K m c) _ _ (fun p l => (blk1 m c t p l).trans (k_at m c _ l)) (fun p l => (blk2 m c t p l).trans (k_at m c _ l)) h l
theorem v_lane (h : 128 ≤ 128 * (nb t b).val + j.val) (l : Fin 128) : vz (iblk m c 3 t) (iblk m c 4 t) b kv half l j
    = if l.val / 64 = half.val then Cert.AttnSpec.band (U m c) (nb t b) j kv ⟨l.val % 64, by omega⟩ else 0 :=
  band_lane t b kv half j (U m c) (fun i => iblk m c 3 t (ix2 (i 1) (i 0))) (fun i => iblk m c 4 t (ix2 (i 1) (i 0)))
    (fun p l => (blk3 m c t l p).trans (v_at m c l _)) (fun p l => (blk4 m c t l p).trans (v_at m c l _)) h l

end Cert.AttnFwdIdeal.Host
end
-- ==== Proof.AttnFwd.BlockO.lean ====
/- What one grid point of the attention forward kernel writes, as functions of its input blocks. -/
module

public import proofs.«01_k».proof.Proof.AttnFwd.Entry

@[expose] public section

set_option maxRecDepth 16384

noncomputable section

namespace Cert.AttnFwdIdeal.Block

open Cert.AttnBwdIdeal.Chain (key qrow qlane klane head qcol)
open Cert.AttnFwdIdeal Cert.AttnFwdIdeal.Gen Cert.AttnFwdIdeal.Chain Idealize.ShloMosaic Idealize.ShloMosaic.TcCoe Idealize.SL.Sem
variable (X0 : Vec Ideal S1024x512 .bf16) (X1 : Vec Ideal S1024x512 .bf16) (X2 : Vec Ideal S128x512 .bf16)
  (X3 : Vec Ideal S512x1024 .bf16) (X4 : Vec Ideal S512x128 .bf16) (X5 : Vec Ideal S1x8 .f32) (t : Fin cfg0.N)

/-- The output of a tile's row and lane. -/
def outG (p : Fin 1024) (j : Fin 512) : EReal :=
  oB X0 X1 X2 X3 X4 X5 t ⟨p.val / 128, by omega⟩ ⟨j.val / 256, by omega⟩ (qcol ⟨j.val / 128 % 2, by omega⟩ ⟨p.val % 128, by omega⟩) ⟨j.val % 128, by omega⟩

theorem out_at (p : Fin 1024) (j : Fin 512) (b : Fin 8) (kv s : Fin 2) (x : S128x128.Idx)
    (h0 : p.val = 128 * b.val + (x 0).val) (h1 : j.val = 256 * kv.val + 128 * s.val + (x 1).val) :
    outPiece X0 X1 X2 X3 X4 X5 (blockMask t b) b kv s x = outG X0 X1 X2 X3 X4 X5 t p j := by
  obtain ⟨r, l, rfl⟩ : ∃ (r l : Fin 128), x = ix2 r l := ⟨x 0, x 1, eq_ix2 x⟩
  refine (outPiece_apply _ _ _ _ _ _ t b kv s r l).trans ?_
  have h0' : p.val = 128 * b.val + r.val := h0
  have h1' : j.val = 256 * kv.val + 128 * s.val + l.val := h1
  have hr := r.isLt
  have hl := l.isLt
  have eb : (⟨p.val / 128, by omega⟩ : Fin 8) = b := Fin.ext (by simp only []; omega)
  have ek : (⟨j.val / 256, by omega⟩ : Fin 2) = kv := Fin.ext (by simp only []; omega)
  have es : (⟨j.val / 128 % 2, by omega⟩ : Fin 2) = s := Fin.ext (by simp only []; omega)
  have er : (⟨p.val % 128, by omega⟩ : Fin 128) = r := Fin.ext (by simp only []; omega)
  have el : (⟨j.val % 128, by omega⟩ : Fin 128) = l := Fin.ext (by simp only []; omega)
  rw [outG, eb, ek, es, er, el]

/-- The log-sum-exp of a head and a tile's row. -/
def lseG (h : Fin 8) (p : Fin 1024) : EReal :=
  let b : Fin 8 := ⟨p.val / 128, by omega⟩
  let q := qcol ⟨h.val / 2 % 2, by omega⟩ ⟨p.val % 128, by omega⟩
  Soft.lse (Sees t b q) (sB X0 X1 X2 b ⟨h.val / 4, by omega⟩ ⟨h.val % 2, by omega⟩ q) (X5 (ix2 0 h))

theorem lse_at (h : Fin 8) (p : Fin 1024) (b : Fin 8) (kv half s : Fin 2) (x : S1x128.Idx)
    (h0 : h.val = 4 * kv.val + half.val + 2 * s.val + (x 0).val) (h1 : p.val = 128 * b.val + (x 1).val) :
    lsePiece X0 X1 X2 X5 (blockMask t b) b kv half s x = lseG X0 X1 X2 X5 t h p := by
  obtain ⟨z, r, rfl⟩ : ∃ (z : Fin 1) (r : Fin 128), x = ix2 z r := ⟨x 0, x 1, eq_ix2 x⟩
  obtain rfl : z = 0 := Subsingleton.elim _ _
  refine (lsePiece_apply _ _ _ _ t b kv half s r).trans ?_
  have h0' : h.val = 4 * kv.val + half.val + 2 * s.val := h0
  have h1' : p.val = 128 * b.val + r.val := h1
  have hr := r.isLt
  have eb : (⟨p.val / 128, by omega⟩ : Fin 8) = b := Fin.ext (by simp only []; omega)
  have ek : (⟨h.val / 4, by omega⟩ : Fin 2) = kv := Fin.ext (by simp only []; omega)
  have eh : (⟨h.val % 2, by omega⟩ : Fin 2) = half := Fin.ext (by simp only []; omega)
  have es : (⟨h.val / 2 % 2, by omega⟩ : Fin 2) = s := Fin.ext (by simp only []; omega)
  have er : (⟨p.val % 128, by omega⟩ : Fin 128) = r := Fin.ext (by simp only []; omega)
  have ez : head kv half (qcol s r) = h := Fin.ext (by simp only [head, qcol]; omega)
  simp only [lseG]
  rw [eb, ek, eh, es, er, ez]

set_option maxHeartbeats 4000000 in
theorem out6 (p : Fin 1024) (j : Fin 512) : out0_6 (F := Ideal) (grid0.coords t) X0 X1 X2 X3 X4 X5 (ix2 p j) = outG X0 X1 X2 X3 X4 X5 t p j := by
  have k := out_at X0 X1 X2 X3 X4 X5 t p j
  unfold out0_6
  canon_tiles x hx
  exacts [k 7 1 1 x hx0 hx1, k 7 1 0 x hx0 hx1, k 7 0 1 x hx0 hx1, k 7 0 0 x hx0 (hx1.trans (Nat.zero_add _).symm),
    k 6 1 1 x hx0 hx1, k 6 1 0 x hx0 hx1, k 6 0 1 x hx0 hx1, k 6 0 0 x hx0 (hx1.trans (Nat.zero_add _).symm),
    k 5 1 1 x hx0 hx1, k 5 1 0 x hx0 hx1, k 5 0 1 x hx0 hx1, k 5 0 0 x hx0 (hx1.trans (Nat.zero_add _).symm),
    k 4 1 1 x hx0 hx1, k 4 1 0 x hx0 hx1, k 4 0 1 x hx0 hx1, k 4 0 0 x hx0 (hx1.trans (Nat.zero_add _).symm),
    k 3 1 1 x hx0 hx1, k 3 1 0 x hx0 hx1, k 3 0 1 x hx0 hx1, k 3 0 0 x hx0 (hx1.trans (Nat.zero_add _).symm),
    k 2 1 1 x hx0 hx1, k 2 1 0 x hx0 hx1, k 2 0 1 x hx0 hx1, k 2 0 0 x hx0 (hx1.trans (Nat.zero_add _).symm),
    k 1 1 1 x hx0 hx1, k 1 1 0 x hx0 hx1, k 1 0 1 x hx0 hx1, k 1 0 0 x hx0 (hx1.trans (Nat.zero_add _).symm),
    k 0 1 1 x (hx0.trans (Nat.zero_add _).symm) hx1, k 0 1 0 x (hx0.trans (Nat.zero_add _).symm) hx1, k 0 0 1 x (hx0.trans (Nat.zero_add _).symm) hx1, k 0 0 0 x (hx0.trans (Nat.zero_add _).symm) (hx1.trans (Nat.zero_add _).symm)]

end Cert.AttnFwdIdeal.Block
end
-- ==== Proof.AttnFwd.BlockL.lean ====
/- The log-sum-exp one grid point of the attention forward kernel writes, as a function of its input blocks. -/
module

public import proofs.«01_k».proof.Proof.AttnFwd.BlockO

@[expose] public section

set_option maxRecDepth 16384

noncomputable section

namespace Cert.AttnFwdIdeal.Block

open Cert.AttnBwdIdeal.Chain (key qrow qlane klane head qcol)
open Cert.AttnFwdIdeal Cert.AttnFwdIdeal.Gen Cert.AttnFwdIdeal.Chain Idealize.ShloMosaic Idealize.ShloMosaic.TcCoe Idealize.SL.Sem
variable (X0 : Vec Ideal S1024x512 .bf16) (X1 : Vec Ideal S1024x512 .bf16) (X2 : Vec Ideal S128x512 .bf16)
  (X3 : Vec Ideal S512x1024 .bf16) (X4 : Vec Ideal S512x128 .bf16) (X5 : Vec Ideal S1x8 .f32) (t : Fin cfg0.N)

set_option maxHeartbeats 4000000 in
theorem out7 (h : Fin 8) (p : Fin 1024) : out0_7 (F := Ideal) (grid0.coords t) X0 X1 X2 X3 X4 X5 (ix2 h p) = lseG X0 X1 X2 X5 t h p := by
  have k := lse_at X0 X1 X2 X5 t h p
  unfold out0_7
  canon_tiles x hx
  exacts [k 7 1 1 1 x hx0 hx1, k 7 1 1 0 x hx0 hx1, k 7 1 0 1 x hx0 hx1, k 7 1 0 0 x hx0 hx1,
      k 7 0 1 1 x hx0 hx1, k 7 0 1 0 x hx0 hx1, k 7 0 0 1 x hx0 hx1, k 7 0 0 0 x (hx0.trans (Nat.zero_add _).symm) hx1,
    k 6 1 1 1 x hx0 hx1, k 6 1 1 0 x hx0 hx1, k 6 1 0 1 x hx0 hx1, k 6 1 0 0 x hx0 hx1,
      k 6 0 1 1 x hx0 hx1, k 6 0 1 0 x hx0 hx1, k 6 0 0 1 x hx0 hx1, k 6 0 0 0 x (hx0.trans (Nat.zero_add _).symm) hx1,
    k 5 1 1 1 x hx0 hx1, k 5 1 1 0 x hx0 hx1, k 5 1 0 1 x hx0 hx1, k 5 1 0 0 x hx0 hx1,
      k 5 0 1 1 x hx0 hx1, k 5 0 1 0 x hx0 hx1, k 5 0 0 1 x hx0 hx1, k 5 0 0 0 x (hx0.trans (Nat.zero_add _).symm) hx1,
    k 4 1 1 1 x hx0 hx1, k 4 1 1 0 x hx0 hx1, k 4 1 0 1 x hx0 hx1, k 4 1 0 0 x hx0 hx1,
      k 4 0 1 1 x hx0 hx1, k 4 0 1 0 x hx0 hx1, k 4 0 0 1 x hx0 hx1, k 4 0 0 0 x (hx0.trans (Nat.zero_add _).symm) hx1,
    k 3 1 1 1 x hx0 hx1, k 3 1 1 0 x hx0 hx1, k 3 1 0 1 x hx0 hx1, k 3 1 0 0 x hx0 hx1,
      k 3 0 1 1 x hx0 hx1, k 3 0 1 0 x hx0 hx1, k 3 0 0 1 x hx0 hx1, k 3 0 0 0 x (hx0.trans (Nat.zero_add _).symm) hx1,
    k 2 1 1 1 x hx0 hx1, k 2 1 1 0 x hx0 hx1, k 2 1 0 1 x hx0 hx1, k 2 1 0 0 x hx0 hx1,
      k 2 0 1 1 x hx0 hx1, k 2 0 1 0 x hx0 hx1, k 2 0 0 1 x hx0 hx1, k 2 0 0 0 x (hx0.trans (Nat.zero_add _).symm) hx1,
    k 1 1 1 1 x hx0 hx1, k 1 1 1 0 x hx0 hx1, k 1 1 0 1 x hx0 hx1, k 1 1 0 0 x hx0 hx1,
      k 1 0 1 1 x hx0 hx1, k 1 0 1 0 x hx0 hx1, k 1 0 0 1 x hx0 hx1, k 1 0 0 0 x (hx0.trans (Nat.zero_add _).symm) hx1,
    k 0 1 1 1 x hx0 (hx1.trans (Nat.zero_add _).symm), k 0 1 1 0 x hx0 (hx1.trans (Nat.zero_add _).symm), k 0 1 0 1 x hx0 (hx1.trans (Nat.zero_add _).symm), k 0 1 0 0 x hx0 (hx1.trans (Nat.zero_add _).symm),
      k 0 0 1 1 x hx0 (hx1.trans (Nat.zero_add _).symm), k 0 0 1 0 x hx0 (hx1.trans (Nat.zero_add _).symm), k 0 0 0 1 x hx0 (hx1.trans (Nat.zero_add _).symm), k 0 0 0 0 x (hx0.trans (Nat.zero_add _).symm) (hx1.trans (Nat.zero_add _).symm)]

end Cert.AttnFwdIdeal.Block
end
-- ==== Proof.AttnFwd.Spec.lean ====
/- The outputs of the attention with a sliding window and a sink, over plain functions of its inputs, and rows of the softmax that agree
   once their masked scores do. -/
module

public import proofs.«01_k».proof.Proof.Attn.Spec

@[expose] public section

noncomputable section

namespace Cert.AttnSpec

open Idealize.ShloMosaic Cert.Reals

/-- An output: the values of the band, weighted by the probabilities. -/
def wsum (q : Fin 8192 → Fin 8 → Fin 64 → EReal) (k v : Fin 8192 → Fin 2 → Fin 64 → EReal) (sk : Fin 8 → EReal) (n : Fin 64) (h : Fin 8) (r : Fin 128) (d : Fin 64) : EReal :=
  ∑ j, band v n j (kvOf h) d * Ideal.div (Soft.e (Sees n r) (sc q k n h r) (sk h) j) (Soft.Z (Sees n r) (sc q k n h r) (sk h))

section
variable {n : Nat} {p p' : Fin n → Prop} [DecidablePred p] [DecidablePred p'] {s s' : Fin n → EReal} (hx : Soft.x p s = Soft.x p' s') (sk : EReal)
include hx

theorem mx_congr : Soft.mx p s sk = Soft.mx p' s' sk := by unfold Soft.mx Soft.top; rw [hx]
theorem e_congr (j : Fin n) : Soft.e p s sk j = Soft.e p' s' sk j := by unfold Soft.e; rw [hx, mx_congr hx]
theorem Z_congr : Soft.Z p s sk = Soft.Z p' s' sk := by
  unfold Soft.Z
  rw [mx_congr hx]
  simp only [e_congr hx]
theorem lse_congr : Soft.lse p s sk = Soft.lse p' s' sk := by unfold Soft.lse; rw [mx_congr hx, Z_congr hx]
end

/-- A key that is not seen has no weight. -/
theorem e_out {n : Nat} {p : Fin n → Prop} [DecidablePred p] (s : Fin n → EReal) (sk : EReal) (j : Fin n) (h : ¬p j) : Soft.e p s sk j = 0 := by
  rw [Soft.e, Soft.x, if_neg h, EReal.bot_sub]
  rfl

end Cert.AttnSpec
end
-- ==== Proof.AttnFwd.Value.lean ====
/- The two arrays the attention forward kernel leaves, in terms of the arguments. -/
module

public import proofs.«01_k».proof.Proof.AttnFwd.Host
public import proofs.«01_k».proof.Proof.AttnFwd.BlockL
public import proofs.«01_k».proof.Proof.AttnFwd.Spec
public import Idealize.ShloMosaic.Lib.IdealHost

@[expose] public section

set_option maxRecDepth 16384

noncomputable section

namespace Cert.AttnFwdIdeal.Host

open Cert.AttnBwdIdeal.Chain (key qrow qlane klane head qcol)
open Cert.AttnFwdIdeal Cert.AttnFwdIdeal.Gen Cert.AttnFwdIdeal.Chain Cert.AttnFwdIdeal.Block Cert.Reals Idealize.ShloMosaic Idealize.ShloMosaic.TcCoe Idealize.SL.Sem
open Cert.AttnSpec (hd kvOf row sc c8 wsum)
open Cert.AttnBwdIdeal.Host (qr sum_half kv_head head_half)
open Idealize.ShloMosaic.Pipeline (Dat)

variable (m : (ℓ : Loc nD τ sig) → Buf (Elt Ideal) ℓ) (c : Dev nD) (t : Fin cfg0.N)

/-- The outputs and the log-sum-exps, by row and lane and by head and row. -/
def outF (i : Fin 8192) (l : Fin 512) : EReal :=
  wsum (Q m c) (K m c) (U m c) (S m c) ⟨i.val / 128, by omega⟩ ⟨l.val / 64, by omega⟩ ⟨i.val % 128, by omega⟩ ⟨l.val % 64, by omega⟩
def lseF (h : Fin 8) (i : Fin 8192) : EReal :=
  Soft.lse (Cert.AttnSpec.Sees ⟨i.val / 128, by omega⟩ ⟨i.val % 128, by omega⟩) (sc (Q m c) (K m c) ⟨i.val / 128, by omega⟩ h ⟨i.val % 128, by omega⟩) (S m c h)

section
variable (hq : ∀ i h d, IsReal (Q m c i h d)) (hk : ∀ i h d, IsReal (K m c i h d)) (hs : ∀ h, IsReal (S m c h))

section
variable (b : Fin 8) (kv half : Fin 2) (q j : Fin 256)

include hq hk in
theorem sB_eq (h : 128 ≤ 128 * (nb t b).val + j.val) : sB (iblk m c 0 t) (iblk m c 1 t) (iblk m c 2 t) b kv half q j
    = sc (Q m c) (K m c) (nb t b) (head kv half q) (qr q) j := by
  unfold sB sc
  refine (Finset.sum_congr rfl fun l _ => ?_).trans ((sum_half half fun d => Cert.AttnSpec.band (K m c) (nb t b) j kv d * (Q m c (row (nb t b) (qr q)) (head kv half q) d * c8)).trans ?_)
  · rw [k_lane m c t b kv half j h l, q_lane]
    split_ifs with e
    · rw [head_half kv half q l e]
    · exact zero_mul _
  · rw [kv_head]
    choose k' hk' using Cert.AttnSpec.band_real (K m c) hk (nb t b) j kv
    choose q' hq' using hq (row (nb t b) (qr q)) (head kv half q)
    rw [show c8 = ((1 / 8 : ℝ) : EReal) from Cert.AttnSpec.c8_real]
    simp only [hk', hq', ← EReal.coe_mul, coe_sum]
    rw [Finset.sum_mul]
    exact congrArg _ (Finset.sum_congr rfl fun d _ => by ring)

include hq hk in
/-- The masked scores of a query are those of the reference. -/
theorem x_eq : Soft.x (Sees t b q) (sB (iblk m c 0 t) (iblk m c 1 t) (iblk m c 2 t) b kv half q)
    = Soft.x (Cert.AttnSpec.Sees (nb t b) (qr q)) (sc (Q m c) (K m c) (nb t b) (head kv half q) (qr q)) := by
  funext j
  unfold Soft.x
  by_cases h : Sees t b q j
  · have h' := (sees_iff t b q j).mp h
    rw [if_pos h, if_pos h', sB_eq m c t hq hk b kv half q j h'.2.2]
  · rw [if_neg h, if_neg (fun h' => h ((sees_iff t b q j).mpr h'))]

include hq hk hs in
/-- One term of an output: the value in the lanes of its half, times the probability. -/
theorem term_eq (l : Fin 128) :
    vz (iblk m c 3 t) (iblk m c 4 t) b kv half l j * pB (iblk m c 0 t) (iblk m c 1 t) (iblk m c 2 t) (iblk m c 5 t) t b kv half q j
    = if l.val / 64 = half.val then Cert.AttnSpec.band (U m c) (nb t b) j kv ⟨l.val % 64, by omega⟩
        * Ideal.div (Soft.e (Cert.AttnSpec.Sees (nb t b) (qr q)) (sc (Q m c) (K m c) (nb t b) (head kv half q) (qr q)) (S m c (head kv half q)) j)
          (Soft.Z (Cert.AttnSpec.Sees (nb t b) (qr q)) (sc (Q m c) (K m c) (nb t b) (head kv half q) (qr q)) (S m c (head kv half q))) else 0 := by
  have hx := x_eq m c t hq hk b kv half q
  obtain ⟨z, hz, hZ⟩ := Soft.Z_real (Cert.AttnSpec.Sees (nb t b) (qr q)) (sc (Q m c) (K m c) (nb t b) (head kv half q) (qr q)) (S m c (head kv half q))
    (Cert.AttnSpec.sc_real _ _ hq hk _ _ _) (hs _)
  have hne : Soft.Z (Cert.AttnSpec.Sees (nb t b) (qr q)) (sc (Q m c) (K m c) (nb t b) (head kv half q) (qr q)) (S m c (head kv half q)) ≠ 0 := by
    rw [hZ]; exact_mod_cast hz.ne'
  unfold pB
  rw [blk5, Cert.AttnSpec.e_congr hx, Cert.AttnSpec.Z_congr hx, Idealize.ShloMosaic.Ideal.mul_one_div hne]
  by_cases h : 128 ≤ 128 * (nb t b).val + j.val
  · rw [v_lane m c t b kv half j h l]
    split_ifs
    · rfl
    · exact zero_mul _
  · rw [Cert.AttnSpec.e_out _ _ _ (fun h' => h h'.2.2), Idealize.ShloMosaic.Ideal.zero_div hne, mul_zero, mul_zero, ite_self]

include hq hk hs in
theorem oB_eq (l : Fin 128) : oB (iblk m c 0 t) (iblk m c 1 t) (iblk m c 2 t) (iblk m c 3 t) (iblk m c 4 t) (iblk m c 5 t) t b kv q l
    = wsum (Q m c) (K m c) (U m c) (S m c) (nb t b) (head kv ⟨l.val / 64, by omega⟩ q) (qr q) ⟨l.val % 64, by omega⟩ := by
  unfold oB wsum
  rw [kv_head, Fin.sum_univ_two]
  simp only [term_eq m c t hq hk hs]
  by_cases h : l.val < 64
  · have e : (⟨l.val / 64, by omega⟩ : Fin 2) = 0 := Fin.ext (by show l.val / 64 = 0; omega)
    have e0 : l.val / 64 = (0 : Fin 2).val := by show l.val / 64 = 0; omega
    have e1 : ¬l.val / 64 = (1 : Fin 2).val := by show ¬l.val / 64 = 1; omega
    simp only [if_pos e0, if_neg e1, e, Finset.sum_const_zero, add_zero]
  · have e : (⟨l.val / 64, by omega⟩ : Fin 2) = 1 := Fin.ext (by show l.val / 64 = 1; omega)
    have e0 : ¬l.val / 64 = (0 : Fin 2).val := by show ¬l.val / 64 = 0; omega
    have e1 : l.val / 64 = (1 : Fin 2).val := by show l.val / 64 = 1; omega
    simp only [if_neg e0, if_pos e1, e, Finset.sum_const_zero, zero_add]

end

include hq hk hs in
theorem out_eq (p : Fin 1024) (l : Fin 512) :
    outG (iblk m c 0 t) (iblk m c 1 t) (iblk m c 2 t) (iblk m c 3 t) (iblk m c 4 t) (iblk m c 5 t) t p l = outF m c (rowT t p) l := by
  unfold outG outF
  rw [oB_eq m c t hq hk hs]
  have hp := p.isLt
  have hl := l.isLt
  have e1 : (⟨(rowT t p).val / 128, by omega⟩ : Fin 64) = nb t ⟨p.val / 128, by omega⟩ := Fin.ext (by simp only [rowT, nb]; omega)
  have e2 : (⟨(rowT t p).val % 128, by omega⟩ : Fin 128) = qr (qcol ⟨l.val / 128 % 2, by omega⟩ ⟨p.val % 128, by omega⟩) := Fin.ext (by simp only [rowT, qr, qcol]; omega)
  have e3 : (⟨l.val / 64, by omega⟩ : Fin 8) = head ⟨l.val / 256, by omega⟩ ⟨l.val % 128 / 64, by omega⟩ (qcol ⟨l.val / 128 % 2, by omega⟩ ⟨p.val % 128, by omega⟩) :=
    Fin.ext (by simp only [head, qcol]; omega)
  have e4 : (⟨l.val % 64, by omega⟩ : Fin 64) = ⟨l.val % 128 % 64, by omega⟩ := Fin.ext (by simp only []; omega)
  rw [e1, e2, e3, e4]

include hq hk in
theorem lse_eq (h : Fin 8) (p : Fin 1024) :
    lseG (iblk m c 0 t) (iblk m c 1 t) (iblk m c 2 t) (iblk m c 5 t) t h p = lseF m c h (rowT t p) := by
  simp only [lseG]
  unfold lseF
  rw [blk5, Cert.AttnSpec.lse_congr (x_eq m c t hq hk _ _ _ _)]
  have hp := p.isLt
  have e1 : (⟨(rowT t p).val / 128, by omega⟩ : Fin 64) = nb t ⟨p.val / 128, by omega⟩ := Fin.ext (by simp only [rowT, nb]; omega)
  have e2 : (⟨(rowT t p).val % 128, by omega⟩ : Fin 128) = qr (qcol ⟨h.val / 2 % 2, by omega⟩ ⟨p.val % 128, by omega⟩) := Fin.ext (by simp only [rowT, qr, qcol]; omega)
  have e3 : head ⟨h.val / 4, by omega⟩ ⟨h.val % 2, by omega⟩ (qcol ⟨h.val / 2 % 2, by omega⟩ ⟨p.val % 128, by omega⟩) = h := Fin.ext (by simp only [head, qcol]; omega)
  rw [e1, e2, e3]

include hq hk hs in
/-- The outputs after the run. -/
theorem arr6 : (dats m 0 c).arrAt 6 cfg0.N = fun y : S8192x512.Idx => outF m c (y 0) (y 1) := by
  refine (dats m 0 c).arrAt_eq_of_covers 6 _ (by decide +kernel) fun t hf y => ?_
  obtain ⟨p, k, rfl⟩ : ∃ (p : Fin 1024) (k : Fin 512), y = ix2 p k := ⟨y 0, y 1, eq_ix2 y⟩
  blk_simp
  rw [after0_6]
  refine (out6 _ _ _ _ _ _ t p k).trans ((out_eq m c t hq hk hs p k).trans ?_)
  refine Eq.trans ?_ (congrArg (fun y : S8192x512.Idx => outF m c (y 0) (y 1)) (show ix2 (rowT t p) k = _ from ?_))
  · rfl
  · blk_ext [index_rows t, rowT]

include hq hk in
/-- The log-sum-exps after the run. -/
theorem arr7 : (dats m 0 c).arrAt 7 cfg0.N = fun y : S8x8192.Idx => lseF m c (y 0) (y 1) := by
  refine (dats m 0 c).arrAt_eq_of_covers 7 _ (by decide +kernel) fun t hf y => ?_
  obtain ⟨h, p, rfl⟩ : ∃ (h : Fin 8) (p : Fin 1024), y = ix2 h p := ⟨y 0, y 1, eq_ix2 y⟩
  blk_simp
  rw [after0_7]
  refine (out7 _ _ _ _ _ _ t h p).trans ((lse_eq m c t hq hk h p).trans ?_)
  refine Eq.trans ?_ (congrArg (fun y : S8x8192.Idx => lseF m c (y 0) (y 1)) (show ix2 h (rowT t p) = _ from ?_))
  · rfl
  · blk_ext [index_rows t, rowT]

end

end Cert.AttnFwdIdeal.Host
end
-- ==== Proof.AttnFwd.Ref.lean ====
/- What the attention forward reference's arrays hold, entry by entry: the scores, the softmax with a sink, and the sums of the weighted values. -/
module

public import proofs.«01_k».proof.Proof.Gen.AttnFwdRefIdeal.Read
public import proofs.«01_k».proof.Proof.Attn.RefSoft
public import proofs.«01_k».proof.Proof.AttnFwd.Spec

@[expose] public section

set_option maxRecDepth 16384

noncomputable section

namespace Cert.AttnFwdRefIdeal.Read

open Cert.AttnBwdRefIdeal.Read (qf kf sf kv_hd negInf band_form near inside)
open Cert.AttnSpec Cert.AttnFwdRefIdeal Cert.AttnFwdRefIdeal.Gen Idealize.ShloMosaic Idealize.ShloMosaic.TcCoe Idealize.SL.Sem

theorem ev6 (x1) (n : Fin 64) (j : Fin 256) (kv : Fin 2) (d : Fin 64) : val_main_v6 (F := Ideal) x1 (ix5 0 n j kv d) = band (kf x1) n j kv d := by
  pointwise [val_main_v6, val_main_v5, val_main_v4, val_main_v3, val_main_v2, val_main_cst]
  exact band_form x1 n j kv d

theorem ev64 (x2) (n : Fin 64) (j : Fin 256) (kv : Fin 2) (d : Fin 64) : val_main_v64 (F := Ideal) x2 (ix5 0 n j kv d) = band (kf x2) n j kv d := by
  pointwise [val_main_v64, val_main_v63, val_main_v62, val_main_v61, val_main_v60, val_main_cst_9]
  exact band_form x2 n j kv d

theorem ev1 (x0) (n : Fin 64) (r : Fin 128) (kv : Fin 2) (g : Fin 4) (d : Fin 64) : val_main_v1 (F := Ideal) x0 (ix6 0 n r kv g d) = qf x0 (row n r) (hd kv g) d := by
  pointwise [val_main_v1, qf]
  refine congrArg x0 ?_
  rw [show row n r = ⟨n.val * 128 + r.val, by omega⟩ from Fin.ext (by simp only [row]; omega), show hd kv g = ⟨kv.val * 4 + g.val, by omega⟩ from Fin.ext (by simp only [hd]; omega)]

theorem ev41 (n : Fin 64) (r : Fin 128) (j : Fin 256) : val_main_v41 (F := Ideal) (ix6 0 n 0 0 r j) = if Sees n r j then 1#1 else 0#1 := by
  pointwise [val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_c, val_main_c_1, val_main_c_2, val_main_c_3, val_main_c_4, val_main_c_5]
  rw [near, inside]
  unfold Sees
  by_cases a : r.val < j.val <;> by_cases b : j.val ≤ r.val + 128 <;> by_cases c : 128 ≤ 128 * n.val + j.val <;> simp [a, b, c, IntOp.andi]

section
variable (x0 : S1x8192x8x64.Idx → EReal) (x1 x2 : S1x8192x2x64.Idx → EReal) (x3 : S1x8.Idx → EReal) (n : Fin 64) (r : Fin 128) (kv : Fin 2) (g : Fin 4)

theorem ev10 (j : Fin 256) : val_main_v10 (F := Ideal) x0 x1 (ix6 0 n kv g r j) = sc (qf x0) (kf x1) n (hd kv g) r j := by
  pointwise [val_main_v10, val_main_v9, val_main_v8, val_main_v7, val_main_cst_0, ev6, ev1, sc]
  rw [kv_hd]
  rfl

theorem ev42 (j : Fin 256) : val_main_v42 (F := Ideal) x0 x1 (ix6 0 n kv g r j) = Soft.x (Sees n r) (sc (qf x0) (kf x1) n (hd kv g) r) j := by
  pointwise [val_main_v42, val_main_call0_v1, val_main_call0_v2, val_main_call0_v0, val_main_cst_6, ev41, ev10]
  unfold Soft.x
  by_cases h : Sees n r j
  · simp [h, Scalar.select]
  · simp [h, Scalar.select]
    exact negInf

theorem ev44 : val_main_v44 (F := Ideal) x3 (ix6 0 0 kv g 0 0) = sf x3 (hd kv g) := by
  pointwise [val_main_v44, val_main_v43, val_main_v0, sf]
  exact congrArg (fun z => x3 (ix2 0 z)) (Fin.ext (by simp only [hd]; omega))

theorem ev45 : val_main_v45 (F := Ideal) x0 x1 (ix5 0 n kv g r) = Soft.top (Sees n r) (sc (qf x0) (kf x1) n (hd kv g) r) := by
  pointwise [val_main_v45, val_main_cst_7]
  refine (Sums.fold_last _ _ _ 0 n kv g r).trans ?_
  rw [negInf]
  exact congrArg (Finset.univ.fold max ⊥) (funext fun j => ev42 x0 x1 n r kv g j)

theorem ev46 : val_main_v46 (F := Ideal) x0 x1 (ix6 0 n kv g r 0) = Soft.top (Sees n r) (sc (qf x0) (kf x1) n (hd kv g) r) := by
  refine Eq.trans ?_ (ev45 x0 x1 n r kv g)
  unfold val_main_v46
  generalize val_main_v45 (F := Ideal) x0 x1 = v
  pointwise

theorem ev47 : val_main_v47 (F := Ideal) x3 (ix6 0 n kv g r 0) = sf x3 (hd kv g) := by
  refine Eq.trans ?_ (ev44 x3 kv g)
  unfold val_main_v47
  generalize val_main_v44 (F := Ideal) x3 = v
  pointwise

theorem v48_is : val_main_v48 (F := Ideal) x0 x1 x3 = maximumf (F := Ideal) (s := S1x64x2x4x128x1) (φ := .f32) (val_main_v46 (F := Ideal) x0 x1) (val_main_v47 (F := Ideal) x3) := rfl

theorem max_at (v w : FVec Ideal S1x64x2x4x128x1 .f32) (i) : maximumf (F := Ideal) v w i = max (v i) (w i) := rfl

theorem ev48 : val_main_v48 (F := Ideal) x0 x1 x3 (ix6 0 n kv g r 0) = Soft.mx (Sees n r) (sc (qf x0) (kf x1) n (hd kv g) r) (sf x3 (hd kv g)) := by
  rw [v48_is, max_at, ev46, ev47, Soft.mx]

theorem ev51 (j : Fin 256) : val_main_v51 (F := Ideal) x0 x1 x3 (ix6 0 n kv g r j) = Soft.e (Sees n r) (sc (qf x0) (kf x1) n (hd kv g) r) (sf x3 (hd kv g)) j := by
  pointwise [val_main_v51, val_main_v50, val_main_v49, ev48, ev42, Soft.e]

theorem ev56 : val_main_v56 (F := Ideal) x0 x1 x3 (ix6 0 n kv g r 0) = Ideal.exp (sf x3 (hd kv g) - Soft.mx (Sees n r) (sc (qf x0) (kf x1) n (hd kv g) r) (sf x3 (hd kv g))) := by
  pointwise [val_main_v56, val_main_v55, val_main_v54, ev48, ev44]

theorem ev57 : val_main_v57 (F := Ideal) x0 x1 x3 (ix6 0 n kv g r 0) = Soft.Z (Sees n r) (sc (qf x0) (kf x1) n (hd kv g) r) (sf x3 (hd kv g)) := by
  pointwise [val_main_v57, val_main_v53, val_main_v52, val_main_cst_8, ev56, Sums.reduce_last, ev51, Soft.Z]

theorem ev59 (j : Fin 256) : val_main_v59 (F := Ideal) x0 x1 x3 (ix6 0 n kv g r j)
    = Ideal.div (Soft.e (Sees n r) (sc (qf x0) (kf x1) n (hd kv g) r) (sf x3 (hd kv g)) j) (Soft.Z (Sees n r) (sc (qf x0) (kf x1) n (hd kv g) r) (sf x3 (hd kv g))) := by
  pointwise [val_main_v59, val_main_v58, ev57, ev51]

theorem ev65 (d : Fin 64) : val_main_v65 (F := Ideal) x0 x1 x2 x3 (ix6 0 n kv d g r) = wsum (qf x0) (kf x1) (kf x2) (sf x3) n (hd kv g) r d := by
  pointwise [val_main_v65, ev64, ev59, wsum]
  rw [kv_hd]

end

end Cert.AttnFwdRefIdeal.Read
end
-- ==== Proof.AttnFwd.RefOut.lean ====
/- What the attention forward reference's arrays hold, entry by entry: its two results. -/
module

public import proofs.«01_k».proof.Proof.AttnFwd.Ref

@[expose] public section

set_option maxRecDepth 16384

noncomputable section

namespace Cert.AttnFwdRefIdeal.Read

open Cert.AttnBwdRefIdeal.Read (qf kf sf kv_hd negInf band_form near inside)
open Cert.AttnSpec Cert.AttnFwdRefIdeal Cert.AttnFwdRefIdeal.Gen Idealize.ShloMosaic Idealize.ShloMosaic.TcCoe Idealize.SL.Sem

section
variable (x0 : S1x8192x8x64.Idx → EReal) (x1 x2 : S1x8192x2x64.Idx → EReal) (x3 : S1x8.Idx → EReal)

theorem add_log_at (v w : FVec Ideal S1x64x2x4x128x1 .f32) (i) : addf (F := Ideal) v (Host.log w) i = v i + Ideal.log (w i) := rfl

theorem v68_is : val_main_v68 (F := Ideal) x0 x1 x3
    = addf (F := Ideal) (s := S1x64x2x4x128x1) (φ := .f32) (val_main_v48 (F := Ideal) x0 x1 x3) (Host.log (F := Ideal) (s := S1x64x2x4x128x1) (φ := .f32) (val_main_v57 (F := Ideal) x0 x1 x3)) := rfl

theorem ev68 (n : Fin 64) (r : Fin 128) (kv : Fin 2) (g : Fin 4) :
    val_main_v68 (F := Ideal) x0 x1 x3 (ix6 0 n kv g r 0) = Soft.lse (Sees n r) (sc (qf x0) (kf x1) n (hd kv g) r) (sf x3 (hd kv g)) := by
  rw [v68_is, add_log_at, ev48, ev57, Soft.lse]

theorem res_lse (h : Fin 8) (i : Fin 8192) : val_main_v71 (F := Ideal) x0 x1 x3 (ix2 h i)
    = Soft.lse (Sees ⟨i.val / 128, by omega⟩ ⟨i.val % 128, by omega⟩) (sc (qf x0) (kf x1) ⟨i.val / 128, by omega⟩ h ⟨i.val % 128, by omega⟩) (sf x3 h) := by
  have e := ev68 x0 x1 x3 ⟨i.val / 128, by omega⟩ ⟨i.val % 128, by omega⟩ ⟨h.val / 4, by omega⟩ ⟨h.val % 4, by omega⟩
  rw [show hd ⟨h.val / 4, by omega⟩ ⟨h.val % 4, by omega⟩ = h from Fin.ext (by simp only [hd]; omega)] at e
  refine Eq.trans ?_ e
  unfold val_main_v71 val_main_v70 val_main_v69
  generalize val_main_v68 (F := Ideal) x0 x1 x3 = v
  pointwise

theorem res_out (i : Fin 8192) (l : Fin 512) : val_main_v73 (F := Ideal) x0 x1 x2 x3 (ix2 i l)
    = wsum (qf x0) (kf x1) (kf x2) (sf x3) ⟨i.val / 128, by omega⟩ ⟨l.val / 64, by omega⟩ ⟨i.val % 128, by omega⟩ ⟨l.val % 64, by omega⟩ := by
  have e := ev65 x0 x1 x2 x3 ⟨i.val / 128, by omega⟩ ⟨i.val % 128, by omega⟩ ⟨l.val / 256, by omega⟩ ⟨l.val / 64 % 4, by omega⟩ ⟨l.val % 64, by omega⟩
  rw [show hd ⟨l.val / 256, by omega⟩ ⟨l.val / 64 % 4, by omega⟩ = ⟨l.val / 64, by omega⟩ from Fin.ext (by simp only [hd]; omega)] at e
  refine Eq.trans ?_ e
  unfold val_main_v73 val_main_v72 val_main_v66
  generalize val_main_v65 (F := Ideal) x0 x1 x2 x3 = v
  pointwise

end

end Cert.AttnFwdRefIdeal.Read
end
-- ==== Proof.AttnFwd.Claim.lean ====
/- The value claim of the attention's forward call: the two arrays the kernel leaves are the reference's. -/
module

public import proofs.«01_k».proof.Defs
public import proofs.«01_k».proof.Proof.AttnFwd.Value
public import proofs.«01_k».proof.Proof.AttnFwd.RefOut
public import proofs.«01_k».proof.Proof.Gen.AttnFwdRefIdeal.Run
public import proofs.«01_k».proof.Proof.Gen.Pre_finite_attnfwd

@[expose] public section

set_option maxRecDepth 16384

noncomputable section

namespace Cert.AttnFwdIdeal.Host

open Cert.Reals Cert.AttnFwdIdeal Cert.AttnFwdIdeal.Gen Idealize.ShloMosaic Idealize.ShloMosaic.TcCoe Idealize.SL.Sem

variable (m : (ℓ : Loc nD τ sig) → Buf (Elt Ideal) ℓ)

/-- The precondition, entry by entry. -/
theorem pre_real (h : Cert.Pre_AttnFwdIdeal_finite_attnfwd m) (c : Dev nD) :
    (∀ y, IsReal (m ((c : Thread nD τ).loc main_arg0) y)) ∧ (∀ y, IsReal (m ((c : Thread nD τ).loc main_arg1) y)) ∧ (∀ y, IsReal (m ((c : Thread nD τ).loc main_arg3) y)) := by
  obtain ⟨h0, h1, h3⟩ := h c
  exact ⟨fun y => isReal_of_cmp (congrFun h0 y), fun y => isReal_of_cmp (congrFun h1 y), fun y => isReal_of_cmp (congrFun h3 y)⟩

/-- The output of the reference is the array the kernel leaves. -/
theorem same_out (hpre : Cert.Pre_AttnFwdIdeal_finite_attnfwd m) (c : Dev nD) :
    Cert.AttnFwdRefIdeal.Read.val_main_v73 (F := Ideal) (m ((c : Thread nD τ).loc main_arg0)) (m ((c : Thread nD τ).loc main_arg1)) (m ((c : Thread nD τ).loc main_arg2)) (m ((c : Thread nD τ).loc main_arg3)) = (dats m 0 c).arrAt 6 cfg0.N := by
  obtain ⟨h0, h1, h3⟩ := pre_real m hpre c
  refine Eq.trans ?_ (arr6 m c (fun _ _ _ => h0 _) (fun _ _ _ => h1 _) (fun _ => h3 _)).symm
  funext y
  obtain ⟨i, k, rfl⟩ : ∃ (i : Fin 8192) (k : Fin 512), y = ix2 i k := ⟨y 0, y 1, eq_ix2 y⟩
  exact Cert.AttnFwdRefIdeal.Read.res_out _ _ _ _ i k

/-- The log-sum-exps of the reference are the array the kernel leaves. -/
theorem same_lse (hpre : Cert.Pre_AttnFwdIdeal_finite_attnfwd m) (c : Dev nD) :
    Cert.AttnFwdRefIdeal.Read.val_main_v71 (F := Ideal) (m ((c : Thread nD τ).loc main_arg0)) (m ((c : Thread nD τ).loc main_arg1)) (m ((c : Thread nD τ).loc main_arg3)) = (dats m 0 c).arrAt 7 cfg0.N := by
  obtain ⟨h0, h1, _⟩ := pre_real m hpre c
  refine Eq.trans ?_ (arr7 m c (fun _ _ _ => h0 _) (fun _ _ _ => h1 _)).symm
  funext y
  obtain ⟨h, i, rfl⟩ : ∃ (h : Fin 8) (i : Fin 8192), y = ix2 h i := ⟨y 0, y 1, eq_ix2 y⟩
  exact Cert.AttnFwdRefIdeal.Read.res_lse _ _ _ h i

set_option maxHeartbeats 2000000 in
theorem algebraic : Cert.algebraic_AttnFwdIdeal_AttnFwdRefIdeal_pre_finite_attnfwd := by
  pair_intro
  · run_from Cert.AttnFwdIdeal.Value.run_blocks (F := Ideal) m g
  · refine Idealize.ShloMosaic.θ_run_mono (Cert.AttnFwdRefIdeal.Value.run (F := Ideal) m' g') fun r hr c => ⟨(hr c).1.trans ?_, (hr c).2.1.trans ?_, (hr c).2.2⟩
    · obtain ⟨e0, e1, e2, e3⟩ := hagree c
      rw [Cert.AttnFwdRefIdeal.Read.val_main_v73_eq, e0, e1, e2, e3]
      exact same_out m hpre c
    · obtain ⟨e0, e1, e2, e3⟩ := hagree c
      rw [Cert.AttnFwdRefIdeal.Read.val_main_v71_eq, e0, e1, e3]
      exact same_lse m hpre c

end Cert.AttnFwdIdeal.Host
end
-- ==== Proof.Pool.Block.lean ====
/- What one grid point of the pooling backward kernel computes, from the eight input blocks it is given and the rows the later tile left. -/
module

public import proofs.«01_k».proof.Proof.Gen.PoolBwdIdeal.Value
public import Idealize.ShloMosaic.Lib.Pipeline.ValueKit
public import Idealize.ShloMosaic.Lib.Pipeline.ReadBack

@[expose] public section

set_option maxRecDepth 16384

noncomputable section

namespace Cert.PoolBwdIdeal.Block

open Cert.PoolBwdIdeal Cert.PoolBwdIdeal.Gen Idealize.ShloMosaic Idealize.ShloMosaic.TcCoe Idealize.SL.Sem

/-- Column `c` of group `g`. -/
abbrev col (g : Fin 4) (c : Fin 128) : Fin 512 := ⟨128 * g.val + c.val, by omega⟩

/-- The group of a column. -/
abbrev grp (q : Fin 512) : Fin 4 := ⟨q.val / 128, by omega⟩

/-- The place of a column in its group. -/
abbrev lane (q : Fin 512) : Fin 128 := ⟨q.val % 128, Nat.mod_lt _ (by decide)⟩

/-- The window of each group. -/
def size (g : Fin 4) : Nat := ![2, 4, 8, 16] g

/-- The reciprocal of each group's window, as the kernel's constants hold it. -/
def inv (g : Fin 4) : EReal := Ideal.ofBits .f32 (![0x3F000000#32, 0x3E800000#32, 0x3E000000#32, 0x3D800000#32] g)

/-- The rows of a tile followed by the sixteen rows the later tile left. -/
def ext (w : Fin 1024 → EReal) (h : Fin 16 → EReal) (n : Nat) : EReal :=
  if hn : n < 1024 then w ⟨n, hn⟩ else if hm : n < 1040 then h ⟨n - 1024, by omega⟩ else 0

section
variable (x0 : Vec Ideal S1024x1024 .f32) (x1 x2 x3 : Vec Ideal S1024x512 .bf16) (x4 : Vec Ideal S1024x1024 .bf16)
  (x5 : Vec Ideal S4x128x128 .bf16) (x6 x7 : Vec Ideal S1x512 .f32) (s : Nat) (H : Vec Ideal S16x512 .f32)

/-- The gradient of the concatenated branches. -/
def dcatB (p n : Fin 1024) : EReal := ∑ k : Fin 1024, x0 (ix2 p k) * x4 (ix2 n k)

/-- The gradient of the scaled pooling branch. -/
def dyB (p : Fin 1024) (g : Fin 4) (c : Fin 128) : EReal := dcatB x0 x4 p ⟨512 + (128 * g.val + c.val), by omega⟩

/-- The branch before its scale. -/
def preB (p : Fin 1024) (g : Fin 4) (c : Fin 128) : EReal := (∑ e : Fin 128, x3 (ix2 p (col g e)) * x5 (ix3 g e c)) + x6 (ix2 0 (col g c))

/-- The gradient of the branch before its scale. -/
def dpreB (p : Fin 1024) (g : Fin 4) (c : Fin 128) : EReal := dyB x0 x4 p g c * x7 (ix2 0 (col g c))

/-- The gradient of the mixed rows. -/
def dmB (p : Fin 1024) (g : Fin 4) (e : Fin 128) : EReal := ∑ d : Fin 128, dpreB x0 x4 x7 p g d * x5 (ix3 g e d)

/-- The number of rows in a row's window, as the kernel counts it. -/
def cntB (p : Fin 1024) (g : Fin 4) : EReal :=
  FloatOps.sitofp (F := Ideal) .f32 (IntOp.minsi (IntOp.addi (IntOp.addi (BitVec.ofNat 32 p.val) (Scalar.muli (Scalar.subi 7#32 (BitVec.ofNat 32 s)) 1024#32)) 1#32) (BitVec.ofNat 32 (size g)))

/-- The gradient of each row's window mean, spread over its window. -/
def wB (p : Fin 1024) (g : Fin 4) (e : Fin 128) : EReal :=
  if p.val < 16 then Ideal.div (dmB x0 x4 x5 x7 p g e) (cntB s p g) else dmB x0 x4 x5 x7 p g e * inv g

/-- The gradient of the branch's input. -/
def duB (p : Fin 1024) (g : Fin 4) (e : Fin 128) : EReal :=
  (∑ j ∈ Finset.range (size g), ext (fun r => wB x0 x4 x5 x7 s r g e) (fun r => H (ix2 r (col g e))) (p.val + j)) - dmB x0 x4 x5 x7 p g e

/-- A tile's part of the pooling scale's gradient. -/
def dpsB (g : Fin 4) (c : Fin 128) : EReal := ∑ p : Fin 1024, dyB x0 x4 p g c * preB x3 x5 x6 p g c

/-- A tile's part of the pooling bias's gradient. -/
def dbpB (g : Fin 4) (c : Fin 128) : EReal := ∑ p : Fin 1024, dpreB x0 x4 x7 p g c

/-- A tile's part of the pooling weight's gradient. -/
def dwpB (g : Fin 4) (e d : Fin 128) : EReal := ∑ p : Fin 1024, x3 (ix2 p (col g e)) * dpreB x0 x4 x7 p g d

/-- A tile's part of the output projection's gradient. -/
def dwoB (n k : Fin 1024) : EReal :=
  if h : n.val < 512 then ∑ p : Fin 1024, x1 (ix2 p ⟨n.val, h⟩) * x0 (ix2 p k) else ∑ p : Fin 1024, x2 (ix2 p ⟨n.val - 512, by omega⟩) * x0 (ix2 p k)
end

/-- A function of an index from the index's group and place. -/
theorem at_grp {n : Nat} {α : Type} (f : Fin n → Fin 4 → Fin 128 → α) (y : (⟨2, ![n, 512]⟩ : Shape).Idx) (g : Fin 4) (o : Nat) (r : Fin n) (l : Fin 128)
    (ho : o = 128 * g.val) (h0 : (y 0).val = r.val) (h1 : (y 1).val = o + l.val) : f (y 0) (grp (y 1)) (lane (y 1)) = f r g l := by
  have e0 : (y 0 : Fin n) = r := Fin.ext h0
  have e1 : grp (y 1) = g := Fin.ext (by show (y 1).val / 128 = g.val; omega)
  have e2 : lane (y 1) = l := Fin.ext (by show (y 1).val % 128 = l.val; omega)
  rw [e0, e1, e2]

/-- A function of an index from the index's slab. -/
theorem at_slab (f : Fin 4 → Fin 128 → Fin 128 → EReal) (y : S4x128x128.Idx) (g : Fin 4) (r l : Fin 128)
    (h0 : (y 0).val = g.val) (h1 : (y 1).val = r.val) (h2 : (y 2).val = l.val) : f (y 0) (y 1) (y 2) = f g r l := by
  have e0 : (y 0 : Fin 4) = g := Fin.ext h0
  have e1 : (y 1 : Fin 128) = r := Fin.ext h1
  have e2 : (y 2 : Fin 128) = l := Fin.ext h2
  rw [e0, e1, e2]

/-- A column of rows, read at any number. -/
def up (v : S1040x128.Idx → EReal) (c : Fin 128) (n : Nat) : EReal := if h : n < 1040 then v (ix2 ⟨n, h⟩ c) else 0

/-- Rotating by all but `s` rows and adding turns sums over `s` rows into sums over `2 s`. -/
theorem up_double (f : Nat → EReal) (v : S1040x128.Idx → EReal) (c : Fin 128) (sb : BitVec 32) (k : Nat) (hk : 0 < k) (hk' : k ≤ 16) (hsb : sb.toNat = 1040 - k)
    (hv : ∀ r, r + k ≤ 1040 → up v c r = ∑ j ∈ Finset.range k, f (r + j)) (r : Nat) (hr : r + (k + k) ≤ 1040) :
    up (addf (F := Ideal) (φ := .f32) v (dynamicRotate 0 sb none v rotates_S1040x128_d0)) c r = ∑ j ∈ Finset.range (k + k), f (r + j) := by
  have hr' : r < 1040 := by omega
  rw [Finset.sum_range_add, ← hv r (by omega)]
  have e : ∀ x, f (r + (k + x)) = f (r + k + x) := fun x => by rw [Nat.add_assoc]
  simp only [e]
  rw [← hv (r + k) (by omega)]
  unfold up
  rw [dif_pos hr', dif_pos hr', dif_pos (show r + k < 1040 by omega)]
  refine congrArg (fun z => (v (ix2 ⟨r, hr'⟩ c) + z : EReal)) ?_
  refine congrArg v ?_
  funext b
  match b with
  | ⟨0, _⟩ =>
    refine Fin.ext ?_
    show (r + 1040 - (sb.toNat + 0) % 1040) % 1040 = r + k
    rw [hsb]; omega
  | ⟨1, _⟩ => rfl

/-- The tile's rows over the rows left, read at any number. -/
theorem up_cat (w : S1024x128.Idx → EReal) (h : S16x128.Idx → EReal) (c : Fin 128) (n : Nat) :
    up (concatenate S1040x128 0 [⟨S1024x128, w⟩, ⟨S16x128, h⟩] concatenates_S1024x128_S16x128_S1040x128_d0) c n = ext (fun r => w (ix2 r c)) (fun r => h (ix2 r c)) n := by
  unfold up ext
  by_cases h1 : n < 1040
  · rw [dif_pos h1]
    by_cases h2 : n < 1024
    · rw [dif_pos h2]
      pointwise [h2]
    · rw [dif_neg h2, dif_pos h1]
      pointwise [h2]
  · rw [dif_neg h1, dif_neg (by omega), dif_neg h1]

section
variable (w : S1024x128.Idx → EReal) (h : S16x128.Idx → EReal) (p : Fin 1024) (c : Fin 128)

/-- The rows' own values, as sums over one row. -/
theorem up_one (r : Nat) : up (concatenate S1040x128 0 [⟨S1024x128, w⟩, ⟨S16x128, h⟩] concatenates_S1024x128_S16x128_S1040x128_d0) c r
    = ∑ j ∈ Finset.range 1, ext (fun r => w (ix2 r c)) (fun r => h (ix2 r c)) (r + j) := by
  rw [Finset.sum_range_one, up_cat]; rfl

/-- The first rows cut back out. -/
theorem cut_at (v : S1040x128.Idx → EReal) : extractStridedSlice S1024x128 ![0, 0] v slices_S1040x128_o0_0_S1024x128 (ix2 p c) = up v c p.val := by
  unfold up
  rw [dif_pos (by omega)]
  pointwise []

/-- One round of rotating and adding. -/
def turn (sb : BitVec 32) (v : FVec Ideal S1040x128 .f32) : FVec Ideal S1040x128 .f32 := addf v (dynamicRotate 0 sb none v rotates_S1040x128_d0)

/-- The tile's rows over the rows left. -/
def cat : FVec Ideal S1040x128 .f32 := concatenate S1040x128 0 [⟨S1024x128, w⟩, ⟨S16x128, h⟩] concatenates_S1024x128_S16x128_S1040x128_d0

/-- The value of the rows at any number. -/
abbrev row (n : Nat) : EReal := ext (fun r => w (ix2 r c)) (fun r => h (ix2 r c)) n

theorem up_two (r : Nat) (hr : r + 2 ≤ 1040) : up (turn 1039#32 (cat w h)) c r = ∑ j ∈ Finset.range 2, row w h c (r + j) :=
  up_double (row w h c) _ c _ 1 (by decide) (by decide) (by decide) (fun r _ => up_one w h c r) r hr

theorem up_four (r : Nat) (hr : r + 4 ≤ 1040) : up (turn 1038#32 (turn 1039#32 (cat w h))) c r = ∑ j ∈ Finset.range 4, row w h c (r + j) :=
  up_double (row w h c) _ c _ 2 (by decide) (by decide) (by decide) (up_two w h c) r hr

theorem up_eight (r : Nat) (hr : r + 8 ≤ 1040) : up (turn 1036#32 (turn 1038#32 (turn 1039#32 (cat w h)))) c r = ∑ j ∈ Finset.range 8, row w h c (r + j) :=
  up_double (row w h c) _ c _ 4 (by decide) (by decide) (by decide) (up_four w h c) r hr

theorem up_sixteen (r : Nat) (hr : r + 16 ≤ 1040) :
    up (turn 1032#32 (turn 1036#32 (turn 1038#32 (turn 1039#32 (cat w h))))) c r = ∑ j ∈ Finset.range 16, row w h c (r + j) :=
  up_double (row w h c) _ c _ 8 (by decide) (by decide) (by decide) (up_eight w h c) r hr
end

section
variable (x0 : Vec Ideal S1024x1024 .f32) (x1 x2 x3 : Vec Ideal S1024x512 .bf16) (x4 : Vec Ideal S1024x1024 .bf16)
  (x5 : Vec Ideal S4x128x128 .bf16) (x6 x7 : Vec Ideal S1x512 .f32) (H : Vec Ideal S16x512 .f32)
  (p : Fin 1024) (c : Fin 128)

/-- The windows' sums over rows that agree. -/
theorem sum_ext (n : Nat) (w w' : Fin 1024 → EReal) (h h' : Fin 16 → EReal) (D D' : EReal) (hw : ∀ r, w r = w' r) (hh : ∀ r, h r = h' r) (hD : D = D') (a : Nat) :
    (∑ j ∈ Finset.range n, ext w h (a + j)) - D = (∑ j ∈ Finset.range n, ext w' h' (a + j)) - D' := by
  rw [show w = w' from funext hw, show h = h' from funext hh, hD]

/-- The first group's result, from the rows it is made of. -/
theorem du_two (v30 : IVec S1024x128 32) (v59 : FVec Ideal S1024x128 .bf16) (v67 : Vec Ideal S1x128x128 .bf16) :
    k0_pay27 v30 H v59 v67 (ix2 p c) = (∑ j ∈ Finset.range 2, ext (fun r => k0_pay25 v30 v59 v67 (ix2 r c)) (fun r => H (ix2 r (col 0 c))) (p.val + j)) - k0_pay24 v59 v67 (ix2 p c) := by
  refine Eq.trans (congrArg (fun z : EReal => z - k0_pay24 v59 v67 (ix2 p c)) ((cut_at p c _).trans (up_two (k0_pay25 v30 v59 v67) _ c p.val (by omega)))) ?_
  refine sum_ext 2 _ _ _ _ _ _ (fun _ => rfl) (fun r => ?_) rfl _
  pointwise [col]

theorem du_four (v30 : IVec S1024x128 32) (v59 : FVec Ideal S1024x128 .bf16) (v67 : FVec Ideal S128x128 .bf16) :
    k0_pay40 v30 H v59 v67 (ix2 p c) = (∑ j ∈ Finset.range 4, ext (fun r => k0_pay38 v30 v59 v67 (ix2 r c)) (fun r => H (ix2 r (col 1 c))) (p.val + j)) - k0_pay37 v59 v67 (ix2 p c) := by
  refine Eq.trans (congrArg (fun z : EReal => z - k0_pay37 v59 v67 (ix2 p c)) ((cut_at p c _).trans (up_four (k0_pay38 v30 v59 v67) _ c p.val (by omega)))) ?_
  refine sum_ext 4 _ _ _ _ _ _ (fun _ => rfl) (fun r => ?_) rfl _
  pointwise [col]

theorem du_eight (v195 : FVec Ideal S1024x128 .f32) (v196 v202 : FVec Ideal S16x128 .f32) :
    k0_pay54 H v195 v196 v202 (ix2 p c) = (∑ j ∈ Finset.range 8, ext (fun r => k0_pay52 v195 v196 v202 (ix2 r c)) (fun r => H (ix2 r (col 2 c))) (p.val + j)) - v195 (ix2 p c) := by
  refine Eq.trans (congrArg (fun z : EReal => z - v195 (ix2 p c)) ((cut_at p c _).trans (up_eight (k0_pay52 v195 v196 v202) _ c p.val (by omega)))) ?_
  refine sum_ext 8 _ _ _ _ _ _ (fun _ => rfl) (fun r => ?_) rfl _
  pointwise [col]

theorem du_sixteen (v261 v273 : FVec Ideal S1024x128 .f32) :
    k0_pay2 H v261 v273 (ix2 p c) = (∑ j ∈ Finset.range 16, ext (fun r => v273 (ix2 r c)) (fun r => H (ix2 r (col 3 c))) (p.val + j)) - v261 (ix2 p c) := by
  refine Eq.trans (congrArg (fun z : EReal => z - v261 (ix2 p c)) ((cut_at p c _).trans (up_sixteen v273 _ c p.val (by omega)))) ?_
  refine sum_ext 16 _ _ _ _ _ _ (fun _ => rfl) (fun r => ?_) rfl _
  pointwise [col]
end

section
variable (x0 : Vec Ideal S1024x1024 .f32) (x1 x2 x3 : Vec Ideal S1024x512 .bf16) (x4 : Vec Ideal S1024x1024 .bf16)
  (x5 : Vec Ideal S4x128x128 .bf16) (x6 x7 : Vec Ideal S1x512 .f32) (H : Vec Ideal S16x512 .f32) (t : Fin cfg0.N)
  (p : Fin 1024) (e : Fin 128)

/-- The places of a tile's rows in the sequence. -/
abbrev places : IVec S1024x128 32 := k0_pay15 (iota Kind.tc S1024x128 32 [0] iota_S1024x128_d0_w32) (k0_pay14 (grid0.coords t))

theorem dm_0 : k0_pay24 (k0_pay21 (k0_pay13 x0 x4) (View.ld x7 (Rect.unit ![0, 0] ![1, 128] inb_S1x512_S1x128_0_0))) (View.ld x5 (Rect.unit ![0, 0, 0] ![1, 128, 128] inb_S4x128x128_S1x128x128_0_0_0)) (ix2 p e) = dmB x0 x4 x5 x7 p 0 e := by
  pointwise [k0_pay8, k0_pay11, k0_pay13, k0_pay17, k0_pay19, k0_pay21, k0_pay24, k0_pay30, k0_pay32, k0_pay34, k0_pay36, k0_pay37, k0_pay43, k0_pay45, k0_pay47, k0_pay49, k0_pay56, k0_pay58, k0_pay60, k0_pay62, dmB, dpreB, dyB, dcatB, col]

theorem dm_1 : k0_pay37 (k0_pay34 (k0_pay13 x0 x4) (View.ld x7 (Rect.unit ![0, 128] ![1, 128] inb_S1x512_S1x128_0_128))) (k0_pay36 (View.ld x5 (Rect.unit ![1, 0, 0] ![1, 128, 128] inb_S4x128x128_S1x128x128_1_0_0))) (ix2 p e) = dmB x0 x4 x5 x7 p 1 e := by
  pointwise [k0_pay8, k0_pay11, k0_pay13, k0_pay17, k0_pay19, k0_pay21, k0_pay24, k0_pay30, k0_pay32, k0_pay34, k0_pay36, k0_pay37, k0_pay43, k0_pay45, k0_pay47, k0_pay49, k0_pay56, k0_pay58, k0_pay60, k0_pay62, dmB, dpreB, dyB, dcatB, col]

theorem dm_2 : k0_pay49 (k0_pay43 (k0_pay13 x0 x4)) (View.ld x7 (Rect.unit ![0, 256] ![1, 128] inb_S1x512_S1x128_0_256)) (View.ld x5 (Rect.unit ![2, 0, 0] ![1, 128, 128] inb_S4x128x128_S1x128x128_2_0_0)) (ix2 p e) = dmB x0 x4 x5 x7 p 2 e := by
  pointwise [k0_pay8, k0_pay11, k0_pay13, k0_pay17, k0_pay19, k0_pay21, k0_pay24, k0_pay30, k0_pay32, k0_pay34, k0_pay36, k0_pay37, k0_pay43, k0_pay45, k0_pay47, k0_pay49, k0_pay56, k0_pay58, k0_pay60, k0_pay62, dmB, dpreB, dyB, dcatB, col]

theorem dm_3 : k0_pay62 (k0_pay56 (k0_pay13 x0 x4)) (View.ld x7 (Rect.unit ![0, 384] ![1, 128] inb_S1x512_S1x128_0_384)) (View.ld x5 (Rect.unit ![3, 0, 0] ![1, 128, 128] inb_S4x128x128_S1x128x128_3_0_0)) (ix2 p e) = dmB x0 x4 x5 x7 p 3 e := by
  pointwise [k0_pay8, k0_pay11, k0_pay13, k0_pay17, k0_pay19, k0_pay21, k0_pay24, k0_pay30, k0_pay32, k0_pay34, k0_pay36, k0_pay37, k0_pay43, k0_pay45, k0_pay47, k0_pay49, k0_pay56, k0_pay58, k0_pay60, k0_pay62, dmB, dpreB, dyB, dcatB, col]

theorem w_0 : k0_pay25 (places t) (k0_pay21 (k0_pay13 x0 x4) (View.ld x7 (Rect.unit ![0, 0] ![1, 128] inb_S1x512_S1x128_0_0))) (View.ld x5 (Rect.unit ![0, 0, 0] ![1, 128, 128] inb_S4x128x128_S1x128x128_0_0_0)) (ix2 p e) = wB x0 x4 x5 x7 (grid0.coords t 0).val p 0 e := by
  have ed := dm_0 x0 x4 x5 x7 p e
  revert ed
  unfold wB
  generalize dmB x0 x4 x5 x7 p 0 e = d
  intro ed
  by_cases h : p.val < 16
  · rw [if_pos h]
    pointwise [h, ed, k0_pay15, k0_pay14, k0_pay25, k0_pay38, k0_pay50, k0_pay51, k0_pay52, k0_pay63, cntB, size]
  · rw [if_neg h]
    pointwise [h, ed, k0_pay15, k0_pay14, k0_pay25, k0_pay38, k0_pay50, k0_pay51, k0_pay52, k0_pay63, inv]
    rw [show (⟨16 + (p.val - 16), by omega⟩ : Fin 1024) = p from Fin.ext (by show 16 + (p.val - 16) = p.val; omega), ed]

theorem w_1 : k0_pay38 (places t) (k0_pay34 (k0_pay13 x0 x4) (View.ld x7 (Rect.unit ![0, 128] ![1, 128] inb_S1x512_S1x128_0_128))) (k0_pay36 (View.ld x5 (Rect.unit ![1, 0, 0] ![1, 128, 128] inb_S4x128x128_S1x128x128_1_0_0))) (ix2 p e) = wB x0 x4 x5 x7 (grid0.coords t 0).val p 1 e := by
  have ed := dm_1 x0 x4 x5 x7 p e
  revert ed
  unfold wB
  generalize dmB x0 x4 x5 x7 p 1 e = d
  intro ed
  by_cases h : p.val < 16
  · rw [if_pos h]
    pointwise [h, ed, k0_pay15, k0_pay14, k0_pay25, k0_pay38, k0_pay50, k0_pay51, k0_pay52, k0_pay63, cntB, size]
  · rw [if_neg h]
    pointwise [h, ed, k0_pay15, k0_pay14, k0_pay25, k0_pay38, k0_pay50, k0_pay51, k0_pay52, k0_pay63, inv]
    rw [show (⟨16 + (p.val - 16), by omega⟩ : Fin 1024) = p from Fin.ext (by show 16 + (p.val - 16) = p.val; omega), ed]

theorem w_2 : k0_pay52 (k0_pay49 (k0_pay43 (k0_pay13 x0 x4)) (View.ld x7 (Rect.unit ![0, 256] ![1, 128] inb_S1x512_S1x128_0_256)) (View.ld x5 (Rect.unit ![2, 0, 0] ![1, 128, 128] inb_S4x128x128_S1x128x128_2_0_0))) (k0_pay50 (k0_pay43 (k0_pay13 x0 x4)) (View.ld x7 (Rect.unit ![0, 256] ![1, 128] inb_S1x512_S1x128_0_256)) (View.ld x5 (Rect.unit ![2, 0, 0] ![1, 128, 128] inb_S4x128x128_S1x128x128_2_0_0))) (k0_pay51 (places t)) (ix2 p e) = wB x0 x4 x5 x7 (grid0.coords t 0).val p 2 e := by
  have ed := dm_2 x0 x4 x5 x7 p e
  revert ed
  unfold wB
  generalize dmB x0 x4 x5 x7 p 2 e = d
  intro ed
  by_cases h : p.val < 16
  · rw [if_pos h]
    pointwise [h, ed, k0_pay15, k0_pay14, k0_pay25, k0_pay38, k0_pay50, k0_pay51, k0_pay52, k0_pay63, cntB, size]
  · rw [if_neg h]
    pointwise [h, ed, k0_pay15, k0_pay14, k0_pay25, k0_pay38, k0_pay50, k0_pay51, k0_pay52, k0_pay63, inv]
    rw [show (⟨16 + (p.val - 16), by omega⟩ : Fin 1024) = p from Fin.ext (by show 16 + (p.val - 16) = p.val; omega), ed]

theorem w_3 : k0_pay63 (places t) (k0_pay56 (k0_pay13 x0 x4)) (View.ld x7 (Rect.unit ![0, 384] ![1, 128] inb_S1x512_S1x128_0_384)) (View.ld x5 (Rect.unit ![3, 0, 0] ![1, 128, 128] inb_S4x128x128_S1x128x128_3_0_0)) (ix2 p e) = wB x0 x4 x5 x7 (grid0.coords t 0).val p 3 e := by
  have ed := dm_3 x0 x4 x5 x7 p e
  revert ed
  unfold wB
  generalize dmB x0 x4 x5 x7 p 3 e = d
  intro ed
  by_cases h : p.val < 16
  · rw [if_pos h]
    pointwise [h, ed, k0_pay15, k0_pay14, k0_pay25, k0_pay38, k0_pay50, k0_pay51, k0_pay52, k0_pay63, cntB, size]
  · rw [if_neg h]
    pointwise [h, ed, k0_pay15, k0_pay14, k0_pay25, k0_pay38, k0_pay50, k0_pay51, k0_pay52, k0_pay63, inv]
    rw [show (⟨16 + (p.val - 16), by omega⟩ : Fin 1024) = p from Fin.ext (by show 16 + (p.val - 16) = p.val; omega), ed]

theorem du_0 : k0_pay27 (places t) H (k0_pay21 (k0_pay13 x0 x4) (View.ld x7 (Rect.unit ![0, 0] ![1, 128] inb_S1x512_S1x128_0_0))) (View.ld x5 (Rect.unit ![0, 0, 0] ![1, 128, 128] inb_S4x128x128_S1x128x128_0_0_0)) (ix2 p e) = duB x0 x4 x5 x7 (grid0.coords t 0).val H p 0 e :=
  (du_two H p e _ _ _).trans (sum_ext _ _ _ _ _ _ _ (fun r => w_0 x0 x4 x5 x7 t r e) (fun _ => rfl) (dm_0 x0 x4 x5 x7 p e) _)

theorem du_1 : k0_pay40 (places t) H (k0_pay34 (k0_pay13 x0 x4) (View.ld x7 (Rect.unit ![0, 128] ![1, 128] inb_S1x512_S1x128_0_128))) (k0_pay36 (View.ld x5 (Rect.unit ![1, 0, 0] ![1, 128, 128] inb_S4x128x128_S1x128x128_1_0_0))) (ix2 p e) = duB x0 x4 x5 x7 (grid0.coords t 0).val H p 1 e :=
  (du_four H p e _ _ _).trans (sum_ext _ _ _ _ _ _ _ (fun r => w_1 x0 x4 x5 x7 t r e) (fun _ => rfl) (dm_1 x0 x4 x5 x7 p e) _)

theorem du_2 : k0_pay54 H (k0_pay49 (k0_pay43 (k0_pay13 x0 x4)) (View.ld x7 (Rect.unit ![0, 256] ![1, 128] inb_S1x512_S1x128_0_256)) (View.ld x5 (Rect.unit ![2, 0, 0] ![1, 128, 128] inb_S4x128x128_S1x128x128_2_0_0))) (k0_pay50 (k0_pay43 (k0_pay13 x0 x4)) (View.ld x7 (Rect.unit ![0, 256] ![1, 128] inb_S1x512_S1x128_0_256)) (View.ld x5 (Rect.unit ![2, 0, 0] ![1, 128, 128] inb_S4x128x128_S1x128x128_2_0_0))) (k0_pay51 (places t)) (ix2 p e) = duB x0 x4 x5 x7 (grid0.coords t 0).val H p 2 e :=
  (du_eight H p e _ _ _).trans (sum_ext _ _ _ _ _ _ _ (fun r => w_2 x0 x4 x5 x7 t r e) (fun _ => rfl) (dm_2 x0 x4 x5 x7 p e) _)

theorem du_3 : k0_pay2 H (k0_pay62 (k0_pay56 (k0_pay13 x0 x4)) (View.ld x7 (Rect.unit ![0, 384] ![1, 128] inb_S1x512_S1x128_0_384)) (View.ld x5 (Rect.unit ![3, 0, 0] ![1, 128, 128] inb_S4x128x128_S1x128x128_3_0_0))) (k0_pay63 (places t) (k0_pay56 (k0_pay13 x0 x4)) (View.ld x7 (Rect.unit ![0, 384] ![1, 128] inb_S1x512_S1x128_0_384)) (View.ld x5 (Rect.unit ![3, 0, 0] ![1, 128, 128] inb_S4x128x128_S1x128x128_3_0_0))) (ix2 p e) = duB x0 x4 x5 x7 (grid0.coords t 0).val H p 3 e :=
  (du_sixteen H p e _ _).trans (sum_ext _ _ _ _ _ _ _ (fun r => w_3 x0 x4 x5 x7 t r e) (fun _ => rfl) (dm_3 x0 x4 x5 x7 p e) _)

theorem head_0 (p : Fin 16) : k0_pay26 (places t) (k0_pay21 (k0_pay13 x0 x4) (View.ld x7 (Rect.unit ![0, 0] ![1, 128] inb_S1x512_S1x128_0_0))) (View.ld x5 (Rect.unit ![0, 0, 0] ![1, 128, 128] inb_S4x128x128_S1x128x128_0_0_0)) (ix2 p e) = wB x0 x4 x5 x7 (grid0.coords t 0).val ⟨p.val, by omega⟩ 0 e := by
  have ew := fun p e => w_0 x0 x4 x5 x7 t p e
  pointwise [k0_pay26, k0_pay39, k0_pay53, k0_pay1, k0_pay64, ew]

theorem head_1 (p : Fin 16) : k0_pay39 (places t) (k0_pay34 (k0_pay13 x0 x4) (View.ld x7 (Rect.unit ![0, 128] ![1, 128] inb_S1x512_S1x128_0_128))) (k0_pay36 (View.ld x5 (Rect.unit ![1, 0, 0] ![1, 128, 128] inb_S4x128x128_S1x128x128_1_0_0))) (ix2 p e) = wB x0 x4 x5 x7 (grid0.coords t 0).val ⟨p.val, by omega⟩ 1 e := by
  have ew := fun p e => w_1 x0 x4 x5 x7 t p e
  pointwise [k0_pay26, k0_pay39, k0_pay53, k0_pay1, k0_pay64, ew]

theorem head_2 (p : Fin 16) : k0_pay53 (k0_pay49 (k0_pay43 (k0_pay13 x0 x4)) (View.ld x7 (Rect.unit ![0, 256] ![1, 128] inb_S1x512_S1x128_0_256)) (View.ld x5 (Rect.unit ![2, 0, 0] ![1, 128, 128] inb_S4x128x128_S1x128x128_2_0_0))) (k0_pay50 (k0_pay43 (k0_pay13 x0 x4)) (View.ld x7 (Rect.unit ![0, 256] ![1, 128] inb_S1x512_S1x128_0_256)) (View.ld x5 (Rect.unit ![2, 0, 0] ![1, 128, 128] inb_S4x128x128_S1x128x128_2_0_0))) (k0_pay51 (places t)) (ix2 p e) = wB x0 x4 x5 x7 (grid0.coords t 0).val ⟨p.val, by omega⟩ 2 e := by
  have ew := fun p e => w_2 x0 x4 x5 x7 t p e
  pointwise [k0_pay26, k0_pay39, k0_pay53, k0_pay1, k0_pay64, ew]

theorem head_3 (p : Fin 16) : k0_pay1 (k0_pay64 (places t) (k0_pay56 (k0_pay13 x0 x4)) (View.ld x7 (Rect.unit ![0, 384] ![1, 128] inb_S1x512_S1x128_0_384)) (View.ld x5 (Rect.unit ![3, 0, 0] ![1, 128, 128] inb_S4x128x128_S1x128x128_3_0_0))) (ix2 p e) = wB x0 x4 x5 x7 (grid0.coords t 0).val ⟨p.val, by omega⟩ 3 e := by
  have ew := fun p e => w_3 x0 x4 x5 x7 t p e
  pointwise [k0_pay26, k0_pay39, k0_pay53, k0_pay1, k0_pay64, ew]

theorem dwo_lo (n : Fin 512) (k : Fin 1024) : dwoB x0 x1 x2 ⟨n.val, by omega⟩ k = ∑ p : Fin 1024, x1 (ix2 p n) * x0 (ix2 p k) :=
  dif_pos n.isLt

theorem dwo_hi (n : Fin 512) (k : Fin 1024) : dwoB x0 x1 x2 ⟨512 + n.val, by omega⟩ k = ∑ p : Fin 1024, x2 (ix2 p n) * x0 (ix2 p k) := by
  unfold dwoB
  rw [dif_neg (by show ¬ 512 + n.val < 512; omega)]
  refine Finset.sum_congr rfl fun p _ => ?_
  rw [show (⟨512 + n.val - 512, by omega⟩ : Fin 512) = n from Fin.ext (by show 512 + n.val - 512 = n.val; omega)]

end

/-- An index of two axes from its parts. -/
theorem idx_two {a b : Nat} (x : (⟨2, ![a, b]⟩ : Shape).Idx) : ∃ (p : Fin a) (e : Fin b), x = ix2 p e :=
  ⟨x 0, x 1, by funext k; match k with | ⟨0, _⟩ => rfl | ⟨1, _⟩ => rfl⟩

/-- Stores that cover an index hide every store before them there. -/
theorem canon_prefix {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_prefix L' L y ?_
      obtain ⟨q, hq, hyq⟩ := hy
      rcases List.mem_cons.mp hq with rfl | hq'
      · exact absurd hyq hm
      · exact ⟨q, hq', hyq⟩

/-- Four stores that cover the buffer in blocks of `sz` hide every store before them. -/
theorem canon_four {S : Shape} {e : EltTy} (a1 a2 a3 a4 : View.Piece (Elt Ideal) S e) (L : List (View.Piece (Elt Ideal) S e)) (sz : Fin S.rank → Nat)
    (h : View.Piece.tiled [a1, a2, a3, a4] sz = true) (y : S.Idx) : View.canon (a1 :: a2 :: a3 :: a4 :: L) y = View.canon [a1, a2, a3, a4] y :=
  canon_prefix L [a1, a2, a3, a4] y (View.cover_of_tiled _ sz h y)

/-- Two stores that cover the buffer in blocks of `sz` hide every store before them. -/
theorem canon_two {S : Shape} {e : EltTy} (a1 a2 : View.Piece (Elt Ideal) S e) (L : List (View.Piece (Elt Ideal) S e)) (sz : Fin S.rank → Nat)
    (h : View.Piece.tiled [a1, a2] sz = true) (y : S.Idx) : View.canon (a1 :: a2 :: L) y = View.canon [a1, a2] y :=
  canon_prefix L [a1, a2] y (View.cover_of_tiled _ sz h y)

/-- The rows before the last tile are zero. -/
theorem fill_zero : (k0_pay3 (F := Ideal) : Vec Ideal S16x512 .f32) = fun _ => 0 := by
  funext y
  pointwise [k0_pay3]

/-- An index of three axes from its parts. -/
theorem idx_three {a b c : Nat} (x : (⟨3, ![a, b, c]⟩ : Shape).Idx) : ∃ (p : Fin a) (e : Fin b) (d : Fin c), x = ix3 p e d :=
  ⟨x 0, x 1, x 2, by funext k; match k with | ⟨0, _⟩ => rfl | ⟨1, _⟩ => rfl | ⟨2, _⟩ => rfl⟩

/-- A value at an index, from the index's place in a chunk of 128 columns. -/
theorem at_lane (v : S1x512.Idx → EReal) (y : S1x512.Idx) (o : Nat) (r : Fin 1) (l : Fin 128) (ho : o + 128 ≤ 512) (h0 : (y 0).val = r.val) (h1 : (y 1).val = o + l.val) :
    v y = v (ix2 r ⟨o + l.val, by omega⟩) := by
  refine congrArg v ?_
  funext k
  match k with
  | ⟨0, _⟩ => exact Fin.ext h0
  | ⟨1, _⟩ => exact Fin.ext h1

/-- A value at an index of the slabs, from the index's parts. -/
theorem at_three (v : S4x128x128.Idx → EReal) (y : S4x128x128.Idx) (g : Fin 4) (r l : Fin 128)
    (h0 : (y 0).val = g.val) (h1 : (y 1).val = r.val) (h2 : (y 2).val = l.val) : v y = v (ix3 g r l) := by
  refine congrArg v ?_
  funext k
  match k with
  | ⟨0, _⟩ => exact Fin.ext h0
  | ⟨1, _⟩ => exact Fin.ext h1
  | ⟨2, _⟩ => exact Fin.ext h2

/-- A value at an index of the projection's gradient, from the index's place in one half. -/
theorem at_half (v : S1024x1024.Idx → EReal) (y : S1024x1024.Idx) (o : Nat) (r : Fin 512) (l : Fin 1024) (ho : o + 512 ≤ 1024) (h0 : (y 0).val = o + r.val) (h1 : (y 1).val = l.val) :
    v y = v (ix2 ⟨o + r.val, by omega⟩ l) := by
  refine congrArg v ?_
  funext k
  match k with
  | ⟨0, _⟩ => exact Fin.ext h0
  | ⟨1, _⟩ => exact Fin.ext h1

variable (m : (ℓ : Loc nD τ sig) → Buf (Elt Ideal) ℓ)

/-- At the first point the first result's block is the gradient of the attention branch. -/
theorem out8_A (c : Dev nD) (t : Fin cfg0.N) (h0 : t.val % 8 = 0) (p : Fin 1024) (q : Fin 512) :
    (outsAt0 (F := Ideal) m c t.val t.isLt).1 (ix2 p q) = dcatB (iblk m c 0 t) (iblk m c 4 t) p ⟨q.val, by omega⟩ := by
  rw [Gen.outsAt0_A m c t h0]
  frame_open
  simp (disch := decide) only [↓ View.readCov_skip, ↓ View.readCov_cons_toLoadRect, ↓ View.readCov_fill]
  frame_out
  pointwise [k0_pay8, k0_pay11, k0_pay12, dcatB]

set_option maxHeartbeats 4000000 in
/-- The second result's block is the gradient of the branch's input. -/
theorem out9_A (c : Dev nD) (t : Fin cfg0.N) (h0 : t.val % 8 = 0) (y : S1024x512.Idx) :
    (outsAt0 (F := Ideal) m c t.val t.isLt).2.1 y = duB (iblk m c 0 t) (iblk m c 4 t) (iblk m c 5 t) (iblk m c 7 t) (grid0.coords t 0).val (fun _ => 0) (y 0) (grp (y 1)) (lane (y 1)) := by
  rw [Gen.outsAt0_A m c t h0]
  frame_open
  simp (disch := decide) only [↓ View.readCov_skip, ↓ View.readCov_cons_toLoadRect, ↓ View.readCov_fill]
  frame_out
  rw [fill_zero]
  canon_tiles x hx
  all_goals
    obtain ⟨p, e, rfl⟩ := idx_two x
    first
      | (refine Eq.trans ?_ (at_grp _ y 1 128 p e (by decide) hx0 hx1).symm; exact du_1 _ _ _ _ _ _ _ _)
      | (refine Eq.trans ?_ (at_grp _ y 2 256 p e (by decide) hx0 hx1).symm; exact du_2 _ _ _ _ _ _ _ _)
      | (refine Eq.trans ?_ (at_grp _ y 3 384 p e (by decide) hx0 hx1).symm; exact du_3 _ _ _ _ _ _ _ _)
      | (refine Eq.trans ?_ (at_grp _ y 0 0 p e (by decide) hx0 (hx1.trans (Nat.zero_add _).symm)).symm; exact du_0 _ _ _ _ _ _ _ _)

/-- At a later point the first result's block is the gradient of the attention branch. -/
theorem out8_B (c : Dev nD) (t : Fin cfg0.N) (h0 : ¬t.val % 8 = 0) (p : Fin 1024) (q : Fin 512) :
    (outsAt0 (F := Ideal) m c t.val t.isLt).1 (ix2 p q) = dcatB (iblk m c 0 t) (iblk m c 4 t) p ⟨q.val, by omega⟩ := by
  rw [Gen.outsAt0_B m c t h0]
  frame_open
  simp (disch := decide) only [↓ View.readCov_skip, ↓ View.readCov_cons_toLoadRect, ↓ View.readCov_fill]
  frame_out
  pointwise [k0_pay8, k0_pay11, k0_pay12, dcatB]

set_option maxHeartbeats 4000000 in
/-- The second result's block, over the rows the later tile left. -/
theorem out9_B (c : Dev nD) (t : Fin cfg0.N) (h0 : ¬t.val % 8 = 0) (y : S1024x512.Idx) :
    (outsAt0 (F := Ideal) m c t.val t.isLt).2.1 y = duB (iblk m c 0 t) (iblk m c 4 t) (iblk m c 5 t) (iblk m c 7 t) (grid0.coords t 0).val (outsAt0 (F := Ideal) m c (t.val - 1) (Nat.lt_of_le_of_lt (Nat.sub_le _ _) t.isLt)).2.2.2.2.2.2 (y 0) (grp (y 1)) (lane (y 1)) := by
  rw [Gen.outsAt0_B m c t h0]
  frame_open
  simp (disch := decide) only [↓ View.readCov_skip, ↓ View.readCov_cons_toLoadRect, ↓ View.readCov_fill]
  frame_out
  simp only [read_unread_whole]
  canon_tiles x hx
  all_goals
    obtain ⟨p, e, rfl⟩ := idx_two x
    first
      | (refine Eq.trans ?_ (at_grp _ y 1 128 p e (by decide) hx0 hx1).symm; exact du_1 _ _ _ _ _ _ _ _)
      | (refine Eq.trans ?_ (at_grp _ y 2 256 p e (by decide) hx0 hx1).symm; exact du_2 _ _ _ _ _ _ _ _)
      | (refine Eq.trans ?_ (at_grp _ y 3 384 p e (by decide) hx0 hx1).symm; exact du_3 _ _ _ _ _ _ _ _)
      | (refine Eq.trans ?_ (at_grp _ y 0 0 p e (by decide) hx0 (hx1.trans (Nat.zero_add _).symm)).symm; exact du_0 _ _ _ _ _ _ _ _)

set_option maxHeartbeats 4000000 in
/-- The pooling bias's gradient after a point, where the zeros were laid first. -/
theorem out12_A (c : Dev nD) (t : Fin cfg0.N) (h0 : t.val % 8 = 0) (y : S1x512.Idx) :
    (outsAt0 (F := Ideal) m c t.val t.isLt).2.2.2.2.1 y = dbpB (iblk m c 0 t) (iblk m c 4 t) (iblk m c 7 t) (grp (y 1)) (lane (y 1)) := by
  rw [Gen.outsAt0_A m c t h0]
  frame_open
  simp (disch := decide) only [↓ View.readCov_skip, ↓ View.readCov_cons_toLoadRect, ↓ View.readCov_fill]
  frame_out
  rw [canon_four _ _ _ _ _ ![1, 128] rfl y]
  canon_tiles x hx
  all_goals
    obtain ⟨p, e, rfl⟩ := idx_two x
    first
      | refine Eq.trans ?_ (at_grp (fun _ : Fin 1 => dbpB (iblk m c 0 t) (iblk m c 4 t) (iblk m c 7 t)) y 1 128 p e (by decide) hx0 hx1).symm
      | refine Eq.trans ?_ (at_grp (fun _ : Fin 1 => dbpB (iblk m c 0 t) (iblk m c 4 t) (iblk m c 7 t)) y 2 256 p e (by decide) hx0 hx1).symm
      | refine Eq.trans ?_ (at_grp (fun _ : Fin 1 => dbpB (iblk m c 0 t) (iblk m c 4 t) (iblk m c 7 t)) y 3 384 p e (by decide) hx0 hx1).symm
      | refine Eq.trans ?_ (at_grp (fun _ : Fin 1 => dbpB (iblk m c 0 t) (iblk m c 4 t) (iblk m c 7 t)) y 0 0 p e (by decide) hx0 (hx1.trans (Nat.zero_add _).symm)).symm
    obtain rfl : p = 0 := Fin.ext (by omega)
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay28, k0_pay29, k0_pay30, k0_pay31, k0_pay32, k0_pay33, k0_pay34, k0_pay35, k0_pay36, k0_pay37, k0_pay41, k0_pay42, k0_pay43, k0_pay44, k0_pay45, k0_pay46, k0_pay47, k0_pay48, k0_pay49, k0_pay55, k0_pay56, k0_pay57, k0_pay58, k0_pay59, k0_pay60, k0_pay61, k0_pay62, dpsB, dbpB, dyB, dcatB, preB, dpreB, col, read_unread_whole]

set_option maxHeartbeats 4000000 in
/-- The pooling scale's gradient after a point, where the zeros were laid first. -/
theorem out13_A (c : Dev nD) (t : Fin cfg0.N) (h0 : t.val % 8 = 0) (y : S1x512.Idx) :
    (outsAt0 (F := Ideal) m c t.val t.isLt).2.2.2.2.2.1 y = dpsB (iblk m c 0 t) (iblk m c 3 t) (iblk m c 4 t) (iblk m c 5 t) (iblk m c 6 t) (grp (y 1)) (lane (y 1)) := by
  rw [Gen.outsAt0_A m c t h0]
  frame_open
  simp (disch := decide) only [↓ View.readCov_skip, ↓ View.readCov_cons_toLoadRect, ↓ View.readCov_fill]
  frame_out
  rw [canon_four _ _ _ _ _ ![1, 128] rfl y]
  canon_tiles x hx
  all_goals
    obtain ⟨p, e, rfl⟩ := idx_two x
    first
      | refine Eq.trans ?_ (at_grp (fun _ : Fin 1 => dpsB (iblk m c 0 t) (iblk m c 3 t) (iblk m c 4 t) (iblk m c 5 t) (iblk m c 6 t)) y 1 128 p e (by decide) hx0 hx1).symm
      | refine Eq.trans ?_ (at_grp (fun _ : Fin 1 => dpsB (iblk m c 0 t) (iblk m c 3 t) (iblk m c 4 t) (iblk m c 5 t) (iblk m c 6 t)) y 2 256 p e (by decide) hx0 hx1).symm
      | refine Eq.trans ?_ (at_grp (fun _ : Fin 1 => dpsB (iblk m c 0 t) (iblk m c 3 t) (iblk m c 4 t) (iblk m c 5 t) (iblk m c 6 t)) y 3 384 p e (by decide) hx0 hx1).symm
      | refine Eq.trans ?_ (at_grp (fun _ : Fin 1 => dpsB (iblk m c 0 t) (iblk m c 3 t) (iblk m c 4 t) (iblk m c 5 t) (iblk m c 6 t)) y 0 0 p e (by decide) hx0 (hx1.trans (Nat.zero_add _).symm)).symm
    obtain rfl : p = 0 := Fin.ext (by omega)
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay28, k0_pay29, k0_pay30, k0_pay31, k0_pay32, k0_pay33, k0_pay34, k0_pay35, k0_pay36, k0_pay37, k0_pay41, k0_pay42, k0_pay43, k0_pay44, k0_pay45, k0_pay46, k0_pay47, k0_pay48, k0_pay49, k0_pay55, k0_pay56, k0_pay57, k0_pay58, k0_pay59, k0_pay60, k0_pay61, k0_pay62, dpsB, dbpB, dyB, dcatB, preB, dpreB, col, read_unread_whole]

set_option maxHeartbeats 4000000 in
/-- The pooling weight's gradient after a point, where the zeros were laid first. -/
theorem out11_A (c : Dev nD) (t : Fin cfg0.N) (h0 : t.val % 8 = 0) (y : S4x128x128.Idx) :
    (outsAt0 (F := Ideal) m c t.val t.isLt).2.2.2.1 y = dwpB (iblk m c 0 t) (iblk m c 3 t) (iblk m c 4 t) (iblk m c 7 t) (y 0) (y 1) (y 2) := by
  rw [Gen.outsAt0_A m c t h0]
  frame_open
  simp (disch := decide) only [↓ View.readCov_skip, ↓ View.readCov_cons_toLoadRect, ↓ View.readCov_fill]
  frame_out
  rw [canon_four _ _ _ _ _ ![1, 128, 128] rfl y]
  canon_tiles x hx
  all_goals
    obtain ⟨p, e, d, rfl⟩ := idx_three x
    obtain rfl : p = 0 := Fin.ext (by omega)
    first
      | refine Eq.trans ?_ (at_slab (dwpB (iblk m c 0 t) (iblk m c 3 t) (iblk m c 4 t) (iblk m c 7 t)) y 1 e d hx0 hx1 hx2).symm
      | refine Eq.trans ?_ (at_slab (dwpB (iblk m c 0 t) (iblk m c 3 t) (iblk m c 4 t) (iblk m c 7 t)) y 2 e d hx0 hx1 hx2).symm
      | refine Eq.trans ?_ (at_slab (dwpB (iblk m c 0 t) (iblk m c 3 t) (iblk m c 4 t) (iblk m c 7 t)) y 3 e d hx0 hx1 hx2).symm
      | refine Eq.trans ?_ (at_slab (dwpB (iblk m c 0 t) (iblk m c 3 t) (iblk m c 4 t) (iblk m c 7 t)) y 0 e d hx0 hx1 hx2).symm
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay28, k0_pay29, k0_pay30, k0_pay31, k0_pay32, k0_pay33, k0_pay34, k0_pay35, k0_pay36, k0_pay37, k0_pay41, k0_pay42, k0_pay43, k0_pay44, k0_pay45, k0_pay46, k0_pay47, k0_pay48, k0_pay49, k0_pay55, k0_pay56, k0_pay57, k0_pay58, k0_pay59, k0_pay60, k0_pay61, k0_pay62, dwpB, dyB, dcatB, dpreB, col, read_unread_whole]

set_option maxHeartbeats 4000000 in
/-- The output projection's gradient after a point, where the zeros were laid first. -/
theorem out10_A (c : Dev nD) (t : Fin cfg0.N) (h0 : t.val % 8 = 0) (y : S1024x1024.Idx) :
    (outsAt0 (F := Ideal) m c t.val t.isLt).2.2.1 y = dwoB (iblk m c 0 t) (iblk m c 1 t) (iblk m c 2 t) (y 0) (y 1) := by
  rw [Gen.outsAt0_A m c t h0]
  frame_open
  simp (disch := decide) only [↓ View.readCov_skip, ↓ View.readCov_cons_toLoadRect, ↓ View.readCov_fill]
  frame_out
  rw [canon_two _ _ _ ![512, 1024] rfl y]
  canon_tiles x hx
  all_goals
    obtain ⟨p, e, rfl⟩ := idx_two x
    first
      | refine Eq.trans ?_ (((at_half (fun z => dwoB (iblk m c 0 t) (iblk m c 1 t) (iblk m c 2 t) (z 0) (z 1)) y 512 p e (by decide) hx0 hx1).trans (congrArg (fun n => dwoB (iblk m c 0 t) (iblk m c 1 t) (iblk m c 2 t) n e) (Fin.ext (by first | rfl | exact Nat.zero_add _)))).trans (dwo_hi _ _ _ p e)).symm
      | refine Eq.trans ?_ (((at_half (fun z => dwoB (iblk m c 0 t) (iblk m c 1 t) (iblk m c 2 t) (z 0) (z 1)) y 0 p e (by decide) (hx0.trans (Nat.zero_add _).symm) hx1).trans (congrArg (fun n => dwoB (iblk m c 0 t) (iblk m c 1 t) (iblk m c 2 t) n e) (Fin.ext (by first | rfl | exact Nat.zero_add _)))).trans (dwo_lo _ _ _ p e)).symm
    pointwise [k0_pay4, k0_pay8, k0_pay9, k0_pay10, read_unread_whole]

set_option maxHeartbeats 4000000 in
/-- The rows a point leaves for the tile before it. -/
theorem head_A (c : Dev nD) (t : Fin cfg0.N) (h0 : t.val % 8 = 0) (y : S16x512.Idx) :
    (outsAt0 (F := Ideal) m c t.val t.isLt).2.2.2.2.2.2 y = (fun (r : Fin 16) => wB (iblk m c 0 t) (iblk m c 4 t) (iblk m c 5 t) (iblk m c 7 t) (grid0.coords t 0).val ⟨r.val, by omega⟩) (y 0) (grp (y 1)) (lane (y 1)) := by
  rw [Gen.outsAt0_A m c t h0]
  frame_open
  simp (disch := decide) only [↓ View.readCov_skip, ↓ View.readCov_cons_toLoadRect, ↓ View.readCov_fill]
  frame_out
  rw [canon_four _ _ _ _ _ ![16, 128] rfl y]
  canon_tiles x hx
  all_goals
    obtain ⟨p, e, rfl⟩ := idx_two x
    first
      | (refine Eq.trans ?_ (at_grp (fun (r : Fin 16) => wB (iblk m c 0 t) (iblk m c 4 t) (iblk m c 5 t) (iblk m c 7 t) (grid0.coords t 0).val ⟨r.val, by omega⟩) y 1 128 p e (by decide) hx0 hx1).symm; exact head_1 _ _ _ _ _ _ _)
      | (refine Eq.trans ?_ (at_grp (fun (r : Fin 16) => wB (iblk m c 0 t) (iblk m c 4 t) (iblk m c 5 t) (iblk m c 7 t) (grid0.coords t 0).val ⟨r.val, by omega⟩) y 2 256 p e (by decide) hx0 hx1).symm; exact head_2 _ _ _ _ _ _ _)
      | (refine Eq.trans ?_ (at_grp (fun (r : Fin 16) => wB (iblk m c 0 t) (iblk m c 4 t) (iblk m c 5 t) (iblk m c 7 t) (grid0.coords t 0).val ⟨r.val, by omega⟩) y 3 384 p e (by decide) hx0 hx1).symm; exact head_3 _ _ _ _ _ _ _)
      | (refine Eq.trans ?_ (at_grp (fun (r : Fin 16) => wB (iblk m c 0 t) (iblk m c 4 t) (iblk m c 5 t) (iblk m c 7 t) (grid0.coords t 0).val ⟨r.val, by omega⟩) y 0 0 p e (by decide) hx0 (hx1.trans (Nat.zero_add _).symm)).symm; exact head_0 _ _ _ _ _ _ _)

set_option maxHeartbeats 4000000 in
/-- The pooling bias's gradient after a point, on top of what stood there. -/
theorem out12_B (c : Dev nD) (t : Fin cfg0.N) (h0 : ¬t.val % 8 = 0) (y : S1x512.Idx) :
    (outsAt0 (F := Ideal) m c t.val t.isLt).2.2.2.2.1 y = (outsAt0 (F := Ideal) m c (t.val - 1) (Nat.lt_of_le_of_lt (Nat.sub_le _ _) t.isLt)).2.2.2.2.1 y + dbpB (iblk m c 0 t) (iblk m c 4 t) (iblk m c 7 t) (grp (y 1)) (lane (y 1)) := by
  rw [Gen.outsAt0_B m c t h0]
  frame_open
  simp (disch := decide) only [↓ View.readCov_skip, ↓ View.readCov_cons_toLoadRect, ↓ View.readCov_fill]
  frame_out
  canon_tiles x hx
  all_goals
    obtain ⟨p, e, rfl⟩ := idx_two x
    first
      | refine Eq.trans ?_ (congrArg₂ (HAdd.hAdd (α := EReal) (β := EReal)) (at_lane ((outsAt0 (F := Ideal) m c (t.val - 1) (Nat.lt_of_le_of_lt (Nat.sub_le _ _) t.isLt)).2.2.2.2.1) y 128 p e (by decide) hx0 hx1) (at_grp (fun _ : Fin 1 => dbpB (iblk m c 0 t) (iblk m c 4 t) (iblk m c 7 t)) y 1 128 p e (by decide) hx0 hx1)).symm
      | refine Eq.trans ?_ (congrArg₂ (HAdd.hAdd (α := EReal) (β := EReal)) (at_lane ((outsAt0 (F := Ideal) m c (t.val - 1) (Nat.lt_of_le_of_lt (Nat.sub_le _ _) t.isLt)).2.2.2.2.1) y 256 p e (by decide) hx0 hx1) (at_grp (fun _ : Fin 1 => dbpB (iblk m c 0 t) (iblk m c 4 t) (iblk m c 7 t)) y 2 256 p e (by decide) hx0 hx1)).symm
      | refine Eq.trans ?_ (congrArg₂ (HAdd.hAdd (α := EReal) (β := EReal)) (at_lane ((outsAt0 (F := Ideal) m c (t.val - 1) (Nat.lt_of_le_of_lt (Nat.sub_le _ _) t.isLt)).2.2.2.2.1) y 384 p e (by decide) hx0 hx1) (at_grp (fun _ : Fin 1 => dbpB (iblk m c 0 t) (iblk m c 4 t) (iblk m c 7 t)) y 3 384 p e (by decide) hx0 hx1)).symm
      | refine Eq.trans ?_ (congrArg₂ (HAdd.hAdd (α := EReal) (β := EReal)) (at_lane ((outsAt0 (F := Ideal) m c (t.val - 1) (Nat.lt_of_le_of_lt (Nat.sub_le _ _) t.isLt)).2.2.2.2.1) y 0 p e (by decide) hx0 (hx1.trans (Nat.zero_add _).symm)) (at_grp (fun _ : Fin 1 => dbpB (iblk m c 0 t) (iblk m c 4 t) (iblk m c 7 t)) y 0 0 p e (by decide) hx0 (hx1.trans (Nat.zero_add _).symm))).symm
    obtain rfl : p = 0 := Fin.ext (by omega)
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay28, k0_pay29, k0_pay30, k0_pay31, k0_pay32, k0_pay33, k0_pay34, k0_pay35, k0_pay36, k0_pay37, k0_pay41, k0_pay42, k0_pay43, k0_pay44, k0_pay45, k0_pay46, k0_pay47, k0_pay48, k0_pay49, k0_pay55, k0_pay56, k0_pay57, k0_pay58, k0_pay59, k0_pay60, k0_pay61, k0_pay62, dpsB, dbpB, dyB, dcatB, preB, dpreB, col, read_unread_whole]

set_option maxHeartbeats 4000000 in
/-- The pooling scale's gradient after a point, on top of what stood there. -/
theorem out13_B (c : Dev nD) (t : Fin cfg0.N) (h0 : ¬t.val % 8 = 0) (y : S1x512.Idx) :
    (outsAt0 (F := Ideal) m c t.val t.isLt).2.2.2.2.2.1 y = (outsAt0 (F := Ideal) m c (t.val - 1) (Nat.lt_of_le_of_lt (Nat.sub_le _ _) t.isLt)).2.2.2.2.2.1 y + dpsB (iblk m c 0 t) (iblk m c 3 t) (iblk m c 4 t) (iblk m c 5 t) (iblk m c 6 t) (grp (y 1)) (lane (y 1)) := by
  rw [Gen.outsAt0_B m c t h0]
  frame_open
  simp (disch := decide) only [↓ View.readCov_skip, ↓ View.readCov_cons_toLoadRect, ↓ View.readCov_fill]
  frame_out
  canon_tiles x hx
  all_goals
    obtain ⟨p, e, rfl⟩ := idx_two x
    first
      | refine Eq.trans ?_ (congrArg₂ (HAdd.hAdd (α := EReal) (β := EReal)) (at_lane ((outsAt0 (F := Ideal) m c (t.val - 1) (Nat.lt_of_le_of_lt (Nat.sub_le _ _) t.isLt)).2.2.2.2.2.1) y 128 p e (by decide) hx0 hx1) (at_grp (fun _ : Fin 1 => dpsB (iblk m c 0 t) (iblk m c 3 t) (iblk m c 4 t) (iblk m c 5 t) (iblk m c 6 t)) y 1 128 p e (by decide) hx0 hx1)).symm
      | refine Eq.trans ?_ (congrArg₂ (HAdd.hAdd (α := EReal) (β := EReal)) (at_lane ((outsAt0 (F := Ideal) m c (t.val - 1) (Nat.lt_of_le_of_lt (Nat.sub_le _ _) t.isLt)).2.2.2.2.2.1) y 256 p e (by decide) hx0 hx1) (at_grp (fun _ : Fin 1 => dpsB (iblk m c 0 t) (iblk m c 3 t) (iblk m c 4 t) (iblk m c 5 t) (iblk m c 6 t)) y 2 256 p e (by decide) hx0 hx1)).symm
      | refine Eq.trans ?_ (congrArg₂ (HAdd.hAdd (α := EReal) (β := EReal)) (at_lane ((outsAt0 (F := Ideal) m c (t.val - 1) (Nat.lt_of_le_of_lt (Nat.sub_le _ _) t.isLt)).2.2.2.2.2.1) y 384 p e (by decide) hx0 hx1) (at_grp (fun _ : Fin 1 => dpsB (iblk m c 0 t) (iblk m c 3 t) (iblk m c 4 t) (iblk m c 5 t) (iblk m c 6 t)) y 3 384 p e (by decide) hx0 hx1)).symm
      | refine Eq.trans ?_ (congrArg₂ (HAdd.hAdd (α := EReal) (β := EReal)) (at_lane ((outsAt0 (F := Ideal) m c (t.val - 1) (Nat.lt_of_le_of_lt (Nat.sub_le _ _) t.isLt)).2.2.2.2.2.1) y 0 p e (by decide) hx0 (hx1.trans (Nat.zero_add _).symm)) (at_grp (fun _ : Fin 1 => dpsB (iblk m c 0 t) (iblk m c 3 t) (iblk m c 4 t) (iblk m c 5 t) (iblk m c 6 t)) y 0 0 p e (by decide) hx0 (hx1.trans (Nat.zero_add _).symm))).symm
    obtain rfl : p = 0 := Fin.ext (by omega)
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay28, k0_pay29, k0_pay30, k0_pay31, k0_pay32, k0_pay33, k0_pay34, k0_pay35, k0_pay36, k0_pay37, k0_pay41, k0_pay42, k0_pay43, k0_pay44, k0_pay45, k0_pay46, k0_pay47, k0_pay48, k0_pay49, k0_pay55, k0_pay56, k0_pay57, k0_pay58, k0_pay59, k0_pay60, k0_pay61, k0_pay62, dpsB, dbpB, dyB, dcatB, preB, dpreB, col, read_unread_whole]

set_option maxHeartbeats 4000000 in
/-- The pooling weight's gradient after a point, on top of what stood there. -/
theorem out11_B (c : Dev nD) (t : Fin cfg0.N) (h0 : ¬t.val % 8 = 0) (y : S4x128x128.Idx) :
    (outsAt0 (F := Ideal) m c t.val t.isLt).2.2.2.1 y = (outsAt0 (F := Ideal) m c (t.val - 1) (Nat.lt_of_le_of_lt (Nat.sub_le _ _) t.isLt)).2.2.2.1 y + dwpB (iblk m c 0 t) (iblk m c 3 t) (iblk m c 4 t) (iblk m c 7 t) (y 0) (y 1) (y 2) := by
  rw [Gen.outsAt0_B m c t h0]
  frame_open
  simp (disch := decide) only [↓ View.readCov_skip, ↓ View.readCov_cons_toLoadRect, ↓ View.readCov_fill]
  frame_out
  canon_tiles x hx
  all_goals
    obtain ⟨p, e, d, rfl⟩ := idx_three x
    obtain rfl : p = 0 := Fin.ext (by omega)
    first
      | refine Eq.trans ?_ (congrArg₂ (HAdd.hAdd (α := EReal) (β := EReal)) (at_three ((outsAt0 (F := Ideal) m c (t.val - 1) (Nat.lt_of_le_of_lt (Nat.sub_le _ _) t.isLt)).2.2.2.1) y 1 e d hx0 hx1 hx2) (at_slab (dwpB (iblk m c 0 t) (iblk m c 3 t) (iblk m c 4 t) (iblk m c 7 t)) y 1 e d hx0 hx1 hx2)).symm
      | refine Eq.trans ?_ (congrArg₂ (HAdd.hAdd (α := EReal) (β := EReal)) (at_three ((outsAt0 (F := Ideal) m c (t.val - 1) (Nat.lt_of_le_of_lt (Nat.sub_le _ _) t.isLt)).2.2.2.1) y 2 e d hx0 hx1 hx2) (at_slab (dwpB (iblk m c 0 t) (iblk m c 3 t) (iblk m c 4 t) (iblk m c 7 t)) y 2 e d hx0 hx1 hx2)).symm
      | refine Eq.trans ?_ (congrArg₂ (HAdd.hAdd (α := EReal) (β := EReal)) (at_three ((outsAt0 (F := Ideal) m c (t.val - 1) (Nat.lt_of_le_of_lt (Nat.sub_le _ _) t.isLt)).2.2.2.1) y 3 e d hx0 hx1 hx2) (at_slab (dwpB (iblk m c 0 t) (iblk m c 3 t) (iblk m c 4 t) (iblk m c 7 t)) y 3 e d hx0 hx1 hx2)).symm
      | refine Eq.trans ?_ (congrArg₂ (HAdd.hAdd (α := EReal) (β := EReal)) (at_three ((outsAt0 (F := Ideal) m c (t.val - 1) (Nat.lt_of_le_of_lt (Nat.sub_le _ _) t.isLt)).2.2.2.1) y 0 e d hx0 hx1 hx2) (at_slab (dwpB (iblk m c 0 t) (iblk m c 3 t) (iblk m c 4 t) (iblk m c 7 t)) y 0 e d hx0 hx1 hx2)).symm
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay28, k0_pay29, k0_pay30, k0_pay31, k0_pay32, k0_pay33, k0_pay34, k0_pay35, k0_pay36, k0_pay37, k0_pay41, k0_pay42, k0_pay43, k0_pay44, k0_pay45, k0_pay46, k0_pay47, k0_pay48, k0_pay49, k0_pay55, k0_pay56, k0_pay57, k0_pay58, k0_pay59, k0_pay60, k0_pay61, k0_pay62, dwpB, dyB, dcatB, dpreB, col, read_unread_whole]

set_option maxHeartbeats 4000000 in
/-- The output projection's gradient after a point, on top of what stood there. -/
theorem out10_B (c : Dev nD) (t : Fin cfg0.N) (h0 : ¬t.val % 8 = 0) (y : S1024x1024.Idx) :
    (outsAt0 (F := Ideal) m c t.val t.isLt).2.2.1 y = (outsAt0 (F := Ideal) m c (t.val - 1) (Nat.lt_of_le_of_lt (Nat.sub_le _ _) t.isLt)).2.2.1 y + dwoB (iblk m c 0 t) (iblk m c 1 t) (iblk m c 2 t) (y 0) (y 1) := by
  rw [Gen.outsAt0_B m c t h0]
  frame_open
  simp (disch := decide) only [↓ View.readCov_skip, ↓ View.readCov_cons_toLoadRect, ↓ View.readCov_fill]
  frame_out
  canon_tiles x hx
  all_goals
    obtain ⟨p, e, rfl⟩ := idx_two x
    first
      | refine Eq.trans ?_ (congrArg₂ (HAdd.hAdd (α := EReal) (β := EReal)) (at_half ((outsAt0 (F := Ideal) m c (t.val - 1) (Nat.lt_of_le_of_lt (Nat.sub_le _ _) t.isLt)).2.2.1) y 512 p e (by decide) hx0 hx1) (((at_half (fun z => dwoB (iblk m c 0 t) (iblk m c 1 t) (iblk m c 2 t) (z 0) (z 1)) y 512 p e (by decide) hx0 hx1).trans (congrArg (fun n => dwoB (iblk m c 0 t) (iblk m c 1 t) (iblk m c 2 t) n e) (Fin.ext (by first | rfl | exact Nat.zero_add _)))).trans (dwo_hi _ _ _ p e))).symm
      | refine Eq.trans ?_ (congrArg₂ (HAdd.hAdd (α := EReal) (β := EReal)) (at_half ((outsAt0 (F := Ideal) m c (t.val - 1) (Nat.lt_of_le_of_lt (Nat.sub_le _ _) t.isLt)).2.2.1) y 0 p e (by decide) (hx0.trans (Nat.zero_add _).symm) hx1) (((at_half (fun z => dwoB (iblk m c 0 t) (iblk m c 1 t) (iblk m c 2 t) (z 0) (z 1)) y 0 p e (by decide) (hx0.trans (Nat.zero_add _).symm) hx1).trans (congrArg (fun n => dwoB (iblk m c 0 t) (iblk m c 1 t) (iblk m c 2 t) n e) (Fin.ext (by first | rfl | exact Nat.zero_add _)))).trans (dwo_lo _ _ _ p e))).symm
    pointwise [k0_pay4, k0_pay8, k0_pay9, k0_pay10, read_unread_whole]

set_option maxHeartbeats 4000000 in
/-- The rows a point leaves for the tile before it. -/
theorem head_B (c : Dev nD) (t : Fin cfg0.N) (h0 : ¬t.val % 8 = 0) (y : S16x512.Idx) :
    (outsAt0 (F := Ideal) m c t.val t.isLt).2.2.2.2.2.2 y = (fun (r : Fin 16) => wB (iblk m c 0 t) (iblk m c 4 t) (iblk m c 5 t) (iblk m c 7 t) (grid0.coords t 0).val ⟨r.val, by omega⟩) (y 0) (grp (y 1)) (lane (y 1)) := by
  rw [Gen.outsAt0_B m c t h0]
  frame_open
  simp (disch := decide) only [↓ View.readCov_skip, ↓ View.readCov_cons_toLoadRect, ↓ View.readCov_fill]
  frame_out
  canon_tiles x hx
  all_goals
    obtain ⟨p, e, rfl⟩ := idx_two x
    first
      | (refine Eq.trans ?_ (at_grp (fun (r : Fin 16) => wB (iblk m c 0 t) (iblk m c 4 t) (iblk m c 5 t) (iblk m c 7 t) (grid0.coords t 0).val ⟨r.val, by omega⟩) y 1 128 p e (by decide) hx0 hx1).symm; exact head_1 _ _ _ _ _ _ _)
      | (refine Eq.trans ?_ (at_grp (fun (r : Fin 16) => wB (iblk m c 0 t) (iblk m c 4 t) (iblk m c 5 t) (iblk m c 7 t) (grid0.coords t 0).val ⟨r.val, by omega⟩) y 2 256 p e (by decide) hx0 hx1).symm; exact head_2 _ _ _ _ _ _ _)
      | (refine Eq.trans ?_ (at_grp (fun (r : Fin 16) => wB (iblk m c 0 t) (iblk m c 4 t) (iblk m c 5 t) (iblk m c 7 t) (grid0.coords t 0).val ⟨r.val, by omega⟩) y 3 384 p e (by decide) hx0 hx1).symm; exact head_3 _ _ _ _ _ _ _)
      | (refine Eq.trans ?_ (at_grp (fun (r : Fin 16) => wB (iblk m c 0 t) (iblk m c 4 t) (iblk m c 5 t) (iblk m c 7 t) (grid0.coords t 0).val ⟨r.val, by omega⟩) y 0 0 p e (by decide) hx0 (hx1.trans (Nat.zero_add _).symm)).symm; exact head_0 _ _ _ _ _ _ _)

end Cert.PoolBwdIdeal.Block
end
-- ==== Proof.Pool.Ref.lean ====
/- What the pooling reference's arrays hold, entry by entry. -/
module

public import proofs.«01_k».proof.Proof.Gen.PoolBwdRefIdeal.Read
public import proofs.«01_k».proof.Proof.Reals
public import proofs.«01_k».proof.Proof.Sums

@[expose] public section

set_option maxRecDepth 16384

noncomputable section

namespace Cert.PoolBwdRefIdeal.Read

open Cert.Reals Cert.PoolBwdRefIdeal Cert.PoolBwdRefIdeal.Gen Idealize.ShloMosaic Idealize.ShloMosaic.TcCoe Idealize.SL.Sem

variable (x0 x1 : S1x8192x512.Idx → EReal) (x2 : S1x4x128x128.Idx → EReal) (x3 x4 : S1x4x128.Idx → EReal) (x5 : S1x1024x1024.Idx → EReal)
  (x6 : S8192x1024.Idx → EReal)

/-- The mixed rows, as the forward pass makes them. -/
def mixR (i : Fin 8192) (g : Fin 4) (e : Fin 128) : EReal := val_main_v50 (F := Ideal) x1 (ix4 0 i g e)

/-- The gradient of the concatenated branches. -/
def dcatR (i : Fin 8192) (n : Fin 1024) : EReal := ∑ k, x6 (ix2 i k) * x5 (ix3 0 n k)

/-- The gradient of the scaled pooling branch. -/
def dyR (i : Fin 8192) (g : Fin 4) (c : Fin 128) : EReal := dcatR x5 x6 i ⟨512 + (128 * g.val + c.val), by omega⟩

/-- The branch before its scale. -/
def preR (i : Fin 8192) (g : Fin 4) (c : Fin 128) : EReal := (∑ e, mixR x1 i g e * x2 (ix4 0 g e c)) + x3 (ix3 0 g c)

/-- The gradient of the branch before its scale. -/
def dpreR (i : Fin 8192) (g : Fin 4) (c : Fin 128) : EReal := dyR x5 x6 i g c * x4 (ix3 0 g c)

/-- The gradient of the mixed rows. -/
def dmR (i : Fin 8192) (g : Fin 4) (e : Fin 128) : EReal := ∑ d, dpreR x4 x5 x6 i g d * x2 (ix4 0 g e d)

theorem dcat_at (i : Fin 8192) (n : Fin 1024) : val_main_v66 (F := Ideal) x5 x6 (ix3 0 i n) = dcatR x5 x6 i n := by
  pointwise [val_main_v66, val_main_v63, val_main_v61, dcatR]

theorem dattn_at (i : Fin 8192) (q : Fin 512) : val_main_v102 (F := Ideal) x5 x6 (ix2 i q) = dcatR x5 x6 i ⟨q.val, by omega⟩ := by
  pointwise [val_main_v102, val_main_v101, val_main_v68, dcat_at]

theorem dy_at (i : Fin 8192) (g : Fin 4) (c : Fin 128) : val_main_v70 (F := Ideal) x5 x6 (ix4 0 i g c) = dyR x5 x6 i g c := by
  pointwise [val_main_v70, val_main_v69, dcat_at, dyR]
  exact congrArg (dcatR x5 x6 i) (Fin.ext (by show 512 + (g.val * 128 + c.val) = 512 + (128 * g.val + c.val); omega))

theorem pre_at (i : Fin 8192) (g : Fin 4) (c : Fin 128) : val_main_v55 (F := Ideal) x1 x2 x3 (ix4 0 i g c) = preR x1 x2 x3 i g c := by
  unfold val_main_v55 val_main_v52 val_main_v51 preR mixR
  generalize val_main_v50 (F := Ideal) x1 = M
  pointwise [val_main_v0, val_main_v54, val_main_v53, val_main_v1]
  refine congrArg (fun z : EReal => z + _) (Finset.sum_congr rfl fun e _ => mul_comm _ _)

theorem dpre_at (i : Fin 8192) (g : Fin 4) (c : Fin 128) : val_main_v75 (F := Ideal) x4 x5 x6 (ix4 0 i g c) = dpreR x4 x5 x6 i g c := by
  pointwise [val_main_v75, val_main_v74, val_main_v56, val_main_v2, dy_at, dpreR]

theorem dm_at (i : Fin 8192) (g : Fin 4) (e : Fin 128) : val_main_v82 (F := Ideal) x2 x4 x5 x6 (ix4 0 i g e) = dmR x2 x4 x5 x6 i g e := by
  have ev := dpre_at x4 x5 x6
  unfold val_main_v82 val_main_v81 val_main_v80
  revert ev
  generalize val_main_v75 (F := Ideal) x4 x5 x6 = a
  intro ev
  pointwise [val_main_v0, ev, dmR]

theorem dps_at (g : Fin 4) (c : Fin 128) : val_main_v76 (F := Ideal) x1 x2 x3 x5 x6 (ix2 g c) = ∑ i, dyR x5 x6 i g c * preR x1 x2 x3 i g c := by
  have e1 := dy_at x5 x6
  have e2 := pre_at x1 x2 x3
  unfold val_main_v76 val_main_v73 val_main_v72 val_main_v71
  revert e1 e2
  generalize val_main_v70 (F := Ideal) x5 x6 = a
  generalize val_main_v55 (F := Ideal) x1 x2 x3 = b
  intro e1 e2
  pointwise [val_main_cst_11, val_main_cst_12, Cert.Sums.reduce_two, e1, e2]
  exact Finset.sum_congr rfl fun i _ => mul_comm _ _

theorem dbp_at (g : Fin 4) (c : Fin 128) : val_main_v79 (F := Ideal) x4 x5 x6 (ix2 g c) = ∑ i, dpreR x4 x5 x6 i g c := by
  have e1 := dpre_at x4 x5 x6
  unfold val_main_v79 val_main_v78 val_main_v77
  revert e1
  generalize val_main_v75 (F := Ideal) x4 x5 x6 = a
  intro e1
  pointwise [val_main_cst_13, val_main_cst_14, Cert.Sums.reduce_two, e1]

theorem dwp_at (g : Fin 4) (e d : Fin 128) : val_main_v84 (F := Ideal) x1 x4 x5 x6 (ix3 g e d) = ∑ i, mixR x1 i g e * dpreR x4 x5 x6 i g d := by
  have e1 := dpre_at x4 x5 x6
  unfold val_main_v84 val_main_v83 val_main_v80 mixR
  revert e1
  generalize val_main_v75 (F := Ideal) x4 x5 x6 = a
  generalize val_main_v50 (F := Ideal) x1 = b
  intro e1
  pointwise [e1]
  rw [Fin.sum_univ_one]
  exact Finset.sum_congr rfl fun i _ => mul_comm _ _

theorem cat_lo (i : Fin 8192) (n : Fin 512) : val_main_v60 (F := Ideal) x0 x1 x2 x3 x4 (ix3 0 i ⟨n.val, by omega⟩) = x0 (ix3 0 i n) := by
  pointwise [val_main_v60]

theorem cat_hi (i : Fin 8192) (g : Fin 4) (c : Fin 128) : val_main_v60 (F := Ideal) x0 x1 x2 x3 x4 (ix3 0 i ⟨512 + (128 * g.val + c.val), by omega⟩) = preR x1 x2 x3 i g c * x4 (ix3 0 g c) := by
  have e := pre_at x1 x2 x3
  unfold val_main_v60 val_main_v59 val_main_v58
  revert e
  generalize val_main_v55 (F := Ideal) x1 x2 x3 = a
  intro e
  pointwise [val_main_v57, val_main_v56, val_main_v2]
  rw [e]

theorem dwo_at (n k : Fin 1024) : val_main_v65 (F := Ideal) x0 x1 x2 x3 x4 x6 (ix2 n k) = ∑ i, val_main_v60 (F := Ideal) x0 x1 x2 x3 x4 (ix3 0 i n) * x6 (ix2 i k) := by
  unfold val_main_v65 val_main_v64
  generalize val_main_v60 (F := Ideal) x0 x1 x2 x3 x4 = a
  pointwise [val_main_v63]
  rw [Fin.sum_univ_one]
  exact Finset.sum_congr rfl fun i _ => mul_comm _ _

/-! The results. -/

theorem res_dwo (n k : Fin 1024) : val_main_v105 (F := Ideal) x0 x1 x2 x3 x4 x6 (ix2 n k) = ∑ i, val_main_v60 (F := Ideal) x0 x1 x2 x3 x4 (ix3 0 i n) * x6 (ix2 i k) := by
  refine Eq.trans ?_ (dwo_at x0 x1 x2 x3 x4 x6 n k)
  unfold val_main_v105 val_main_v67
  generalize val_main_v65 (F := Ideal) x0 x1 x2 x3 x4 x6 = a
  pointwise

theorem res_dwp (g : Fin 4) (e d : Fin 128) : val_main_v106 (F := Ideal) x1 x4 x5 x6 (ix3 g e d) = ∑ i, mixR x1 i g e * dpreR x4 x5 x6 i g d := by
  refine Eq.trans ?_ (dwp_at x1 x4 x5 x6 g e d)
  unfold val_main_v106 val_main_v100
  generalize val_main_v84 (F := Ideal) x1 x4 x5 x6 = a
  pointwise

theorem res_dbp (g : Fin 4) (c : Fin 128) : val_main_v107 (F := Ideal) x4 x5 x6 (ix2 0 ⟨128 * g.val + c.val, by omega⟩) = ∑ i, dpreR x4 x5 x6 i g c := by
  refine Eq.trans ?_ (dbp_at x4 x5 x6 g c)
  unfold val_main_v107 val_main_v99
  generalize val_main_v79 (F := Ideal) x4 x5 x6 = a
  pointwise

theorem res_dps (g : Fin 4) (c : Fin 128) : val_main_v108 (F := Ideal) x1 x2 x3 x5 x6 (ix2 0 ⟨128 * g.val + c.val, by omega⟩) = ∑ i, dyR x5 x6 i g c * preR x1 x2 x3 i g c := by
  refine Eq.trans ?_ (dps_at x1 x2 x3 x5 x6 g c)
  unfold val_main_v108 val_main_v98
  generalize val_main_v76 (F := Ideal) x1 x2 x3 x5 x6 = a
  pointwise

end Cert.PoolBwdRefIdeal.Read
end
-- ==== Proof.Pool.Arrays.lean ====
/- The blocks of the pooling kernel's operands, in terms of the program's arguments. -/
module

public import proofs.«01_k».proof.Proof.Pool.Block
public import proofs.«01_k».proof.Proof.Pool.Ref
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.PoolBwdIdeal.Block

open Cert.PoolBwdIdeal Cert.PoolBwdIdeal.Gen Idealize.ShloMosaic Idealize.ShloMosaic.TcCoe Idealize.SL.Sem

open Cert.PoolBwdRefIdeal.Read (mixR dcatR dyR preR dpreR dmR)

variable (m : (ℓ : Loc nD τ sig) → Buf (Elt Ideal) ℓ)

/-- Row `p` of the tile of point `t`, the tiles last first, as a row of the whole array. -/
def rowP (t : Fin cfg0.N) (p : Fin 1024) : Fin 8192 := ⟨1024 * (7 - t.val) + p.val, by omega⟩

theorem index_rows : ∀ t : Fin cfg0.N, win0_0.index t = ![7 - t.val, 0] ∧ win0_1.index t = ![7 - t.val, 0] ∧ win0_2.index t = ![7 - t.val, 0]
    ∧ win0_3.index t = ![7 - t.val, 0] ∧ win0_4.index t = ![0, 0] ∧ win0_5.index t = ![0, 0, 0] ∧ win0_6.index t = ![0, 0]
    ∧ win0_7.index t = ![0, 0] ∧ win0_8.index t = ![7 - t.val, 0] ∧ win0_9.index t = ![7 - t.val, 0] ∧ win0_10.index t = ![0, 0]
    ∧ win0_11.index t = ![0, 0, 0] ∧ win0_12.index t = ![0, 0] ∧ win0_13.index t = ![0, 0] := by decide +kernel

theorem coords_val : ∀ t : Fin cfg0.N, (grid0.coords t 0).val = t.val := by decide +kernel

variable (c : Dev nD) (t : Fin cfg0.N)

theorem blk0 (p k : Fin 1024) : iblk m c 0 t (ix2 p k) = m ((c : Thread nD τ).loc main_arg6) (ix2 (rowP t p) k) := by
  blk_ext [iblk, V_main_arg6, index_rows t, rowP]
theorem blk1 (p : Fin 1024) (k : Fin 512) : iblk m c 1 t (ix2 p k) = m ((c : Thread nD τ).loc main_arg0) (ix3 0 (rowP t p) k) := by
  blk_simp [iblk]
  rw [show (win0_1.blk t).view.emb (ix2 p k) = ix2 (rowP t p) k from ?_]
  · unfold V
    after_reads_simp
    pointwise
  · blk_ext [index_rows t, rowP]
theorem blk4 (j k : Fin 1024) : iblk m c 4 t (ix2 j k) = m ((c : Thread nD τ).loc main_arg5) (ix3 0 j k) := by
  blk_simp [iblk]
  rw [show (win0_4.blk t).view.emb (ix2 j k) = ix2 j k from ?_]
  · unfold V
    after_reads_simp
    pointwise
  · blk_ext [index_rows t]
theorem blk5 (g : Fin 4) (e d : Fin 128) : iblk m c 5 t (ix3 g e d) = m ((c : Thread nD τ).loc main_arg2) (ix4 0 g e d) := by
  blk_simp [iblk]
  rw [show (win0_5.blk t).view.emb (ix3 g e d) = ix3 g e d from ?_]
  · unfold V
    after_reads_simp
    pointwise
  · blk_ext [index_rows t]
theorem blk6 (g : Fin 4) (e : Fin 128) : iblk m c 6 t (ix2 0 (col g e)) = m ((c : Thread nD τ).loc main_arg3) (ix3 0 g e) := by
  blk_simp [iblk]
  rw [show (win0_6.blk t).view.emb (ix2 0 (col g e)) = ix2 0 (col g e) from ?_]
  · unfold V
    after_reads_simp
    pointwise
    exact congrArg₂ (fun a b => m ((c : Thread nD τ).loc main_arg3) (ix3 0 a b)) (Fin.ext (by simp only []; omega)) (Fin.ext (by simp only []; omega))
  · blk_ext [index_rows t]
theorem blk7 (g : Fin 4) (e : Fin 128) : iblk m c 7 t (ix2 0 (col g e)) = m ((c : Thread nD τ).loc main_arg4) (ix3 0 g e) := by
  blk_simp [iblk]
  rw [show (win0_7.blk t).view.emb (ix2 0 (col g e)) = ix2 0 (col g e) from ?_]
  · unfold V
    after_reads_simp
    pointwise
    exact congrArg₂ (fun a b => m ((c : Thread nD τ).loc main_arg4) (ix3 0 a b)) (Fin.ext (by simp only []; omega)) (Fin.ext (by simp only []; omega))
  · blk_ext [index_rows t]

/-- The mixed rows from the running sums, the windows' starts and their lengths. -/
def mixF (s3 : FVec Ideal S1x8192x4x128 .f32) (cs : FVec Ideal S1x8193x4x128 .f32) (idx : IVec S8192x4x2 32) (n : IVec S8192x4 32) : FVec Ideal S1x8192x4x128 .f32 :=
  subf (Host.divf (subf (extractStridedSlice S1x8192x4x128 ![0, 1, 0, 0] cs slices_S1x8193x4x128_S1x8192x4x128_0_1_0_0) (Host.gather gather_S1x8193x4x128_S8192x4x2_S1x8192x4x128_03_12_n_n_12_2_111128 cs idx))
    (broadcastInDim S1x8192x4x128 ![0, 1, 2, 3] bcast_S1x8192x4x1_S1x8192x4x128_0_1_2_3 (broadcastInDim S1x8192x4x1 ![1, 2] bcast_S8192x4_S1x8192x4x1_1_2 (sitofp .f32 n)))) s3

theorem mixF_ref (x1) : Cert.PoolBwdRefIdeal.Read.val_main_v50 (F := Ideal) x1 = mixF (Cert.PoolBwdRefIdeal.Read.val_main_v3 (F := Ideal) x1) (Cert.PoolBwdRefIdeal.Read.val_main_v6 (F := Ideal) x1)
    (Cert.PoolBwdRefIdeal.Read.val_main_v39 (F := Ideal)) (Cert.PoolBwdRefIdeal.Read.val_main_v45 (F := Ideal)) := rfl

/-! The host's arrays, at their types. -/
def W0 : FVec Ideal S1x8192x4x128 .f32 := V m c main_v0
def W3 : FVec Ideal S1x8193x4x128 .f32 := V m c main_v3
def W10 : IVec S4 32 := V m c main_v10
def W18 : IVec S8192x4 32 := V m c main_v18
def W33 : IVec S8192x4x1 32 := V m c main_v33
def W35 : IVec S8192x4x2 32 := V m c main_v35
def W41 : IVec S8192x4 32 := V m c main_v41
def W58 : FVec Ideal S1x8192x512 .f32 := V m c main_v58
def W46 : FVec Ideal S1x8192x4x128 .f32 := V m c main_v46

/-! They are the reference's. -/
theorem w0_is : W0 m c = Cert.PoolBwdRefIdeal.Read.val_main_v3 (F := Ideal) (m ((c : Thread nD τ).loc main_arg1)) := by
  unfold W0 V
  after_reads_simp
  rfl

theorem w3_is : W3 m c = Cert.PoolBwdRefIdeal.Read.val_main_v6 (F := Ideal) (m ((c : Thread nD τ).loc main_arg1)) := by
  unfold W3 V
  after_reads_simp
  refine congrArg₂ (fun a b => concatenate S1x8193x4x128 1 [⟨S1x1x4x128, a⟩, ⟨S1x8192x4x128, b⟩] concatenates_S1x1x4x128_S1x8192x4x128_S1x8193x4x128_d1) (?_ : _ = Cert.PoolBwdRefIdeal.Read.val_main_v4 (F := Ideal)) (?_ : _ = Cert.PoolBwdRefIdeal.Read.val_main_v5 (F := Ideal) (m ((c : Thread nD τ).loc main_arg1)))
  · show StableHlo.upto _ _ _ (Proc.tc.devRef main_v1) = _
    after_reads_simp
    rfl
  · show StableHlo.upto _ _ _ (Proc.tc.devRef main_v2) = _
    after_reads_simp
    rfl
theorem w10_is : W10 m c = Cert.PoolBwdRefIdeal.Read.val_main_v14 (F := Ideal) := by
  unfold W10 V
  after_reads_simp
  have e : ∀ {a b d f a' b' d' f' : IVec S1 32}, a = a' → b = b' → d = d' → f = f' →
      concatenate S4 0 [⟨S1, a⟩, ⟨S1, b⟩, ⟨S1, d⟩, ⟨S1, f⟩] concatenates_S1_S1_S1_S1_S4_d0 = concatenate S4 0 [⟨S1, a'⟩, ⟨S1, b'⟩, ⟨S1, d'⟩, ⟨S1, f'⟩] concatenates_S1_S1_S1_S1_S4_d0 := by
    rintro a b d f _ _ _ _ rfl rfl rfl rfl
    rfl
  refine e (?_ : _ = Cert.PoolBwdRefIdeal.Read.val_main_v10 (F := Ideal)) (?_ : _ = Cert.PoolBwdRefIdeal.Read.val_main_v11 (F := Ideal))
    (?_ : _ = Cert.PoolBwdRefIdeal.Read.val_main_v12 (F := Ideal)) (?_ : _ = Cert.PoolBwdRefIdeal.Read.val_main_v13 (F := Ideal))
  · show StableHlo.upto _ _ _ (Proc.tc.devRef main_v6) = _
    after_reads_simp
    rfl
  · show StableHlo.upto _ _ _ (Proc.tc.devRef main_v7) = _
    after_reads_simp
    rfl
  · show StableHlo.upto _ _ _ (Proc.tc.devRef main_v8) = _
    after_reads_simp
    rfl
  · show StableHlo.upto _ _ _ (Proc.tc.devRef main_v9) = _
    after_reads_simp
    rfl

/-- The windows' starts from the windows. -/
def startF (sz : IVec S4 32) : IVec S8192x4 32 :=
  maxsi (subi (broadcastInDim S8192x4 ![0, 1] bcast_S8192x1_S8192x4_0_1 (addi (broadcastInDim S8192x1 ![0] bcast_S8192_S8192x1_0 (iotaInDim S8192 32 0)) (broadcastInDim S8192x1 ![] bcast_S_S8192x1 (constantI S_ 32 1#32))))
    (broadcastInDim S8192x4 ![0, 1] bcast_S1x4_S8192x4_0_1 (broadcastInDim S1x4 ![1] bcast_S4_S1x4_1 sz))) (broadcastInDim S8192x4 ![] bcast_S_S8192x4 (constantI S_ 32 0#32))

theorem w18_is : W18 m c = Cert.PoolBwdRefIdeal.Read.val_main_v22 (F := Ideal) := by
  have e : W18 m c = startF (W10 m c) := by
    unfold W18 W10 V
    after_reads_simp
    rfl
  rw [e, w10_is]
  rfl

theorem w41_is : W41 m c = Cert.PoolBwdRefIdeal.Read.val_main_v45 (F := Ideal) := by
  have e : W41 m c = subi (broadcastInDim S8192x4 ![0, 1] bcast_S8192x1_S8192x4_0_1 (addi (broadcastInDim S8192x1 ![0] bcast_S8192_S8192x1_0 (iotaInDim S8192 32 0)) (broadcastInDim S8192x1 ![] bcast_S_S8192x1 (constantI S_ 32 1#32)))) (W18 m c) := by
    unfold W41 W18 V
    after_reads_simp
  rw [e, w18_is]
  rfl

theorem w33_is : W33 m c = Cert.PoolBwdRefIdeal.Read.val_main_v37 (F := Ideal) := by
  have e : W33 m c = broadcastInDim S8192x4x1 ![0, 1] bcast_S8192x4_S8192x4x1_0_1 (select (cmpi .slt (W18 m c) (broadcastInDim S8192x4 ![] bcast_S_S8192x4 (constantI S_ 32 0#32)))
      (addi (W18 m c) (broadcastInDim S8192x4 ![] bcast_S_S8192x4 (constantI S_ 32 8193#32))) (W18 m c)) := by
    unfold W33 W18 V
    after_reads_simp
  rw [e, w18_is]
  rfl

theorem w35_is : W35 m c = Cert.PoolBwdRefIdeal.Read.val_main_v39 (F := Ideal) := by
  unfold W35 V
  after_reads_simp
  refine congrArg₂ (fun a b => concatenate S8192x4x2 2 [⟨S8192x4x1, a⟩, ⟨S8192x4x1, b⟩] concatenates_S8192x4x1_S8192x4x1_S8192x4x2_d2) (?_ : _ = Cert.PoolBwdRefIdeal.Read.val_main_v37 (F := Ideal)) (?_ : _ = Cert.PoolBwdRefIdeal.Read.val_main_v38 (F := Ideal))
  · refine Eq.trans ?_ (w33_is m c)
    unfold W33 V
    show StableHlo.upto _ _ _ (Proc.tc.devRef main_v33) = _
    after_reads_simp
  · show StableHlo.upto _ _ _ (Proc.tc.devRef main_v34) = _
    after_reads_simp
    rfl

/-- The mixed rows the kernel is given are the reference's. -/
theorem w46_is : W46 m c = Cert.PoolBwdRefIdeal.Read.val_main_v50 (F := Ideal) (m ((c : Thread nD τ).loc main_arg1)) := by
  have e : W46 m c = mixF (W0 m c) (W3 m c) (W35 m c) (W41 m c) := by
    unfold W46 W0 W3 W35 W41 V
    after_reads_simp
    rfl
  rw [e, w0_is, w3_is, w35_is, w41_is]
  exact (mixF_ref _).symm

/-- The branch's output from the mixed rows. -/
def poolF (mix : FVec Ideal S1x8192x4x128 .f32) (w : FVec Ideal S1x4x128x128 .f32) (b s : FVec Ideal S1x4x128 .f32) : FVec Ideal S1x8192x512 .f32 :=
  shapeCast _ (mulf (addf (transpose S1x8192x4x128 [2, 3, 0, 1] (Host.dotGeneral dot_S4x128x128_S1x8192x4x128_S4x128x1x8192_1_3_2_01_0_2 none (shapeCast _ w shapeCasts_S1x4x128x128_S4x128x128) mix) transposes_S4x128x1x8192_S1x8192x4x128_2_3_0_1)
    (broadcastInDim S1x8192x4x128 ![0, 1, 2, 3] bcast_S1x1x4x128_S1x8192x4x128_0_1_2_3 (broadcastInDim S1x1x4x128 ![2, 3] bcast_S4x128_S1x1x4x128_2_3 (shapeCast _ b shapeCasts_S1x4x128_S4x128))))
    (broadcastInDim S1x8192x4x128 ![0, 1, 2, 3] bcast_S1x1x4x128_S1x8192x4x128_0_1_2_3 (broadcastInDim S1x1x4x128 ![2, 3] bcast_S4x128_S1x1x4x128_2_3 (shapeCast _ s shapeCasts_S1x4x128_S4x128)))) shapeCasts_S1x8192x4x128_S1x8192x512

/-- The branch's output the kernel is given is the reference's. -/
theorem w58_is : W58 m c = Cert.PoolBwdRefIdeal.Read.val_main_v59 (F := Ideal) (m ((c : Thread nD τ).loc main_arg1)) (m ((c : Thread nD τ).loc main_arg2)) (m ((c : Thread nD τ).loc main_arg3)) (m ((c : Thread nD τ).loc main_arg4)) := by
  have e : W58 m c = poolF (W46 m c) (m ((c : Thread nD τ).loc main_arg2)) (m ((c : Thread nD τ).loc main_arg3)) (m ((c : Thread nD τ).loc main_arg4)) := by
    unfold W58 W46 V
    after_reads_simp
    rfl
  rw [e, w46_is]
  rfl

theorem v64_is : (V m c main_v64 : FVec Ideal S8192x512 .bf16) = truncf .bf16 (shapeCast _ (W58 m c) shapeCasts_S1x8192x512_S8192x512) := by
  unfold W58 V
  after_reads_simp
  rfl
theorem v65_is : (V m c main_v65 : FVec Ideal S8192x512 .bf16) = truncf .bf16 (shapeCast S8192x512 (shapeCast S8192x4x128 (W46 m c) shapeCasts_S1x8192x4x128_S8192x4x128) shapeCasts_S8192x4x128_S8192x512) := by
  unfold W46 V
  after_reads_simp
  rfl

theorem blk3 (p : Fin 1024) (g : Fin 4) (e : Fin 128) : iblk m c 3 t (ix2 p (col g e)) = mixR (m ((c : Thread nD τ).loc main_arg1)) (rowP t p) g e := by
  blk_simp [iblk]
  rw [show (win0_3.blk t).view.emb (ix2 p (col g e)) = ix2 (rowP t p) (col g e) from ?_]
  · refine (congrFun (v65_is m c) _).trans ?_
    rw [w46_is]
    unfold mixR
    generalize Cert.PoolBwdRefIdeal.Read.val_main_v50 (F := Ideal) (m ((c : Thread nD τ).loc main_arg1)) = a
    pointwise
    exact congrArg₂ (fun u v => a (ix4 0 (rowP t p) u v)) (Fin.ext (by simp only []; omega)) (Fin.ext (by simp only []; omega))
  · blk_ext [index_rows t, rowP]
theorem blk2 (p : Fin 1024) (q : Fin 512) : iblk m c 2 t (ix2 p q) = Cert.PoolBwdRefIdeal.Read.val_main_v59 (F := Ideal) (m ((c : Thread nD τ).loc main_arg1)) (m ((c : Thread nD τ).loc main_arg2)) (m ((c : Thread nD τ).loc main_arg3)) (m ((c : Thread nD τ).loc main_arg4)) (ix3 0 (rowP t p) q) := by
  blk_simp [iblk]
  rw [show (win0_2.blk t).view.emb (ix2 p q) = ix2 (rowP t p) q from ?_]
  · refine (congrFun (v64_is m c) _).trans ?_
    rw [w58_is]
    generalize Cert.PoolBwdRefIdeal.Read.val_main_v59 (F := Ideal) (m ((c : Thread nD τ).loc main_arg1)) (m ((c : Thread nD τ).loc main_arg2)) (m ((c : Thread nD τ).loc main_arg3)) (m ((c : Thread nD τ).loc main_arg4)) = a
    pointwise
  · blk_ext [index_rows t, rowP]

end Cert.PoolBwdIdeal.Block
end
-- ==== Proof.Pool.Window.lean ====
/- The gradient of the pooling branch's input in the reference: a scatter of the window means' gradients and a running sum, read as sums over windows. -/
module

public import proofs.«01_k».proof.Proof.Pool.Ref

@[expose] public section

set_option maxRecDepth 16384

noncomputable section

namespace Cert.PoolBwdRefIdeal.Read

open Cert.Reals Cert.PoolBwdRefIdeal Cert.PoolBwdRefIdeal.Gen Idealize.ShloMosaic Idealize.ShloMosaic.TcCoe Idealize.SL.Sem

variable (x0 x1 : S1x8192x512.Idx → EReal) (x2 : S1x4x128x128.Idx → EReal) (x3 x4 : S1x4x128.Idx → EReal) (x5 : S1x1024x1024.Idx → EReal)
  (x6 : S8192x1024.Idx → EReal)

/-- The window of each group. -/
def span (g : Fin 4) : Nat := ![2, 4, 8, 16] g

theorem span_le (g : Fin 4) : span g ≤ 16 := by revert g; decide
theorem span_pos (g : Fin 4) : 0 < span g := by revert g; decide

theorem foldl_add {ι : Type} (f : ι → EReal) : ∀ (l : List ι) (v : EReal), l.foldl (fun r k => r + f k) v = v + (l.map f).sum
  | [], v => (add_zero v).symm
  | k :: l, v => by rw [List.foldl_cons, foldl_add f l, List.map_cons, List.sum_cons, add_assoc]

/-- The positions of a window that runs along the second axis. -/
def alongEquiv : (⟨4, ![1, 8192, 1, 1]⟩ : Shape).Idx ≃ Fin 8192 where
  toFun i := i 1
  invFun j := ix4 0 j 0 0
  left_inv i := by
    funext a
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv j := rfl

/-- The running sum from the end: the sum of the rows from one on. -/
theorem suffix_at (h : S1x8192x4x128.ReduceWindows ![1, 8192, 1, 1] ![1, 1, 1, 1] ![0, 0, 0, 0] ![0, 8191, 0, 0] S1x8192x4x128)
    (x : S1x8192x4x128.Idx → EReal) (v : EReal) (s : Fin 8192) (g : Fin 4) (c : Fin 128) :
    Ideal.hostReduceWindowAdd ![1, 8192, 1, 1] ![1, 1, 1, 1] ![0, 0, 0, 0] ![0, 8191, 0, 0] h x v (ix4 0 s g c)
      = v + ∑ j : Fin 8192, if hj : s.val + j.val < 8192 then x (ix4 0 ⟨s.val + j.val, hj⟩ g c) else v := by
  unfold Ideal.hostReduceWindowAdd Host.reduceWindow
  refine (foldl_add _ _ _).trans (congrArg (v + ·) ?_)
  rw [← Fin.sum_univ_def]
  refine Fintype.sum_equiv ((Shape.rowMajor ⟨4, ![1, 8192, 1, 1]⟩).symm.trans alongEquiv) _ _ fun n => ?_
  let i := (Shape.rowMajor ⟨4, ![1, 8192, 1, 1]⟩).symm n
  show _ = if hj : s.val + (i 1).val < 8192 then x (ix4 0 ⟨s.val + (i 1).val, hj⟩ g c) else v
  have h0 : (i 0).val = 0 := by have : (i 0).val < 1 := (i 0).isLt; omega
  have h2 : (i 2).val = 0 := by have : (i 2).val < 1 := (i 2).isLt; omega
  have h3 : (i 3).val = 0 := by have : (i 3).val < 1 := (i 3).isLt; omega
  by_cases hj : s.val + (i 1).val < 8192
  · rw [dif_pos hj]
    refine (dif_pos ?_).trans ?_
    · intro a
      match a with
      | ⟨0, _⟩ => refine ⟨Nat.zero_le _, ?_⟩; show 0 * 1 + (i 0).val - 0 < 1; omega
      | ⟨1, _⟩ => refine ⟨Nat.zero_le _, ?_⟩; show s.val * 1 + (i 1).val - 0 < 8192; omega
      | ⟨2, _⟩ => refine ⟨Nat.zero_le _, ?_⟩; show g.val * 1 + (i 2).val - 0 < 4; omega
      | ⟨3, _⟩ => refine ⟨Nat.zero_le _, ?_⟩; show c.val * 1 + (i 3).val - 0 < 128; omega
    · refine congrArg x ?_
      funext a
      match a with
      | ⟨0, _⟩ => refine Fin.ext ?_; show 0 * 1 + (i 0).val - 0 = 0; omega
      | ⟨1, _⟩ => refine Fin.ext ?_; show s.val * 1 + (i 1).val - 0 = s.val + (i 1).val; omega
      | ⟨2, _⟩ => refine Fin.ext ?_; show g.val * 1 + (i 2).val - 0 = g.val; omega
      | ⟨3, _⟩ => refine Fin.ext ?_; show c.val * 1 + (i 3).val - 0 = c.val; omega
  · rw [dif_neg hj]
    refine dif_neg fun hin => ?_
    have : s.val * 1 + (i 1).val - 0 < 8192 := (hin 1).2
    omega

theorem toInt_small (n : Nat) (hn : n < 2 ^ 31) : (BitVec.ofNat 32 n).toInt = (n : Int) := by
  rw [BitVec.toInt_eq_toNat_of_lt (by rw [BitVec.toNat_ofNat]; omega), BitVec.toNat_ofNat]; omega

/-- A difference clipped at zero, in words. -/
theorem clip_at (t s : Nat) (ht : t ≤ 8192) (hs : s ≤ 16) : IntOp.maxsi (IntOp.subi (BitVec.ofNat 32 t) (BitVec.ofNat 32 s)) 0#32 = BitVec.ofNat 32 (t - s) := by
  unfold IntOp.maxsi IntOp.subi
  have e : (BitVec.ofNat 32 t - BitVec.ofNat 32 s).toInt = (t : Int) - s := by
    rw [BitVec.toInt_sub, toInt_small t (by omega), toInt_small s (by omega)]
    simp only [Int.bmod]; omega
  have h0 : (0#32).toInt = 0 := rfl
  by_cases h : s < t
  · rw [if_pos (by simp only [BitVec.slt, e, h0]; simp; omega)]
    refine BitVec.eq_of_toInt_eq ?_
    rw [e, toInt_small _ (by omega)]; omega
  · rw [if_neg (by simp only [BitVec.slt, e, h0]; simp; omega), show t - s = 0 by omega]

theorem succ_at (t : Nat) : IntOp.addi (BitVec.ofNat 32 t) 1#32 = BitVec.ofNat 32 (t + 1) := (BitVec.ofNat_add ..).symm

theorem sizes_at (g : Fin 4) : val_main_v15 (F := Ideal) (ix2 0 g) = BitVec.ofNat 32 (span g) := by
  revert g
  decide +kernel

/-- Where a row's window starts. -/
theorem start_at (t : Fin 8192) (g : Fin 4) : val_main_v22 (F := Ideal) (ix2 t g) = BitVec.ofNat 32 (t.val + 1 - span g) := by
  have e := sizes_at g
  unfold val_main_v22 val_main_v20 val_main_v19
  revert e
  generalize val_main_v15 (F := Ideal) = a
  intro e
  refine Eq.trans ?_ (clip_at (t.val + 1) (span g) (by omega) (span_le g))
  rw [← succ_at, ← e]
  pointwise [val_main_v21, val_main_c_5, val_main_v18, val_main_v17, val_main_v16, val_main_c_4, val_main_v9, val_main_v8]

theorem not_neg (n : Nat) (hn : n < 2 ^ 31) : IntOp.cmpi .slt (BitVec.ofNat 32 n) 0#32 = 0#1 := by
  have h0 : (0#32).toInt = 0 := rfl
  simp only [IntOp.cmpi, BitVec.slt, toInt_small n hn, h0]
  rw [show decide ((n : Int) < 0) = false from decide_eq_false (by omega)]
  rfl

theorem group_at (g : Fin 4) : val_main_v35 (F := Ideal) (ix2 0 g) = BitVec.ofNat 32 g.val := by
  revert g
  decide +kernel

theorem place0_at (t : Fin 8192) (g : Fin 4) : val_main_v39 (F := Ideal) (ix3 t g 0) = BitVec.ofNat 32 (t.val + 1 - span g) := by
  have e := start_at t g
  unfold val_main_v39 val_main_v37 val_main_v30 val_main_v27
  revert e
  generalize val_main_v22 (F := Ideal) = a
  intro e
  pointwise [val_main_v26, val_main_c_6, e]
  rw [not_neg _ (by omega)]
  rfl

theorem place1_at (t : Fin 8192) (g : Fin 4) : val_main_v39 (F := Ideal) (ix3 t g 1) = BitVec.ofNat 32 g.val := by
  have e := group_at g
  unfold val_main_v39 val_main_v38 val_main_v36
  revert e
  generalize val_main_v35 (F := Ideal) = a
  intro e
  pointwise [e]

/-- The number of rows in a row's window. -/
theorem count_at (t : Fin 8192) (g : Fin 4) (c : Fin 128) : val_main_v86 (F := Ideal) (ix4 0 t g c) = (((min (t.val + 1) (span g) : Nat) : ℝ) : EReal) := by
  have e := start_at t g
  unfold val_main_v86 val_main_v47 val_main_v46 val_main_v45
  revert e
  generalize val_main_v22 (F := Ideal) = a
  intro e
  rw [← sitofp_nat _ (by omega)]
  pointwise [val_main_v44, val_main_v43, val_main_v42, val_main_c_10, val_main_v9, val_main_v8, e]
  refine congrArg _ ?_
  rw [succ_at]
  refine BitVec.eq_of_toNat_eq ?_
  have := span_le g
  simp [IntOp.subi, BitVec.toNat_sub, BitVec.toNat_ofNat]
  omega

/-- The place an update lands at. -/
theorem land (idx : IVec S8192x4x2 32) (t : Fin 8192) (g : Fin 4) (c : Fin 128) (r : Fin 8193) (h0 : idx (ix3 t g 0) = BitVec.ofNat 32 r.val)
    (h1 : idx (ix3 t g 1) = BitVec.ofNat 32 g.val) :
    scatter_S1x8193x4x128_S8192x4x2_S1x8192x4x128_03_12_12_2.resultIdx? (ix4 0 t g c) idx = some (ix4 0 r g c) := by
  have s0 : scatter_S1x8193x4x128_S8192x4x2_S1x8192x4x128_03_12_12_2.start (ix4 0 t g c) idx 0 = 0 := dif_neg (by decide)
  have s3 : scatter_S1x8193x4x128_S8192x4x2_S1x8192x4x128_03_12_12_2.start (ix4 0 t g c) idx 3 = 0 := dif_neg (by decide)
  have s1 : scatter_S1x8193x4x128_S8192x4x2_S1x8192x4x128_03_12_12_2.start (ix4 0 t g c) idx 1 = r.val := by
    refine (dif_pos (by decide)).trans ((congrArg (fun z => (idx z).toInt) (?_ : _ = ix3 t g 0)).trans (by show (idx (ix3 t g 0)).toInt = _; rw [h0]; exact toInt_small _ (by omega)))
    funext b
    match b with
    | ⟨0, _⟩ => rfl
    | ⟨1, _⟩ => rfl
    | ⟨2, _⟩ => rfl
  have s2 : scatter_S1x8193x4x128_S8192x4x2_S1x8192x4x128_03_12_12_2.start (ix4 0 t g c) idx 2 = g.val := by
    refine (dif_pos (by decide)).trans ((congrArg (fun z => (idx z).toInt) (?_ : _ = ix3 t g 1)).trans (by show (idx (ix3 t g 1)).toInt = _; rw [h1]; exact toInt_small _ (by omega)))
    funext b
    match b with
    | ⟨0, _⟩ => rfl
    | ⟨1, _⟩ => rfl
    | ⟨2, _⟩ => rfl
  have w0 : scatter_S1x8193x4x128_S8192x4x2_S1x8192x4x128_03_12_12_2.window (ix4 0 t g c) 0 = 0 := rfl
  have w1 : scatter_S1x8193x4x128_S8192x4x2_S1x8192x4x128_03_12_12_2.window (ix4 0 t g c) 1 = 0 := rfl
  have w2 : scatter_S1x8193x4x128_S8192x4x2_S1x8192x4x128_03_12_12_2.window (ix4 0 t g c) 2 = 0 := rfl
  have w3 : scatter_S1x8193x4x128_S8192x4x2_S1x8192x4x128_03_12_12_2.window (ix4 0 t g c) 3 = c.val := rfl
  unfold ScatterDims.resultIdx?
  refine (dif_pos ?_).trans (congrArg some ?_)
  · intro a
    match a with
    | ⟨0, _⟩ => exact (show _ ∧ _ < (1 : Int) by erw [s0, w0]; omega)
    | ⟨1, _⟩ => exact (show _ ∧ _ < (8193 : Int) by erw [s1, w1]; omega)
    | ⟨2, _⟩ => exact (show _ ∧ _ < (4 : Int) by erw [s2, w2]; omega)
    | ⟨3, _⟩ => exact (show _ ∧ _ < (128 : Int) by erw [s3, w3]; omega)
  · funext a
    match a with
    | ⟨0, _⟩ => exact Fin.ext ((congrArg Int.toNat ((congrArg₂ (fun (u : Int) (v : Nat) => u + (v : Int)) s0 w0).trans (add_zero _))).trans rfl)
    | ⟨1, _⟩ => exact Fin.ext (by show Int.toNat _ = r.val; erw [s1, w1]; omega)
    | ⟨2, _⟩ => exact Fin.ext (by show Int.toNat _ = g.val; erw [s2, w2]; omega)
    | ⟨3, _⟩ => exact Fin.ext ((congrArg Int.toNat ((congrArg₂ (fun (u : Int) (v : Nat) => u + (v : Int)) s3 w3).trans (zero_add _))).trans rfl)

/-- The scattered rows, one row on: the row whose window starts there, when there is one. -/
theorem scatter_at (idx : IVec S8192x4x2 32) (h0 : ∀ t g, idx (ix3 t g 0) = BitVec.ofNat 32 (t.val + 1 - span g)) (h1 : ∀ t g, idx (ix3 t g 1) = BitVec.ofNat 32 g.val)
    (z : S1x8193x4x128.Idx → EReal) (u : S1x8192x4x128.Idx → EReal) (r : Fin 8192) (g : Fin 4) (c : Fin 128) :
    Ideal.hostScatterAdd scatter_S1x8193x4x128_S8192x4x2_S1x8192x4x128_03_12_12_2 z idx u (ix4 0 ⟨1 + r.val, by omega⟩ g c)
      = z (ix4 0 ⟨1 + r.val, by omega⟩ g c) + if h : r.val + span g < 8192 then u (ix4 0 ⟨r.val + span g, h⟩ g c) else 0 := by
  have inv : ∀ i : S1x8192x4x128.Idx, scatter_S1x8193x4x128_S8192x4x2_S1x8192x4x128_03_12_12_2.resultIdx? i idx = some (ix4 0 ⟨1 + r.val, by omega⟩ g c) →
      ∃ h : r.val + span g < 8192, i = ix4 0 ⟨r.val + span g, h⟩ g c := by
    intro i hi
    have e : i = ix4 0 (i 1) (i 2) (i 3) := by
      funext a
      match a with
      | ⟨0, _⟩ => exact Subsingleton.elim (α := Fin 1) _ _
      | ⟨1, _⟩ => rfl
      | ⟨2, _⟩ => rfl
      | ⟨3, _⟩ => rfl
    have hlt : (i 1).val < 8192 := (i 1).isLt
    have hl := land idx (i 1) (i 2) (i 3) ⟨(i 1).val + 1 - span (i 2), by have := span_pos (i 2); omega⟩ (h0 _ _) (h1 _ _)
    have hl := Option.some.inj (hi.symm.trans ((congrArg (fun q => scatter_S1x8193x4x128_S8192x4x2_S1x8192x4x128_03_12_12_2.resultIdx? q idx) e).trans hl))
    have e2 : g = i 2 := congrFun hl 2
    have e3 : c = i 3 := congrFun hl 3
    have e1 : 1 + r.val = (i 1).val + 1 - span (i 2) := congrArg Fin.val (congrFun hl 1)
    rw [← e2] at e1
    have e1' : (i 1).val = r.val + span g := by omega
    refine ⟨by omega, e.trans ?_⟩
    rw [← e2, ← e3]
    exact congrArg (fun q => ix4 0 q g c) (Fin.ext e1')
  unfold Ideal.hostScatterAdd
  refine congrArg (z _ + ·) ?_
  by_cases h : r.val + span g < 8192
  · rw [dif_pos h]
    refine Finset.sum_eq_single_of_mem (ix4 0 ⟨r.val + span g, h⟩ g c) (Finset.mem_filter.mpr ⟨Finset.mem_univ _, ?_⟩) fun i hi hne => absurd ?_ hne
    · exact land idx _ g c ⟨1 + r.val, by omega⟩ ((h0 _ _).trans (by show BitVec.ofNat 32 (r.val + span g + 1 - span g) = BitVec.ofNat 32 (1 + r.val); congr 1; omega)) (h1 _ _)
    · exact (inv i (Finset.mem_filter.mp hi).2).2
  · rw [dif_neg h]
    exact Finset.sum_eq_zero fun i hi => absurd (inv i (Finset.mem_filter.mp hi).2).1 h

/-- The gradient of a row's window mean, spread over its window. -/
def wR (t : Fin 8192) (g : Fin 4) (e : Fin 128) : EReal := Ideal.div (dmR x2 x4 x5 x6 t g e) (((min (t.val + 1) (span g) : Nat) : ℝ) : EReal)

/-- The same, zero past the end. -/
def wU (n : Nat) (g : Fin 4) (e : Fin 128) : EReal := if h : n < 8192 then wR x2 x4 x5 x6 ⟨n, h⟩ g e else 0

theorem w_at (t : Fin 8192) (g : Fin 4) (e : Fin 128) : val_main_v87 (F := Ideal) x2 x4 x5 x6 (ix4 0 t g e) = wR x2 x4 x5 x6 t g e := by
  have e1 := dm_at x2 x4 x5 x6 t g e
  have e2 := count_at t g e
  unfold val_main_v87 wR
  revert e1 e2
  generalize val_main_v82 (F := Ideal) x2 x4 x5 x6 = a
  generalize val_main_v86 (F := Ideal) = b
  intro e1 e2
  pointwise [e1, e2]

/-- What the running sum adds up: each row less the row whose window starts after it. -/
theorem step_at (r : Fin 8192) (g : Fin 4) (e : Fin 128) :
    val_main_v94 (F := Ideal) x2 x4 x5 x6 (ix4 0 r g e) = wU x2 x4 x5 x6 r.val g e + -(wU x2 x4 x5 x6 (r.val + span g) g e) := by
  have ew := w_at x2 x4 x5 x6
  have es : val_main_v90 (F := Ideal) x2 x4 x5 x6 (ix4 0 ⟨1 + r.val, by omega⟩ g e) = -(wU x2 x4 x5 x6 (r.val + span g) g e) := by
    refine (scatter_at _ place0_at place1_at _ _ r g e).trans ?_
    unfold wU
    by_cases h : r.val + span g < 8192
    · rw [dif_pos h, dif_pos h, ← ew]
      pointwise [val_main_v89, val_main_cst_15, val_main_v88]
    · rw [dif_neg h, dif_neg h]
      pointwise [val_main_v89, val_main_cst_15]
      exact neg_zero.symm
  unfold val_main_v94 val_main_v92 val_main_v91
  revert ew es
  generalize val_main_v90 (F := Ideal) x2 x4 x5 x6 = a
  generalize val_main_v87 (F := Ideal) x2 x4 x5 x6 = b
  intro ew es
  pointwise [es]
  rw [ew, add_comm (G := EReal), show wU x2 x4 x5 x6 r.val g e = wR x2 x4 x5 x6 r g e from dif_pos r.isLt]

/-- The same for the host's operation. -/
theorem suffix_host (h : S1x8192x4x128.ReduceWindows ![1, 8192, 1, 1] ![1, 1, 1, 1] ![0, 0, 0, 0] ![0, 8191, 0, 0] S1x8192x4x128)
    (x : FVec Ideal S1x8192x4x128 .f32) (z : FVec Ideal S_ .f32) (hu : 0 < S_.numel) (hz : z (Shape.Idx.first hu) = (0 : EReal)) (s : Fin 8192) (g : Fin 4) (c : Fin 128) :
    Host.reduceWindowAdd (F := Ideal) ![1, 8192, 1, 1] ![1, 1, 1, 1] ![0, 0, 0, 0] ![0, 8191, 0, 0] x z h hu (ix4 0 s g c)
      = ∑ j : Fin 8192, if hj : s.val + j.val < 8192 then x (ix4 0 ⟨s.val + j.val, hj⟩ g c) else (0 : EReal) := by
  unfold Host.reduceWindowAdd
  rw [Ideal.hostReduceWindowAdd_def, hz, suffix_at, zero_add (M := EReal)]

/-- A sum of differences over a long range leaves its first terms. -/
theorem telescope (f : Nat → ℝ) (M k : Nat) : ∑ j ∈ Finset.range M, (f j - f (j + k)) = ∑ j ∈ Finset.range k, f j - ∑ j ∈ Finset.range k, f (M + j) := by
  have h1 := Finset.sum_range_add f M k
  have h2 := Finset.sum_range_add f k M
  rw [Nat.add_comm k M] at h2
  have h3 : ∑ j ∈ Finset.range M, f (k + j) = ∑ j ∈ Finset.range M, f (j + k) := Finset.sum_congr rfl fun j _ => by rw [Nat.add_comm]
  rw [Finset.sum_sub_distrib]
  linarith

/-- The running sum of those differences is the sum over a window. -/
theorem window_sum (hw : ∀ t g e, IsReal (wR x2 x4 x5 x6 t g e)) (s : Fin 8192) (g : Fin 4) (e : Fin 128) :
    val_main_v95 (F := Ideal) x2 x4 x5 x6 (ix4 0 s g e) = ∑ j ∈ Finset.range (span g), wU x2 x4 x5 x6 (s.val + j) g e := by
  have hr : ∀ n, IsReal (wU x2 x4 x5 x6 n g e) := fun n => by
    unfold wU
    split_ifs
    · exact hw _ _ _
    · exact isReal_zero
  choose f hf using hr
  have hz : ∀ n, 8192 ≤ n → f n = 0 := fun n hn => by
    have := hf n
    unfold wU at this
    rw [dif_neg (by omega)] at this
    exact_mod_cast this.symm
  have ev := step_at x2 x4 x5 x6
  unfold val_main_v95
  revert ev
  generalize val_main_v94 (F := Ideal) x2 x4 x5 x6 = a
  intro ev
  have h0 : val_main_call1_call0_v0 (F := Ideal) (Shape.Idx.first h_S_) = (0 : EReal) := by
    rw [val_main_call1_call0_v0_apply, val_main_call1_call0_cst_apply]
    show Ideal.ofBits .f32 0#32 = 0
    simp [Ideal.ofBits, Ideal.ieee]
  rw [suffix_host _ a _ _ h0]
  have e1 : ∀ j : Fin 8192, (if hj : s.val + j.val < 8192 then a (ix4 0 ⟨s.val + j.val, hj⟩ g e) else (0 : EReal)) = ((f (s.val + j.val) - f (s.val + j.val + span g) : ℝ) : EReal) := fun j => by
    by_cases hj : s.val + j.val < 8192
    · rw [dif_pos hj, ev, hf, hf, EReal.coe_sub, sub_eq_add_neg]
    · rw [dif_neg hj, hz _ (by omega), hz _ (by omega), sub_zero, EReal.coe_zero]
  rw [Finset.sum_congr rfl fun j _ => e1 j, coe_sum, Finset.sum_congr rfl fun j _ => hf (s.val + j), coe_sum]
  refine congrArg _ ?_
  rw [Fin.sum_univ_eq_sum_range (fun j => f (s.val + j) - f (s.val + j + span g)) 8192]
  have ht := telescope (fun j => f (s.val + j)) 8192 (span g)
  simp only [← Nat.add_assoc s.val _ (span g)] at ht
  rw [Finset.sum_eq_zero (s := Finset.range (span g)) (f := fun j => f (s.val + (8192 + j))) fun j _ => hz _ (by omega), sub_zero] at ht
  exact ht

/-- The gradient of the branch's input. -/
theorem du_at (hw : ∀ t g e, IsReal (wR x2 x4 x5 x6 t g e)) (i : Fin 8192) (g : Fin 4) (e : Fin 128) :
    val_main_v104 (F := Ideal) x2 x4 x5 x6 (ix2 i ⟨128 * g.val + e.val, by omega⟩)
      = (∑ j ∈ Finset.range (span g), wU x2 x4 x5 x6 (i.val + j) g e) - dmR x2 x4 x5 x6 i g e := by
  have e1 := dm_at x2 x4 x5 x6 i g e
  have e2 := window_sum x2 x4 x5 x6 hw i g e
  unfold val_main_v104 val_main_v103 val_main_v97 val_main_v96 val_main_v85
  rw [← e1, ← e2, sub_eq_add_neg, add_comm (G := EReal)]
  generalize val_main_v82 (F := Ideal) x2 x4 x5 x6 = a
  generalize val_main_v95 (F := Ideal) x2 x4 x5 x6 = b
  pointwise []

end Cert.PoolBwdRefIdeal.Read
end
-- ==== Proof.Pool.Value.lean ====
/- The six arrays the pooling kernel leaves, in terms of the arguments. -/
module

public import proofs.«01_k».proof.Proof.Pool.Arrays
public import proofs.«01_k».proof.Proof.Pool.Window

@[expose] public section

set_option maxRecDepth 16384

noncomputable section

namespace Cert.PoolBwdIdeal.Block

open Cert.Reals Cert.PoolBwdIdeal Cert.PoolBwdIdeal.Gen Idealize.ShloMosaic Idealize.ShloMosaic.TcCoe Idealize.SL.Sem
open Idealize.ShloMosaic.Pipeline (Dat)

open Cert.PoolBwdRefIdeal.Read (mixR dcatR dyR preR dpreR dmR wR wU span span_le span_pos)

variable (m : (ℓ : Loc nD τ sig) → Buf (Elt Ideal) ℓ) (c : Dev nD)

/-! The arguments, at their types. -/
def a0 : S1x8192x512.Idx → EReal := m ((c : Thread nD τ).loc main_arg0)
def a1 : S1x8192x512.Idx → EReal := m ((c : Thread nD τ).loc main_arg1)
def a2 : S1x4x128x128.Idx → EReal := m ((c : Thread nD τ).loc main_arg2)
def a3 : S1x4x128.Idx → EReal := m ((c : Thread nD τ).loc main_arg3)
def a4 : S1x4x128.Idx → EReal := m ((c : Thread nD τ).loc main_arg4)
def a5 : S1x1024x1024.Idx → EReal := m ((c : Thread nD τ).loc main_arg5)
def a6 : S8192x1024.Idx → EReal := m ((c : Thread nD τ).loc main_arg6)

theorem t_lt (t : Fin cfg0.N) : t.val < 8 := lt_of_lt_of_eq t.isLt Gen.N_0

/-- The last point. -/
def tL : Fin cfg0.N := ⟨7, lt_of_lt_of_eq (by decide) Gen.N_0.symm⟩

/-- A sum over the tiles, last first, and the rows of each is one over all rows. -/
theorem sum_tiles (G : Fin 8192 → EReal) : ∑ t : Fin cfg0.N, ∑ p : Fin 1024, G (rowP t p) = ∑ i, G i := by
  refine (Finset.sum_product' (Finset.univ : Finset (Fin cfg0.N)) (Finset.univ : Finset (Fin 1024)) fun t p => G (rowP t p)).symm.trans ?_
  refine Finset.sum_bij' (fun x _ => rowP x.1 x.2) (fun n _ => (⟨7 - n.val / 1024, lt_of_lt_of_eq (by omega) Gen.N_0.symm⟩, ⟨n.val % 1024, by omega⟩)) (fun _ _ => Finset.mem_univ _) (fun _ _ => Finset.mem_univ _) (fun x _ => ?_) (fun n _ => ?_) (fun _ _ => rfl)
  · have := t_lt x.1
    have := x.2.isLt
    refine Prod.ext (Fin.ext ?_) (Fin.ext ?_)
    · show 7 - (1024 * (7 - x.1.val) + x.2.val) / 1024 = x.1.val; omega
    · show (1024 * (7 - x.1.val) + x.2.val) % 1024 = x.2.val; omega
  · refine Fin.ext ?_
    show 1024 * (7 - (7 - n.val / 1024)) + n.val % 1024 = n.val
    omega

/-! A tile's quantities are the reference's at the tile's rows. -/

theorem dcat_is (t : Fin cfg0.N) (p n : Fin 1024) : dcatB (iblk m c 0 t) (iblk m c 4 t) p n = dcatR (a5 m c) (a6 m c) (rowP t p) n :=
  Finset.sum_congr rfl fun k _ => congrArg₂ (fun a b : EReal => a * b) (blk0 m c t p k) (blk4 m c t n k)

theorem dy_is (t : Fin cfg0.N) (p : Fin 1024) (g : Fin 4) (e : Fin 128) : dyB (iblk m c 0 t) (iblk m c 4 t) p g e = dyR (a5 m c) (a6 m c) (rowP t p) g e :=
  dcat_is m c t p _

theorem pre_is (t : Fin cfg0.N) (p : Fin 1024) (g : Fin 4) (e : Fin 128) :
    preB (iblk m c 3 t) (iblk m c 5 t) (iblk m c 6 t) p g e = preR (a1 m c) (a2 m c) (a3 m c) (rowP t p) g e :=
  congrArg₂ (fun a b : EReal => a + b) (Finset.sum_congr rfl fun k _ => congrArg₂ (fun a b : EReal => a * b) (blk3 m c t p g k) (blk5 m c t g k e)) (blk6 m c t g e)

theorem dpre_is (t : Fin cfg0.N) (p : Fin 1024) (g : Fin 4) (e : Fin 128) :
    dpreB (iblk m c 0 t) (iblk m c 4 t) (iblk m c 7 t) p g e = dpreR (a4 m c) (a5 m c) (a6 m c) (rowP t p) g e :=
  congrArg₂ (fun a b : EReal => a * b) (dy_is m c t p g e) (blk7 m c t g e)

theorem dm_is (t : Fin cfg0.N) (p : Fin 1024) (g : Fin 4) (e : Fin 128) :
    dmB (iblk m c 0 t) (iblk m c 4 t) (iblk m c 5 t) (iblk m c 7 t) p g e = dmR (a2 m c) (a4 m c) (a5 m c) (a6 m c) (rowP t p) g e :=
  Finset.sum_congr rfl fun d _ => congrArg₂ (fun a b : EReal => a * b) (dpre_is m c t p g d) (blk5 m c t g e d)

/-- The concatenated branches. -/
def catR (i : Fin 8192) (n : Fin 1024) : EReal := Cert.PoolBwdRefIdeal.Read.val_main_v60 (F := Ideal) (a0 m c) (a1 m c) (a2 m c) (a3 m c) (a4 m c) (ix3 0 i n)

theorem cat_pool (x0 x1 : S1x8192x512.Idx → EReal) (x2 : S1x4x128x128.Idx → EReal) (x3 x4 : S1x4x128.Idx → EReal) (i : Fin 8192) (n : Fin 1024) (h : 512 ≤ n.val) :
    Cert.PoolBwdRefIdeal.Read.val_main_v60 (F := Ideal) x0 x1 x2 x3 x4 (ix3 0 i n) = Cert.PoolBwdRefIdeal.Read.val_main_v59 (F := Ideal) x1 x2 x3 x4 (ix3 0 i ⟨n.val - 512, by omega⟩) := by
  unfold Cert.PoolBwdRefIdeal.Read.val_main_v60
  generalize Cert.PoolBwdRefIdeal.Read.val_main_v59 (F := Ideal) x1 x2 x3 x4 = a
  pointwise [show ¬ n.val < 512 by omega]

theorem dwo_is (t : Fin cfg0.N) (n k : Fin 1024) : dwoB (iblk m c 0 t) (iblk m c 1 t) (iblk m c 2 t) n k = ∑ p : Fin 1024, catR m c (rowP t p) n * a6 m c (ix2 (rowP t p) k) := by
  unfold dwoB
  by_cases h : n.val < 512
  · rw [dif_pos h]
    refine Finset.sum_congr rfl fun p _ => congrArg₂ (fun a b : EReal => a * b) ?_ (blk0 m c t p k)
    exact (blk1 m c t p ⟨n.val, h⟩).trans (Cert.PoolBwdRefIdeal.Read.cat_lo (a0 m c) (a1 m c) (a2 m c) (a3 m c) (a4 m c) (rowP t p) ⟨n.val, h⟩).symm
  · rw [dif_neg h]
    refine Finset.sum_congr rfl fun p _ => congrArg₂ (fun a b : EReal => a * b) ?_ (blk0 m c t p k)
    exact (blk2 m c t p ⟨n.val - 512, by omega⟩).trans (cat_pool (a0 m c) (a1 m c) (a2 m c) (a3 m c) (a4 m c) (rowP t p) n (by omega)).symm

/-! The arrays summed over the tiles. -/

/-- The output projection's gradient after the run. -/
theorem arr10 : (dats m 0 c).arrAt 10 cfg0.N = fun y : S1024x1024.Idx => ∑ i, catR m c i (y 0) * a6 m c (ix2 i (y 1)) := by
  refine (dats m 0 c).arrAt_eq_of_after_last 10 tL (by decide +kernel) _ fun y => ?_
  blk_simp
  rw [after0_10]
  refine (Pipeline.eq_sum_fin_of_reset_step_apply_last (fun n h => (outsAt0 m c n h).2.2.1) 8 (fun _ => (0 : EReal)) (fun t y => ∑ p : Fin 1024, catR m c (rowP t p) (y 0) * a6 m c (ix2 (rowP t p) (y 1)))
    (fun t h y => ?_) (fun t h y => ?_) (le_of_eq Gen.N_0) tL rfl y).trans ?_
  · exact (out10_A m c t h y).trans ((dwo_is m c t (y 0) (y 1)).trans (zero_add _).symm)
  · exact (out10_B m c t h y).trans (congrArg (fun z : EReal => _ + z) (dwo_is m c t (y 0) (y 1)))
  · rw [zero_add]
    exact sum_tiles fun i => catR m c i (y 0) * a6 m c (ix2 i (y 1))

/-- The pooling weight's gradient after the run. -/
theorem arr11 : (dats m 0 c).arrAt 11 cfg0.N = fun y : S4x128x128.Idx => ∑ i, mixR (a1 m c) i (y 0) (y 1) * dpreR (a4 m c) (a5 m c) (a6 m c) i (y 0) (y 2) := by
  have hd : ∀ (t : Fin cfg0.N) (g : Fin 4) (e d : Fin 128), dwpB (iblk m c 0 t) (iblk m c 3 t) (iblk m c 4 t) (iblk m c 7 t) g e d
      = ∑ p : Fin 1024, mixR (a1 m c) (rowP t p) g e * dpreR (a4 m c) (a5 m c) (a6 m c) (rowP t p) g d := fun t g e d =>
    Finset.sum_congr rfl fun p _ => congrArg₂ (fun a b : EReal => a * b) (blk3 m c t p g e) (dpre_is m c t p g d)
  refine (dats m 0 c).arrAt_eq_of_after_last 11 tL (by decide +kernel) _ fun y => ?_
  blk_simp
  rw [after0_11]
  refine (Pipeline.eq_sum_fin_of_reset_step_apply_last (fun n h => (outsAt0 m c n h).2.2.2.1) 8 (fun _ => (0 : EReal)) (fun t y => ∑ p : Fin 1024, mixR (a1 m c) (rowP t p) (y 0) (y 1) * dpreR (a4 m c) (a5 m c) (a6 m c) (rowP t p) (y 0) (y 2))
    (fun t h y => ?_) (fun t h y => ?_) (le_of_eq Gen.N_0) tL rfl y).trans ?_
  · exact (out11_A m c t h y).trans ((hd t (y 0) (y 1) (y 2)).trans (zero_add _).symm)
  · exact (out11_B m c t h y).trans (congrArg (fun z : EReal => _ + z) (hd t (y 0) (y 1) (y 2)))
  · rw [zero_add]
    exact sum_tiles fun i => mixR (a1 m c) i (y 0) (y 1) * dpreR (a4 m c) (a5 m c) (a6 m c) i (y 0) (y 2)

/-- The pooling bias's gradient after the run. -/
theorem arr12 : (dats m 0 c).arrAt 12 cfg0.N = fun y : S1x512.Idx => ∑ i, dpreR (a4 m c) (a5 m c) (a6 m c) i (grp (y 1)) (lane (y 1)) := by
  have hd : ∀ (t : Fin cfg0.N) (g : Fin 4) (e : Fin 128), dbpB (iblk m c 0 t) (iblk m c 4 t) (iblk m c 7 t) g e
      = ∑ p : Fin 1024, dpreR (a4 m c) (a5 m c) (a6 m c) (rowP t p) g e := fun t g e => Finset.sum_congr rfl fun p _ => dpre_is m c t p g e
  refine (dats m 0 c).arrAt_eq_of_after_last 12 tL (by decide +kernel) _ fun y => ?_
  blk_simp
  rw [after0_12]
  refine (Pipeline.eq_sum_fin_of_reset_step_apply_last (fun n h => (outsAt0 m c n h).2.2.2.2.1) 8 (fun _ => (0 : EReal)) (fun t y => ∑ p : Fin 1024, dpreR (a4 m c) (a5 m c) (a6 m c) (rowP t p) (grp (y 1)) (lane (y 1)))
    (fun t h y => ?_) (fun t h y => ?_) (le_of_eq Gen.N_0) tL rfl y).trans ?_
  · exact (out12_A m c t h y).trans ((hd t _ _).trans (zero_add _).symm)
  · exact (out12_B m c t h y).trans (congrArg (fun z : EReal => _ + z) (hd t _ _))
  · rw [zero_add]
    exact sum_tiles fun i => dpreR (a4 m c) (a5 m c) (a6 m c) i (grp (y 1)) (lane (y 1))

/-- The pooling scale's gradient after the run. -/
theorem arr13 : (dats m 0 c).arrAt 13 cfg0.N = fun y : S1x512.Idx => ∑ i, dyR (a5 m c) (a6 m c) i (grp (y 1)) (lane (y 1)) * preR (a1 m c) (a2 m c) (a3 m c) i (grp (y 1)) (lane (y 1)) := by
  have hd : ∀ (t : Fin cfg0.N) (g : Fin 4) (e : Fin 128), dpsB (iblk m c 0 t) (iblk m c 3 t) (iblk m c 4 t) (iblk m c 5 t) (iblk m c 6 t) g e
      = ∑ p : Fin 1024, dyR (a5 m c) (a6 m c) (rowP t p) g e * preR (a1 m c) (a2 m c) (a3 m c) (rowP t p) g e := fun t g e =>
    Finset.sum_congr rfl fun p _ => congrArg₂ (fun a b : EReal => a * b) (dy_is m c t p g e) (pre_is m c t p g e)
  refine (dats m 0 c).arrAt_eq_of_after_last 13 tL (by decide +kernel) _ fun y => ?_
  blk_simp
  rw [after0_13]
  refine (Pipeline.eq_sum_fin_of_reset_step_apply_last (fun n h => (outsAt0 m c n h).2.2.2.2.2.1) 8 (fun _ => (0 : EReal)) (fun t y => ∑ p : Fin 1024, dyR (a5 m c) (a6 m c) (rowP t p) (grp (y 1)) (lane (y 1)) * preR (a1 m c) (a2 m c) (a3 m c) (rowP t p) (grp (y 1)) (lane (y 1)))
    (fun t h y => ?_) (fun t h y => ?_) (le_of_eq Gen.N_0) tL rfl y).trans ?_
  · exact (out13_A m c t h y).trans ((hd t _ _).trans (zero_add _).symm)
  · exact (out13_B m c t h y).trans (congrArg (fun z : EReal => _ + z) (hd t _ _))
  · rw [zero_add]
    exact sum_tiles fun i => dyR (a5 m c) (a6 m c) i (grp (y 1)) (lane (y 1)) * preR (a1 m c) (a2 m c) (a3 m c) i (grp (y 1)) (lane (y 1))

/-- The attention branch's gradient after the run. -/
theorem arr8 : (dats m 0 c).arrAt 8 cfg0.N = fun y : S8192x512.Idx => dcatR (a5 m c) (a6 m c) (y 0) (Fin.castLE (by decide) (y 1 : Fin 512)) := by
  refine (dats m 0 c).arrAt_eq_of_covers 8 _ (by decide +kernel) fun t hf y => ?_
  obtain ⟨p, k, rfl⟩ : ∃ (p : Fin 1024) (k : Fin 512), y = ix2 p k := ⟨y 0, y 1, eq_ix2 y⟩
  blk_simp
  rw [after0_8]
  have e : (outsAt0 (F := Ideal) m c t.val t.isLt).1 (ix2 p k) = dcatR (a5 m c) (a6 m c) (rowP t p) ⟨k.val, by omega⟩ := by
    by_cases h : t.val % 8 = 0
    · exact (out8_A m c t h p k).trans (dcat_is m c t p _)
    · exact (out8_B m c t h p k).trans (dcat_is m c t p _)
  refine e.trans ?_
  refine Eq.trans ?_ (congrArg (fun y : S8192x512.Idx => dcatR (a5 m c) (a6 m c) (y 0) (Fin.castLE (by decide) (y 1 : Fin 512))) (show ix2 (rowP t p) k = _ from ?_))
  · rfl
  · blk_ext [index_rows t, rowP]

/-! The branch's input. -/

/-- The kernel's count of a row's window. -/
theorem cnt_bits : ∀ (s : Fin 8) (p : Fin 16) (g : Fin 4), IntOp.minsi (IntOp.addi (IntOp.addi (BitVec.ofNat 32 p.val) (Scalar.muli (Scalar.subi 7#32 (BitVec.ofNat 32 s.val)) 1024#32)) 1#32) (BitVec.ofNat 32 (size g))
    = BitVec.ofNat 32 (min (1024 * (7 - s.val) + p.val + 1) (size g)) := by decide +kernel

theorem cnt_is (t : Fin cfg0.N) (p : Fin 1024) (hp : p.val < 16) (g : Fin 4) : cntB (grid0.coords t 0).val p g = (((min ((rowP t p).val + 1) (span g) : Nat) : ℝ) : EReal) := by
  unfold cntB
  rw [coords_val t]
  refine (congrArg (FloatOps.sitofp (F := Ideal) FTy.f32) (cnt_bits ⟨t.val, t_lt t⟩ ⟨p.val, hp⟩ g)).trans ?_
  exact sitofp_nat _ (by have := span_le g; show min _ (span g) < _; omega)

theorem cHalf : Ideal.ofBits FTy.f32 0x3F000000#32 = ((1 / 2 : ℝ) : EReal) := by simp [Ideal.ofBits, Ideal.ieee, -EReal.coe_mul]; norm_num
theorem cQuarter : Ideal.ofBits FTy.f32 0x3E800000#32 = ((1 / 4 : ℝ) : EReal) := by simp [Ideal.ofBits, Ideal.ieee, -EReal.coe_mul]; norm_num
theorem cEighth : Ideal.ofBits FTy.f32 0x3E000000#32 = ((1 / 8 : ℝ) : EReal) := by simp [Ideal.ofBits, Ideal.ieee, -EReal.coe_mul]; norm_num
theorem cSixteenth : Ideal.ofBits FTy.f32 0x3D800000#32 = ((1 / 16 : ℝ) : EReal) := by simp [Ideal.ofBits, Ideal.ieee, -EReal.coe_mul]; norm_num

theorem inv_is (g : Fin 4) : inv g = ((1 / (span g : ℝ) : ℝ) : EReal) := by
  match g with
  | ⟨0, _⟩ => exact cHalf.trans (by norm_num [span])
  | ⟨1, _⟩ => exact cQuarter.trans (by norm_num [span])
  | ⟨2, _⟩ => exact cEighth.trans (by norm_num [span])
  | ⟨3, _⟩ => exact cSixteenth.trans (by norm_num [span])

/-- The arguments the input's gradient is made of hold reals. -/
def RealArgs : Prop := (∀ y, IsReal (a2 m c y)) ∧ (∀ y, IsReal (a4 m c y)) ∧ (∀ y, IsReal (a5 m c y)) ∧ ∀ y, IsReal (a6 m c y)

section
variable (hr : RealArgs m c)
include hr

theorem dm_real (i : Fin 8192) (g : Fin 4) (e : Fin 128) : IsReal (dmR (a2 m c) (a4 m c) (a5 m c) (a6 m c) i g e) := by
  unfold dmR dpreR dyR dcatR
  exact IsReal.sum fun _ _ => IsReal.mul (IsReal.mul (IsReal.sum fun _ _ => IsReal.mul (hr.2.2.2 _) (hr.2.2.1 _)) (hr.2.1 _)) (hr.1 _)

theorem wR_real (i : Fin 8192) (g : Fin 4) (e : Fin 128) : IsReal (wR (a2 m c) (a4 m c) (a5 m c) (a6 m c) i g e) := by
  obtain ⟨d, hd⟩ := dm_real m c hr i g e
  unfold wR
  rw [hd, div_coe _ _ (by have := span_pos g; exact_mod_cast (by omega : min (i.val + 1) (span g) ≠ 0))]
  exact ⟨_, rfl⟩

theorem w_is (t : Fin cfg0.N) (p : Fin 1024) (g : Fin 4) (e : Fin 128) :
    wB (iblk m c 0 t) (iblk m c 4 t) (iblk m c 5 t) (iblk m c 7 t) (grid0.coords t 0).val p g e = wR (a2 m c) (a4 m c) (a5 m c) (a6 m c) (rowP t p) g e := by
  unfold wB wR
  rw [dm_is]
  by_cases hp : p.val < 16
  · rw [if_pos hp, cnt_is t p hp g]
  · rw [if_neg hp]
    obtain ⟨d, hd⟩ := dm_real m c hr (rowP t p) g e
    have hs := span_pos g
    have hl := span_le g
    have hm : min ((rowP t p).val + 1) (span g) = span g := by simp only [rowP]; omega
    rw [hd, hm, inv_is, div_coe _ _ (by exact_mod_cast hs.ne'), ← EReal.coe_mul]
    refine congrArg _ ?_
    ring

/-- The rows a point leaves for the next tile. -/
theorem head_is (n : Nat) (h : n < cfg0.N) (r : Fin 16) (g : Fin 4) (e : Fin 128) :
    (outsAt0 (F := Ideal) m c n h).2.2.2.2.2.2 (ix2 r (col g e)) = wR (a2 m c) (a4 m c) (a5 m c) (a6 m c) (rowP ⟨n, h⟩ ⟨r.val, by omega⟩) g e := by
  have hy := at_grp (fun (r : Fin 16) => wB (iblk m c 0 ⟨n, h⟩) (iblk m c 4 ⟨n, h⟩) (iblk m c 5 ⟨n, h⟩) (iblk m c 7 ⟨n, h⟩) (grid0.coords ⟨n, h⟩ 0).val ⟨r.val, by omega⟩) (ix2 r (col g e)) g (128 * g.val) r e rfl rfl rfl
  refine Eq.trans ?_ (hy.trans (w_is m c hr ⟨n, h⟩ ⟨r.val, by omega⟩ g e))
  by_cases h0 : n % 8 = 0
  · exact head_A m c ⟨n, h⟩ h0 _
  · exact head_B m c ⟨n, h⟩ h0 _

/-- The gradient of the branch's input. -/
def duF (i : Fin 8192) (g : Fin 4) (e : Fin 128) : EReal :=
  (∑ j ∈ Finset.range (span g), wU (a2 m c) (a4 m c) (a5 m c) (a6 m c) (i.val + j) g e) - dmR (a2 m c) (a4 m c) (a5 m c) (a6 m c) i g e

theorem du_is (t : Fin cfg0.N) (H : Vec Ideal S16x512 .f32) (g : Fin 4) (e : Fin 128)
    (hH : ∀ r : Fin 16, H (ix2 r (col g e)) = wU (a2 m c) (a4 m c) (a5 m c) (a6 m c) (1024 * (7 - t.val) + 1024 + r.val) g e) (p : Fin 1024) :
    duB (iblk m c 0 t) (iblk m c 4 t) (iblk m c 5 t) (iblk m c 7 t) (grid0.coords t 0).val H p g e = duF m c (rowP t p) g e := by
  unfold duB duF
  rw [dm_is]
  refine congrArg (fun z : EReal => z - _) (Finset.sum_congr rfl fun j hj => ?_)
  have hj' : j < span g := Finset.mem_range.mp hj
  have hl := span_le g
  have ht := t_lt t
  unfold ext
  by_cases h1 : p.val + j < 1024
  · rw [dif_pos h1]
    refine (w_is m c hr t ⟨p.val + j, h1⟩ g e).trans ?_
    unfold wU
    rw [dif_pos (show (rowP t p).val + j < 8192 by simp only [rowP]; omega)]
    exact congrArg (fun i => wR (a2 m c) (a4 m c) (a5 m c) (a6 m c) i g e) (Fin.ext (by simp only [rowP]; omega))
  · rw [dif_neg h1, dif_pos (by omega)]
    refine (hH ⟨p.val + j - 1024, by omega⟩).trans ?_
    exact congrArg (fun i => wU (a2 m c) (a4 m c) (a5 m c) (a6 m c) i g e) (by simp only [rowP]; omega)

theorem out9_is (t : Fin cfg0.N) (y : S1024x512.Idx) : (outsAt0 (F := Ideal) m c t.val t.isLt).2.1 y = duF m c (rowP t (y 0)) (grp (y 1)) (lane (y 1)) := by
  have ht := t_lt t
  by_cases h0 : t.val % 8 = 0
  · refine (out9_A m c t h0 y).trans (du_is m c hr t _ _ _ (fun r => ?_) _)
    unfold wU
    rw [dif_neg (by omega)]
  · refine (out9_B m c t h0 y).trans (du_is m c hr t _ _ _ (fun r => ?_) _)
    refine (head_is m c hr _ _ r _ _).trans ?_
    unfold wU
    rw [dif_pos (by omega)]
    exact congrArg (fun i => wR (a2 m c) (a4 m c) (a5 m c) (a6 m c) i _ _) (Fin.ext (by simp only [rowP]; omega))

/-- The branch input's gradient after the run. -/
theorem arr9 : (dats m 0 c).arrAt 9 cfg0.N = fun y : S8192x512.Idx => duF m c (y 0) (grp (y 1)) (lane (y 1)) := by
  refine (dats m 0 c).arrAt_eq_of_covers 9 _ (by decide +kernel) fun t hf y => ?_
  obtain ⟨p, k, rfl⟩ : ∃ (p : Fin 1024) (k : Fin 512), y = ix2 p k := ⟨y 0, y 1, eq_ix2 y⟩
  blk_simp
  rw [after0_9]
  refine (out9_is m c hr t (ix2 p k)).trans ?_
  refine Eq.trans ?_ (congrArg (fun y : S8192x512.Idx => duF m c (y 0) (grp (y 1)) (lane (y 1))) (show ix2 (rowP t p) k = _ from ?_))
  · rfl
  · blk_ext [index_rows t, rowP]
end

end Cert.PoolBwdIdeal.Block
end
-- ==== Proof.Pool.Claim.lean ====
/- The value claim of the pooling's backward call: the six arrays the kernel leaves are the reference's. -/
module

public import proofs.«01_k».proof.Defs
public import proofs.«01_k».proof.Proof.Pool.Value
public import proofs.«01_k».proof.Proof.Gen.PoolBwdRefIdeal.Run
public import proofs.«01_k».proof.Proof.Gen.Pre_finite_pool

@[expose] public section

set_option maxRecDepth 16384

noncomputable section

namespace Cert.PoolBwdIdeal.Block

open Cert.Reals Cert.PoolBwdIdeal Cert.PoolBwdIdeal.Gen Idealize.ShloMosaic Idealize.ShloMosaic.TcCoe Idealize.SL.Sem

variable (m : (ℓ : Loc nD τ sig) → Buf (Elt Ideal) ℓ)

/-- The precondition, entry by entry. -/
theorem pre_real (h : Cert.Pre_PoolBwdIdeal_finite_pool m) (c : Dev nD) : RealArgs m c := by
  obtain ⟨h0, h1, h2, h3⟩ := h c
  exact ⟨fun y => isReal_of_cmp (congrFun h0 y), fun y => isReal_of_cmp (congrFun h1 y), fun y => isReal_of_cmp (congrFun h2 y), fun y => isReal_of_cmp (congrFun h3 y)⟩

/-- A column is a place in a group. -/
theorem col_of (q : Fin 512) : ∃ (g : Fin 4) (e : Fin 128), q = col g e := ⟨grp q, lane q, Fin.ext (by show q.val = 128 * (q.val / 128) + q.val % 128; omega)⟩

theorem grp_col (g : Fin 4) (e : Fin 128) : grp (col g e) = g := Fin.ext (by show (128 * g.val + e.val) / 128 = g.val; omega)
theorem lane_col (g : Fin 4) (e : Fin 128) : lane (col g e) = e := Fin.ext (by show (128 * g.val + e.val) % 128 = e.val; omega)

/-- The reference's gradient of the attention branch is the array the kernel leaves. -/
theorem same_dattn (c : Dev nD) : Cert.PoolBwdRefIdeal.Read.val_main_v102 (F := Ideal) (m ((c : Thread nD τ).loc main_arg5)) (m ((c : Thread nD τ).loc main_arg6)) = (dats m 0 c).arrAt 8 cfg0.N := by
  rw [arr8 m c]
  funext y
  obtain ⟨i, q, rfl⟩ : ∃ (i : Fin 8192) (q : Fin 512), y = ix2 i q := ⟨y 0, y 1, eq_ix2 y⟩
  exact Cert.PoolBwdRefIdeal.Read.dattn_at (a5 m c) (a6 m c) i q

/-- The same for the branch's input. -/
theorem same_du (hpre : Cert.Pre_PoolBwdIdeal_finite_pool m) (c : Dev nD) : Cert.PoolBwdRefIdeal.Read.val_main_v104 (F := Ideal) (m ((c : Thread nD τ).loc main_arg2)) (m ((c : Thread nD τ).loc main_arg4)) (m ((c : Thread nD τ).loc main_arg5)) (m ((c : Thread nD τ).loc main_arg6)) = (dats m 0 c).arrAt 9 cfg0.N := by
  rw [arr9 m c (pre_real m hpre c)]
  funext y
  obtain ⟨i, q, rfl⟩ : ∃ (i : Fin 8192) (q : Fin 512), y = ix2 i q := ⟨y 0, y 1, eq_ix2 y⟩
  obtain ⟨g, e, rfl⟩ := col_of q
  refine (Cert.PoolBwdRefIdeal.Read.du_at (a2 m c) (a4 m c) (a5 m c) (a6 m c) (wR_real m c (pre_real m hpre c)) i g e).trans ?_
  show duF m c i g e = duF m c i (grp (col g e)) (lane (col g e))
  rw [grp_col, lane_col]

/-- The same for the output projection. -/
theorem same_dwo (c : Dev nD) : Cert.PoolBwdRefIdeal.Read.val_main_v105 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) = (dats m 0 c).arrAt 10 cfg0.N := by
  rw [arr10 m c]
  funext y
  obtain ⟨n, k, rfl⟩ : ∃ (n k : Fin 1024), y = ix2 n k := ⟨y 0, y 1, eq_ix2 y⟩
  exact Cert.PoolBwdRefIdeal.Read.res_dwo (a0 m c) (a1 m c) (a2 m c) (a3 m c) (a4 m c) (a6 m c) n k

/-- The same for the pooling weight. -/
theorem same_dwp (c : Dev nD) : Cert.PoolBwdRefIdeal.Read.val_main_v106 (F := Ideal) (m ((c : Thread nD τ).loc main_arg1)) (m ((c : Thread nD τ).loc main_arg4)) (m ((c : Thread nD τ).loc main_arg5)) (m ((c : Thread nD τ).loc main_arg6)) = (dats m 0 c).arrAt 11 cfg0.N := by
  rw [arr11 m c]
  funext y
  obtain ⟨g, e, d, rfl⟩ : ∃ (g : Fin 4) (e d : Fin 128), y = ix3 g e d := idx_three y
  exact Cert.PoolBwdRefIdeal.Read.res_dwp (a1 m c) (a4 m c) (a5 m c) (a6 m c) g e d

/-- The same for the pooling bias. -/
theorem same_dbp (c : Dev nD) : Cert.PoolBwdRefIdeal.Read.val_main_v107 (F := Ideal) (m ((c : Thread nD τ).loc main_arg4)) (m ((c : Thread nD τ).loc main_arg5)) (m ((c : Thread nD τ).loc main_arg6)) = (dats m 0 c).arrAt 12 cfg0.N := by
  rw [arr12 m c]
  funext y
  obtain ⟨z, q, rfl⟩ : ∃ (z : Fin 1) (q : Fin 512), y = ix2 z q := ⟨y 0, y 1, eq_ix2 y⟩
  obtain rfl := Subsingleton.elim z 0
  obtain ⟨g, e, rfl⟩ := col_of q
  refine (Cert.PoolBwdRefIdeal.Read.res_dbp (a4 m c) (a5 m c) (a6 m c) g e).trans ?_
  show _ = ∑ i, Cert.PoolBwdRefIdeal.Read.dpreR (a4 m c) (a5 m c) (a6 m c) i (grp (col g e)) (lane (col g e))
  rw [grp_col, lane_col]

/-- The same for the pooling scale. -/
theorem same_dps (c : Dev nD) : Cert.PoolBwdRefIdeal.Read.val_main_v108 (F := Ideal) (m ((c : Thread nD τ).loc main_arg1)) (m ((c : Thread nD τ).loc main_arg2)) (m ((c : Thread nD τ).loc main_arg3)) (m ((c : Thread nD τ).loc main_arg5)) (m ((c : Thread nD τ).loc main_arg6)) = (dats m 0 c).arrAt 13 cfg0.N := by
  rw [arr13 m c]
  funext y
  obtain ⟨z, q, rfl⟩ : ∃ (z : Fin 1) (q : Fin 512), y = ix2 z q := ⟨y 0, y 1, eq_ix2 y⟩
  obtain rfl := Subsingleton.elim z 0
  obtain ⟨g, e, rfl⟩ := col_of q
  refine (Cert.PoolBwdRefIdeal.Read.res_dps (a1 m c) (a2 m c) (a3 m c) (a5 m c) (a6 m c) g e).trans ?_
  show _ = ∑ i, Cert.PoolBwdRefIdeal.Read.dyR (a5 m c) (a6 m c) i (grp (col g e)) (lane (col g e)) * Cert.PoolBwdRefIdeal.Read.preR (a1 m c) (a2 m c) (a3 m c) i (grp (col g e)) (lane (col g e))
  rw [grp_col, lane_col]

set_option maxHeartbeats 2000000 in
theorem algebraic : Cert.algebraic_PoolBwdIdeal_PoolBwdRefIdeal_pre_finite_pool := by
  pair_intro
  · run_from Cert.PoolBwdIdeal.Value.run_blocks (F := Ideal) m g
  · run_from Cert.PoolBwdRefIdeal.Value.run m' g'
    · obtain ⟨e0, e1, e2, e3, e4, e5, e6⟩ := hagree c
      rw [Cert.PoolBwdRefIdeal.Read.val_main_v102_eq]
      exact same_dattn m c
    · obtain ⟨e0, e1, e2, e3, e4, e5, e6⟩ := hagree c
      rw [Cert.PoolBwdRefIdeal.Read.val_main_v104_eq, e2, e4, e5, e6]
      exact same_du m hpre c
    · obtain ⟨e0, e1, e2, e3, e4, e5, e6⟩ := hagree c
      rw [Cert.PoolBwdRefIdeal.Read.val_main_v105_eq, e0, e1, e2, e3, e4, e6]
      exact same_dwo m c
    · obtain ⟨e0, e1, e2, e3, e4, e5, e6⟩ := hagree c
      rw [Cert.PoolBwdRefIdeal.Read.val_main_v106_eq, e1, e4, e5, e6]
      exact same_dwp m c
    · obtain ⟨e0, e1, e2, e3, e4, e5, e6⟩ := hagree c
      rw [Cert.PoolBwdRefIdeal.Read.val_main_v107_eq]
      exact same_dbp m c
    · obtain ⟨e0, e1, e2, e3, e4, e5, e6⟩ := hagree c
      rw [Cert.PoolBwdRefIdeal.Read.val_main_v108_eq, e1, e2, e3, e5, e6]
      exact same_dps m c

end Cert.PoolBwdIdeal.Block
end
-- ==== Proof.lean ====
module

public import proofs.«01_k».proof.Defs
public import proofs.«01_k».proof.Proof.Gen.InprojBwd
public import proofs.«01_k».proof.Proof.Gen.InprojBwd.Skeleton
public import proofs.«01_k».proof.Proof.Gen.InprojBwd.Launch
public import proofs.«01_k».proof.Proof.Gen.InprojBwd.Points
public import proofs.«01_k».proof.Proof.Gen.InprojBwd.Frame
public import proofs.«01_k».proof.Proof.Gen.InprojBwdIdeal
public import proofs.«01_k».proof.Proof.Gen.InprojBwdIdeal.Skeleton
public import proofs.«01_k».proof.Proof.Gen.InprojBwdIdeal.Launch
public import proofs.«01_k».proof.Proof.Gen.InprojBwdIdeal.Points
public import proofs.«01_k».proof.Proof.Gen.InprojBwdIdeal.Frame
public import proofs.«01_k».proof.Proof.Gen.InprojBwdRefIdeal
public import proofs.«01_k».proof.Proof.Gen.Pre_finite
public import proofs.«01_k».proof.Proof.Gen.InprojBwdIdeal.Value
public import proofs.«01_k».proof.Proof.Gen.InprojBwdRefIdeal.Run
public import proofs.«01_k».proof.Proof.Gen.InprojBwdRefIdeal.Read
public import proofs.«01_k».proof.Proof.Gen.Pre_finite
public import proofs.«01_k».proof.Proof.Inproj.Claim
public import proofs.«01_k».proof.Proof.Attn.Claim
public import proofs.«01_k».proof.Proof.Ffn.Claim
public import proofs.«01_k».proof.Proof.AttnFwd.Claim
public import proofs.«01_k».proof.Proof.Pool.Claim
public import proofs.«01_k».proof.Proof.Gen.AttnBwd
public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdIdeal.Value
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Gen.Pre_finite_attn
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdIdeal.Value
public import proofs.«01_k».proof.Proof.Gen.FfnBwdRefIdeal
public import proofs.«01_k».proof.Proof.Gen.FfnBwdRefIdeal.Run
public import proofs.«01_k».proof.Proof.Gen.FfnBwdRefIdeal.Read
public import proofs.«01_k».proof.Proof.Gen.PoolBwd
public import proofs.«01_k».proof.Proof.Gen.AttnFwd
public import proofs.«01_k».proof.Proof.Gen.PoolBwd.Skeleton
public import proofs.«01_k».proof.Proof.Gen.AttnFwd.Skeleton
public import proofs.«01_k».proof.Proof.Gen.PoolBwd.Launch
public import proofs.«01_k».proof.Proof.Gen.AttnFwd.Launch
public import proofs.«01_k».proof.Proof.Gen.PoolBwd.Points
public import proofs.«01_k».proof.Proof.Gen.AttnFwd.Points
public import proofs.«01_k».proof.Proof.Gen.PoolBwd.Frame
public import proofs.«01_k».proof.Proof.Gen.AttnFwd.Frame
public import proofs.«01_k».proof.Proof.Gen.PoolBwdIdeal
public import proofs.«01_k».proof.Proof.Gen.AttnFwdIdeal
public import proofs.«01_k».proof.Proof.Gen.PoolBwdIdeal.Skeleton
public import proofs.«01_k».proof.Proof.Gen.AttnFwdIdeal.Skeleton
public import proofs.«01_k».proof.Proof.Gen.PoolBwdIdeal.Launch
public import proofs.«01_k».proof.Proof.Gen.AttnFwdIdeal.Launch
public import proofs.«01_k».proof.Proof.Gen.PoolBwdIdeal.Points
public import proofs.«01_k».proof.Proof.Gen.AttnFwdIdeal.Points
public import proofs.«01_k».proof.Proof.Gen.PoolBwdIdeal.Frame
public import proofs.«01_k».proof.Proof.Gen.AttnFwdIdeal.Frame
public import proofs.«01_k».proof.Proof.Gen.PoolBwdIdeal.Value
public import proofs.«01_k».proof.Proof.Gen.AttnFwdIdeal.Value
public import proofs.«01_k».proof.Proof.Gen.PoolBwdRefIdeal
public import proofs.«01_k».proof.Proof.Gen.AttnFwdRefIdeal
public import proofs.«01_k».proof.Proof.Gen.PoolBwdRefIdeal.Run
public import proofs.«01_k».proof.Proof.Gen.AttnFwdRefIdeal.Run
public import proofs.«01_k».proof.Proof.Gen.PoolBwdRefIdeal.Read
public import proofs.«01_k».proof.Proof.Gen.AttnFwdRefIdeal.Read
public import proofs.«01_k».proof.Proof.Gen.Pre_finite_ffn
public import proofs.«01_k».proof.Proof.Gen.Pre_finite_pool
public import proofs.«01_k».proof.Proof.Gen.Pre_finite_attnfwd
public import Idealize.ShloMosaic.Adequacy
public import Idealize.ShloMosaic.Init

@[expose] public section

noncomputable section

namespace Cert.Proof

open Idealize.ShloMosaic Idealize.SL.Sem Cert.InprojBwd

/-- The reference runs, keeps its arguments and ends with every counter at zero. -/
theorem frame_ref : Cert.quiescent_InprojBwdRefIdeal := by
  intro m ρ _
  exact (θ_run Cert.InprojBwdRefIdeal.defs _ _).mono (fun r h => ⟨fun c => (h c).2.2.2.2, Idealize.ShloMosaic.sem_eq_zero_of_no_sems (by decide) r.2⟩)
    (Cert.InprojBwdRefIdeal.Value.run (F := Ideal) m ρ)

/-- The attention's reference runs, keeps its arguments and ends with every counter at zero. -/
theorem frame_attn_ref : Cert.quiescent_AttnBwdRefIdeal := by
  intro m ρ _
  exact (θ_run Cert.AttnBwdRefIdeal.defs _ _).mono (fun r h => ⟨fun c => (h c).2.2.2.2, Idealize.ShloMosaic.sem_eq_zero_of_no_sems (by decide) r.2⟩)
    (Cert.AttnBwdRefIdeal.Value.run (F := Ideal) m ρ)

/-- The FFN's reference runs, keeps its arguments and ends with every counter at zero. -/
theorem frame_ffn_ref : Cert.quiescent_FfnBwdRefIdeal := by
  intro m ρ _
  exact (θ_run Cert.FfnBwdRefIdeal.defs _ _).mono (fun r h => ⟨fun c => (h c).2.2.2.2.2, Idealize.ShloMosaic.sem_eq_zero_of_no_sems (by decide) r.2⟩)
    (Cert.FfnBwdRefIdeal.Value.run (F := Ideal) m ρ)

/-- The pooling's reference runs, keeps its arguments and ends with every counter at zero. -/
theorem frame_pool_ref : Cert.quiescent_PoolBwdRefIdeal := by
  intro m ρ _
  exact (θ_run Cert.PoolBwdRefIdeal.defs _ _).mono (fun r h => ⟨fun c => (h c).2.2.2.2.2.2, Idealize.ShloMosaic.sem_eq_zero_of_no_sems (by decide) r.2⟩)
    (Cert.PoolBwdRefIdeal.Value.run (F := Ideal) m ρ)

/-- The forward attention's reference runs, keeps its arguments and ends with every counter at zero. -/
theorem frame_attnfwd_ref : Cert.quiescent_AttnFwdRefIdeal := by
  intro m ρ _
  exact (θ_run Cert.AttnFwdRefIdeal.defs _ _).mono (fun r h => ⟨fun c => (h c).2.2, Idealize.ShloMosaic.sem_eq_zero_of_no_sems (by decide) r.2⟩)
    (Cert.AttnFwdRefIdeal.Value.run (F := Ideal) m ρ)

theorem claim : Cert.Claim := ⟨Cert.InprojBwd.Gen.facts, Cert.InprojBwdIdeal.Gen.facts, Cert.InprojBwdRefIdeal.Gen.facts,
  Cert.AttnBwd.Gen.facts, Cert.AttnBwdIdeal.Gen.facts, Cert.AttnBwdRefIdeal.Gen.facts, Cert.FfnBwd.Gen.facts, Cert.FfnBwdIdeal.Gen.facts, Cert.FfnBwdRefIdeal.Gen.facts,
  Cert.PoolBwd.Gen.facts, Cert.PoolBwdIdeal.Gen.facts, Cert.PoolBwdRefIdeal.Gen.facts,
  Cert.AttnFwd.Gen.facts, Cert.AttnFwdIdeal.Gen.facts, Cert.AttnFwdRefIdeal.Gen.facts,
  Cert.Pre_finite.Gen.facts, Cert.Pre_finite_attn.Gen.facts, Cert.Pre_finite_ffn.Gen.facts, Cert.Pre_finite_pool.Gen.facts, Cert.Pre_finite_attnfwd.Gen.facts, by
  exact ⟨fun m ρ _ => Cert.InprojBwd.Gen.frame m ρ, fun m ρ _ => Cert.InprojBwdIdeal.Gen.frame m ρ, fun m ρ _ => Cert.InprojBwdIdeal.Gen.frame m ρ,
    frame_ref, fun m ρ _ => frame_ref m ρ trivial,
    fun m ρ _ => Cert.AttnBwd.Gen.frame m ρ, fun m ρ _ => Cert.AttnBwdIdeal.Gen.frame m ρ, fun m ρ _ => Cert.AttnBwdIdeal.Gen.frame m ρ,
    frame_attn_ref, fun m ρ _ => frame_attn_ref m ρ trivial,
    fun m ρ _ => Cert.FfnBwd.Gen.frame m ρ, fun m ρ _ => Cert.FfnBwdIdeal.Gen.frame m ρ, fun m ρ _ => Cert.FfnBwdIdeal.Gen.frame m ρ,
    frame_ffn_ref, fun m ρ _ => frame_ffn_ref m ρ trivial,
    fun m ρ _ => Cert.PoolBwd.Gen.frame m ρ, fun m ρ _ => Cert.PoolBwdIdeal.Gen.frame m ρ, fun m ρ _ => Cert.PoolBwdIdeal.Gen.frame m ρ,
    frame_pool_ref, fun m ρ _ => frame_pool_ref m ρ trivial,
    fun m ρ _ => Cert.AttnFwd.Gen.frame m ρ, fun m ρ _ => Cert.AttnFwdIdeal.Gen.frame m ρ, fun m ρ _ => Cert.AttnFwdIdeal.Gen.frame m ρ,
    frame_attnfwd_ref, fun m ρ _ => frame_attnfwd_ref m ρ trivial,
    trivial, Cert.InprojBwdIdeal.Block.algebraic, trivial, Cert.AttnBwdIdeal.Host.algebraic, trivial, Cert.FfnBwdIdeal.Block.algebraic, trivial, Cert.PoolBwdIdeal.Block.algebraic,
    trivial, Cert.AttnFwdIdeal.Host.algebraic⟩⟩

end Cert.Proof

end
